-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def preserves_Kernel_KernelIdeal : Prop :=
  IdealRules.named_const.Statement Cert.KernelIdeal.κ "gamma_0_256" .f32 0x399ACCA1#32 ((6146015080813575034695417713226912903305888181886472031037824629831672928949925977371885924422256558280598640253784375251182367178077275943508811277617726037926828835493962089938703670916216150637232924767423218594179651908716059369457431352364368667582308905998928857404131059860187300660764250399851094923206841232876192030133070875041117904520293983055025851039902553125047623681 / 20815864389328798163850480654728171077230524494533409610638224700807216119346720596024478883464648369684843227908562015582767132496646929816279813211354641525848259018778440691546366699323167100945918841095379622423387354295096957733925002768876520583464697770622321657076833170056511209332449663781837603694136444406281042053396870977465916057756101739472373801429441421111406337458176 : ℝ) : EReal)
  ∧ IdealRules.named_const.Statement Cert.KernelIdeal.κ "gamma_1_256" .f32 0x3C9160A5#32 ((42774078302235318565319257509240389102448610944058038806438187308967998022705219385729663158638449482363242547246423463242593270189466810827507253377583114893638375653286835591007069102165292454913397853719673918607538604174150929255316756471434149954438683890468730174719505936020561911515555997155458494501519964452840485792481596827492989182299408582213918538682711594745086139424161235245664305277724872062197080286979918058563320302114990397887505300439041 / 2410312426921032588580116606028314112912093247945688951359675039065257391591803200669085024107346049663448766280888004787862416978794958324969612987890774651455213339381625224770782077917681499676845543137387820057597345857904599109461387122099507964997815641342300677629473355281617428411794163967785870370368969109221591943054232011562758450080579587850900993714892283476646631181515063804873375182260506246992837898705971012525843324401232986857004760339316736 : ℝ) : EReal)
  ∧ IdealRules.named_const.Statement Cert.KernelIdeal.κ "gamma_2_256" .f32 0x3E097FCE#32 ((37475942568369757962947522235530371133981530150116838269147324413047700895014398970446404169811997688419833959989077757701150649868243230123056568953964412798172396287429646722188387330264786795375818576214031616869032274669030355559348596733438707526107308633142545065787965914180851284280383384025423970000476770692381976054937465989431021902621277854218705005366130766187721539711495327024166368641272006952024074184121303316623563671196861028284711972009680015975871738940145523351472588749523046764641137000009779131884491317421506561 / 279095111627852376407822673918065072905887935345660252615989519488029661278604994789701101367875859521849524793382568057369148405837577299984720398976429790087982805274893437406788716103454867635208144157749912668657006085226160261808841484862703257771979713923863820038729637520989894984676774385364934677289947762340313157123529922421738738162392233756507666339799675257002539356619747080176786496732679854783185583233878234270370065954615221443190595445898747930123678952192875629172092437548194134594886873249778512829119416327938768896 : ℝ) : EReal)
  ∧ IdealRules.named_const.Statement Cert.KernelIdeal.κ "gamma_3_256" .f32 0x3EBBFC5D#32 ((11865504027970838771731346061683101436994979092949631599037079718981644706917580014911102414175085528643666188591370983920968194011711659169451226844120009995840891480759624977868736986513250783427504228510443452927050635948750086027473241612026344113952918539841083265621530105483498237021333267100718263868013566694893934279056051614332115121424258551337630287851288624870009988393213915090641049449897944231399544068578059227753373776746392142852101691703865017730668871755067274316504625716657064558790363574959526408194231415564059175410672318668947295267860607377447532996550538797464469098486006259918212890625 / 32317006071311007300714876688669951960444102669715484032130345427524655138867890893197201411522913463688717960921898019494119559150490921095088152386448283120630877367300996091750197750389652106796057638384067568276792218642619756161838094338476170470581645852036305042887575891541065808607552399123930385521914333389668342420684974786564569494856176035326322058077805659331026192708460314150258592864177116725943603718461857357598351152301645904403697613233287231227125684710820209725157101726931323469678542580656697935045997268352998638215525166389437335543602135433229604645318478604952148193555853611059596230656 : ℝ) : EReal)

def algebraic_KernelIdeal_ReferenceIdeal_on_retention_columns_pre_finite [hKernelIdeal : Cert.KernelIdeal.Facts] [hReferenceIdeal : Cert.ReferenceIdeal.Facts] [hPre_finite : Cert.Pre_finite.Facts] [hOn_retention_columns : Cert.On_retention_columns.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v265_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![8192, 3712]⟩ : Shape).Idx, (Cert.On_retention_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) i = 1#1 → r.2.mem ((c.tc : Thread Cert.KernelIdeal.nD Cert.KernelIdeal.τ).loc Cert.KernelIdeal.main_v265_0) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![8192, 3712]⟩ : Shape).Idx, (Cert.On_retention_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) i = 1#1 → r.2.mem ((c.tc : Thread Cert.ReferenceIdeal.nD Cert.ReferenceIdeal.τ).loc Cert.ReferenceIdeal.main_v214) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal_on_modulation6 [hKernel6Ideal : Cert.Kernel6Ideal.Facts] [hReference6Ideal : Cert.Reference6Ideal.Facts] [hOn_modulation6 : Cert.On_modulation6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          (∀ i : (⟨2, ![8192, 4096]⟩ : Shape).Idx, (Cert.On_modulation6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))).1 i = 1#1 → r.2.mem ((c.tc : Thread Cert.Kernel6Ideal.nD Cert.Kernel6Ideal.τ).loc Cert.Kernel6Ideal.main_v0_0) i = v0 c i)
          ∧ (∀ i : (⟨2, ![8, 1024]⟩ : Shape).Idx, (Cert.On_modulation6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))).2 i = 1#1 → r.2.mem ((c.tc : Thread Cert.Kernel6Ideal.nD Cert.Kernel6Ideal.τ).loc Cert.Kernel6Ideal.main_v0_4) i = v1 c i)
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          (∀ i : (⟨2, ![8192, 4096]⟩ : Shape).Idx, (Cert.On_modulation6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))).1 i = 1#1 → r.2.mem ((c.tc : Thread Cert.Reference6Ideal.nD Cert.Reference6Ideal.τ).loc Cert.Reference6Ideal.main_v55) i = v0 c i)
          ∧ (∀ i : (⟨2, ![8, 1024]⟩ : Shape).Idx, (Cert.On_modulation6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))).2 i = 1#1 → r.2.mem ((c.tc : Thread Cert.Reference6Ideal.nD Cert.Reference6Ideal.τ).loc Cert.Reference6Ideal.main_v57) i = v1 c i)
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9))

def preserves_Kernel7_Kernel7Ideal : Prop :=
  True

def algebraic_Kernel7Ideal_Reference7Ideal_on_modulation7 [hKernel7Ideal : Cert.Kernel7Ideal.Facts] [hReference7Ideal : Cert.Reference7Ideal.Facts] [hOn_modulation7 : Cert.On_modulation7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          (∀ i : (⟨2, ![8192, 1024]⟩ : Shape).Idx, (Cert.On_modulation7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).1 i = 1#1 → r.2.mem ((c.tc : Thread Cert.Kernel7Ideal.nD Cert.Kernel7Ideal.τ).loc Cert.Kernel7Ideal.main_v0_0) i = v0 c i)
          ∧ (∀ i : (⟨2, ![8, 1024]⟩ : Shape).Idx, (Cert.On_modulation7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).2 i = 1#1 → r.2.mem ((c.tc : Thread Cert.Kernel7Ideal.nD Cert.Kernel7Ideal.τ).loc Cert.Kernel7Ideal.main_v0_1) i = v1 c i)
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          (∀ i : (⟨2, ![8192, 1024]⟩ : Shape).Idx, (Cert.On_modulation7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).1 i = 1#1 → r.2.mem ((c.tc : Thread Cert.Reference7Ideal.nD Cert.Reference7Ideal.τ).loc Cert.Reference7Ideal.main_v65) i = v0 c i)
          ∧ (∀ i : (⟨2, ![8, 1024]⟩ : Shape).Idx, (Cert.On_modulation7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).2 i = 1#1 → r.2.mem ((c.tc : Thread Cert.Reference7Ideal.nD Cert.Reference7Ideal.τ).loc Cert.Reference7Ideal.main_v67) i = v1 c i)
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def algebraic_Kernel7Ideal_Reference7Ideal_on_rows7_pre_finite7 [hKernel7Ideal : Cert.Kernel7Ideal.Facts] [hReference7Ideal : Cert.Reference7Ideal.Facts] [hPre_finite7 : Cert.Pre_finite7.Facts] [hOn_rows7 : Cert.On_rows7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          (∀ i : (⟨2, ![8192, 1024]⟩ : Shape).Idx, (Cert.On_rows7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).1 i = 1#1 → r.2.mem ((c.tc : Thread Cert.Kernel7Ideal.nD Cert.Kernel7Ideal.τ).loc Cert.Kernel7Ideal.main_v0_0) i = v0 c i)
          ∧ (∀ i : (⟨2, ![8, 1024]⟩ : Shape).Idx, (Cert.On_rows7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).2 i = 1#1 → r.2.mem ((c.tc : Thread Cert.Kernel7Ideal.nD Cert.Kernel7Ideal.τ).loc Cert.Kernel7Ideal.main_v0_1) i = v1 c i)
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          (∀ i : (⟨2, ![8192, 1024]⟩ : Shape).Idx, (Cert.On_rows7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).1 i = 1#1 → r.2.mem ((c.tc : Thread Cert.Reference7Ideal.nD Cert.Reference7Ideal.τ).loc Cert.Reference7Ideal.main_v65) i = v0 c i)
          ∧ (∀ i : (⟨2, ![8, 1024]⟩ : Shape).Idx, (Cert.On_rows7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))).2 i = 1#1 → r.2.mem ((c.tc : Thread Cert.Reference7Ideal.nD Cert.Reference7Ideal.τ).loc Cert.Reference7Ideal.main_v67) i = v1 c i)
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v25) = v0 c
          ∧ r.2.mem ((c.tc : Thread Cert.Reference8Ideal.nD Cert.Reference8Ideal.τ).loc Cert.Reference8Ideal.main_v26) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal_on_forward9 [hKernel9Ideal : Cert.Kernel9Ideal.Facts] [hReference9Ideal : Cert.Reference9Ideal.Facts] [hOn_forward9 : Cert.On_forward9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)) (v4 : (c : Dev Cert.Kernel9Ideal.nD) → Buf (Elt Ideal) ((c.tc : Thread Cert.Kernel9Ideal.nD Cert.Kernel9Ideal.τ).loc Cert.Kernel9Ideal.main_v0_4)) (v5 : (c : Dev Cert.Kernel9Ideal.nD) → Buf (Elt Ideal) ((c.tc : Thread Cert.Kernel9Ideal.nD Cert.Kernel9Ideal.τ).loc Cert.Kernel9Ideal.main_v0_7)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          (∀ i : (⟨2, ![8192, 1024]⟩ : Shape).Idx, (Cert.On_forward9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6))).1 i = 1#1 → r.2.mem ((c.tc : Thread Cert.Kernel9Ideal.nD Cert.Kernel9Ideal.τ).loc Cert.Kernel9Ideal.main_v0_0) i = v0 c i)
          ∧ (∀ i : (⟨2, ![8192, 1024]⟩ : Shape).Idx, (Cert.On_forward9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6))).2.1 i = 1#1 → r.2.mem ((c.tc : Thread Cert.Kernel9Ideal.nD Cert.Kernel9Ideal.τ).loc Cert.Kernel9Ideal.main_v0_1) i = v1 c i)
          ∧ (∀ i : (⟨2, ![8192, 1]⟩ : Shape).Idx, (Cert.On_forward9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6))).2.2.1 i = 1#1 → r.2.mem ((c.tc : Thread Cert.Kernel9Ideal.nD Cert.Kernel9Ideal.τ).loc Cert.Kernel9Ideal.main_v0_2) i = v2 c i)
          ∧ (∀ i : (⟨2, ![8192, 1024]⟩ : Shape).Idx, (Cert.On_forward9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6))).2.2.2.1 i = 1#1 → r.2.mem ((c.tc : Thread Cert.Kernel9Ideal.nD Cert.Kernel9Ideal.τ).loc Cert.Kernel9Ideal.main_v0_3) i = v3 c i)
          ∧ (∀ i : (⟨2, ![8192, 4096]⟩ : Shape).Idx, (Cert.On_forward9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6))).2.2.2.2.1 i = 1#1 → r.2.mem ((c.tc : Thread Cert.Kernel9Ideal.nD Cert.Kernel9Ideal.τ).loc Cert.Kernel9Ideal.main_v0_4) i = v4 c i)
          ∧ (∀ i : (⟨2, ![8, 1024]⟩ : Shape).Idx, (Cert.On_forward9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6))).2.2.2.2.2 i = 1#1 → r.2.mem ((c.tc : Thread Cert.Kernel9Ideal.nD Cert.Kernel9Ideal.τ).loc Cert.Kernel9Ideal.main_v0_7) i = v5 c i)
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          (∀ i : (⟨2, ![8192, 1024]⟩ : Shape).Idx, (Cert.On_forward9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6))).1 i = 1#1 → r.2.mem ((c.tc : Thread Cert.Reference9Ideal.nD Cert.Reference9Ideal.τ).loc Cert.Reference9Ideal.main_v129) i = v0 c i)
          ∧ (∀ i : (⟨2, ![8192, 1024]⟩ : Shape).Idx, (Cert.On_forward9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6))).2.1 i = 1#1 → r.2.mem ((c.tc : Thread Cert.Reference9Ideal.nD Cert.Reference9Ideal.τ).loc Cert.Reference9Ideal.main_v33) i = v1 c i)
          ∧ (∀ i : (⟨2, ![8192, 1]⟩ : Shape).Idx, (Cert.On_forward9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6))).2.2.1 i = 1#1 → r.2.mem ((c.tc : Thread Cert.Reference9Ideal.nD Cert.Reference9Ideal.τ).loc Cert.Reference9Ideal.main_v47) i = v2 c i)
          ∧ (∀ i : (⟨2, ![8192, 1024]⟩ : Shape).Idx, (Cert.On_forward9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6))).2.2.2.1 i = 1#1 → r.2.mem ((c.tc : Thread Cert.Reference9Ideal.nD Cert.Reference9Ideal.τ).loc Cert.Reference9Ideal.main_v130) i = v3 c i)
          ∧ (∀ i : (⟨2, ![8192, 4096]⟩ : Shape).Idx, (Cert.On_forward9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6))).2.2.2.2.1 i = 1#1 → r.2.mem ((c.tc : Thread Cert.Reference9Ideal.nD Cert.Reference9Ideal.τ).loc Cert.Reference9Ideal.main_v131) i = v4 c i)
          ∧ (∀ i : (⟨2, ![8, 1024]⟩ : Shape).Idx, (Cert.On_forward9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6))).2.2.2.2.2 i = 1#1 → r.2.mem ((c.tc : Thread Cert.Reference9Ideal.nD Cert.Reference9Ideal.τ).loc Cert.Reference9Ideal.main_v133) i = v5 c i)
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts) (hPre_finite7 : Cert.Pre_finite7.Facts) (hOn_retention_columns : Cert.On_retention_columns.Facts) (hOn_modulation6 : Cert.On_modulation6.Facts) (hOn_modulation7 : Cert.On_modulation7.Facts) (hOn_rows7 : Cert.On_rows7.Facts) (hOn_forward9 : Cert.On_forward9.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_on_retention_columns_pre_finite (hKernelIdeal := hKernelIdeal) (hReferenceIdeal := hReferenceIdeal) (hPre_finite := hPre_finite) (hOn_retention_columns := hOn_retention_columns)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_on_modulation6 (hKernel6Ideal := hKernel6Ideal) (hReference6Ideal := hReference6Ideal) (hOn_modulation6 := hOn_modulation6)
    ∧ preserves_Kernel7_Kernel7Ideal
    ∧ algebraic_Kernel7Ideal_Reference7Ideal_on_modulation7 (hKernel7Ideal := hKernel7Ideal) (hReference7Ideal := hReference7Ideal) (hOn_modulation7 := hOn_modulation7)
    ∧ algebraic_Kernel7Ideal_Reference7Ideal_on_rows7_pre_finite7 (hKernel7Ideal := hKernel7Ideal) (hReference7Ideal := hReference7Ideal) (hPre_finite7 := hPre_finite7) (hOn_rows7 := hOn_rows7)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_on_forward9 (hKernel9Ideal := hKernel9Ideal) (hReference9Ideal := hReference9Ideal) (hOn_forward9 := hOn_forward9)
-- ==== On_forward9.lean ====
abbrev S8192x1024 : Shape := ⟨2, ![8192, 1024]⟩
abbrev S8x1024 : Shape := ⟨2, ![8, 1024]⟩
abbrev S1024x1024 : Shape := ⟨2, ![1024, 1024]⟩
abbrev S8x1024x512 : Shape := ⟨3, ![8, 1024, 512]⟩
abbrev S4096x1024 : Shape := ⟨2, ![4096, 1024]⟩
abbrev S_ : Shape := ⟨0, ![]⟩
abbrev S8192x1 : Shape := ⟨2, ![8192, 1]⟩
abbrev S8192x4096 : Shape := ⟨2, ![8192, 4096]⟩

class Facts : Prop where
  bcast_S_S8192x1024 : S_.BroadcastsInDim S8192x1024 (![] : Fin 0 → Fin S8192x1024.rank)
  bcast_S_S8192x1 : S_.BroadcastsInDim S8192x1 (![] : Fin 0 → Fin S8192x1.rank)
  bcast_S_S8192x4096 : S_.BroadcastsInDim S8192x4096 (![] : Fin 0 → Fin S8192x4096.rank)
  bcast_S_S8x1024 : S_.BroadcastsInDim S8x1024 (![] : Fin 0 → Fin S8x1024.rank)

variable [Facts]

def fn {F : FTy → Type} [FloatOps F] (main_arg0 : FVec F S8192x1024 .bf16) (main_arg1 : FVec F S8192x1024 .f32) (main_arg2 : FVec F S8192x1024 .f32) (main_arg3 : FVec F S8x1024 .f32) (main_arg4 : FVec F S1024x1024 .bf16) (main_arg5 : FVec F S8x1024x512 .bf16) (main_arg6 : FVec F S4096x1024 .bf16) : IVec S8192x1024 1 × IVec S8192x1024 1 × IVec S8192x1 1 × IVec S8192x1024 1 × IVec S8192x4096 1 × IVec S8x1024 1 :=
  let main_c : IVec S_ 1 := constantI S_ 1 1#1
  let main_v0 : IVec S8192x1024 1 := broadcastInDim S8192x1024 ![] bcast_S_S8192x1024 main_c
  let main_c_0 : IVec S_ 1 := constantI S_ 1 1#1
  let main_v1 : IVec S8192x1024 1 := broadcastInDim S8192x1024 ![] bcast_S_S8192x1024 main_c_0
  let main_c_1 : IVec S_ 1 := constantI S_ 1 1#1
  let main_v2 : IVec S8192x1 1 := broadcastInDim S8192x1 ![] bcast_S_S8192x1 main_c_1
  let main_c_2 : IVec S_ 1 := constantI S_ 1 1#1
  let main_v3 : IVec S8192x1024 1 := broadcastInDim S8192x1024 ![] bcast_S_S8192x1024 main_c_2
  let main_c_3 : IVec S_ 1 := constantI S_ 1 1#1
  let main_v4 : IVec S8192x4096 1 := broadcastInDim S8192x4096 ![] bcast_S_S8192x4096 main_c_3
  let main_v5 : IVec S8x1024 32 := iotaInDim S8x1024 32 0
  let main_c_4 : IVec S_ 32 := constantI S_ 32 2#32
  let main_v6 : IVec S8x1024 32 := broadcastInDim S8x1024 ![] bcast_S_S8x1024 main_c_4
  let main_v7 : IVec S8x1024 1 := cmpi .slt main_v5 main_v6
  (main_v0, main_v1, main_v2, main_v3, main_v4, main_v7)
-- ==== On_modulation6.lean ====
abbrev S8192x1024 : Shape := ⟨2, ![8192, 1024]⟩
abbrev S8192x4096 : Shape := ⟨2, ![8192, 4096]⟩
abbrev S8192x1 : Shape := ⟨2, ![8192, 1]⟩
abbrev S8x1024 : Shape := ⟨2, ![8, 1024]⟩
abbrev S1024x1024 : Shape := ⟨2, ![1024, 1024]⟩
abbrev S8x1024x512 : Shape := ⟨3, ![8, 1024, 512]⟩
abbrev S4096x1024 : Shape := ⟨2, ![4096, 1024]⟩
abbrev S_ : Shape := ⟨0, ![]⟩

class Facts : Prop where
  bcast_S_S8192x4096 : S_.BroadcastsInDim S8192x4096 (![] : Fin 0 → Fin S8192x4096.rank)
  bcast_S_S8x1024 : S_.BroadcastsInDim S8x1024 (![] : Fin 0 → Fin S8x1024.rank)

variable [Facts]

def fn {F : FTy → Type} [FloatOps F] (main_arg0 : FVec F S8192x1024 .bf16) (main_arg1 : FVec F S8192x4096 .bf16) (main_arg2 : FVec F S8192x1024 .f32) (main_arg3 : FVec F S8192x1024 .f32) (main_arg4 : FVec F S8192x1 .f32) (main_arg5 : FVec F S8192x1024 .bf16) (main_arg6 : FVec F S8x1024 .f32) (main_arg7 : FVec F S1024x1024 .bf16) (main_arg8 : FVec F S8x1024x512 .bf16) (main_arg9 : FVec F S4096x1024 .bf16) : IVec S8192x4096 1 × IVec S8x1024 1 :=
  let main_c : IVec S_ 1 := constantI S_ 1 1#1
  let main_v0 : IVec S8192x4096 1 := broadcastInDim S8192x4096 ![] bcast_S_S8192x4096 main_c
  let main_v1 : IVec S8x1024 32 := iotaInDim S8x1024 32 0
  let main_c_0 : IVec S_ 32 := constantI S_ 32 2#32
  let main_v2 : IVec S8x1024 32 := broadcastInDim S8x1024 ![] bcast_S_S8x1024 main_c_0
  let main_v3 : IVec S8x1024 1 := cmpi .slt main_v1 main_v2
  (main_v0, main_v3)
-- ==== On_modulation7.lean ====
abbrev S8192x3712 : Shape := ⟨2, ![8192, 3712]⟩
abbrev S8192x1024 : Shape := ⟨2, ![8192, 1024]⟩
abbrev S1x1024 : Shape := ⟨2, ![1, 1024]⟩
abbrev S3600x1024 : Shape := ⟨2, ![3600, 1024]⟩
abbrev S8x128 : Shape := ⟨2, ![8, 128]⟩
abbrev S_ : Shape := ⟨0, ![]⟩
abbrev S8x1024 : Shape := ⟨2, ![8, 1024]⟩

class Facts : Prop where
  bcast_S_S8192x1024 : S_.BroadcastsInDim S8192x1024 (![] : Fin 0 → Fin S8192x1024.rank)
  bcast_S_S8x1024 : S_.BroadcastsInDim S8x1024 (![] : Fin 0 → Fin S8x1024.rank)

variable [Facts]

def fn {F : FTy → Type} [FloatOps F] (main_arg0 : FVec F S8192x3712 .bf16) (main_arg1 : FVec F S8192x1024 .f32) (main_arg2 : FVec F S8192x1024 .f32) (main_arg3 : FVec F S1x1024 .f32) (main_arg4 : FVec F S3600x1024 .bf16) (main_arg5 : FVec F S8x128 .f32) : IVec S8192x1024 1 × IVec S8x1024 1 :=
  let main_c : IVec S_ 1 := constantI S_ 1 0#1
  let main_v0 : IVec S8192x1024 1 := broadcastInDim S8192x1024 ![] bcast_S_S8192x1024 main_c
  let main_v1 : IVec S8x1024 32 := iotaInDim S8x1024 32 0
  let main_c_0 : IVec S_ 32 := constantI S_ 32 2#32
  let main_v2 : IVec S8x1024 32 := broadcastInDim S8x1024 ![] bcast_S_S8x1024 main_c_0
  let main_v3 : IVec S8x1024 1 := cmpi .slt main_v1 main_v2
  (main_v0, main_v3)
-- ==== On_retention_columns.lean ====
abbrev S8192x1024 : Shape := ⟨2, ![8192, 1024]⟩
abbrev S8192x3712 : Shape := ⟨2, ![8192, 3712]⟩
abbrev S8192x512 : Shape := ⟨2, ![8192, 512]⟩
abbrev S64x128x256 : Shape := ⟨3, ![64, 128, 256]⟩
abbrev S128x256 : Shape := ⟨2, ![128, 256]⟩
abbrev S1x256 : Shape := ⟨2, ![1, 256]⟩
abbrev S1x512 : Shape := ⟨2, ![1, 512]⟩
abbrev S_ : Shape := ⟨0, ![]⟩

class Facts : Prop where
  bcast_S_S8192x3712 : S_.BroadcastsInDim S8192x3712 (![] : Fin 0 → Fin S8192x3712.rank)

variable [Facts]

def fn {F : FTy → Type} [FloatOps F] (main_arg0 : FVec F S8192x1024 .f32) (main_arg1 : FVec F S8192x3712 .f32) (main_arg2 : FVec F S8192x512 .f32) (main_arg3 : FVec F S64x128x256 .f32) (main_arg4 : FVec F S128x256 .f32) (main_arg5 : FVec F S1x256 .f32) (main_arg6 : FVec F S1x512 .f32) (main_arg7 : FVec F S1x512 .f32) : IVec S8192x3712 1 :=
  let main_v0 : IVec S8192x3712 32 := iotaInDim S8192x3712 32 1
  let main_c : IVec S_ 32 := constantI S_ 32 2048#32
  let main_v1 : IVec S8192x3712 32 := broadcastInDim S8192x3712 ![] bcast_S_S8192x3712 main_c
  let main_v2 : IVec S8192x3712 1 := cmpi .slt main_v0 main_v1
  main_v2
-- ==== On_rows7.lean ====
abbrev S8192x3712 : Shape := ⟨2, ![8192, 3712]⟩
abbrev S8192x1024 : Shape := ⟨2, ![8192, 1024]⟩
abbrev S1x1024 : Shape := ⟨2, ![1, 1024]⟩
abbrev S3600x1024 : Shape := ⟨2, ![3600, 1024]⟩
abbrev S8x128 : Shape := ⟨2, ![8, 128]⟩
abbrev S_ : Shape := ⟨0, ![]⟩
abbrev S8x1024 : Shape := ⟨2, ![8, 1024]⟩

class Facts : Prop where
  bcast_S_S8192x1024 : S_.BroadcastsInDim S8192x1024 (![] : Fin 0 → Fin S8192x1024.rank)
  bcast_S_S8x1024 : S_.BroadcastsInDim S8x1024 (![] : Fin 0 → Fin S8x1024.rank)

variable [Facts]

def fn {F : FTy → Type} [FloatOps F] (main_arg0 : FVec F S8192x3712 .bf16) (main_arg1 : FVec F S8192x1024 .f32) (main_arg2 : FVec F S8192x1024 .f32) (main_arg3 : FVec F S1x1024 .f32) (main_arg4 : FVec F S3600x1024 .bf16) (main_arg5 : FVec F S8x128 .f32) : IVec S8192x1024 1 × IVec S8x1024 1 :=
  let main_c : IVec S_ 1 := constantI S_ 1 1#1
  let main_v0 : IVec S8192x1024 1 := broadcastInDim S8192x1024 ![] bcast_S_S8192x1024 main_c
  let main_c_0 : IVec S_ 1 := constantI S_ 1 0#1
  let main_v1 : IVec S8x1024 1 := broadcastInDim S8x1024 ![] bcast_S_S8x1024 main_c_0
  (main_v0, main_v1)
-- ==== Pre_finite.lean ====
abbrev S8192x1024 : Shape := ⟨2, ![8192, 1024]⟩
abbrev S8192x3712 : Shape := ⟨2, ![8192, 3712]⟩
abbrev S8192x512 : Shape := ⟨2, ![8192, 512]⟩
abbrev S64x128x256 : Shape := ⟨3, ![64, 128, 256]⟩
abbrev S128x256 : Shape := ⟨2, ![128, 256]⟩
abbrev S1x256 : Shape := ⟨2, ![1, 256]⟩
abbrev S1x512 : Shape := ⟨2, ![1, 512]⟩
abbrev S_ : Shape := ⟨0, ![]⟩
abbrev S8192x2048 : Shape := ⟨2, ![8192, 2048]⟩

class Facts : Prop where
  slices_S8192x1024_S8192x512_0_0 : S8192x1024.Slices ![0, 0] S8192x512
  bcast_S_S8192x512 : S_.BroadcastsInDim S8192x512 (![] : Fin 0 → Fin S8192x512.rank)
  reducesTo_S8192x512_S_d0_1 : S8192x512.ReducesTo [0, 1] S_
  h_S_ : 0 < S_.numel
  slices_S8192x3712_S8192x2048_0_0 : S8192x3712.Slices ![0, 0] S8192x2048
  bcast_S_S8192x2048 : S_.BroadcastsInDim S8192x2048 (![] : Fin 0 → Fin S8192x2048.rank)
  reducesTo_S8192x2048_S_d0_1 : S8192x2048.ReducesTo [0, 1] S_
  bcast_S_S1x512 : S_.BroadcastsInDim S1x512 (![] : Fin 0 → Fin S1x512.rank)
  reducesTo_S1x512_S_d0_1 : S1x512.ReducesTo [0, 1] S_

variable [Facts]

def fn {F : FTy → Type} [FloatOps F] (main_arg0 : FVec F S8192x1024 .f32) (main_arg1 : FVec F S8192x3712 .f32) (main_arg2 : FVec F S8192x512 .f32) (main_arg3 : FVec F S64x128x256 .f32) (main_arg4 : FVec F S128x256 .f32) (main_arg5 : FVec F S1x256 .f32) (main_arg6 : FVec F S1x512 .f32) (main_arg7 : FVec F S1x512 .f32) : IVec S_ 1 :=
  let main_v0 : FVec F S8192x512 .f32 := (extractStridedSlice S8192x512 ![0, 0] · slices_S8192x1024_S8192x512_0_0) main_arg0
  let main_v1 : FVec F S8192x512 .f32 := Host.absf main_v0
  let main_cst : FVec F S_ .f32 := constant S_ .f32 0x7F800000#32
  let main_v2 : FVec F S8192x512 .f32 := broadcastInDim S8192x512 ![] bcast_S_S8192x512 main_cst
  let main_v3 : IVec S8192x512 1 := cmpf .olt main_v1 main_v2
  let main_c : IVec S_ 1 := constantI S_ 1 1#1
  let main_v4 : IVec S_ 1 := (fun x v => Host.reduce IntOp.andi x v reducesTo_S8192x512_S_d0_1 h_S_) main_v3 main_c
  let main_v5 : FVec F S8192x2048 .f32 := (extractStridedSlice S8192x2048 ![0, 0] · slices_S8192x3712_S8192x2048_0_0) main_arg1
  let main_v6 : FVec F S8192x2048 .f32 := Host.absf main_v5
  let main_cst_0 : FVec F S_ .f32 := constant S_ .f32 0x7F800000#32
  let main_v7 : FVec F S8192x2048 .f32 := broadcastInDim S8192x2048 ![] bcast_S_S8192x2048 main_cst_0
  let main_v8 : IVec S8192x2048 1 := cmpf .olt main_v6 main_v7
  let main_c_1 : IVec S_ 1 := constantI S_ 1 1#1
  let main_v9 : IVec S_ 1 := (fun x v => Host.reduce IntOp.andi x v reducesTo_S8192x2048_S_d0_1 h_S_) main_v8 main_c_1
  let main_v10 : IVec S_ 1 := andi main_v4 main_v9
  let main_v11 : FVec F S1x512 .f32 := Host.absf main_arg6
  let main_cst_2 : FVec F S_ .f32 := constant S_ .f32 0x7F800000#32
  let main_v12 : FVec F S1x512 .f32 := broadcastInDim S1x512 ![] bcast_S_S1x512 main_cst_2
  let main_v13 : IVec S1x512 1 := cmpf .olt main_v11 main_v12
  let main_c_3 : IVec S_ 1 := constantI S_ 1 1#1
  let main_v14 : IVec S_ 1 := (fun x v => Host.reduce IntOp.andi x v reducesTo_S1x512_S_d0_1 h_S_) main_v13 main_c_3
  let main_v15 : IVec S_ 1 := andi main_v10 main_v14
  main_v15
-- ==== Pre_finite7.lean ====
abbrev S8192x3712 : Shape := ⟨2, ![8192, 3712]⟩
abbrev S8192x1024 : Shape := ⟨2, ![8192, 1024]⟩
abbrev S1x1024 : Shape := ⟨2, ![1, 1024]⟩
abbrev S3600x1024 : Shape := ⟨2, ![3600, 1024]⟩
abbrev S8x128 : Shape := ⟨2, ![8, 128]⟩
abbrev S8192x3600 : Shape := ⟨2, ![8192, 3600]⟩
abbrev S_ : Shape := ⟨0, ![]⟩

class Facts : Prop where
  slices_S8192x3712_S8192x3600_0_0 : S8192x3712.Slices ![0, 0] S8192x3600
  bitsLt_bf16_f32 : FTy.bits .bf16 < FTy.bits .f32
  bcast_S_S8192x3600 : S_.BroadcastsInDim S8192x3600 (![] : Fin 0 → Fin S8192x3600.rank)
  reducesTo_S8192x3600_S_d0_1 : S8192x3600.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S3600x1024 : S_.BroadcastsInDim S3600x1024 (![] : Fin 0 → Fin S3600x1024.rank)
  reducesTo_S3600x1024_S_d0_1 : S3600x1024.ReducesTo [0, 1] S_

variable [Facts]

def fn_part1 {F : FTy → Type} [FloatOps F] (main_v15 : IVec S_ 1) (main_v17 : FVec F S3600x1024 .f32) : IVec S_ 1 :=
  let main_cst_4 : FVec F S_ .f32 := constant S_ .f32 0x7F800000#32
  let main_v18 : FVec F S3600x1024 .f32 := broadcastInDim S3600x1024 ![] bcast_S_S3600x1024 main_cst_4
  let main_v19 : IVec S3600x1024 1 := cmpf .olt main_v17 main_v18
  let main_c_5 : IVec S_ 1 := constantI S_ 1 1#1
  let main_v20 : IVec S_ 1 := (fun x v => Host.reduce IntOp.andi x v reducesTo_S3600x1024_S_d0_1 h_S_) main_v19 main_c_5
  let main_v21 : IVec S_ 1 := andi main_v15 main_v20
  main_v21

def fn {F : FTy → Type} [FloatOps F] (main_arg0 : FVec F S8192x3712 .bf16) (main_arg1 : FVec F S8192x1024 .f32) (main_arg2 : FVec F S8192x1024 .f32) (main_arg3 : FVec F S1x1024 .f32) (main_arg4 : FVec F S3600x1024 .bf16) (main_arg5 : FVec F S8x128 .f32) : IVec S_ 1 :=
  let main_v0 : FVec F S8192x3600 .bf16 := (extractStridedSlice S8192x3600 ![0, 0] · slices_S8192x3712_S8192x3600_0_0) main_arg0
  let main_v1 : FVec F S8192x3600 .f32 := (extf .f32 · bitsLt_bf16_f32) main_v0
  let main_v2 : FVec F S8192x3600 .f32 := Host.absf main_v1
  let main_cst : FVec F S_ .f32 := constant S_ .f32 0x7F800000#32
  let main_v3 : FVec F S8192x3600 .f32 := broadcastInDim S8192x3600 ![] bcast_S_S8192x3600 main_cst
  let main_v4 : IVec S8192x3600 1 := cmpf .olt main_v2 main_v3
  let main_c : IVec S_ 1 := constantI S_ 1 1#1
  let main_v5 : IVec S_ 1 := (fun x v => Host.reduce IntOp.andi x v reducesTo_S8192x3600_S_d0_1 h_S_) main_v4 main_c
  let main_v6 : FVec F S8192x1024 .f32 := Host.absf main_arg1
  let main_cst_0 : FVec F S_ .f32 := constant S_ .f32 0x7F800000#32
  let main_v7 : FVec F S8192x1024 .f32 := broadcastInDim S8192x1024 ![] bcast_S_S8192x1024 main_cst_0
  let main_v8 : IVec S8192x1024 1 := cmpf .olt main_v6 main_v7
  let main_c_1 : IVec S_ 1 := constantI S_ 1 1#1
  let main_v9 : IVec S_ 1 := (fun x v => Host.reduce IntOp.andi x v reducesTo_S8192x1024_S_d0_1 h_S_) main_v8 main_c_1
  let main_v10 : IVec S_ 1 := andi main_v5 main_v9
  let main_v11 : FVec F S1x1024 .f32 := Host.absf main_arg3
  let main_cst_2 : FVec F S_ .f32 := constant S_ .f32 0x7F800000#32
  let main_v12 : FVec F S1x1024 .f32 := broadcastInDim S1x1024 ![] bcast_S_S1x1024 main_cst_2
  let main_v13 : IVec S1x1024 1 := cmpf .olt main_v11 main_v12
  let main_c_3 : IVec S_ 1 := constantI S_ 1 1#1
  let main_v14 : IVec S_ 1 := (fun x v => Host.reduce IntOp.andi x v reducesTo_S1x1024_S_d0_1 h_S_) main_v13 main_c_3
  let main_v15 : IVec S_ 1 := andi main_v10 main_v14
  let main_v16 : FVec F S3600x1024 .f32 := (extf .f32 · bitsLt_bf16_f32) main_arg4
  let main_v17 : FVec F S3600x1024 .f32 := Host.absf main_v16
  fn_part1 (F := F) main_v15 main_v17
-- ==== Kernel.lean ====
abbrev S8192x1024 : Shape := ⟨2, ![8192, 1024]⟩
abbrev S8192x3712 : Shape := ⟨2, ![8192, 3712]⟩
abbrev S8192x512 : Shape := ⟨2, ![8192, 512]⟩
abbrev S64x128x256 : Shape := ⟨3, ![64, 128, 256]⟩
abbrev S128x256 : Shape := ⟨2, ![128, 256]⟩
abbrev S1x256 : Shape := ⟨2, ![1, 256]⟩
abbrev S1x512 : Shape := ⟨2, ![1, 512]⟩
abbrev S8192 : Shape := ⟨1, ![8192]⟩
abbrev S8192x4x128 : Shape := ⟨3, ![8192, 4, 128]⟩
abbrev S_ : Shape := ⟨0, ![]⟩
abbrev S63 : Shape := ⟨1, ![63]⟩
abbrev S1 : Shape := ⟨1, ![1]⟩
abbrev S64 : Shape := ⟨1, ![64]⟩
abbrev S8192x1 : Shape := ⟨2, ![8192, 1]⟩
abbrev S1x64 : Shape := ⟨2, ![1, 64]⟩
abbrev S8192x64 : Shape := ⟨2, ![8192, 64]⟩
abbrev S8192x1x64 : Shape := ⟨3, ![8192, 1, 64]⟩
abbrev S8192x4x64 : Shape := ⟨3, ![8192, 4, 64]⟩
abbrev S4x8192x8192 : Shape := ⟨3, ![4, 8192, 8192]⟩
abbrev S4 : Shape := ⟨1, ![4]⟩
abbrev S1x8192 : Shape := ⟨2, ![1, 8192]⟩
abbrev S8192x8192 : Shape := ⟨2, ![8192, 8192]⟩
abbrev S1x1x8192 : Shape := ⟨3, ![1, 1, 8192]⟩
abbrev S1x8192x1 : Shape := ⟨3, ![1, 8192, 1]⟩
abbrev S1x8192x8192 : Shape := ⟨3, ![1, 8192, 8192]⟩
abbrev S4x1x1 : Shape := ⟨3, ![4, 1, 1]⟩
abbrev S4x128x8192 : Shape := ⟨3, ![4, 128, 8192]⟩
abbrev S32 : Shape := ⟨1, ![32]⟩
abbrev S32x1 : Shape := ⟨2, ![32, 1]⟩
abbrev S32x8192 : Shape := ⟨2, ![32, 8192]⟩
abbrev S1x32x8192 : Shape := ⟨3, ![1, 32, 8192]⟩
abbrev S4x32x8192 : Shape := ⟨3, ![4, 32, 8192]⟩
abbrev S4x8192x128 : Shape := ⟨3, ![4, 8192, 128]⟩
abbrev S4x1x8192x128 : Shape := ⟨4, ![4, 1, 8192, 128]⟩
abbrev S4x32x8192x1 : Shape := ⟨4, ![4, 32, 8192, 1]⟩
abbrev S4x32x8192x128 : Shape := ⟨4, ![4, 32, 8192, 128]⟩
abbrev S4x128x32x128 : Shape := ⟨4, ![4, 128, 32, 128]⟩
abbrev S32x4x128x128 : Shape := ⟨4, ![32, 4, 128, 128]⟩
abbrev S32x512x128 : Shape := ⟨3, ![32, 512, 128]⟩
abbrev S256x256 : Shape := ⟨2, ![256, 256]⟩
abbrev S256x128 : Shape := ⟨2, ![256, 128]⟩
abbrev S1x256x256 : Shape := ⟨3, ![1, 256, 256]⟩
abbrev S4x256x256 : Shape := ⟨3, ![4, 256, 256]⟩
abbrev S1x256x128 : Shape := ⟨3, ![1, 256, 128]⟩
abbrev S8x256x128 : Shape := ⟨3, ![8, 256, 128]⟩
abbrev S256 : Shape := ⟨1, ![256]⟩
abbrev S256x1 : Shape := ⟨2, ![256, 1]⟩
abbrev S256x64 : Shape := ⟨2, ![256, 64]⟩
abbrev S32x64 : Shape := ⟨2, ![32, 64]⟩
abbrev S4x256x128 : Shape := ⟨3, ![4, 256, 128]⟩
abbrev S32x256 : Shape := ⟨2, ![32, 256]⟩
abbrev S32x1x256 : Shape := ⟨3, ![32, 1, 256]⟩
abbrev S32x8x256 : Shape := ⟨3, ![32, 8, 256]⟩
abbrev S8x128 : Shape := ⟨2, ![8, 128]⟩
abbrev S8x512 : Shape := ⟨2, ![8, 512]⟩
abbrev S512x1024 : Shape := ⟨2, ![512, 1024]⟩
abbrev S512x512 : Shape := ⟨2, ![512, 512]⟩
abbrev S512x256 : Shape := ⟨2, ![512, 256]⟩
abbrev S512x128 : Shape := ⟨2, ![512, 128]⟩
abbrev S2x8x256 : Shape := ⟨3, ![2, 8, 256]⟩
abbrev S2x512x128 : Shape := ⟨3, ![2, 512, 128]⟩
abbrev S4x128x256 : Shape := ⟨3, ![4, 128, 256]⟩
abbrev S512x3712 : Shape := ⟨2, ![512, 3712]⟩
abbrev S128x128 : Shape := ⟨2, ![128, 128]⟩
abbrev S1x1x128 : Shape := ⟨3, ![1, 1, 128]⟩
abbrev S1x128 : Shape := ⟨2, ![1, 128]⟩
abbrev S128 : Shape := ⟨1, ![128]⟩
abbrev S1x128x128 : Shape := ⟨3, ![1, 128, 128]⟩
abbrev S1x128x256 : Shape := ⟨3, ![1, 128, 256]⟩
abbrev S128x1 : Shape := ⟨2, ![128, 1]⟩

abbrev nBuf : Space → Nat
  | .hbm => 395
  | .vmem => 41
  | .smem => 0
  | _ => 0

abbrev hbmTy0_0 (i : Nat) : BufTy := match i % 128 with
  | 0 => ⟨S8192x1024, .f32⟩
  | 1 => ⟨S8192x3712, .f32⟩
  | 2 => ⟨S8192x512, .f32⟩
  | 3 => ⟨S64x128x256, .f32⟩
  | 4 => ⟨S128x256, .f32⟩
  | 5 => ⟨S1x256, .f32⟩
  | 6 => ⟨S1x512, .f32⟩
  | 7 => ⟨S1x512, .f32⟩
  | 8 => ⟨S8192, .f32⟩
  | 9 => ⟨S8192x512, .f32⟩
  | 10 => ⟨S8192x512, .f32⟩
  | 11 => ⟨S8192x512, .f32⟩
  | 12 => ⟨S8192x4x128, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S63, .f32⟩
  | 21 => ⟨S_, .f32⟩
  | 22 => ⟨S63, .f32⟩
  | 23 => ⟨S63, .f32⟩
  | 24 => ⟨S1, .f32⟩
  | 25 => ⟨S_, .f32⟩
  | 26 => ⟨S63, .f32⟩
  | 27 => ⟨S63, .f32⟩
  | 28 => ⟨S63, .f32⟩
  | 29 => ⟨S63, .f32⟩
  | 30 => ⟨S1, .f32⟩
  | 31 => ⟨S63, .f32⟩
  | 32 => ⟨S63, .f32⟩
  | 33 => ⟨S63, .f32⟩
  | 34 => ⟨S1, .f32⟩
  | 35 => ⟨S64, .f32⟩
  | 36 => ⟨S_, .f32⟩
  | 37 => ⟨S64, .f32⟩
  | 38 => ⟨S64, .f32⟩
  | 39 => ⟨S_, .f32⟩
  | 40 => ⟨S64, .f32⟩
  | 41 => ⟨S64, .f32⟩
  | 42 => ⟨S8192x1, .f32⟩
  | 43 => ⟨S1x64, .f32⟩
  | 44 => ⟨S8192x64, .f32⟩
  | 45 => ⟨S8192x64, .f32⟩
  | 46 => ⟨S8192x64, .f32⟩
  | 47 => ⟨S8192x64, .f32⟩
  | 48 => ⟨S8192x1x64, .f32⟩
  | 49 => ⟨S8192x64, .f32⟩
  | 50 => ⟨S8192x1x64, .f32⟩
  | 51 => ⟨S8192x4x64, .f32⟩
  | 52 => ⟨S8192x4x64, .f32⟩
  | 53 => ⟨S8192x4x64, .f32⟩
  | 54 => ⟨S8192x4x64, .f32⟩
  | 55 => ⟨S8192x4x64, .f32⟩
  | 56 => ⟨S8192x4x64, .f32⟩
  | 57 => ⟨S8192x4x64, .f32⟩
  | 58 => ⟨S8192x4x64, .f32⟩
  | 59 => ⟨S8192x4x64, .f32⟩
  | 60 => ⟨S8192x4x64, .f32⟩
  | 61 => ⟨S8192x4x64, .f32⟩
  | 62 => ⟨S8192x4x64, .f32⟩
  | 63 => ⟨S8192x4x128, .f32⟩
  | 64 => ⟨S_, .f32⟩
  | 65 => ⟨S8192x4x128, .f32⟩
  | 66 => ⟨S8192x4x128, .f32⟩
  | 67 => ⟨S8192x4x128, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S63, .f32⟩
  | 76 => ⟨S_, .f32⟩
  | 77 => ⟨S63, .f32⟩
  | 78 => ⟨S63, .f32⟩
  | 79 => ⟨S1, .f32⟩
  | 80 => ⟨S_, .f32⟩
  | 81 => ⟨S63, .f32⟩
  | 82 => ⟨S63, .f32⟩
  | 83 => ⟨S63, .f32⟩
  | 84 => ⟨S63, .f32⟩
  | 85 => ⟨S1, .f32⟩
  | 86 => ⟨S63, .f32⟩
  | 87 => ⟨S63, .f32⟩
  | 88 => ⟨S63, .f32⟩
  | 89 => ⟨S1, .f32⟩
  | 90 => ⟨S64, .f32⟩
  | 91 => ⟨S_, .f32⟩
  | 92 => ⟨S64, .f32⟩
  | 93 => ⟨S64, .f32⟩
  | 94 => ⟨S_, .f32⟩
  | 95 => ⟨S64, .f32⟩
  | 96 => ⟨S64, .f32⟩
  | 97 => ⟨S8192x1, .f32⟩
  | 98 => ⟨S1x64, .f32⟩
  | 99 => ⟨S8192x64, .f32⟩
  | 100 => ⟨S8192x64, .f32⟩
  | 101 => ⟨S8192x64, .f32⟩
  | 102 => ⟨S8192x64, .f32⟩
  | 103 => ⟨S8192x1x64, .f32⟩
  | 104 => ⟨S8192x64, .f32⟩
  | 105 => ⟨S8192x1x64, .f32⟩
  | 106 => ⟨S8192x4x64, .f32⟩
  | 107 => ⟨S8192x4x64, .f32⟩
  | 108 => ⟨S8192x4x64, .f32⟩
  | 109 => ⟨S8192x4x64, .f32⟩
  | 110 => ⟨S8192x4x64, .f32⟩
  | 111 => ⟨S8192x4x64, .f32⟩
  | 112 => ⟨S8192x4x64, .f32⟩
  | 113 => ⟨S8192x4x64, .f32⟩
  | 114 => ⟨S8192x4x64, .f32⟩
  | 115 => ⟨S8192x4x64, .f32⟩
  | 116 => ⟨S8192x4x64, .f32⟩
  | 117 => ⟨S8192x4x64, .f32⟩
  | 118 => ⟨S8192x4x128, .f32⟩
  | 119 => ⟨S8192x4x128, .f32⟩
  | 120 => ⟨S4x8192x8192, .f32⟩
  | 121 => ⟨S4, .f32⟩
  | 122 => ⟨S_, .f32⟩
  | 123 => ⟨S4, .f32⟩
  | 124 => ⟨S4, .f32⟩
  | 125 => ⟨S_, .f32⟩
  | 126 => ⟨S4, .f32⟩
  | 127 => ⟨S4, .f32⟩
  | _ => ⟨S8192x1024, .f32⟩

abbrev hbmTy0_1 (i : Nat) : BufTy := match i % 128 with
  | 0 => ⟨S_, .f32⟩
  | 1 => ⟨S4, .f32⟩
  | 2 => ⟨S4, .f32⟩
  | 3 => ⟨S4, .f32⟩
  | 4 => ⟨S8192, .f32⟩
  | 5 => ⟨S8192, .i32⟩
  | 6 => ⟨S_, .i32⟩
  | 7 => ⟨S8192, .i32⟩
  | 8 => ⟨S8192, .i32⟩
  | 9 => ⟨S8192x1, .f32⟩
  | 10 => ⟨S1x8192, .f32⟩
  | 11 => ⟨S8192x8192, .f32⟩
  | 12 => ⟨S8192x8192, .f32⟩
  | 13 => ⟨S8192x8192, .f32⟩
  | 14 => ⟨S8192x8192, .f32⟩
  | 15 => ⟨S1x1x8192, .i32⟩
  | 16 => ⟨S1x8192x1, .i32⟩
  | 17 => ⟨S1x8192x8192, .i32⟩
  | 18 => ⟨S1x8192x8192, .i32⟩
  | 19 => ⟨S1x8192x8192, .i1⟩
  | 20 => ⟨S4x1x1, .f32⟩
  | 21 => ⟨S1x8192x8192, .f32⟩
  | 22 => ⟨S4x8192x8192, .f32⟩
  | 23 => ⟨S4x8192x8192, .f32⟩
  | 24 => ⟨S4x8192x8192, .f32⟩
  | 25 => ⟨S4x8192x8192, .f32⟩
  | 26 => ⟨S_, .f32⟩
  | 27 => ⟨S_, .f32⟩
  | 28 => ⟨S4x8192x8192, .i1⟩
  | 29 => ⟨S4x8192x8192, .f32⟩
  | 30 => ⟨S4x8192x8192, .f32⟩
  | 31 => ⟨S4x8192x8192, .f32⟩
  | 32 => ⟨S4x128x8192, .f32⟩
  | 33 => ⟨S8192x4x128, .f32⟩
  | 34 => ⟨S4, .f32⟩
  | 35 => ⟨S_, .f32⟩
  | 36 => ⟨S4, .f32⟩
  | 37 => ⟨S4, .f32⟩
  | 38 => ⟨S_, .f32⟩
  | 39 => ⟨S4, .f32⟩
  | 40 => ⟨S4, .f32⟩
  | 41 => ⟨S_, .f32⟩
  | 42 => ⟨S4, .f32⟩
  | 43 => ⟨S4, .f32⟩
  | 44 => ⟨S4, .f32⟩
  | 45 => ⟨S32, .f32⟩
  | 46 => ⟨S_, .f32⟩
  | 47 => ⟨S32, .f32⟩
  | 48 => ⟨S32, .f32⟩
  | 49 => ⟨S32x1, .f32⟩
  | 50 => ⟨S_, .f32⟩
  | 51 => ⟨S32x1, .f32⟩
  | 52 => ⟨S32x1, .f32⟩
  | 53 => ⟨S8192, .f32⟩
  | 54 => ⟨S1x8192, .f32⟩
  | 55 => ⟨S32x8192, .f32⟩
  | 56 => ⟨S32x8192, .f32⟩
  | 57 => ⟨S32x8192, .f32⟩
  | 58 => ⟨S1x32x8192, .f32⟩
  | 59 => ⟨S_, .f32⟩
  | 60 => ⟨S1x32x8192, .f32⟩
  | 61 => ⟨S1x32x8192, .i1⟩
  | 62 => ⟨S4x1x1, .f32⟩
  | 63 => ⟨S1x32x8192, .f32⟩
  | 64 => ⟨S4x32x8192, .f32⟩
  | 65 => ⟨S4x32x8192, .f32⟩
  | 66 => ⟨S4x32x8192, .f32⟩
  | 67 => ⟨S4x32x8192, .f32⟩
  | 68 => ⟨S_, .f32⟩
  | 69 => ⟨S_, .f32⟩
  | 70 => ⟨S4x32x8192, .i1⟩
  | 71 => ⟨S4x32x8192, .f32⟩
  | 72 => ⟨S4x32x8192, .f32⟩
  | 73 => ⟨S4x8192x128, .f32⟩
  | 74 => ⟨S4x1x8192x128, .f32⟩
  | 75 => ⟨S4x32x8192x1, .f32⟩
  | 76 => ⟨S4x32x8192x128, .f32⟩
  | 77 => ⟨S4x32x8192x128, .f32⟩
  | 78 => ⟨S4x32x8192x128, .f32⟩
  | 79 => ⟨S4x128x32x128, .f32⟩
  | 80 => ⟨S32x4x128x128, .f32⟩
  | 81 => ⟨S32x512x128, .f32⟩
  | 82 => ⟨S8192x512, .f32⟩
  | 83 => ⟨S8192x512, .bf16⟩
  | 84 => ⟨S8192x512, .f32⟩
  | 85 => ⟨S8192x512, .bf16⟩
  | 86 => ⟨S8192x512, .f32⟩
  | 87 => ⟨S8192x1024, .f32⟩
  | 88 => ⟨S256x256, .i32⟩
  | 89 => ⟨S256x256, .i32⟩
  | 90 => ⟨S_, .i32⟩
  | 91 => ⟨S256x256, .i32⟩
  | 92 => ⟨S256x256, .i32⟩
  | 93 => ⟨S_, .i32⟩
  | 94 => ⟨S256x256, .i32⟩
  | 95 => ⟨S256x256, .i32⟩
  | 96 => ⟨S256x256, .i1⟩
  | 97 => ⟨S256x256, .i32⟩
  | 98 => ⟨S256x256, .i32⟩
  | 99 => ⟨S256x256, .f32⟩
  | 100 => ⟨S256x128, .i32⟩
  | 101 => ⟨S256x128, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S256x256, .f32⟩
  | 111 => ⟨S256x256, .f32⟩
  | 112 => ⟨S256x256, .f32⟩
  | 113 => ⟨S_, .f32⟩
  | 114 => ⟨S_, .f32⟩
  | 115 => ⟨S256x256, .f32⟩
  | 116 => ⟨S256x256, .f32⟩
  | 117 => ⟨S256x256, .f32⟩
  | 118 => ⟨S256x256, .f32⟩
  | 119 => ⟨S256x256, .f32⟩
  | 120 => ⟨S_, .f32⟩
  | 121 => ⟨S_, .f32⟩
  | 122 => ⟨S256x256, .f32⟩
  | 123 => ⟨S256x256, .f32⟩
  | 124 => ⟨S256x256, .f32⟩
  | 125 => ⟨S256x256, .f32⟩
  | 126 => ⟨S256x256, .f32⟩
  | 127 => ⟨S_, .f32⟩
  | _ => ⟨S8192x1024, .f32⟩

abbrev hbmTy0_2 (i : Nat) : BufTy := match i % 128 with
  | 0 => ⟨S_, .f32⟩
  | 1 => ⟨S256x256, .f32⟩
  | 2 => ⟨S256x256, .f32⟩
  | 3 => ⟨S256x256, .f32⟩
  | 4 => ⟨S256x256, .f32⟩
  | 5 => ⟨S256x256, .f32⟩
  | 6 => ⟨S_, .f32⟩
  | 7 => ⟨S_, .f32⟩
  | 8 => ⟨S256x256, .f32⟩
  | 9 => ⟨S256x256, .f32⟩
  | 10 => ⟨S1x256x256, .f32⟩
  | 11 => ⟨S1x256x256, .f32⟩
  | 12 => ⟨S1x256x256, .f32⟩
  | 13 => ⟨S1x256x256, .f32⟩
  | 14 => ⟨S4x256x256, .f32⟩
  | 15 => ⟨S_, .f32⟩
  | 16 => ⟨S256x128, .f32⟩
  | 17 => ⟨S256x128, .f32⟩
  | 18 => ⟨S256x128, .f32⟩
  | 19 => ⟨S256x128, .f32⟩
  | 20 => ⟨S256x128, .f32⟩
  | 21 => ⟨S_, .f32⟩
  | 22 => ⟨S256x128, .f32⟩
  | 23 => ⟨S256x128, .f32⟩
  | 24 => ⟨S256x128, .f32⟩
  | 25 => ⟨S256x128, .f32⟩
  | 26 => ⟨S256x128, .f32⟩
  | 27 => ⟨S_, .f32⟩
  | 28 => ⟨S256x128, .f32⟩
  | 29 => ⟨S256x128, .f32⟩
  | 30 => ⟨S256x128, .f32⟩
  | 31 => ⟨S256x128, .f32⟩
  | 32 => ⟨S256x128, .f32⟩
  | 33 => ⟨S_, .f32⟩
  | 34 => ⟨S256x128, .f32⟩
  | 35 => ⟨S256x128, .f32⟩
  | 36 => ⟨S256x128, .f32⟩
  | 37 => ⟨S256x128, .f32⟩
  | 38 => ⟨S256x128, .f32⟩
  | 39 => ⟨S_, .f32⟩
  | 40 => ⟨S256x128, .f32⟩
  | 41 => ⟨S256x128, .f32⟩
  | 42 => ⟨S256x128, .f32⟩
  | 43 => ⟨S256x128, .f32⟩
  | 44 => ⟨S256x128, .f32⟩
  | 45 => ⟨S_, .f32⟩
  | 46 => ⟨S256x128, .f32⟩
  | 47 => ⟨S256x128, .f32⟩
  | 48 => ⟨S256x128, .f32⟩
  | 49 => ⟨S256x128, .f32⟩
  | 50 => ⟨S256x128, .f32⟩
  | 51 => ⟨S_, .f32⟩
  | 52 => ⟨S256x128, .f32⟩
  | 53 => ⟨S256x128, .f32⟩
  | 54 => ⟨S256x128, .f32⟩
  | 55 => ⟨S256x128, .f32⟩
  | 56 => ⟨S256x128, .f32⟩
  | 57 => ⟨S_, .f32⟩
  | 58 => ⟨S256x128, .f32⟩
  | 59 => ⟨S256x128, .f32⟩
  | 60 => ⟨S256x128, .f32⟩
  | 61 => ⟨S256x128, .f32⟩
  | 62 => ⟨S256x128, .f32⟩
  | 63 => ⟨S1x256x128, .f32⟩
  | 64 => ⟨S1x256x128, .f32⟩
  | 65 => ⟨S1x256x128, .f32⟩
  | 66 => ⟨S1x256x128, .f32⟩
  | 67 => ⟨S1x256x128, .f32⟩
  | 68 => ⟨S1x256x128, .f32⟩
  | 69 => ⟨S1x256x128, .f32⟩
  | 70 => ⟨S1x256x128, .f32⟩
  | 71 => ⟨S8x256x128, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S63, .f32⟩
  | 80 => ⟨S_, .f32⟩
  | 81 => ⟨S63, .f32⟩
  | 82 => ⟨S63, .f32⟩
  | 83 => ⟨S1, .f32⟩
  | 84 => ⟨S_, .f32⟩
  | 85 => ⟨S63, .f32⟩
  | 86 => ⟨S63, .f32⟩
  | 87 => ⟨S63, .f32⟩
  | 88 => ⟨S63, .f32⟩
  | 89 => ⟨S1, .f32⟩
  | 90 => ⟨S63, .f32⟩
  | 91 => ⟨S63, .f32⟩
  | 92 => ⟨S63, .f32⟩
  | 93 => ⟨S1, .f32⟩
  | 94 => ⟨S64, .f32⟩
  | 95 => ⟨S_, .f32⟩
  | 96 => ⟨S64, .f32⟩
  | 97 => ⟨S64, .f32⟩
  | 98 => ⟨S_, .f32⟩
  | 99 => ⟨S64, .f32⟩
  | 100 => ⟨S64, .f32⟩
  | 101 => ⟨S256, .f32⟩
  | 102 => ⟨S256x1, .f32⟩
  | 103 => ⟨S1x64, .f32⟩
  | 104 => ⟨S256x64, .f32⟩
  | 105 => ⟨S256x64, .f32⟩
  | 106 => ⟨S256x64, .f32⟩
  | 107 => ⟨S32, .f32⟩
  | 108 => ⟨S_, .f32⟩
  | 109 => ⟨S32, .f32⟩
  | 110 => ⟨S32, .f32⟩
  | 111 => ⟨S32x1, .f32⟩
  | 112 => ⟨S1x64, .f32⟩
  | 113 => ⟨S32x64, .f32⟩
  | 114 => ⟨S32x64, .f32⟩
  | 115 => ⟨S32x64, .f32⟩
  | 116 => ⟨S256x64, .f32⟩
  | 117 => ⟨S256x64, .f32⟩
  | 118 => ⟨S256x128, .f32⟩
  | 119 => ⟨S256x128, .f32⟩
  | 120 => ⟨S256x64, .f32⟩
  | 121 => ⟨S256x128, .f32⟩
  | 122 => ⟨S256x64, .f32⟩
  | 123 => ⟨S256x128, .f32⟩
  | 124 => ⟨S1x256x128, .f32⟩
  | 125 => ⟨S1x256x128, .f32⟩
  | 126 => ⟨S1x256x128, .f32⟩
  | 127 => ⟨S1x256x128, .f32⟩
  | _ => ⟨S8192x1024, .f32⟩

abbrev hbmTy0_3 (i : Nat) : BufTy := match i % 128 with
  | 0 => ⟨S4x256x128, .f32⟩
  | 1 => ⟨S32x64, .f32⟩
  | 2 => ⟨S32x64, .f32⟩
  | 3 => ⟨S32x256, .f32⟩
  | 4 => ⟨S32x1x256, .f32⟩
  | 5 => ⟨S32x8x256, .f32⟩
  | 6 => ⟨S_, .f32⟩
  | 7 => ⟨S8x128, .f32⟩
  | 8 => ⟨S8192x3712, .bf16⟩
  | 9 => ⟨S128x256, .f32⟩
  | 10 => ⟨S8x512, .f32⟩
  | _ => ⟨S8192x1024, .f32⟩

abbrev hbmTy (i : Nat) : BufTy := match i / 128 with
  | 0 => hbmTy0_0 i
  | 1 => hbmTy0_1 i
  | 2 => hbmTy0_2 i
  | 3 => hbmTy0_3 i
  | _ => ⟨S8192x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x128, .f32⟩
  | .local _ .vmem, ⟨19, _⟩ => ⟨S512x128, .f32⟩
  | .local _ .vmem, ⟨20, _⟩ => ⟨S512x1024, .f32⟩
  | .local _ .vmem, ⟨21, _⟩ => ⟨S512x1024, .f32⟩
  | .local _ .vmem, ⟨22, _⟩ => ⟨S4x256x256, .f32⟩
  | .local _ .vmem, ⟨23, _⟩ => ⟨S8x256x128, .f32⟩
  | .local _ .vmem, ⟨24, _⟩ => ⟨S4x256x128, .f32⟩
  | .local _ .vmem, ⟨25, _⟩ => ⟨S2x8x256, .f32⟩
  | .local _ .vmem, ⟨26, _⟩ => ⟨S2x8x256, .f32⟩
  | .local _ .vmem, ⟨27, _⟩ => ⟨S2x512x128, .f32⟩
  | .local _ .vmem, ⟨28, _⟩ => ⟨S2x512x128, .f32⟩
  | .local _ .vmem, ⟨29, _⟩ => ⟨S4x128x256, .f32⟩
  | .local _ .vmem, ⟨30, _⟩ => ⟨S4x128x256, .f32⟩
  | .local _ .vmem, ⟨31, _⟩ => ⟨S128x256, .f32⟩
  | .local _ .vmem, ⟨32, _⟩ => ⟨S1x256, .f32⟩
  | .local _ .vmem, ⟨33, _⟩ => ⟨S1x512, .f32⟩
  | .local _ .vmem, ⟨34, _⟩ => ⟨S1x512, .f32⟩
  | .local _ .vmem, ⟨35, _⟩ => ⟨S512x3712, .bf16⟩
  | .local _ .vmem, ⟨36, _⟩ => ⟨S512x3712, .bf16⟩
  | .local _ .vmem, ⟨37, _⟩ => ⟨S128x256, .f32⟩
  | .local _ .vmem, ⟨38, _⟩ => ⟨S8x512, .f32⟩
  | .local _ .vmem, ⟨39, _⟩ => ⟨S512x128, .f32⟩
  | .local _ .vmem, ⟨40, _⟩ => ⟨S128x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_cst : Ref sig .tc := ⟨.hbm, 18, rfl⟩
abbrev main_call0_v3 : Ref sig .tc := ⟨.hbm, 19, rfl⟩
abbrev main_call0_v4 : Ref sig .tc := ⟨.hbm, 20, rfl⟩
abbrev main_call0_cst_0 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_cst_1 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_v15 : Ref sig .tc := ⟨.hbm, 33, rfl⟩
abbrev main_call0_v16 : Ref sig .tc := ⟨.hbm, 34, rfl⟩
abbrev main_v5 : Ref sig .tc := ⟨.hbm, 35, rfl⟩
abbrev main_cst_1 : Ref sig .tc := ⟨.hbm, 36, rfl⟩
abbrev main_v6 : Ref sig .tc := ⟨.hbm, 37, rfl⟩
abbrev main_v7 : Ref sig .tc := ⟨.hbm, 38, rfl⟩
abbrev main_cst_2 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_cst_3 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_cst_4 : Ref sig .tc := ⟨.hbm, 68, rfl⟩
abbrev main_cst_5 : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_call1_cst : Ref sig .tc := ⟨.hbm, 73, rfl⟩
abbrev main_call1_v3 : Ref sig .tc := ⟨.hbm, 74, rfl⟩
abbrev main_call1_v4 : Ref sig .tc := ⟨.hbm, 75, rfl⟩
abbrev main_call1_cst_0 : Ref sig .tc := ⟨.hbm, 76, rfl⟩
abbrev main_call1_v5 : Ref sig .tc := ⟨.hbm, 77, rfl⟩
abbrev main_call1_v6 : Ref sig .tc := ⟨.hbm, 78, rfl⟩
abbrev main_call1_v7 : Ref sig .tc := ⟨.hbm, 79, rfl⟩
abbrev main_call1_cst_1 : Ref sig .tc := ⟨.hbm, 80, rfl⟩
abbrev main_call1_v8 : Ref sig .tc := ⟨.hbm, 81, rfl⟩
abbrev main_call1_v9 : Ref sig .tc := ⟨.hbm, 82, rfl⟩
abbrev main_call1_v10 : Ref sig .tc := ⟨.hbm, 83, rfl⟩
abbrev main_call1_v11 : Ref sig .tc := ⟨.hbm, 84, rfl⟩
abbrev main_call1_v12 : Ref sig .tc := ⟨.hbm, 85, rfl⟩
abbrev main_call1_v13 : Ref sig .tc := ⟨.hbm, 86, rfl⟩
abbrev main_call1_v14 : Ref sig .tc := ⟨.hbm, 87, rfl⟩
abbrev main_call1_v15 : Ref sig .tc := ⟨.hbm, 88, rfl⟩
abbrev main_call1_v16 : Ref sig .tc := ⟨.hbm, 89, rfl⟩
abbrev main_v35 : Ref sig .tc := ⟨.hbm, 90, rfl⟩
abbrev main_cst_6 : Ref sig .tc := ⟨.hbm, 91, rfl⟩
abbrev main_v36 : Ref sig .tc := ⟨.hbm, 92, rfl⟩
abbrev main_v37 : Ref sig .tc := ⟨.hbm, 93, rfl⟩
abbrev main_cst_7 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩
abbrev main_v41 : Ref sig .tc := ⟨.hbm, 98, rfl⟩
abbrev main_v42 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev main_v49 : Ref sig .tc := ⟨.hbm, 106, rfl⟩
abbrev main_v50 : Ref sig .tc := ⟨.hbm, 107, rfl⟩
abbrev main_v51 : Ref sig .tc := ⟨.hbm, 108, rfl⟩
abbrev main_v52 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_cst_8 : Ref sig .tc := ⟨.hbm, 122, rfl⟩
abbrev main_v65 : Ref sig .tc := ⟨.hbm, 123, rfl⟩
abbrev main_v66 : Ref sig .tc := ⟨.hbm, 124, rfl⟩
abbrev main_cst_9 : Ref sig .tc := ⟨.hbm, 125, rfl⟩
abbrev main_v67 : Ref sig .tc := ⟨.hbm, 126, rfl⟩
abbrev main_v68 : Ref sig .tc := ⟨.hbm, 127, rfl⟩
abbrev main_cst_10 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_c : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_cst_11 : Ref sig .tc := ⟨.hbm, 154, rfl⟩
abbrev main_call2_v0 : Ref sig .tc := ⟨.hbm, 155, rfl⟩
abbrev main_call2_v1 : Ref sig .tc := ⟨.hbm, 156, rfl⟩
abbrev main_call2_v2 : Ref sig .tc := ⟨.hbm, 157, rfl⟩
abbrev main_v93 : Ref sig .tc := ⟨.hbm, 158, rfl⟩
abbrev main_v94 : Ref sig .tc := ⟨.hbm, 159, rfl⟩
abbrev main_v95 : Ref sig .tc := ⟨.hbm, 160, rfl⟩
abbrev main_v96 : Ref sig .tc := ⟨.hbm, 161, rfl⟩
abbrev main_v97 : Ref sig .tc := ⟨.hbm, 162, rfl⟩
abbrev main_cst_12 : Ref sig .tc := ⟨.hbm, 163, rfl⟩
abbrev main_v98 : Ref sig .tc := ⟨.hbm, 164, rfl⟩
abbrev main_v99 : Ref sig .tc := ⟨.hbm, 165, rfl⟩
abbrev main_cst_13 : Ref sig .tc := ⟨.hbm, 166, rfl⟩
abbrev main_v100 : Ref sig .tc := ⟨.hbm, 167, rfl⟩
abbrev main_v101 : Ref sig .tc := ⟨.hbm, 168, rfl⟩
abbrev main_cst_14 : Ref sig .tc := ⟨.hbm, 169, rfl⟩
abbrev main_v102 : Ref sig .tc := ⟨.hbm, 170, rfl⟩
abbrev main_v103 : Ref sig .tc := ⟨.hbm, 171, rfl⟩
abbrev main_v104 : Ref sig .tc := ⟨.hbm, 172, rfl⟩
abbrev main_v105 : Ref sig .tc := ⟨.hbm, 173, rfl⟩
abbrev main_cst_15 : Ref sig .tc := ⟨.hbm, 174, rfl⟩
abbrev main_v106 : Ref sig .tc := ⟨.hbm, 175, rfl⟩
abbrev main_v107 : Ref sig .tc := ⟨.hbm, 176, rfl⟩
abbrev main_v108 : Ref sig .tc := ⟨.hbm, 177, rfl⟩
abbrev main_cst_16 : Ref sig .tc := ⟨.hbm, 178, rfl⟩
abbrev main_v109 : Ref sig .tc := ⟨.hbm, 179, rfl⟩
abbrev main_v110 : Ref sig .tc := ⟨.hbm, 180, rfl⟩
abbrev main_v111 : Ref sig .tc := ⟨.hbm, 181, rfl⟩
abbrev main_v112 : Ref sig .tc := ⟨.hbm, 182, rfl⟩
abbrev main_v113 : Ref sig .tc := ⟨.hbm, 183, rfl⟩
abbrev main_v114 : Ref sig .tc := ⟨.hbm, 184, rfl⟩
abbrev main_v115 : Ref sig .tc := ⟨.hbm, 185, rfl⟩
abbrev main_v116 : Ref sig .tc := ⟨.hbm, 186, rfl⟩
abbrev main_cst_17 : Ref sig .tc := ⟨.hbm, 187, rfl⟩
abbrev main_v117 : Ref sig .tc := ⟨.hbm, 188, rfl⟩
abbrev main_v118 : Ref sig .tc := ⟨.hbm, 189, rfl⟩
abbrev main_v119 : Ref sig .tc := ⟨.hbm, 190, rfl⟩
abbrev main_v120 : Ref sig .tc := ⟨.hbm, 191, rfl⟩
abbrev main_v121 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_cst_18 : Ref sig .tc := ⟨.hbm, 196, rfl⟩
abbrev main_call3_v0 : Ref sig .tc := ⟨.hbm, 197, rfl⟩
abbrev main_call3_v1 : Ref sig .tc := ⟨.hbm, 198, rfl⟩
abbrev main_call3_v2 : Ref sig .tc := ⟨.hbm, 199, rfl⟩
abbrev main_v125 : Ref sig .tc := ⟨.hbm, 200, rfl⟩
abbrev main_v126 : Ref sig .tc := ⟨.hbm, 201, rfl⟩
abbrev main_v127 : Ref sig .tc := ⟨.hbm, 202, rfl⟩
abbrev main_v128 : Ref sig .tc := ⟨.hbm, 203, rfl⟩
abbrev main_v129 : Ref sig .tc := ⟨.hbm, 204, rfl⟩
abbrev main_v130 : Ref sig .tc := ⟨.hbm, 205, rfl⟩
abbrev main_v131 : Ref sig .tc := ⟨.hbm, 206, rfl⟩
abbrev main_v132 : Ref sig .tc := ⟨.hbm, 207, rfl⟩
abbrev main_v133 : Ref sig .tc := ⟨.hbm, 208, rfl⟩
abbrev main_v134 : Ref sig .tc := ⟨.hbm, 209, rfl⟩
abbrev main_v135 : Ref sig .tc := ⟨.hbm, 210, rfl⟩
abbrev main_v136 : Ref sig .tc := ⟨.hbm, 211, rfl⟩
abbrev main_v137 : Ref sig .tc := ⟨.hbm, 212, rfl⟩
abbrev main_v138 : Ref sig .tc := ⟨.hbm, 213, rfl⟩
abbrev main_v139 : Ref sig .tc := ⟨.hbm, 214, rfl⟩
abbrev main_v140 : Ref sig .tc := ⟨.hbm, 215, rfl⟩
abbrev main_v141 : Ref sig .tc := ⟨.hbm, 216, rfl⟩
abbrev main_v142 : Ref sig .tc := ⟨.hbm, 217, rfl⟩
abbrev main_c_19 : Ref sig .tc := ⟨.hbm, 218, rfl⟩
abbrev main_v143 : Ref sig .tc := ⟨.hbm, 219, rfl⟩
abbrev main_v144 : Ref sig .tc := ⟨.hbm, 220, rfl⟩
abbrev main_c_20 : Ref sig .tc := ⟨.hbm, 221, rfl⟩
abbrev main_v145 : Ref sig .tc := ⟨.hbm, 222, rfl⟩
abbrev main_v146 : Ref sig .tc := ⟨.hbm, 223, rfl⟩
abbrev main_v147 : Ref sig .tc := ⟨.hbm, 224, rfl⟩
abbrev main_v148 : Ref sig .tc := ⟨.hbm, 225, rfl⟩
abbrev main_v149 : Ref sig .tc := ⟨.hbm, 226, rfl⟩
abbrev main_v150 : Ref sig .tc := ⟨.hbm, 227, rfl⟩
abbrev main_v151 : Ref sig .tc := ⟨.hbm, 228, rfl⟩
abbrev main_v152 : Ref sig .tc := ⟨.hbm, 229, rfl⟩
abbrev main_cst_21 : Ref sig .tc := ⟨.hbm, 230, rfl⟩
abbrev main_v153 : Ref sig .tc := ⟨.hbm, 231, rfl⟩
abbrev main_cst_22 : Ref sig .tc := ⟨.hbm, 232, rfl⟩
abbrev main_v154 : Ref sig .tc := ⟨.hbm, 233, rfl⟩
abbrev main_cst_23 : Ref sig .tc := ⟨.hbm, 234, rfl⟩
abbrev main_v155 : Ref sig .tc := ⟨.hbm, 235, rfl⟩
abbrev main_cst_24 : Ref sig .tc := ⟨.hbm, 236, rfl⟩
abbrev main_v156 : Ref sig .tc := ⟨.hbm, 237, rfl⟩
abbrev main_v157 : Ref sig .tc := ⟨.hbm, 238, rfl⟩
abbrev main_v158 : Ref sig .tc := ⟨.hbm, 239, rfl⟩
abbrev main_v159 : Ref sig .tc := ⟨.hbm, 240, rfl⟩
abbrev main_cst_25 : Ref sig .tc := ⟨.hbm, 241, rfl⟩
abbrev main_call4_v0 : Ref sig .tc := ⟨.hbm, 242, rfl⟩
abbrev main_call4_v1 : Ref sig .tc := ⟨.hbm, 243, rfl⟩
abbrev main_v160 : Ref sig .tc := ⟨.hbm, 244, rfl⟩
abbrev main_v161 : Ref sig .tc := ⟨.hbm, 245, rfl⟩
abbrev main_v162 : Ref sig .tc := ⟨.hbm, 246, rfl⟩
abbrev main_v163 : Ref sig .tc := ⟨.hbm, 247, rfl⟩
abbrev main_cst_26 : Ref sig .tc := ⟨.hbm, 248, rfl⟩
abbrev main_call5_v0 : Ref sig .tc := ⟨.hbm, 249, rfl⟩
abbrev main_call5_v1 : Ref sig .tc := ⟨.hbm, 250, rfl⟩
abbrev main_v164 : Ref sig .tc := ⟨.hbm, 251, rfl⟩
abbrev main_v165 : Ref sig .tc := ⟨.hbm, 252, rfl⟩
abbrev main_v166 : Ref sig .tc := ⟨.hbm, 253, rfl⟩
abbrev main_v167 : Ref sig .tc := ⟨.hbm, 254, rfl⟩
abbrev main_cst_27 : Ref sig .tc := ⟨.hbm, 255, rfl⟩
abbrev main_call6_v0 : Ref sig .tc := ⟨.hbm, 256, rfl⟩
abbrev main_call6_v1 : Ref sig .tc := ⟨.hbm, 257, rfl⟩
abbrev main_v168 : Ref sig .tc := ⟨.hbm, 258, rfl⟩
abbrev main_v169 : Ref sig .tc := ⟨.hbm, 259, rfl⟩
abbrev main_v170 : Ref sig .tc := ⟨.hbm, 260, rfl⟩
abbrev main_v171 : Ref sig .tc := ⟨.hbm, 261, rfl⟩
abbrev main_cst_28 : Ref sig .tc := ⟨.hbm, 262, rfl⟩
abbrev main_call7_v0 : Ref sig .tc := ⟨.hbm, 263, rfl⟩
abbrev main_call7_v1 : Ref sig .tc := ⟨.hbm, 264, rfl⟩
abbrev main_v172 : Ref sig .tc := ⟨.hbm, 265, rfl⟩
abbrev main_v173 : Ref sig .tc := ⟨.hbm, 266, rfl⟩
abbrev main_v174 : Ref sig .tc := ⟨.hbm, 267, rfl⟩
abbrev main_v175 : Ref sig .tc := ⟨.hbm, 268, rfl⟩
abbrev main_v176 : Ref sig .tc := ⟨.hbm, 269, rfl⟩
abbrev main_v177 : Ref sig .tc := ⟨.hbm, 270, rfl⟩
abbrev main_cst_29 : Ref sig .tc := ⟨.hbm, 271, rfl⟩
abbrev main_v178 : Ref sig .tc := ⟨.hbm, 272, rfl⟩
abbrev main_v179 : Ref sig .tc := ⟨.hbm, 273, rfl⟩
abbrev main_v180 : Ref sig .tc := ⟨.hbm, 274, rfl⟩
abbrev main_v181 : Ref sig .tc := ⟨.hbm, 275, rfl⟩
abbrev main_v182 : Ref sig .tc := ⟨.hbm, 276, rfl⟩
abbrev main_cst_30 : Ref sig .tc := ⟨.hbm, 277, rfl⟩
abbrev main_v183 : Ref sig .tc := ⟨.hbm, 278, rfl⟩
abbrev main_v184 : Ref sig .tc := ⟨.hbm, 279, rfl⟩
abbrev main_v185 : Ref sig .tc := ⟨.hbm, 280, rfl⟩
abbrev main_v186 : Ref sig .tc := ⟨.hbm, 281, rfl⟩
abbrev main_v187 : Ref sig .tc := ⟨.hbm, 282, rfl⟩
abbrev main_cst_31 : Ref sig .tc := ⟨.hbm, 283, rfl⟩
abbrev main_v188 : Ref sig .tc := ⟨.hbm, 284, rfl⟩
abbrev main_v189 : Ref sig .tc := ⟨.hbm, 285, rfl⟩
abbrev main_v190 : Ref sig .tc := ⟨.hbm, 286, rfl⟩
abbrev main_v191 : Ref sig .tc := ⟨.hbm, 287, rfl⟩
abbrev main_v192 : Ref sig .tc := ⟨.hbm, 288, rfl⟩
abbrev main_cst_32 : Ref sig .tc := ⟨.hbm, 289, rfl⟩
abbrev main_v193 : Ref sig .tc := ⟨.hbm, 290, rfl⟩
abbrev main_v194 : Ref sig .tc := ⟨.hbm, 291, rfl⟩
abbrev main_v195 : Ref sig .tc := ⟨.hbm, 292, rfl⟩
abbrev main_v196 : Ref sig .tc := ⟨.hbm, 293, rfl⟩
abbrev main_v197 : Ref sig .tc := ⟨.hbm, 294, rfl⟩
abbrev main_cst_33 : Ref sig .tc := ⟨.hbm, 295, rfl⟩
abbrev main_v198 : Ref sig .tc := ⟨.hbm, 296, rfl⟩
abbrev main_v199 : Ref sig .tc := ⟨.hbm, 297, rfl⟩
abbrev main_v200 : Ref sig .tc := ⟨.hbm, 298, rfl⟩
abbrev main_v201 : Ref sig .tc := ⟨.hbm, 299, rfl⟩
abbrev main_v202 : Ref sig .tc := ⟨.hbm, 300, rfl⟩
abbrev main_cst_34 : Ref sig .tc := ⟨.hbm, 301, rfl⟩
abbrev main_v203 : Ref sig .tc := ⟨.hbm, 302, rfl⟩
abbrev main_v204 : Ref sig .tc := ⟨.hbm, 303, rfl⟩
abbrev main_v205 : Ref sig .tc := ⟨.hbm, 304, rfl⟩
abbrev main_v206 : Ref sig .tc := ⟨.hbm, 305, rfl⟩
abbrev main_v207 : Ref sig .tc := ⟨.hbm, 306, rfl⟩
abbrev main_cst_35 : Ref sig .tc := ⟨.hbm, 307, rfl⟩
abbrev main_v208 : Ref sig .tc := ⟨.hbm, 308, rfl⟩
abbrev main_v209 : Ref sig .tc := ⟨.hbm, 309, rfl⟩
abbrev main_v210 : Ref sig .tc := ⟨.hbm, 310, rfl⟩
abbrev main_v211 : Ref sig .tc := ⟨.hbm, 311, rfl⟩
abbrev main_v212 : Ref sig .tc := ⟨.hbm, 312, rfl⟩
abbrev main_cst_36 : Ref sig .tc := ⟨.hbm, 313, rfl⟩
abbrev main_v213 : Ref sig .tc := ⟨.hbm, 314, rfl⟩
abbrev main_v214 : Ref sig .tc := ⟨.hbm, 315, rfl⟩
abbrev main_v215 : Ref sig .tc := ⟨.hbm, 316, rfl⟩
abbrev main_v216 : Ref sig .tc := ⟨.hbm, 317, rfl⟩
abbrev main_v217 : Ref sig .tc := ⟨.hbm, 318, rfl⟩
abbrev main_v218 : Ref sig .tc := ⟨.hbm, 319, rfl⟩
abbrev main_v219 : Ref sig .tc := ⟨.hbm, 320, rfl⟩
abbrev main_v220 : Ref sig .tc := ⟨.hbm, 321, rfl⟩
abbrev main_v221 : Ref sig .tc := ⟨.hbm, 322, rfl⟩
abbrev main_v222 : Ref sig .tc := ⟨.hbm, 323, rfl⟩
abbrev main_v223 : Ref sig .tc := ⟨.hbm, 324, rfl⟩
abbrev main_v224 : Ref sig .tc := ⟨.hbm, 325, rfl⟩
abbrev main_v225 : Ref sig .tc := ⟨.hbm, 326, rfl⟩
abbrev main_v226 : Ref sig .tc := ⟨.hbm, 327, rfl⟩
abbrev main_cst_37 : Ref sig .tc := ⟨.hbm, 328, rfl⟩
abbrev main_cst_38 : Ref sig .tc := ⟨.hbm, 329, rfl⟩
abbrev main_call8_v0 : Ref sig .tc := ⟨.hbm, 330, rfl⟩
abbrev main_call8_v1 : Ref sig .tc := ⟨.hbm, 331, rfl⟩
abbrev main_call8_v2 : Ref sig .tc := ⟨.hbm, 332, rfl⟩
abbrev main_call8_cst : Ref sig .tc := ⟨.hbm, 333, rfl⟩
abbrev main_call8_v3 : Ref sig .tc := ⟨.hbm, 334, rfl⟩
abbrev main_call8_v4 : Ref sig .tc := ⟨.hbm, 335, rfl⟩
abbrev main_call8_cst_0 : Ref sig .tc := ⟨.hbm, 336, rfl⟩
abbrev main_call8_v5 : Ref sig .tc := ⟨.hbm, 337, rfl⟩
abbrev main_call8_v6 : Ref sig .tc := ⟨.hbm, 338, rfl⟩
abbrev main_call8_v7 : Ref sig .tc := ⟨.hbm, 339, rfl⟩
abbrev main_call8_cst_1 : Ref sig .tc := ⟨.hbm, 340, rfl⟩
abbrev main_call8_v8 : Ref sig .tc := ⟨.hbm, 341, rfl⟩
abbrev main_call8_v9 : Ref sig .tc := ⟨.hbm, 342, rfl⟩
abbrev main_call8_v10 : Ref sig .tc := ⟨.hbm, 343, rfl⟩
abbrev main_call8_v11 : Ref sig .tc := ⟨.hbm, 344, rfl⟩
abbrev main_call8_v12 : Ref sig .tc := ⟨.hbm, 345, rfl⟩
abbrev main_call8_v13 : Ref sig .tc := ⟨.hbm, 346, rfl⟩
abbrev main_call8_v14 : Ref sig .tc := ⟨.hbm, 347, rfl⟩
abbrev main_call8_v15 : Ref sig .tc := ⟨.hbm, 348, rfl⟩
abbrev main_call8_v16 : Ref sig .tc := ⟨.hbm, 349, rfl⟩
abbrev main_v227 : Ref sig .tc := ⟨.hbm, 350, rfl⟩
abbrev main_cst_39 : Ref sig .tc := ⟨.hbm, 351, rfl⟩
abbrev main_v228 : Ref sig .tc := ⟨.hbm, 352, rfl⟩
abbrev main_v229 : Ref sig .tc := ⟨.hbm, 353, rfl⟩
abbrev main_cst_40 : Ref sig .tc := ⟨.hbm, 354, rfl⟩
abbrev main_v230 : Ref sig .tc := ⟨.hbm, 355, rfl⟩
abbrev main_v231 : Ref sig .tc := ⟨.hbm, 356, rfl⟩
abbrev main_v232 : Ref sig .tc := ⟨.hbm, 357, rfl⟩
abbrev main_v233 : Ref sig .tc := ⟨.hbm, 358, rfl⟩
abbrev main_v234 : Ref sig .tc := ⟨.hbm, 359, rfl⟩
abbrev main_v235 : Ref sig .tc := ⟨.hbm, 360, rfl⟩
abbrev main_v236 : Ref sig .tc := ⟨.hbm, 361, rfl⟩
abbrev main_v237 : Ref sig .tc := ⟨.hbm, 362, rfl⟩
abbrev main_v238 : Ref sig .tc := ⟨.hbm, 363, rfl⟩
abbrev main_cst_41 : Ref sig .tc := ⟨.hbm, 364, rfl⟩
abbrev main_v239 : Ref sig .tc := ⟨.hbm, 365, rfl⟩
abbrev main_v240 : Ref sig .tc := ⟨.hbm, 366, rfl⟩
abbrev main_v241 : Ref sig .tc := ⟨.hbm, 367, rfl⟩
abbrev main_v242 : Ref sig .tc := ⟨.hbm, 368, rfl⟩
abbrev main_v243 : Ref sig .tc := ⟨.hbm, 369, rfl⟩
abbrev main_v244 : Ref sig .tc := ⟨.hbm, 370, rfl⟩
abbrev main_v245 : Ref sig .tc := ⟨.hbm, 371, rfl⟩
abbrev main_v246 : Ref sig .tc := ⟨.hbm, 372, rfl⟩
abbrev main_v247 : Ref sig .tc := ⟨.hbm, 373, rfl⟩
abbrev main_v248 : Ref sig .tc := ⟨.hbm, 374, rfl⟩
abbrev main_v249 : Ref sig .tc := ⟨.hbm, 375, rfl⟩
abbrev main_v250 : Ref sig .tc := ⟨.hbm, 376, rfl⟩
abbrev main_v251 : Ref sig .tc := ⟨.hbm, 377, rfl⟩
abbrev main_v252 : Ref sig .tc := ⟨.hbm, 378, rfl⟩
abbrev main_v253 : Ref sig .tc := ⟨.hbm, 379, rfl⟩
abbrev main_v254 : Ref sig .tc := ⟨.hbm, 380, rfl⟩
abbrev main_v255 : Ref sig .tc := ⟨.hbm, 381, rfl⟩
abbrev main_v256 : Ref sig .tc := ⟨.hbm, 382, rfl⟩
abbrev main_v257 : Ref sig .tc := ⟨.hbm, 383, rfl⟩
abbrev main_v258 : Ref sig .tc := ⟨.hbm, 384, rfl⟩
abbrev main_v259 : Ref sig .tc := ⟨.hbm, 385, rfl⟩
abbrev main_v260 : Ref sig .tc := ⟨.hbm, 386, rfl⟩
abbrev main_v261 : Ref sig .tc := ⟨.hbm, 387, rfl⟩
abbrev main_v262 : Ref sig .tc := ⟨.hbm, 388, rfl⟩
abbrev main_v263 : Ref sig .tc := ⟨.hbm, 389, rfl⟩
abbrev main_cst_42 : Ref sig .tc := ⟨.hbm, 390, rfl⟩
abbrev main_v264 : Ref sig .tc := ⟨.hbm, 391, rfl⟩
abbrev main_v265_0 : Ref sig .tc := ⟨.hbm, 392, rfl⟩
abbrev main_v265_1 : Ref sig .tc := ⟨.hbm, 393, rfl⟩
abbrev main_v265_2 : Ref sig .tc := ⟨.hbm, 394, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg18_0 : Ref sig .tc := ⟨.vmem, 32, rfl⟩
abbrev cc0_stg19_0 : Ref sig .tc := ⟨.vmem, 33, rfl⟩
abbrev cc0_stg20_0 : Ref sig .tc := ⟨.vmem, 34, rfl⟩
abbrev cc0_stg21_0 : Ref sig .tc := ⟨.vmem, 35, rfl⟩
abbrev cc0_stg21_1 : Ref sig .tc := ⟨.vmem, 36, rfl⟩
abbrev cc0_stg22_0 : Ref sig .tc := ⟨.vmem, 37, rfl⟩
abbrev cc0_stg23_0 : Ref sig .tc := ⟨.vmem, 38, rfl⟩
abbrev cc0_scratch0 : Ref sig .tc := ⟨.vmem, 39, rfl⟩
abbrev cc0_scratch1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem18_0 : DmaSem sig := 32
abbrev cc0_sem19_0 : DmaSem sig := 33
abbrev cc0_sem20_0 : DmaSem sig := 34
abbrev cc0_sem21_0 : DmaSem sig := 35
abbrev cc0_sem21_1 : DmaSem sig := 36
abbrev cc0_sem22_0 : DmaSem sig := 37
abbrev cc0_sem23_0 : DmaSem sig := 38

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c2_i32 : BitVec 32 := 2#32
  let c0_i32 : BitVec 32 := 0#32
  ![v0.toNat, c2_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c3_i32 : BitVec 32 := 3#32
  let c0_i32 : BitVec 32 := 0#32
  ![v0.toNat, c3_i32.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c8_i32 : BitVec 32 := 8#32
  let c0_i32 : BitVec 32 := 0#32
  ![v0.toNat, c8_i32.toNat]

def cc0_transform_6 (i : grid0.Coords) : Fin 2 → Nat :=
  let arg0 : BitVec 32 := BitVec.ofNat 32 (i 0).val
  let c15_i32 : BitVec 32 := 15#32
  let v0 : BitVec 32 := Scalar.subi c15_i32 arg0
  let c9_i32 : BitVec 32 := 9#32
  let c0_i32 : BitVec 32 := 0#32
  ![v0.toNat, c9_i32.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c5_i32 : BitVec 32 := 5#32
  let c0_i32 : BitVec 32 := 0#32
  ![v0.toNat, c5_i32.toNat]

def cc0_transform_8 (i : grid0.Coords) : Fin 2 → Nat :=
  let arg0 : BitVec 32 := BitVec.ofNat 32 (i 0).val
  let c15_i32 : BitVec 32 := 15#32
  let v0 : BitVec 32 := Scalar.subi c15_i32 arg0
  let c6_i32 : BitVec 32 := 6#32
  let c0_i32 : BitVec 32 := 0#32
  ![v0.toNat, c6_i32.toNat]

def cc0_transform_9 (i : grid0.Coords) : Fin 2 → Nat :=
  let arg0 : BitVec 32 := BitVec.ofNat 32 (i 0).val
  let c15_i32 : BitVec 32 := 15#32
  let v0 : BitVec 32 := Scalar.subi c15_i32 arg0
  let c28_i32 : BitVec 32 := 28#32
  let c0_i32 : BitVec 32 := 0#32
  ![v0.toNat, c28_i32.toNat]

def cc0_transform_10 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![v0.toNat, c0_i32.toNat, c0_i32_0.toNat]

def cc0_transform_15 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![v0.toNat, c0_i32.toNat, c0_i32_0.toNat]

def cc0_transform_16 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![v0.toNat, c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S4x256x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x256x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x256x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S2x8x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2x512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S4x128x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S128x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S512x3712 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 1 → Memref sig .tc .vmem S128x256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S8x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]
-- ==== KernelIdeal.lean ====
variable {F : FTy → Type} [FloatOps F] [Named F]
def κ : String → Option EReal := fun
  | "gamma_0_256" => some ((6146015080813575034695417713226912903305888181886472031037824629831672928949925977371885924422256558280598640253784375251182367178077275943508811277617726037926828835493962089938703670916216150637232924767423218594179651908716059369457431352364368667582308905998928857404131059860187300660764250399851094923206841232876192030133070875041117904520293983055025851039902553125047623681 / 20815864389328798163850480654728171077230524494533409610638224700807216119346720596024478883464648369684843227908562015582767132496646929816279813211354641525848259018778440691546366699323167100945918841095379622423387354295096957733925002768876520583464697770622321657076833170056511209332449663781837603694136444406281042053396870977465916057756101739472373801429441421111406337458176 : ℝ) : EReal)
  | "gamma_1_256" => some ((42774078302235318565319257509240389102448610944058038806438187308967998022705219385729663158638449482363242547246423463242593270189466810827507253377583114893638375653286835591007069102165292454913397853719673918607538604174150929255316756471434149954438683890468730174719505936020561911515555997155458494501519964452840485792481596827492989182299408582213918538682711594745086139424161235245664305277724872062197080286979918058563320302114990397887505300439041 / 2410312426921032588580116606028314112912093247945688951359675039065257391591803200669085024107346049663448766280888004787862416978794958324969612987890774651455213339381625224770782077917681499676845543137387820057597345857904599109461387122099507964997815641342300677629473355281617428411794163967785870370368969109221591943054232011562758450080579587850900993714892283476646631181515063804873375182260506246992837898705971012525843324401232986857004760339316736 : ℝ) : EReal)
  | "gamma_2_256" => some ((37475942568369757962947522235530371133981530150116838269147324413047700895014398970446404169811997688419833959989077757701150649868243230123056568953964412798172396287429646722188387330264786795375818576214031616869032274669030355559348596733438707526107308633142545065787965914180851284280383384025423970000476770692381976054937465989431021902621277854218705005366130766187721539711495327024166368641272006952024074184121303316623563671196861028284711972009680015975871738940145523351472588749523046764641137000009779131884491317421506561 / 279095111627852376407822673918065072905887935345660252615989519488029661278604994789701101367875859521849524793382568057369148405837577299984720398976429790087982805274893437406788716103454867635208144157749912668657006085226160261808841484862703257771979713923863820038729637520989894984676774385364934677289947762340313157123529922421738738162392233756507666339799675257002539356619747080176786496732679854783185583233878234270370065954615221443190595445898747930123678952192875629172092437548194134594886873249778512829119416327938768896 : ℝ) : EReal)
  | "gamma_3_256" => some ((11865504027970838771731346061683101436994979092949631599037079718981644706917580014911102414175085528643666188591370983920968194011711659169451226844120009995840891480759624977868736986513250783427504228510443452927050635948750086027473241612026344113952918539841083265621530105483498237021333267100718263868013566694893934279056051614332115121424258551337630287851288624870009988393213915090641049449897944231399544068578059227753373776746392142852101691703865017730668871755067274316504625716657064558790363574959526408194231415564059175410672318668947295267860607377447532996550538797464469098486006259918212890625 / 32317006071311007300714876688669951960444102669715484032130345427524655138867890893197201411522913463688717960921898019494119559150490921095088152386448283120630877367300996091750197750389652106796057638384067568276792218642619756161838094338476170470581645852036305042887575891541065808607552399123930385521914333389668342420684974786564569494856176035326322058077805659331026192708460314150258592864177116725943603718461857357598351152301645904403697613233287231227125684710820209725157101726931323469678542580656697935045997268352998638215525166389437335543602135433229604645318478604952148193555853611059596230656 : ℝ) : EReal)
  | _ => none
-- ==== ReferenceIdeal.lean ====
abbrev S8192x1024 : Shape := ⟨2, ![8192, 1024]⟩
abbrev S8192x3712 : Shape := ⟨2, ![8192, 3712]⟩
abbrev S8192x512 : Shape := ⟨2, ![8192, 512]⟩
abbrev S64x128x256 : Shape := ⟨3, ![64, 128, 256]⟩
abbrev S128x256 : Shape := ⟨2, ![128, 256]⟩
abbrev S1x256 : Shape := ⟨2, ![1, 256]⟩
abbrev S1x512 : Shape := ⟨2, ![1, 512]⟩
abbrev S8192 : Shape := ⟨1, ![8192]⟩
abbrev S8192x4x128 : Shape := ⟨3, ![8192, 4, 128]⟩
abbrev S_ : Shape := ⟨0, ![]⟩
abbrev S63 : Shape := ⟨1, ![63]⟩
abbrev S1 : Shape := ⟨1, ![1]⟩
abbrev S64 : Shape := ⟨1, ![64]⟩
abbrev S8192x1 : Shape := ⟨2, ![8192, 1]⟩
abbrev S1x64 : Shape := ⟨2, ![1, 64]⟩
abbrev S8192x64 : Shape := ⟨2, ![8192, 64]⟩
abbrev S8192x1x64 : Shape := ⟨3, ![8192, 1, 64]⟩
abbrev S8192x4x64 : Shape := ⟨3, ![8192, 4, 64]⟩
abbrev S4x8192x8192 : Shape := ⟨3, ![4, 8192, 8192]⟩
abbrev S4 : Shape := ⟨1, ![4]⟩
abbrev S1x8192 : Shape := ⟨2, ![1, 8192]⟩
abbrev S8192x8192 : Shape := ⟨2, ![8192, 8192]⟩
abbrev S1x1x8192 : Shape := ⟨3, ![1, 1, 8192]⟩
abbrev S1x8192x1 : Shape := ⟨3, ![1, 8192, 1]⟩
abbrev S1x8192x8192 : Shape := ⟨3, ![1, 8192, 8192]⟩
abbrev S4x1x1 : Shape := ⟨3, ![4, 1, 1]⟩
abbrev S4x128x8192 : Shape := ⟨3, ![4, 128, 8192]⟩
abbrev S1x8192x4x128 : Shape := ⟨4, ![1, 8192, 4, 128]⟩
abbrev S512 : Shape := ⟨1, ![512]⟩
abbrev S1x8192x4 : Shape := ⟨3, ![1, 8192, 4]⟩
abbrev S1x8192x4x1 : Shape := ⟨4, ![1, 8192, 4, 1]⟩
abbrev S1x8192x512 : Shape := ⟨3, ![1, 8192, 512]⟩
abbrev S1x1x512 : Shape := ⟨3, ![1, 1, 512]⟩
abbrev S8192x4 : Shape := ⟨2, ![8192, 4]⟩
abbrev S4x8192x128 : Shape := ⟨3, ![4, 8192, 128]⟩

abbrev nBuf : Space → Nat
  | .hbm => 319
  | .vmem => 0
  | .smem => 0
  | _ => 0

abbrev hbmTy0_0 (i : Nat) : BufTy := match i % 128 with
  | 0 => ⟨S8192x1024, .f32⟩
  | 1 => ⟨S8192x3712, .f32⟩
  | 2 => ⟨S8192x512, .f32⟩
  | 3 => ⟨S64x128x256, .f32⟩
  | 4 => ⟨S128x256, .f32⟩
  | 5 => ⟨S1x256, .f32⟩
  | 6 => ⟨S1x512, .f32⟩
  | 7 => ⟨S1x512, .f32⟩
  | 8 => ⟨S8192, .f32⟩
  | 9 => ⟨S8192x512, .f32⟩
  | 10 => ⟨S8192x512, .f32⟩
  | 11 => ⟨S8192x512, .f32⟩
  | 12 => ⟨S8192x4x128, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S63, .f32⟩
  | 21 => ⟨S_, .f32⟩
  | 22 => ⟨S63, .f32⟩
  | 23 => ⟨S63, .f32⟩
  | 24 => ⟨S1, .f32⟩
  | 25 => ⟨S_, .f32⟩
  | 26 => ⟨S63, .f32⟩
  | 27 => ⟨S63, .f32⟩
  | 28 => ⟨S63, .f32⟩
  | 29 => ⟨S63, .f32⟩
  | 30 => ⟨S1, .f32⟩
  | 31 => ⟨S63, .f32⟩
  | 32 => ⟨S63, .f32⟩
  | 33 => ⟨S63, .f32⟩
  | 34 => ⟨S1, .f32⟩
  | 35 => ⟨S64, .f32⟩
  | 36 => ⟨S_, .f32⟩
  | 37 => ⟨S64, .f32⟩
  | 38 => ⟨S64, .f32⟩
  | 39 => ⟨S_, .f32⟩
  | 40 => ⟨S64, .f32⟩
  | 41 => ⟨S64, .f32⟩
  | 42 => ⟨S8192x1, .f32⟩
  | 43 => ⟨S1x64, .f32⟩
  | 44 => ⟨S8192x64, .f32⟩
  | 45 => ⟨S8192x64, .f32⟩
  | 46 => ⟨S8192x64, .f32⟩
  | 47 => ⟨S8192x64, .f32⟩
  | 48 => ⟨S8192x1x64, .f32⟩
  | 49 => ⟨S8192x64, .f32⟩
  | 50 => ⟨S8192x1x64, .f32⟩
  | 51 => ⟨S8192x4x64, .f32⟩
  | 52 => ⟨S8192x4x64, .f32⟩
  | 53 => ⟨S8192x4x64, .f32⟩
  | 54 => ⟨S8192x4x64, .f32⟩
  | 55 => ⟨S8192x4x64, .f32⟩
  | 56 => ⟨S8192x4x64, .f32⟩
  | 57 => ⟨S8192x4x64, .f32⟩
  | 58 => ⟨S8192x4x64, .f32⟩
  | 59 => ⟨S8192x4x64, .f32⟩
  | 60 => ⟨S8192x4x64, .f32⟩
  | 61 => ⟨S8192x4x64, .f32⟩
  | 62 => ⟨S8192x4x64, .f32⟩
  | 63 => ⟨S8192x4x128, .f32⟩
  | 64 => ⟨S_, .f32⟩
  | 65 => ⟨S8192x4x128, .f32⟩
  | 66 => ⟨S8192x4x128, .f32⟩
  | 67 => ⟨S8192x4x128, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S63, .f32⟩
  | 76 => ⟨S_, .f32⟩
  | 77 => ⟨S63, .f32⟩
  | 78 => ⟨S63, .f32⟩
  | 79 => ⟨S1, .f32⟩
  | 80 => ⟨S_, .f32⟩
  | 81 => ⟨S63, .f32⟩
  | 82 => ⟨S63, .f32⟩
  | 83 => ⟨S63, .f32⟩
  | 84 => ⟨S63, .f32⟩
  | 85 => ⟨S1, .f32⟩
  | 86 => ⟨S63, .f32⟩
  | 87 => ⟨S63, .f32⟩
  | 88 => ⟨S63, .f32⟩
  | 89 => ⟨S1, .f32⟩
  | 90 => ⟨S64, .f32⟩
  | 91 => ⟨S_, .f32⟩
  | 92 => ⟨S64, .f32⟩
  | 93 => ⟨S64, .f32⟩
  | 94 => ⟨S_, .f32⟩
  | 95 => ⟨S64, .f32⟩
  | 96 => ⟨S64, .f32⟩
  | 97 => ⟨S8192x1, .f32⟩
  | 98 => ⟨S1x64, .f32⟩
  | 99 => ⟨S8192x64, .f32⟩
  | 100 => ⟨S8192x64, .f32⟩
  | 101 => ⟨S8192x64, .f32⟩
  | 102 => ⟨S8192x64, .f32⟩
  | 103 => ⟨S8192x1x64, .f32⟩
  | 104 => ⟨S8192x64, .f32⟩
  | 105 => ⟨S8192x1x64, .f32⟩
  | 106 => ⟨S8192x4x64, .f32⟩
  | 107 => ⟨S8192x4x64, .f32⟩
  | 108 => ⟨S8192x4x64, .f32⟩
  | 109 => ⟨S8192x4x64, .f32⟩
  | 110 => ⟨S8192x4x64, .f32⟩
  | 111 => ⟨S8192x4x64, .f32⟩
  | 112 => ⟨S8192x4x64, .f32⟩
  | 113 => ⟨S8192x4x64, .f32⟩
  | 114 => ⟨S8192x4x64, .f32⟩
  | 115 => ⟨S8192x4x64, .f32⟩
  | 116 => ⟨S8192x4x64, .f32⟩
  | 117 => ⟨S8192x4x64, .f32⟩
  | 118 => ⟨S8192x4x128, .f32⟩
  | 119 => ⟨S8192x4x128, .f32⟩
  | 120 => ⟨S4x8192x8192, .f32⟩
  | 121 => ⟨S4, .f32⟩
  | 122 => ⟨S_, .f32⟩
  | 123 => ⟨S4, .f32⟩
  | 124 => ⟨S4, .f32⟩
  | 125 => ⟨S_, .f32⟩
  | 126 => ⟨S4, .f32⟩
  | 127 => ⟨S4, .f32⟩
  | _ => ⟨S8192x1024, .f32⟩

abbrev hbmTy0_1 (i : Nat) : BufTy := match i % 128 with
  | 0 => ⟨S_, .f32⟩
  | 1 => ⟨S4, .f32⟩
  | 2 => ⟨S4, .f32⟩
  | 3 => ⟨S4, .f32⟩
  | 4 => ⟨S8192, .f32⟩
  | 5 => ⟨S8192, .i32⟩
  | 6 => ⟨S_, .i32⟩
  | 7 => ⟨S8192, .i32⟩
  | 8 => ⟨S8192, .i32⟩
  | 9 => ⟨S8192x1, .f32⟩
  | 10 => ⟨S1x8192, .f32⟩
  | 11 => ⟨S8192x8192, .f32⟩
  | 12 => ⟨S8192x8192, .f32⟩
  | 13 => ⟨S8192x8192, .f32⟩
  | 14 => ⟨S8192x8192, .f32⟩
  | 15 => ⟨S1x1x8192, .i32⟩
  | 16 => ⟨S1x8192x1, .i32⟩
  | 17 => ⟨S1x8192x8192, .i32⟩
  | 18 => ⟨S1x8192x8192, .i32⟩
  | 19 => ⟨S1x8192x8192, .i1⟩
  | 20 => ⟨S4x1x1, .f32⟩
  | 21 => ⟨S1x8192x8192, .f32⟩
  | 22 => ⟨S4x8192x8192, .f32⟩
  | 23 => ⟨S4x8192x8192, .f32⟩
  | 24 => ⟨S4x8192x8192, .f32⟩
  | 25 => ⟨S4x8192x8192, .f32⟩
  | 26 => ⟨S_, .f32⟩
  | 27 => ⟨S_, .f32⟩
  | 28 => ⟨S4x8192x8192, .i1⟩
  | 29 => ⟨S4x8192x8192, .f32⟩
  | 30 => ⟨S4x8192x8192, .f32⟩
  | 31 => ⟨S4x8192x8192, .f32⟩
  | 32 => ⟨S4x128x8192, .f32⟩
  | 33 => ⟨S8192x4x128, .f32⟩
  | 34 => ⟨S1x8192x4x128, .f32⟩
  | 35 => ⟨S512, .f32⟩
  | 36 => ⟨S_, .f32⟩
  | 37 => ⟨S1x8192x4, .f32⟩
  | 38 => ⟨S1x8192x4x1, .f32⟩
  | 39 => ⟨S_, .f32⟩
  | 40 => ⟨S1x8192x4x1, .f32⟩
  | 41 => ⟨S1x8192x4x1, .f32⟩
  | 42 => ⟨S1x8192x4x128, .f32⟩
  | 43 => ⟨S1x8192x4x128, .f32⟩
  | 44 => ⟨S1x8192x4x128, .f32⟩
  | 45 => ⟨S_, .f32⟩
  | 46 => ⟨S1x8192x4x128, .f32⟩
  | 47 => ⟨S1x8192x4x128, .f32⟩
  | 48 => ⟨S_, .f32⟩
  | 49 => ⟨S1x8192x4, .f32⟩
  | 50 => ⟨S1x8192x4x1, .f32⟩
  | 51 => ⟨S_, .f32⟩
  | 52 => ⟨S1x8192x4x1, .f32⟩
  | 53 => ⟨S1x8192x4x1, .f32⟩
  | 54 => ⟨S_, .f32⟩
  | 55 => ⟨S1x8192x4x1, .f32⟩
  | 56 => ⟨S1x8192x4x1, .f32⟩
  | 57 => ⟨S1x8192x4x1, .f32⟩
  | 58 => ⟨S1x8192x4x1, .f32⟩
  | 59 => ⟨S_, .f32⟩
  | 60 => ⟨S1x8192x4x1, .f32⟩
  | 61 => ⟨S1x8192x4x1, .f32⟩
  | 62 => ⟨S1x8192x4x128, .f32⟩
  | 63 => ⟨S1x8192x4x128, .f32⟩
  | 64 => ⟨S1x8192x512, .f32⟩
  | 65 => ⟨S1x1x512, .f32⟩
  | 66 => ⟨S1x8192x512, .f32⟩
  | 67 => ⟨S1x8192x512, .f32⟩
  | 68 => ⟨S8192x512, .f32⟩
  | 69 => ⟨S1x8192x512, .f32⟩
  | 70 => ⟨S1x8192x512, .f32⟩
  | 71 => ⟨S1x8192x512, .f32⟩
  | 72 => ⟨S_, .f32⟩
  | 73 => ⟨S1x8192x512, .f32⟩
  | 74 => ⟨S1x8192x512, .f32⟩
  | 75 => ⟨S_, .f32⟩
  | 76 => ⟨S1x8192x512, .f32⟩
  | 77 => ⟨S1x8192x512, .f32⟩
  | 78 => ⟨S_, .f32⟩
  | 79 => ⟨S1x8192x512, .f32⟩
  | 80 => ⟨S1x8192x512, .f32⟩
  | 81 => ⟨S1x8192x512, .f32⟩
  | 82 => ⟨S1x8192x512, .f32⟩
  | 83 => ⟨S1x8192x512, .f32⟩
  | 84 => ⟨S8192x512, .f32⟩
  | 85 => ⟨S8192x512, .f32⟩
  | 86 => ⟨S1x8192x512, .f32⟩
  | 87 => ⟨S1x8192x512, .f32⟩
  | 88 => ⟨S1x8192x512, .f32⟩
  | 89 => ⟨S1x8192x512, .f32⟩
  | 90 => ⟨S1x8192x512, .f32⟩
  | 91 => ⟨S1x8192x512, .f32⟩
  | 92 => ⟨S1x8192x512, .f32⟩
  | 93 => ⟨S_, .f32⟩
  | 94 => ⟨S8192x512, .f32⟩
  | 95 => ⟨S_, .f32⟩
  | 96 => ⟨S8192x3712, .f32⟩
  | 97 => ⟨S1x8192x512, .f32⟩
  | 98 => ⟨S1x8192x512, .f32⟩
  | 99 => ⟨S1x8192x4x128, .f32⟩
  | 100 => ⟨S1x8192x4x128, .f32⟩
  | 101 => ⟨S_, .f32⟩
  | 102 => ⟨S1x8192x4, .f32⟩
  | 103 => ⟨S1x8192x4x1, .f32⟩
  | 104 => ⟨S1x8192x4x128, .f32⟩
  | 105 => ⟨S1x8192x4x128, .f32⟩
  | 106 => ⟨S1x8192x4x1, .f32⟩
  | 107 => ⟨S_, .f32⟩
  | 108 => ⟨S1x8192x4x1, .f32⟩
  | 109 => ⟨S1x8192x4x1, .f32⟩
  | 110 => ⟨S_, .f32⟩
  | 111 => ⟨S8192x4, .f32⟩
  | 112 => ⟨S1x8192x4, .f32⟩
  | 113 => ⟨S1x8192x4x128, .f32⟩
  | 114 => ⟨S1x8192x4x128, .f32⟩
  | 115 => ⟨S1x8192x4x128, .f32⟩
  | 116 => ⟨S1x8192x4x128, .f32⟩
  | 117 => ⟨S_, .f32⟩
  | 118 => ⟨S1x8192x4, .f32⟩
  | 119 => ⟨S1x8192x4x1, .f32⟩
  | 120 => ⟨S_, .f32⟩
  | 121 => ⟨S1x8192x4x1, .f32⟩
  | 122 => ⟨S1x8192x4x1, .f32⟩
  | 123 => ⟨S_, .f32⟩
  | 124 => ⟨S8192x4, .f32⟩
  | 125 => ⟨S1x8192x4, .f32⟩
  | 126 => ⟨S1x8192x4x128, .f32⟩
  | 127 => ⟨S1x8192x4x128, .f32⟩
  | _ => ⟨S8192x1024, .f32⟩

abbrev hbmTy0_2 (i : Nat) : BufTy := match i % 128 with
  | 0 => ⟨S_, .f32⟩
  | 1 => ⟨S8192x4x128, .f32⟩
  | 2 => ⟨S4x128x8192, .f32⟩
  | 3 => ⟨S4x8192x8192, .f32⟩
  | 4 => ⟨S4x128x8192, .f32⟩
  | 5 => ⟨S8192x4x128, .f32⟩
  | 6 => ⟨S4x8192x8192, .f32⟩
  | 7 => ⟨S4x8192x128, .f32⟩
  | 8 => ⟨S8192x4x128, .f32⟩
  | 9 => ⟨S4x8192x128, .f32⟩
  | 10 => ⟨S8192x4x128, .f32⟩
  | 11 => ⟨S8192x512, .f32⟩
  | 12 => ⟨S8192x4x64, .f32⟩
  | 13 => ⟨S8192x4x64, .f32⟩
  | 14 => ⟨S8192x4x64, .f32⟩
  | 15 => ⟨S8192x4x64, .f32⟩
  | 16 => ⟨S8192x4x64, .f32⟩
  | 17 => ⟨S8192x4x64, .f32⟩
  | 18 => ⟨S8192x4x64, .f32⟩
  | 19 => ⟨S8192x4x64, .f32⟩
  | 20 => ⟨S8192x4x64, .f32⟩
  | 21 => ⟨S8192x4x64, .f32⟩
  | 22 => ⟨S8192x4x64, .f32⟩
  | 23 => ⟨S8192x4x64, .f32⟩
  | 24 => ⟨S8192x4x64, .f32⟩
  | 25 => ⟨S_, .f32⟩
  | 26 => ⟨S8192x4x128, .f32⟩
  | 27 => ⟨S_, .f32⟩
  | 28 => ⟨S8192x4x128, .f32⟩
  | 29 => ⟨S8192x4x128, .f32⟩
  | 30 => ⟨S8192x512, .f32⟩
  | 31 => ⟨S_, .f32⟩
  | 32 => ⟨S8192x4x128, .f32⟩
  | 33 => ⟨S8192x4x128, .f32⟩
  | 34 => ⟨S8192x4x64, .f32⟩
  | 35 => ⟨S8192x4x64, .f32⟩
  | 36 => ⟨S8192x4x64, .f32⟩
  | 37 => ⟨S8192x4x64, .f32⟩
  | 38 => ⟨S8192x4x64, .f32⟩
  | 39 => ⟨S8192x4x64, .f32⟩
  | 40 => ⟨S8192x4x64, .f32⟩
  | 41 => ⟨S8192x4x64, .f32⟩
  | 42 => ⟨S8192x4x64, .f32⟩
  | 43 => ⟨S8192x4x64, .f32⟩
  | 44 => ⟨S8192x4x64, .f32⟩
  | 45 => ⟨S8192x4x64, .f32⟩
  | 46 => ⟨S8192x4x64, .f32⟩
  | 47 => ⟨S_, .f32⟩
  | 48 => ⟨S8192x4x128, .f32⟩
  | 49 => ⟨S_, .f32⟩
  | 50 => ⟨S8192x4x128, .f32⟩
  | 51 => ⟨S8192x4x128, .f32⟩
  | 52 => ⟨S8192x512, .f32⟩
  | 53 => ⟨S_, .f32⟩
  | 54 => ⟨S8192x3712, .f32⟩
  | 55 => ⟨S8192x3712, .f32⟩
  | 56 => ⟨S_, .f32⟩
  | 57 => ⟨S8192x3712, .f32⟩
  | 58 => ⟨S8192x3712, .f32⟩
  | 59 => ⟨S_, .f32⟩
  | 60 => ⟨S8192x3712, .f32⟩
  | 61 => ⟨S8192x3712, .f32⟩
  | 62 => ⟨S8192x3712, .bf16⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_cst : Ref sig .tc := ⟨.hbm, 18, rfl⟩
abbrev main_call0_v3 : Ref sig .tc := ⟨.hbm, 19, rfl⟩
abbrev main_call0_v4 : Ref sig .tc := ⟨.hbm, 20, rfl⟩
abbrev main_call0_cst_0 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_cst_1 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_v15 : Ref sig .tc := ⟨.hbm, 33, rfl⟩
abbrev main_call0_v16 : Ref sig .tc := ⟨.hbm, 34, rfl⟩
abbrev main_v5 : Ref sig .tc := ⟨.hbm, 35, rfl⟩
abbrev main_cst_1 : Ref sig .tc := ⟨.hbm, 36, rfl⟩
abbrev main_v6 : Ref sig .tc := ⟨.hbm, 37, rfl⟩
abbrev main_v7 : Ref sig .tc := ⟨.hbm, 38, rfl⟩
abbrev main_cst_2 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_cst_3 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_cst_4 : Ref sig .tc := ⟨.hbm, 68, rfl⟩
abbrev main_cst_5 : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_call1_cst : Ref sig .tc := ⟨.hbm, 73, rfl⟩
abbrev main_call1_v3 : Ref sig .tc := ⟨.hbm, 74, rfl⟩
abbrev main_call1_v4 : Ref sig .tc := ⟨.hbm, 75, rfl⟩
abbrev main_call1_cst_0 : Ref sig .tc := ⟨.hbm, 76, rfl⟩
abbrev main_call1_v5 : Ref sig .tc := ⟨.hbm, 77, rfl⟩
abbrev main_call1_v6 : Ref sig .tc := ⟨.hbm, 78, rfl⟩
abbrev main_call1_v7 : Ref sig .tc := ⟨.hbm, 79, rfl⟩
abbrev main_call1_cst_1 : Ref sig .tc := ⟨.hbm, 80, rfl⟩
abbrev main_call1_v8 : Ref sig .tc := ⟨.hbm, 81, rfl⟩
abbrev main_call1_v9 : Ref sig .tc := ⟨.hbm, 82, rfl⟩
abbrev main_call1_v10 : Ref sig .tc := ⟨.hbm, 83, rfl⟩
abbrev main_call1_v11 : Ref sig .tc := ⟨.hbm, 84, rfl⟩
abbrev main_call1_v12 : Ref sig .tc := ⟨.hbm, 85, rfl⟩
abbrev main_call1_v13 : Ref sig .tc := ⟨.hbm, 86, rfl⟩
abbrev main_call1_v14 : Ref sig .tc := ⟨.hbm, 87, rfl⟩
abbrev main_call1_v15 : Ref sig .tc := ⟨.hbm, 88, rfl⟩
abbrev main_call1_v16 : Ref sig .tc := ⟨.hbm, 89, rfl⟩
abbrev main_v35 : Ref sig .tc := ⟨.hbm, 90, rfl⟩
abbrev main_cst_6 : Ref sig .tc := ⟨.hbm, 91, rfl⟩
abbrev main_v36 : Ref sig .tc := ⟨.hbm, 92, rfl⟩
abbrev main_v37 : Ref sig .tc := ⟨.hbm, 93, rfl⟩
abbrev main_cst_7 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩
abbrev main_v41 : Ref sig .tc := ⟨.hbm, 98, rfl⟩
abbrev main_v42 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev main_v49 : Ref sig .tc := ⟨.hbm, 106, rfl⟩
abbrev main_v50 : Ref sig .tc := ⟨.hbm, 107, rfl⟩
abbrev main_v51 : Ref sig .tc := ⟨.hbm, 108, rfl⟩
abbrev main_v52 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_cst_8 : Ref sig .tc := ⟨.hbm, 122, rfl⟩
abbrev main_v65 : Ref sig .tc := ⟨.hbm, 123, rfl⟩
abbrev main_v66 : Ref sig .tc := ⟨.hbm, 124, rfl⟩
abbrev main_cst_9 : Ref sig .tc := ⟨.hbm, 125, rfl⟩
abbrev main_v67 : Ref sig .tc := ⟨.hbm, 126, rfl⟩
abbrev main_v68 : Ref sig .tc := ⟨.hbm, 127, rfl⟩
abbrev main_cst_10 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_c : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_cst_11 : Ref sig .tc := ⟨.hbm, 154, rfl⟩
abbrev main_call2_v0 : Ref sig .tc := ⟨.hbm, 155, rfl⟩
abbrev main_call2_v1 : Ref sig .tc := ⟨.hbm, 156, rfl⟩
abbrev main_call2_v2 : Ref sig .tc := ⟨.hbm, 157, rfl⟩
abbrev main_v93 : Ref sig .tc := ⟨.hbm, 158, rfl⟩
abbrev main_v94 : Ref sig .tc := ⟨.hbm, 159, rfl⟩
abbrev main_v95 : Ref sig .tc := ⟨.hbm, 160, rfl⟩
abbrev main_v96 : Ref sig .tc := ⟨.hbm, 161, rfl⟩
abbrev main_v97 : Ref sig .tc := ⟨.hbm, 162, rfl⟩
abbrev main_v98 : Ref sig .tc := ⟨.hbm, 163, rfl⟩
abbrev main_cst_12 : Ref sig .tc := ⟨.hbm, 164, rfl⟩
abbrev main_v99 : Ref sig .tc := ⟨.hbm, 165, rfl⟩
abbrev main_v100 : Ref sig .tc := ⟨.hbm, 166, rfl⟩
abbrev main_cst_13 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_v104 : Ref sig .tc := ⟨.hbm, 171, rfl⟩
abbrev main_v105 : Ref sig .tc := ⟨.hbm, 172, rfl⟩
abbrev main_cst_14 : Ref sig .tc := ⟨.hbm, 173, rfl⟩
abbrev main_v106 : Ref sig .tc := ⟨.hbm, 174, rfl⟩
abbrev main_v107 : Ref sig .tc := ⟨.hbm, 175, rfl⟩
abbrev main_cst_15 : Ref sig .tc := ⟨.hbm, 176, rfl⟩
abbrev main_v108 : Ref sig .tc := ⟨.hbm, 177, rfl⟩
abbrev main_v109 : Ref sig .tc := ⟨.hbm, 178, rfl⟩
abbrev main_cst_16 : Ref sig .tc := ⟨.hbm, 179, rfl⟩
abbrev main_v110 : Ref sig .tc := ⟨.hbm, 180, rfl⟩
abbrev main_v111 : Ref sig .tc := ⟨.hbm, 181, rfl⟩
abbrev main_cst_17 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_v115 : Ref sig .tc := ⟨.hbm, 186, rfl⟩
abbrev main_cst_18 : Ref sig .tc := ⟨.hbm, 187, rfl⟩
abbrev main_v116 : Ref sig .tc := ⟨.hbm, 188, rfl⟩
abbrev main_v117 : Ref sig .tc := ⟨.hbm, 189, rfl⟩
abbrev main_v118 : Ref sig .tc := ⟨.hbm, 190, rfl⟩
abbrev main_v119 : Ref sig .tc := ⟨.hbm, 191, rfl⟩
abbrev main_v120 : Ref sig .tc := ⟨.hbm, 192, rfl⟩
abbrev main_v121 : Ref sig .tc := ⟨.hbm, 193, rfl⟩
abbrev main_v122 : Ref sig .tc := ⟨.hbm, 194, rfl⟩
abbrev main_v123 : Ref sig .tc := ⟨.hbm, 195, rfl⟩
abbrev main_v124 : Ref sig .tc := ⟨.hbm, 196, rfl⟩
abbrev main_v125 : Ref sig .tc := ⟨.hbm, 197, rfl⟩
abbrev main_call3_v0 : Ref sig .tc := ⟨.hbm, 198, rfl⟩
abbrev main_call3_v1 : Ref sig .tc := ⟨.hbm, 199, rfl⟩
abbrev main_call3_cst : Ref sig .tc := ⟨.hbm, 200, rfl⟩
abbrev main_call3_v2 : Ref sig .tc := ⟨.hbm, 201, rfl⟩
abbrev main_call3_v3 : Ref sig .tc := ⟨.hbm, 202, rfl⟩
abbrev main_call3_cst_0 : Ref sig .tc := ⟨.hbm, 203, rfl⟩
abbrev main_call3_v4 : Ref sig .tc := ⟨.hbm, 204, rfl⟩
abbrev main_v126_2 : Ref sig .tc := ⟨.hbm, 205, rfl⟩
abbrev main_call3_cst_1 : Ref sig .tc := ⟨.hbm, 206, rfl⟩
abbrev main_call3_v6 : Ref sig .tc := ⟨.hbm, 207, rfl⟩
abbrev main_call3_v7 : Ref sig .tc := ⟨.hbm, 208, rfl⟩
abbrev main_v126_1 : Ref sig .tc := ⟨.hbm, 209, rfl⟩
abbrev main_v126_0 : Ref sig .tc := ⟨.hbm, 210, rfl⟩
abbrev main_v127 : Ref sig .tc := ⟨.hbm, 211, rfl⟩
abbrev main_v128 : Ref sig .tc := ⟨.hbm, 212, rfl⟩
abbrev main_v129 : Ref sig .tc := ⟨.hbm, 213, rfl⟩
abbrev main_v130 : Ref sig .tc := ⟨.hbm, 214, rfl⟩
abbrev main_v131 : Ref sig .tc := ⟨.hbm, 215, rfl⟩
abbrev main_v132 : Ref sig .tc := ⟨.hbm, 216, rfl⟩
abbrev main_call4_v0 : Ref sig .tc := ⟨.hbm, 217, rfl⟩
abbrev main_call4_v1 : Ref sig .tc := ⟨.hbm, 218, rfl⟩
abbrev main_call4_v2 : Ref sig .tc := ⟨.hbm, 219, rfl⟩
abbrev main_v133 : Ref sig .tc := ⟨.hbm, 220, rfl⟩
abbrev main_cst_19 : Ref sig .tc := ⟨.hbm, 221, rfl⟩
abbrev main_v134 : Ref sig .tc := ⟨.hbm, 222, rfl⟩
abbrev main_cst_20 : Ref sig .tc := ⟨.hbm, 223, rfl⟩
abbrev main_v135 : Ref sig .tc := ⟨.hbm, 224, rfl⟩
abbrev main_v136 : Ref sig .tc := ⟨.hbm, 225, rfl⟩
abbrev main_v137 : Ref sig .tc := ⟨.hbm, 226, rfl⟩
abbrev main_v138 : Ref sig .tc := ⟨.hbm, 227, rfl⟩
abbrev main_v139 : Ref sig .tc := ⟨.hbm, 228, rfl⟩
abbrev main_cst_21 : Ref sig .tc := ⟨.hbm, 229, rfl⟩
abbrev main_v140 : Ref sig .tc := ⟨.hbm, 230, rfl⟩
abbrev main_v141 : Ref sig .tc := ⟨.hbm, 231, rfl⟩
abbrev main_v142 : Ref sig .tc := ⟨.hbm, 232, rfl⟩
abbrev main_v143 : Ref sig .tc := ⟨.hbm, 233, rfl⟩
abbrev main_v144 : Ref sig .tc := ⟨.hbm, 234, rfl⟩
abbrev main_cst_22 : Ref sig .tc := ⟨.hbm, 235, rfl⟩
abbrev main_v145 : Ref sig .tc := ⟨.hbm, 236, rfl⟩
abbrev main_v146 : Ref sig .tc := ⟨.hbm, 237, rfl⟩
abbrev main_cst_23 : Ref sig .tc := ⟨.hbm, 238, rfl⟩
abbrev main_v147 : Ref sig .tc := ⟨.hbm, 239, rfl⟩
abbrev main_v148 : Ref sig .tc := ⟨.hbm, 240, rfl⟩
abbrev main_v149 : Ref sig .tc := ⟨.hbm, 241, rfl⟩
abbrev main_v150 : Ref sig .tc := ⟨.hbm, 242, rfl⟩
abbrev main_v151 : Ref sig .tc := ⟨.hbm, 243, rfl⟩
abbrev main_v152 : Ref sig .tc := ⟨.hbm, 244, rfl⟩
abbrev main_cst_24 : Ref sig .tc := ⟨.hbm, 245, rfl⟩
abbrev main_v153 : Ref sig .tc := ⟨.hbm, 246, rfl⟩
abbrev main_v154 : Ref sig .tc := ⟨.hbm, 247, rfl⟩
abbrev main_cst_25 : Ref sig .tc := ⟨.hbm, 248, rfl⟩
abbrev main_v155 : Ref sig .tc := ⟨.hbm, 249, rfl⟩
abbrev main_v156 : Ref sig .tc := ⟨.hbm, 250, rfl⟩
abbrev main_cst_26 : Ref sig .tc := ⟨.hbm, 251, rfl⟩
abbrev main_v157 : Ref sig .tc := ⟨.hbm, 252, rfl⟩
abbrev main_v158 : Ref sig .tc := ⟨.hbm, 253, rfl⟩
abbrev main_v159 : Ref sig .tc := ⟨.hbm, 254, rfl⟩
abbrev main_v160 : Ref sig .tc := ⟨.hbm, 255, rfl⟩
abbrev main_cst_27 : Ref sig .tc := ⟨.hbm, 256, rfl⟩
abbrev main_v161 : Ref sig .tc := ⟨.hbm, 257, rfl⟩
abbrev main_v162 : Ref sig .tc := ⟨.hbm, 258, rfl⟩
abbrev main_v163 : Ref sig .tc := ⟨.hbm, 259, rfl⟩
abbrev main_v164 : Ref sig .tc := ⟨.hbm, 260, rfl⟩
abbrev main_v165 : Ref sig .tc := ⟨.hbm, 261, rfl⟩
abbrev main_v166 : Ref sig .tc := ⟨.hbm, 262, rfl⟩
abbrev main_v167 : Ref sig .tc := ⟨.hbm, 263, rfl⟩
abbrev main_v168 : Ref sig .tc := ⟨.hbm, 264, rfl⟩
abbrev main_v169 : Ref sig .tc := ⟨.hbm, 265, rfl⟩
abbrev main_v170 : Ref sig .tc := ⟨.hbm, 266, rfl⟩
abbrev main_v171 : Ref sig .tc := ⟨.hbm, 267, rfl⟩
abbrev main_v172 : Ref sig .tc := ⟨.hbm, 268, rfl⟩
abbrev main_v173 : Ref sig .tc := ⟨.hbm, 269, rfl⟩
abbrev main_v174 : Ref sig .tc := ⟨.hbm, 270, rfl⟩
abbrev main_v175 : Ref sig .tc := ⟨.hbm, 271, rfl⟩
abbrev main_v176 : Ref sig .tc := ⟨.hbm, 272, rfl⟩
abbrev main_v177 : Ref sig .tc := ⟨.hbm, 273, rfl⟩
abbrev main_v178 : Ref sig .tc := ⟨.hbm, 274, rfl⟩
abbrev main_v179 : Ref sig .tc := ⟨.hbm, 275, rfl⟩
abbrev main_v180 : Ref sig .tc := ⟨.hbm, 276, rfl⟩
abbrev main_v181 : Ref sig .tc := ⟨.hbm, 277, rfl⟩
abbrev main_v182 : Ref sig .tc := ⟨.hbm, 278, rfl⟩
abbrev main_v183 : Ref sig .tc := ⟨.hbm, 279, rfl⟩
abbrev main_v184 : Ref sig .tc := ⟨.hbm, 280, rfl⟩
abbrev main_cst_28 : Ref sig .tc := ⟨.hbm, 281, rfl⟩
abbrev main_v185 : Ref sig .tc := ⟨.hbm, 282, rfl⟩
abbrev main_cst_29 : Ref sig .tc := ⟨.hbm, 283, rfl⟩
abbrev main_v186 : Ref sig .tc := ⟨.hbm, 284, rfl⟩
abbrev main_v187 : Ref sig .tc := ⟨.hbm, 285, rfl⟩
abbrev main_v188 : Ref sig .tc := ⟨.hbm, 286, rfl⟩
abbrev main_cst_30 : Ref sig .tc := ⟨.hbm, 287, rfl⟩
abbrev main_v189 : Ref sig .tc := ⟨.hbm, 288, rfl⟩
abbrev main_v190 : Ref sig .tc := ⟨.hbm, 289, rfl⟩
abbrev main_v191 : Ref sig .tc := ⟨.hbm, 290, rfl⟩
abbrev main_v192 : Ref sig .tc := ⟨.hbm, 291, rfl⟩
abbrev main_v193 : Ref sig .tc := ⟨.hbm, 292, rfl⟩
abbrev main_v194 : Ref sig .tc := ⟨.hbm, 293, rfl⟩
abbrev main_v195 : Ref sig .tc := ⟨.hbm, 294, rfl⟩
abbrev main_v196 : Ref sig .tc := ⟨.hbm, 295, rfl⟩
abbrev main_v197 : Ref sig .tc := ⟨.hbm, 296, rfl⟩
abbrev main_v198 : Ref sig .tc := ⟨.hbm, 297, rfl⟩
abbrev main_v199 : Ref sig .tc := ⟨.hbm, 298, rfl⟩
abbrev main_v200 : Ref sig .tc := ⟨.hbm, 299, rfl⟩
abbrev main_v201 : Ref sig .tc := ⟨.hbm, 300, rfl⟩
abbrev main_v202 : Ref sig .tc := ⟨.hbm, 301, rfl⟩
abbrev main_v203 : Ref sig .tc := ⟨.hbm, 302, rfl⟩
abbrev main_cst_31 : Ref sig .tc := ⟨.hbm, 303, rfl⟩
abbrev main_v204 : Ref sig .tc := ⟨.hbm, 304, rfl⟩
abbrev main_cst_32 : Ref sig .tc := ⟨.hbm, 305, rfl⟩
abbrev main_v205 : Ref sig .tc := ⟨.hbm, 306, rfl⟩
abbrev main_v206 : Ref sig .tc := ⟨.hbm, 307, rfl⟩
abbrev main_v207 : Ref sig .tc := ⟨.hbm, 308, rfl⟩
abbrev main_cst_33 : Ref sig .tc := ⟨.hbm, 309, rfl⟩
abbrev main_v208 : Ref sig .tc := ⟨.hbm, 310, rfl⟩
abbrev main_v209 : Ref sig .tc := ⟨.hbm, 311, rfl⟩
abbrev main_cst_34 : Ref sig .tc := ⟨.hbm, 312, rfl⟩
abbrev main_v210 : Ref sig .tc := ⟨.hbm, 313, rfl⟩
abbrev main_v211 : Ref sig .tc := ⟨.hbm, 314, rfl⟩
abbrev main_cst_35 : Ref sig .tc := ⟨.hbm, 315, rfl⟩
abbrev main_v212 : Ref sig .tc := ⟨.hbm, 316, rfl⟩
abbrev main_v213 : Ref sig .tc := ⟨.hbm, 317, rfl⟩
abbrev main_v214 : Ref sig .tc := ⟨.hbm, 318, rfl⟩

abbrev nD : Nat := 1
abbrev τ : Topo := Topo.v7x

variable {F : FTy → Type} [FloatOps F]
-- ==== Kernel2.lean ====
abbrev S8192x4096 : Shape := ⟨2, ![8192, 4096]⟩
abbrev S8192x1024 : Shape := ⟨2, ![8192, 1024]⟩
abbrev S4096x1024 : Shape := ⟨2, ![4096, 1024]⟩
abbrev S2048x2048 : Shape := ⟨2, ![2048, 2048]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4096x1024, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v16 : BitVec 1 := Scalar.cmpi .eq arg2 c3_i32
  let v17 : BitVec 32 := Scalar.extui v16
  let c0_i32_9 : BitVec 32 := 0#32
  let v18 : BitVec 1 := Scalar.cmpi .ne v17 c0_i32_9
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 14
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S_, .f32⟩
  | .hbm, ⟨3, _⟩ => ⟨S4096x1024, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x1024, .f32⟩
  | .hbm, ⟨10, _⟩ => ⟨S8192x1024, .f32⟩
  | .hbm, ⟨11, _⟩ => ⟨S1024x4096, .f32⟩
  | .hbm, ⟨12, _⟩ => ⟨S4096x1024, .f32⟩
  | .hbm, ⟨13, _⟩ => ⟨S4096x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel3.lean ====
abbrev S8192x1024 : Shape := ⟨2, ![8192, 1024]⟩
abbrev S8192x4096 : Shape := ⟨2, ![8192, 4096]⟩
abbrev S8x1024x512 : Shape := ⟨3, ![8, 1024, 512]⟩
abbrev S2048x1024 : Shape := ⟨2, ![2048, 1024]⟩
abbrev S2048x2048 : Shape := ⟨2, ![2048, 2048]⟩
abbrev S4x1024x512 : Shape := ⟨3, ![4, 1024, 512]⟩
abbrev S1024x2048 : Shape := ⟨2, ![1024, 2048]⟩
abbrev S1024x512 : Shape := ⟨2, ![1024, 512]⟩
abbrev S1x1024x512 : Shape := ⟨3, ![1, 1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S8x1024x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S2048x2048, .bf16⟩
  | .local _ .vmem, ⟨4, _⟩ => ⟨S4x1024x512, .bf16⟩
  | .local _ .vmem, ⟨5, _⟩ => ⟨S4x1024x512, .bf16⟩
  | .local _ .vmem, ⟨6, _⟩ => ⟨S1024x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S_, .f32⟩
  | .hbm, ⟨3, _⟩ => ⟨S1024x4096, .f32⟩
  | .hbm, ⟨4, _⟩ => ⟨S8192x1024, .f32⟩
  | .hbm, ⟨5, _⟩ => ⟨S8192x4096, .f32⟩
  | .hbm, ⟨6, _⟩ => ⟨S8192x4096, .f32⟩
  | .hbm, ⟨7, _⟩ => ⟨S4096x1024, .f32⟩
  | .hbm, ⟨8, _⟩ => ⟨S1024x4096, .f32⟩
  | .hbm, ⟨9, _⟩ => ⟨S1024x8x512, .f32⟩
  | .hbm, ⟨10, _⟩ => ⟨S8x1024x512, .f32⟩
  | .hbm, ⟨11, _⟩ => ⟨S8x1024x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel4.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference4Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S8192x3712 : Shape := ⟨2, ![8192, 3712]⟩
abbrev S8192x1024 : Shape := ⟨2, ![8192, 1024]⟩
abbrev S8x450x1024 : Shape := ⟨3, ![8, 450, 1024]⟩
abbrev S1024x3712 : Shape := ⟨2, ![1024, 3712]⟩
abbrev S1024x1024 : Shape := ⟨2, ![1024, 1024]⟩
abbrev S3712x1024 : Shape := ⟨2, ![3712, 1024]⟩
abbrev S450x1024 : Shape := ⟨2, ![450, 1024]⟩
abbrev S1x450x1024 : Shape := ⟨3, ![1, 450, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x3712, .bf16⟩
  | .hbm, ⟨1, _⟩ => ⟨S8192x1024, .bf16⟩
  | .hbm, ⟨2, _⟩ => ⟨S8x450x1024, .bf16⟩
  | .local _ .vmem, ⟨0, _⟩ => ⟨S1024x3712, .bf16⟩
  | .local _ .vmem, ⟨1, _⟩ => ⟨S1024x3712, .bf16⟩
  | .local _ .vmem, ⟨2, _⟩ => ⟨S1024x1024, .bf16⟩
  | .local _ .vmem, ⟨3, _⟩ => ⟨S1024x1024, .bf16⟩
  | .local _ .vmem, ⟨4, _⟩ => ⟨S8x450x1024, .bf16⟩
  | .local _ .vmem, ⟨5, _⟩ => ⟨S3712x1024, .f32⟩
  | _, _ => ⟨S8192x3712, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

abbrev stage0_0 : Fin 2 → Memref sig .tc .vmem S1024x3712 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x450x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]
-- ==== Reference5Ideal.lean ====
abbrev S8192x3712 : Shape := ⟨2, ![8192, 3712]⟩
abbrev S8192x1024 : Shape := ⟨2, ![8192, 1024]⟩
abbrev S_ : Shape := ⟨0, ![]⟩
abbrev S1024x3600 : Shape := ⟨2, ![1024, 3600]⟩
abbrev S8192x3600 : Shape := ⟨2, ![8192, 3600]⟩
abbrev S3600x1024 : Shape := ⟨2, ![3600, 1024]⟩
abbrev S8x450x1024 : Shape := ⟨3, ![8, 450, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8192x3712, .bf16⟩
  | .hbm, ⟨1, _⟩ => ⟨S8192x1024, .bf16⟩
  | .hbm, ⟨2, _⟩ => ⟨S_, .f32⟩
  | .hbm, ⟨3, _⟩ => ⟨S1024x3600, .f32⟩
  | .hbm, ⟨4, _⟩ => ⟨S8192x1024, .f32⟩
  | .hbm, ⟨5, _⟩ => ⟨S8192x3600, .f32⟩
  | .hbm, ⟨6, _⟩ => ⟨S8192x3600, .bf16⟩
  | .hbm, ⟨7, _⟩ => ⟨S8192x3600, .f32⟩
  | .hbm, ⟨8, _⟩ => ⟨S3600x1024, .f32⟩
  | .hbm, ⟨9, _⟩ => ⟨S1024x3600, .f32⟩
  | .hbm, ⟨10, _⟩ => ⟨S3600x1024, .f32⟩
  | .hbm, ⟨11, _⟩ => ⟨S8x450x1024, .f32⟩
  | .hbm, ⟨12, _⟩ => ⟨S8x450x1024, .bf16⟩
  | _, _ => ⟨S8192x3712, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel6.lean ====
abbrev S8192x1024 : Shape := ⟨2, ![8192, 1024]⟩
abbrev S8192x4096 : Shape := ⟨2, ![8192, 4096]⟩
abbrev S8192x1 : Shape := ⟨2, ![8192, 1]⟩
abbrev S8x1024 : Shape := ⟨2, ![8, 1024]⟩
abbrev S1024x1024 : Shape := ⟨2, ![1024, 1024]⟩
abbrev S8x1024x512 : Shape := ⟨3, ![8, 1024, 512]⟩
abbrev S4096x1024 : Shape := ⟨2, ![4096, 1024]⟩
abbrev S512x1024 : Shape := ⟨2, ![512, 1024]⟩
abbrev S512x4096 : Shape := ⟨2, ![512, 4096]⟩
abbrev S512x1 : Shape := ⟨2, ![512, 1]⟩
abbrev S3 : Shape := ⟨1, ![3]⟩
abbrev S1 : Shape := ⟨1, ![1]⟩
abbrev S_ : Shape := ⟨0, ![]⟩
abbrev S1x1024 : Shape := ⟨2, ![1, 1024]⟩
abbrev S512x512 : Shape := ⟨2, ![512, 512]⟩
abbrev S1x1024x512 : Shape := ⟨3, ![1, 1024, 512]⟩
abbrev S1024x512 : Shape := ⟨2, ![1024, 512]⟩
abbrev S512 : Shape := ⟨1, ![512]⟩
abbrev S1024 : Shape := ⟨1, ![1024]⟩

abbrev nBuf : Space → Nat
  | .hbm => 15
  | .vmem => 25
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S8192x1024, .f32⟩
  | .hbm, ⟨3, _⟩ => ⟨S8192x1024, .f32⟩
  | .hbm, ⟨4, _⟩ => ⟨S8192x1, .f32⟩
  | .hbm, ⟨5, _⟩ => ⟨S8192x1024, .bf16⟩
  | .hbm, ⟨6, _⟩ => ⟨S8x1024, .f32⟩
  | .hbm, ⟨7, _⟩ => ⟨S1024x1024, .bf16⟩
  | .hbm, ⟨8, _⟩ => ⟨S8x1024x512, .bf16⟩
  | .hbm, ⟨9, _⟩ => ⟨S4096x1024, .bf16⟩
  | .hbm, ⟨10, _⟩ => ⟨S8192x4096, .bf16⟩
  | .hbm, ⟨11, _⟩ => ⟨S8192x1024, .bf16⟩
  | .hbm, ⟨12, _⟩ => ⟨S8192x1024, .f32⟩
  | .hbm, ⟨13, _⟩ => ⟨S8192x1024, .f32⟩
  | .hbm, ⟨14, _⟩ => ⟨S8x1024, .f32⟩
  | .local _ .vmem, ⟨0, _⟩ => ⟨S512x1024, .bf16⟩
  | .local _ .vmem, ⟨1, _⟩ => ⟨S512x1024, .bf16⟩
  | .local _ .vmem, ⟨2, _⟩ => ⟨S512x4096, .bf16⟩
  | .local _ .vmem, ⟨3, _⟩ => ⟨S512x4096, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1, .f32⟩
  | .local _ .vmem, ⟨9, _⟩ => ⟨S512x1, .f32⟩
  | .local _ .vmem, ⟨10, _⟩ => ⟨S512x1024, .bf16⟩
  | .local _ .vmem, ⟨11, _⟩ => ⟨S512x1024, .bf16⟩
  | .local _ .vmem, ⟨12, _⟩ => ⟨S8x1024, .f32⟩
  | .local _ .vmem, ⟨13, _⟩ => ⟨S512x4096, .bf16⟩
  | .local _ .vmem, ⟨14, _⟩ => ⟨S512x4096, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S8x1024, .f32⟩
  | .local _ .vmem, ⟨22, _⟩ => ⟨S1024x1024, .bf16⟩
  | .local _ .vmem, ⟨23, _⟩ => ⟨S8x1024x512, .bf16⟩
  | .local _ .vmem, ⟨24, _⟩ => ⟨S4096x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference6Ideal.lean ====
abbrev S8192x1024 : Shape := ⟨2, ![8192, 1024]⟩
abbrev S8192x4096 : Shape := ⟨2, ![8192, 4096]⟩
abbrev S8192x1 : Shape := ⟨2, ![8192, 1]⟩
abbrev S8x1024 : Shape := ⟨2, ![8, 1024]⟩
abbrev S1024x1024 : Shape := ⟨2, ![1024, 1024]⟩
abbrev S8x1024x512 : Shape := ⟨3, ![8, 1024, 512]⟩
abbrev S4096x1024 : Shape := ⟨2, ![4096, 1024]⟩
abbrev S_ : Shape := ⟨0, ![]⟩
abbrev S1x1024 : Shape := ⟨2, ![1, 1024]⟩
abbrev S8192 : Shape := ⟨1, ![8192]⟩
abbrev S1024x8x512 : Shape := ⟨3, ![1024, 8, 512]⟩
abbrev S1024x4096 : Shape := ⟨2, ![1024, 4096]⟩
abbrev S1024 : Shape := ⟨1, ![1024]⟩
abbrev S6x1024 : Shape := ⟨2, ![6, 1024]⟩

abbrev nBuf : Space → Nat
  | .hbm => 83
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S8192x1024, .f32⟩
  | .hbm, ⟨3, _⟩ => ⟨S8192x1024, .f32⟩
  | .hbm, ⟨4, _⟩ => ⟨S8192x1, .f32⟩
  | .hbm, ⟨5, _⟩ => ⟨S8192x1024, .bf16⟩
  | .hbm, ⟨6, _⟩ => ⟨S8x1024, .f32⟩
  | .hbm, ⟨7, _⟩ => ⟨S1024x1024, .bf16⟩
  | .hbm, ⟨8, _⟩ => ⟨S8x1024x512, .bf16⟩
  | .hbm, ⟨9, _⟩ => ⟨S4096x1024, .bf16⟩
  | .hbm, ⟨10, _⟩ => ⟨S8192x4096, .f32⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .i1⟩
  | .hbm, ⟨17, _⟩ => ⟨S_, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S4096x1024, .f32⟩
  | .hbm, ⟨24, _⟩ => ⟨S8192x1024, .f32⟩
  | .hbm, ⟨25, _⟩ => ⟨S8192x1024, .f32⟩
  | .hbm, ⟨26, _⟩ => ⟨S8192x4096, .f32⟩
  | .hbm, ⟨27, _⟩ => ⟨S8192x4096, .f32⟩
  | .hbm, ⟨28, _⟩ => ⟨S_, .f32⟩
  | .hbm, ⟨29, _⟩ => ⟨S8192x4096, .f32⟩
  | .hbm, ⟨30, _⟩ => ⟨S8192x4096, .f32⟩
  | .hbm, ⟨31, _⟩ => ⟨S1x1024, .f32⟩
  | .hbm, ⟨32, _⟩ => ⟨S_, .f32⟩
  | .hbm, ⟨33, _⟩ => ⟨S1x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S8192x1, .f32⟩
  | .hbm, ⟨59, _⟩ => ⟨S8192x1, .f32⟩
  | .hbm, ⟨60, _⟩ => ⟨S8192x1, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8x1024x512, .f32⟩
  | .hbm, ⟨68, _⟩ => ⟨S1024x8x512, .f32⟩
  | .hbm, ⟨69, _⟩ => ⟨S1024x4096, .f32⟩
  | .hbm, ⟨70, _⟩ => ⟨S8192x4096, .f32⟩
  | .hbm, ⟨71, _⟩ => ⟨S8192x1024, .f32⟩
  | .hbm, ⟨72, _⟩ => ⟨S_, .f32⟩
  | .hbm, ⟨73, _⟩ => ⟨S1024, .f32⟩
  | .hbm, ⟨74, _⟩ => ⟨S1x1024, .f32⟩
  | .hbm, ⟨75, _⟩ => ⟨S8192x1024, .f32⟩
  | .hbm, ⟨76, _⟩ => ⟨S_, .f32⟩
  | .hbm, ⟨77, _⟩ => ⟨S1024, .f32⟩
  | .hbm, ⟨78, _⟩ => ⟨S1x1024, .f32⟩
  | .hbm, ⟨79, _⟩ => ⟨S8192x4096, .bf16⟩
  | .hbm, ⟨80, _⟩ => ⟨S_, .f32⟩
  | .hbm, ⟨81, _⟩ => ⟨S6x1024, .f32⟩
  | .hbm, ⟨82, _⟩ => ⟨S8x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_call0_cst : Ref sig .tc := ⟨.hbm, 11, rfl⟩
abbrev main_call0_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_4 : Ref sig .tc := ⟨.hbm, 40, rfl⟩
abbrev main_v23 : Ref sig .tc := ⟨.hbm, 41, rfl⟩
abbrev main_v24 : Ref sig .tc := ⟨.hbm, 42, rfl⟩
abbrev main_cst_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_6 : Ref sig .tc := ⟨.hbm, 49, rfl⟩
abbrev main_v30 : Ref sig .tc := ⟨.hbm, 50, rfl⟩
abbrev main_v31 : Ref sig .tc := ⟨.hbm, 51, rfl⟩
abbrev main_cst_7 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_8 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_9 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_11 : Ref sig .tc := ⟨.hbm, 80, rfl⟩
abbrev main_v56 : Ref sig .tc := ⟨.hbm, 81, rfl⟩
abbrev main_v57 : Ref sig .tc := ⟨.hbm, 82, rfl⟩

abbrev nD : Nat := 1
abbrev τ : Topo := Topo.v7x

variable {F : FTy → Type} [FloatOps F]
-- ==== Kernel7.lean ====
abbrev S8192x3712 : Shape := ⟨2, ![8192, 3712]⟩
abbrev S8192x1024 : Shape := ⟨2, ![8192, 1024]⟩
abbrev S1x1024 : Shape := ⟨2, ![1, 1024]⟩
abbrev S3600x1024 : Shape := ⟨2, ![3600, 1024]⟩
abbrev S8x128 : Shape := ⟨2, ![8, 128]⟩
abbrev S8x1024 : Shape := ⟨2, ![8, 1024]⟩
abbrev S1024x3712 : Shape := ⟨2, ![1024, 3712]⟩
abbrev S1024x1024 : Shape := ⟨2, ![1024, 1024]⟩
abbrev S3712x1024 : Shape := ⟨2, ![3712, 1024]⟩
abbrev S1 : Shape := ⟨1, ![1]⟩
abbrev S112x1024 : Shape := ⟨2, ![112, 1024]⟩
abbrev S_ : Shape := ⟨0, ![]⟩
abbrev S1024 : Shape := ⟨1, ![1024]⟩
abbrev S1024x1 : Shape := ⟨2, ![1024, 1]⟩

abbrev nBuf : Space → Nat
  | .hbm => 8
  | .vmem => 11
  | .smem => 0
  | _ => 0

abbrev bufTy : (tb : Table) → Fin (tcTables nBuf tb) → BufTy
  | .hbm, ⟨0, _⟩ => ⟨S8192x3712, .bf16⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S3600x1024, .bf16⟩
  | .hbm, ⟨5, _⟩ => ⟨S8x128, .f32⟩
  | .hbm, ⟨6, _⟩ => ⟨S8192x1024, .f32⟩
  | .hbm, ⟨7, _⟩ => ⟨S8x1024, .f32⟩
  | .local _ .vmem, ⟨0, _⟩ => ⟨S1024x3712, .bf16⟩
  | .local _ .vmem, ⟨1, _⟩ => ⟨S1024x3712, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S8x1024, .f32⟩
  | .local _ .vmem, ⟨10, _⟩ => ⟨S3712x1024, .bf16⟩
  | _, _ => ⟨S8192x3712, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x3712 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference7Ideal.lean ====
abbrev S8192x3712 : Shape := ⟨2, ![8192, 3712]⟩
abbrev S8192x1024 : Shape := ⟨2, ![8192, 1024]⟩
abbrev S1x1024 : Shape := ⟨2, ![1, 1024]⟩
abbrev S3600x1024 : Shape := ⟨2, ![3600, 1024]⟩
abbrev S8x128 : Shape := ⟨2, ![8, 128]⟩
abbrev S_ : Shape := ⟨0, ![]⟩
abbrev S8192 : Shape := ⟨1, ![8192]⟩
abbrev S8192x1 : Shape := ⟨2, ![8192, 1]⟩
abbrev S1024x3600 : Shape := ⟨2, ![1024, 3600]⟩
abbrev S8192x3600 : Shape := ⟨2, ![8192, 3600]⟩
abbrev S1024 : Shape := ⟨1, ![1024]⟩
abbrev S6x1024 : Shape := ⟨2, ![6, 1024]⟩
abbrev S8x1024 : Shape := ⟨2, ![8, 1024]⟩

abbrev nBuf : Space → Nat
  | .hbm => 92
  | .vmem => 0
  | .smem => 0
  | _ => 0

abbrev bufTy : (tb : Table) → Fin (tcTables nBuf tb) → BufTy
  | .hbm, ⟨0, _⟩ => ⟨S8192x3712, .bf16⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S3600x1024, .bf16⟩
  | .hbm, ⟨5, _⟩ => ⟨S8x128, .f32⟩
  | .hbm, ⟨6, _⟩ => ⟨S_, .f32⟩
  | .hbm, ⟨7, _⟩ => ⟨S1x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S3600x1024, .f32⟩
  | .hbm, ⟨43, _⟩ => ⟨S1024x3600, .f32⟩
  | .hbm, ⟨44, _⟩ => ⟨S8192x3600, .f32⟩
  | .hbm, ⟨45, _⟩ => ⟨S8192x3600, .bf16⟩
  | .hbm, ⟨46, _⟩ => ⟨S8192x3600, .f32⟩
  | .hbm, ⟨47, _⟩ => ⟨S8192x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S8192, .f32⟩
  | .hbm, ⟨60, _⟩ => ⟨S8192x1, .f32⟩
  | .hbm, ⟨61, _⟩ => ⟨S8192x1024, .f32⟩
  | .hbm, ⟨62, _⟩ => ⟨S8192x1024, .f32⟩
  | .hbm, ⟨63, _⟩ => ⟨S8192x1, .f32⟩
  | .hbm, ⟨64, _⟩ => ⟨S8192x1024, .f32⟩
  | .hbm, ⟨65, _⟩ => ⟨S_, .f32⟩
  | .hbm, ⟨66, _⟩ => ⟨S8192, .f32⟩
  | .hbm, ⟨67, _⟩ => ⟨S8192x1, .f32⟩
  | .hbm, ⟨68, _⟩ => ⟨S_, .f32⟩
  | .hbm, ⟨69, _⟩ => ⟨S8192x1, .f32⟩
  | .hbm, ⟨70, _⟩ => ⟨S8192x1, .f32⟩
  | .hbm, ⟨71, _⟩ => ⟨S_, .f32⟩
  | .hbm, ⟨72, _⟩ => ⟨S8192, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S_, .f32⟩
  | .hbm, ⟨77, _⟩ => ⟨S8192, .f32⟩
  | .hbm, ⟨78, _⟩ => ⟨S8192x1, .f32⟩
  | .hbm, ⟨79, _⟩ => ⟨S8192x1024, .f32⟩
  | .hbm, ⟨80, _⟩ => ⟨S8192x1, .f32⟩
  | .hbm, ⟨81, _⟩ => ⟨S_, .f32⟩
  | .hbm, ⟨82, _⟩ => ⟨S8192x1, .f32⟩
  | .hbm, ⟨83, _⟩ => ⟨S8192x1, .f32⟩
  | .hbm, ⟨84, _⟩ => ⟨S_, .f32⟩
  | .hbm, ⟨85, _⟩ => ⟨S8192, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S_, .f32⟩
  | .hbm, ⟨90, _⟩ => ⟨S6x1024, .f32⟩
  | .hbm, ⟨91, _⟩ => ⟨S8x1024, .f32⟩
  | _, _ => ⟨S8192x3712, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_cst_4 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_5 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_6 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_10 : Ref sig .tc := ⟨.hbm, 65, rfl⟩
abbrev main_v48 : Ref sig .tc := ⟨.hbm, 66, rfl⟩
abbrev main_v49 : Ref sig .tc := ⟨.hbm, 67, rfl⟩
abbrev main_cst_11 : Ref sig .tc := ⟨.hbm, 68, rfl⟩
abbrev main_v50 : Ref sig .tc := ⟨.hbm, 69, rfl⟩
abbrev main_v51 : Ref sig .tc := ⟨.hbm, 70, rfl⟩
abbrev main_cst_12 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_13 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_14 : Ref sig .tc := ⟨.hbm, 81, rfl⟩
abbrev main_v60 : Ref sig .tc := ⟨.hbm, 82, rfl⟩
abbrev main_v61 : Ref sig .tc := ⟨.hbm, 83, rfl⟩
abbrev main_cst_15 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_16 : Ref sig .tc := ⟨.hbm, 89, rfl⟩
abbrev main_v66 : Ref sig .tc := ⟨.hbm, 90, rfl⟩
abbrev main_v67 : Ref sig .tc := ⟨.hbm, 91, rfl⟩

abbrev nD : Nat := 1
abbrev τ : Topo := Topo.v7x

variable {F : FTy → Type} [FloatOps F]
-- ==== Kernel8.lean ====
abbrev S8192x1024 : Shape := ⟨2, ![8192, 1024]⟩
abbrev S1x1024 : Shape := ⟨2, ![1, 1024]⟩
abbrev S3600x1024 : Shape := ⟨2, ![3600, 1024]⟩
abbrev S8x128 : Shape := ⟨2, ![8, 128]⟩
abbrev S8192x3712 : Shape := ⟨2, ![8192, 3712]⟩
abbrev S512x1024 : Shape := ⟨2, ![512, 1024]⟩
abbrev S512x3712 : Shape := ⟨2, ![512, 3712]⟩
abbrev S3712x1024 : Shape := ⟨2, ![3712, 1024]⟩
abbrev S1 : Shape := ⟨1, ![1]⟩
abbrev S112x1024 : Shape := ⟨2, ![112, 1024]⟩
abbrev S_ : Shape := ⟨0, ![]⟩
abbrev S512 : Shape := ⟨1, ![512]⟩
abbrev S512x1 : Shape := ⟨2, ![512, 1]⟩

abbrev nBuf : Space → Nat
  | .hbm => 7
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S3600x1024, .bf16⟩
  | .hbm, ⟨4, _⟩ => ⟨S8x128, .f32⟩
  | .hbm, ⟨5, _⟩ => ⟨S8192x3712, .f32⟩
  | .hbm, ⟨6, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x3712, .f32⟩
  | .local _ .vmem, ⟨5, _⟩ => ⟨S512x3712, .f32⟩
  | .local _ .vmem, ⟨6, _⟩ => ⟨S512x1024, .bf16⟩
  | .local _ .vmem, ⟨7, _⟩ => ⟨S512x1024, .bf16⟩
  | .local _ .vmem, ⟨8, _⟩ => ⟨S3712x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3712 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference8Ideal.lean ====
abbrev S8192x1024 : Shape := ⟨2, ![8192, 1024]⟩
abbrev S1x1024 : Shape := ⟨2, ![1, 1024]⟩
abbrev S3600x1024 : Shape := ⟨2, ![3600, 1024]⟩
abbrev S8x128 : Shape := ⟨2, ![8, 128]⟩
abbrev S_ : Shape := ⟨0, ![]⟩
abbrev S8192 : Shape := ⟨1, ![8192]⟩
abbrev S8192x1 : Shape := ⟨2, ![8192, 1]⟩
abbrev S1024x3600 : Shape := ⟨2, ![1024, 3600]⟩
abbrev S8192x3600 : Shape := ⟨2, ![8192, 3600]⟩
abbrev S8192x3712 : Shape := ⟨2, ![8192, 3712]⟩

abbrev nBuf : Space → Nat
  | .hbm => 39
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S3600x1024, .bf16⟩
  | .hbm, ⟨4, _⟩ => ⟨S8x128, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S3600x1024, .f32⟩
  | .hbm, ⟨33, _⟩ => ⟨S1024x3600, .f32⟩
  | .hbm, ⟨34, _⟩ => ⟨S8192x3600, .f32⟩
  | .hbm, ⟨35, _⟩ => ⟨S_, .i32⟩
  | .hbm, ⟨36, _⟩ => ⟨S_, .f32⟩
  | .hbm, ⟨37, _⟩ => ⟨S8192x3712, .f32⟩
  | .hbm, ⟨38, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c : Ref sig .tc := ⟨.hbm, 35, rfl⟩
abbrev main_call0_v0 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]
-- ==== Kernel9.lean ====
abbrev S8192x1024 : Shape := ⟨2, ![8192, 1024]⟩
abbrev S8x1024 : Shape := ⟨2, ![8, 1024]⟩
abbrev S1024x1024 : Shape := ⟨2, ![1024, 1024]⟩
abbrev S8x1024x512 : Shape := ⟨3, ![8, 1024, 512]⟩
abbrev S4096x1024 : Shape := ⟨2, ![4096, 1024]⟩
abbrev S8192x1 : Shape := ⟨2, ![8192, 1]⟩
abbrev S8192x4096 : Shape := ⟨2, ![8192, 4096]⟩
abbrev S512x1024 : Shape := ⟨2, ![512, 1024]⟩
abbrev S512x1 : Shape := ⟨2, ![512, 1]⟩
abbrev S512x4096 : Shape := ⟨2, ![512, 4096]⟩
abbrev S3 : Shape := ⟨1, ![3]⟩
abbrev S1 : Shape := ⟨1, ![1]⟩
abbrev S_ : Shape := ⟨0, ![]⟩
abbrev S1x1024 : Shape := ⟨2, ![1, 1024]⟩
abbrev S512 : Shape := ⟨1, ![512]⟩
abbrev S1x1024x512 : Shape := ⟨3, ![1, 1024, 512]⟩
abbrev S1024x512 : Shape := ⟨2, ![1024, 512]⟩
abbrev S512x512 : Shape := ⟨2, ![512, 512]⟩
abbrev S1024 : Shape := ⟨1, ![1024]⟩

abbrev nBuf : Space → Nat
  | .hbm => 15
  | .vmem => 25
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8192x1024, .f32⟩
  | .hbm, ⟨3, _⟩ => ⟨S8x1024, .f32⟩
  | .hbm, ⟨4, _⟩ => ⟨S1024x1024, .bf16⟩
  | .hbm, ⟨5, _⟩ => ⟨S8x1024x512, .bf16⟩
  | .hbm, ⟨6, _⟩ => ⟨S4096x1024, .bf16⟩
  | .hbm, ⟨7, _⟩ => ⟨S8192x1024, .bf16⟩
  | .hbm, ⟨8, _⟩ => ⟨S8192x1024, .f32⟩
  | .hbm, ⟨9, _⟩ => ⟨S8192x1, .f32⟩
  | .hbm, ⟨10, _⟩ => ⟨S8192x1024, .bf16⟩
  | .hbm, ⟨11, _⟩ => ⟨S8192x4096, .bf16⟩
  | .hbm, ⟨12, _⟩ => ⟨S8192x1024, .bf16⟩
  | .hbm, ⟨13, _⟩ => ⟨S8192x1024, .f32⟩
  | .hbm, ⟨14, _⟩ => ⟨S8x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x1024, .f32⟩
  | .local _ .vmem, ⟨7, _⟩ => ⟨S512x1024, .bf16⟩
  | .local _ .vmem, ⟨8, _⟩ => ⟨S512x1024, .bf16⟩
  | .local _ .vmem, ⟨9, _⟩ => ⟨S512x1024, .f32⟩
  | .local _ .vmem, ⟨10, _⟩ => ⟨S512x1024, .f32⟩
  | .local _ .vmem, ⟨11, _⟩ => ⟨S512x1, .f32⟩
  | .local _ .vmem, ⟨12, _⟩ => ⟨S512x1, .f32⟩
  | .local _ .vmem, ⟨13, _⟩ => ⟨S512x1024, .bf16⟩
  | .local _ .vmem, ⟨14, _⟩ => ⟨S512x1024, .bf16⟩
  | .local _ .vmem, ⟨15, _⟩ => ⟨S512x4096, .bf16⟩
  | .local _ .vmem, ⟨16, _⟩ => ⟨S512x4096, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .f32⟩
  | .local _ .vmem, ⟨20, _⟩ => ⟨S512x1024, .f32⟩
  | .local _ .vmem, ⟨21, _⟩ => ⟨S8x1024, .f32⟩
  | .local _ .vmem, ⟨22, _⟩ => ⟨S1024x1024, .bf16⟩
  | .local _ .vmem, ⟨23, _⟩ => ⟨S8x1024x512, .bf16⟩
  | .local _ .vmem, ⟨24, _⟩ => ⟨S4096x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev main_v0_6 : Ref sig .tc := ⟨.hbm, 13, rfl⟩
abbrev main_v0_7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference9Ideal.lean ====
abbrev S8192x1024 : Shape := ⟨2, ![8192, 1024]⟩
abbrev S8x1024 : Shape := ⟨2, ![8, 1024]⟩
abbrev S1024x1024 : Shape := ⟨2, ![1024, 1024]⟩
abbrev S8x1024x512 : Shape := ⟨3, ![8, 1024, 512]⟩
abbrev S4096x1024 : Shape := ⟨2, ![4096, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024x8x512 : Shape := ⟨3, ![1024, 8, 512]⟩
abbrev S1024x4096 : Shape := ⟨2, ![1024, 4096]⟩
abbrev S8192x4096 : Shape := ⟨2, ![8192, 4096]⟩
abbrev S1024 : Shape := ⟨1, ![1024]⟩
abbrev S6x1024 : Shape := ⟨2, ![6, 1024]⟩

abbrev nBuf : Space → Nat
  | .hbm => 176
  | .vmem => 0
  | .smem => 0
  | _ => 0

abbrev hbmTy0_0 (i : Nat) : BufTy := match i % 128 with
  | 0 => ⟨S8192x1024, .bf16⟩
  | 1 => ⟨S8192x1024, .f32⟩
  | 2 => ⟨S8192x1024, .f32⟩
  | 3 => ⟨S8x1024, .f32⟩
  | 4 => ⟨S1024x1024, .bf16⟩
  | 5 => ⟨S8x1024x512, .bf16⟩
  | 6 => ⟨S4096x1024, .bf16⟩
  | 7 => ⟨S1x1024, .f32⟩
  | 8 => ⟨S1x1024, .f32⟩
  | 9 => ⟨S1x1024, .f32⟩
  | 10 => ⟨S1x1024, .f32⟩
  | 11 => ⟨S1x1024, .f32⟩
  | 12 => ⟨S1x1024, .f32⟩
  | 13 => ⟨S1x1024, .f32⟩
  | 14 => ⟨S1x1024, .f32⟩
  | 15 => ⟨S8192x1024, .f32⟩
  | 16 => ⟨S1024x1024, .f32⟩
  | 17 => ⟨S8192x1024, .f32⟩
  | 18 => ⟨S_, .f32⟩
  | 19 => ⟨S8192x1024, .f32⟩
  | 20 => ⟨S8192x1024, .f32⟩
  | 21 => ⟨S8192x1024, .f32⟩
  | 22 => ⟨S8192x1024, .f32⟩
  | 23 => ⟨S8192x1024, .f32⟩
  | 24 => ⟨S_, .f32⟩
  | 25 => ⟨S8192, .f32⟩
  | 26 => ⟨S8192x1, .f32⟩
  | 27 => ⟨S_, .f32⟩
  | 28 => ⟨S8192x1, .f32⟩
  | 29 => ⟨S8192x1, .f32⟩
  | 30 => ⟨S8192x1024, .f32⟩
  | 31 => ⟨S8192x1024, .f32⟩
  | 32 => ⟨S8192x1024, .f32⟩
  | 33 => ⟨S_, .f32⟩
  | 34 => ⟨S8192, .f32⟩
  | 35 => ⟨S8192x1, .f32⟩
  | 36 => ⟨S_, .f32⟩
  | 37 => ⟨S8192x1, .f32⟩
  | 38 => ⟨S8192x1, .f32⟩
  | 39 => ⟨S8192x1024, .f32⟩
  | 40 => ⟨S8192x1024, .f32⟩
  | 41 => ⟨S_, .f32⟩
  | 42 => ⟨S8192x1, .f32⟩
  | 43 => ⟨S8192x1, .f32⟩
  | 44 => ⟨S8192x1, .f32⟩
  | 45 => ⟨S8192x1024, .f32⟩
  | 46 => ⟨S8192x1024, .f32⟩
  | 47 => ⟨S_, .f32⟩
  | 48 => ⟨S8192, .f32⟩
  | 49 => ⟨S8192x1, .f32⟩
  | 50 => ⟨S_, .f32⟩
  | 51 => ⟨S8192x1, .f32⟩
  | 52 => ⟨S8192x1, .f32⟩
  | 53 => ⟨S8192x1024, .f32⟩
  | 54 => ⟨S8192x1024, .f32⟩
  | 55 => ⟨S8192x1024, .f32⟩
  | 56 => ⟨S_, .f32⟩
  | 57 => ⟨S8192, .f32⟩
  | 58 => ⟨S8192x1, .f32⟩
  | 59 => ⟨S_, .f32⟩
  | 60 => ⟨S8192x1, .f32⟩
  | 61 => ⟨S8192x1, .f32⟩
  | 62 => ⟨S_, .f32⟩
  | 63 => ⟨S8192x1, .f32⟩
  | 64 => ⟨S8192x1, .f32⟩
  | 65 => ⟨S8192x1, .f32⟩
  | 66 => ⟨S8192x1024, .f32⟩
  | 67 => ⟨S8192x1024, .f32⟩
  | 68 => ⟨S8192x1024, .f32⟩
  | 69 => ⟨S8192x1024, .f32⟩
  | 70 => ⟨S_, .f32⟩
  | 71 => ⟨S8192, .f32⟩
  | 72 => ⟨S8192x1, .f32⟩
  | 73 => ⟨S_, .f32⟩
  | 74 => ⟨S8192x1, .f32⟩
  | 75 => ⟨S8192x1, .f32⟩
  | 76 => ⟨S8192x1024, .f32⟩
  | 77 => ⟨S8192x1024, .f32⟩
  | 78 => ⟨S8192x1024, .f32⟩
  | 79 => ⟨S_, .f32⟩
  | 80 => ⟨S8192, .f32⟩
  | 81 => ⟨S8192x1, .f32⟩
  | 82 => ⟨S_, .f32⟩
  | 83 => ⟨S8192x1, .f32⟩
  | 84 => ⟨S8192x1, .f32⟩
  | 85 => ⟨S8192x1024, .f32⟩
  | 86 => ⟨S8192x1024, .f32⟩
  | 87 => ⟨S_, .f32⟩
  | 88 => ⟨S8192x1, .f32⟩
  | 89 => ⟨S8192x1, .f32⟩
  | 90 => ⟨S8192x1, .f32⟩
  | 91 => ⟨S8192x1024, .f32⟩
  | 92 => ⟨S8192x1024, .f32⟩
  | 93 => ⟨S8192x1024, .f32⟩
  | 94 => ⟨S8192x1024, .f32⟩
  | 95 => ⟨S8192x1024, .f32⟩
  | 96 => ⟨S8192x1024, .f32⟩
  | 97 => ⟨S8x1024x512, .f32⟩
  | 98 => ⟨S1024x8x512, .f32⟩
  | 99 => ⟨S1024x4096, .f32⟩
  | 100 => ⟨S8192x4096, .f32⟩
  | 101 => ⟨S_, .f32⟩
  | 102 => ⟨S8192x4096, .f32⟩
  | 103 => ⟨S8192x4096, .f32⟩
  | 104 => ⟨S8192x4096, .f32⟩
  | 105 => ⟨S4096x1024, .f32⟩
  | 106 => ⟨S8192x1024, .f32⟩
  | 107 => ⟨S_, .f32⟩
  | 108 => ⟨S8192x1024, .f32⟩
  | 109 => ⟨S8192x1024, .f32⟩
  | 110 => ⟨S8192x1024, .f32⟩
  | 111 => ⟨S8192x1024, .f32⟩
  | 112 => ⟨S8192x1024, .f32⟩
  | 113 => ⟨S_, .f32⟩
  | 114 => ⟨S8192, .f32⟩
  | 115 => ⟨S8192x1, .f32⟩
  | 116 => ⟨S_, .f32⟩
  | 117 => ⟨S8192x1, .f32⟩
  | 118 => ⟨S8192x1, .f32⟩
  | 119 => ⟨S8192x1024, .f32⟩
  | 120 => ⟨S8192x1024, .f32⟩
  | 121 => ⟨S8192x1024, .f32⟩
  | 122 => ⟨S_, .f32⟩
  | 123 => ⟨S8192, .f32⟩
  | 124 => ⟨S8192x1, .f32⟩
  | 125 => ⟨S_, .f32⟩
  | 126 => ⟨S8192x1, .f32⟩
  | 127 => ⟨S8192x1, .f32⟩
  | _ => ⟨S8192x1024, .bf16⟩

abbrev hbmTy0_1 (i : Nat) : BufTy := match i % 128 with
  | 0 => ⟨S8192x1024, .f32⟩
  | 1 => ⟨S8192x1024, .f32⟩
  | 2 => ⟨S_, .f32⟩
  | 3 => ⟨S8192x1, .f32⟩
  | 4 => ⟨S8192x1, .f32⟩
  | 5 => ⟨S8192x1, .f32⟩
  | 6 => ⟨S8192x1024, .f32⟩
  | 7 => ⟨S8192x1024, .f32⟩
  | 8 => ⟨S8192x1024, .f32⟩
  | 9 => ⟨S8192x1024, .f32⟩
  | 10 => ⟨S8192x1024, .f32⟩
  | 11 => ⟨S8192x1024, .f32⟩
  | 12 => ⟨S8192x1024, .f32⟩
  | 13 => ⟨S8192x1024, .f32⟩
  | 14 => ⟨S_, .f32⟩
  | 15 => ⟨S8192x1024, .f32⟩
  | 16 => ⟨S8192x1024, .f32⟩
  | 17 => ⟨S_, .f32⟩
  | 18 => ⟨S8192, .f32⟩
  | 19 => ⟨S_, .f32⟩
  | 20 => ⟨S8192, .f32⟩
  | 21 => ⟨S8192, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S8192, .f32⟩
  | 30 => ⟨S_, .f32⟩
  | 31 => ⟨S8192, .f32⟩
  | 32 => ⟨S8192, .f32⟩
  | 33 => ⟨S8192x1024, .f32⟩
  | 34 => ⟨S8192x1024, .f32⟩
  | 35 => ⟨S_, .f32⟩
  | 36 => ⟨S1024, .f32⟩
  | 37 => ⟨S1x1024, .f32⟩
  | 38 => ⟨S8192x1024, .f32⟩
  | 39 => ⟨S_, .f32⟩
  | 40 => ⟨S1024, .f32⟩
  | 41 => ⟨S1x1024, .f32⟩
  | 42 => ⟨S8192x1024, .bf16⟩
  | 43 => ⟨S8192x1024, .bf16⟩
  | 44 => ⟨S8192x4096, .bf16⟩
  | 45 => ⟨S_, .f32⟩
  | 46 => ⟨S6x1024, .f32⟩
  | 47 => ⟨S8x1024, .f32⟩
  | _ => ⟨S8192x1024, .bf16⟩

abbrev hbmTy (i : Nat) : BufTy := match i / 128 with
  | 0 => hbmTy0_0 i
  | 1 => hbmTy0_1 i
  | _ => ⟨S8192x1024, .bf16⟩

abbrev bufTy : (tb : Table) → Fin (tcTables nBuf tb) → BufTy
  | .hbm, ⟨i, _⟩ => hbmTy i
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_10 : Ref sig .tc := ⟨.hbm, 70, rfl⟩
abbrev main_v52 : Ref sig .tc := ⟨.hbm, 71, rfl⟩
abbrev main_v53 : Ref sig .tc := ⟨.hbm, 72, rfl⟩
abbrev main_cst_11 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_12 : Ref sig .tc := ⟨.hbm, 79, rfl⟩
abbrev main_v59 : Ref sig .tc := ⟨.hbm, 80, rfl⟩
abbrev main_v60 : Ref sig .tc := ⟨.hbm, 81, rfl⟩
abbrev main_cst_13 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_14 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_call0_cst : Ref sig .tc := ⟨.hbm, 101, rfl⟩
abbrev main_call0_v0 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_cst_15 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_cst_16 : Ref sig .tc := ⟨.hbm, 113, rfl⟩
abbrev main_v87 : Ref sig .tc := ⟨.hbm, 114, rfl⟩
abbrev main_v88 : Ref sig .tc := ⟨.hbm, 115, rfl⟩
abbrev main_cst_17 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_cst_18 : Ref sig .tc := ⟨.hbm, 122, rfl⟩
abbrev main_v94 : Ref sig .tc := ⟨.hbm, 123, rfl⟩
abbrev main_v95 : Ref sig .tc := ⟨.hbm, 124, rfl⟩
abbrev main_cst_19 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_cst_20 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_cst_21 : Ref sig .tc := ⟨.hbm, 142, rfl⟩
abbrev main_v111 : Ref sig .tc := ⟨.hbm, 143, rfl⟩
abbrev main_v112 : Ref sig .tc := ⟨.hbm, 144, rfl⟩
abbrev main_cst_22 : Ref sig .tc := ⟨.hbm, 145, rfl⟩
abbrev main_v113 : Ref sig .tc := ⟨.hbm, 146, rfl⟩
abbrev main_cst_23 : Ref sig .tc := ⟨.hbm, 147, rfl⟩
abbrev main_v114 : Ref sig .tc := ⟨.hbm, 148, rfl⟩
abbrev main_v115 : Ref sig .tc := ⟨.hbm, 149, rfl⟩
abbrev main_cst_24 : Ref sig .tc := ⟨.hbm, 150, rfl⟩
abbrev main_v116 : Ref sig .tc := ⟨.hbm, 151, rfl⟩
abbrev main_cst_25 : Ref sig .tc := ⟨.hbm, 152, rfl⟩
abbrev main_v117 : Ref sig .tc := ⟨.hbm, 153, rfl⟩
abbrev main_cst_26 : Ref sig .tc := ⟨.hbm, 154, rfl⟩
abbrev main_cst_27 : Ref sig .tc := ⟨.hbm, 155, rfl⟩
abbrev main_v118 : Ref sig .tc := ⟨.hbm, 156, rfl⟩
abbrev main_v119 : Ref sig .tc := ⟨.hbm, 157, rfl⟩
abbrev main_cst_28 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_cst_29 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_cst_30 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_cst_31 : Ref sig .tc := ⟨.hbm, 173, rfl⟩
abbrev main_v132 : Ref sig .tc := ⟨.hbm, 174, rfl⟩
abbrev main_v133 : Ref sig .tc := ⟨.hbm, 175, rfl⟩

abbrev nD : Nat := 1
abbrev τ : Topo := Topo.v7x

variable {F : FTy → Type} [FloatOps F]
-- ==== Proof.Body.lean ====
/- What the runs of the backward mixer call share: the branch condition, each window's staging buffer at a point, the two scratch buffers. -/
module

public import proofs.«01_k».proof.Proof.Gen.KernelIdeal.Frame
public import proofs.«01_k».proof.Proof.Gen.KernelIdeal.Skeleton

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The condition of the body's one branch, from the grid coordinates. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

/-- The gradient's staging buffer, through which its contents are stated. -/
abbrev VO0_21 : View sig .tc .vmem S512x3712 .bf16 := (Memref.whole cc0_stg21_0 : Memref sig .tc .vmem S512x3712 .bf16).view

/-- Each window's staging buffer at point `t`, as the pipeline passes it, and that it is whole. -/
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S4x256x256 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S8x256x128 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S4x256x128 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S2x8x256 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S2x512x128 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S4x128x256 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S128x256 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1x256 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S1x512 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S1x512 .f32 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S512x3712 .bf16 := win0_21.stage (cfg0.slots t 21)
abbrev hs0_21 (t : Fin cfg0.N) : (ms0_21 t).IsWhole := hstage0_21 ((cfg0.slots t 21).cast nbuf0_21)
abbrev ms0_22 (t : Fin cfg0.N) : Memref sig .tc .vmem S128x256 .f32 := win0_22.stage (cfg0.slots t 22)
abbrev hs0_22 (t : Fin cfg0.N) : (ms0_22 t).IsWhole := hstage0_22 ((cfg0.slots t 22).cast nbuf0_22)
abbrev ms0_23 (t : Fin cfg0.N) : Memref sig .tc .vmem S8x512 .f32 := win0_23.stage (cfg0.slots t 23)
abbrev hs0_23 (t : Fin cfg0.N) : (ms0_23 t).IsWhole := hstage0_23 ((cfg0.slots t 23).cast nbuf0_23)
/-- The scratch: the retention state's cotangent and the gated attention's. -/
abbrev scM0_0 : Memref sig .tc .vmem S512x128 .f32 := Memref.whole cc0_scratch0
abbrev scM0_1 : Memref sig .tc .vmem S128x256 .f32 := Memref.whole cc0_scratch1
/-- The first as a view. -/
abbrev VS0_0 : View sig .tc .vmem S512x128 .f32 := scM0_0.view
/-- The second as a view. -/
abbrev VS0_1 : View sig .tc .vmem S128x256 .f32 := scM0_1.view

/-- The launch's invariant with the two scratch buffers owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.RunA.lean ====
/- The body's run at the first point (the scratch is zeroed first): what its stores leave in the gradient's block and in the two states' cotangents. -/
module

public import proofs.«01_k».proof.Proof.Body

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 6000000 in
/-- The body at the first point (the scratch is zeroed first): from the inputs' blocks it runs to the end, leaves the inputs as they were, and leaves the
    pieces `L21` in the gradient's block and `LS0`, `LS1` in the two states' cotangents; nothing is said of the other
    outputs. -/
noncomputable def kernelRun0_A (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x128 .f32) (harg10 : arg10.IsWhole) (arg11 : Memref sig .tc .vmem S512x1024 .f32) (harg11 : arg11.IsWhole) (arg12 : Memref sig .tc .vmem S4x256x256 .f32) (harg12 : arg12.IsWhole) (arg13 : Memref sig .tc .vmem S8x256x128 .f32) (harg13 : arg13.IsWhole) (arg14 : Memref sig .tc .vmem S4x256x128 .f32) (harg14 : arg14.IsWhole) (arg15 : Memref sig .tc .vmem S2x8x256 .f32) (harg15 : arg15.IsWhole) (arg16 : Memref sig .tc .vmem S2x512x128 .f32) (harg16 : arg16.IsWhole) (arg17 : Memref sig .tc .vmem S4x128x256 .f32) (harg17 : arg17.IsWhole) (arg18 : Memref sig .tc .vmem S128x256 .f32) (harg18 : arg18.IsWhole) (arg19 : Memref sig .tc .vmem S1x256 .f32) (harg19 : arg19.IsWhole) (arg20 : Memref sig .tc .vmem S1x512 .f32) (harg20 : arg20.IsWhole) (arg21 : Memref sig .tc .vmem S1x512 .f32) (harg21 : arg21.IsWhole) (arg23 : Memref sig .tc .vmem S512x3712 .bf16) (harg23 : arg23.IsWhole) (arg24 : Memref sig .tc .vmem S128x256 .f32) (harg24 : arg24.IsWhole) (arg25 : Memref sig .tc .vmem S8x512 .f32) (harg25 : arg25.IsWhole) (arg26 : Memref sig .tc .vmem S512x128 .f32) (harg26 : arg26.IsWhole) (arg27 : Memref sig .tc .vmem S128x256 .f32) (harg27 : arg27.IsWhole) (hc0 : cond0_0 i)
    (x0 : Vec F S512x1024 .f32) (x1 : Vec F S512x512 .bf16) (x2 : Vec F S512x512 .bf16) (x3 : Vec F S512x512 .f32) (x4 : Vec F S512x512 .f32) (x5 : Vec F S512x256 .f32) (x6 : Vec F S512x256 .f32) (x7 : Vec F S512x512 .f32) (x8 : Vec F S512x512 .f32) (x9 : Vec F S512x128 .f32) (x10 : Vec F S512x1024 .f32) (x11 : Vec F S4x256x256 .f32) (x12 : Vec F S8x256x128 .f32) (x13 : Vec F S4x256x128 .f32) (x14 : Vec F S2x8x256 .f32) (x15 : Vec F S2x512x128 .f32) (x16 : Vec F S4x128x256 .f32) (x17 : Vec F S128x256 .f32) (x18 : Vec F S1x256 .f32) (x19 : Vec F S1x512 .f32) (x20 : Vec F S1x512 .f32) :
    Σ' (L21 : List (View.Piece (Elt F) S512x3712 .bf16)), Σ' (LS0 : List (View.Piece (Elt F) S512x128 .f32)), { LS1 : List (View.Piece (Elt F) S128x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ (∃ f, arg23.view.loc (c : Thread nD τ) ↦[arg23.view.set]{fullShare} arg23.view.writes (Elt F) f L21) ∗ (∃ d, owns (c : Thread nD τ) arg24 fullShare d) ∗ (∃ d, owns (c : Thread nD τ) arg25 fullShare d) ∗ (∃ f, arg26.view.loc (c : Thread nD τ) ↦[arg26.view.set]{fullShare} arg26.view.writes (Elt F) f LS0) ∗ (∃ f, arg27.view.loc (c : Thread nD τ) ↦[arg27.view.set]{fullShare} arg27.view.writes (Elt F) f LS1)) -∗ K ⟨⟩))
          ⊢ wp frame (wpE (defs₀ (F := F)) Variants.none c none) E (cc0_mixer_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (Memref.whole main_v264) (Memref.isWhole_whole _) arg23 harg23 arg24 harg24 arg25 harg25 arg26 harg26 arg27 harg27) K } := by
  refine ⟨?_, ?_, ?_, fun E K => ?run⟩
  case run =>
    simp only [cc0_mixer_bwd_eq_skeleton]; unfold cc0_mixer_bwd_skel
    simp only [k0_part86_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%d21, %f21, -, H21⟩, ⟨%d22, %f22, -, H22⟩, ⟨%d23, %f23, -, H23⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]; · iexists _; iexact H21
    isplitl [H22]
    · iexists _, _; isplitr; swap; · iexact H22
      ipureintro; rfl
    isplitl [H23]
    · iexists _, _; isplitr; swap; · iexact H23
      ipureintro; rfl
    isplitl [HS0]; · iexists _; iexact HS0
    iexists _; iexact HS1

end Cert.KernelIdeal.Hand

end
-- ==== Proof.RunB.lean ====
/- The body's run at every later point: what its stores leave in the gradient's block and in the two states' cotangents. -/
module

public import proofs.«01_k».proof.Proof.RunA

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 6000000 in
/-- The body at every later point: from the inputs' blocks it runs to the end, leaves the inputs as they were, and leaves the
    pieces `L21` in the gradient's block and `LS0`, `LS1` in the two states' cotangents; nothing is said of the other
    outputs. -/
noncomputable def kernelRun0_B (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x128 .f32) (harg10 : arg10.IsWhole) (arg11 : Memref sig .tc .vmem S512x1024 .f32) (harg11 : arg11.IsWhole) (arg12 : Memref sig .tc .vmem S4x256x256 .f32) (harg12 : arg12.IsWhole) (arg13 : Memref sig .tc .vmem S8x256x128 .f32) (harg13 : arg13.IsWhole) (arg14 : Memref sig .tc .vmem S4x256x128 .f32) (harg14 : arg14.IsWhole) (arg15 : Memref sig .tc .vmem S2x8x256 .f32) (harg15 : arg15.IsWhole) (arg16 : Memref sig .tc .vmem S2x512x128 .f32) (harg16 : arg16.IsWhole) (arg17 : Memref sig .tc .vmem S4x128x256 .f32) (harg17 : arg17.IsWhole) (arg18 : Memref sig .tc .vmem S128x256 .f32) (harg18 : arg18.IsWhole) (arg19 : Memref sig .tc .vmem S1x256 .f32) (harg19 : arg19.IsWhole) (arg20 : Memref sig .tc .vmem S1x512 .f32) (harg20 : arg20.IsWhole) (arg21 : Memref sig .tc .vmem S1x512 .f32) (harg21 : arg21.IsWhole) (arg23 : Memref sig .tc .vmem S512x3712 .bf16) (harg23 : arg23.IsWhole) (arg24 : Memref sig .tc .vmem S128x256 .f32) (harg24 : arg24.IsWhole) (arg25 : Memref sig .tc .vmem S8x512 .f32) (harg25 : arg25.IsWhole) (arg26 : Memref sig .tc .vmem S512x128 .f32) (harg26 : arg26.IsWhole) (arg27 : Memref sig .tc .vmem S128x256 .f32) (harg27 : arg27.IsWhole) (hc0 : ¬cond0_0 i)
    (x0 : Vec F S512x1024 .f32) (x1 : Vec F S512x512 .bf16) (x2 : Vec F S512x512 .bf16) (x3 : Vec F S512x512 .f32) (x4 : Vec F S512x512 .f32) (x5 : Vec F S512x256 .f32) (x6 : Vec F S512x256 .f32) (x7 : Vec F S512x512 .f32) (x8 : Vec F S512x512 .f32) (x9 : Vec F S512x128 .f32) (x10 : Vec F S512x1024 .f32) (x11 : Vec F S4x256x256 .f32) (x12 : Vec F S8x256x128 .f32) (x13 : Vec F S4x256x128 .f32) (x14 : Vec F S2x8x256 .f32) (x15 : Vec F S2x512x128 .f32) (x16 : Vec F S4x128x256 .f32) (x17 : Vec F S128x256 .f32) (x18 : Vec F S1x256 .f32) (x19 : Vec F S1x512 .f32) (x20 : Vec F S1x512 .f32) (xs0 : Vec F S512x128 .f32) (xs1 : Vec F S128x256 .f32) :
    Σ' (L21 : List (View.Piece (Elt F) S512x3712 .bf16)), Σ' (LS0 : List (View.Piece (Elt F) S512x128 .f32)), { LS1 : List (View.Piece (Elt F) S128x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ (∃ d, owns (c : Thread nD τ) arg23 fullShare d) ∗ (∃ d, owns (c : Thread nD τ) arg24 fullShare d) ∗ (∃ d, owns (c : Thread nD τ) arg25 fullShare d) ∗ owns (c : Thread nD τ) arg26 fullShare xs0 ∗ owns (c : Thread nD τ) arg27 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ (∃ f, arg23.view.loc (c : Thread nD τ) ↦[arg23.view.set]{fullShare} arg23.view.writes (Elt F) f L21) ∗ (∃ d, owns (c : Thread nD τ) arg24 fullShare d) ∗ (∃ d, owns (c : Thread nD τ) arg25 fullShare d) ∗ (∃ f, arg26.view.loc (c : Thread nD τ) ↦[arg26.view.set]{fullShare} arg26.view.writes (Elt F) f LS0) ∗ (∃ f, arg27.view.loc (c : Thread nD τ) ↦[arg27.view.set]{fullShare} arg27.view.writes (Elt F) f LS1)) -∗ K ⟨⟩))
          ⊢ wp frame (wpE (defs₀ (F := F)) Variants.none c none) E (cc0_mixer_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (Memref.whole main_v264) (Memref.isWhole_whole _) arg23 harg23 arg24 harg24 arg25 harg25 arg26 harg26 arg27 harg27) K } := by
  refine ⟨?_, ?_, ?_, fun E K => ?run⟩
  case run =>
    simp only [cc0_mixer_bwd_eq_skeleton]; unfold cc0_mixer_bwd_skel
    simp only [k0_part86_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%d21, %f21, -, H21⟩, ⟨%d22, %f22, -, H22⟩, ⟨%d23, %f23, -, H23⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg26.eq_unread hfs0; obtain rfl := harg27.eq_unread hfs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]; · iexists _; iexact H21
    isplitl [H22]
    · iexists _, _; isplitr; swap; · iexact H22
      ipureintro; rfl
    isplitl [H23]
    · iexists _, _; isplitr; swap; · iexact H23
      ipureintro; rfl
    isplitl [HS0]; · iexists _; iexact HS0
    iexists _; iexact HS1

end Cert.KernelIdeal.Hand

end
-- ==== Proof.Frame.lean ====
/- The frame of the backward mixer call: at every point the body leaves a named block of the gradient and named cotangents of the two states, so the launch runs to the end and the gradient array ends at those blocks. -/
module

public import proofs.«01_k».proof.Proof.RunB
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The first point's run, at the point's buffers and input blocks. -/
def runA (c : Dev nD) (t : Fin cfg0.N) (h0 : t.val % 16 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) ((hcond0_0 t).mpr h0) (iblk m c 0 t) (iblk m c 1 t) (iblk m c 2 t) (X0_3 m c t) (X0_4 m c t) (X0_5 m c t) (X0_6 m c t) (X0_7 m c t) (X0_8 m c t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)

/-- A later point's run, over the states' cotangents `xs`, `xs1` the point before left. -/
def runB (c : Dev nD) (t : Fin cfg0.N) (h0 : ¬t.val % 16 = 0) (xs : Vec F S512x128 .f32) (xs1 : Vec F S128x256 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) (fun h => h0 ((hcond0_0 t).mp h)) (iblk m c 0 t) (iblk m c 1 t) (iblk m c 2 t) (X0_3 m c t) (X0_4 m c t) (X0_5 m c t) (X0_6 m c t) (X0_7 m c t) (X0_8 m c t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) xs xs1

/-- The stores of the first point cover the gradient's block. -/
theorem coverA (c : Dev nD) (t : Fin cfg0.N) (h0 : t.val % 16 = 0) (y : S512x3712.Idx) : ∃ pc ∈ (runA m c t h0).1, y ∈ pc.1.set :=
  View.cover_of_tiledBy (runA m c t h0).1 ![128, 128] (by sl_kernel_rfl) y

/-- They cover the state's cotangent. -/
theorem scoverA (c : Dev nD) (t : Fin cfg0.N) (h0 : t.val % 16 = 0) (y : S512x128.Idx) : ∃ pc ∈ (runA m c t h0).2.1, y ∈ pc.1.set :=
  View.cover_of_wholeMem (runA m c t h0).2.1 (by sl_whole_mem) y

/-- The stores of a later point cover the gradient's block. -/
theorem coverB (c : Dev nD) (t : Fin cfg0.N) (h0 : ¬t.val % 16 = 0) (xs : Vec F S512x128 .f32) (xs1 : Vec F S128x256 .f32) (y : S512x3712.Idx) :
    ∃ pc ∈ (runB m c t h0 xs xs1).1, y ∈ pc.1.set :=
  View.cover_of_tiledBy (runB m c t h0 xs xs1).1 ![128, 128] (by sl_kernel_rfl) y

/-- They cover the state's cotangent. -/
theorem scoverB (c : Dev nD) (t : Fin cfg0.N) (h0 : ¬t.val % 16 = 0) (xs : Vec F S512x128 .f32) (xs1 : Vec F S128x256 .f32) (y : S512x128.Idx) :
    ∃ pc ∈ (runB m c t h0 xs xs1).2.1, y ∈ pc.1.set :=
  View.cover_of_tiledL (runB m c t h0 xs xs1).2.1 S128x128.size (by sl_kernel_rfl) y

/-- The stores of the first point cover the gated attention's cotangent. -/
theorem scoverA1 (c : Dev nD) (t : Fin cfg0.N) (h0 : t.val % 16 = 0) (y : S128x256.Idx) : ∃ pc ∈ (runA m c t h0).2.2.1, y ∈ pc.1.set :=
  View.cover_of_tiledL (runA m c t h0).2.2.1 S128x256.size (by sl_kernel_rfl) y

/-- Those of a later point do. -/
theorem scoverB1 (c : Dev nD) (t : Fin cfg0.N) (h0 : ¬t.val % 16 = 0) (xs : Vec F S512x128 .f32) (xs1 : Vec F S128x256 .f32) (y : S128x256.Idx) :
    ∃ pc ∈ (runB m c t h0 xs xs1).2.2.1, y ∈ pc.1.set :=
  View.cover_of_tiledL (runB m c t h0 xs xs1).2.2.1 S128x256.size (by sl_kernel_rfl) y

/-- The gradient's block that pieces `L` leave. -/
def blkOf (L : List (View.Piece (Elt F) S512x3712 .bf16)) : Vec F S512x3712 .bf16 := VO0_21.read (Elt F) (VO0_21.writes (Elt F) VO0_21.junk L)

/-- The state's cotangent that pieces `L` leave. -/
def scrOf (L : List (View.Piece (Elt F) S512x128 .f32)) : Vec F S512x128 .f32 := VS0_0.read (Elt F) (VS0_0.writes (Elt F) VS0_0.junk L)

/-- The gated attention's cotangent that pieces `L` leave. -/
def scrOf1 (L : List (View.Piece (Elt F) S128x256 .f32)) : Vec F S128x256 .f32 := VS0_1.read (Elt F) (VS0_1.writes (Elt F) VS0_1.junk L)

/-- What the first point leaves: the gradient's block and the two states' cotangents. -/
def outA (c : Dev nD) (t : Fin cfg0.N) (h0 : t.val % 16 = 0) : Vec F S512x3712 .bf16 × Vec F S512x128 .f32 × Vec F S128x256 .f32 :=
  (blkOf (runA m c t h0).1, scrOf (runA m c t h0).2.1, scrOf1 (runA m c t h0).2.2.1)

/-- What a later point leaves, over the cotangents `p` the point before left. -/
def outB (c : Dev nD) (t : Fin cfg0.N) (h0 : ¬t.val % 16 = 0) (p : Vec F S512x128 .f32 × Vec F S128x256 .f32) :
    Vec F S512x3712 .bf16 × Vec F S512x128 .f32 × Vec F S128x256 .f32 :=
  (blkOf (runB m c t h0 p.1 p.2).1, scrOf (runB m c t h0 p.1 p.2).2.1, scrOf1 (runB m c t h0 p.1 p.2).2.2.1)

/-- What the body at point `n` leaves: the gradient's block and the two states' cotangents, which the next point starts from. -/
def outsAt0 (c : Dev nD) : (n : ℕ) → n < cfg0.N → Vec F S512x3712 .bf16 × Vec F S512x128 .f32 × Vec F S128x256 .f32
  | 0, hn => outA m c ⟨0, hn⟩ (Nat.zero_mod _)
  | n + 1, hn =>
    if h0 : (n + 1) % 16 = 0 then outA m c ⟨n + 1, hn⟩ h0
    else outB m c ⟨n + 1, hn⟩ h0 (outsAt0 c n (Nat.lt_of_succ_lt hn)).2

/-- At the first point. -/
theorem outsAt0_A (c : Dev nD) (t : Fin cfg0.N) (h0 : t.val % 16 = 0) : outsAt0 m c t.val t.isLt = outA m c t h0 := by
  obtain ⟨n, hn⟩ := t
  cases n with
  | zero => exact rfl
  | succ n => exact (dif_pos h0).trans rfl

/-- At a later point, over what the point before left. -/
theorem outsAt0_B (c : Dev nD) (t : Fin cfg0.N) (h0 : ¬t.val % 16 = 0) :
    outsAt0 m c t.val t.isLt = outB m c t h0 (outsAt0 m c (t.val - 1) (Nat.lt_of_le_of_lt (Nat.sub_le _ _) t.isLt)).2 := by
  obtain ⟨n, hn⟩ := t
  cases n with
  | zero => exact absurd (Nat.zero_mod _) h0
  | succ n => exact (dif_neg h0).trans rfl

/-- The launch's invariant: before the first point both scratch buffers at anything; afterwards both at
    what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2)) ∗ (∃ r, prngReg c r)) := by
  cases n with
  | zero => exact absurd rfl hz
  | succ n => rfl

/-- The outputs of which nothing is said: the gradients of the gate weights and of the small vectors. -/
def forgets0 : Fin 24 → Bool := fun w => w.val == 22 || w.val == 23

/-- The pipeline's proof data: every input's buffer keeps its block, the gradient's holds `outsAt0`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => X0_3 m c t
    | ⟨4, _⟩ => X0_4 m c t
    | ⟨5, _⟩ => X0_5 m c t
    | ⟨6, _⟩ => X0_6 m c t
    | ⟨7, _⟩ => X0_7 m c t
    | ⟨8, _⟩ => X0_8 m c t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => (outsAt0 m c t.val t.isLt).1
    | ⟨22, h⟩ => Pipeline.Dat.unnamed (cfg := cfg0) ⟨22, h⟩ t
    | ⟨23, h⟩ => Pipeline.Dat.unnamed (cfg := cfg0) ⟨23, h⟩ t
    | ⟨_ + 24, h⟩ => absurd h (Nat.not_lt.2 (Nat.le_add_left _ _))
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What each window's buffer holds after the body. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = X0_3 m c t := by dsimp only [dats]
theorem after0_4 (c : Dev nD) (t : Fin cfg0.N) : (dats m 0 c).after 4 t = X0_4 m c t := by dsimp only [dats]
theorem after0_5 (c : Dev nD) (t : Fin cfg0.N) : (dats m 0 c).after 5 t = X0_5 m c t := by dsimp only [dats]
theorem after0_6 (c : Dev nD) (t : Fin cfg0.N) : (dats m 0 c).after 6 t = X0_6 m c t := by dsimp only [dats]
theorem after0_7 (c : Dev nD) (t : Fin cfg0.N) : (dats m 0 c).after 7 t = X0_7 m c t := by dsimp only [dats]
theorem after0_8 (c : Dev nD) (t : Fin cfg0.N) : (dats m 0 c).after 8 t = X0_8 m c t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]

theorem after0_21 (c : Dev nD) (t : Fin cfg0.N) : (dats m 0 c).after 21 t = (outsAt0 m c t.val t.isLt).1 := by dsimp only [dats]

/-- What each input's buffer holds before it. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = X0_3 m c t :=
  before0_3_of m (dats m 0 c) (A_eq m c 3) (after0_3 m c) t d
theorem before0_4 (c : Dev nD) (t : Fin cfg0.N) (d) : (dats m 0 c).before 4 t d = X0_4 m c t :=
  before0_4_of m (dats m 0 c) (A_eq m c 4) (after0_4 m c) t d
theorem before0_5 (c : Dev nD) (t : Fin cfg0.N) (d) : (dats m 0 c).before 5 t d = X0_5 m c t :=
  before0_5_of m (dats m 0 c) (A_eq m c 5) (after0_5 m c) t d
theorem before0_6 (c : Dev nD) (t : Fin cfg0.N) (d) : (dats m 0 c).before 6 t d = X0_6 m c t :=
  before0_6_of m (dats m 0 c) (A_eq m c 6) (after0_6 m c) t d
theorem before0_7 (c : Dev nD) (t : Fin cfg0.N) (d) : (dats m 0 c).before 7 t d = X0_7 m c t :=
  before0_7_of m (dats m 0 c) (A_eq m c 7) (after0_7 m c) t d
theorem before0_8 (c : Dev nD) (t : Fin cfg0.N) (d) : (dats m 0 c).before 8 t d = X0_8 m c t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d

/-- What the body is called with at a point, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare d)
    ∗ (∃ d, owns (c : Thread nD τ) (ms0_23 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ (∃ d, owns (c : Thread nD τ) (ms0_22 t) fullShare d)
    ∗ (∃ d, owns (c : Thread nD τ) (ms0_23 t) fullShare d))

set_option maxHeartbeats 19200000 in
/-- The body at any point: the inputs hold their blocks, the scratch what the point before left, and the run of the
    point's case applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21]
  rw [show (dats m 0 c).Φ t.succ = PhiS m c (t.val + 1) t.isLt from rfl, PhiS_succ]
  have hN : t.val < 16 := lt_of_lt_of_eq t.isLt (show cfg0.N = 16 from N_0)
  by_cases h0 : t.val % 16 = 0
  · have hz : t.val = 0 := by omega
    rw [PhiS_castSucc m c t, PhiS_zero m c _ _ hz, PhiA0_eq]
    rw [outsAt0_A m c t h0]
    unfold outA blkOf scrOf scrOf1
    dsimp only
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
    iapply ((runA m c t h0).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexists _; iexact H21
    isplitl [H22]; · iexists _; iexact H22
    isplitl [H23]; · iexists _; iexact H23
    isplitl [HS0]; · iexact HS0
    isplitl [HS1]; · iexact HS1
    iintro ⟨H0, H1, H2, H3, H4, H5, H6, H7, H8, H9, H10, H11, H12, H13, H14, H15, H16, H17, H18, H19, H20, ⟨%e21, H21⟩, H22, H23, ⟨%es0, HS0⟩, ⟨%es1, HS1⟩⟩
    isplitl [HS0 HS1 Hg]
    · isplitl [HS0 HS1]
      · isplitl [HS0]
        · unfold owns; iexists _; isplitr
          swap; · iexact HS0
          ipureintro; exact View.read_writes_of_cover _ _ _ _ _ (scoverA m c t h0)
        unfold owns; iexists _; isplitr
        swap; · iexact HS1
        ipureintro; exact View.read_writes_of_cover _ _ _ _ _ (scoverA1 m c t h0)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]
    · unfold owns; iexists _; isplitr
      swap; · iexact H21
      ipureintro; exact View.read_writes_of_cover _ _ _ _ _ (coverA m c t h0)
    isplitl [H22]; · iexact H22
    iexact H23
  · have hz : t.val ≠ 0 := by omega
    rw [PhiS_castSucc m c t, PhiS_pos m c _ _ hz]
    rw [outsAt0_B m c t h0]
    unfold outB blkOf scrOf scrOf1
    dsimp only
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
    iapply ((runB m c t h0 _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexists _; iexact H21
    isplitl [H22]; · iexists _; iexact H22
    isplitl [H23]; · iexists _; iexact H23
    isplitl [HS0]; · iexact HS0
    isplitl [HS1]; · iexact HS1
    iintro ⟨H0, H1, H2, H3, H4, H5, H6, H7, H8, H9, H10, H11, H12, H13, H14, H15, H16, H17, H18, H19, H20, ⟨%e21, H21⟩, H22, H23, ⟨%es0, HS0⟩, ⟨%es1, HS1⟩⟩
    isplitl [HS0 HS1 Hg]
    · isplitl [HS0 HS1]
      · isplitl [HS0]
        · unfold owns; iexists _; isplitr
          swap; · iexact HS0
          ipureintro; exact View.read_writes_of_cover _ _ _ _ _ (scoverB m c t h0 _ _)
        unfold owns; iexists _; isplitr
        swap; · iexact HS1
        ipureintro; exact View.read_writes_of_cover _ _ _ _ _ (scoverB1 m c t h0 _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]
    · unfold owns; iexists _; isplitr
      swap; · iexact H21
      ipureintro; exact View.read_writes_of_cover _ _ _ _ _ (coverB m c t h0 _ _)
    isplitl [H22]; · iexact H22
    iexact H23

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The launch's obligation for the body, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands over is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any other point the invariant gives it back. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 16 := N_0; omega)

-- The launch theorem's implicit arguments are found by unfolding plain definitions.
set_option backward.isDefEq.respectTransparency.types false in
/-- The launch, and every semaphore counter at zero at the end. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hin := hin m) (hout := hout m)

/-- Every execution ends, with every input array unchanged and the gradient array at its blocks. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

set_option maxHeartbeats 1440000 in
/-- The argument arrays end unchanged wherever a run ends with the launch's input arrays and every unstaged array as the launch found them. -/
theorem args_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(Pipeline.RDat.FramePost.arr_in h c 0 rfl).trans ((hA c 0).trans (V_main_arg0 m c)),
      (Pipeline.RDat.FramePost.arr_in h c 9 rfl).trans ((hA c 9).trans (V_main_arg1 m c)),
      ((h c).2 main_arg2 (Pipeline.mem_restRefs_of main_arg2 (by decide) (by decide))).trans (V_main_arg2 m c),
      (Pipeline.RDat.FramePost.arr_in h c 16 rfl).trans ((hA c 16).trans (V_main_arg3 m c)),
      (Pipeline.RDat.FramePost.arr_in h c 17 rfl).trans ((hA c 17).trans (V_main_arg4 m c)),
      (Pipeline.RDat.FramePost.arr_in h c 18 rfl).trans ((hA c 18).trans (V_main_arg5 m c)),
      (Pipeline.RDat.FramePost.arr_in h c 19 rfl).trans ((hA c 19).trans (V_main_arg6 m c)),
      (Pipeline.RDat.FramePost.arr_in h c 20 rfl).trans ((hA c 20).trans (V_main_arg7 m c))⟩) h

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  args_of m ρ (fun c => (dats m 0 c).toRForget forgets0) (A_eq m) (run_main m ρ)

/-- The frame: the arguments unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.KernelIdeal.Hand

end
-- ==== Proof.Mixer.lean ====
/- The claims of the mixer's backward call that need no value: both frames, the reference's, and the named constants. -/
module

public import proofs.«01_k».proof.Defs
public import proofs.«01_k».proof.Proof.Frame
public import proofs.«01_k».proof.Proof.Printed.Frame
public import proofs.«01_k».proof.Proof.Gen.ReferenceIdeal.Run
public import Idealize.ShloMosaic.Adequacy
public import Idealize.ShloMosaic.Init

@[expose] public section

noncomputable section

namespace Cert.Mixer

open Idealize.ShloMosaic Idealize.SL.Sem

/-- The kernel as printed runs, leaves its arguments and ends with every counter at zero. -/
theorem kernel : Cert.quiescent_Kernel := fun m g _ => Cert.Kernel.Hand.frame m g

/-- The idealized kernel runs, leaves its arguments and ends with every counter at zero. -/
theorem kernelIdeal : Cert.quiescent_KernelIdeal := fun m g _ => Cert.KernelIdeal.Hand.frame m g

/-- The reference runs, leaves its arguments and ends with every counter at zero. -/
theorem reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

/-- Each named decay of a tile is the exact power the table gives it. -/
theorem preserves : Cert.preserves_Kernel_KernelIdeal :=
  ⟨IdealRules.named_const.statement _ _ _ _ _ rfl, IdealRules.named_const.statement _ _ _ _ _ rfl,
    IdealRules.named_const.statement _ _ _ _ _ rfl, IdealRules.named_const.statement _ _ _ _ _ rfl⟩

end Cert.Mixer

end
-- ==== Proof.TnOut.lean ====
/- The gradient of the output projection: the call ends with the reference's product over all the tokens. -/
module

public import proofs.«01_k».proof.Proof.Gen.Kernel4Ideal.Frame
public import proofs.«01_k».proof.Proof.Gen.Reference4Ideal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel4Ideal.Hand

open Cert.Kernel4Ideal Cert.Kernel4Ideal.Gen

variable (m : (ℓ : Loc nD τ sig) → Buf (Elt Ideal) ℓ)

/-- The reference's gradient of the output projection. -/
abbrev REF (X : FVec Ideal S8192x1024 .bf16) (D : FVec Ideal S8192x1024 .bf16) : FVec Ideal S1024x1024 .bf16 :=
  truncf .bf16 (transpose Cert.Reference4Ideal.S1024x1024 [1, 0] (Host.dotGeneral (φ₁ := .f32) (φ₂ := .f32) Cert.Reference4Ideal.dot_S8192x1024_S8192x1024_S1024x1024_0_0_1_1_n_n none
    (extf .f32 D Cert.Reference4Ideal.Gen.bitsLt_bf16_f32) (extf .f32 X Cert.Reference4Ideal.Gen.bitsLt_bf16_f32)) Cert.Reference4Ideal.Gen.transposes_S1024x1024_S1024x1024_1_0) Cert.Reference4Ideal.Gen.bitsLt_bf16_f32

/-- Every window's block index at every point. -/
theorem idx : ∀ t : Fin cfg0.N, win0_0.index t = ![t.val, 0] ∧ win0_1.index t = ![t.val, 0] ∧ win0_2.index t = ![0, 0] :=
  (by decide +kernel : ∀ t : Fin grid0.N, _)

/-- The accumulator starts at zero. -/
theorem zero_at (j) : k0_pay1 (F := Ideal) j = 0 := by pointwise [k0_pay1]

/-- A point adds its tokens' products to the accumulator. -/
theorem step_at (x0 : FVec Ideal S2048x1024 .bf16) (acc : FVec Ideal S1024x1024 .f32) (x1 : FVec Ideal S2048x1024 .bf16) (j) :
    k0_pay2 x0 acc x1 j = acc j + ∑ k : Fin 2048, x0 (ix2 k (j 0)) * x1 (ix2 k (j 1)) := by pointwise [k0_pay2]

/-- The reference contracts the tokens at once. -/
theorem ref_at (X D j) : REF X D j = ∑ l : Fin 8192, X (ix2 l (j 0)) * D (ix2 l (j 1)) := by
  pointwise [REF]
  exact Finset.sum_congr rfl fun _ _ => mul_comm _ _

/-- The last point of a run writes the accumulator out. -/
theorem out_last (c : Dev nD) (t : Fin cfg0.N) (h0 : ¬t.val % 4 = 0) (h : t.val % 4 = 3) (y) : (outsAt0 m c t.val t.isLt).1 y = (outsAt0 m c t.val t.isLt).2 y := by
  rw [outsAt0_C m c t h0 h]
  frame_out
  pointwise [k0_pay3]

/-- The result is the reference's gradient. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  blk_simp
  rw [after0_2, out_last m c t (by omega) h3, Pipeline.eq_sum_fin_of_reset_step_apply_of_flush (fun n h => (outsAt0 m c n h).2) 4 (fun _ => 0) _
    (fun t h j => by rw [outsAt0_A m c t h (by omega)]; frame_out; rw [step_at, zero_at])
    (fun t h j => by
      by_cases h1 : t.val % 4 = 3
      · rw [outsAt0_C m c t h h1]; frame_out; rw [step_at, read_unread_whole]
      · rw [outsAt0_B m c t h h1]; frame_out; rw [step_at, read_unread_whole]) t h3 _, zero_add, ref_at]
  refine Fin.sum_mul_add_congr fun s k hl => ?_
  blk_point [iblk, V, idx t, idx ⟨_, Pipeline.run_point_lt_of_flush t ((flush0_2 t).mp hf) s⟩]

end Cert.Kernel4Ideal.Hand

end
-- ==== Proof.TnFf2.lean ====
/- The gradient of the second feed-forward weight: the call ends with the reference's product over all the tokens. -/
module

public import proofs.«01_k».proof.Proof.Gen.Kernel2Ideal.Frame
public import proofs.«01_k».proof.Proof.Gen.Reference2Ideal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel2Ideal.Hand

open Cert.Kernel2Ideal Cert.Kernel2Ideal.Gen

variable (m : (ℓ : Loc nD τ sig) → Buf (Elt Ideal) ℓ)

/-- The reference's gradient. -/
abbrev REF (X : FVec Ideal S8192x4096 .bf16) (D : FVec Ideal S8192x1024 .bf16) : FVec Ideal S4096x1024 .bf16 :=
  truncf .bf16 (transpose Cert.Reference2Ideal.S4096x1024 [1, 0] (Host.dotGeneral (φ₁ := .f32) (φ₂ := .f32) Cert.Reference2Ideal.dot_S8192x1024_S8192x4096_S1024x4096_0_0_1_1_n_n none (extf .f32 D Cert.Reference2Ideal.Gen.bitsLt_bf16_f32)
    (mulf (maximumf (extf .f32 X Cert.Reference2Ideal.Gen.bitsLt_bf16_f32) (broadcastInDim Cert.Reference2Ideal.S8192x4096 ![] Cert.Reference2Ideal.Gen.bcast_S_S8192x4096 (constant Cert.Reference2Ideal.S_ .f32 0x00000000#32)))
      (maximumf (extf .f32 X Cert.Reference2Ideal.Gen.bitsLt_bf16_f32) (broadcastInDim Cert.Reference2Ideal.S8192x4096 ![] Cert.Reference2Ideal.Gen.bcast_S_S8192x4096 (constant Cert.Reference2Ideal.S_ .f32 0x00000000#32)))))
    Cert.Reference2Ideal.Gen.transposes_S1024x4096_S4096x1024_1_0) Cert.Reference2Ideal.Gen.bitsLt_bf16_f32

/-- Every window's block index at every point. -/
theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

/-- The accumulator starts at zero. -/
theorem zero_at (j) : k0_pay1 (F := Ideal) j = 0 := by pointwise [k0_pay1]

/-- A point adds its tokens' products to the accumulator. -/
theorem step_at (x0 : FVec Ideal S2048x2048 .bf16) (acc : FVec Ideal S2048x1024 .f32) (x1 : FVec Ideal S2048x1024 .bf16) (j) :
    k0_pay2 x0 acc x1 j = acc j + ∑ k : Fin 2048, max (x0 (ix2 k (j 0))) 0 * max (x0 (ix2 k (j 0))) 0 * x1 (ix2 k (j 1)) := by pointwise [k0_pay2]

/-- The reference contracts the tokens at once. -/
theorem ref_at (X D j) : REF X D j = ∑ l : Fin 8192, max (X (ix2 l (j 0))) 0 * max (X (ix2 l (j 0))) 0 * D (ix2 l (j 1)) := by
  pointwise [REF]
  exact Finset.sum_congr rfl fun _ _ => mul_comm _ _

/-- The last point of a run writes the accumulator out. -/
theorem out_last (c : Dev nD) (t : Fin cfg0.N) (h0 : ¬t.val % 4 = 0) (h : t.val % 4 = 3) (y) : (outsAt0 m c t.val t.isLt).1 y = (outsAt0 m c t.val t.isLt).2 y := by
  rw [outsAt0_C m c t h0 h]
  frame_out
  pointwise [k0_pay3]

/-- The result is the reference's gradient. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  blk_simp
  rw [after0_2, out_last m c t (by omega) h3, Pipeline.eq_sum_fin_of_reset_step_apply_of_flush (fun n h => (outsAt0 m c n h).2) 4 (fun _ => 0) _
    (fun t h j => by rw [outsAt0_A m c t h (by omega)]; frame_out; rw [step_at, zero_at])
    (fun t h j => by
      by_cases h1 : t.val % 4 = 3
      · rw [outsAt0_C m c t h h1]; frame_out; rw [step_at, read_unread_whole]
      · rw [outsAt0_B m c t h h1]; frame_out; rw [step_at, read_unread_whole]) t h3 _, zero_add, ref_at]
  refine Fin.sum_mul_add_congr fun s k hl => ?_
  blk_point [iblk, V, idx t, idx ⟨_, Pipeline.run_point_lt_of_flush t ((flush0_2 t).mp hf) s⟩]

end Cert.Kernel2Ideal.Hand

end
-- ==== Proof.TnFf1.lean ====
/- The gradient of the first feed-forward weight, in column slabs: the call ends with the reference's product over all the tokens. -/
module

public import proofs.«01_k».proof.Proof.Gen.Kernel3Ideal.Frame
public import proofs.«01_k».proof.Proof.Gen.Reference3Ideal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel3Ideal.Hand

open Cert.Kernel3Ideal Cert.Kernel3Ideal.Gen

variable (m : (ℓ : Loc nD τ sig) → Buf (Elt Ideal) ℓ)

/-- The reference's gradient. -/
abbrev REF (X : FVec Ideal S8192x1024 .bf16) (D : FVec Ideal S8192x4096 .bf16) : FVec Ideal S8x1024x512 .bf16 :=
  truncf .bf16 (transpose Cert.Reference3Ideal.S8x1024x512 [1, 0, 2] (shapeCast Cert.Reference3Ideal.S1024x8x512 (transpose Cert.Reference3Ideal.S1024x4096 [1, 0] (Host.dotGeneral (φ₁ := .f32) (φ₂ := .f32) Cert.Reference3Ideal.dot_S8192x4096_S8192x1024_S4096x1024_0_0_1_1_n_n none
    (extf .f32 D Cert.Reference3Ideal.Gen.bitsLt_bf16_f32) (extf .f32 X Cert.Reference3Ideal.Gen.bitsLt_bf16_f32)) Cert.Reference3Ideal.Gen.transposes_S4096x1024_S1024x4096_1_0)
    Cert.Reference3Ideal.Gen.shapeCasts_S1024x4096_S1024x8x512) Cert.Reference3Ideal.Gen.transposes_S1024x8x512_S8x1024x512_1_0_2) Cert.Reference3Ideal.Gen.bitsLt_bf16_f32

/-- Every window's block index at every point. -/
theorem idx : ∀ t : Fin cfg0.N, win0_0.index t = ![t.val % 4, 0] ∧ win0_1.index t = ![t.val % 4, t.val / 4] ∧ win0_2.index t = ![t.val / 4, 0, 0] :=
  (by decide +kernel : ∀ t : Fin grid0.N, _)

/-- The accumulator starts at zero. -/
theorem zero_at (j) : k0_pay1 (F := Ideal) j = 0 := by pointwise [k0_pay1]

/-- A point adds its tokens' products to the accumulator. -/
theorem step_at (x0 : FVec Ideal S2048x1024 .bf16) (acc : FVec Ideal S1024x2048 .f32) (x1 : FVec Ideal S2048x2048 .bf16) (j) :
    k0_pay2 x0 acc x1 j = acc j + ∑ k : Fin 2048, x0 (ix2 k (j 0)) * x1 (ix2 k (j 1)) := by pointwise [k0_pay2]

/-- The reference contracts the tokens at once. -/
theorem ref_at (X D j) : REF X D j = ∑ l : Fin 8192, X (ix2 l (j 1)) * D (ix2 l ⟨j 0 * 512 + j 2, by idx_bounds j; omega⟩) := by
  idx_bounds j
  pointwise [REF]
  exact Finset.sum_congr rfl fun _ _ => mul_comm _ _

/-- A part of a buffer read back after the buffer was stored whole. -/
theorem load_of {S : Shape} {e : EltTy} (v : View sig .tc .vmem S e) {off : Fin S.rank → Nat} (h : off = fun _ => 0) (inb : ∀ a, off a + S.size a ≤ S.size a)
    (w : S.Idx → Elt Ideal e) (r : Rect S) : v.readCov [(⟨Rect.unit off S.size inb, w⟩ : View.Piece (Elt Ideal) S e)] r.toLoadRect = View.ld w r := by
  rw [View.readCov_eq_canon_ld v _ r (fun y => ⟨_, List.mem_singleton_self _, View.mem_set_unit_zero h inb y⟩), View.canon_unit_zero h]

/-- The same, of the accumulator. -/
theorem load (acc : FVec Ideal S1024x2048 .f32) (r : Rect S1024x2048) :
    (View.whole cc0_scratch0).readCov (Val := Elt Ideal) [⟨Rect.unit ![0, 0] ![1024, 2048] inb_S1024x2048_S1024x2048_0_0, acc⟩] r.toLoadRect = View.ld acc r :=
  load_of (S := S1024x2048) (View.whole cc0_scratch0) (funext (by decide)) inb_S1024x2048_S1024x2048_0_0 acc r

/-- The last point of a run writes the accumulator out, a slab of 512 columns after the other. -/
theorem out_last (c : Dev nD) (t : Fin cfg0.N) (h0 : ¬t.val % 4 = 0) (h : t.val % 4 = 3) (y) :
    (outsAt0 m c t.val t.isLt).1 y = (outsAt0 m c t.val t.isLt).2 (ix2 (y 1) ⟨y 0 * 512 + y 2, by idx_bounds y; omega⟩) := by
  rw [outsAt0_C m c t h0 h]
  frame_out
  generalize k0_pay2 (F := Ideal) _ _ _ = acc
  canon_tiles y h
  all_goals open_payloads
  all_goals rw [load]; pointwise []; blk_ext []

/-- The result is the reference's gradient. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  blk_simp
  rw [after0_2, out_last m c t (by omega) h3, Pipeline.eq_sum_fin_of_reset_step_apply_of_flush (fun n h => (outsAt0 m c n h).2) 4 (fun _ => 0) _
    (fun t h j => by rw [outsAt0_A m c t h (by omega)]; frame_out; rw [step_at, zero_at])
    (fun t h j => by
      by_cases h1 : t.val % 4 = 3
      · rw [outsAt0_C m c t h h1]; frame_out; rw [step_at, read_unread_whole]
      · rw [outsAt0_B m c t h h1]; frame_out; rw [step_at, read_unread_whole]) t h3 _, zero_add, ref_at]
  refine Fin.sum_mul_add_congr fun s k hl => ?_
  blk_point [iblk, V, idx t, idx ⟨_, Pipeline.run_point_lt_of_flush t ((flush0_2 t).mp hf) s⟩]

end Cert.Kernel3Ideal.Hand

end
-- ==== Proof.TnIn.lean ====
/- The gradient of the input projection, in row slabs: the call ends with the reference's product over all the tokens. -/
module

public import proofs.«01_k».proof.Proof.Gen.Kernel5Ideal.Frame
public import proofs.«01_k».proof.Proof.Gen.Reference5Ideal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel5Ideal.Hand

open Cert.Kernel5Ideal Cert.Kernel5Ideal.Gen

variable (m : (ℓ : Loc nD τ sig) → Buf (Elt Ideal) ℓ)

/-- The reference's gradient. -/
abbrev REF (X : FVec Ideal S8192x3712 .bf16) (D : FVec Ideal S8192x1024 .bf16) : FVec Ideal S8x450x1024 .bf16 :=
  truncf .bf16 (shapeCast Cert.Reference5Ideal.S8x450x1024 (transpose Cert.Reference5Ideal.S3600x1024 [1, 0] (transpose Cert.Reference5Ideal.S1024x3600 [1, 0] (Host.dotGeneral (φ₁ := .f32) (φ₂ := .f32) Cert.Reference5Ideal.dot_S8192x3600_S8192x1024_S3600x1024_0_0_1_1_n_n none
    (extf .f32 (extractStridedSlice Cert.Reference5Ideal.S8192x3600 ![0, 0] X Cert.Reference5Ideal.Gen.slices_S8192x3712_S8192x3600_0_0) Cert.Reference5Ideal.Gen.bitsLt_bf16_f32) (extf .f32 D Cert.Reference5Ideal.Gen.bitsLt_bf16_f32))
    Cert.Reference5Ideal.Gen.transposes_S3600x1024_S1024x3600_1_0) Cert.Reference5Ideal.Gen.transposes_S1024x3600_S3600x1024_1_0) Cert.Reference5Ideal.Gen.shapeCasts_S3600x1024_S8x450x1024) Cert.Reference5Ideal.Gen.bitsLt_bf16_f32

/-- Every window's block index at every point. -/
theorem idx : ∀ t : Fin cfg0.N, win0_0.index t = ![t.val, 0] ∧ win0_1.index t = ![t.val, 0] ∧ win0_2.index t = ![0, 0, 0] :=
  (by decide +kernel : ∀ t : Fin grid0.N, _)

/-- The accumulator starts at zero. -/
theorem zero_at (j) : k0_pay1 (F := Ideal) j = 0 := by pointwise [k0_pay1]

/-- A point adds its tokens' products to the accumulator. -/
theorem step_at (x0 : FVec Ideal S1024x3712 .bf16) (acc : FVec Ideal S3712x1024 .f32) (x1 : FVec Ideal S1024x1024 .bf16) (j) :
    k0_pay2 x0 acc x1 j = acc j + ∑ k : Fin 1024, x0 (ix2 k (j 0)) * x1 (ix2 k (j 1)) := by pointwise [k0_pay2]

/-- The reference contracts the tokens at once. -/
theorem ref_at (X D j) : REF X D j = ∑ l : Fin 8192, X (ix2 l ⟨j 0 * 450 + j 1, by idx_bounds j; omega⟩) * D (ix2 l (j 2)) := by
  idx_bounds j
  pointwise [REF]

/-- A part of a buffer read back after the buffer was stored whole. -/
theorem load_of {S : Shape} {e : EltTy} (v : View sig .tc .vmem S e) {off : Fin S.rank → Nat} (h : off = fun _ => 0) (inb : ∀ a, off a + S.size a ≤ S.size a)
    (w : S.Idx → Elt Ideal e) (r : Rect S) : v.readCov [(⟨Rect.unit off S.size inb, w⟩ : View.Piece (Elt Ideal) S e)] r.toLoadRect = View.ld w r := by
  rw [View.readCov_eq_canon_ld v _ r (fun y => ⟨_, List.mem_singleton_self _, View.mem_set_unit_zero h inb y⟩), View.canon_unit_zero h]

/-- The same, of the accumulator. -/
theorem load (acc : FVec Ideal S3712x1024 .f32) (r : Rect S3712x1024) :
    (View.whole cc0_scratch0).readCov (Val := Elt Ideal) [⟨Rect.unit ![0, 0] ![3712, 1024] inb_S3712x1024_S3712x1024_0_0, acc⟩] r.toLoadRect = View.ld acc r :=
  load_of (S := S3712x1024) (View.whole cc0_scratch0) (funext (by decide)) inb_S3712x1024_S3712x1024_0_0 acc r

/-- The last point of the run writes the accumulator out, a slab of 450 rows after the other. -/
theorem out_last (c : Dev nD) (t : Fin cfg0.N) (h0 : ¬t.val % 8 = 0) (h : t.val % 8 = 7) (y) :
    (outsAt0 m c t.val t.isLt).1 y = (outsAt0 m c t.val t.isLt).2 (ix2 ⟨y 0 * 450 + y 1, by idx_bounds y; omega⟩ (y 2)) := by
  rw [outsAt0_C m c t h0 h]
  frame_out
  generalize k0_pay2 (F := Ideal) _ _ _ = acc
  canon_tiles y h
  all_goals open_payloads
  all_goals rw [load]; pointwise []; blk_ext []

/-- The result is the reference's gradient. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  have h3 : t.val % 8 = 7 := (flush0_2 t).mp hf
  blk_simp
  rw [after0_2, out_last m c t (by omega) h3, Pipeline.eq_sum_fin_of_reset_step_apply_of_flush (fun n h => (outsAt0 m c n h).2) 8 (fun _ => 0) _
    (fun t h j => by rw [outsAt0_A m c t h (by omega)]; frame_out; rw [step_at, zero_at])
    (fun t h j => by
      by_cases h1 : t.val % 8 = 7
      · rw [outsAt0_C m c t h h1]; frame_out; rw [step_at, read_unread_whole]
      · rw [outsAt0_B m c t h h1]; frame_out; rw [step_at, read_unread_whole]) t h3 _, zero_add, ref_at]
  refine Fin.sum_mul_add_congr fun s k hl => ?_
  blk_point [iblk, V, idx t, idx ⟨_, Pipeline.run_point_lt_of_flush t ((flush0_2 t).mp hf) s⟩]

end Cert.Kernel5Ideal.Hand

end
-- ==== Proof.Products.lean ====
/- The claims of the four weight-gradient calls: each ends with the reference's gradient of its weight. -/
module

public import proofs.«01_k».proof.Defs
public import proofs.«01_k».proof.Proof.TnOut
public import proofs.«01_k».proof.Proof.TnFf2
public import proofs.«01_k».proof.Proof.TnFf1
public import proofs.«01_k».proof.Proof.TnIn
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import Idealize.ShloMosaic.Adequacy
public import Idealize.ShloMosaic.Init

@[expose] public section

set_option maxRecDepth 16384

noncomputable section

namespace Cert.Products

open Idealize.ShloMosaic Idealize.SL.Sem

/-- The second feed-forward weight's gradient: the kernel and the reference end with the same array. -/
theorem ff2 : Cert.algebraic_Kernel2Ideal_Reference2Ideal := by
  pair_intro
  · run_from Cert.Kernel2Ideal.Gen.run_main m g
  · run_from Cert.Reference2Ideal.Value.run m' g'
    exact (Cert.Kernel2Ideal.Hand.final m c).symm

/-- The first feed-forward weight's gradient: the kernel and the reference end with the same array. -/
theorem ff1 : Cert.algebraic_Kernel3Ideal_Reference3Ideal := by
  pair_intro
  · run_from Cert.Kernel3Ideal.Gen.run_main m g
  · run_from Cert.Reference3Ideal.Value.run m' g'
    exact (Cert.Kernel3Ideal.Hand.final m c).symm

/-- The output projection's gradient: the kernel and the reference end with the same array. -/
theorem out : Cert.algebraic_Kernel4Ideal_Reference4Ideal := by
  pair_intro
  · run_from Cert.Kernel4Ideal.Gen.run_main m g
  · run_from Cert.Reference4Ideal.Value.run m' g'
    exact (Cert.Kernel4Ideal.Hand.final m c).symm

/-- The input projection's gradient: the kernel and the reference end with the same array. -/
theorem inp : Cert.algebraic_Kernel5Ideal_Reference5Ideal := by
  pair_intro
  · run_from Cert.Kernel5Ideal.Gen.run_main m g
  · run_from Cert.Reference5Ideal.Value.run m' g'
    exact (Cert.Kernel5Ideal.Hand.final m c).symm

/-- The reference of the second feed-forward weight's gradient runs, leaves its arguments and ends with every counter at zero. -/
theorem ref2 : Cert.quiescent_Reference2Ideal := fun m g _ =>
  (θ_run Cert.Reference2Ideal.defs _ _).mono (fun r h => ⟨fun c => (h c).2, sem_eq_zero_of_no_sems (by decide) r.2⟩)
    (Cert.Reference2Ideal.Value.run m g)

/-- The reference of the first feed-forward weight's gradient runs, leaves its arguments and ends with every counter at zero. -/
theorem ref3 : Cert.quiescent_Reference3Ideal := fun m g _ =>
  (θ_run Cert.Reference3Ideal.defs _ _).mono (fun r h => ⟨fun c => (h c).2, sem_eq_zero_of_no_sems (by decide) r.2⟩)
    (Cert.Reference3Ideal.Value.run m g)

/-- The reference of the output projection's gradient runs, leaves its arguments and ends with every counter at zero. -/
theorem ref4 : Cert.quiescent_Reference4Ideal := fun m g _ =>
  (θ_run Cert.Reference4Ideal.defs _ _).mono (fun r h => ⟨fun c => (h c).2, sem_eq_zero_of_no_sems (by decide) r.2⟩)
    (Cert.Reference4Ideal.Value.run m g)

/-- The reference of the input projection's gradient runs, leaves its arguments and ends with every counter at zero. -/
theorem ref5 : Cert.quiescent_Reference5Ideal := fun m g _ =>
  (θ_run Cert.Reference5Ideal.defs _ _).mono (fun r h => ⟨fun c => (h c).2, sem_eq_zero_of_no_sems (by decide) r.2⟩)
    (Cert.Reference5Ideal.Value.run m g)

end Cert.Products

end
-- ==== Proof.Math.lean ====
module

public import Idealize.ShloMosaic.Lib.Pointwise

/-! The gradient of one retention layer over the reals: the quadratic form the reference computes, the form a tile of
    256 rows computes from two states, and the equalities between them. -/

@[expose] public section

noncomputable section

namespace Cert.Retention

open Finset

/-- The decay of head `h`: `1 - 2^-(5+h)`. -/
def gam (h : Fin 4) : ℝ := 1 - 1 / 2 ^ (5 + (h : ℕ))

theorem gam_pos (h : Fin 4) : 0 < gam h := by
  fin_cases h <;> norm_num [gam]

/-- The distance of two positions. -/
def dist (a b : ℕ) : ℕ := a - b + (b - a)

/-- The weight of key `s` for query `t`: keys of the query's own chunk of 64 and of the earlier ones decay with the
    distance, later chunks don't count. -/
def wgt (g : ℝ) (t s : ℕ) : ℝ := if s / 64 ≤ t / 64 then g ^ dist t s else 0

/-- The arguments of the layer as reals. -/
structure Arg where
  dm : Fin 8192 → Fin 4 → Fin 128 → ℝ
  xq : Fin 8192 → Fin 4 → Fin 128 → ℝ
  xk : Fin 8192 → Fin 4 → Fin 128 → ℝ
  v : Fin 8192 → Fin 4 → Fin 128 → ℝ
  x : Fin 8192 → Fin 4 → Fin 128 → ℝ
  w : Fin 4 → Fin 128 → ℝ
  inv : Fin 64 → ℝ
  eps : ℝ
  c0 : ℝ
  eps_pos : 0 < eps

variable (A : Arg)

/-- The rotation of a head's 128 channels by the position's angles. -/
def rot (y : Fin 128 → ℝ) (s : Fin 8192) (d : Fin 128) : ℝ :=
  if hd : (d : ℕ) < 64 then
    y d * Real.cos ((s : ℕ) * A.inv ⟨d, hd⟩) - y ⟨d + 64, by omega⟩ * Real.sin ((s : ℕ) * A.inv ⟨d, hd⟩)
  else
    y d * Real.cos ((s : ℕ) * A.inv ⟨d - 64, by omega⟩) + y ⟨d - 64, by omega⟩ * Real.sin ((s : ℕ) * A.inv ⟨d - 64, by omega⟩)

/-- The rotation's transpose. -/
def unrot (y : Fin 128 → ℝ) (s : Fin 8192) (d : Fin 128) : ℝ :=
  if hd : (d : ℕ) < 64 then
    y ⟨d + 64, by omega⟩ * Real.sin ((s : ℕ) * A.inv ⟨d, hd⟩) + y d * Real.cos ((s : ℕ) * A.inv ⟨d, hd⟩)
  else
    y d * Real.cos ((s : ℕ) * A.inv ⟨d - 64, by omega⟩) + -y ⟨d - 64, by omega⟩ * Real.sin ((s : ℕ) * A.inv ⟨d - 64, by omega⟩)

def q (s : Fin 8192) (h : Fin 4) (d : Fin 128) : ℝ := rot A (A.xq s h) s d * A.c0
def k (s : Fin 8192) (h : Fin 4) (d : Fin 128) : ℝ := rot A (A.xk s h) s d

/-- The score of query `t` against key `s`. -/
def score (h : Fin 4) (t s : Fin 8192) : ℝ := ∑ d, q A t h d * k A s h d

/-- The retention's output. -/
def o (s : Fin 8192) (h : Fin 4) (e : Fin 128) : ℝ := ∑ m, A.v m h e * (score A h s m * wgt (gam h) s m)

def oc (s : Fin 8192) (h : Fin 4) (e : Fin 128) : ℝ := o A s h e - (∑ i, o A s h i) / 128

def va (s : Fin 8192) (h : Fin 4) : ℝ := (∑ i, oc A s h i * oc A s h i) / 128 + A.eps

theorem va_pos (s : Fin 8192) (h : Fin 4) : 0 < va A s h :=
  add_pos_of_nonneg_of_pos (div_nonneg (sum_nonneg fun i _ => mul_self_nonneg _) (by norm_num)) A.eps_pos

def rs (s : Fin 8192) (h : Fin 4) : ℝ := (Real.sqrt (va A s h))⁻¹

theorem rs_sq (s : Fin 8192) (h : Fin 4) : rs A s h * rs A s h = (va A s h)⁻¹ := by
  unfold rs
  rw [← mul_inv, Real.mul_self_sqrt (va_pos A s h).le]

def sg (x : ℝ) : ℝ := 1 / (1 + Real.exp (-x))

/-- The gradient at the head norm's output, before the norm's weight is applied backwards. -/
def dn (s : Fin 8192) (h : Fin 4) (e : Fin 128) : ℝ := A.dm s h e * (A.x s h e * sg (A.x s h e)) * A.w h e

def dp1 (s : Fin 8192) (h : Fin 4) (e : Fin 128) : ℝ :=
  dn A s h e * rs A s h + (∑ i, oc A s h i * dn A s h i) * (-(1 / 2) * (rs A s h / va A s h)) / 128 * (2 * oc A s h e)

/-- The gradient at the retention's output. -/
def dO (s : Fin 8192) (h : Fin 4) (e : Fin 128) : ℝ := dp1 A s h e + (∑ i, -dp1 A s h i) / 128

/-- The gradient at the values. -/
def dV (s : Fin 8192) (h : Fin 4) (e : Fin 128) : ℝ := ∑ t, dO A t h e * (score A h t s * wgt (gam h) t s)

/-- The gradient at the scores. -/
def dS (h : Fin 4) (t s : Fin 8192) : ℝ := (∑ e, dO A t h e * A.v s h e) * wgt (gam h) t s

def dK (s : Fin 8192) (h : Fin 4) (d : Fin 128) : ℝ := ∑ t, dS A h t s * q A t h d
def dQ (t : Fin 8192) (h : Fin 4) (d : Fin 128) : ℝ := (∑ s, dS A h t s * k A s h d) * A.c0

/-- The gradient at the gate's argument. -/
def dG (s : Fin 8192) (h : Fin 4) (e : Fin 128) : ℝ :=
  oc A s h e * rs A s h * A.w h e * A.dm s h e * sg (A.x s h e)
    + A.x s h e * (oc A s h e * rs A s h * A.w h e * A.dm s h e) * (sg (A.x s h e) * (1 - sg (A.x s h e)))

/-- The four gradients the layer returns. -/
def gq (s : Fin 8192) (h : Fin 4) (d : Fin 128) : ℝ := unrot A (dQ A s h) s d
def gk (s : Fin 8192) (h : Fin 4) (d : Fin 128) : ℝ := unrot A (dK A s h) s d

/-- Which of them each block of 512 columns holds. -/
def grad (p : Fin 4) (s : Fin 8192) (h : Fin 4) (d : Fin 128) : ℝ :=
  match p with
  | 0 => gq A s h d
  | 1 => gk A s h d
  | 2 => dV A s h d
  | 3 => dG A s h d

/-! ## The norm's backward pass as a tile computes it -/

theorem dO_tile (s : Fin 8192) (h : Fin 4) (e : Fin 128) :
    dO A s h e = rs A s h * (dn A s h e - oc A s h e * rs A s h * ((∑ i, dn A s h i * (oc A s h i * rs A s h)) / 128))
      - (∑ i, rs A s h * (dn A s h i - oc A s h i * rs A s h * ((∑ i, dn A s h i * (oc A s h i * rs A s h)) / 128))) / 128 := by
  have hp : ∀ i, dp1 A s h i
      = rs A s h * (dn A s h i - oc A s h i * rs A s h * ((∑ i, dn A s h i * (oc A s h i * rs A s h)) / 128)) := by
    intro i
    have h1 : (∑ i, dn A s h i * (oc A s h i * rs A s h)) = (∑ i, oc A s h i * dn A s h i) * rs A s h := by
      rw [sum_mul]; exact sum_congr rfl fun i _ => by ring
    unfold dp1
    rw [h1, div_eq_mul_inv (rs A s h), ← rs_sq]
    ring
  unfold dO
  simp only [hp, sum_neg_distrib]
  ring

theorem dG_tile (s : Fin 8192) (h : Fin 4) (e : Fin 128) :
    dG A s h e = A.dm s h e * (oc A s h e * rs A s h) * A.w h e
      * (sg (A.x s h e) * (1 + A.x s h e * (1 - sg (A.x s h e)))) := by
  unfold dG; ring

theorem dn_tile (s : Fin 8192) (h : Fin 4) (e : Fin 128) :
    dn A s h e = A.dm s h e * A.w h e * (A.x s h e * sg (A.x s h e)) := by
  unfold dn; ring

/-! ## Tiles of 256 rows -/

/-- Row `r` of tile `j`. -/
def row (j : Fin 32) (r : Fin 256) : Fin 8192 := ⟨256 * j + r, by omega⟩

/-- A sum over the rows of one tile. -/
theorem sum_tile (j : Fin 32) (f : Fin 8192 → ℝ) :
    ∑ t : Fin 8192, (if (t : ℕ) / 256 = j then f t else 0) = ∑ r, f (row j r) := by
  rw [← sum_filter]
  refine (sum_nbij' (fun t => (⟨(t : ℕ) % 256, Nat.mod_lt _ (by norm_num)⟩ : Fin 256)) (fun r => row j r) ?_ ?_ ?_ ?_ ?_)
  · intro t _; exact mem_univ _
  · intro r _
    simp only [mem_filter, mem_univ, true_and, row]
    omega
  · intro t ht
    simp only [mem_filter, mem_univ, true_and] at ht
    apply Fin.ext
    simp only [row]
    omega
  · intro r _
    apply Fin.ext
    simp only [row]
    omega
  · intro t ht
    simp only [mem_filter, mem_univ, true_and] at ht
    congr 1
    apply Fin.ext
    simp only [row]
    omega

/-- The weights inside one tile don't depend on the tile. -/
theorem wgt_row (g : ℝ) (j : Fin 32) (r s : Fin 256) : wgt g (row j r) (row j s) = wgt g r s := by
  unfold wgt dist row
  have h1 : ((256 * (j : ℕ) + (s : ℕ)) / 64 ≤ (256 * (j : ℕ) + (r : ℕ)) / 64) ↔ (s : ℕ) / 64 ≤ (r : ℕ) / 64 := by omega
  simp only [h1]
  have h2 : 256 * (j : ℕ) + (r : ℕ) - (256 * (j : ℕ) + (s : ℕ)) + (256 * (j : ℕ) + (s : ℕ) - (256 * (j : ℕ) + (r : ℕ)))
    = (r : ℕ) - s + (s - r) := by omega
  rw [h2]

/-- The keys before tile `j`, each with the decay up to the row before the tile. -/
def before (g : ℝ) (j : Fin 32) (f : Fin 8192 → ℝ) : ℝ :=
  ∑ s : Fin 8192, (if (s : ℕ) < 256 * j then g ^ (256 * (j : ℕ) - 1 - s) * f s else 0)

/-- The queries after the first `n` tiles, each with its decay from the tile border. -/
def after (g : ℝ) (n : ℕ) (f : Fin 8192 → ℝ) : ℝ :=
  ∑ t : Fin 8192, (if 256 * n ≤ (t : ℕ) then g ^ ((t : ℕ) + 1 - 256 * n) * f t else 0)

/-- A query's sum over the keys: its own tile, and the state before the tile. -/
theorem sum_keys (g : ℝ) (j : Fin 32) (r : Fin 256) (f : Fin 8192 → ℝ) :
    ∑ s : Fin 8192, wgt g (row j r) s * f s = ∑ s : Fin 256, wgt g r s * f (row j s) + g ^ ((r : ℕ) + 1) * before g j f := by
  have h1 : ∑ s : Fin 256, wgt g r s * f (row j s)
      = ∑ s : Fin 8192, (if (s : ℕ) / 256 = j then wgt g (row j r) s * f s else 0) := by
    rw [sum_tile]; exact sum_congr rfl fun s _ => by rw [wgt_row]
  rw [h1, before, mul_sum, ← sum_add_distrib]
  refine sum_congr rfl fun s _ => ?_
  by_cases h : (s : ℕ) / 256 = j
  · have : ¬ (s : ℕ) < 256 * j := by omega
    rw [if_pos h, if_neg this]; ring
  · rw [if_neg h]
    by_cases h' : (s : ℕ) < 256 * j
    · rw [if_pos h']
      have h2 : (s : ℕ) / 64 ≤ ((row j r : Fin 8192) : ℕ) / 64 := by simp only [row]; omega
      have h3 : dist (row j r : Fin 8192) s = ((r : ℕ) + 1) + (256 * (j : ℕ) - 1 - s) := by simp only [dist, row]; omega
      unfold wgt
      rw [if_pos h2, h3, pow_add]; ring
    · rw [if_neg h']
      have h2 : ¬ (s : ℕ) / 64 ≤ ((row j r : Fin 8192) : ℕ) / 64 := by simp only [row]; omega
      unfold wgt
      rw [if_neg h2]; ring

/-- A key's sum over the queries: its own tile, and the state after the tile. -/
theorem sum_queries (g : ℝ) (j : Fin 32) (r : Fin 256) (f : Fin 8192 → ℝ) :
    ∑ t : Fin 8192, wgt g t (row j r) * f t = ∑ t : Fin 256, wgt g t r * f (row j t) + g ^ (255 - (r : ℕ)) * after g (j + 1) f := by
  have h1 : ∑ s : Fin 256, wgt g s r * f (row j s)
      = ∑ s : Fin 8192, (if (s : ℕ) / 256 = j then wgt g s (row j r) * f s else 0) := by
    rw [sum_tile]; exact sum_congr rfl fun s _ => by rw [wgt_row]
  rw [h1, after, mul_sum, ← sum_add_distrib]
  refine sum_congr rfl fun s _ => ?_
  by_cases h : (s : ℕ) / 256 = j
  · have : ¬ 256 * ((j : ℕ) + 1) ≤ (s : ℕ) := by omega
    rw [if_pos h, if_neg this]; ring
  · rw [if_neg h]
    by_cases h' : 256 * ((j : ℕ) + 1) ≤ (s : ℕ)
    · rw [if_pos h']
      have h2 : ((row j r : Fin 8192) : ℕ) / 64 ≤ (s : ℕ) / 64 := by simp only [row]; omega
      have h3 : dist s (row j r : Fin 8192) = (255 - (r : ℕ)) + ((s : ℕ) + 1 - 256 * ((j : ℕ) + 1)) := by
        simp only [dist, row]; omega
      unfold wgt
      rw [if_pos h2, h3, pow_add]; ring
    · rw [if_neg h']
      have h2 : ¬ ((row j r : Fin 8192) : ℕ) / 64 ≤ (s : ℕ) / 64 := by simp only [row]; omega
      unfold wgt
      rw [if_neg h2]; ring

/-- Past the last tile nothing is left. -/
theorem after_last (g : ℝ) (f : Fin 8192 → ℝ) : after g 32 f = 0 :=
  sum_eq_zero fun t _ => if_neg (by omega)

/-- The state after a tile, carried over the tile. -/
theorem after_step (g : ℝ) (j : Fin 32) (f : Fin 8192 → ℝ) :
    after g j f = g ^ 256 * after g (j + 1) f + ∑ r : Fin 256, g ^ ((r : ℕ) + 1) * f (row j r) := by
  have h1 : ∑ r : Fin 256, g ^ ((r : ℕ) + 1) * f (row j r)
      = ∑ s : Fin 8192, (if (s : ℕ) / 256 = j then g ^ ((s : ℕ) + 1 - 256 * j) * f s else 0) := by
    rw [sum_tile]
    refine sum_congr rfl fun s _ => ?_
    have : ((row j s : Fin 8192) : ℕ) + 1 - 256 * j = (s : ℕ) + 1 := by simp only [row]; omega
    rw [this]
  rw [h1, after, after, mul_sum, ← sum_add_distrib]
  refine sum_congr rfl fun s _ => ?_
  by_cases h : (s : ℕ) / 256 = j
  · have h2 : ¬ 256 * ((j : ℕ) + 1) ≤ (s : ℕ) := by omega
    have h3 : 256 * (j : ℕ) ≤ s := by omega
    rw [if_pos h, if_neg h2, if_pos h3]; ring
  · rw [if_neg h]
    by_cases h' : 256 * ((j : ℕ) + 1) ≤ (s : ℕ)
    · have h3 : 256 * (j : ℕ) ≤ s := by omega
      have h4 : (s : ℕ) + 1 - 256 * j = 256 + ((s : ℕ) + 1 - 256 * ((j : ℕ) + 1)) := by omega
      rw [if_pos h', if_pos h3, h4, pow_add]; ring
    · have h3 : ¬ 256 * (j : ℕ) ≤ s := by omega
      rw [if_neg h', if_neg h3]; ring

/-! ## The retention's three gradients, tile by tile -/

/-- The state before tile `j`. -/
def st (j : Fin 32) (h : Fin 4) (d e : Fin 128) : ℝ := before (gam h) j fun s => k A s h d * A.v s h e

/-- The gradient's state after the first `n` tiles. -/
def dst (n : ℕ) (h : Fin 4) (d e : Fin 128) : ℝ := after (gam h) n fun t => q A t h d * dO A t h e

theorem dst_last (h : Fin 4) (d e : Fin 128) : dst A 32 h d e = 0 := after_last _ _

theorem dst_step (j : Fin 32) (h : Fin 4) (d e : Fin 128) :
    dst A j h d e = gam h ^ 256 * dst A (j + 1) h d e
      + ∑ r : Fin 256, q A (row j r) h d * gam h ^ ((r : ℕ) + 1) * dO A (row j r) h e := by
  unfold dst
  rw [after_step]
  congr 1
  exact sum_congr rfl fun r _ => by ring

theorem before_sum {ι : Type} [Fintype ι] (g : ℝ) (j : Fin 32) (c : ι → ℝ) (f : ι → Fin 8192 → ℝ) :
    before g j (fun s => ∑ i, c i * f i s) = ∑ i, c i * before g j (f i) := by
  unfold before
  simp only [mul_sum, ← sum_filter]
  rw [sum_comm]
  exact sum_congr rfl fun i _ => sum_congr rfl fun s _ => by ring

theorem after_sum {ι : Type} [Fintype ι] (g : ℝ) (n : ℕ) (c : ι → ℝ) (f : ι → Fin 8192 → ℝ) :
    after g n (fun s => ∑ i, c i * f i s) = ∑ i, c i * after g n (f i) := by
  unfold after
  simp only [mul_sum, ← sum_filter]
  rw [sum_comm]
  exact sum_congr rfl fun i _ => sum_congr rfl fun s _ => by ring

theorem dQ_tile (j : Fin 32) (r : Fin 256) (h : Fin 4) (d : Fin 128) :
    dQ A (row j r) h d = ((∑ s : Fin 256, (∑ e, dO A (row j r) h e * A.v (row j s) h e) * wgt (gam h) r s * k A (row j s) h d)
      + (∑ e, dO A (row j r) h e * st A j h d e) * gam h ^ ((r : ℕ) + 1)) * A.c0 := by
  have h1 := sum_keys (gam h) j r fun s => ∑ e, dO A (row j r) h e * (k A s h d * A.v s h e)
  rw [before_sum] at h1
  unfold dQ
  refine congrArg (· * A.c0) ?_
  unfold dS st
  refine (sum_congr rfl fun s _ => ?_).trans (h1.trans (congrArg₂ (· + ·) (sum_congr rfl fun s _ => ?_) ?_))
  · simp only [mul_sum, sum_mul]; exact sum_congr rfl fun e _ => by ring
  · simp only [mul_sum, sum_mul]; exact sum_congr rfl fun e _ => by ring
  · exact mul_comm _ _

theorem dK_tile (j : Fin 32) (r : Fin 256) (h : Fin 4) (d : Fin 128) :
    dK A (row j r) h d = (∑ t : Fin 256, (∑ e, dO A (row j t) h e * A.v (row j r) h e) * wgt (gam h) t r * q A (row j t) h d)
      + (∑ e, A.v (row j r) h e * dst A (j + 1) h d e) * gam h ^ (255 - (r : ℕ)) := by
  have h1 := sum_queries (gam h) j r fun t => ∑ e, A.v (row j r) h e * (q A t h d * dO A t h e)
  rw [after_sum] at h1
  unfold dK dS dst
  rw [mul_comm (∑ e, A.v (row j r) h e * _)]
  convert h1 using 2
  · simp only [mul_sum, sum_mul]; exact sum_congr rfl fun e _ => by ring
  · simp only [mul_sum, sum_mul]; exact sum_congr rfl fun s _ => sum_congr rfl fun e _ => by ring

theorem dV_tile (j : Fin 32) (r : Fin 256) (h : Fin 4) (e : Fin 128) :
    dV A (row j r) h e = (∑ t : Fin 256, (∑ d, q A (row j t) h d * k A (row j r) h d) * wgt (gam h) t r * dO A (row j t) h e)
      + ∑ d, k A (row j r) h d * gam h ^ (255 - (r : ℕ)) * dst A (j + 1) h d e := by
  have h1 := sum_queries (gam h) j r fun t => ∑ d, k A (row j r) h d * (q A t h d * dO A t h e)
  rw [after_sum] at h1
  unfold dV score dst
  convert h1 using 2
  · simp only [mul_sum, sum_mul]; exact sum_congr rfl fun e _ => by ring
  · simp only [mul_sum, sum_mul]; exact sum_congr rfl fun s _ => sum_congr rfl fun e _ => by ring
  · rw [mul_sum]; exact sum_congr rfl fun e _ => by ring

end Cert.Retention
-- ==== Proof.Consts.lean ====
module

public import Idealize.ShloMosaic.Lib.Pointwise
public import proofs.«01_k».proof.Proof.Math

/-! The float words of the two programs as real numbers. -/

@[expose] public section

noncomputable section

namespace Cert.Retention

open Idealize.ShloMosaic

theorem word_128 : Ideal.ofBits .f32 0x43000000#32 = ((128 : ℝ) : EReal) := by
  simp [Ideal.ofBits, Ideal.ieee, -EReal.coe_mul]; norm_num
theorem word_2 : Ideal.ofBits .f32 0x40000000#32 = ((2 : ℝ) : EReal) := by
  simp [Ideal.ofBits, Ideal.ieee, -EReal.coe_mul]; norm_num
theorem word_63 : Ideal.ofBits .f32 0x427C0000#32 = ((63 : ℝ) : EReal) := by
  simp [Ideal.ofBits, Ideal.ieee, -EReal.coe_mul]; norm_num
theorem word_256 : Ideal.ofBits .f32 0x43800000#32 = ((256 : ℝ) : EReal) := by
  simp [Ideal.ofBits, Ideal.ieee, -EReal.coe_mul]; norm_num
theorem word_10000 : Ideal.ofBits .f32 0x461C4000#32 = ((10000 : ℝ) : EReal) := by
  simp [Ideal.ofBits, Ideal.ieee, -EReal.coe_mul]; norm_num
theorem word_neg5 : Ideal.ofBits .f32 0xC0A00000#32 = ((-5 : ℝ) : EReal) := by
  simp [Ideal.ofBits, Ideal.ieee, -EReal.coe_mul]; norm_num
theorem word_neg_half : Ideal.ofBits .f32 0xBF000000#32 = ((-(1 / 2) : ℝ) : EReal) := by
  simp [Ideal.ofBits, Ideal.ieee, -EReal.coe_mul]; norm_num

theorem word_eps : Ideal.ofBits .f32 0x3727C5AC#32 = ((10995116 / 2 ^ 40 : ℝ) : EReal) := by
  simp [Ideal.ofBits, Ideal.ieee, -EReal.coe_mul]; norm_num
theorem word_c0 : Ideal.ofBits .f32 0x3DB504F3#32 = ((11863283 / 2 ^ 27 : ℝ) : EReal) := by
  simp [Ideal.ofBits, Ideal.ieee, -EReal.coe_mul]; norm_num

end Cert.Retention
-- ==== Proof.Args.lean ====
module

public import proofs.«01_k».proof.Proof.Consts

/-! The layer's arguments as reals, and how the extended reals compute on real values. -/

@[expose] public section

noncomputable section

namespace Cert.Retention

open Idealize.ShloMosaic Finset

/-- The three arrays the layer's gradient reads: the cotangent, the projections, the norm's weight. -/
abbrev ArrD : Type := FVec Ideal (⟨2, ![8192, 1024]⟩ : Shape) .f32
abbrev ArrP : Type := FVec Ideal (⟨2, ![8192, 3712]⟩ : Shape) .f32
abbrev ArrW : Type := FVec Ideal (⟨2, ![1, 512]⟩ : Shape) .f32

/-- What is read of them is finite. -/
structure IsReal (X0 : ArrD) (X1 : ArrP) (X6 : ArrW) : Prop where
  d : ∀ (s : Fin 8192) (c : Fin 1024), (c : ℕ) < 512 → X0 (ix2 s c) ≠ ⊤ ∧ X0 (ix2 s c) ≠ ⊥
  p : ∀ (s : Fin 8192) (c : Fin 3712), (c : ℕ) < 2048 → X1 (ix2 s c) ≠ ⊤ ∧ X1 (ix2 s c) ≠ ⊥
  w : ∀ (c : Fin 512), X6 (ix2 0 c) ≠ ⊤ ∧ X6 (ix2 0 c) ≠ ⊥

/-- The layer's real arguments. -/
def argOf (X0 : ArrD) (X1 : ArrP) (X6 : ArrW) : Arg where
  dm s h d := EReal.toReal (X0 (ix2 s ⟨(h : ℕ) * 128 + d, by omega⟩))
  xq s h d := EReal.toReal (X1 (ix2 s ⟨(h : ℕ) * 128 + d, by omega⟩))
  xk s h d := EReal.toReal (X1 (ix2 s ⟨512 + ((h : ℕ) * 128 + d), by omega⟩))
  v s h d := EReal.toReal (X1 (ix2 s ⟨1024 + ((h : ℕ) * 128 + d), by omega⟩))
  x s h d := EReal.toReal (X1 (ix2 s ⟨1536 + ((h : ℕ) * 128 + d), by omega⟩))
  w h d := EReal.toReal (X6 (ix2 0 ⟨(h : ℕ) * 128 + d, by omega⟩))
  inv i := 1 / (10000 : ℝ) ^ (((i : ℕ) : ℝ) / 63)
  eps := 10995116 / 2 ^ 40
  c0 := 11863283 / 2 ^ 27
  eps_pos := by norm_num

section reads

variable {X0 : ArrD} {X1 : ArrP} {X6 : ArrW} (H : IsReal X0 X1 X6)
include H

theorem dm_at (s : Fin 8192) (h : Fin 4) (d : Fin 128) (c : Fin 1024) (hc : (c : ℕ) = h * 128 + d) :
    X0 (ix2 s c) = (((argOf X0 X1 X6).dm s h d : ℝ) : EReal) := by
  rw [show c = ⟨(h : ℕ) * 128 + d, by clear hc; omega⟩ from Fin.ext hc]
  exact (EReal.coe_toReal (H.d s _ (by simp only; omega)).1 (H.d s _ (by simp only; omega)).2).symm

theorem xq_at (s : Fin 8192) (h : Fin 4) (d : Fin 128) (c : Fin 3712) (hc : (c : ℕ) = h * 128 + d) :
    X1 (ix2 s c) = (((argOf X0 X1 X6).xq s h d : ℝ) : EReal) := by
  rw [show c = ⟨(h : ℕ) * 128 + d, by clear hc; omega⟩ from Fin.ext hc]
  exact (EReal.coe_toReal (H.p s _ (by simp only; omega)).1 (H.p s _ (by simp only; omega)).2).symm

theorem xk_at (s : Fin 8192) (h : Fin 4) (d : Fin 128) (c : Fin 3712) (hc : (c : ℕ) = 512 + (h * 128 + d)) :
    X1 (ix2 s c) = (((argOf X0 X1 X6).xk s h d : ℝ) : EReal) := by
  rw [show c = ⟨512 + ((h : ℕ) * 128 + d), by clear hc; omega⟩ from Fin.ext hc]
  exact (EReal.coe_toReal (H.p s _ (by simp only; omega)).1 (H.p s _ (by simp only; omega)).2).symm

theorem v_at (s : Fin 8192) (h : Fin 4) (d : Fin 128) (c : Fin 3712) (hc : (c : ℕ) = 1024 + (h * 128 + d)) :
    X1 (ix2 s c) = (((argOf X0 X1 X6).v s h d : ℝ) : EReal) := by
  rw [show c = ⟨1024 + ((h : ℕ) * 128 + d), by clear hc; omega⟩ from Fin.ext hc]
  exact (EReal.coe_toReal (H.p s _ (by simp only; omega)).1 (H.p s _ (by simp only; omega)).2).symm

theorem x_at (s : Fin 8192) (h : Fin 4) (d : Fin 128) (c : Fin 3712) (hc : (c : ℕ) = 1536 + (h * 128 + d)) :
    X1 (ix2 s c) = (((argOf X0 X1 X6).x s h d : ℝ) : EReal) := by
  rw [show c = ⟨1536 + ((h : ℕ) * 128 + d), by clear hc; omega⟩ from Fin.ext hc]
  exact (EReal.coe_toReal (H.p s _ (by simp only; omega)).1 (H.p s _ (by simp only; omega)).2).symm

theorem w_at (h : Fin 4) (d : Fin 128) (c : Fin 512) (hc : (c : ℕ) = h * 128 + d) :
    X6 (ix2 0 c) = (((argOf X0 X1 X6).w h d : ℝ) : EReal) := by
  rw [show c = ⟨(h : ℕ) * 128 + d, by clear hc; omega⟩ from Fin.ext hc]
  exact (EReal.coe_toReal (H.w _).1 (H.w _).2).symm

end reads

/-! ## Real values stay real -/

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [sum_insert ha, sum_insert ha, ih, EReal.coe_add]

theorem div_real (a b : ℝ) (hb : b ≠ 0) : Ideal.div ((a : ℝ) : EReal) ((b : ℝ) : EReal) = ((a / b : ℝ) : EReal) := by
  rw [Ideal.div_coe hb, ← EReal.coe_mul, mul_one_div]

theorem rsqrt_real (a : ℝ) (ha : 0 < a) : Ideal.rsqrt ((a : ℝ) : EReal) = (((Real.sqrt a)⁻¹ : ℝ) : EReal) := by
  rw [Ideal.rsqrt_coe, if_neg (not_lt.2 ha.le), if_neg ha.ne']

theorem log_real (a : ℝ) (ha : 0 < a) : Ideal.log ((a : ℝ) : EReal) = ((Real.log a : ℝ) : EReal) := by
  rw [Ideal.log_coe, if_neg (not_le.2 ha)]

theorem word_real (n : ℕ) (hn : n < 2 ^ 31) : (FloatOps.sitofp .f32 (BitVec.ofNat 32 n) : Ideal .f32) = (((n : ℕ) : ℝ) : EReal) := by
  have h : (BitVec.ofNat 32 n).toInt = (n : ℤ) := by
    rw [BitVec.toInt_eq_toNat_of_lt (by rw [BitVec.toNat_ofNat]; omega), BitVec.toNat_ofNat]
    omega
  change (((BitVec.ofNat 32 n).toInt : ℝ) : EReal) = _
  rw [h]
  norm_cast

/-- The decay of the distance, as the programs compute it: through the logarithm. -/
theorem exp_log_real (g : ℝ) (hg : 0 < g) (n : ℕ) : Real.exp (Real.log g * n) = g ^ n := by
  rw [mul_comm, Real.exp_nat_mul, Real.exp_log hg]

theorem abs_real (a : ℝ) : max ((a : ℝ) : EReal) (-((a : ℝ) : EReal)) = ((|a| : ℝ) : EReal) := by
  rw [← EReal.coe_neg, abs_eq_max_neg]
  exact (Monotone.map_max (fun _ _ h => EReal.coe_le_coe_iff.2 h)).symm

theorem abs_dist (a b : ℕ) : |((a : ℝ)) - b| = (dist a b : ℕ) := by
  unfold dist
  rcases le_total a b with h | h
  · rw [Nat.sub_eq_zero_of_le h, zero_add, Nat.cast_sub h, abs_of_nonpos (sub_nonpos.2 (Nat.cast_le.2 h)), neg_sub]
  · rw [Nat.sub_eq_zero_of_le h, add_zero, Nat.cast_sub h, abs_of_nonneg (sub_nonneg.2 (Nat.cast_le.2 h))]

end Cert.Retention
-- ==== Proof.Tile.lean ====
/- One head of a tile of 256 rows: what the body computes from real blocks. -/
module

public import proofs.«01_k».proof.Proof.Frame
public import proofs.«01_k».proof.Proof.Args
public import Idealize.ShloMosaic.Lib.Pipeline.ValueKit

@[expose] public section

set_option maxRecDepth 16384

noncomputable section

open Idealize.ShloMosaic Idealize.ShloMosaic.TcCoe Idealize.SL.Sem Finset

namespace Cert.KernelIdeal.Hand

open Cert.KernelIdeal Cert.KernelIdeal.Gen Cert.Retention

variable {A : Arg} {h : Fin 4} {j : Fin 32}

/-- The gradient at the retention's output, of the saved outputs `O`, the gate's argument `X`, the weight `W` and the cotangent `D`. -/
abbrev doV (O X : FVec Ideal S256x128 .f32) (W : FVec Ideal S1x128 .f32) (D : FVec Ideal S256x128 .f32) : FVec Ideal S256x128 .bf16 :=
  k0_pay36 (F := Ideal) (k0_pay22 (F := Ideal) (k0_pay20 (F := Ideal) O)) (k0_pay23 (F := Ideal) (k0_pay20 (F := Ideal) O)) (k0_pay26 (F := Ideal) X W D)

/-- The gradient at the gate. -/
abbrev dgV (O X : FVec Ideal S256x128 .f32) (W : FVec Ideal S1x128 .f32) (D : FVec Ideal S256x128 .f32) : FVec Ideal S256x128 .bf16 :=
  k0_pay30 (F := Ideal) X (k0_pay24 (F := Ideal) X) (k0_pay28 (F := Ideal) (k0_pay20 (F := Ideal) O) W D) (k0_pay29 (F := Ideal) X)

/-- The blocks of one head of tile `j` hold the layer's reals. -/
structure Norm (A : Arg) (h : Fin 4) (j : Fin 32) (O X : FVec Ideal S256x128 .f32) (W : FVec Ideal S1x128 .f32) (D : FVec Ideal S256x128 .f32) : Prop where
  o : ∀ (r : Fin 256) (e : Fin 128), O (ix2 r e) = ((o A (row j r) h e : ℝ) : EReal)
  x : ∀ (r : Fin 256) (e : Fin 128), X (ix2 r e) = ((A.x (row j r) h e : ℝ) : EReal)
  w : ∀ e : Fin 128, W (ix2 0 e) = ((A.w h e : ℝ) : EReal)
  d : ∀ (r : Fin 256) (e : Fin 128), D (ix2 r e) = ((A.dm (row j r) h e : ℝ) : EReal)
  eps : A.eps = 10995116 / 2 ^ 40

section norm

variable {O X : FVec Ideal S256x128 .f32} {W : FVec Ideal S1x128 .f32} {D : FVec Ideal S256x128 .f32} (N : Norm A h j O X W D)
include N

theorem oc_at (r : Fin 256) (e : Fin 128) : k0_pay21 (F := Ideal) (k0_pay20 (F := Ideal) O) (ix2 r e) = ((oc A (row j r) h e : ℝ) : EReal) := by
  pointwise [k0_pay21, k0_pay20]
  simp only [N.o, word_128]
  rw [coe_sum, div_real _ _ (by norm_num), ← EReal.coe_sub]
  rfl

theorem rs_at (r : Fin 256) (z) : k0_pay22 (F := Ideal) (k0_pay20 (F := Ideal) O) (ix2 r z) = ((rs A (row j r) h : ℝ) : EReal) := by
  pointwise [k0_pay22]
  simp only [oc_at N, word_128, word_eps, ← EReal.coe_mul]
  rw [coe_sum, div_real _ _ (by norm_num), ← EReal.coe_add, ← N.eps]
  exact rsqrt_real _ (va_pos A (row j r) h)

theorem n_at (r : Fin 256) (e : Fin 128) : k0_pay23 (F := Ideal) (k0_pay20 (F := Ideal) O) (ix2 r e) = ((oc A (row j r) h e * rs A (row j r) h : ℝ) : EReal) := by
  pointwise [k0_pay23]
  rw [oc_at N, rs_at N, ← EReal.coe_mul]

theorem sg_at (r : Fin 256) (e : Fin 128) : k0_pay24 (F := Ideal) X (ix2 r e) = ((sg (A.x (row j r) h e) : ℝ) : EReal) := by
  pointwise [k0_pay24]
  rw [N.x, zero_sub, ← EReal.coe_neg, Ideal.exp_coe, ← EReal.coe_one, ← EReal.coe_add, div_real _ _ (by positivity)]
  rfl

theorem dn_at (r : Fin 256) (e : Fin 128) : k0_pay26 (F := Ideal) X W D (ix2 r e) = ((dn A (row j r) h e : ℝ) : EReal) := by
  pointwise [k0_pay26, k0_pay25]
  rw [N.x, N.d, N.w, sg_at N, dn_tile]
  norm_cast

theorem do_at (r : Fin 256) (e : Fin 128) : doV O X W D (ix2 r e) = ((dO A (row j r) h e : ℝ) : EReal) := by
  pointwise [doV, k0_pay36]
  simp only [rs_at N, n_at N, dn_at N, word_128, ← EReal.coe_mul, coe_sum]
  rw [dO_tile]
  simp only [div_real _ _ (show (128 : ℝ) ≠ 0 by norm_num), ← EReal.coe_mul, ← EReal.coe_sub, coe_sum]

theorem dg_at (r : Fin 256) (e : Fin 128) : dgV O X W D (ix2 r e) = ((dG A (row j r) h e : ℝ) : EReal) := by
  pointwise [dgV, k0_pay30, k0_pay28, k0_pay29]
  rw [N.x, N.d, N.w, sg_at N, n_at N, dG_tile]
  norm_cast

end norm

/-- The queries, keys, values, weights and states of one head of tile `j` hold the layer's reals. -/
structure Heads (A : Arg) (h : Fin 4) (j : Fin 32) (C S : FVec Ideal S256x128 .f32) (Q K : FVec Ideal S256x128 .bf16) (V : FVec Ideal S256x128 .f32)
    (DO : FVec Ideal S256x128 .bf16) (qd kd : FVec Ideal S1x256x128 .f32) (Wt : FVec Ideal S1x256x256 .f32) (R : FVec Ideal S1x128x128 .f32)
    (Z : FVec Ideal S128x128 .f32) : Prop where
  c : ∀ (r : Fin 256) (e : Fin 128), C (ix2 r e) = ((Real.cos ((row j r : ℕ) * A.inv ⟨(e : ℕ) % 64, Nat.mod_lt _ (by norm_num)⟩) : ℝ) : EReal)
  s : ∀ (r : Fin 256) (e : Fin 128), S (ix2 r e)
    = (((if (e : ℕ) < 64 then -1 else 1) * Real.sin ((row j r : ℕ) * A.inv ⟨(e : ℕ) % 64, Nat.mod_lt _ (by norm_num)⟩) : ℝ) : EReal)
  q : ∀ (r : Fin 256) (e : Fin 128), Q (ix2 r e) = ((q A (row j r) h e : ℝ) : EReal)
  k : ∀ (r : Fin 256) (e : Fin 128), K (ix2 r e) = ((k A (row j r) h e : ℝ) : EReal)
  v : ∀ (r : Fin 256) (e : Fin 128), V (ix2 r e) = ((A.v (row j r) h e : ℝ) : EReal)
  dO : ∀ (r : Fin 256) (e : Fin 128), DO (ix2 r e) = ((dO A (row j r) h e : ℝ) : EReal)
  qd : ∀ (r : Fin 256) (e : Fin 128), qd (ix3 0 r e) = ((gam h ^ ((r : ℕ) + 1) : ℝ) : EReal)
  kd : ∀ (r : Fin 256) (e : Fin 128), kd (ix3 0 r e) = ((gam h ^ (255 - (r : ℕ)) : ℝ) : EReal)
  wt : ∀ r s : Fin 256, Wt (ix3 0 r s) = ((wgt (gam h) r s : ℝ) : EReal)
  st : ∀ d e : Fin 128, R (ix3 0 d e) = ((st A j h d e : ℝ) : EReal)
  dst : ∀ d e : Fin 128, Z (ix2 d e) = ((dst A (j + 1) h d e : ℝ) : EReal)
  c0 : A.c0 = 11863283 / 2 ^ 27

section heads

variable {C S : FVec Ideal S256x128 .f32} {Q K : FVec Ideal S256x128 .bf16} {V : FVec Ideal S256x128 .f32}
  {DO : FVec Ideal S256x128 .bf16} {qd kd : FVec Ideal S1x256x128 .f32} {Wt : FVec Ideal S1x256x256 .f32} {R : FVec Ideal S1x128x128 .f32}
  {Z : FVec Ideal S128x128 .f32} (N : Heads A h j C S Q K V DO qd kd Wt R Z)
include N

theorem dkr_at (r : Fin 256) (e : Fin 128) : k0_pay43 (F := Ideal) (k0_pay31 (F := Ideal) Q) (k0_pay35 (F := Ideal) V) DO (k0_pay38 kd) Z Wt (ix2 r e)
    = ((dK A (row j r) h e : ℝ) : EReal) := by
  pointwise [k0_pay43, k0_pay41, k0_pay40, k0_pay31, k0_pay35, k0_pay38]
  simp only [N.q, N.v, N.dO, N.kd, N.wt, N.dst, ← EReal.coe_mul, coe_sum, ← EReal.coe_add]
  rw [dK_tile]

/-- The gradient at the values. -/
abbrev dvV (Q K : FVec Ideal S256x128 .bf16) (DO : FVec Ideal S256x128 .bf16) (kd : FVec Ideal S1x256x128 .f32) (Wt : FVec Ideal S1x256x256 .f32)
    (Z : FVec Ideal S128x128 .f32) : FVec Ideal S256x128 .bf16 :=
  k0_pay50 (F := Ideal) (k0_pay44 (F := Ideal) (k0_pay34 (F := Ideal) K) DO (k0_pay38 kd) (k0_pay39 (F := Ideal) Q K) Wt Z)

theorem dv_at (r : Fin 256) (e : Fin 128) : dvV Q K DO kd Wt Z (ix2 r e) = ((dV A (row j r) h e : ℝ) : EReal) := by
  pointwise [dvV, k0_pay50, k0_pay44, k0_pay40, k0_pay34, k0_pay38, k0_pay39, k0_pay31, k0_pay32]
  simp only [N.q, N.k, N.dO, N.kd, N.wt, N.dst, ← EReal.coe_mul, coe_sum, ← EReal.coe_add]
  rw [dV_tile]

/-- The gradient at the queries. -/
abbrev dqV (C S : FVec Ideal S256x128 .f32) (K : FVec Ideal S256x128 .bf16) (V : FVec Ideal S256x128 .f32)
    (DO : FVec Ideal S256x128 .bf16) (qd : FVec Ideal S1x256x128 .f32) (Wt : FVec Ideal S1x256x256 .f32) (R : FVec Ideal S1x128x128 .f32) : FVec Ideal S256x128 .bf16 :=
  k0_pay48 (F := Ideal) (k0_pay46 (F := Ideal) C (k0_pay32 (F := Ideal) K) (k0_pay35 (F := Ideal) V) DO (k0_pay37 qd) R Wt) (k0_pay47 (F := Ideal) S (k0_pay32 (F := Ideal) K) (k0_pay35 (F := Ideal) V) DO (k0_pay37 qd) R Wt) 64#32

omit N in
/-- The rotation's transpose in the body's form. -/
theorem unrot_eq (y : Fin 128 → ℝ) (s : Fin 8192) (e : Fin 128) :
    unrot A y s e = y e * Real.cos ((s : ℕ) * A.inv ⟨(e : ℕ) % 64, Nat.mod_lt _ (by norm_num)⟩)
      + y ⟨((e : ℕ) + 128 - 64) % 128, Nat.mod_lt _ (by norm_num)⟩
        * ((if ((e : ℕ) + 128 - 64) % 128 < 64 then -1 else 1)
          * Real.sin ((s : ℕ) * A.inv ⟨((e : ℕ) + 128 - 64) % 128 % 64, Nat.mod_lt _ (by norm_num)⟩)) := by
  unfold unrot
  split
  · rename_i hd
    have h1 : ((e : ℕ) + 128 - 64) % 128 = (e : ℕ) + 64 := by omega
    have h2 : (e : ℕ) % 64 = e := by omega
    have h3 : ((e : ℕ) + 64) % 64 = e := by omega
    simp only [h1, h2, h3, show ¬ (e : ℕ) + 64 < 64 by omega, if_false]
    ring
  · rename_i hd
    have h1 : ((e : ℕ) + 128 - 64) % 128 = (e : ℕ) - 64 := by omega
    have h2 : (e : ℕ) % 64 = (e : ℕ) - 64 := by omega
    have h3 : ((e : ℕ) - 64) % 64 = (e : ℕ) - 64 := by omega
    simp only [h1, h2, h3, show (e : ℕ) - 64 < 64 by omega, if_true]
    ring

theorem dq_at (r : Fin 256) (e : Fin 128) : dqV C S K V DO qd Wt R (ix2 r e) = ((gq A (row j r) h e : ℝ) : EReal) := by
  have h1 : ∀ e : Fin 128, k0_pay42 (F := Ideal) (k0_pay32 (F := Ideal) K) (k0_pay35 (F := Ideal) V) DO (k0_pay37 qd) R Wt (ix2 r e) = ((dQ A (row j r) h e / A.c0 : ℝ) : EReal) := by
    intro e
    have hc : A.c0 ≠ 0 := by rw [N.c0]; norm_num
    pointwise [k0_pay42, k0_pay41, k0_pay32, k0_pay35, k0_pay37]
    simp only [N.k, N.v, N.dO, N.qd, N.wt, N.st, ← EReal.coe_mul, coe_sum, ← EReal.coe_add]
    rw [dQ_tile, mul_div_cancel_right₀ _ hc]
  pointwise [dqV, k0_pay48, k0_pay46, k0_pay47]
  have hc : A.c0 ≠ 0 := by rw [N.c0]; norm_num
  rw [h1, h1, N.c, N.s, word_c0, ← N.c0, gq, unrot_eq]
  simp only [← EReal.coe_mul, ← EReal.coe_add]
  congr 1
  field_simp

/-- The gradient at the keys. -/
abbrev dkV (C S : FVec Ideal S256x128 .f32) (Q : FVec Ideal S256x128 .bf16) (V : FVec Ideal S256x128 .f32)
    (DO : FVec Ideal S256x128 .bf16) (kd : FVec Ideal S1x256x128 .f32) (Wt : FVec Ideal S1x256x256 .f32) (Z : FVec Ideal S128x128 .f32) : FVec Ideal S256x128 .bf16 :=
  k0_pay49 (F := Ideal) C S (k0_pay43 (F := Ideal) (k0_pay31 (F := Ideal) Q) (k0_pay35 (F := Ideal) V) DO (k0_pay38 kd) Z Wt)

theorem dk_at (r : Fin 256) (e : Fin 128) : dkV C S Q V DO kd Wt Z (ix2 r e) = ((gk A (row j r) h e : ℝ) : EReal) := by
  pointwise [dkV, k0_pay49]
  rw [dkr_at N, dkr_at N, N.c, N.s, gk, unrot_eq]
  simp only [← EReal.coe_mul, ← EReal.coe_add]

/-- The state's cotangent before the tile; `g` is the decay over the tile. -/
theorem dr_at (g : EReal) (hg : g = ((gam h ^ 256 : ℝ) : EReal)) (d e : Fin 128) :
    g * Z (ix2 d e) + ∑ x : Fin 256, Q (ix2 x d) * qd (ix3 0 x d) * DO (ix2 x e) = ((dst A j h d e : ℝ) : EReal) := by
  simp only [N.q, N.dO, N.qd, N.dst, hg, ← EReal.coe_mul, coe_sum, ← EReal.coe_add]
  rw [dst_step]

end heads

end Cert.KernelIdeal.Hand

end
-- ==== Proof.Blocks.lean ====
/- A point's blocks as reals, and what the body loads of them for one head of one of its two tiles. -/
module

public import proofs.«01_k».proof.Proof.Tile

@[expose] public section

set_option maxRecDepth 16384

noncomputable section

open Idealize.ShloMosaic Idealize.ShloMosaic.TcCoe Idealize.SL.Sem Finset

namespace Cert.KernelIdeal.Hand

open Cert.KernelIdeal Cert.KernelIdeal.Gen Cert.Retention

variable (m : (ℓ : Loc nD τ sig) → Buf (Elt Ideal) ℓ)

/-- A load of a part of a whole rank-2 buffer. -/
theorem load2 {e : EltTy} {d0 d1 n0 n1 o0 o1 : ℕ} (a : Memref sig .tc .vmem (⟨2, ![d0, d1]⟩ : Shape) e) (ha : a.IsWhole)
    (X : (⟨2, ![d0, d1]⟩ : Shape).Idx → Elt Ideal e) (inb : ∀ k, (![o0, o1] : Fin 2 → ℕ) k + (⟨2, ![n0, n1]⟩ : Shape).size k ≤ (⟨2, ![d0, d1]⟩ : Shape).size k)
    (r : Fin n0) (k : Fin n1) (r' : Fin d0) (k' : Fin d1) (hr : (r' : ℕ) = o0 + r) (hk : (k' : ℕ) = o1 + k) :
    View.readAt (Elt Ideal) a.view (Rect.unit (s := (⟨2, ![d0, d1]⟩ : Shape)) ![o0, o1] (⟨2, ![n0, n1]⟩ : Shape).size inb).toLoadRect (ha.unread X) (ix2 r k)
      = X (ix2 r' k') := by
  rw [View.readAt_eq_ld, Memref.IsWhole.read_unread]
  refine congrArg X (funext fun a => Fin.ext ?_)
  revert a
  refine Fin.forall_fin_two.mpr ⟨?_, ?_⟩
  · show o0 + 1 * (r : ℕ) = r'
    omega
  · show o1 + 1 * (k : ℕ) = k'
    omega

/-- A load of a part of a whole rank-3 buffer. -/
theorem load3 {e : EltTy} {d0 d1 d2 n0 n1 n2 o0 o1 o2 : ℕ} (a : Memref sig .tc .vmem (⟨3, ![d0, d1, d2]⟩ : Shape) e) (ha : a.IsWhole)
    (X : (⟨3, ![d0, d1, d2]⟩ : Shape).Idx → Elt Ideal e)
    (inb : ∀ k, (![o0, o1, o2] : Fin 3 → ℕ) k + (⟨3, ![n0, n1, n2]⟩ : Shape).size k ≤ (⟨3, ![d0, d1, d2]⟩ : Shape).size k)
    (i : Fin n0) (r : Fin n1) (k : Fin n2) (i' : Fin d0) (r' : Fin d1) (k' : Fin d2) (hi : (i' : ℕ) = o0 + i) (hr : (r' : ℕ) = o1 + r)
    (hk : (k' : ℕ) = o2 + k) :
    View.readAt (Elt Ideal) a.view (Rect.unit (s := (⟨3, ![d0, d1, d2]⟩ : Shape)) ![o0, o1, o2] (⟨3, ![n0, n1, n2]⟩ : Shape).size inb).toLoadRect (ha.unread X) (ix3 i r k)
      = X (ix3 i' r' k') := by
  rw [View.readAt_eq_ld, Memref.IsWhole.read_unread]
  refine congrArg X (funext fun a => Fin.ext ?_)
  revert a
  refine Fin.forall_fin_succ.mpr ⟨?_, Fin.forall_fin_two.mpr ⟨?_, ?_⟩⟩
  · show o0 + 1 * (i : ℕ) = i'
    omega
  · show o1 + 1 * (r : ℕ) = r'
    omega
  · show o2 + 1 * (k : ℕ) = k'
    omega

/-- The layer's row of row `r` of block `b`. -/
def rowb (b : Fin 16) (r : Fin 512) : Fin 8192 := ⟨512 * b + r, by omega⟩

/-- The tile of half `jj` of block `b`. -/
def tile (b : Fin 16) (jj : Fin 2) : Fin 32 := ⟨2 * b + jj, by omega⟩

/-- Column `d` of head `h`. -/
def col (n : ℕ) (hn : 512 ≤ n) (h : Fin 4) (d : Fin 128) : Fin n := ⟨128 * h + d, by omega⟩

/-- Column `d` of head `h` of 512. -/
def colH (h : Fin 4) (d : Fin 128) : Fin 512 := col 512 (by norm_num) h d

/-- Column `d` of head `h` of 1024. -/
def colM (h : Fin 4) (d : Fin 128) : Fin 1024 := col 1024 (by norm_num) h d

/-- The angle of row `s`, channel `e`. -/
def ang (A : Arg) (s : ℕ) (e : Fin 128) : ℝ := s * A.inv ⟨(e : ℕ) % 64, Nat.mod_lt _ (by norm_num)⟩

/-- Point `t`'s blocks hold the layer's reals at block `b` of 512 rows. -/
structure Blk (A : Arg) (b : Fin 16) (c : Dev nD) (t : Fin cfg0.N) : Prop where
  d : ∀ (r : Fin 512) (h : Fin 4) (e : Fin 128), (iblk m c 0 t : FVec Ideal S512x1024 .f32) (ix2 r (colM h e)) = ((A.dm (rowb b r) h e : ℝ) : EReal)
  q : ∀ (r : Fin 512) (h : Fin 4) (e : Fin 128), (iblk m c 1 t : FVec Ideal S512x512 .bf16) (ix2 r (colH h e)) = ((q A (rowb b r) h e : ℝ) : EReal)
  k : ∀ (r : Fin 512) (h : Fin 4) (e : Fin 128), (iblk m c 2 t : FVec Ideal S512x512 .bf16) (ix2 r (colH h e)) = ((k A (rowb b r) h e : ℝ) : EReal)
  v : ∀ (r : Fin 512) (h : Fin 4) (e : Fin 128), (X0_3 m c t : FVec Ideal S512x512 .f32) (ix2 r (colH h e)) = ((A.v (rowb b r) h e : ℝ) : EReal)
  x : ∀ (r : Fin 512) (h : Fin 4) (e : Fin 128), (X0_4 m c t : FVec Ideal S512x512 .f32) (ix2 r (colH h e)) = ((A.x (rowb b r) h e : ℝ) : EReal)
  o : ∀ (r : Fin 512) (h : Fin 4) (e : Fin 128), (iblk m c 10 t : FVec Ideal S512x1024 .f32) (ix2 r (colM h e)) = ((o A (rowb b r) h e : ℝ) : EReal)
  w : ∀ (h : Fin 4) (e : Fin 128), (iblk m c 19 t : FVec Ideal S1x512 .f32) (ix2 0 (colH h e)) = ((A.w h e : ℝ) : EReal)
  wt : ∀ (h : Fin 4) (r s : Fin 256), (iblk m c 11 t : FVec Ideal S4x256x256 .f32) (ix3 h r s) = ((wgt (gam h) r s : ℝ) : EReal)
  qd : ∀ (h : Fin 4) (r : Fin 256) (e : Fin 128), (iblk m c 12 t : FVec Ideal S8x256x128 .f32) (ix3 ⟨h, by omega⟩ r e) = ((gam h ^ ((r : ℕ) + 1) : ℝ) : EReal)
  kd : ∀ (h : Fin 4) (r : Fin 256) (e : Fin 128), (iblk m c 12 t : FVec Ideal S8x256x128 .f32) (ix3 ⟨4 + h, by omega⟩ r e) = ((gam h ^ (255 - (r : ℕ)) : ℝ) : EReal)
  r0 : ∀ (r : Fin 256) (e : Fin 128), (iblk m c 13 t : FVec Ideal S4x256x128 .f32) (ix3 0 r e) = ((Real.cos (ang A r e) : ℝ) : EReal)
  r1 : ∀ (r : Fin 256) (e : Fin 128), (iblk m c 13 t : FVec Ideal S4x256x128 .f32) (ix3 1 r e) = ((Real.sin (ang A r e) : ℝ) : EReal)
  r2 : ∀ (r : Fin 256) (e : Fin 128), (iblk m c 13 t : FVec Ideal S4x256x128 .f32) (ix3 2 r e) = (((if (e : ℕ) < 64 then -1 else 1) * Real.cos (ang A r e) : ℝ) : EReal)
  r3 : ∀ (r : Fin 256) (e : Fin 128), (iblk m c 13 t : FVec Ideal S4x256x128 .f32) (ix3 3 r e) = (((if (e : ℕ) < 64 then -1 else 1) * Real.sin (ang A r e) : ℝ) : EReal)
  tc : ∀ (jj : Fin 2) (e : Fin 128), (iblk m c 14 t : FVec Ideal S2x8x256 .f32) (ix3 jj 0 ⟨e, by omega⟩) = ((Real.cos (ang A (256 * (tile b jj : ℕ)) e) : ℝ) : EReal)
  ts : ∀ (jj : Fin 2) (e : Fin 128), (iblk m c 14 t : FVec Ideal S2x8x256 .f32) (ix3 jj 0 ⟨128 + e, by omega⟩) = ((Real.sin (ang A (256 * (tile b jj : ℕ)) e) : ℝ) : EReal)
  st : ∀ (jj : Fin 2) (h : Fin 4) (d e : Fin 128), (iblk m c 15 t : FVec Ideal S2x512x128 .f32) (ix3 jj (colH h d) e) = ((st A (tile b jj) h d e : ℝ) : EReal)
  eps : A.eps = 10995116 / 2 ^ 40
  c0 : A.c0 = 11863283 / 2 ^ 27

theorem rowb_eq (b : Fin 16) (jj : Fin 2) (r : Fin 256) (hr : 256 * (jj : ℕ) + r < 512) : rowb b ⟨256 * jj + r, hr⟩ = row (tile b jj) r := by
  apply Fin.ext
  simp only [rowb, row, tile]
  omega

theorem ang_row (A : Arg) (j : Fin 32) (r : Fin 256) (e : Fin 128) :
    ((row j r : ℕ) : ℝ) * A.inv ⟨(e : ℕ) % 64, Nat.mod_lt _ (by norm_num)⟩ = ang A (256 * (j : ℕ)) e + ang A r e := by
  simp only [row, ang]
  push_cast
  ring

section inbounds

variable {jj : Fin 2} {h : Fin 4} {o0 o1 o2 o3 o4 : ℕ}

theorem inW (h0 : o0 = 256 * jj) (h1 : o1 = 128 * h) : ∀ k, (![o0, o1] : Fin 2 → ℕ) k + S256x128.size k ≤ S512x1024.size k :=
  Fin.forall_fin_two.mpr ⟨show o0 + 256 ≤ 512 by omega, show o1 + 128 ≤ 1024 by omega⟩
theorem inH (h0 : o0 = 256 * jj) (h1 : o1 = 128 * h) : ∀ k, (![o0, o1] : Fin 2 → ℕ) k + S256x128.size k ≤ S512x512.size k :=
  Fin.forall_fin_two.mpr ⟨show o0 + 256 ≤ 512 by omega, show o1 + 128 ≤ 512 by omega⟩
theorem inN (h1 : o1 = 128 * h) : ∀ k, (![0, o1] : Fin 2 → ℕ) k + S1x128.size k ≤ S1x512.size k :=
  Fin.forall_fin_two.mpr ⟨show 0 + 1 ≤ 1 by omega, show o1 + 128 ≤ 512 by omega⟩
theorem inT (n : ℕ) (hn : n ≤ 128) (h2 : o2 = jj) : ∀ k, (![o2, 0, n] : Fin 3 → ℕ) k + S1x1x128.size k ≤ S2x8x256.size k :=
  Fin.forall_fin_succ.mpr ⟨show o2 + 1 ≤ 2 by omega, Fin.forall_fin_two.mpr ⟨show 0 + 1 ≤ 8 by omega, show n + 128 ≤ 256 by omega⟩⟩
theorem inR (n : ℕ) (hn : n < 4) : ∀ k, (![n, 0, 0] : Fin 3 → ℕ) k + S1x256x128.size k ≤ S4x256x128.size k :=
  Fin.forall_fin_succ.mpr ⟨show n + 1 ≤ 4 by omega, Fin.forall_fin_two.mpr ⟨show 0 + 256 ≤ 256 by omega, show 0 + 128 ≤ 128 by omega⟩⟩
theorem inQ (hn : o4 < 8) : ∀ k, (![o4, 0, 0] : Fin 3 → ℕ) k + S1x256x128.size k ≤ S8x256x128.size k :=
  Fin.forall_fin_succ.mpr ⟨show o4 + 1 ≤ 8 by omega, Fin.forall_fin_two.mpr ⟨show 0 + 256 ≤ 256 by omega, show 0 + 128 ≤ 128 by omega⟩⟩
theorem inD (h3 : o3 = h) : ∀ k, (![o3, 0, 0] : Fin 3 → ℕ) k + S1x256x256.size k ≤ S4x256x256.size k :=
  Fin.forall_fin_succ.mpr ⟨show o3 + 1 ≤ 4 by omega, Fin.forall_fin_two.mpr ⟨show 0 + 256 ≤ 256 by omega, show 0 + 256 ≤ 256 by omega⟩⟩
theorem inS (h1 : o1 = 128 * h) (h2 : o2 = jj) : ∀ k, (![o2, o1, 0] : Fin 3 → ℕ) k + S1x128x128.size k ≤ S2x512x128.size k :=
  Fin.forall_fin_succ.mpr ⟨show o2 + 1 ≤ 2 by omega, Fin.forall_fin_two.mpr ⟨show o1 + 128 ≤ 512 by omega, show 0 + 128 ≤ 128 by omega⟩⟩

end inbounds

variable {m} {A : Arg} {b : Fin 16} {c : Dev nD} {t : Fin cfg0.N} (B : Blk m A b c t)
include B

theorem norm_of (jj : Fin 2) (h : Fin 4) {o0 o1 : ℕ} (h0 : o0 = 256 * jj) (h1 : o1 = 128 * h) :
    Norm A h (tile b jj)
      (View.readAt (Elt Ideal) (ms0_10 t).view (Rect.unit (s := S512x1024) ![o0, o1] S256x128.size (inW h0 h1)).toLoadRect ((hs0_10 t).unread (iblk m c 10 t)))
      (View.readAt (Elt Ideal) (ms0_4 t).view (Rect.unit (s := S512x512) ![o0, o1] S256x128.size (inH h0 h1)).toLoadRect ((hs0_4 t).unread (X0_4 m c t)))
      (View.readAt (Elt Ideal) (ms0_19 t).view (Rect.unit (s := S1x512) ![0, o1] S1x128.size (inN h1)).toLoadRect ((hs0_19 t).unread (iblk m c 19 t)))
      (View.readAt (Elt Ideal) (ms0_0 t).view (Rect.unit (s := S512x1024) ![o0, o1] S256x128.size (inW h0 h1)).toLoadRect ((hs0_0 t).unread (iblk m c 0 t))) where
  o r e := (load2 _ _ _ _ r e ⟨256 * jj + r, by omega⟩ (colM h e) (by simp only [h0]) (by simp only [colH, colM, col, h1])).trans
    ((B.o _ h e).trans (by rw [rowb_eq]))
  x r e := (load2 _ _ _ _ r e ⟨256 * jj + r, by omega⟩ (colH h e) (by simp only [h0]) (by simp only [colH, colM, col, h1])).trans
    ((B.x _ h e).trans (by rw [rowb_eq]))
  w e := (load2 _ _ _ _ 0 e 0 (colH h e) (by simp) (by simp only [colH, colM, col, h1])).trans (B.w h e)
  d r e := (load2 _ _ _ _ r e ⟨256 * jj + r, by omega⟩ (colM h e) (by simp only [h0]) (by simp only [colH, colM, col, h1])).trans
    ((B.d _ h e).trans (by rw [rowb_eq]))
  eps := B.eps

theorem cos_of (jj : Fin 2) {o : ℕ} (h0 : o = jj)
    (r : Fin 256) (e : Fin 128) :
    k0_pay18 (F := Ideal)
      (View.readAt (Elt Ideal) (ms0_14 t).view (Rect.unit (s := S2x8x256) ![o, 0, 0] S1x1x128.size (inT 0 (by omega) h0)).toLoadRect ((hs0_14 t).unread (iblk m c 14 t)))
      (View.readAt (Elt Ideal) (ms0_14 t).view (Rect.unit (s := S2x8x256) ![o, 0, 128] S1x1x128.size (inT 128 (by omega) h0)).toLoadRect ((hs0_14 t).unread (iblk m c 14 t)))
      (View.readAt (Elt Ideal) (ms0_13 t).view (Rect.unit (s := S4x256x128) ![0, 0, 0] S1x256x128.size (inR 0 (by omega))).toLoadRect ((hs0_13 t).unread (iblk m c 13 t)))
      (View.readAt (Elt Ideal) (ms0_13 t).view (Rect.unit (s := S4x256x128) ![1, 0, 0] S1x256x128.size (inR 1 (by omega))).toLoadRect ((hs0_13 t).unread (iblk m c 13 t)))
      (ix2 r e) = ((Real.cos ((row (tile b jj) r : ℕ) * A.inv ⟨(e : ℕ) % 64, Nat.mod_lt _ (by norm_num)⟩) : ℝ) : EReal) := by
  pointwise [k0_pay18, k0_pay16, k0_pay17]
  rw [load3 _ _ _ _ 0 0 e jj 0 ⟨e, by omega⟩ (by simp [h0]) rfl (by simp), load3 _ _ _ _ 0 0 e jj 0 ⟨128 + e, by omega⟩ (by simp [h0]) rfl rfl,
    load3 _ _ _ _ 0 r e 0 r e rfl (by simp) (by simp), load3 _ _ _ _ 0 r e 1 r e rfl (by simp) (by simp), B.tc, B.ts, B.r0, B.r1,
    ang_row, Real.cos_add]
  norm_cast

theorem sin_of (jj : Fin 2) {o : ℕ} (h0 : o = jj)
    (r : Fin 256) (e : Fin 128) :
    k0_pay19 (F := Ideal)
      (View.readAt (Elt Ideal) (ms0_14 t).view (Rect.unit (s := S2x8x256) ![o, 0, 0] S1x1x128.size (inT 0 (by omega) h0)).toLoadRect ((hs0_14 t).unread (iblk m c 14 t)))
      (View.readAt (Elt Ideal) (ms0_14 t).view (Rect.unit (s := S2x8x256) ![o, 0, 128] S1x1x128.size (inT 128 (by omega) h0)).toLoadRect ((hs0_14 t).unread (iblk m c 14 t)))
      (View.readAt (Elt Ideal) (ms0_13 t).view (Rect.unit (s := S4x256x128) ![2, 0, 0] S1x256x128.size (inR 2 (by omega))).toLoadRect ((hs0_13 t).unread (iblk m c 13 t)))
      (View.readAt (Elt Ideal) (ms0_13 t).view (Rect.unit (s := S4x256x128) ![3, 0, 0] S1x256x128.size (inR 3 (by omega))).toLoadRect ((hs0_13 t).unread (iblk m c 13 t)))
      (ix2 r e) = (((if (e : ℕ) < 64 then -1 else 1) * Real.sin ((row (tile b jj) r : ℕ) * A.inv ⟨(e : ℕ) % 64, Nat.mod_lt _ (by norm_num)⟩) : ℝ) : EReal) := by
  pointwise [k0_pay19, k0_pay16, k0_pay17]
  rw [load3 _ _ _ _ 0 0 e jj 0 ⟨128 + e, by omega⟩ (by simp [h0]) rfl rfl, load3 _ _ _ _ 0 0 e jj 0 ⟨e, by omega⟩ (by simp [h0]) rfl (by simp),
    load3 _ _ _ _ 0 r e 2 r e rfl (by simp) (by simp), load3 _ _ _ _ 0 r e 3 r e rfl (by simp) (by simp), B.tc, B.ts, B.r2, B.r3,
    ang_row, Real.sin_add, ← EReal.coe_mul, ← EReal.coe_mul, ← EReal.coe_add]
  congr 1
  ring

theorem heads_of (jj : Fin 2) (h : Fin 4) {o0 o1 o2 o3 o4 : ℕ} (h0 : o0 = 256 * jj) (h1 : o1 = 128 * h) (h2 : o2 = jj) (h3 : o3 = h) (h4 : o4 = 4 + h)
    {Z : FVec Ideal S128x128 .f32} (hZ : ∀ d e : Fin 128, Z (ix2 d e) = ((dst A ((tile b jj : ℕ) + 1) h d e : ℝ) : EReal)) :
    Heads A h (tile b jj)
      (k0_pay18 (F := Ideal)
        (View.readAt (Elt Ideal) (ms0_14 t).view (Rect.unit (s := S2x8x256) ![o2, 0, 0] S1x1x128.size (inT 0 (by omega) h2)).toLoadRect ((hs0_14 t).unread (iblk m c 14 t)))
        (View.readAt (Elt Ideal) (ms0_14 t).view (Rect.unit (s := S2x8x256) ![o2, 0, 128] S1x1x128.size (inT 128 (by omega) h2)).toLoadRect ((hs0_14 t).unread (iblk m c 14 t)))
        (View.readAt (Elt Ideal) (ms0_13 t).view (Rect.unit (s := S4x256x128) ![0, 0, 0] S1x256x128.size (inR 0 (by omega))).toLoadRect ((hs0_13 t).unread (iblk m c 13 t)))
        (View.readAt (Elt Ideal) (ms0_13 t).view (Rect.unit (s := S4x256x128) ![1, 0, 0] S1x256x128.size (inR 1 (by omega))).toLoadRect ((hs0_13 t).unread (iblk m c 13 t))))
      (k0_pay19 (F := Ideal)
        (View.readAt (Elt Ideal) (ms0_14 t).view (Rect.unit (s := S2x8x256) ![o2, 0, 0] S1x1x128.size (inT 0 (by omega) h2)).toLoadRect ((hs0_14 t).unread (iblk m c 14 t)))
        (View.readAt (Elt Ideal) (ms0_14 t).view (Rect.unit (s := S2x8x256) ![o2, 0, 128] S1x1x128.size (inT 128 (by omega) h2)).toLoadRect ((hs0_14 t).unread (iblk m c 14 t)))
        (View.readAt (Elt Ideal) (ms0_13 t).view (Rect.unit (s := S4x256x128) ![2, 0, 0] S1x256x128.size (inR 2 (by omega))).toLoadRect ((hs0_13 t).unread (iblk m c 13 t)))
        (View.readAt (Elt Ideal) (ms0_13 t).view (Rect.unit (s := S4x256x128) ![3, 0, 0] S1x256x128.size (inR 3 (by omega))).toLoadRect ((hs0_13 t).unread (iblk m c 13 t))))
      (View.readAt (Elt Ideal) (ms0_1 t).view (Rect.unit (s := S512x512) ![o0, o1] S256x128.size (inH h0 h1)).toLoadRect ((hs0_1 t).unread (iblk m c 1 t)))
      (View.readAt (Elt Ideal) (ms0_2 t).view (Rect.unit (s := S512x512) ![o0, o1] S256x128.size (inH h0 h1)).toLoadRect ((hs0_2 t).unread (iblk m c 2 t)))
      (View.readAt (Elt Ideal) (ms0_3 t).view (Rect.unit (s := S512x512) ![o0, o1] S256x128.size (inH h0 h1)).toLoadRect ((hs0_3 t).unread (X0_3 m c t)))
      (doV (View.readAt (Elt Ideal) (ms0_10 t).view (Rect.unit (s := S512x1024) ![o0, o1] S256x128.size (inW h0 h1)).toLoadRect ((hs0_10 t).unread (iblk m c 10 t)))
        (View.readAt (Elt Ideal) (ms0_4 t).view (Rect.unit (s := S512x512) ![o0, o1] S256x128.size (inH h0 h1)).toLoadRect ((hs0_4 t).unread (X0_4 m c t)))
        (View.readAt (Elt Ideal) (ms0_19 t).view (Rect.unit (s := S1x512) ![0, o1] S1x128.size (inN h1)).toLoadRect ((hs0_19 t).unread (iblk m c 19 t)))
        (View.readAt (Elt Ideal) (ms0_0 t).view (Rect.unit (s := S512x1024) ![o0, o1] S256x128.size (inW h0 h1)).toLoadRect ((hs0_0 t).unread (iblk m c 0 t))))
      (View.readAt (Elt Ideal) (ms0_12 t).view (Rect.unit (s := S8x256x128) ![o3, 0, 0] S1x256x128.size (inQ (by omega))).toLoadRect ((hs0_12 t).unread (iblk m c 12 t)))
      (View.readAt (Elt Ideal) (ms0_12 t).view (Rect.unit (s := S8x256x128) ![o4, 0, 0] S1x256x128.size (inQ (by omega))).toLoadRect ((hs0_12 t).unread (iblk m c 12 t)))
      (View.readAt (Elt Ideal) (ms0_11 t).view (Rect.unit (s := S4x256x256) ![o3, 0, 0] S1x256x256.size (inD h3)).toLoadRect ((hs0_11 t).unread (iblk m c 11 t)))
      (View.readAt (Elt Ideal) (ms0_15 t).view (Rect.unit (s := S2x512x128) ![o2, o1, 0] S1x128x128.size (inS h1 h2)).toLoadRect ((hs0_15 t).unread (iblk m c 15 t)))
      Z where
  c := cos_of B jj h2
  s := sin_of B jj h2
  q r e := (load2 _ _ _ _ r e ⟨256 * jj + r, by omega⟩ (colH h e) (by simp only [h0]) (by simp only [colH, colM, col, h1])).trans
    ((B.q _ h e).trans (by rw [rowb_eq]))
  k r e := (load2 _ _ _ _ r e ⟨256 * jj + r, by omega⟩ (colH h e) (by simp only [h0]) (by simp only [colH, colM, col, h1])).trans
    ((B.k _ h e).trans (by rw [rowb_eq]))
  v r e := (load2 _ _ _ _ r e ⟨256 * jj + r, by omega⟩ (colH h e) (by simp only [h0]) (by simp only [colH, colM, col, h1])).trans
    ((B.v _ h e).trans (by rw [rowb_eq]))
  dO := do_at (norm_of B jj h h0 h1)
  qd r e := (load3 _ _ _ _ 0 r e ⟨h, by omega⟩ r e (by simp [h3]) (by simp) (by simp)).trans (B.qd h r e)
  kd r e := (load3 _ _ _ _ 0 r e ⟨4 + h, by omega⟩ r e (by simp [h4]) (by simp) (by simp)).trans (B.kd h r e)
  wt r s := (load3 _ _ _ _ 0 r s h r s (by simp [h3]) (by simp) (by simp)).trans (B.wt h r s)
  st d e := (load3 _ _ _ _ 0 d e jj (colH h d) e (by simp [h2]) (by simp only [colH, colM, col, h1]) (by simp)).trans (B.st jj h d e)
  dst := hZ
  c0 := B.c0

end Cert.KernelIdeal.Hand

end
-- ==== Proof.Held.lean ====
/- What the body leaves of the retention's gradients and of its states' cotangents, as reals. -/
module

public import proofs.«01_k».proof.Proof.Blocks
public import Idealize.ShloMosaic.Lib.WritesUnit

@[expose] public section

set_option maxRecDepth 16384

noncomputable section

open Idealize.ShloMosaic Idealize.ShloMosaic.TcCoe Idealize.SL.Sem Finset

namespace Cert.KernelIdeal.Hand

open Cert.KernelIdeal Cert.KernelIdeal.Gen Cert.Retention

/-! ## The states' cotangents -/

/-- The decay over a tile, by head. -/
theorem gw0 : (Named.named κ "gamma_0_256" 0x399ACCA1#32 : Ideal .f32) = ((gam 0 ^ 256 : ℝ) : EReal) := by
  change ((_ : ℝ) : EReal) = _
  norm_num [gam]
theorem gw1 : (Named.named κ "gamma_1_256" 0x3C9160A5#32 : Ideal .f32) = ((gam 1 ^ 256 : ℝ) : EReal) := by
  change ((_ : ℝ) : EReal) = _
  norm_num [gam]
theorem gw2 : (Named.named κ "gamma_2_256" 0x3E097FCE#32 : Ideal .f32) = ((gam 2 ^ 256 : ℝ) : EReal) := by
  change ((_ : ℝ) : EReal) = _
  norm_num [gam]
theorem gw3 : (Named.named κ "gamma_3_256" 0x3EBBFC5D#32 : Ideal .f32) = ((gam 3 ^ 256 : ℝ) : EReal) := by
  change ((_ : ℝ) : EReal) = _
  norm_num [gam]

/-- The state's cotangent before a tile, of the queries, the cotangent at the output, the decays `qd` and the cotangent after the tile. -/
abbrev drV (g : Ideal .f32) (Q : FVec Ideal S256x128 .bf16) (DO : FVec Ideal S256x128 .bf16) (qd : FVec Ideal S1x256x128 .f32) (Z : FVec Ideal S128x128 .f32) : FVec Ideal S128x128 .f32 :=
  shapeCast S128x128 (addf (mulf (broadcast S128x128 g) Z)
    (matmul dot_S256x128_S256x128_S128x128_0_0_1_1_n_n none (truncf .bf16 (mulf (k0_pay33 (F := Ideal) Q) (k0_pay37 qd)) bitsLt_bf16_f32) DO
      (constant S128x128 .f32 0x00000000#32))) shapeCasts_S128x128_S128x128

theorem drV_at {A : Arg} {h : Fin 4} {j : Fin 32} {C S : FVec Ideal S256x128 .f32} {Q K : FVec Ideal S256x128 .bf16} {V : FVec Ideal S256x128 .f32}
    {DO : FVec Ideal S256x128 .bf16} {qd kd : FVec Ideal S1x256x128 .f32} {Wt : FVec Ideal S1x256x256 .f32} {R : FVec Ideal S1x128x128 .f32}
    {Z : FVec Ideal S128x128 .f32} (N : Heads A h j C S Q K V DO qd kd Wt R Z) (g : Ideal .f32) (hg : g = ((gam h ^ 256 : ℝ) : EReal)) (d e : Fin 128) :
    drV g Q DO qd Z (ix2 d e) = ((dst A j h d e : ℝ) : EReal) := by
  pointwise [drV, k0_pay33, k0_pay31, k0_pay37]
  exact dr_at N g hg d e

/-- The states' cotangent buffer, after the stores `L`, holds head `h`'s cotangent before tile `n`. -/
def Held (A : Arg) (n : ℕ) (L : List (View.Piece (Elt Ideal) S512x128 .f32)) (h : Fin 4) : Prop :=
  ∀ d e : Fin 128, scrOf (F := Ideal) L (ix2 (colH h d) e) = ((dst A n h d e : ℝ) : EReal)

theorem held_hit {A : Arg} {n o : ℕ} {L : List (View.Piece (Elt Ideal) S512x128 .f32)} (h : Fin 4) (ho : o = 128 * h)
    {inb : ∀ k, (![o, 0] : Fin 2 → ℕ) k + S128x128.size k ≤ S512x128.size k} {w : FVec Ideal S128x128 .f32}
    (hw : ∀ d e : Fin 128, w (ix2 d e) = ((dst A n h d e : ℝ) : EReal)) : Held A n (⟨Rect.unit (s := S512x128) ![o, 0] S128x128.size inb, w⟩ :: L) h := fun d e => by
  refine (View.read_writes_cons_rows_of_mem (o := o) _ _ inb w L _ (ix2 d e) rfl ?_ ?_).trans (hw d e)
  · show 128 * (h : ℕ) + (d : ℕ) = o + (d : ℕ)
    omega
  · rfl

theorem held_miss {A : Arg} {n o : ℕ} {L : List (View.Piece (Elt Ideal) S512x128 .f32)} (h h' : Fin 4) (ho : o = 128 * h') (hne : h ≠ h')
    {inb : ∀ k, (![o, 0] : Fin 2 → ℕ) k + S128x128.size k ≤ S512x128.size k} {w : FVec Ideal S128x128 .f32}
    (hw : Held A n L h) : Held A n (⟨Rect.unit (s := S512x128) ![o, 0] S128x128.size inb, w⟩ :: L) h := fun d e => by
  refine (View.read_writes_cons_rows_of_not_mem (o := o) (W := 128) _ _ inb w L _ rfl rfl ?_).trans (hw d e)
  have := Fin.val_ne_of_ne hne
  show 128 * (h : ℕ) + d < o ∨ o + 128 ≤ 128 * (h : ℕ) + d
  omega

theorem held_load {A : Arg} {n o : ℕ} {L : List (View.Piece (Elt Ideal) S512x128 .f32)} {h : Fin 4} (H : Held A n L h) (ho : o = 128 * h)
    {inb : ∀ k, (![o, 0] : Fin 2 → ℕ) k + S128x128.size k ≤ S512x128.size k} (d e : Fin 128) :
    scM0_0.view.readCov (Val := Elt Ideal) L (Rect.unit (s := S512x128) ![o, 0] S128x128.size inb).toLoadRect (ix2 d e) = ((dst A n h d e : ℝ) : EReal) := by
  rw [View.readCov_eq_canon', ← View.read_writes_junk_eq_canon]
  refine Eq.trans (congrArg _ (funext fun a => Fin.ext ?_)) (H d e)
  revert a
  refine Fin.forall_fin_two.mpr ⟨?_, ?_⟩
  · show o + 1 * (d : ℕ) = 128 * h + d
    omega
  · show 0 + 1 * (e : ℕ) = e
    omega

end Cert.KernelIdeal.Hand

end
-- ==== Proof.StateA.lean ====
/- What the body leaves of the retention's gradients and of its states' cotangents at a first point, as reals. -/
module

public import proofs.«01_k».proof.Proof.Held

@[expose] public section

set_option maxRecDepth 16384

noncomputable section

open Idealize.ShloMosaic Idealize.ShloMosaic.TcCoe Idealize.SL.Sem Finset

namespace Cert.KernelIdeal.Hand

open Cert.KernelIdeal Cert.KernelIdeal.Gen Cert.Retention

variable {m : (ℓ : Loc nD τ sig) → Buf (Elt Ideal) ℓ} {A : Arg} {b : Fin 16} {c : Dev nD} {t : Fin cfg0.N}

/-- The stores to the states' cotangents up to the 0th head's. -/
abbrev stA0 (m : (ℓ : Loc nD τ sig) → Buf (Elt Ideal) ℓ) (c : Dev nD) (t : Fin cfg0.N) : List (View.Piece (Elt Ideal) S512x128 .f32) :=
  kernelRun0_A.sl.HS0_1 (F := Ideal)

/-- The stores to the states' cotangents up to the 1th head's. -/
abbrev stA1 (m : (ℓ : Loc nD τ sig) → Buf (Elt Ideal) ℓ) (c : Dev nD) (t : Fin cfg0.N) : List (View.Piece (Elt Ideal) S512x128 .f32) :=
  kernelRun0_A.sl.HS0_2 (F := Ideal) c (ms0_0 t) (hs0_0 t) (ms0_1 t) (hs0_1 t) (ms0_4 t) (hs0_4 t) (ms0_10 t) (hs0_10 t) (ms0_12 t) (hs0_12 t) (ms0_19 t) (hs0_19 t) scM0_0 (iblk m c 0 t) (iblk m c 1 t) (X0_4 m c t) (iblk m c 10 t) (iblk m c 12 t) (iblk m c 19 t)

/-- The stores to the states' cotangents up to the 2th head's. -/
abbrev stA2 (m : (ℓ : Loc nD τ sig) → Buf (Elt Ideal) ℓ) (c : Dev nD) (t : Fin cfg0.N) : List (View.Piece (Elt Ideal) S512x128 .f32) :=
  kernelRun0_A.sl.HS0_3 (F := Ideal) c (ms0_0 t) (hs0_0 t) (ms0_1 t) (hs0_1 t) (ms0_4 t) (hs0_4 t) (ms0_10 t) (hs0_10 t) (ms0_12 t) (hs0_12 t) (ms0_19 t) (hs0_19 t) scM0_0 (iblk m c 0 t) (iblk m c 1 t) (X0_4 m c t) (iblk m c 10 t) (iblk m c 12 t) (iblk m c 19 t)

/-- The stores to the states' cotangents up to the 3th head's. -/
abbrev stA3 (m : (ℓ : Loc nD τ sig) → Buf (Elt Ideal) ℓ) (c : Dev nD) (t : Fin cfg0.N) : List (View.Piece (Elt Ideal) S512x128 .f32) :=
  kernelRun0_A.sl.HS0_4 (F := Ideal) c (ms0_0 t) (hs0_0 t) (ms0_1 t) (hs0_1 t) (ms0_4 t) (hs0_4 t) (ms0_10 t) (hs0_10 t) (ms0_12 t) (hs0_12 t) (ms0_19 t) (hs0_19 t) scM0_0 (iblk m c 0 t) (iblk m c 1 t) (X0_4 m c t) (iblk m c 10 t) (iblk m c 12 t) (iblk m c 19 t)

/-- The stores to the states' cotangents up to the 4th head's. -/
abbrev stA4 (m : (ℓ : Loc nD τ sig) → Buf (Elt Ideal) ℓ) (c : Dev nD) (t : Fin cfg0.N) : List (View.Piece (Elt Ideal) S512x128 .f32) :=
  kernelRun0_A.sl.HS0_5 (F := Ideal) c (ms0_0 t) (hs0_0 t) (ms0_1 t) (hs0_1 t) (ms0_4 t) (hs0_4 t) (ms0_10 t) (hs0_10 t) (ms0_12 t) (hs0_12 t) (ms0_19 t) (hs0_19 t) scM0_0 (iblk m c 0 t) (iblk m c 1 t) (X0_4 m c t) (iblk m c 10 t) (iblk m c 12 t) (iblk m c 19 t)

/-- The stores to the states' cotangents up to the 5th head's. -/
abbrev stA5 (m : (ℓ : Loc nD τ sig) → Buf (Elt Ideal) ℓ) (c : Dev nD) (t : Fin cfg0.N) : List (View.Piece (Elt Ideal) S512x128 .f32) :=
  kernelRun0_A.sl.HS0_6 (F := Ideal) c (ms0_0 t) (hs0_0 t) (ms0_1 t) (hs0_1 t) (ms0_4 t) (hs0_4 t) (ms0_10 t) (hs0_10 t) (ms0_12 t) (hs0_12 t) (ms0_19 t) (hs0_19 t) scM0_0 (iblk m c 0 t) (iblk m c 1 t) (X0_4 m c t) (iblk m c 10 t) (iblk m c 12 t) (iblk m c 19 t)

/-- The stores to the states' cotangents up to the 6th head's. -/
abbrev stA6 (m : (ℓ : Loc nD τ sig) → Buf (Elt Ideal) ℓ) (c : Dev nD) (t : Fin cfg0.N) : List (View.Piece (Elt Ideal) S512x128 .f32) :=
  kernelRun0_A.sl.HS0_7 (F := Ideal) c (ms0_0 t) (hs0_0 t) (ms0_1 t) (hs0_1 t) (ms0_4 t) (hs0_4 t) (ms0_10 t) (hs0_10 t) (ms0_12 t) (hs0_12 t) (ms0_19 t) (hs0_19 t) scM0_0 (iblk m c 0 t) (iblk m c 1 t) (X0_4 m c t) (iblk m c 10 t) (iblk m c 12 t) (iblk m c 19 t)

/-- The stores to the states' cotangents up to the 7th head's. -/
abbrev stA7 (m : (ℓ : Loc nD τ sig) → Buf (Elt Ideal) ℓ) (c : Dev nD) (t : Fin cfg0.N) : List (View.Piece (Elt Ideal) S512x128 .f32) :=
  kernelRun0_A.sl.HS0_8 (F := Ideal) c (ms0_0 t) (hs0_0 t) (ms0_1 t) (hs0_1 t) (ms0_4 t) (hs0_4 t) (ms0_10 t) (hs0_10 t) (ms0_12 t) (hs0_12 t) (ms0_19 t) (hs0_19 t) scM0_0 (iblk m c 0 t) (iblk m c 1 t) (X0_4 m c t) (iblk m c 10 t) (iblk m c 12 t) (iblk m c 19 t)

variable (B : Blk m A b c t) (hb : (b : ℕ) = 15)
include B hb

omit B in
theorem heldA_0 (h : Fin 4) : Held A ((tile b 1 : ℕ) + 1) (stA0 m c t) h := fun d e => by
  rw [show (tile b 1 : ℕ) + 1 = 32 by simp only [tile]; omega, dst_last]
  refine (View.read_writes_cons_rows_of_mem (o := 0) _ _ _ _ _ _ (ix2 (colH h d) e) rfl (by simp) rfl).trans ?_
  refine (?_ : k0_pay1 (F := Ideal) _ = _)
  pointwise [k0_pay1]
  exact EReal.coe_zero.symm

theorem heldA_1 (h : Fin 4) : Held A (if (h : ℕ) < 1 then (tile b 1 : ℕ) else (tile b 1 : ℕ) + 1) (stA1 m c t) h := by
  have H := heldA_0 (m := m) (A := A) (c := c) (t := t) hb
  fin_cases h
  · exact held_hit 0 rfl (drV_at (heads_of B 1 0 rfl rfl rfl rfl rfl (fun d e => held_load (H 0) rfl d e)) _ gw0)
  · exact held_miss 1 0 rfl (by decide) (H 1)
  · exact held_miss 2 0 rfl (by decide) (H 2)
  · exact held_miss 3 0 rfl (by decide) (H 3)

theorem heldA_2 (h : Fin 4) : Held A (if (h : ℕ) < 2 then (tile b 1 : ℕ) else (tile b 1 : ℕ) + 1) (stA2 m c t) h := by
  have H := heldA_1 B hb
  fin_cases h
  · exact held_miss 0 1 rfl (by decide) (H 0)
  · exact held_hit 1 rfl (drV_at (heads_of B 1 1 rfl rfl rfl rfl rfl (fun d e => held_load (H 1) rfl d e)) _ gw1)
  · exact held_miss 2 1 rfl (by decide) (H 2)
  · exact held_miss 3 1 rfl (by decide) (H 3)

theorem heldA_3 (h : Fin 4) : Held A (if (h : ℕ) < 3 then (tile b 1 : ℕ) else (tile b 1 : ℕ) + 1) (stA3 m c t) h := by
  have H := heldA_2 B hb
  fin_cases h
  · exact held_miss 0 2 rfl (by decide) (H 0)
  · exact held_miss 1 2 rfl (by decide) (H 1)
  · exact held_hit 2 rfl (drV_at (heads_of B 1 2 rfl rfl rfl rfl rfl (fun d e => held_load (H 2) rfl d e)) _ gw2)
  · exact held_miss 3 2 rfl (by decide) (H 3)

theorem heldA_4 (h : Fin 4) : Held A (if (h : ℕ) < 4 then (tile b 1 : ℕ) else (tile b 1 : ℕ) + 1) (stA4 m c t) h := by
  have H := heldA_3 B hb
  fin_cases h
  · exact held_miss 0 3 rfl (by decide) (H 0)
  · exact held_miss 1 3 rfl (by decide) (H 1)
  · exact held_miss 2 3 rfl (by decide) (H 2)
  · exact held_hit 3 rfl (drV_at (heads_of B 1 3 rfl rfl rfl rfl rfl (fun d e => held_load (H 3) rfl d e)) _ gw3)

theorem heldA_5 (h : Fin 4) : Held A (if (h : ℕ) < 1 then (tile b 0 : ℕ) else (tile b 0 : ℕ) + 1) (stA5 m c t) h := by
  have H := heldA_4 B hb
  fin_cases h
  · exact held_hit 0 rfl (drV_at (heads_of B 0 0 rfl rfl rfl rfl rfl (fun d e => held_load (H 0) rfl d e)) _ gw0)
  · exact held_miss 1 0 rfl (by decide) (H 1)
  · exact held_miss 2 0 rfl (by decide) (H 2)
  · exact held_miss 3 0 rfl (by decide) (H 3)

theorem heldA_6 (h : Fin 4) : Held A (if (h : ℕ) < 2 then (tile b 0 : ℕ) else (tile b 0 : ℕ) + 1) (stA6 m c t) h := by
  have H := heldA_5 B hb
  fin_cases h
  · exact held_miss 0 1 rfl (by decide) (H 0)
  · exact held_hit 1 rfl (drV_at (heads_of B 0 1 rfl rfl rfl rfl rfl (fun d e => held_load (H 1) rfl d e)) _ gw1)
  · exact held_miss 2 1 rfl (by decide) (H 2)
  · exact held_miss 3 1 rfl (by decide) (H 3)

theorem heldA_7 (h : Fin 4) : Held A (if (h : ℕ) < 3 then (tile b 0 : ℕ) else (tile b 0 : ℕ) + 1) (stA7 m c t) h := by
  have H := heldA_6 B hb
  fin_cases h
  · exact held_miss 0 2 rfl (by decide) (H 0)
  · exact held_miss 1 2 rfl (by decide) (H 1)
  · exact held_hit 2 rfl (drV_at (heads_of B 0 2 rfl rfl rfl rfl rfl (fun d e => held_load (H 2) rfl d e)) _ gw2)
  · exact held_miss 3 2 rfl (by decide) (H 3)

end Cert.KernelIdeal.Hand

end
-- ==== Proof.StateB.lean ====
/- What the body leaves of the retention's gradients and of its states' cotangents at a later point, as reals. -/
module

public import proofs.«01_k».proof.Proof.Held

@[expose] public section

set_option maxRecDepth 16384

noncomputable section

open Idealize.ShloMosaic Idealize.ShloMosaic.TcCoe Idealize.SL.Sem Finset

namespace Cert.KernelIdeal.Hand

open Cert.KernelIdeal Cert.KernelIdeal.Gen Cert.Retention

variable {m : (ℓ : Loc nD τ sig) → Buf (Elt Ideal) ℓ} {A : Arg} {b : Fin 16} {c : Dev nD} {t : Fin cfg0.N}

/-- The stores to the states' cotangents up to the 4th head's. -/
abbrev stB4 (m : (ℓ : Loc nD τ sig) → Buf (Elt Ideal) ℓ) (c : Dev nD) (t : Fin cfg0.N) (xs : Vec Ideal S512x128 .f32) : List (View.Piece (Elt Ideal) S512x128 .f32) :=
  kernelRun0_B.sl.HS0_4 (F := Ideal) c (ms0_0 t) (hs0_0 t) (ms0_1 t) (hs0_1 t) (ms0_4 t) (hs0_4 t) (ms0_10 t) (hs0_10 t) (ms0_12 t) (hs0_12 t) (ms0_19 t) (hs0_19 t) scM0_0 (Memref.isWhole_whole _) (iblk m c 0 t) (iblk m c 1 t) (X0_4 m c t) (iblk m c 10 t) (iblk m c 12 t) (iblk m c 19 t) xs

/-- The stores to the states' cotangents up to the 5th head's. -/
abbrev stB5 (m : (ℓ : Loc nD τ sig) → Buf (Elt Ideal) ℓ) (c : Dev nD) (t : Fin cfg0.N) (xs : Vec Ideal S512x128 .f32) : List (View.Piece (Elt Ideal) S512x128 .f32) :=
  kernelRun0_B.sl.HS0_5 (F := Ideal) c (ms0_0 t) (hs0_0 t) (ms0_1 t) (hs0_1 t) (ms0_4 t) (hs0_4 t) (ms0_10 t) (hs0_10 t) (ms0_12 t) (hs0_12 t) (ms0_19 t) (hs0_19 t) scM0_0 (Memref.isWhole_whole _) (iblk m c 0 t) (iblk m c 1 t) (X0_4 m c t) (iblk m c 10 t) (iblk m c 12 t) (iblk m c 19 t) xs

/-- The stores to the states' cotangents up to the 6th head's. -/
abbrev stB6 (m : (ℓ : Loc nD τ sig) → Buf (Elt Ideal) ℓ) (c : Dev nD) (t : Fin cfg0.N) (xs : Vec Ideal S512x128 .f32) : List (View.Piece (Elt Ideal) S512x128 .f32) :=
  kernelRun0_B.sl.HS0_6 (F := Ideal) c (ms0_0 t) (hs0_0 t) (ms0_1 t) (hs0_1 t) (ms0_4 t) (hs0_4 t) (ms0_10 t) (hs0_10 t) (ms0_12 t) (hs0_12 t) (ms0_19 t) (hs0_19 t) scM0_0 (Memref.isWhole_whole _) (iblk m c 0 t) (iblk m c 1 t) (X0_4 m c t) (iblk m c 10 t) (iblk m c 12 t) (iblk m c 19 t) xs

/-- The stores to the states' cotangents up to the 7th head's. -/
abbrev stB7 (m : (ℓ : Loc nD τ sig) → Buf (Elt Ideal) ℓ) (c : Dev nD) (t : Fin cfg0.N) (xs : Vec Ideal S512x128 .f32) : List (View.Piece (Elt Ideal) S512x128 .f32) :=
  kernelRun0_B.sl.HS0_7 (F := Ideal) c (ms0_0 t) (hs0_0 t) (ms0_1 t) (hs0_1 t) (ms0_4 t) (hs0_4 t) (ms0_10 t) (hs0_10 t) (ms0_12 t) (hs0_12 t) (ms0_19 t) (hs0_19 t) scM0_0 (Memref.isWhole_whole _) (iblk m c 0 t) (iblk m c 1 t) (X0_4 m c t) (iblk m c 10 t) (iblk m c 12 t) (iblk m c 19 t) xs

variable {xs : Vec Ideal S512x128 .f32} (B : Blk m A b c t)
  (hx : ∀ (h : Fin 4) (d e : Fin 128), xs (ix2 (colH h d) e) = ((dst A ((tile b 1 : ℕ) + 1) h d e : ℝ) : EReal))
include B hx

omit B in
theorem loadB {o : ℕ} (h : Fin 4) (ho : o = 128 * h) {inb : ∀ k, (![o, 0] : Fin 2 → ℕ) k + S128x128.size k ≤ S512x128.size k} (d e : Fin 128) :
    View.readAt (Elt Ideal) scM0_0.view (Rect.unit (s := S512x128) ![o, 0] S128x128.size inb).toLoadRect ((Memref.isWhole_whole _ : scM0_0.IsWhole).unread xs) (ix2 d e)
      = ((dst A ((tile b 1 : ℕ) + 1) h d e : ℝ) : EReal) :=
  (load2 _ _ _ _ d e (colH h d) e (by simp only [colH, col, ho]) (by simp)).trans (hx h d e)

theorem heldB_4 (h : Fin 4) : Held A (tile b 1) (stB4 m c t xs) h := by
  fin_cases h
  · exact held_miss 0 3 rfl (by decide) (held_miss 0 2 rfl (by decide) (held_miss 0 1 rfl (by decide) (held_hit 0 rfl (drV_at (heads_of B 1 0 rfl rfl rfl rfl rfl (loadB hx 0 rfl)) _ gw0))))
  · exact held_miss 1 3 rfl (by decide) (held_miss 1 2 rfl (by decide) (held_hit 1 rfl (drV_at (heads_of B 1 1 rfl rfl rfl rfl rfl (loadB hx 1 rfl)) _ gw1)))
  · exact held_miss 2 3 rfl (by decide) (held_hit 2 rfl (drV_at (heads_of B 1 2 rfl rfl rfl rfl rfl (loadB hx 2 rfl)) _ gw2))
  · exact held_hit 3 rfl (drV_at (heads_of B 1 3 rfl rfl rfl rfl rfl (loadB hx 3 rfl)) _ gw3)

theorem heldB_5 (h : Fin 4) : Held A (if (h : ℕ) < 1 then (tile b 0 : ℕ) else (tile b 0 : ℕ) + 1) (stB5 m c t xs) h := by
  have H := heldB_4 B hx
  fin_cases h
  · exact held_hit 0 rfl (drV_at (heads_of B 0 0 rfl rfl rfl rfl rfl (fun d e => held_load (H 0) rfl d e)) _ gw0)
  · exact held_miss 1 0 rfl (by decide) (H 1)
  · exact held_miss 2 0 rfl (by decide) (H 2)
  · exact held_miss 3 0 rfl (by decide) (H 3)

theorem heldB_6 (h : Fin 4) : Held A (if (h : ℕ) < 2 then (tile b 0 : ℕ) else (tile b 0 : ℕ) + 1) (stB6 m c t xs) h := by
  have H := heldB_5 B hx
  fin_cases h
  · exact held_miss 0 1 rfl (by decide) (H 0)
  · exact held_hit 1 rfl (drV_at (heads_of B 0 1 rfl rfl rfl rfl rfl (fun d e => held_load (H 1) rfl d e)) _ gw1)
  · exact held_miss 2 1 rfl (by decide) (H 2)
  · exact held_miss 3 1 rfl (by decide) (H 3)

theorem heldB_7 (h : Fin 4) : Held A (if (h : ℕ) < 3 then (tile b 0 : ℕ) else (tile b 0 : ℕ) + 1) (stB7 m c t xs) h := by
  have H := heldB_6 B hx
  fin_cases h
  · exact held_miss 0 2 rfl (by decide) (H 0)
  · exact held_miss 1 2 rfl (by decide) (H 1)
  · exact held_hit 2 rfl (drV_at (heads_of B 0 2 rfl rfl rfl rfl rfl (fun d e => held_load (H 2) rfl d e)) _ gw2)
  · exact held_miss 3 2 rfl (by decide) (H 3)

end Cert.KernelIdeal.Hand

end
-- ==== Proof.Value.lean ====
/- What the body leaves at a point: the retention's gradients of its 512 rows, and the states' cotangents before its tiles. -/
module

public import proofs.«01_k».proof.Proof.StateA
public import proofs.«01_k».proof.Proof.StateB

@[expose] public section

set_option maxRecDepth 16384

noncomputable section

open Idealize.ShloMosaic Idealize.ShloMosaic.TcCoe Idealize.SL.Sem Finset

namespace Cert.KernelIdeal.Hand

open Cert.KernelIdeal Cert.KernelIdeal.Gen Cert.Retention

variable {m : (ℓ : Loc nD τ sig) → Buf (Elt Ideal) ℓ} {A : Arg} {b : Fin 16} {c : Dev nD} {t : Fin cfg0.N}

/-- The cell of a piece is the cell of the block. -/
theorem cell (A : Arg) (b : Fin 16) {r : Fin 512} {P : Fin 4} {h : Fin 4} {d : Fin 128} {s : ℕ} (hs : s = 512 * P + (128 * h + d)) (jj : Fin 2) (P' h' : Fin 4)
    {x0 : Fin 256} {x1 : Fin 128} (h0 : (r : ℕ) = 256 * jj + x0) (h1 : s = 512 * P' + 128 * h' + x1) :
    ((grad A P' (row (tile b jj) x0) h' x1 : ℝ) : EReal) = ((grad A P (rowb b r) h d : ℝ) : EReal) := by
  have hr : row (tile b jj) x0 = rowb b r := by
    rw [← rowb_eq b jj x0 (by omega)]
    congr 1
    exact Fin.ext h0.symm
  obtain rfl : P' = P := Fin.ext (by omega)
  obtain rfl : h' = h := Fin.ext (by omega)
  obtain rfl : x1 = d := Fin.ext (by omega)
  rw [hr]

/-- The states' cotangents that a first point leaves. -/
theorem stateA (B : Blk m A b c t) (hh0 : t.val % 16 = 0) (hb : (b : ℕ) = 15) (h : Fin 4) (d e : Fin 128) :
    (outA m c t hh0).2.1 (ix2 (colH h d) e) = ((dst A (tile b 0) h d e : ℝ) : EReal) := by
  have H := heldA_7 B hb
  unfold outA runA kernelRun0_A
  dsimp only
  refine (?_ : Held A (tile b 0) _ h) d e
  fin_cases h
  · exact held_miss 0 3 rfl (by decide) (H 0)
  · exact held_miss 1 3 rfl (by decide) (H 1)
  · exact held_miss 2 3 rfl (by decide) (H 2)
  · exact held_hit 3 rfl (drV_at (heads_of B 0 3 rfl rfl rfl rfl rfl (fun d e => held_load (H 3) rfl d e)) _ gw3)

/-- The block that a first point leaves, at the retention's columns. -/
theorem blockA (B : Blk m A b c t) (hh0 : t.val % 16 = 0) (hb : (b : ℕ) = 15) (r : Fin 512) (P h : Fin 4) (d : Fin 128) (s : Fin 3712) (hs : (s : ℕ) = 512 * P + (128 * h + d)) :
    (outA m c t hh0).1 (ix2 r s) = ((grad A P (rowb b r) h d : ℝ) : EReal) := by
  have H0 := heldA_0 (m := m) (A := A) (c := c) (t := t) hb
  have H1 := heldA_1 B hb
  have H2 := heldA_2 B hb
  have H3 := heldA_3 B hb
  have H4 := heldA_4 B hb
  have H5 := heldA_5 B hb
  have H6 := heldA_6 B hb
  have H7 := heldA_7 B hb
  unfold outA blkOf runA kernelRun0_A
  dsimp only
  rw [View.read_writes_junk_eq_canon]
  canon_tiles x h using (coverA m c t hh0 (ix2 r s))
  all_goals try (exfalso; replace h1 : (s : ℕ) = _ := h1; omega)
  all_goals rw [eq_ix2 x]
  case piece75 => exact (dg_at (norm_of B 1 0 rfl rfl) (x 0) (x 1)).trans (cell A b hs 1 3 0 h0 h1)
  case piece74 => exact (dq_at (heads_of B 1 0 (Z := fun i => ((dst A ((tile b 1 : ℕ) + 1) 0 (i 0) (i 1) : ℝ) : EReal)) rfl rfl rfl rfl rfl (fun _ _ => rfl)) (x 0) (x 1)).trans (cell A b hs 1 0 0 h0 (h1.trans (Nat.zero_add _).symm))
  case piece73 => exact (dk_at (heads_of B 1 0 rfl rfl rfl rfl rfl (fun d e => held_load (H0 0) rfl d e)) (x 0) (x 1)).trans (cell A b hs 1 1 0 h0 h1)
  case piece72 => exact (dv_at (heads_of B 1 0 rfl rfl rfl rfl rfl (fun d e => held_load (H0 0) rfl d e)) (x 0) (x 1)).trans (cell A b hs 1 2 0 h0 h1)
  case piece71 => exact (dg_at (norm_of B 1 1 rfl rfl) (x 0) (x 1)).trans (cell A b hs 1 3 1 h0 h1)
  case piece70 => exact (dq_at (heads_of B 1 1 (Z := fun i => ((dst A ((tile b 1 : ℕ) + 1) 1 (i 0) (i 1) : ℝ) : EReal)) rfl rfl rfl rfl rfl (fun _ _ => rfl)) (x 0) (x 1)).trans (cell A b hs 1 0 1 h0 h1)
  case piece69 => exact (dk_at (heads_of B 1 1 rfl rfl rfl rfl rfl (fun d e => held_load (H1 1) rfl d e)) (x 0) (x 1)).trans (cell A b hs 1 1 1 h0 h1)
  case piece68 => exact (dv_at (heads_of B 1 1 rfl rfl rfl rfl rfl (fun d e => held_load (H1 1) rfl d e)) (x 0) (x 1)).trans (cell A b hs 1 2 1 h0 h1)
  case piece67 => exact (dg_at (norm_of B 1 2 rfl rfl) (x 0) (x 1)).trans (cell A b hs 1 3 2 h0 h1)
  case piece66 => exact (dq_at (heads_of B 1 2 (Z := fun i => ((dst A ((tile b 1 : ℕ) + 1) 2 (i 0) (i 1) : ℝ) : EReal)) rfl rfl rfl rfl rfl (fun _ _ => rfl)) (x 0) (x 1)).trans (cell A b hs 1 0 2 h0 h1)
  case piece65 => exact (dk_at (heads_of B 1 2 rfl rfl rfl rfl rfl (fun d e => held_load (H2 2) rfl d e)) (x 0) (x 1)).trans (cell A b hs 1 1 2 h0 h1)
  case piece64 => exact (dv_at (heads_of B 1 2 rfl rfl rfl rfl rfl (fun d e => held_load (H2 2) rfl d e)) (x 0) (x 1)).trans (cell A b hs 1 2 2 h0 h1)
  case piece63 => exact (dg_at (norm_of B 1 3 rfl rfl) (x 0) (x 1)).trans (cell A b hs 1 3 3 h0 h1)
  case piece62 => exact (dq_at (heads_of B 1 3 (Z := fun i => ((dst A ((tile b 1 : ℕ) + 1) 3 (i 0) (i 1) : ℝ) : EReal)) rfl rfl rfl rfl rfl (fun _ _ => rfl)) (x 0) (x 1)).trans (cell A b hs 1 0 3 h0 h1)
  case piece61 => exact (dk_at (heads_of B 1 3 rfl rfl rfl rfl rfl (fun d e => held_load (H3 3) rfl d e)) (x 0) (x 1)).trans (cell A b hs 1 1 3 h0 h1)
  case piece60 => exact (dv_at (heads_of B 1 3 rfl rfl rfl rfl rfl (fun d e => held_load (H3 3) rfl d e)) (x 0) (x 1)).trans (cell A b hs 1 2 3 h0 h1)
  case piece59 => exact (dg_at (norm_of B 0 0 rfl rfl) (x 0) (x 1)).trans (cell A b hs 0 3 0 (h0.trans (Nat.zero_add _).symm) h1)
  case piece58 => exact (dq_at (heads_of B 0 0 (Z := fun i => ((dst A ((tile b 0 : ℕ) + 1) 0 (i 0) (i 1) : ℝ) : EReal)) rfl rfl rfl rfl rfl (fun _ _ => rfl)) (x 0) (x 1)).trans (cell A b hs 0 0 0 (h0.trans (Nat.zero_add _).symm) (h1.trans (Nat.zero_add _).symm))
  case piece57 => exact (dk_at (heads_of B 0 0 rfl rfl rfl rfl rfl (fun d e => held_load (H4 0) rfl d e)) (x 0) (x 1)).trans (cell A b hs 0 1 0 (h0.trans (Nat.zero_add _).symm) h1)
  case piece56 => exact (dv_at (heads_of B 0 0 rfl rfl rfl rfl rfl (fun d e => held_load (H4 0) rfl d e)) (x 0) (x 1)).trans (cell A b hs 0 2 0 (h0.trans (Nat.zero_add _).symm) h1)
  case piece55 => exact (dg_at (norm_of B 0 1 rfl rfl) (x 0) (x 1)).trans (cell A b hs 0 3 1 (h0.trans (Nat.zero_add _).symm) h1)
  case piece54 => exact (dq_at (heads_of B 0 1 (Z := fun i => ((dst A ((tile b 0 : ℕ) + 1) 1 (i 0) (i 1) : ℝ) : EReal)) rfl rfl rfl rfl rfl (fun _ _ => rfl)) (x 0) (x 1)).trans (cell A b hs 0 0 1 (h0.trans (Nat.zero_add _).symm) h1)
  case piece53 => exact (dk_at (heads_of B 0 1 rfl rfl rfl rfl rfl (fun d e => held_load (H5 1) rfl d e)) (x 0) (x 1)).trans (cell A b hs 0 1 1 (h0.trans (Nat.zero_add _).symm) h1)
  case piece52 => exact (dv_at (heads_of B 0 1 rfl rfl rfl rfl rfl (fun d e => held_load (H5 1) rfl d e)) (x 0) (x 1)).trans (cell A b hs 0 2 1 (h0.trans (Nat.zero_add _).symm) h1)
  case piece51 => exact (dg_at (norm_of B 0 2 rfl rfl) (x 0) (x 1)).trans (cell A b hs 0 3 2 (h0.trans (Nat.zero_add _).symm) h1)
  case piece50 => exact (dq_at (heads_of B 0 2 (Z := fun i => ((dst A ((tile b 0 : ℕ) + 1) 2 (i 0) (i 1) : ℝ) : EReal)) rfl rfl rfl rfl rfl (fun _ _ => rfl)) (x 0) (x 1)).trans (cell A b hs 0 0 2 (h0.trans (Nat.zero_add _).symm) h1)
  case piece49 => exact (dk_at (heads_of B 0 2 rfl rfl rfl rfl rfl (fun d e => held_load (H6 2) rfl d e)) (x 0) (x 1)).trans (cell A b hs 0 1 2 (h0.trans (Nat.zero_add _).symm) h1)
  case piece48 => exact (dv_at (heads_of B 0 2 rfl rfl rfl rfl rfl (fun d e => held_load (H6 2) rfl d e)) (x 0) (x 1)).trans (cell A b hs 0 2 2 (h0.trans (Nat.zero_add _).symm) h1)
  case piece47 => exact (dg_at (norm_of B 0 3 rfl rfl) (x 0) (x 1)).trans (cell A b hs 0 3 3 (h0.trans (Nat.zero_add _).symm) h1)
  case piece46 => exact (dq_at (heads_of B 0 3 (Z := fun i => ((dst A ((tile b 0 : ℕ) + 1) 3 (i 0) (i 1) : ℝ) : EReal)) rfl rfl rfl rfl rfl (fun _ _ => rfl)) (x 0) (x 1)).trans (cell A b hs 0 0 3 (h0.trans (Nat.zero_add _).symm) h1)
  case piece45 => exact (dk_at (heads_of B 0 3 rfl rfl rfl rfl rfl (fun d e => held_load (H7 3) rfl d e)) (x 0) (x 1)).trans (cell A b hs 0 1 3 (h0.trans (Nat.zero_add _).symm) h1)
  case piece44 => exact (dv_at (heads_of B 0 3 rfl rfl rfl rfl rfl (fun d e => held_load (H7 3) rfl d e)) (x 0) (x 1)).trans (cell A b hs 0 2 3 (h0.trans (Nat.zero_add _).symm) h1)

/-- The states' cotangents that a later point leaves. -/
theorem stateB (B : Blk m A b c t) (hh0 : ¬t.val % 16 = 0) (p : Vec Ideal S512x128 .f32 × Vec Ideal S128x256 .f32)
    (hx : ∀ (h : Fin 4) (d e : Fin 128), p.1 (ix2 (colH h d) e) = ((dst A ((tile b 1 : ℕ) + 1) h d e : ℝ) : EReal)) (h : Fin 4) (d e : Fin 128) :
    (outB m c t hh0 p).2.1 (ix2 (colH h d) e) = ((dst A (tile b 0) h d e : ℝ) : EReal) := by
  have H := heldB_7 B hx
  unfold outB runB kernelRun0_B
  dsimp only
  refine (?_ : Held A (tile b 0) _ h) d e
  fin_cases h
  · exact held_miss 0 3 rfl (by decide) (H 0)
  · exact held_miss 1 3 rfl (by decide) (H 1)
  · exact held_miss 2 3 rfl (by decide) (H 2)
  · exact held_hit 3 rfl (drV_at (heads_of B 0 3 rfl rfl rfl rfl rfl (fun d e => held_load (H 3) rfl d e)) _ gw3)

/-- The block that a later point leaves, at the retention's columns. -/
theorem blockB (B : Blk m A b c t) (hh0 : ¬t.val % 16 = 0) (p : Vec Ideal S512x128 .f32 × Vec Ideal S128x256 .f32)
    (hx : ∀ (h : Fin 4) (d e : Fin 128), p.1 (ix2 (colH h d) e) = ((dst A ((tile b 1 : ℕ) + 1) h d e : ℝ) : EReal)) (r : Fin 512) (P h : Fin 4) (d : Fin 128) (s : Fin 3712) (hs : (s : ℕ) = 512 * P + (128 * h + d)) :
    (outB m c t hh0 p).1 (ix2 r s) = ((grad A P (rowb b r) h d : ℝ) : EReal) := by
  have H4 := heldB_4 B hx
  have H5 := heldB_5 B hx
  have H6 := heldB_6 B hx
  have H7 := heldB_7 B hx
  unfold outB blkOf runB kernelRun0_B
  dsimp only
  rw [View.read_writes_junk_eq_canon]
  canon_tiles x h using (coverB m c t hh0 p.1 p.2 (ix2 r s))
  all_goals try (exfalso; replace h1 : (s : ℕ) = _ := h1; omega)
  all_goals rw [eq_ix2 x]
  case piece75 => exact (dg_at (norm_of B 1 0 rfl rfl) (x 0) (x 1)).trans (cell A b hs 1 3 0 h0 h1)
  case piece74 => exact (dq_at (heads_of B 1 0 (Z := fun i => ((dst A ((tile b 1 : ℕ) + 1) 0 (i 0) (i 1) : ℝ) : EReal)) rfl rfl rfl rfl rfl (fun _ _ => rfl)) (x 0) (x 1)).trans (cell A b hs 1 0 0 h0 (h1.trans (Nat.zero_add _).symm))
  case piece73 => exact (dk_at (heads_of B 1 0 rfl rfl rfl rfl rfl (loadB hx 0 rfl)) (x 0) (x 1)).trans (cell A b hs 1 1 0 h0 h1)
  case piece72 => exact (dv_at (heads_of B 1 0 rfl rfl rfl rfl rfl (loadB hx 0 rfl)) (x 0) (x 1)).trans (cell A b hs 1 2 0 h0 h1)
  case piece71 => exact (dg_at (norm_of B 1 1 rfl rfl) (x 0) (x 1)).trans (cell A b hs 1 3 1 h0 h1)
  case piece70 => exact (dq_at (heads_of B 1 1 (Z := fun i => ((dst A ((tile b 1 : ℕ) + 1) 1 (i 0) (i 1) : ℝ) : EReal)) rfl rfl rfl rfl rfl (fun _ _ => rfl)) (x 0) (x 1)).trans (cell A b hs 1 0 1 h0 h1)
  case piece69 => exact (dk_at (heads_of B 1 1 rfl rfl rfl rfl rfl (loadB hx 1 rfl)) (x 0) (x 1)).trans (cell A b hs 1 1 1 h0 h1)
  case piece68 => exact (dv_at (heads_of B 1 1 rfl rfl rfl rfl rfl (loadB hx 1 rfl)) (x 0) (x 1)).trans (cell A b hs 1 2 1 h0 h1)
  case piece67 => exact (dg_at (norm_of B 1 2 rfl rfl) (x 0) (x 1)).trans (cell A b hs 1 3 2 h0 h1)
  case piece66 => exact (dq_at (heads_of B 1 2 (Z := fun i => ((dst A ((tile b 1 : ℕ) + 1) 2 (i 0) (i 1) : ℝ) : EReal)) rfl rfl rfl rfl rfl (fun _ _ => rfl)) (x 0) (x 1)).trans (cell A b hs 1 0 2 h0 h1)
  case piece65 => exact (dk_at (heads_of B 1 2 rfl rfl rfl rfl rfl (loadB hx 2 rfl)) (x 0) (x 1)).trans (cell A b hs 1 1 2 h0 h1)
  case piece64 => exact (dv_at (heads_of B 1 2 rfl rfl rfl rfl rfl (loadB hx 2 rfl)) (x 0) (x 1)).trans (cell A b hs 1 2 2 h0 h1)
  case piece63 => exact (dg_at (norm_of B 1 3 rfl rfl) (x 0) (x 1)).trans (cell A b hs 1 3 3 h0 h1)
  case piece62 => exact (dq_at (heads_of B 1 3 (Z := fun i => ((dst A ((tile b 1 : ℕ) + 1) 3 (i 0) (i 1) : ℝ) : EReal)) rfl rfl rfl rfl rfl (fun _ _ => rfl)) (x 0) (x 1)).trans (cell A b hs 1 0 3 h0 h1)
  case piece61 => exact (dk_at (heads_of B 1 3 rfl rfl rfl rfl rfl (loadB hx 3 rfl)) (x 0) (x 1)).trans (cell A b hs 1 1 3 h0 h1)
  case piece60 => exact (dv_at (heads_of B 1 3 rfl rfl rfl rfl rfl (loadB hx 3 rfl)) (x 0) (x 1)).trans (cell A b hs 1 2 3 h0 h1)
  case piece59 => exact (dg_at (norm_of B 0 0 rfl rfl) (x 0) (x 1)).trans (cell A b hs 0 3 0 (h0.trans (Nat.zero_add _).symm) h1)
  case piece58 => exact (dq_at (heads_of B 0 0 (Z := fun i => ((dst A ((tile b 0 : ℕ) + 1) 0 (i 0) (i 1) : ℝ) : EReal)) rfl rfl rfl rfl rfl (fun _ _ => rfl)) (x 0) (x 1)).trans (cell A b hs 0 0 0 (h0.trans (Nat.zero_add _).symm) (h1.trans (Nat.zero_add _).symm))
  case piece57 => exact (dk_at (heads_of B 0 0 rfl rfl rfl rfl rfl (fun d e => held_load (H4 0) rfl d e)) (x 0) (x 1)).trans (cell A b hs 0 1 0 (h0.trans (Nat.zero_add _).symm) h1)
  case piece56 => exact (dv_at (heads_of B 0 0 rfl rfl rfl rfl rfl (fun d e => held_load (H4 0) rfl d e)) (x 0) (x 1)).trans (cell A b hs 0 2 0 (h0.trans (Nat.zero_add _).symm) h1)
  case piece55 => exact (dg_at (norm_of B 0 1 rfl rfl) (x 0) (x 1)).trans (cell A b hs 0 3 1 (h0.trans (Nat.zero_add _).symm) h1)
  case piece54 => exact (dq_at (heads_of B 0 1 (Z := fun i => ((dst A ((tile b 0 : ℕ) + 1) 1 (i 0) (i 1) : ℝ) : EReal)) rfl rfl rfl rfl rfl (fun _ _ => rfl)) (x 0) (x 1)).trans (cell A b hs 0 0 1 (h0.trans (Nat.zero_add _).symm) h1)
  case piece53 => exact (dk_at (heads_of B 0 1 rfl rfl rfl rfl rfl (fun d e => held_load (H5 1) rfl d e)) (x 0) (x 1)).trans (cell A b hs 0 1 1 (h0.trans (Nat.zero_add _).symm) h1)
  case piece52 => exact (dv_at (heads_of B 0 1 rfl rfl rfl rfl rfl (fun d e => held_load (H5 1) rfl d e)) (x 0) (x 1)).trans (cell A b hs 0 2 1 (h0.trans (Nat.zero_add _).symm) h1)
  case piece51 => exact (dg_at (norm_of B 0 2 rfl rfl) (x 0) (x 1)).trans (cell A b hs 0 3 2 (h0.trans (Nat.zero_add _).symm) h1)
  case piece50 => exact (dq_at (heads_of B 0 2 (Z := fun i => ((dst A ((tile b 0 : ℕ) + 1) 2 (i 0) (i 1) : ℝ) : EReal)) rfl rfl rfl rfl rfl (fun _ _ => rfl)) (x 0) (x 1)).trans (cell A b hs 0 0 2 (h0.trans (Nat.zero_add _).symm) h1)
  case piece49 => exact (dk_at (heads_of B 0 2 rfl rfl rfl rfl rfl (fun d e => held_load (H6 2) rfl d e)) (x 0) (x 1)).trans (cell A b hs 0 1 2 (h0.trans (Nat.zero_add _).symm) h1)
  case piece48 => exact (dv_at (heads_of B 0 2 rfl rfl rfl rfl rfl (fun d e => held_load (H6 2) rfl d e)) (x 0) (x 1)).trans (cell A b hs 0 2 2 (h0.trans (Nat.zero_add _).symm) h1)
  case piece47 => exact (dg_at (norm_of B 0 3 rfl rfl) (x 0) (x 1)).trans (cell A b hs 0 3 3 (h0.trans (Nat.zero_add _).symm) h1)
  case piece46 => exact (dq_at (heads_of B 0 3 (Z := fun i => ((dst A ((tile b 0 : ℕ) + 1) 3 (i 0) (i 1) : ℝ) : EReal)) rfl rfl rfl rfl rfl (fun _ _ => rfl)) (x 0) (x 1)).trans (cell A b hs 0 0 3 (h0.trans (Nat.zero_add _).symm) h1)
  case piece45 => exact (dk_at (heads_of B 0 3 rfl rfl rfl rfl rfl (fun d e => held_load (H7 3) rfl d e)) (x 0) (x 1)).trans (cell A b hs 0 1 3 (h0.trans (Nat.zero_add _).symm) h1)
  case piece44 => exact (dv_at (heads_of B 0 3 rfl rfl rfl rfl rfl (fun d e => held_load (H7 3) rfl d e)) (x 0) (x 1)).trans (cell A b hs 0 2 3 (h0.trans (Nat.zero_add _).symm) h1)

end Cert.KernelIdeal.Hand

end
-- ==== Proof.Points.lean ====
/- Every point's block of the retention's gradients, and the states' cotangents between the points. -/
module

public import proofs.«01_k».proof.Proof.Value

@[expose] public section

set_option maxRecDepth 16384

noncomputable section

open Idealize.ShloMosaic Idealize.ShloMosaic.TcCoe Idealize.SL.Sem Finset

namespace Cert.KernelIdeal.Hand

open Cert.KernelIdeal Cert.KernelIdeal.Gen Cert.Retention

variable {m : (ℓ : Loc nD τ sig) → Buf (Elt Ideal) ℓ} {A : Arg} {c : Dev nD}

/-- The block of 512 rows that point `t` takes: the last block first. -/
def bk (t : Fin cfg0.N) : Fin 16 := ⟨15 - (t : ℕ), by omega⟩

theorem point_lt (t : Fin cfg0.N) : (t : ℕ) < 16 := t.isLt

theorem state_at (B : ∀ t : Fin cfg0.N, Blk m A (bk t) c t) (n : ℕ) (hn : n < cfg0.N) (h : Fin 4) (d e : Fin 128) :
    (outsAt0 m c n hn).2.1 (ix2 (colH h d) e) = ((dst A (tile (bk ⟨n, hn⟩) 0) h d e : ℝ) : EReal) := by
  induction n generalizing h d e with
  | zero =>
    rw [outsAt0_A m c ⟨0, hn⟩ (Nat.zero_mod _)]
    exact stateA (B _) _ rfl h d e
  | succ n ih =>
    have hl := point_lt ⟨n + 1, hn⟩
    have h0 : ¬(⟨n + 1, hn⟩ : Fin cfg0.N).val % 16 = 0 := by
      show ¬(n + 1) % 16 = 0
      have : n + 1 < 16 := hl
      omega
    rw [outsAt0_B m c ⟨n + 1, hn⟩ h0]
    refine stateB (B _) h0 _ (fun h d e => (ih (Nat.lt_of_succ_lt hn) h d e).trans ?_) h d e
    have : n + 1 < 16 := hl
    have : (tile (bk ⟨n, Nat.lt_of_succ_lt hn⟩) 0 : ℕ) = (tile (bk ⟨n + 1, hn⟩) 1 : ℕ) + 1 := by
      show 2 * (15 - n) + 0 = 2 * (15 - (n + 1)) + 1 + 1
      omega
    rw [this]

theorem block_at (B : ∀ t : Fin cfg0.N, Blk m A (bk t) c t) (t : Fin cfg0.N) (r : Fin 512) (P h : Fin 4) (d : Fin 128) (s : Fin 3712)
    (hs : (s : ℕ) = 512 * P + (128 * h + d)) : (outsAt0 m c t.val t.isLt).1 (ix2 r s) = ((grad A P (rowb (bk t) r) h d : ℝ) : EReal) := by
  have hl := point_lt t
  by_cases h0 : t.val % 16 = 0
  · rw [outsAt0_A m c t h0]
    refine blockA (B t) h0 ?_ r P h d s hs
    show 15 - (t : ℕ) = 15
    omega
  · rw [outsAt0_B m c t h0]
    refine blockB (B t) h0 _ (fun h d e => (state_at B _ _ h d e).trans ?_) r P h d s hs
    have : (tile (bk ⟨t.val - 1, Nat.lt_of_le_of_lt (Nat.sub_le _ _) t.isLt⟩) 0 : ℕ) = (tile (bk t) 1 : ℕ) + 1 := by
      show 2 * (15 - (t.val - 1)) + 0 = 2 * (15 - t.val) + 1 + 1
      omega
    rw [this]

end Cert.KernelIdeal.Hand

end
-- ==== Proof.Windows.lean ====
/- Each block the body loads, as rows of its array. -/
module

public import proofs.«01_k».proof.Proof.Points

@[expose] public section

set_option maxRecDepth 16384

noncomputable section

open Idealize.ShloMosaic Idealize.ShloMosaic.TcCoe Idealize.SL.Sem Finset

namespace Cert.KernelIdeal.Hand

open Cert.KernelIdeal Cert.KernelIdeal.Gen Cert.Retention

variable (m : (ℓ : Loc nD τ sig) → Buf (Elt Ideal) ℓ) (c : Dev nD)

theorem index_0 : ∀ t : Fin cfg0.N, win0_0.index t 0 = 15 - (t : ℕ) ∧ win0_0.index t 1 = 0 := by decide +kernel
theorem block_0 (t : Fin cfg0.N) (r : Fin 512) (x : Fin 1024) :
    (iblk m c 0 t : FVec Ideal S512x1024 .f32) (ix2 r x) = (V m c main_arg0 : FVec Ideal S8192x1024 .f32) (ix2 (rowb (bk t) r) x) := by
  blk_point [iblk, bk, rowb, (index_0 t).1, (index_0 t).2]

theorem index_1 : ∀ t : Fin cfg0.N, win0_1.index t 0 = 15 - (t : ℕ) ∧ win0_1.index t 1 = 0 := by decide +kernel
theorem block_1 (t : Fin cfg0.N) (r : Fin 512) (x : Fin 512) :
    (iblk m c 1 t : FVec Ideal S512x512 .bf16) (ix2 r x) = (V m c main_v136 : FVec Ideal S8192x512 .bf16) (ix2 (rowb (bk t) r) x) := by
  blk_point [iblk, bk, rowb, (index_1 t).1, (index_1 t).2]

theorem index_2 : ∀ t : Fin cfg0.N, win0_2.index t 0 = 15 - (t : ℕ) ∧ win0_2.index t 1 = 0 := by decide +kernel
theorem block_2 (t : Fin cfg0.N) (r : Fin 512) (x : Fin 512) :
    (iblk m c 2 t : FVec Ideal S512x512 .bf16) (ix2 r x) = (V m c main_v138 : FVec Ideal S8192x512 .bf16) (ix2 (rowb (bk t) r) x) := by
  blk_point [iblk, bk, rowb, (index_2 t).1, (index_2 t).2]

theorem index_10 : ∀ t : Fin cfg0.N, win0_10.index t 0 = 15 - (t : ℕ) ∧ win0_10.index t 1 = 0 := by decide +kernel
theorem block_10 (t : Fin cfg0.N) (r : Fin 512) (x : Fin 1024) :
    (iblk m c 10 t : FVec Ideal S512x1024 .f32) (ix2 r x) = (V m c main_v140 : FVec Ideal S8192x1024 .f32) (ix2 (rowb (bk t) r) x) := by
  blk_point [iblk, bk, rowb, (index_10 t).1, (index_10 t).2]

theorem index_11 : ∀ t : Fin cfg0.N, win0_11.index t 0 = 0 ∧ win0_11.index t 1 = 0 ∧ win0_11.index t 2 = 0 := by decide +kernel
theorem block_11 (t : Fin cfg0.N) (x : S4x256x256.Idx) :
    (iblk m c 11 t : FVec Ideal S4x256x256 .f32) x = (V m c main_v177 : FVec Ideal S4x256x256 .f32) x := by
  blk_point [iblk, (index_11 t).1, (index_11 t).2.1, (index_11 t).2.2]

theorem index_12 : ∀ t : Fin cfg0.N, win0_12.index t 0 = 0 ∧ win0_12.index t 1 = 0 ∧ win0_12.index t 2 = 0 := by decide +kernel
theorem block_12 (t : Fin cfg0.N) (x : S8x256x128.Idx) :
    (iblk m c 12 t : FVec Ideal S8x256x128 .f32) x = (V m c main_v226 : FVec Ideal S8x256x128 .f32) x := by
  blk_point [iblk, (index_12 t).1, (index_12 t).2.1, (index_12 t).2.2]

theorem index_13 : ∀ t : Fin cfg0.N, win0_13.index t 0 = 0 ∧ win0_13.index t 1 = 0 ∧ win0_13.index t 2 = 0 := by decide +kernel
theorem block_13 (t : Fin cfg0.N) (x : S4x256x128.Idx) :
    (iblk m c 13 t : FVec Ideal S4x256x128 .f32) x = (V m c main_v258 : FVec Ideal S4x256x128 .f32) x := by
  blk_point [iblk, (index_13 t).1, (index_13 t).2.1, (index_13 t).2.2]

theorem index_14 : ∀ t : Fin cfg0.N, win0_14.index t 0 = 15 - (t : ℕ) ∧ win0_14.index t 1 = 0 ∧ win0_14.index t 2 = 0 := by decide +kernel
theorem block_14 (t : Fin cfg0.N) (r : Fin 2) (y : Fin 8) (x : Fin 256) :
    (iblk m c 14 t : FVec Ideal S2x8x256 .f32) (ix3 r y x) = (V m c main_v263 : FVec Ideal S32x8x256 .f32) (ix3 (tile (bk t) r) y x) := by
  blk_point [iblk, bk, tile, (index_14 t).1, (index_14 t).2.1, (index_14 t).2.2]

theorem index_15 : ∀ t : Fin cfg0.N, win0_15.index t 0 = 15 - (t : ℕ) ∧ win0_15.index t 1 = 0 ∧ win0_15.index t 2 = 0 := by decide +kernel
theorem block_15 (t : Fin cfg0.N) (r : Fin 2) (y : Fin 512) (x : Fin 128) :
    (iblk m c 15 t : FVec Ideal S2x512x128 .f32) (ix3 r y x) = (V m c main_v134 : FVec Ideal S32x512x128 .f32) (ix3 (tile (bk t) r) y x) := by
  blk_simp [iblk]
  refine congrArg (V m c main_v134) (funext fun a => Fin.ext ?_)
  blk_simp
  fin_cases a
  · show win0_15.index t 0 * 2 + (r : ℕ) = 2 * (15 - (t : ℕ)) + r
    rw [(index_15 t).1]; omega
  · show win0_15.index t 1 * 512 + (y : ℕ) = y
    rw [(index_15 t).2.1]; omega
  · show win0_15.index t 2 * 128 + (x : ℕ) = x
    rw [(index_15 t).2.2]; omega

theorem index_19 : ∀ t : Fin cfg0.N, win0_19.index t 0 = 0 ∧ win0_19.index t 1 = 0 := by decide +kernel
theorem block_19 (t : Fin cfg0.N) (x : S1x512.Idx) :
    (iblk m c 19 t : FVec Ideal S1x512 .f32) x = (V m c main_arg6 : FVec Ideal S1x512 .f32) x := by
  blk_simp [iblk]
  refine congrArg (V m c main_arg6) (funext fun a => Fin.ext ?_)
  blk_simp
  fin_cases a
  · show win0_19.index t 0 * 1 + (x 0 : ℕ) = x 0
    rw [(index_19 t).1]; omega
  · show win0_19.index t 1 * 512 + (x 1 : ℕ) = x 1
    rw [(index_19 t).2]; omega

theorem index_3 : ∀ t : Fin cfg0.N, win0_3.index t 0 = 15 - (t : ℕ) ∧ win0_3.index t 1 = 2 := by decide +kernel
theorem block_3 (t : Fin cfg0.N) (r : Fin 512) (x : Fin 512) (y : Fin 3712) (hy : (y : ℕ) = 1024 + x) :
    (X0_3 m c t : FVec Ideal S512x512 .f32) (ix2 r x) = (V m c main_arg1 : FVec Ideal S8192x3712 .f32) (ix2 (rowb (bk t) r) y) := by
  unfold X0_3 Pipeline.Window.fill
  rw [dif_pos (moved0_3 t _)]
  blk_simp [iblk]
  refine congrArg (V m c main_arg1) (funext fun a => Fin.ext ?_)
  blk_simp
  fin_cases a
  · show win0_3.index t 0 * 512 + (r : ℕ) = 512 * (15 - (t : ℕ)) + r
    rw [(index_3 t).1]; omega
  · show win0_3.index t 1 * 512 + (x : ℕ) = y
    rw [(index_3 t).2]; omega

theorem index_4 : ∀ t : Fin cfg0.N, win0_4.index t 0 = 15 - (t : ℕ) ∧ win0_4.index t 1 = 3 := by decide +kernel
theorem block_4 (t : Fin cfg0.N) (r : Fin 512) (x : Fin 512) (y : Fin 3712) (hy : (y : ℕ) = 1536 + x) :
    (X0_4 m c t : FVec Ideal S512x512 .f32) (ix2 r x) = (V m c main_arg1 : FVec Ideal S8192x3712 .f32) (ix2 (rowb (bk t) r) y) := by
  unfold X0_4 Pipeline.Window.fill
  rw [dif_pos (moved0_4 t _)]
  blk_simp [iblk]
  refine congrArg (V m c main_arg1) (funext fun a => Fin.ext ?_)
  blk_simp
  fin_cases a
  · show win0_4.index t 0 * 512 + (r : ℕ) = 512 * (15 - (t : ℕ)) + r
    rw [(index_4 t).1]; omega
  · show win0_4.index t 1 * 512 + (x : ℕ) = y
    rw [(index_4 t).2]; omega

end Cert.KernelIdeal.Hand
end
-- ==== Proof.EntryOps.lean ====
module

public import proofs.«01_k».proof.Proof.Gen.KernelIdeal.Frame
public import Idealize.ShloMosaic.Lib.StableHlo.Run
public import Idealize.ShloMosaic.Lib.Pipeline.Frame

@[expose] public section

noncomputable section

/-! The kernel's operations before its region, window by window, and the value each one computes for the region, as a term of the arguments. -/
namespace Cert.KernelIdeal.Entry

open Cert.KernelIdeal Cert.KernelIdeal.Gen Idealize.ShloMosaic Idealize.ShloMosaic.TcCoe Idealize.SL.Sem Idealize.ShloMosaic.StableHlo

variable {F : FTy → Type} [FloatOps F]

/-- The operation that writes `main_v5`, as a function of its operands. -/
def fn_main_v5 : (main_call0_v15 : Ref sig .tc).ty.Contents (Elt F) → (main_call0_v16 : Ref sig .tc).ty.Contents (Elt F) → (main_v5 : Ref sig .tc).ty.Contents (Elt F) :=
  (fun a b => concatenate S64 0 [⟨S63, a⟩, ⟨S1, b⟩] concatenates_S63_S1_S64_d0)

/-- The operation that writes `main_v31`, as a function of its operands. -/
def fn_main_v31 : (⟨S8192x4x64, .f32⟩ : BufTy).Contents (Elt F) → (⟨S8192x4x64, .f32⟩ : BufTy).Contents (Elt F) → (⟨S8192x4x128, .f32⟩ : BufTy).Contents (Elt F) :=
  (fun a b => concatenate S8192x4x128 2 [⟨S8192x4x64, a⟩, ⟨S8192x4x64, b⟩] concatenates_S8192x4x64_S8192x4x64_S8192x4x128_d2)

/-- The operation that writes `main_v35`, as a function of its operands. -/
def fn_main_v35 : (main_call1_v15 : Ref sig .tc).ty.Contents (Elt F) → (main_call1_v16 : Ref sig .tc).ty.Contents (Elt F) → (main_v35 : Ref sig .tc).ty.Contents (Elt F) :=
  (fun a b => concatenate S64 0 [⟨S63, a⟩, ⟨S1, b⟩] concatenates_S63_S1_S64_d0)

/-- The operation that writes `main_v61`, as a function of its operands. -/
def fn_main_v61 : (⟨S8192x4x64, .f32⟩ : BufTy).Contents (Elt F) → (⟨S8192x4x64, .f32⟩ : BufTy).Contents (Elt F) → (⟨S8192x4x128, .f32⟩ : BufTy).Contents (Elt F) :=
  (fun a b => concatenate S8192x4x128 2 [⟨S8192x4x64, a⟩, ⟨S8192x4x64, b⟩] concatenates_S8192x4x64_S8192x4x64_S8192x4x128_d2)

/-- The operation that writes `main_v140`, as a function of its operands. -/
def fn_main_v140 : (⟨S8192x512, .f32⟩ : BufTy).Contents (Elt F) → (⟨S8192x512, .f32⟩ : BufTy).Contents (Elt F) → (⟨S8192x1024, .f32⟩ : BufTy).Contents (Elt F) :=
  (fun a b => concatenate S8192x1024 1 [⟨S8192x512, a⟩, ⟨S8192x512, b⟩] concatenates_S8192x512_S8192x512_S8192x1024_d1)

/-- The operation that writes `main_v177`, as a function of its operands. -/
def fn_main_v177 : (main_v173 : Ref sig .tc).ty.Contents (Elt F) → (main_v174 : Ref sig .tc).ty.Contents (Elt F) → (main_v175 : Ref sig .tc).ty.Contents (Elt F) → (main_v176 : Ref sig .tc).ty.Contents (Elt F) → (main_v177 : Ref sig .tc).ty.Contents (Elt F) :=
  (fun u0 u1 u2 u3 => (concatenate S4x256x256 0 [⟨S1x256x256, (u0 : (⟨S1x256x256, .f32⟩ : BufTy).Contents (Elt F))⟩, ⟨S1x256x256, (u1 : (⟨S1x256x256, .f32⟩ : BufTy).Contents (Elt F))⟩, ⟨S1x256x256, (u2 : (⟨S1x256x256, .f32⟩ : BufTy).Contents (Elt F))⟩, ⟨S1x256x256, (u3 : (⟨S1x256x256, .f32⟩ : BufTy).Contents (Elt F))⟩] concatenates_S1x256x256_S1x256x256_S1x256x256_S1x256x256_S4x256x256_d0 : (⟨S4x256x256, .f32⟩ : BufTy).Contents (Elt F)))

/-- The operation that writes `main_v226`, as a function of its operands. -/
def fn_main_v226 : (main_v218 : Ref sig .tc).ty.Contents (Elt F) → (main_v219 : Ref sig .tc).ty.Contents (Elt F) → (main_v220 : Ref sig .tc).ty.Contents (Elt F) → (main_v221 : Ref sig .tc).ty.Contents (Elt F) → (main_v222 : Ref sig .tc).ty.Contents (Elt F) → (main_v223 : Ref sig .tc).ty.Contents (Elt F) → (main_v224 : Ref sig .tc).ty.Contents (Elt F) → (main_v225 : Ref sig .tc).ty.Contents (Elt F) → (main_v226 : Ref sig .tc).ty.Contents (Elt F) :=
  (fun u0 u1 u2 u3 u4 u5 u6 u7 => (concatenate S8x256x128 0 [⟨S1x256x128, (u0 : (⟨S1x256x128, .f32⟩ : BufTy).Contents (Elt F))⟩, ⟨S1x256x128, (u1 : (⟨S1x256x128, .f32⟩ : BufTy).Contents (Elt F))⟩, ⟨S1x256x128, (u2 : (⟨S1x256x128, .f32⟩ : BufTy).Contents (Elt F))⟩, ⟨S1x256x128, (u3 : (⟨S1x256x128, .f32⟩ : BufTy).Contents (Elt F))⟩, ⟨S1x256x128, (u4 : (⟨S1x256x128, .f32⟩ : BufTy).Contents (Elt F))⟩, ⟨S1x256x128, (u5 : (⟨S1x256x128, .f32⟩ : BufTy).Contents (Elt F))⟩, ⟨S1x256x128, (u6 : (⟨S1x256x128, .f32⟩ : BufTy).Contents (Elt F))⟩, ⟨S1x256x128, (u7 : (⟨S1x256x128, .f32⟩ : BufTy).Contents (Elt F))⟩] concatenates_S1x256x128_S1x256x128_S1x256x128_S1x256x128_S1x256x128_S1x256x128_S1x256x128_S1x256x128_S8x256x128_d0 : (⟨S8x256x128, .f32⟩ : BufTy).Contents (Elt F)))

/-- The operation that writes `main_v227`, as a function of its operands. -/
def fn_main_v227 : (main_call8_v15 : Ref sig .tc).ty.Contents (Elt F) → (main_call8_v16 : Ref sig .tc).ty.Contents (Elt F) → (main_v227 : Ref sig .tc).ty.Contents (Elt F) :=
  (fun a b => concatenate S64 0 [⟨S63, a⟩, ⟨S1, b⟩] concatenates_S63_S1_S64_d0)

/-- The operation that writes `main_v248`, as a function of its operands. -/
def fn_main_v248 : (⟨S256x64, .f32⟩ : BufTy).Contents (Elt F) → (⟨S256x64, .f32⟩ : BufTy).Contents (Elt F) → (⟨S256x128, .f32⟩ : BufTy).Contents (Elt F) :=
  (fun a b => concatenate S256x128 1 [⟨S256x64, a⟩, ⟨S256x64, b⟩] concatenates_S256x64_S256x64_S256x128_d1)

/-- The operation that writes `main_v249`, as a function of its operands. -/
def fn_main_v249 : (⟨S256x64, .f32⟩ : BufTy).Contents (Elt F) → (⟨S256x64, .f32⟩ : BufTy).Contents (Elt F) → (⟨S256x128, .f32⟩ : BufTy).Contents (Elt F) :=
  (fun a b => concatenate S256x128 1 [⟨S256x64, a⟩, ⟨S256x64, b⟩] concatenates_S256x64_S256x64_S256x128_d1)

/-- The operation that writes `main_v251`, as a function of its operands. -/
def fn_main_v251 : (⟨S256x64, .f32⟩ : BufTy).Contents (Elt F) → (⟨S256x64, .f32⟩ : BufTy).Contents (Elt F) → (⟨S256x128, .f32⟩ : BufTy).Contents (Elt F) :=
  (fun a b => concatenate S256x128 1 [⟨S256x64, a⟩, ⟨S256x64, b⟩] concatenates_S256x64_S256x64_S256x128_d1)

/-- The operation that writes `main_v253`, as a function of its operands. -/
def fn_main_v253 : (⟨S256x64, .f32⟩ : BufTy).Contents (Elt F) → (⟨S256x64, .f32⟩ : BufTy).Contents (Elt F) → (⟨S256x128, .f32⟩ : BufTy).Contents (Elt F) :=
  (fun a b => concatenate S256x128 1 [⟨S256x64, a⟩, ⟨S256x64, b⟩] concatenates_S256x64_S256x64_S256x128_d1)

/-- The operation that writes `main_v258`, as a function of its operands. -/
def fn_main_v258 : (main_v254 : Ref sig .tc).ty.Contents (Elt F) → (main_v255 : Ref sig .tc).ty.Contents (Elt F) → (main_v256 : Ref sig .tc).ty.Contents (Elt F) → (main_v257 : Ref sig .tc).ty.Contents (Elt F) → (main_v258 : Ref sig .tc).ty.Contents (Elt F) :=
  (fun u0 u1 u2 u3 => (concatenate S4x256x128 0 [⟨S1x256x128, (u0 : (⟨S1x256x128, .f32⟩ : BufTy).Contents (Elt F))⟩, ⟨S1x256x128, (u1 : (⟨S1x256x128, .f32⟩ : BufTy).Contents (Elt F))⟩, ⟨S1x256x128, (u2 : (⟨S1x256x128, .f32⟩ : BufTy).Contents (Elt F))⟩, ⟨S1x256x128, (u3 : (⟨S1x256x128, .f32⟩ : BufTy).Contents (Elt F))⟩] concatenates_S1x256x128_S1x256x128_S1x256x128_S1x256x128_S4x256x128_d0 : (⟨S4x256x128, .f32⟩ : BufTy).Contents (Elt F)))

/-- The operation that writes `main_v261`, as a function of its operands. -/
def fn_main_v261 : (main_v259 : Ref sig .tc).ty.Contents (Elt F) → (main_v259 : Ref sig .tc).ty.Contents (Elt F) → (main_v260 : Ref sig .tc).ty.Contents (Elt F) → (main_v260 : Ref sig .tc).ty.Contents (Elt F) → (main_v261 : Ref sig .tc).ty.Contents (Elt F) :=
  (fun u0 u1 u2 u3 => (concatenate S32x256 1 [⟨S32x64, (u0 : (⟨S32x64, .f32⟩ : BufTy).Contents (Elt F))⟩, ⟨S32x64, (u1 : (⟨S32x64, .f32⟩ : BufTy).Contents (Elt F))⟩, ⟨S32x64, (u2 : (⟨S32x64, .f32⟩ : BufTy).Contents (Elt F))⟩, ⟨S32x64, (u3 : (⟨S32x64, .f32⟩ : BufTy).Contents (Elt F))⟩] concatenates_S32x64_S32x64_S32x64_S32x64_S32x256_d1 : (⟨S32x256, .f32⟩ : BufTy).Contents (Elt F)))

/-- @main's operations 1 … 30 of 384 (window `main_part0`). -/
abbrev ops_part0_0 : List (HloOp τ sig (Elt F)) :=
  [ nullary main_v0 (sitofp .f32 (iotaInDim S8192 32 0)),
    unary main_arg1 main_v1 ((extractStridedSlice S8192x512 ![0, 0] · slices_S8192x3712_S8192x512_0_0) : (⟨S8192x3712, .f32⟩ : BufTy).Contents (Elt F) → (⟨S8192x512, .f32⟩ : BufTy).Contents (Elt F)),
    unary main_arg1 main_v2 ((extractStridedSlice S8192x512 ![0, 512] · slices_S8192x3712_S8192x512_0_512) : (⟨S8192x3712, .f32⟩ : BufTy).Contents (Elt F) → (⟨S8192x512, .f32⟩ : BufTy).Contents (Elt F)),
    unary main_arg1 main_v3 ((extractStridedSlice S8192x512 ![0, 1024] · slices_S8192x3712_S8192x512_0_1024) : (⟨S8192x3712, .f32⟩ : BufTy).Contents (Elt F) → (⟨S8192x512, .f32⟩ : BufTy).Contents (Elt F)),
    reshape main_v1 main_v4 (rfl : (.f32 : EltTy) = .f32) shapeCasts_S8192x512_S8192x4x128,
    nullary main_cst (constant S_ .f32 0x00000000#32),
    nullary main_cst_0 (constant S_ .f32 0x3F800000#32),
    TRef.unary (TRef.of (T := ⟨S_, .f32⟩) main_cst) (TRef.of (T := ⟨S_, .f32⟩) main_call0_v0) id,
    TRef.unary (TRef.of (T := ⟨S_, .f32⟩) main_cst_0) (TRef.of (T := ⟨S_, .f32⟩) main_call0_v1) id,
    TRef.binary (TRef.of (T := ⟨S_, .f32⟩) main_call0_v1) (TRef.of (T := ⟨S_, .f32⟩) main_call0_v0) (TRef.of (T := ⟨S_, .f32⟩) main_call0_v2) subf,
    TRef.nullary (TRef.of (T := ⟨S_, .f32⟩) main_call0_cst) (constant S_ .f32 0x427C0000#32),
    TRef.binary (TRef.of (T := ⟨S_, .f32⟩) main_call0_v2) (TRef.of (T := ⟨S_, .f32⟩) main_call0_cst) (TRef.of (T := ⟨S_, .f32⟩) main_call0_v3) Host.divf,
    TRef.nullary (TRef.of (T := ⟨S63, .f32⟩) main_call0_v4) (sitofp .f32 (iotaInDim S63 32 0)),
    TRef.nullary (TRef.of (T := ⟨S_, .f32⟩) main_call0_cst_0) (constant S_ .f32 0x427C0000#32),
    TRef.unary (TRef.of (T := ⟨S_, .f32⟩) main_call0_cst_0) (TRef.of (T := ⟨S63, .f32⟩) main_call0_v5) (broadcastInDim S63 ![] bcast_S_S63),
    TRef.binary (TRef.of (T := ⟨S63, .f32⟩) main_call0_v4) (TRef.of (T := ⟨S63, .f32⟩) main_call0_v5) (TRef.of (T := ⟨S63, .f32⟩) main_call0_v6) Host.divf,
    TRef.reshape (TRef.of (T := ⟨S_, .f32⟩) main_call0_v0) (TRef.of (T := ⟨S1, .f32⟩) main_call0_v7) (rfl : (.f32 : EltTy) = .f32) shapeCasts_S_S1,
    TRef.nullary (TRef.of (T := ⟨S_, .f32⟩) main_call0_cst_1) (constant S_ .f32 0x3F800000#32),
    TRef.unary (TRef.of (T := ⟨S_, .f32⟩) main_call0_cst_1) (TRef.of (T := ⟨S63, .f32⟩) main_call0_v8) (broadcastInDim S63 ![] bcast_S_S63),
    TRef.binary (TRef.of (T := ⟨S63, .f32⟩) main_call0_v8) (TRef.of (T := ⟨S63, .f32⟩) main_call0_v6) (TRef.of (T := ⟨S63, .f32⟩) main_call0_v9) subf,
    TRef.unary (TRef.of (T := ⟨S1, .f32⟩) main_call0_v7) (TRef.of (T := ⟨S63, .f32⟩) main_call0_v10) (broadcastInDim S63 ![0] bcast_S1_S63_0),
    TRef.binary (TRef.of (T := ⟨S63, .f32⟩) main_call0_v10) (TRef.of (T := ⟨S63, .f32⟩) main_call0_v9) (TRef.of (T := ⟨S63, .f32⟩) main_call0_v11) mulf,
    TRef.reshape (TRef.of (T := ⟨S_, .f32⟩) main_call0_v1) (TRef.of (T := ⟨S1, .f32⟩) main_call0_v12) (rfl : (.f32 : EltTy) = .f32) shapeCasts_S_S1,
    TRef.unary (TRef.of (T := ⟨S1, .f32⟩) main_call0_v12) (TRef.of (T := ⟨S63, .f32⟩) main_call0_v13) (broadcastInDim S63 ![0] bcast_S1_S63_0),
    TRef.binary (TRef.of (T := ⟨S63, .f32⟩) main_call0_v13) (TRef.of (T := ⟨S63, .f32⟩) main_call0_v6) (TRef.of (T := ⟨S63, .f32⟩) main_call0_v14) mulf,
    TRef.binary (TRef.of (T := ⟨S63, .f32⟩) main_call0_v11) (TRef.of (T := ⟨S63, .f32⟩) main_call0_v14) (TRef.of (T := ⟨S63, .f32⟩) main_call0_v15) addf,
    TRef.unary (TRef.of (T := ⟨S_, .f32⟩) main_call0_v1) (TRef.of (T := ⟨S1, .f32⟩) main_call0_v16) (broadcastInDim S1 ![] bcast_S_S1),
    TRef.binary (TRef.of (T := ⟨S63, .f32⟩) main_call0_v15) (TRef.of (T := ⟨S1, .f32⟩) main_call0_v16) (TRef.of (T := ⟨S64, .f32⟩) main_v5) (fn_main_v5 (F := F)),
    nullary main_cst_1 (constant S_ .f32 0x461C4000#32),
    unary main_cst_1 main_v6 (broadcastInDim S64 ![] bcast_S_S64 : (⟨S_, .f32⟩ : BufTy).Contents (Elt F) → (⟨S64, .f32⟩ : BufTy).Contents (Elt F)) ]

/-- @main's operations 31 … 60 of 384 (window `main_part0`). -/
abbrev ops_part0_1 : List (HloOp τ sig (Elt F)) :=
  [ binary main_v6 main_v5 main_v7 (Host.powf : (⟨S64, .f32⟩ : BufTy).Contents (Elt F) → (⟨S64, .f32⟩ : BufTy).Contents (Elt F) → (⟨S64, .f32⟩ : BufTy).Contents (Elt F)),
    nullary main_cst_2 (constant S_ .f32 0x3F800000#32),
    unary main_cst_2 main_v8 (broadcastInDim S64 ![] bcast_S_S64 : (⟨S_, .f32⟩ : BufTy).Contents (Elt F) → (⟨S64, .f32⟩ : BufTy).Contents (Elt F)),
    binary main_v8 main_v7 main_v9 (Host.divf : (⟨S64, .f32⟩ : BufTy).Contents (Elt F) → (⟨S64, .f32⟩ : BufTy).Contents (Elt F) → (⟨S64, .f32⟩ : BufTy).Contents (Elt F)),
    unary main_v0 main_v10 (broadcastInDim S8192x1 ![0] bcast_S8192_S8192x1_0 : (⟨S8192, .f32⟩ : BufTy).Contents (Elt F) → (⟨S8192x1, .f32⟩ : BufTy).Contents (Elt F)),
    unary main_v9 main_v11 (broadcastInDim S1x64 ![1] bcast_S64_S1x64_1 : (⟨S64, .f32⟩ : BufTy).Contents (Elt F) → (⟨S1x64, .f32⟩ : BufTy).Contents (Elt F)),
    unary main_v10 main_v12 (broadcastInDim S8192x64 ![0, 1] bcast_S8192x1_S8192x64_0_1 : (⟨S8192x1, .f32⟩ : BufTy).Contents (Elt F) → (⟨S8192x64, .f32⟩ : BufTy).Contents (Elt F)),
    unary main_v11 main_v13 (broadcastInDim S8192x64 ![0, 1] bcast_S1x64_S8192x64_0_1 : (⟨S1x64, .f32⟩ : BufTy).Contents (Elt F) → (⟨S8192x64, .f32⟩ : BufTy).Contents (Elt F)),
    binary main_v12 main_v13 main_v14 (mulf : (⟨S8192x64, .f32⟩ : BufTy).Contents (Elt F) → (⟨S8192x64, .f32⟩ : BufTy).Contents (Elt F) → (⟨S8192x64, .f32⟩ : BufTy).Contents (Elt F)),
    unary main_v14 main_v15 (Host.cos : (⟨S8192x64, .f32⟩ : BufTy).Contents (Elt F) → (⟨S8192x64, .f32⟩ : BufTy).Contents (Elt F)),
    unary main_v15 main_v16 (broadcastInDim S8192x1x64 ![0, 2] bcast_S8192x64_S8192x1x64_0_2 : (⟨S8192x64, .f32⟩ : BufTy).Contents (Elt F) → (⟨S8192x1x64, .f32⟩ : BufTy).Contents (Elt F)),
    unary main_v14 main_v17 (Host.sin : (⟨S8192x64, .f32⟩ : BufTy).Contents (Elt F) → (⟨S8192x64, .f32⟩ : BufTy).Contents (Elt F)),
    unary main_v17 main_v18 (broadcastInDim S8192x1x64 ![0, 2] bcast_S8192x64_S8192x1x64_0_2 : (⟨S8192x64, .f32⟩ : BufTy).Contents (Elt F) → (⟨S8192x1x64, .f32⟩ : BufTy).Contents (Elt F)),
    unary main_v4 main_v19 ((extractStridedSlice S8192x4x64 ![0, 0, 0] · slices_S8192x4x128_S8192x4x64_0_0_0) : (⟨S8192x4x128, .f32⟩ : BufTy).Contents (Elt F) → (⟨S8192x4x64, .f32⟩ : BufTy).Contents (Elt F)),
    unary main_v4 main_v20 ((extractStridedSlice S8192x4x64 ![0, 0, 64] · slices_S8192x4x128_S8192x4x64_0_0_64) : (⟨S8192x4x128, .f32⟩ : BufTy).Contents (Elt F) → (⟨S8192x4x64, .f32⟩ : BufTy).Contents (Elt F)),
    unary main_v16 main_v21 (broadcastInDim S8192x4x64 ![0, 1, 2] bcast_S8192x1x64_S8192x4x64_0_1_2 : (⟨S8192x1x64, .f32⟩ : BufTy).Contents (Elt F) → (⟨S8192x4x64, .f32⟩ : BufTy).Contents (Elt F)),
    binary main_v19 main_v21 main_v22 (mulf : (⟨S8192x4x64, .f32⟩ : BufTy).Contents (Elt F) → (⟨S8192x4x64, .f32⟩ : BufTy).Contents (Elt F) → (⟨S8192x4x64, .f32⟩ : BufTy).Contents (Elt F)),
    unary main_v18 main_v23 (broadcastInDim S8192x4x64 ![0, 1, 2] bcast_S8192x1x64_S8192x4x64_0_1_2 : (⟨S8192x1x64, .f32⟩ : BufTy).Contents (Elt F) → (⟨S8192x4x64, .f32⟩ : BufTy).Contents (Elt F)),
    binary main_v20 main_v23 main_v24 (mulf : (⟨S8192x4x64, .f32⟩ : BufTy).Contents (Elt F) → (⟨S8192x4x64, .f32⟩ : BufTy).Contents (Elt F) → (⟨S8192x4x64, .f32⟩ : BufTy).Contents (Elt F)),
    binary main_v22 main_v24 main_v25 (subf : (⟨S8192x4x64, .f32⟩ : BufTy).Contents (Elt F) → (⟨S8192x4x64, .f32⟩ : BufTy).Contents (Elt F) → (⟨S8192x4x64, .f32⟩ : BufTy).Contents (Elt F)),
    unary main_v16 main_v26 (broadcastInDim S8192x4x64 ![0, 1, 2] bcast_S8192x1x64_S8192x4x64_0_1_2 : (⟨S8192x1x64, .f32⟩ : BufTy).Contents (Elt F) → (⟨S8192x4x64, .f32⟩ : BufTy).Contents (Elt F)),
    binary main_v20 main_v26 main_v27 (mulf : (⟨S8192x4x64, .f32⟩ : BufTy).Contents (Elt F) → (⟨S8192x4x64, .f32⟩ : BufTy).Contents (Elt F) → (⟨S8192x4x64, .f32⟩ : BufTy).Contents (Elt F)),
    unary main_v18 main_v28 (broadcastInDim S8192x4x64 ![0, 1, 2] bcast_S8192x1x64_S8192x4x64_0_1_2 : (⟨S8192x1x64, .f32⟩ : BufTy).Contents (Elt F) → (⟨S8192x4x64, .f32⟩ : BufTy).Contents (Elt F)),
    binary main_v19 main_v28 main_v29 (mulf : (⟨S8192x4x64, .f32⟩ : BufTy).Contents (Elt F) → (⟨S8192x4x64, .f32⟩ : BufTy).Contents (Elt F) → (⟨S8192x4x64, .f32⟩ : BufTy).Contents (Elt F)),
    binary main_v27 main_v29 main_v30 (addf : (⟨S8192x4x64, .f32⟩ : BufTy).Contents (Elt F) → (⟨S8192x4x64, .f32⟩ : BufTy).Contents (Elt F) → (⟨S8192x4x64, .f32⟩ : BufTy).Contents (Elt F)),
    binary main_v25 main_v30 main_v31 (fn_main_v31 (F := F)),
    nullary main_cst_3 (constant S_ .f32 0x3DB504F3#32),
    unary main_cst_3 main_v32 (broadcastInDim S8192x4x128 ![] bcast_S_S8192x4x128 : (⟨S_, .f32⟩ : BufTy).Contents (Elt F) → (⟨S8192x4x128, .f32⟩ : BufTy).Contents (Elt F)),
    binary main_v31 main_v32 main_v33 (mulf : (⟨S8192x4x128, .f32⟩ : BufTy).Contents (Elt F) → (⟨S8192x4x128, .f32⟩ : BufTy).Contents (Elt F) → (⟨S8192x4x128, .f32⟩ : BufTy).Contents (Elt F)),
    reshape main_v2 main_v34 (rfl : (.f32 : EltTy) = .f32) shapeCasts_S8192x512_S8192x4x128 ]

/-- @main's operations 61 … 90 of 384 (window `main_part0`). -/
abbrev ops_part0_2 : List (HloOp τ sig (Elt F)) :=
  [ nullary main_cst_4 (constant S_ .f32 0x00000000#32),
    nullary main_cst_5 (constant S_ .f32 0x3F800000#32),
    TRef.unary (TRef.of (T := ⟨S_, .f32⟩) main_cst_4) (TRef.of (T := ⟨S_, .f32⟩) main_call1_v0) id,
    TRef.unary (TRef.of (T := ⟨S_, .f32⟩) main_cst_5) (TRef.of (T := ⟨S_, .f32⟩) main_call1_v1) id,
    TRef.binary (TRef.of (T := ⟨S_, .f32⟩) main_call1_v1) (TRef.of (T := ⟨S_, .f32⟩) main_call1_v0) (TRef.of (T := ⟨S_, .f32⟩) main_call1_v2) subf,
    TRef.nullary (TRef.of (T := ⟨S_, .f32⟩) main_call1_cst) (constant S_ .f32 0x427C0000#32),
    TRef.binary (TRef.of (T := ⟨S_, .f32⟩) main_call1_v2) (TRef.of (T := ⟨S_, .f32⟩) main_call1_cst) (TRef.of (T := ⟨S_, .f32⟩) main_call1_v3) Host.divf,
    TRef.nullary (TRef.of (T := ⟨S63, .f32⟩) main_call1_v4) (sitofp .f32 (iotaInDim S63 32 0)),
    TRef.nullary (TRef.of (T := ⟨S_, .f32⟩) main_call1_cst_0) (constant S_ .f32 0x427C0000#32),
    TRef.unary (TRef.of (T := ⟨S_, .f32⟩) main_call1_cst_0) (TRef.of (T := ⟨S63, .f32⟩) main_call1_v5) (broadcastInDim S63 ![] bcast_S_S63),
    TRef.binary (TRef.of (T := ⟨S63, .f32⟩) main_call1_v4) (TRef.of (T := ⟨S63, .f32⟩) main_call1_v5) (TRef.of (T := ⟨S63, .f32⟩) main_call1_v6) Host.divf,
    TRef.reshape (TRef.of (T := ⟨S_, .f32⟩) main_call1_v0) (TRef.of (T := ⟨S1, .f32⟩) main_call1_v7) (rfl : (.f32 : EltTy) = .f32) shapeCasts_S_S1,
    TRef.nullary (TRef.of (T := ⟨S_, .f32⟩) main_call1_cst_1) (constant S_ .f32 0x3F800000#32),
    TRef.unary (TRef.of (T := ⟨S_, .f32⟩) main_call1_cst_1) (TRef.of (T := ⟨S63, .f32⟩) main_call1_v8) (broadcastInDim S63 ![] bcast_S_S63),
    TRef.binary (TRef.of (T := ⟨S63, .f32⟩) main_call1_v8) (TRef.of (T := ⟨S63, .f32⟩) main_call1_v6) (TRef.of (T := ⟨S63, .f32⟩) main_call1_v9) subf,
    TRef.unary (TRef.of (T := ⟨S1, .f32⟩) main_call1_v7) (TRef.of (T := ⟨S63, .f32⟩) main_call1_v10) (broadcastInDim S63 ![0] bcast_S1_S63_0),
    TRef.binary (TRef.of (T := ⟨S63, .f32⟩) main_call1_v10) (TRef.of (T := ⟨S63, .f32⟩) main_call1_v9) (TRef.of (T := ⟨S63, .f32⟩) main_call1_v11) mulf,
    TRef.reshape (TRef.of (T := ⟨S_, .f32⟩) main_call1_v1) (TRef.of (T := ⟨S1, .f32⟩) main_call1_v12) (rfl : (.f32 : EltTy) = .f32) shapeCasts_S_S1,
    TRef.unary (TRef.of (T := ⟨S1, .f32⟩) main_call1_v12) (TRef.of (T := ⟨S63, .f32⟩) main_call1_v13) (broadcastInDim S63 ![0] bcast_S1_S63_0),
    TRef.binary (TRef.of (T := ⟨S63, .f32⟩) main_call1_v13) (TRef.of (T := ⟨S63, .f32⟩) main_call1_v6) (TRef.of (T := ⟨S63, .f32⟩) main_call1_v14) mulf,
    TRef.binary (TRef.of (T := ⟨S63, .f32⟩) main_call1_v11) (TRef.of (T := ⟨S63, .f32⟩) main_call1_v14) (TRef.of (T := ⟨S63, .f32⟩) main_call1_v15) addf,
    TRef.unary (TRef.of (T := ⟨S_, .f32⟩) main_call1_v1) (TRef.of (T := ⟨S1, .f32⟩) main_call1_v16) (broadcastInDim S1 ![] bcast_S_S1),
    TRef.binary (TRef.of (T := ⟨S63, .f32⟩) main_call1_v15) (TRef.of (T := ⟨S1, .f32⟩) main_call1_v16) (TRef.of (T := ⟨S64, .f32⟩) main_v35) (fn_main_v35 (F := F)),
    nullary main_cst_6 (constant S_ .f32 0x461C4000#32),
    unary main_cst_6 main_v36 (broadcastInDim S64 ![] bcast_S_S64 : (⟨S_, .f32⟩ : BufTy).Contents (Elt F) → (⟨S64, .f32⟩ : BufTy).Contents (Elt F)),
    binary main_v36 main_v35 main_v37 (Host.powf : (⟨S64, .f32⟩ : BufTy).Contents (Elt F) → (⟨S64, .f32⟩ : BufTy).Contents (Elt F) → (⟨S64, .f32⟩ : BufTy).Contents (Elt F)),
    nullary main_cst_7 (constant S_ .f32 0x3F800000#32),
    unary main_cst_7 main_v38 (broadcastInDim S64 ![] bcast_S_S64 : (⟨S_, .f32⟩ : BufTy).Contents (Elt F) → (⟨S64, .f32⟩ : BufTy).Contents (Elt F)),
    binary main_v38 main_v37 main_v39 (Host.divf : (⟨S64, .f32⟩ : BufTy).Contents (Elt F) → (⟨S64, .f32⟩ : BufTy).Contents (Elt F) → (⟨S64, .f32⟩ : BufTy).Contents (Elt F)),
    unary main_v0 main_v40 (broadcastInDim S8192x1 ![0] bcast_S8192_S8192x1_0 : (⟨S8192, .f32⟩ : BufTy).Contents (Elt F) → (⟨S8192x1, .f32⟩ : BufTy).Contents (Elt F)) ]

/-- @main's operations 91 … 100 of 384 (window `main_part0`). -/
abbrev ops_part0_3 : List (HloOp τ sig (Elt F)) :=
  [ unary main_v39 main_v41 (broadcastInDim S1x64 ![1] bcast_S64_S1x64_1 : (⟨S64, .f32⟩ : BufTy).Contents (Elt F) → (⟨S1x64, .f32⟩ : BufTy).Contents (Elt F)),
    unary main_v40 main_v42 (broadcastInDim S8192x64 ![0, 1] bcast_S8192x1_S8192x64_0_1 : (⟨S8192x1, .f32⟩ : BufTy).Contents (Elt F) → (⟨S8192x64, .f32⟩ : BufTy).Contents (Elt F)),
    unary main_v41 main_v43 (broadcastInDim S8192x64 ![0, 1] bcast_S1x64_S8192x64_0_1 : (⟨S1x64, .f32⟩ : BufTy).Contents (Elt F) → (⟨S8192x64, .f32⟩ : BufTy).Contents (Elt F)),
    binary main_v42 main_v43 main_v44 (mulf : (⟨S8192x64, .f32⟩ : BufTy).Contents (Elt F) → (⟨S8192x64, .f32⟩ : BufTy).Contents (Elt F) → (⟨S8192x64, .f32⟩ : BufTy).Contents (Elt F)),
    unary main_v44 main_v45 (Host.cos : (⟨S8192x64, .f32⟩ : BufTy).Contents (Elt F) → (⟨S8192x64, .f32⟩ : BufTy).Contents (Elt F)),
    unary main_v45 main_v46 (broadcastInDim S8192x1x64 ![0, 2] bcast_S8192x64_S8192x1x64_0_2 : (⟨S8192x64, .f32⟩ : BufTy).Contents (Elt F) → (⟨S8192x1x64, .f32⟩ : BufTy).Contents (Elt F)),
    unary main_v44 main_v47 (Host.sin : (⟨S8192x64, .f32⟩ : BufTy).Contents (Elt F) → (⟨S8192x64, .f32⟩ : BufTy).Contents (Elt F)),
    unary main_v47 main_v48 (broadcastInDim S8192x1x64 ![0, 2] bcast_S8192x64_S8192x1x64_0_2 : (⟨S8192x64, .f32⟩ : BufTy).Contents (Elt F) → (⟨S8192x1x64, .f32⟩ : BufTy).Contents (Elt F)),
    unary main_v34 main_v49 ((extractStridedSlice S8192x4x64 ![0, 0, 0] · slices_S8192x4x128_S8192x4x64_0_0_0) : (⟨S8192x4x128, .f32⟩ : BufTy).Contents (Elt F) → (⟨S8192x4x64, .f32⟩ : BufTy).Contents (Elt F)),
    unary main_v34 main_v50 ((extractStridedSlice S8192x4x64 ![0, 0, 64] · slices_S8192x4x128_S8192x4x64_0_0_64) : (⟨S8192x4x128, .f32⟩ : BufTy).Contents (Elt F) → (⟨S8192x4x64, .f32⟩ : BufTy).Contents (Elt F)) ]

/-- Window `main_part0`'s operations. Not an abbreviation: `main_eq` below splits `ops` into the windows and no further. -/
def ops_part0 : List (HloOp τ sig (Elt F)) :=
  ops_part0_0 ++ (ops_part0_1 ++ (ops_part0_2 ++ (ops_part0_3)))

/-- @main's operations 101 … 130 of 384 (window `main_part1`). -/
abbrev ops_part1_0 : List (HloOp τ sig (Elt F)) :=
  [ unary main_v46 main_v51 (broadcastInDim S8192x4x64 ![0, 1, 2] bcast_S8192x1x64_S8192x4x64_0_1_2 : (⟨S8192x1x64, .f32⟩ : BufTy).Contents (Elt F) → (⟨S8192x4x64, .f32⟩ : BufTy).Contents (Elt F)),
    binary main_v49 main_v51 main_v52 (mulf : (⟨S8192x4x64, .f32⟩ : BufTy).Contents (Elt F) → (⟨S8192x4x64, .f32⟩ : BufTy).Contents (Elt F) → (⟨S8192x4x64, .f32⟩ : BufTy).Contents (Elt F)),
    unary main_v48 main_v53 (broadcastInDim S8192x4x64 ![0, 1, 2] bcast_S8192x1x64_S8192x4x64_0_1_2 : (⟨S8192x1x64, .f32⟩ : BufTy).Contents (Elt F) → (⟨S8192x4x64, .f32⟩ : BufTy).Contents (Elt F)),
    binary main_v50 main_v53 main_v54 (mulf : (⟨S8192x4x64, .f32⟩ : BufTy).Contents (Elt F) → (⟨S8192x4x64, .f32⟩ : BufTy).Contents (Elt F) → (⟨S8192x4x64, .f32⟩ : BufTy).Contents (Elt F)),
    binary main_v52 main_v54 main_v55 (subf : (⟨S8192x4x64, .f32⟩ : BufTy).Contents (Elt F) → (⟨S8192x4x64, .f32⟩ : BufTy).Contents (Elt F) → (⟨S8192x4x64, .f32⟩ : BufTy).Contents (Elt F)),
    unary main_v46 main_v56 (broadcastInDim S8192x4x64 ![0, 1, 2] bcast_S8192x1x64_S8192x4x64_0_1_2 : (⟨S8192x1x64, .f32⟩ : BufTy).Contents (Elt F) → (⟨S8192x4x64, .f32⟩ : BufTy).Contents (Elt F)),
    binary main_v50 main_v56 main_v57 (mulf : (⟨S8192x4x64, .f32⟩ : BufTy).Contents (Elt F) → (⟨S8192x4x64, .f32⟩ : BufTy).Contents (Elt F) → (⟨S8192x4x64, .f32⟩ : BufTy).Contents (Elt F)),
    unary main_v48 main_v58 (broadcastInDim S8192x4x64 ![0, 1, 2] bcast_S8192x1x64_S8192x4x64_0_1_2 : (⟨S8192x1x64, .f32⟩ : BufTy).Contents (Elt F) → (⟨S8192x4x64, .f32⟩ : BufTy).Contents (Elt F)),
    binary main_v49 main_v58 main_v59 (mulf : (⟨S8192x4x64, .f32⟩ : BufTy).Contents (Elt F) → (⟨S8192x4x64, .f32⟩ : BufTy).Contents (Elt F) → (⟨S8192x4x64, .f32⟩ : BufTy).Contents (Elt F)),
    binary main_v57 main_v59 main_v60 (addf : (⟨S8192x4x64, .f32⟩ : BufTy).Contents (Elt F) → (⟨S8192x4x64, .f32⟩ : BufTy).Contents (Elt F) → (⟨S8192x4x64, .f32⟩ : BufTy).Contents (Elt F)),
    binary main_v55 main_v60 main_v61 (fn_main_v61 (F := F)),
    reshape main_v3 main_v62 (rfl : (.f32 : EltTy) = .f32) shapeCasts_S8192x512_S8192x4x128,
    binary main_v33 main_v61 main_v63 ((fun l r => Host.dotGeneral dot_S8192x4x128_S8192x4x128_S4x8192x8192_2_2_0_0_1_1 none l r) : (⟨S8192x4x128, .f32⟩ : BufTy).Contents (Elt F) → (⟨S8192x4x128, .f32⟩ : BufTy).Contents (Elt F) → (⟨S4x8192x8192, .f32⟩ : BufTy).Contents (Elt F)),
    nullary main_v64 (sitofp .f32 (iotaInDim S4 32 0)),
    nullary main_cst_8 (constant S_ .f32 0xC0A00000#32),
    unary main_cst_8 main_v65 (broadcastInDim S4 ![] bcast_S_S4 : (⟨S_, .f32⟩ : BufTy).Contents (Elt F) → (⟨S4, .f32⟩ : BufTy).Contents (Elt F)),
    binary main_v65 main_v64 main_v66 (subf : (⟨S4, .f32⟩ : BufTy).Contents (Elt F) → (⟨S4, .f32⟩ : BufTy).Contents (Elt F) → (⟨S4, .f32⟩ : BufTy).Contents (Elt F)),
    nullary main_cst_9 (constant S_ .f32 0x40000000#32),
    unary main_cst_9 main_v67 (broadcastInDim S4 ![] bcast_S_S4 : (⟨S_, .f32⟩ : BufTy).Contents (Elt F) → (⟨S4, .f32⟩ : BufTy).Contents (Elt F)),
    binary main_v67 main_v66 main_v68 (Host.powf : (⟨S4, .f32⟩ : BufTy).Contents (Elt F) → (⟨S4, .f32⟩ : BufTy).Contents (Elt F) → (⟨S4, .f32⟩ : BufTy).Contents (Elt F)),
    nullary main_cst_10 (constant S_ .f32 0x3F800000#32),
    unary main_cst_10 main_v69 (broadcastInDim S4 ![] bcast_S_S4 : (⟨S_, .f32⟩ : BufTy).Contents (Elt F) → (⟨S4, .f32⟩ : BufTy).Contents (Elt F)),
    binary main_v69 main_v68 main_v70 (subf : (⟨S4, .f32⟩ : BufTy).Contents (Elt F) → (⟨S4, .f32⟩ : BufTy).Contents (Elt F) → (⟨S4, .f32⟩ : BufTy).Contents (Elt F)),
    unary main_v70 main_v71 (Host.log : (⟨S4, .f32⟩ : BufTy).Contents (Elt F) → (⟨S4, .f32⟩ : BufTy).Contents (Elt F)),
    nullary main_v72 (sitofp .f32 (iotaInDim S8192 32 0)),
    nullary main_v73 (iotaInDim S8192 32 0),
    nullary main_c (constantI S_ 32 64#32),
    unary main_c main_v74 (broadcastInDim S8192 ![] bcast_S_S8192 : (⟨S_, .i32⟩ : BufTy).Contents (Elt F) → (⟨S8192, .i32⟩ : BufTy).Contents (Elt F)),
    binary main_v73 main_v74 main_v75 (Host.divsi : (⟨S8192, .i32⟩ : BufTy).Contents (Elt F) → (⟨S8192, .i32⟩ : BufTy).Contents (Elt F) → (⟨S8192, .i32⟩ : BufTy).Contents (Elt F)),
    unary main_v72 main_v76 (broadcastInDim S8192x1 ![0] bcast_S8192_S8192x1_0 : (⟨S8192, .f32⟩ : BufTy).Contents (Elt F) → (⟨S8192x1, .f32⟩ : BufTy).Contents (Elt F)) ]

/-- @main's operations 131 … 160 of 384 (window `main_part1`). -/
abbrev ops_part1_1 : List (HloOp τ sig (Elt F)) :=
  [ unary main_v72 main_v77 (broadcastInDim S1x8192 ![1] bcast_S8192_S1x8192_1 : (⟨S8192, .f32⟩ : BufTy).Contents (Elt F) → (⟨S1x8192, .f32⟩ : BufTy).Contents (Elt F)),
    unary main_v76 main_v78 (broadcastInDim S8192x8192 ![0, 1] bcast_S8192x1_S8192x8192_0_1 : (⟨S8192x1, .f32⟩ : BufTy).Contents (Elt F) → (⟨S8192x8192, .f32⟩ : BufTy).Contents (Elt F)),
    unary main_v77 main_v79 (broadcastInDim S8192x8192 ![0, 1] bcast_S1x8192_S8192x8192_0_1 : (⟨S1x8192, .f32⟩ : BufTy).Contents (Elt F) → (⟨S8192x8192, .f32⟩ : BufTy).Contents (Elt F)),
    binary main_v78 main_v79 main_v80 (subf : (⟨S8192x8192, .f32⟩ : BufTy).Contents (Elt F) → (⟨S8192x8192, .f32⟩ : BufTy).Contents (Elt F) → (⟨S8192x8192, .f32⟩ : BufTy).Contents (Elt F)),
    unary main_v80 main_v81 (Host.absf : (⟨S8192x8192, .f32⟩ : BufTy).Contents (Elt F) → (⟨S8192x8192, .f32⟩ : BufTy).Contents (Elt F)),
    unary main_v75 main_v82 (broadcastInDim S1x1x8192 ![2] bcast_S8192_S1x1x8192_2 : (⟨S8192, .i32⟩ : BufTy).Contents (Elt F) → (⟨S1x1x8192, .i32⟩ : BufTy).Contents (Elt F)),
    unary main_v75 main_v83 (broadcastInDim S1x8192x1 ![1] bcast_S8192_S1x8192x1_1 : (⟨S8192, .i32⟩ : BufTy).Contents (Elt F) → (⟨S1x8192x1, .i32⟩ : BufTy).Contents (Elt F)),
    unary main_v82 main_v84 (broadcastInDim S1x8192x8192 ![0, 1, 2] bcast_S1x1x8192_S1x8192x8192_0_1_2 : (⟨S1x1x8192, .i32⟩ : BufTy).Contents (Elt F) → (⟨S1x8192x8192, .i32⟩ : BufTy).Contents (Elt F)),
    unary main_v83 main_v85 (broadcastInDim S1x8192x8192 ![0, 1, 2] bcast_S1x8192x1_S1x8192x8192_0_1_2 : (⟨S1x8192x1, .i32⟩ : BufTy).Contents (Elt F) → (⟨S1x8192x8192, .i32⟩ : BufTy).Contents (Elt F)),
    binary main_v84 main_v85 main_v86 (cmpi .sle : (⟨S1x8192x8192, .i32⟩ : BufTy).Contents (Elt F) → (⟨S1x8192x8192, .i32⟩ : BufTy).Contents (Elt F) → (⟨S1x8192x8192, .i1⟩ : BufTy).Contents (Elt F)),
    unary main_v71 main_v87 (broadcastInDim S4x1x1 ![0] bcast_S4_S4x1x1_0 : (⟨S4, .f32⟩ : BufTy).Contents (Elt F) → (⟨S4x1x1, .f32⟩ : BufTy).Contents (Elt F)),
    unary main_v81 main_v88 (broadcastInDim S1x8192x8192 ![1, 2] bcast_S8192x8192_S1x8192x8192_1_2 : (⟨S8192x8192, .f32⟩ : BufTy).Contents (Elt F) → (⟨S1x8192x8192, .f32⟩ : BufTy).Contents (Elt F)),
    unary main_v87 main_v89 (broadcastInDim S4x8192x8192 ![0, 1, 2] bcast_S4x1x1_S4x8192x8192_0_1_2 : (⟨S4x1x1, .f32⟩ : BufTy).Contents (Elt F) → (⟨S4x8192x8192, .f32⟩ : BufTy).Contents (Elt F)),
    unary main_v88 main_v90 (broadcastInDim S4x8192x8192 ![0, 1, 2] bcast_S1x8192x8192_S4x8192x8192_0_1_2 : (⟨S1x8192x8192, .f32⟩ : BufTy).Contents (Elt F) → (⟨S4x8192x8192, .f32⟩ : BufTy).Contents (Elt F)),
    binary main_v89 main_v90 main_v91 (mulf : (⟨S4x8192x8192, .f32⟩ : BufTy).Contents (Elt F) → (⟨S4x8192x8192, .f32⟩ : BufTy).Contents (Elt F) → (⟨S4x8192x8192, .f32⟩ : BufTy).Contents (Elt F)),
    unary main_v91 main_v92 (Host.exp : (⟨S4x8192x8192, .f32⟩ : BufTy).Contents (Elt F) → (⟨S4x8192x8192, .f32⟩ : BufTy).Contents (Elt F)),
    nullary main_cst_11 (constant S_ .f32 0x00000000#32),
    TRef.unary (TRef.of (T := ⟨S_, .f32⟩) main_cst_11) (TRef.of (T := ⟨S_, .f32⟩) main_call2_v0) id,
    TRef.unary (TRef.of (T := ⟨S1x8192x8192, .i1⟩) main_v86) (TRef.of (T := ⟨S4x8192x8192, .i1⟩) main_call2_v1) (broadcastInDim S4x8192x8192 ![0, 1, 2] bcast_S1x8192x8192_S4x8192x8192_0_1_2),
    TRef.unary (TRef.of (T := ⟨S_, .f32⟩) main_call2_v0) (TRef.of (T := ⟨S4x8192x8192, .f32⟩) main_call2_v2) (broadcastInDim S4x8192x8192 ![] bcast_S_S4x8192x8192),
    TRef.ternary (TRef.of (T := ⟨S4x8192x8192, .i1⟩) main_call2_v1) (TRef.of (T := ⟨S4x8192x8192, .f32⟩) main_v92) (TRef.of (T := ⟨S4x8192x8192, .f32⟩) main_call2_v2) (TRef.of (T := ⟨S4x8192x8192, .f32⟩) main_v93) select,
    binary main_v63 main_v93 main_v94 (mulf : (⟨S4x8192x8192, .f32⟩ : BufTy).Contents (Elt F) → (⟨S4x8192x8192, .f32⟩ : BufTy).Contents (Elt F) → (⟨S4x8192x8192, .f32⟩ : BufTy).Contents (Elt F)),
    binary main_v62 main_v94 main_v95 ((fun l r => Host.dotGeneral dot_S8192x4x128_S4x8192x8192_S4x128x8192_0_2_2_1_1_0 none l r) : (⟨S8192x4x128, .f32⟩ : BufTy).Contents (Elt F) → (⟨S4x8192x8192, .f32⟩ : BufTy).Contents (Elt F) → (⟨S4x128x8192, .f32⟩ : BufTy).Contents (Elt F)),
    unary main_v95 main_v96 ((transpose S8192x4x128 [2, 0, 1] · transposes_S4x128x8192_S8192x4x128_2_0_1) : (⟨S4x128x8192, .f32⟩ : BufTy).Contents (Elt F) → (⟨S8192x4x128, .f32⟩ : BufTy).Contents (Elt F)),
    nullary main_v97 (sitofp .f32 (iotaInDim S4 32 0)),
    nullary main_cst_12 (constant S_ .f32 0xC0A00000#32),
    unary main_cst_12 main_v98 (broadcastInDim S4 ![] bcast_S_S4 : (⟨S_, .f32⟩ : BufTy).Contents (Elt F) → (⟨S4, .f32⟩ : BufTy).Contents (Elt F)),
    binary main_v98 main_v97 main_v99 (subf : (⟨S4, .f32⟩ : BufTy).Contents (Elt F) → (⟨S4, .f32⟩ : BufTy).Contents (Elt F) → (⟨S4, .f32⟩ : BufTy).Contents (Elt F)),
    nullary main_cst_13 (constant S_ .f32 0x40000000#32),
    unary main_cst_13 main_v100 (broadcastInDim S4 ![] bcast_S_S4 : (⟨S_, .f32⟩ : BufTy).Contents (Elt F) → (⟨S4, .f32⟩ : BufTy).Contents (Elt F)) ]

/-- @main's operations 161 … 163 of 384 (window `main_part1`). -/
abbrev ops_part1_2 : List (HloOp τ sig (Elt F)) :=
  [ binary main_v100 main_v99 main_v101 (Host.powf : (⟨S4, .f32⟩ : BufTy).Contents (Elt F) → (⟨S4, .f32⟩ : BufTy).Contents (Elt F) → (⟨S4, .f32⟩ : BufTy).Contents (Elt F)),
    nullary main_cst_14 (constant S_ .f32 0x3F800000#32),
    unary main_cst_14 main_v102 (broadcastInDim S4 ![] bcast_S_S4 : (⟨S_, .f32⟩ : BufTy).Contents (Elt F) → (⟨S4, .f32⟩ : BufTy).Contents (Elt F)) ]

/-- Window `main_part1`'s operations. Not an abbreviation: `main_eq` below splits `ops` into the windows and no further. -/
def ops_part1 : List (HloOp τ sig (Elt F)) :=
  ops_part1_0 ++ (ops_part1_1 ++ (ops_part1_2))

/-- @main's operations 164 … 193 of 384 (window `main_part2`). -/
abbrev ops_part2_0 : List (HloOp τ sig (Elt F)) :=
  [ binary main_v102 main_v101 main_v103 (subf : (⟨S4, .f32⟩ : BufTy).Contents (Elt F) → (⟨S4, .f32⟩ : BufTy).Contents (Elt F) → (⟨S4, .f32⟩ : BufTy).Contents (Elt F)),
    unary main_v103 main_v104 (Host.log : (⟨S4, .f32⟩ : BufTy).Contents (Elt F) → (⟨S4, .f32⟩ : BufTy).Contents (Elt F)),
    nullary main_v105 (sitofp .f32 (iotaInDim S32 32 0)),
    nullary main_cst_15 (constant S_ .f32 0x43800000#32),
    unary main_cst_15 main_v106 (broadcastInDim S32 ![] bcast_S_S32 : (⟨S_, .f32⟩ : BufTy).Contents (Elt F) → (⟨S32, .f32⟩ : BufTy).Contents (Elt F)),
    binary main_v105 main_v106 main_v107 (mulf : (⟨S32, .f32⟩ : BufTy).Contents (Elt F) → (⟨S32, .f32⟩ : BufTy).Contents (Elt F) → (⟨S32, .f32⟩ : BufTy).Contents (Elt F)),
    unary main_v107 main_v108 (broadcastInDim S32x1 ![0] bcast_S32_S32x1_0 : (⟨S32, .f32⟩ : BufTy).Contents (Elt F) → (⟨S32x1, .f32⟩ : BufTy).Contents (Elt F)),
    nullary main_cst_16 (constant S_ .f32 0x3F800000#32),
    unary main_cst_16 main_v109 (broadcastInDim S32x1 ![] bcast_S_S32x1 : (⟨S_, .f32⟩ : BufTy).Contents (Elt F) → (⟨S32x1, .f32⟩ : BufTy).Contents (Elt F)),
    binary main_v108 main_v109 main_v110 (subf : (⟨S32x1, .f32⟩ : BufTy).Contents (Elt F) → (⟨S32x1, .f32⟩ : BufTy).Contents (Elt F) → (⟨S32x1, .f32⟩ : BufTy).Contents (Elt F)),
    nullary main_v111 (sitofp .f32 (iotaInDim S8192 32 0)),
    unary main_v111 main_v112 (broadcastInDim S1x8192 ![1] bcast_S8192_S1x8192_1 : (⟨S8192, .f32⟩ : BufTy).Contents (Elt F) → (⟨S1x8192, .f32⟩ : BufTy).Contents (Elt F)),
    unary main_v110 main_v113 (broadcastInDim S32x8192 ![0, 1] bcast_S32x1_S32x8192_0_1 : (⟨S32x1, .f32⟩ : BufTy).Contents (Elt F) → (⟨S32x8192, .f32⟩ : BufTy).Contents (Elt F)),
    unary main_v112 main_v114 (broadcastInDim S32x8192 ![0, 1] bcast_S1x8192_S32x8192_0_1 : (⟨S1x8192, .f32⟩ : BufTy).Contents (Elt F) → (⟨S32x8192, .f32⟩ : BufTy).Contents (Elt F)),
    binary main_v113 main_v114 main_v115 (subf : (⟨S32x8192, .f32⟩ : BufTy).Contents (Elt F) → (⟨S32x8192, .f32⟩ : BufTy).Contents (Elt F) → (⟨S32x8192, .f32⟩ : BufTy).Contents (Elt F)),
    unary main_v115 main_v116 (broadcastInDim S1x32x8192 ![1, 2] bcast_S32x8192_S1x32x8192_1_2 : (⟨S32x8192, .f32⟩ : BufTy).Contents (Elt F) → (⟨S1x32x8192, .f32⟩ : BufTy).Contents (Elt F)),
    nullary main_cst_17 (constant S_ .f32 0x00000000#32),
    unary main_cst_17 main_v117 (broadcastInDim S1x32x8192 ![] bcast_S_S1x32x8192 : (⟨S_, .f32⟩ : BufTy).Contents (Elt F) → (⟨S1x32x8192, .f32⟩ : BufTy).Contents (Elt F)),
    binary main_v116 main_v117 main_v118 (cmpf .oge : (⟨S1x32x8192, .f32⟩ : BufTy).Contents (Elt F) → (⟨S1x32x8192, .f32⟩ : BufTy).Contents (Elt F) → (⟨S1x32x8192, .i1⟩ : BufTy).Contents (Elt F)),
    unary main_v104 main_v119 (broadcastInDim S4x1x1 ![0] bcast_S4_S4x1x1_0 : (⟨S4, .f32⟩ : BufTy).Contents (Elt F) → (⟨S4x1x1, .f32⟩ : BufTy).Contents (Elt F)),
    unary main_v115 main_v120 (broadcastInDim S1x32x8192 ![1, 2] bcast_S32x8192_S1x32x8192_1_2 : (⟨S32x8192, .f32⟩ : BufTy).Contents (Elt F) → (⟨S1x32x8192, .f32⟩ : BufTy).Contents (Elt F)),
    unary main_v119 main_v121 (broadcastInDim S4x32x8192 ![0, 1, 2] bcast_S4x1x1_S4x32x8192_0_1_2 : (⟨S4x1x1, .f32⟩ : BufTy).Contents (Elt F) → (⟨S4x32x8192, .f32⟩ : BufTy).Contents (Elt F)),
    unary main_v120 main_v122 (broadcastInDim S4x32x8192 ![0, 1, 2] bcast_S1x32x8192_S4x32x8192_0_1_2 : (⟨S1x32x8192, .f32⟩ : BufTy).Contents (Elt F) → (⟨S4x32x8192, .f32⟩ : BufTy).Contents (Elt F)),
    binary main_v121 main_v122 main_v123 (mulf : (⟨S4x32x8192, .f32⟩ : BufTy).Contents (Elt F) → (⟨S4x32x8192, .f32⟩ : BufTy).Contents (Elt F) → (⟨S4x32x8192, .f32⟩ : BufTy).Contents (Elt F)),
    unary main_v123 main_v124 (Host.exp : (⟨S4x32x8192, .f32⟩ : BufTy).Contents (Elt F) → (⟨S4x32x8192, .f32⟩ : BufTy).Contents (Elt F)),
    nullary main_cst_18 (constant S_ .f32 0x00000000#32),
    TRef.unary (TRef.of (T := ⟨S_, .f32⟩) main_cst_18) (TRef.of (T := ⟨S_, .f32⟩) main_call3_v0) id,
    TRef.unary (TRef.of (T := ⟨S1x32x8192, .i1⟩) main_v118) (TRef.of (T := ⟨S4x32x8192, .i1⟩) main_call3_v1) (broadcastInDim S4x32x8192 ![0, 1, 2] bcast_S1x32x8192_S4x32x8192_0_1_2),
    TRef.unary (TRef.of (T := ⟨S_, .f32⟩) main_call3_v0) (TRef.of (T := ⟨S4x32x8192, .f32⟩) main_call3_v2) (broadcastInDim S4x32x8192 ![] bcast_S_S4x32x8192),
    TRef.ternary (TRef.of (T := ⟨S4x32x8192, .i1⟩) main_call3_v1) (TRef.of (T := ⟨S4x32x8192, .f32⟩) main_v124) (TRef.of (T := ⟨S4x32x8192, .f32⟩) main_call3_v2) (TRef.of (T := ⟨S4x32x8192, .f32⟩) main_v125) select ]

/-- @main's operations 194 … 223 of 384 (window `main_part2`). -/
abbrev ops_part2_1 : List (HloOp τ sig (Elt F)) :=
  [ unary main_v61 main_v126 ((transpose S4x8192x128 [1, 0, 2] · transposes_S8192x4x128_S4x8192x128_1_0_2) : (⟨S8192x4x128, .f32⟩ : BufTy).Contents (Elt F) → (⟨S4x8192x128, .f32⟩ : BufTy).Contents (Elt F)),
    unary main_v126 main_v127 (broadcastInDim S4x1x8192x128 ![0, 2, 3] bcast_S4x8192x128_S4x1x8192x128_0_2_3 : (⟨S4x8192x128, .f32⟩ : BufTy).Contents (Elt F) → (⟨S4x1x8192x128, .f32⟩ : BufTy).Contents (Elt F)),
    unary main_v125 main_v128 (broadcastInDim S4x32x8192x1 ![0, 1, 2] bcast_S4x32x8192_S4x32x8192x1_0_1_2 : (⟨S4x32x8192, .f32⟩ : BufTy).Contents (Elt F) → (⟨S4x32x8192x1, .f32⟩ : BufTy).Contents (Elt F)),
    unary main_v127 main_v129 (broadcastInDim S4x32x8192x128 ![0, 1, 2, 3] bcast_S4x1x8192x128_S4x32x8192x128_0_1_2_3 : (⟨S4x1x8192x128, .f32⟩ : BufTy).Contents (Elt F) → (⟨S4x32x8192x128, .f32⟩ : BufTy).Contents (Elt F)),
    unary main_v128 main_v130 (broadcastInDim S4x32x8192x128 ![0, 1, 2, 3] bcast_S4x32x8192x1_S4x32x8192x128_0_1_2_3 : (⟨S4x32x8192x1, .f32⟩ : BufTy).Contents (Elt F) → (⟨S4x32x8192x128, .f32⟩ : BufTy).Contents (Elt F)),
    binary main_v129 main_v130 main_v131 (mulf : (⟨S4x32x8192x128, .f32⟩ : BufTy).Contents (Elt F) → (⟨S4x32x8192x128, .f32⟩ : BufTy).Contents (Elt F) → (⟨S4x32x8192x128, .f32⟩ : BufTy).Contents (Elt F)),
    binary main_v62 main_v131 main_v132 ((fun l r => Host.dotGeneral dot_S8192x4x128_S4x32x8192x128_S4x128x32x128_0_2_2_13_1_0 none l r) : (⟨S8192x4x128, .f32⟩ : BufTy).Contents (Elt F) → (⟨S4x32x8192x128, .f32⟩ : BufTy).Contents (Elt F) → (⟨S4x128x32x128, .f32⟩ : BufTy).Contents (Elt F)),
    unary main_v132 main_v133 ((transpose S32x4x128x128 [2, 0, 3, 1] · transposes_S4x128x32x128_S32x4x128x128_2_0_3_1) : (⟨S4x128x32x128, .f32⟩ : BufTy).Contents (Elt F) → (⟨S32x4x128x128, .f32⟩ : BufTy).Contents (Elt F)),
    reshape main_v133 main_v134 (rfl : (.f32 : EltTy) = .f32) shapeCasts_S32x4x128x128_S32x512x128,
    reshape main_v33 main_v135 (rfl : (.f32 : EltTy) = .f32) shapeCasts_S8192x4x128_S8192x512,
    unary main_v135 main_v136 ((truncf .bf16 · bitsLt_bf16_f32) : (⟨S8192x512, .f32⟩ : BufTy).Contents (Elt F) → (⟨S8192x512, .bf16⟩ : BufTy).Contents (Elt F)),
    reshape main_v61 main_v137 (rfl : (.f32 : EltTy) = .f32) shapeCasts_S8192x4x128_S8192x512,
    unary main_v137 main_v138 ((truncf .bf16 · bitsLt_bf16_f32) : (⟨S8192x512, .f32⟩ : BufTy).Contents (Elt F) → (⟨S8192x512, .bf16⟩ : BufTy).Contents (Elt F)),
    reshape main_v96 main_v139 (rfl : (.f32 : EltTy) = .f32) shapeCasts_S8192x4x128_S8192x512,
    binary main_v139 main_arg2 main_v140 (fn_main_v140 (F := F)),
    nullary main_v141 (iotaInDim S256x256 32 0),
    nullary main_v142 (iotaInDim S256x256 32 1),
    nullary main_c_19 (constantI S_ 32 6#32),
    unary main_c_19 main_v143 (broadcastInDim S256x256 ![] bcast_S_S256x256 : (⟨S_, .i32⟩ : BufTy).Contents (Elt F) → (⟨S256x256, .i32⟩ : BufTy).Contents (Elt F)),
    binary main_v142 main_v143 main_v144 (Host.shrsi : (⟨S256x256, .i32⟩ : BufTy).Contents (Elt F) → (⟨S256x256, .i32⟩ : BufTy).Contents (Elt F) → (⟨S256x256, .i32⟩ : BufTy).Contents (Elt F)),
    nullary main_c_20 (constantI S_ 32 6#32),
    unary main_c_20 main_v145 (broadcastInDim S256x256 ![] bcast_S_S256x256 : (⟨S_, .i32⟩ : BufTy).Contents (Elt F) → (⟨S256x256, .i32⟩ : BufTy).Contents (Elt F)),
    binary main_v141 main_v145 main_v146 (Host.shrsi : (⟨S256x256, .i32⟩ : BufTy).Contents (Elt F) → (⟨S256x256, .i32⟩ : BufTy).Contents (Elt F) → (⟨S256x256, .i32⟩ : BufTy).Contents (Elt F)),
    binary main_v144 main_v146 main_v147 (cmpi .sle : (⟨S256x256, .i32⟩ : BufTy).Contents (Elt F) → (⟨S256x256, .i32⟩ : BufTy).Contents (Elt F) → (⟨S256x256, .i1⟩ : BufTy).Contents (Elt F)),
    binary main_v141 main_v142 main_v148 (subi : (⟨S256x256, .i32⟩ : BufTy).Contents (Elt F) → (⟨S256x256, .i32⟩ : BufTy).Contents (Elt F) → (⟨S256x256, .i32⟩ : BufTy).Contents (Elt F)),
    unary main_v148 main_v149 (absi : (⟨S256x256, .i32⟩ : BufTy).Contents (Elt F) → (⟨S256x256, .i32⟩ : BufTy).Contents (Elt F)),
    unary main_v149 main_v150 (sitofp .f32 : (⟨S256x256, .i32⟩ : BufTy).Contents (Elt F) → (⟨S256x256, .f32⟩ : BufTy).Contents (Elt F)),
    nullary main_v151 (iotaInDim S256x128 32 0),
    unary main_v151 main_v152 (sitofp .f32 : (⟨S256x128, .i32⟩ : BufTy).Contents (Elt F) → (⟨S256x128, .f32⟩ : BufTy).Contents (Elt F)),
    nullary main_cst_21 (constant S_ .f32 0x3F780000#32) ]

/-- @main's operations 224 … 226 of 384 (window `main_part2`). -/
abbrev ops_part2_2 : List (HloOp τ sig (Elt F)) :=
  [ unary main_cst_21 main_v153 (Host.log : (⟨S_, .f32⟩ : BufTy).Contents (Elt F) → (⟨S_, .f32⟩ : BufTy).Contents (Elt F)),
    nullary main_cst_22 (constant S_ .f32 0x3F7C0000#32),
    unary main_cst_22 main_v154 (Host.log : (⟨S_, .f32⟩ : BufTy).Contents (Elt F) → (⟨S_, .f32⟩ : BufTy).Contents (Elt F)) ]

/-- Window `main_part2`'s operations. Not an abbreviation: `main_eq` below splits `ops` into the windows and no further. -/
def ops_part2 : List (HloOp τ sig (Elt F)) :=
  ops_part2_0 ++ (ops_part2_1 ++ (ops_part2_2))

/-- @main's operations 227 … 256 of 384 (window `main_part3`). -/
abbrev ops_part3_0 : List (HloOp τ sig (Elt F)) :=
  [ nullary main_cst_23 (constant S_ .f32 0x3F7E0000#32),
    unary main_cst_23 main_v155 (Host.log : (⟨S_, .f32⟩ : BufTy).Contents (Elt F) → (⟨S_, .f32⟩ : BufTy).Contents (Elt F)),
    nullary main_cst_24 (constant S_ .f32 0x3F7F0000#32),
    unary main_cst_24 main_v156 (Host.log : (⟨S_, .f32⟩ : BufTy).Contents (Elt F) → (⟨S_, .f32⟩ : BufTy).Contents (Elt F)),
    unary main_v153 main_v157 (broadcastInDim S256x256 ![] bcast_S_S256x256 : (⟨S_, .f32⟩ : BufTy).Contents (Elt F) → (⟨S256x256, .f32⟩ : BufTy).Contents (Elt F)),
    binary main_v157 main_v150 main_v158 (mulf : (⟨S256x256, .f32⟩ : BufTy).Contents (Elt F) → (⟨S256x256, .f32⟩ : BufTy).Contents (Elt F) → (⟨S256x256, .f32⟩ : BufTy).Contents (Elt F)),
    unary main_v158 main_v159 (Host.exp : (⟨S256x256, .f32⟩ : BufTy).Contents (Elt F) → (⟨S256x256, .f32⟩ : BufTy).Contents (Elt F)),
    nullary main_cst_25 (constant S_ .f32 0x00000000#32),
    TRef.unary (TRef.of (T := ⟨S_, .f32⟩) main_cst_25) (TRef.of (T := ⟨S_, .f32⟩) main_call4_v0) id,
    TRef.unary (TRef.of (T := ⟨S_, .f32⟩) main_call4_v0) (TRef.of (T := ⟨S256x256, .f32⟩) main_call4_v1) (broadcastInDim S256x256 ![] bcast_S_S256x256),
    TRef.ternary (TRef.of (T := ⟨S256x256, .i1⟩) main_v147) (TRef.of (T := ⟨S256x256, .f32⟩) main_v159) (TRef.of (T := ⟨S256x256, .f32⟩) main_call4_v1) (TRef.of (T := ⟨S256x256, .f32⟩) main_v160) select,
    unary main_v154 main_v161 (broadcastInDim S256x256 ![] bcast_S_S256x256 : (⟨S_, .f32⟩ : BufTy).Contents (Elt F) → (⟨S256x256, .f32⟩ : BufTy).Contents (Elt F)),
    binary main_v161 main_v150 main_v162 (mulf : (⟨S256x256, .f32⟩ : BufTy).Contents (Elt F) → (⟨S256x256, .f32⟩ : BufTy).Contents (Elt F) → (⟨S256x256, .f32⟩ : BufTy).Contents (Elt F)),
    unary main_v162 main_v163 (Host.exp : (⟨S256x256, .f32⟩ : BufTy).Contents (Elt F) → (⟨S256x256, .f32⟩ : BufTy).Contents (Elt F)),
    nullary main_cst_26 (constant S_ .f32 0x00000000#32),
    TRef.unary (TRef.of (T := ⟨S_, .f32⟩) main_cst_26) (TRef.of (T := ⟨S_, .f32⟩) main_call5_v0) id,
    TRef.unary (TRef.of (T := ⟨S_, .f32⟩) main_call5_v0) (TRef.of (T := ⟨S256x256, .f32⟩) main_call5_v1) (broadcastInDim S256x256 ![] bcast_S_S256x256),
    TRef.ternary (TRef.of (T := ⟨S256x256, .i1⟩) main_v147) (TRef.of (T := ⟨S256x256, .f32⟩) main_v163) (TRef.of (T := ⟨S256x256, .f32⟩) main_call5_v1) (TRef.of (T := ⟨S256x256, .f32⟩) main_v164) select,
    unary main_v155 main_v165 (broadcastInDim S256x256 ![] bcast_S_S256x256 : (⟨S_, .f32⟩ : BufTy).Contents (Elt F) → (⟨S256x256, .f32⟩ : BufTy).Contents (Elt F)),
    binary main_v165 main_v150 main_v166 (mulf : (⟨S256x256, .f32⟩ : BufTy).Contents (Elt F) → (⟨S256x256, .f32⟩ : BufTy).Contents (Elt F) → (⟨S256x256, .f32⟩ : BufTy).Contents (Elt F)),
    unary main_v166 main_v167 (Host.exp : (⟨S256x256, .f32⟩ : BufTy).Contents (Elt F) → (⟨S256x256, .f32⟩ : BufTy).Contents (Elt F)),
    nullary main_cst_27 (constant S_ .f32 0x00000000#32),
    TRef.unary (TRef.of (T := ⟨S_, .f32⟩) main_cst_27) (TRef.of (T := ⟨S_, .f32⟩) main_call6_v0) id,
    TRef.unary (TRef.of (T := ⟨S_, .f32⟩) main_call6_v0) (TRef.of (T := ⟨S256x256, .f32⟩) main_call6_v1) (broadcastInDim S256x256 ![] bcast_S_S256x256),
    TRef.ternary (TRef.of (T := ⟨S256x256, .i1⟩) main_v147) (TRef.of (T := ⟨S256x256, .f32⟩) main_v167) (TRef.of (T := ⟨S256x256, .f32⟩) main_call6_v1) (TRef.of (T := ⟨S256x256, .f32⟩) main_v168) select,
    unary main_v156 main_v169 (broadcastInDim S256x256 ![] bcast_S_S256x256 : (⟨S_, .f32⟩ : BufTy).Contents (Elt F) → (⟨S256x256, .f32⟩ : BufTy).Contents (Elt F)),
    binary main_v169 main_v150 main_v170 (mulf : (⟨S256x256, .f32⟩ : BufTy).Contents (Elt F) → (⟨S256x256, .f32⟩ : BufTy).Contents (Elt F) → (⟨S256x256, .f32⟩ : BufTy).Contents (Elt F)),
    unary main_v170 main_v171 (Host.exp : (⟨S256x256, .f32⟩ : BufTy).Contents (Elt F) → (⟨S256x256, .f32⟩ : BufTy).Contents (Elt F)),
    nullary main_cst_28 (constant S_ .f32 0x00000000#32),
    TRef.unary (TRef.of (T := ⟨S_, .f32⟩) main_cst_28) (TRef.of (T := ⟨S_, .f32⟩) main_call7_v0) id ]

/-- @main's operations 257 … 286 of 384 (window `main_part3`). -/
abbrev ops_part3_1 : List (HloOp τ sig (Elt F)) :=
  [ TRef.unary (TRef.of (T := ⟨S_, .f32⟩) main_call7_v0) (TRef.of (T := ⟨S256x256, .f32⟩) main_call7_v1) (broadcastInDim S256x256 ![] bcast_S_S256x256),
    TRef.ternary (TRef.of (T := ⟨S256x256, .i1⟩) main_v147) (TRef.of (T := ⟨S256x256, .f32⟩) main_v171) (TRef.of (T := ⟨S256x256, .f32⟩) main_call7_v1) (TRef.of (T := ⟨S256x256, .f32⟩) main_v172) select,
    unary main_v160 main_v173 (broadcastInDim S1x256x256 ![1, 2] bcast_S256x256_S1x256x256_1_2 : (⟨S256x256, .f32⟩ : BufTy).Contents (Elt F) → (⟨S1x256x256, .f32⟩ : BufTy).Contents (Elt F)),
    unary main_v164 main_v174 (broadcastInDim S1x256x256 ![1, 2] bcast_S256x256_S1x256x256_1_2 : (⟨S256x256, .f32⟩ : BufTy).Contents (Elt F) → (⟨S1x256x256, .f32⟩ : BufTy).Contents (Elt F)),
    unary main_v168 main_v175 (broadcastInDim S1x256x256 ![1, 2] bcast_S256x256_S1x256x256_1_2 : (⟨S256x256, .f32⟩ : BufTy).Contents (Elt F) → (⟨S1x256x256, .f32⟩ : BufTy).Contents (Elt F)),
    unary main_v172 main_v176 (broadcastInDim S1x256x256 ![1, 2] bcast_S256x256_S1x256x256_1_2 : (⟨S256x256, .f32⟩ : BufTy).Contents (Elt F) → (⟨S1x256x256, .f32⟩ : BufTy).Contents (Elt F)),
    nary ![main_v173, main_v174, main_v175, main_v176] main_v177 (fun u => fn_main_v177 (F := F) (u 0) (u 1) (u 2) (u 3)),
    nullary main_cst_29 (constant S_ .f32 0x3F800000#32),
    unary main_cst_29 main_v178 (broadcastInDim S256x128 ![] bcast_S_S256x128 : (⟨S_, .f32⟩ : BufTy).Contents (Elt F) → (⟨S256x128, .f32⟩ : BufTy).Contents (Elt F)),
    binary main_v152 main_v178 main_v179 (addf : (⟨S256x128, .f32⟩ : BufTy).Contents (Elt F) → (⟨S256x128, .f32⟩ : BufTy).Contents (Elt F) → (⟨S256x128, .f32⟩ : BufTy).Contents (Elt F)),
    unary main_v153 main_v180 (broadcastInDim S256x128 ![] bcast_S_S256x128 : (⟨S_, .f32⟩ : BufTy).Contents (Elt F) → (⟨S256x128, .f32⟩ : BufTy).Contents (Elt F)),
    binary main_v180 main_v179 main_v181 (mulf : (⟨S256x128, .f32⟩ : BufTy).Contents (Elt F) → (⟨S256x128, .f32⟩ : BufTy).Contents (Elt F) → (⟨S256x128, .f32⟩ : BufTy).Contents (Elt F)),
    unary main_v181 main_v182 (Host.exp : (⟨S256x128, .f32⟩ : BufTy).Contents (Elt F) → (⟨S256x128, .f32⟩ : BufTy).Contents (Elt F)),
    nullary main_cst_30 (constant S_ .f32 0x3F800000#32),
    unary main_cst_30 main_v183 (broadcastInDim S256x128 ![] bcast_S_S256x128 : (⟨S_, .f32⟩ : BufTy).Contents (Elt F) → (⟨S256x128, .f32⟩ : BufTy).Contents (Elt F)),
    binary main_v152 main_v183 main_v184 (addf : (⟨S256x128, .f32⟩ : BufTy).Contents (Elt F) → (⟨S256x128, .f32⟩ : BufTy).Contents (Elt F) → (⟨S256x128, .f32⟩ : BufTy).Contents (Elt F)),
    unary main_v154 main_v185 (broadcastInDim S256x128 ![] bcast_S_S256x128 : (⟨S_, .f32⟩ : BufTy).Contents (Elt F) → (⟨S256x128, .f32⟩ : BufTy).Contents (Elt F)),
    binary main_v185 main_v184 main_v186 (mulf : (⟨S256x128, .f32⟩ : BufTy).Contents (Elt F) → (⟨S256x128, .f32⟩ : BufTy).Contents (Elt F) → (⟨S256x128, .f32⟩ : BufTy).Contents (Elt F)),
    unary main_v186 main_v187 (Host.exp : (⟨S256x128, .f32⟩ : BufTy).Contents (Elt F) → (⟨S256x128, .f32⟩ : BufTy).Contents (Elt F)),
    nullary main_cst_31 (constant S_ .f32 0x3F800000#32),
    unary main_cst_31 main_v188 (broadcastInDim S256x128 ![] bcast_S_S256x128 : (⟨S_, .f32⟩ : BufTy).Contents (Elt F) → (⟨S256x128, .f32⟩ : BufTy).Contents (Elt F)),
    binary main_v152 main_v188 main_v189 (addf : (⟨S256x128, .f32⟩ : BufTy).Contents (Elt F) → (⟨S256x128, .f32⟩ : BufTy).Contents (Elt F) → (⟨S256x128, .f32⟩ : BufTy).Contents (Elt F)),
    unary main_v155 main_v190 (broadcastInDim S256x128 ![] bcast_S_S256x128 : (⟨S_, .f32⟩ : BufTy).Contents (Elt F) → (⟨S256x128, .f32⟩ : BufTy).Contents (Elt F)),
    binary main_v190 main_v189 main_v191 (mulf : (⟨S256x128, .f32⟩ : BufTy).Contents (Elt F) → (⟨S256x128, .f32⟩ : BufTy).Contents (Elt F) → (⟨S256x128, .f32⟩ : BufTy).Contents (Elt F)),
    unary main_v191 main_v192 (Host.exp : (⟨S256x128, .f32⟩ : BufTy).Contents (Elt F) → (⟨S256x128, .f32⟩ : BufTy).Contents (Elt F)),
    nullary main_cst_32 (constant S_ .f32 0x3F800000#32),
    unary main_cst_32 main_v193 (broadcastInDim S256x128 ![] bcast_S_S256x128 : (⟨S_, .f32⟩ : BufTy).Contents (Elt F) → (⟨S256x128, .f32⟩ : BufTy).Contents (Elt F)),
    binary main_v152 main_v193 main_v194 (addf : (⟨S256x128, .f32⟩ : BufTy).Contents (Elt F) → (⟨S256x128, .f32⟩ : BufTy).Contents (Elt F) → (⟨S256x128, .f32⟩ : BufTy).Contents (Elt F)),
    unary main_v156 main_v195 (broadcastInDim S256x128 ![] bcast_S_S256x128 : (⟨S_, .f32⟩ : BufTy).Contents (Elt F) → (⟨S256x128, .f32⟩ : BufTy).Contents (Elt F)),
    binary main_v195 main_v194 main_v196 (mulf : (⟨S256x128, .f32⟩ : BufTy).Contents (Elt F) → (⟨S256x128, .f32⟩ : BufTy).Contents (Elt F) → (⟨S256x128, .f32⟩ : BufTy).Contents (Elt F)) ]

/-- @main's operations 287 … 294 of 384 (window `main_part3`). -/
abbrev ops_part3_2 : List (HloOp τ sig (Elt F)) :=
  [ unary main_v196 main_v197 (Host.exp : (⟨S256x128, .f32⟩ : BufTy).Contents (Elt F) → (⟨S256x128, .f32⟩ : BufTy).Contents (Elt F)),
    nullary main_cst_33 (constant S_ .f32 0x437F0000#32),
    unary main_cst_33 main_v198 (broadcastInDim S256x128 ![] bcast_S_S256x128 : (⟨S_, .f32⟩ : BufTy).Contents (Elt F) → (⟨S256x128, .f32⟩ : BufTy).Contents (Elt F)),
    binary main_v198 main_v152 main_v199 (subf : (⟨S256x128, .f32⟩ : BufTy).Contents (Elt F) → (⟨S256x128, .f32⟩ : BufTy).Contents (Elt F) → (⟨S256x128, .f32⟩ : BufTy).Contents (Elt F)),
    unary main_v153 main_v200 (broadcastInDim S256x128 ![] bcast_S_S256x128 : (⟨S_, .f32⟩ : BufTy).Contents (Elt F) → (⟨S256x128, .f32⟩ : BufTy).Contents (Elt F)),
    binary main_v200 main_v199 main_v201 (mulf : (⟨S256x128, .f32⟩ : BufTy).Contents (Elt F) → (⟨S256x128, .f32⟩ : BufTy).Contents (Elt F) → (⟨S256x128, .f32⟩ : BufTy).Contents (Elt F)),
    unary main_v201 main_v202 (Host.exp : (⟨S256x128, .f32⟩ : BufTy).Contents (Elt F) → (⟨S256x128, .f32⟩ : BufTy).Contents (Elt F)),
    nullary main_cst_34 (constant S_ .f32 0x437F0000#32) ]

/-- Window `main_part3`'s operations. Not an abbreviation: `main_eq` below splits `ops` into the windows and no further. -/
def ops_part3 : List (HloOp τ sig (Elt F)) :=
  ops_part3_0 ++ (ops_part3_1 ++ (ops_part3_2))

/-- @main's operations 295 … 324 of 384 (window `main_part4`). -/
abbrev ops_part4_0 : List (HloOp τ sig (Elt F)) :=
  [ unary main_cst_34 main_v203 (broadcastInDim S256x128 ![] bcast_S_S256x128 : (⟨S_, .f32⟩ : BufTy).Contents (Elt F) → (⟨S256x128, .f32⟩ : BufTy).Contents (Elt F)),
    binary main_v203 main_v152 main_v204 (subf : (⟨S256x128, .f32⟩ : BufTy).Contents (Elt F) → (⟨S256x128, .f32⟩ : BufTy).Contents (Elt F) → (⟨S256x128, .f32⟩ : BufTy).Contents (Elt F)),
    unary main_v154 main_v205 (broadcastInDim S256x128 ![] bcast_S_S256x128 : (⟨S_, .f32⟩ : BufTy).Contents (Elt F) → (⟨S256x128, .f32⟩ : BufTy).Contents (Elt F)),
    binary main_v205 main_v204 main_v206 (mulf : (⟨S256x128, .f32⟩ : BufTy).Contents (Elt F) → (⟨S256x128, .f32⟩ : BufTy).Contents (Elt F) → (⟨S256x128, .f32⟩ : BufTy).Contents (Elt F)),
    unary main_v206 main_v207 (Host.exp : (⟨S256x128, .f32⟩ : BufTy).Contents (Elt F) → (⟨S256x128, .f32⟩ : BufTy).Contents (Elt F)),
    nullary main_cst_35 (constant S_ .f32 0x437F0000#32),
    unary main_cst_35 main_v208 (broadcastInDim S256x128 ![] bcast_S_S256x128 : (⟨S_, .f32⟩ : BufTy).Contents (Elt F) → (⟨S256x128, .f32⟩ : BufTy).Contents (Elt F)),
    binary main_v208 main_v152 main_v209 (subf : (⟨S256x128, .f32⟩ : BufTy).Contents (Elt F) → (⟨S256x128, .f32⟩ : BufTy).Contents (Elt F) → (⟨S256x128, .f32⟩ : BufTy).Contents (Elt F)),
    unary main_v155 main_v210 (broadcastInDim S256x128 ![] bcast_S_S256x128 : (⟨S_, .f32⟩ : BufTy).Contents (Elt F) → (⟨S256x128, .f32⟩ : BufTy).Contents (Elt F)),
    binary main_v210 main_v209 main_v211 (mulf : (⟨S256x128, .f32⟩ : BufTy).Contents (Elt F) → (⟨S256x128, .f32⟩ : BufTy).Contents (Elt F) → (⟨S256x128, .f32⟩ : BufTy).Contents (Elt F)),
    unary main_v211 main_v212 (Host.exp : (⟨S256x128, .f32⟩ : BufTy).Contents (Elt F) → (⟨S256x128, .f32⟩ : BufTy).Contents (Elt F)),
    nullary main_cst_36 (constant S_ .f32 0x437F0000#32),
    unary main_cst_36 main_v213 (broadcastInDim S256x128 ![] bcast_S_S256x128 : (⟨S_, .f32⟩ : BufTy).Contents (Elt F) → (⟨S256x128, .f32⟩ : BufTy).Contents (Elt F)),
    binary main_v213 main_v152 main_v214 (subf : (⟨S256x128, .f32⟩ : BufTy).Contents (Elt F) → (⟨S256x128, .f32⟩ : BufTy).Contents (Elt F) → (⟨S256x128, .f32⟩ : BufTy).Contents (Elt F)),
    unary main_v156 main_v215 (broadcastInDim S256x128 ![] bcast_S_S256x128 : (⟨S_, .f32⟩ : BufTy).Contents (Elt F) → (⟨S256x128, .f32⟩ : BufTy).Contents (Elt F)),
    binary main_v215 main_v214 main_v216 (mulf : (⟨S256x128, .f32⟩ : BufTy).Contents (Elt F) → (⟨S256x128, .f32⟩ : BufTy).Contents (Elt F) → (⟨S256x128, .f32⟩ : BufTy).Contents (Elt F)),
    unary main_v216 main_v217 (Host.exp : (⟨S256x128, .f32⟩ : BufTy).Contents (Elt F) → (⟨S256x128, .f32⟩ : BufTy).Contents (Elt F)),
    unary main_v182 main_v218 (broadcastInDim S1x256x128 ![1, 2] bcast_S256x128_S1x256x128_1_2 : (⟨S256x128, .f32⟩ : BufTy).Contents (Elt F) → (⟨S1x256x128, .f32⟩ : BufTy).Contents (Elt F)),
    unary main_v187 main_v219 (broadcastInDim S1x256x128 ![1, 2] bcast_S256x128_S1x256x128_1_2 : (⟨S256x128, .f32⟩ : BufTy).Contents (Elt F) → (⟨S1x256x128, .f32⟩ : BufTy).Contents (Elt F)),
    unary main_v192 main_v220 (broadcastInDim S1x256x128 ![1, 2] bcast_S256x128_S1x256x128_1_2 : (⟨S256x128, .f32⟩ : BufTy).Contents (Elt F) → (⟨S1x256x128, .f32⟩ : BufTy).Contents (Elt F)),
    unary main_v197 main_v221 (broadcastInDim S1x256x128 ![1, 2] bcast_S256x128_S1x256x128_1_2 : (⟨S256x128, .f32⟩ : BufTy).Contents (Elt F) → (⟨S1x256x128, .f32⟩ : BufTy).Contents (Elt F)),
    unary main_v202 main_v222 (broadcastInDim S1x256x128 ![1, 2] bcast_S256x128_S1x256x128_1_2 : (⟨S256x128, .f32⟩ : BufTy).Contents (Elt F) → (⟨S1x256x128, .f32⟩ : BufTy).Contents (Elt F)),
    unary main_v207 main_v223 (broadcastInDim S1x256x128 ![1, 2] bcast_S256x128_S1x256x128_1_2 : (⟨S256x128, .f32⟩ : BufTy).Contents (Elt F) → (⟨S1x256x128, .f32⟩ : BufTy).Contents (Elt F)),
    unary main_v212 main_v224 (broadcastInDim S1x256x128 ![1, 2] bcast_S256x128_S1x256x128_1_2 : (⟨S256x128, .f32⟩ : BufTy).Contents (Elt F) → (⟨S1x256x128, .f32⟩ : BufTy).Contents (Elt F)),
    unary main_v217 main_v225 (broadcastInDim S1x256x128 ![1, 2] bcast_S256x128_S1x256x128_1_2 : (⟨S256x128, .f32⟩ : BufTy).Contents (Elt F) → (⟨S1x256x128, .f32⟩ : BufTy).Contents (Elt F)),
    nary ![main_v218, main_v219, main_v220, main_v221, main_v222, main_v223, main_v224, main_v225] main_v226 (fun u => fn_main_v226 (F := F) (u 0) (u 1) (u 2) (u 3) (u 4) (u 5) (u 6) (u 7)),
    nullary main_cst_37 (constant S_ .f32 0x00000000#32),
    nullary main_cst_38 (constant S_ .f32 0x3F800000#32),
    TRef.unary (TRef.of (T := ⟨S_, .f32⟩) main_cst_37) (TRef.of (T := ⟨S_, .f32⟩) main_call8_v0) id,
    TRef.unary (TRef.of (T := ⟨S_, .f32⟩) main_cst_38) (TRef.of (T := ⟨S_, .f32⟩) main_call8_v1) id ]

/-- @main's operations 325 … 354 of 384 (window `main_part4`). -/
abbrev ops_part4_1 : List (HloOp τ sig (Elt F)) :=
  [ TRef.binary (TRef.of (T := ⟨S_, .f32⟩) main_call8_v1) (TRef.of (T := ⟨S_, .f32⟩) main_call8_v0) (TRef.of (T := ⟨S_, .f32⟩) main_call8_v2) subf,
    TRef.nullary (TRef.of (T := ⟨S_, .f32⟩) main_call8_cst) (constant S_ .f32 0x427C0000#32),
    TRef.binary (TRef.of (T := ⟨S_, .f32⟩) main_call8_v2) (TRef.of (T := ⟨S_, .f32⟩) main_call8_cst) (TRef.of (T := ⟨S_, .f32⟩) main_call8_v3) Host.divf,
    TRef.nullary (TRef.of (T := ⟨S63, .f32⟩) main_call8_v4) (sitofp .f32 (iotaInDim S63 32 0)),
    TRef.nullary (TRef.of (T := ⟨S_, .f32⟩) main_call8_cst_0) (constant S_ .f32 0x427C0000#32),
    TRef.unary (TRef.of (T := ⟨S_, .f32⟩) main_call8_cst_0) (TRef.of (T := ⟨S63, .f32⟩) main_call8_v5) (broadcastInDim S63 ![] bcast_S_S63),
    TRef.binary (TRef.of (T := ⟨S63, .f32⟩) main_call8_v4) (TRef.of (T := ⟨S63, .f32⟩) main_call8_v5) (TRef.of (T := ⟨S63, .f32⟩) main_call8_v6) Host.divf,
    TRef.reshape (TRef.of (T := ⟨S_, .f32⟩) main_call8_v0) (TRef.of (T := ⟨S1, .f32⟩) main_call8_v7) (rfl : (.f32 : EltTy) = .f32) shapeCasts_S_S1,
    TRef.nullary (TRef.of (T := ⟨S_, .f32⟩) main_call8_cst_1) (constant S_ .f32 0x3F800000#32),
    TRef.unary (TRef.of (T := ⟨S_, .f32⟩) main_call8_cst_1) (TRef.of (T := ⟨S63, .f32⟩) main_call8_v8) (broadcastInDim S63 ![] bcast_S_S63),
    TRef.binary (TRef.of (T := ⟨S63, .f32⟩) main_call8_v8) (TRef.of (T := ⟨S63, .f32⟩) main_call8_v6) (TRef.of (T := ⟨S63, .f32⟩) main_call8_v9) subf,
    TRef.unary (TRef.of (T := ⟨S1, .f32⟩) main_call8_v7) (TRef.of (T := ⟨S63, .f32⟩) main_call8_v10) (broadcastInDim S63 ![0] bcast_S1_S63_0),
    TRef.binary (TRef.of (T := ⟨S63, .f32⟩) main_call8_v10) (TRef.of (T := ⟨S63, .f32⟩) main_call8_v9) (TRef.of (T := ⟨S63, .f32⟩) main_call8_v11) mulf,
    TRef.reshape (TRef.of (T := ⟨S_, .f32⟩) main_call8_v1) (TRef.of (T := ⟨S1, .f32⟩) main_call8_v12) (rfl : (.f32 : EltTy) = .f32) shapeCasts_S_S1,
    TRef.unary (TRef.of (T := ⟨S1, .f32⟩) main_call8_v12) (TRef.of (T := ⟨S63, .f32⟩) main_call8_v13) (broadcastInDim S63 ![0] bcast_S1_S63_0),
    TRef.binary (TRef.of (T := ⟨S63, .f32⟩) main_call8_v13) (TRef.of (T := ⟨S63, .f32⟩) main_call8_v6) (TRef.of (T := ⟨S63, .f32⟩) main_call8_v14) mulf,
    TRef.binary (TRef.of (T := ⟨S63, .f32⟩) main_call8_v11) (TRef.of (T := ⟨S63, .f32⟩) main_call8_v14) (TRef.of (T := ⟨S63, .f32⟩) main_call8_v15) addf,
    TRef.unary (TRef.of (T := ⟨S_, .f32⟩) main_call8_v1) (TRef.of (T := ⟨S1, .f32⟩) main_call8_v16) (broadcastInDim S1 ![] bcast_S_S1),
    TRef.binary (TRef.of (T := ⟨S63, .f32⟩) main_call8_v15) (TRef.of (T := ⟨S1, .f32⟩) main_call8_v16) (TRef.of (T := ⟨S64, .f32⟩) main_v227) (fn_main_v227 (F := F)),
    nullary main_cst_39 (constant S_ .f32 0x461C4000#32),
    unary main_cst_39 main_v228 (broadcastInDim S64 ![] bcast_S_S64 : (⟨S_, .f32⟩ : BufTy).Contents (Elt F) → (⟨S64, .f32⟩ : BufTy).Contents (Elt F)),
    binary main_v228 main_v227 main_v229 (Host.powf : (⟨S64, .f32⟩ : BufTy).Contents (Elt F) → (⟨S64, .f32⟩ : BufTy).Contents (Elt F) → (⟨S64, .f32⟩ : BufTy).Contents (Elt F)),
    nullary main_cst_40 (constant S_ .f32 0x3F800000#32),
    unary main_cst_40 main_v230 (broadcastInDim S64 ![] bcast_S_S64 : (⟨S_, .f32⟩ : BufTy).Contents (Elt F) → (⟨S64, .f32⟩ : BufTy).Contents (Elt F)),
    binary main_v230 main_v229 main_v231 (Host.divf : (⟨S64, .f32⟩ : BufTy).Contents (Elt F) → (⟨S64, .f32⟩ : BufTy).Contents (Elt F) → (⟨S64, .f32⟩ : BufTy).Contents (Elt F)),
    nullary main_v232 (sitofp .f32 (iotaInDim S256 32 0)),
    unary main_v232 main_v233 (broadcastInDim S256x1 ![0] bcast_S256_S256x1_0 : (⟨S256, .f32⟩ : BufTy).Contents (Elt F) → (⟨S256x1, .f32⟩ : BufTy).Contents (Elt F)),
    unary main_v231 main_v234 (broadcastInDim S1x64 ![1] bcast_S64_S1x64_1 : (⟨S64, .f32⟩ : BufTy).Contents (Elt F) → (⟨S1x64, .f32⟩ : BufTy).Contents (Elt F)),
    unary main_v233 main_v235 (broadcastInDim S256x64 ![0, 1] bcast_S256x1_S256x64_0_1 : (⟨S256x1, .f32⟩ : BufTy).Contents (Elt F) → (⟨S256x64, .f32⟩ : BufTy).Contents (Elt F)),
    unary main_v234 main_v236 (broadcastInDim S256x64 ![0, 1] bcast_S1x64_S256x64_0_1 : (⟨S1x64, .f32⟩ : BufTy).Contents (Elt F) → (⟨S256x64, .f32⟩ : BufTy).Contents (Elt F)) ]

/-- @main's operations 355 … 374 of 384 (window `main_part4`). -/
abbrev ops_part4_2 : List (HloOp τ sig (Elt F)) :=
  [ binary main_v235 main_v236 main_v237 (mulf : (⟨S256x64, .f32⟩ : BufTy).Contents (Elt F) → (⟨S256x64, .f32⟩ : BufTy).Contents (Elt F) → (⟨S256x64, .f32⟩ : BufTy).Contents (Elt F)),
    nullary main_v238 (sitofp .f32 (iotaInDim S32 32 0)),
    nullary main_cst_41 (constant S_ .f32 0x43800000#32),
    unary main_cst_41 main_v239 (broadcastInDim S32 ![] bcast_S_S32 : (⟨S_, .f32⟩ : BufTy).Contents (Elt F) → (⟨S32, .f32⟩ : BufTy).Contents (Elt F)),
    binary main_v238 main_v239 main_v240 (mulf : (⟨S32, .f32⟩ : BufTy).Contents (Elt F) → (⟨S32, .f32⟩ : BufTy).Contents (Elt F) → (⟨S32, .f32⟩ : BufTy).Contents (Elt F)),
    unary main_v240 main_v241 (broadcastInDim S32x1 ![0] bcast_S32_S32x1_0 : (⟨S32, .f32⟩ : BufTy).Contents (Elt F) → (⟨S32x1, .f32⟩ : BufTy).Contents (Elt F)),
    unary main_v231 main_v242 (broadcastInDim S1x64 ![1] bcast_S64_S1x64_1 : (⟨S64, .f32⟩ : BufTy).Contents (Elt F) → (⟨S1x64, .f32⟩ : BufTy).Contents (Elt F)),
    unary main_v241 main_v243 (broadcastInDim S32x64 ![0, 1] bcast_S32x1_S32x64_0_1 : (⟨S32x1, .f32⟩ : BufTy).Contents (Elt F) → (⟨S32x64, .f32⟩ : BufTy).Contents (Elt F)),
    unary main_v242 main_v244 (broadcastInDim S32x64 ![0, 1] bcast_S1x64_S32x64_0_1 : (⟨S1x64, .f32⟩ : BufTy).Contents (Elt F) → (⟨S32x64, .f32⟩ : BufTy).Contents (Elt F)),
    binary main_v243 main_v244 main_v245 (mulf : (⟨S32x64, .f32⟩ : BufTy).Contents (Elt F) → (⟨S32x64, .f32⟩ : BufTy).Contents (Elt F) → (⟨S32x64, .f32⟩ : BufTy).Contents (Elt F)),
    unary main_v237 main_v246 (Host.cos : (⟨S256x64, .f32⟩ : BufTy).Contents (Elt F) → (⟨S256x64, .f32⟩ : BufTy).Contents (Elt F)),
    unary main_v237 main_v247 (Host.sin : (⟨S256x64, .f32⟩ : BufTy).Contents (Elt F) → (⟨S256x64, .f32⟩ : BufTy).Contents (Elt F)),
    binary main_v246 main_v246 main_v248 (fn_main_v248 (F := F)),
    binary main_v247 main_v247 main_v249 (fn_main_v249 (F := F)),
    unary main_v246 main_v250 (Host.negf : (⟨S256x64, .f32⟩ : BufTy).Contents (Elt F) → (⟨S256x64, .f32⟩ : BufTy).Contents (Elt F)),
    binary main_v250 main_v246 main_v251 (fn_main_v251 (F := F)),
    unary main_v247 main_v252 (Host.negf : (⟨S256x64, .f32⟩ : BufTy).Contents (Elt F) → (⟨S256x64, .f32⟩ : BufTy).Contents (Elt F)),
    binary main_v252 main_v247 main_v253 (fn_main_v253 (F := F)),
    unary main_v248 main_v254 (broadcastInDim S1x256x128 ![1, 2] bcast_S256x128_S1x256x128_1_2 : (⟨S256x128, .f32⟩ : BufTy).Contents (Elt F) → (⟨S1x256x128, .f32⟩ : BufTy).Contents (Elt F)),
    unary main_v249 main_v255 (broadcastInDim S1x256x128 ![1, 2] bcast_S256x128_S1x256x128_1_2 : (⟨S256x128, .f32⟩ : BufTy).Contents (Elt F) → (⟨S1x256x128, .f32⟩ : BufTy).Contents (Elt F)) ]

/-- Window `main_part4`'s operations. Not an abbreviation: `main_eq` below splits `ops` into the windows and no further. -/
def ops_part4 : List (HloOp τ sig (Elt F)) :=
  ops_part4_0 ++ (ops_part4_1 ++ (ops_part4_2))

/-- @main's operations 375 … 384 of 384 (window `main_part5`). -/
abbrev ops_part5 : List (HloOp τ sig (Elt F)) :=
  [ unary main_v251 main_v256 (broadcastInDim S1x256x128 ![1, 2] bcast_S256x128_S1x256x128_1_2 : (⟨S256x128, .f32⟩ : BufTy).Contents (Elt F) → (⟨S1x256x128, .f32⟩ : BufTy).Contents (Elt F)),
    unary main_v253 main_v257 (broadcastInDim S1x256x128 ![1, 2] bcast_S256x128_S1x256x128_1_2 : (⟨S256x128, .f32⟩ : BufTy).Contents (Elt F) → (⟨S1x256x128, .f32⟩ : BufTy).Contents (Elt F)),
    nary ![main_v254, main_v255, main_v256, main_v257] main_v258 (fun u => fn_main_v258 (F := F) (u 0) (u 1) (u 2) (u 3)),
    unary main_v245 main_v259 (Host.cos : (⟨S32x64, .f32⟩ : BufTy).Contents (Elt F) → (⟨S32x64, .f32⟩ : BufTy).Contents (Elt F)),
    unary main_v245 main_v260 (Host.sin : (⟨S32x64, .f32⟩ : BufTy).Contents (Elt F) → (⟨S32x64, .f32⟩ : BufTy).Contents (Elt F)),
    nary ![main_v259, main_v259, main_v260, main_v260] main_v261 (fun u => fn_main_v261 (F := F) (u 0) (u 1) (u 2) (u 3)),
    unary main_v261 main_v262 (broadcastInDim S32x1x256 ![0, 2] bcast_S32x256_S32x1x256_0_2 : (⟨S32x256, .f32⟩ : BufTy).Contents (Elt F) → (⟨S32x1x256, .f32⟩ : BufTy).Contents (Elt F)),
    unary main_v262 main_v263 (broadcastInDim S32x8x256 ![0, 1, 2] bcast_S32x1x256_S32x8x256_0_1_2 : (⟨S32x1x256, .f32⟩ : BufTy).Contents (Elt F) → (⟨S32x8x256, .f32⟩ : BufTy).Contents (Elt F)),
    nullary main_cst_42 (constant S_ .f32 0x00000000#32),
    unary main_cst_42 main_v264 (broadcastInDim S8x128 ![] bcast_S_S8x128 : (⟨S_, .f32⟩ : BufTy).Contents (Elt F) → (⟨S8x128, .f32⟩ : BufTy).Contents (Elt F)) ]

/-- @main's 384 operations, in order (a called function's operations stand in its call's place, spelt `TRef.…`). -/
abbrev ops : List (HloOp τ sig (Elt F)) :=
  ops_part0 ++ (ops_part1 ++ (ops_part2 ++ (ops_part3 ++ (ops_part4 ++ (ops_part5)))))

set_option maxRecDepth 8192 in
/-- `main_v0`'s composed term of the arguments (named: it is used 2 times). -/
def res_main_v0 (V0 : Valuation τ sig (Elt F)) : (Proc.devRef .tc main_v0 : DevRef τ sig).ty.Contents (Elt F) :=
  sitofp .f32 (iotaInDim S8192 32 0)

set_option maxRecDepth 8192 in
/-- `main_v4`'s composed term of the arguments (named: it is used 2 times). -/
def res_main_v4 (V0 : Valuation τ sig (Elt F)) : (Proc.devRef .tc main_v4 : DevRef τ sig).ty.Contents (Elt F) :=
  shapeCast _ (extractStridedSlice S8192x512 ![0, 0] (V0 (Proc.devRef .tc main_arg1)) slices_S8192x3712_S8192x512_0_0) shapeCasts_S8192x512_S8192x4x128

set_option maxRecDepth 8192 in
/-- `main_call0_v0`'s composed term of the arguments (named: it is used 2 times). -/
def res_main_call0_v0 (V0 : Valuation τ sig (Elt F)) : (Proc.devRef .tc main_call0_v0 : DevRef τ sig).ty.Contents (Elt F) :=
  id (constant S_ .f32 0x00000000#32)

set_option maxRecDepth 8192 in
/-- `main_call0_v1`'s composed term of the arguments (named: it is used 3 times). -/
def res_main_call0_v1 (V0 : Valuation τ sig (Elt F)) : (Proc.devRef .tc main_call0_v1 : DevRef τ sig).ty.Contents (Elt F) :=
  id (constant S_ .f32 0x3F800000#32)

set_option maxRecDepth 8192 in
/-- `main_call0_v6`'s composed term of the arguments (named: it is used 2 times). -/
def res_main_call0_v6 (V0 : Valuation τ sig (Elt F)) : (Proc.devRef .tc main_call0_v6 : DevRef τ sig).ty.Contents (Elt F) :=
  Host.divf (sitofp .f32 (iotaInDim S63 32 0)) (broadcastInDim S63 ![] bcast_S_S63 (constant S_ .f32 0x427C0000#32))

set_option maxRecDepth 8192 in
/-- `main_v14`'s composed term of the arguments (named: it is used 2 times). -/
def res_main_v14 (V0 : Valuation τ sig (Elt F)) : (Proc.devRef .tc main_v14 : DevRef τ sig).ty.Contents (Elt F) :=
  mulf (broadcastInDim S8192x64 ![0, 1] bcast_S8192x1_S8192x64_0_1 (broadcastInDim S8192x1 ![0] bcast_S8192_S8192x1_0 (res_main_v0 V0))) (broadcastInDim S8192x64 ![0, 1] bcast_S1x64_S8192x64_0_1 (broadcastInDim S1x64 ![1] bcast_S64_S1x64_1 (Host.divf (broadcastInDim S64 ![] bcast_S_S64 (constant S_ .f32 0x3F800000#32)) (Host.powf (broadcastInDim S64 ![] bcast_S_S64 (constant S_ .f32 0x461C4000#32)) (concatenate S64 0 [⟨S63, (addf (mulf (broadcastInDim S63 ![0] bcast_S1_S63_0 (shapeCast _ (res_main_call0_v0 V0) shapeCasts_S_S1)) (subf (broadcastInDim S63 ![] bcast_S_S63 (constant S_ .f32 0x3F800000#32)) (res_main_call0_v6 V0))) (mulf (broadcastInDim S63 ![0] bcast_S1_S63_0 (shapeCast _ (res_main_call0_v1 V0) shapeCasts_S_S1)) (res_main_call0_v6 V0)))⟩, ⟨S1, (broadcastInDim S1 ![] bcast_S_S1 (res_main_call0_v1 V0))⟩] concatenates_S63_S1_S64_d0)))))

set_option maxRecDepth 8192 in
/-- `main_v16`'s composed term of the arguments (named: it is used 2 times). -/
def res_main_v16 (V0 : Valuation τ sig (Elt F)) : (Proc.devRef .tc main_v16 : DevRef τ sig).ty.Contents (Elt F) :=
  broadcastInDim S8192x1x64 ![0, 2] bcast_S8192x64_S8192x1x64_0_2 (Host.cos (res_main_v14 V0))

set_option maxRecDepth 8192 in
/-- `main_v18`'s composed term of the arguments (named: it is used 2 times). -/
def res_main_v18 (V0 : Valuation τ sig (Elt F)) : (Proc.devRef .tc main_v18 : DevRef τ sig).ty.Contents (Elt F) :=
  broadcastInDim S8192x1x64 ![0, 2] bcast_S8192x64_S8192x1x64_0_2 (Host.sin (res_main_v14 V0))

set_option maxRecDepth 8192 in
/-- `main_v19`'s composed term of the arguments (named: it is used 2 times). -/
def res_main_v19 (V0 : Valuation τ sig (Elt F)) : (Proc.devRef .tc main_v19 : DevRef τ sig).ty.Contents (Elt F) :=
  extractStridedSlice S8192x4x64 ![0, 0, 0] (res_main_v4 V0) slices_S8192x4x128_S8192x4x64_0_0_0

set_option maxRecDepth 8192 in
/-- `main_v20`'s composed term of the arguments (named: it is used 2 times). -/
def res_main_v20 (V0 : Valuation τ sig (Elt F)) : (Proc.devRef .tc main_v20 : DevRef τ sig).ty.Contents (Elt F) :=
  extractStridedSlice S8192x4x64 ![0, 0, 64] (res_main_v4 V0) slices_S8192x4x128_S8192x4x64_0_0_64

set_option maxRecDepth 8192 in
/-- `main_v33`'s composed term of the arguments (named: it is used 2 times). -/
def res_main_v33 (V0 : Valuation τ sig (Elt F)) : (Proc.devRef .tc main_v33 : DevRef τ sig).ty.Contents (Elt F) :=
  mulf (concatenate S8192x4x128 2 [⟨S8192x4x64, (subf (mulf (res_main_v19 V0) (broadcastInDim S8192x4x64 ![0, 1, 2] bcast_S8192x1x64_S8192x4x64_0_1_2 (res_main_v16 V0))) (mulf (res_main_v20 V0) (broadcastInDim S8192x4x64 ![0, 1, 2] bcast_S8192x1x64_S8192x4x64_0_1_2 (res_main_v18 V0))))⟩, ⟨S8192x4x64, (addf (mulf (res_main_v20 V0) (broadcastInDim S8192x4x64 ![0, 1, 2] bcast_S8192x1x64_S8192x4x64_0_1_2 (res_main_v16 V0))) (mulf (res_main_v19 V0) (broadcastInDim S8192x4x64 ![0, 1, 2] bcast_S8192x1x64_S8192x4x64_0_1_2 (res_main_v18 V0))))⟩] concatenates_S8192x4x64_S8192x4x64_S8192x4x128_d2) (broadcastInDim S8192x4x128 ![] bcast_S_S8192x4x128 (constant S_ .f32 0x3DB504F3#32))

set_option maxRecDepth 8192 in
/-- `main_v34`'s composed term of the arguments (named: it is used 2 times). -/
def res_main_v34 (V0 : Valuation τ sig (Elt F)) : (Proc.devRef .tc main_v34 : DevRef τ sig).ty.Contents (Elt F) :=
  shapeCast _ (extractStridedSlice S8192x512 ![0, 512] (V0 (Proc.devRef .tc main_arg1)) slices_S8192x3712_S8192x512_0_512) shapeCasts_S8192x512_S8192x4x128

set_option maxRecDepth 8192 in
/-- `main_call1_v0`'s composed term of the arguments (named: it is used 2 times). -/
def res_main_call1_v0 (V0 : Valuation τ sig (Elt F)) : (Proc.devRef .tc main_call1_v0 : DevRef τ sig).ty.Contents (Elt F) :=
  id (constant S_ .f32 0x00000000#32)

set_option maxRecDepth 8192 in
/-- `main_call1_v1`'s composed term of the arguments (named: it is used 3 times). -/
def res_main_call1_v1 (V0 : Valuation τ sig (Elt F)) : (Proc.devRef .tc main_call1_v1 : DevRef τ sig).ty.Contents (Elt F) :=
  id (constant S_ .f32 0x3F800000#32)

set_option maxRecDepth 8192 in
/-- `main_call1_v6`'s composed term of the arguments (named: it is used 2 times). -/
def res_main_call1_v6 (V0 : Valuation τ sig (Elt F)) : (Proc.devRef .tc main_call1_v6 : DevRef τ sig).ty.Contents (Elt F) :=
  Host.divf (sitofp .f32 (iotaInDim S63 32 0)) (broadcastInDim S63 ![] bcast_S_S63 (constant S_ .f32 0x427C0000#32))

set_option maxRecDepth 8192 in
/-- `main_v44`'s composed term of the arguments (named: it is used 2 times). -/
def res_main_v44 (V0 : Valuation τ sig (Elt F)) : (Proc.devRef .tc main_v44 : DevRef τ sig).ty.Contents (Elt F) :=
  mulf (broadcastInDim S8192x64 ![0, 1] bcast_S8192x1_S8192x64_0_1 (broadcastInDim S8192x1 ![0] bcast_S8192_S8192x1_0 (res_main_v0 V0))) (broadcastInDim S8192x64 ![0, 1] bcast_S1x64_S8192x64_0_1 (broadcastInDim S1x64 ![1] bcast_S64_S1x64_1 (Host.divf (broadcastInDim S64 ![] bcast_S_S64 (constant S_ .f32 0x3F800000#32)) (Host.powf (broadcastInDim S64 ![] bcast_S_S64 (constant S_ .f32 0x461C4000#32)) (concatenate S64 0 [⟨S63, (addf (mulf (broadcastInDim S63 ![0] bcast_S1_S63_0 (shapeCast _ (res_main_call1_v0 V0) shapeCasts_S_S1)) (subf (broadcastInDim S63 ![] bcast_S_S63 (constant S_ .f32 0x3F800000#32)) (res_main_call1_v6 V0))) (mulf (broadcastInDim S63 ![0] bcast_S1_S63_0 (shapeCast _ (res_main_call1_v1 V0) shapeCasts_S_S1)) (res_main_call1_v6 V0)))⟩, ⟨S1, (broadcastInDim S1 ![] bcast_S_S1 (res_main_call1_v1 V0))⟩] concatenates_S63_S1_S64_d0)))))

set_option maxRecDepth 8192 in
/-- `main_v46`'s composed term of the arguments (named: it is used 2 times). -/
def res_main_v46 (V0 : Valuation τ sig (Elt F)) : (Proc.devRef .tc main_v46 : DevRef τ sig).ty.Contents (Elt F) :=
  broadcastInDim S8192x1x64 ![0, 2] bcast_S8192x64_S8192x1x64_0_2 (Host.cos (res_main_v44 V0))

set_option maxRecDepth 8192 in
/-- `main_v48`'s composed term of the arguments (named: it is used 2 times). -/
def res_main_v48 (V0 : Valuation τ sig (Elt F)) : (Proc.devRef .tc main_v48 : DevRef τ sig).ty.Contents (Elt F) :=
  broadcastInDim S8192x1x64 ![0, 2] bcast_S8192x64_S8192x1x64_0_2 (Host.sin (res_main_v44 V0))

set_option maxRecDepth 8192 in
/-- `main_v49`'s composed term of the arguments (named: it is used 2 times). -/
def res_main_v49 (V0 : Valuation τ sig (Elt F)) : (Proc.devRef .tc main_v49 : DevRef τ sig).ty.Contents (Elt F) :=
  extractStridedSlice S8192x4x64 ![0, 0, 0] (res_main_v34 V0) slices_S8192x4x128_S8192x4x64_0_0_0

set_option maxRecDepth 8192 in
/-- `main_v50`'s composed term of the arguments (named: it is used 2 times). -/
def res_main_v50 (V0 : Valuation τ sig (Elt F)) : (Proc.devRef .tc main_v50 : DevRef τ sig).ty.Contents (Elt F) :=
  extractStridedSlice S8192x4x64 ![0, 0, 64] (res_main_v34 V0) slices_S8192x4x128_S8192x4x64_0_0_64

set_option maxRecDepth 8192 in
/-- `main_v61`'s composed term of the arguments (named: it is used 3 times). -/
def res_main_v61 (V0 : Valuation τ sig (Elt F)) : (Proc.devRef .tc main_v61 : DevRef τ sig).ty.Contents (Elt F) :=
  concatenate S8192x4x128 2 [⟨S8192x4x64, (subf (mulf (res_main_v49 V0) (broadcastInDim S8192x4x64 ![0, 1, 2] bcast_S8192x1x64_S8192x4x64_0_1_2 (res_main_v46 V0))) (mulf (res_main_v50 V0) (broadcastInDim S8192x4x64 ![0, 1, 2] bcast_S8192x1x64_S8192x4x64_0_1_2 (res_main_v48 V0))))⟩, ⟨S8192x4x64, (addf (mulf (res_main_v50 V0) (broadcastInDim S8192x4x64 ![0, 1, 2] bcast_S8192x1x64_S8192x4x64_0_1_2 (res_main_v46 V0))) (mulf (res_main_v49 V0) (broadcastInDim S8192x4x64 ![0, 1, 2] bcast_S8192x1x64_S8192x4x64_0_1_2 (res_main_v48 V0))))⟩] concatenates_S8192x4x64_S8192x4x64_S8192x4x128_d2

set_option maxRecDepth 8192 in
/-- `main_v62`'s composed term of the arguments (named: it is used 2 times). -/
def res_main_v62 (V0 : Valuation τ sig (Elt F)) : (Proc.devRef .tc main_v62 : DevRef τ sig).ty.Contents (Elt F) :=
  shapeCast _ (extractStridedSlice S8192x512 ![0, 1024] (V0 (Proc.devRef .tc main_arg1)) slices_S8192x3712_S8192x512_0_1024) shapeCasts_S8192x512_S8192x4x128

set_option maxRecDepth 8192 in
/-- `main_v72`'s composed term of the arguments (named: it is used 2 times). -/
def res_main_v72 (V0 : Valuation τ sig (Elt F)) : (Proc.devRef .tc main_v72 : DevRef τ sig).ty.Contents (Elt F) :=
  sitofp .f32 (iotaInDim S8192 32 0)

set_option maxRecDepth 8192 in
/-- `main_v75`'s composed term of the arguments (named: it is used 2 times). -/
def res_main_v75 (V0 : Valuation τ sig (Elt F)) : (Proc.devRef .tc main_v75 : DevRef τ sig).ty.Contents (Elt F) :=
  Host.divsi (iotaInDim S8192 32 0) (broadcastInDim S8192 ![] bcast_S_S8192 (constantI S_ 32 64#32))

set_option maxRecDepth 8192 in
/-- `main_v115`'s composed term of the arguments (named: it is used 2 times). -/
def res_main_v115 (V0 : Valuation τ sig (Elt F)) : (Proc.devRef .tc main_v115 : DevRef τ sig).ty.Contents (Elt F) :=
  subf (broadcastInDim S32x8192 ![0, 1] bcast_S32x1_S32x8192_0_1 (subf (broadcastInDim S32x1 ![0] bcast_S32_S32x1_0 (mulf (sitofp .f32 (iotaInDim S32 32 0)) (broadcastInDim S32 ![] bcast_S_S32 (constant S_ .f32 0x43800000#32)))) (broadcastInDim S32x1 ![] bcast_S_S32x1 (constant S_ .f32 0x3F800000#32)))) (broadcastInDim S32x8192 ![0, 1] bcast_S1x8192_S32x8192_0_1 (broadcastInDim S1x8192 ![1] bcast_S8192_S1x8192_1 (sitofp .f32 (iotaInDim S8192 32 0))))

set_option maxRecDepth 8192 in
/-- `main_v141`'s composed term of the arguments (named: it is used 2 times). -/
def res_main_v141 (V0 : Valuation τ sig (Elt F)) : (Proc.devRef .tc main_v141 : DevRef τ sig).ty.Contents (Elt F) :=
  iotaInDim S256x256 32 0

set_option maxRecDepth 8192 in
/-- `main_v142`'s composed term of the arguments (named: it is used 2 times). -/
def res_main_v142 (V0 : Valuation τ sig (Elt F)) : (Proc.devRef .tc main_v142 : DevRef τ sig).ty.Contents (Elt F) :=
  iotaInDim S256x256 32 1

set_option maxRecDepth 8192 in
/-- `main_v147`'s composed term of the arguments (named: it is used 4 times). -/
def res_main_v147 (V0 : Valuation τ sig (Elt F)) : (Proc.devRef .tc main_v147 : DevRef τ sig).ty.Contents (Elt F) :=
  cmpi .sle (Host.shrsi (res_main_v142 V0) (broadcastInDim S256x256 ![] bcast_S_S256x256 (constantI S_ 32 6#32))) (Host.shrsi (res_main_v141 V0) (broadcastInDim S256x256 ![] bcast_S_S256x256 (constantI S_ 32 6#32)))

set_option maxRecDepth 8192 in
/-- `main_v150`'s composed term of the arguments (named: it is used 4 times). -/
def res_main_v150 (V0 : Valuation τ sig (Elt F)) : (Proc.devRef .tc main_v150 : DevRef τ sig).ty.Contents (Elt F) :=
  sitofp .f32 (absi (subi (res_main_v141 V0) (res_main_v142 V0)))

set_option maxRecDepth 8192 in
/-- `main_v152`'s composed term of the arguments (named: it is used 8 times). -/
def res_main_v152 (V0 : Valuation τ sig (Elt F)) : (Proc.devRef .tc main_v152 : DevRef τ sig).ty.Contents (Elt F) :=
  sitofp .f32 (iotaInDim S256x128 32 0)

set_option maxRecDepth 8192 in
/-- `main_v153`'s composed term of the arguments (named: it is used 3 times). -/
def res_main_v153 (V0 : Valuation τ sig (Elt F)) : (Proc.devRef .tc main_v153 : DevRef τ sig).ty.Contents (Elt F) :=
  Host.log (constant S_ .f32 0x3F780000#32)

set_option maxRecDepth 8192 in
/-- `main_v154`'s composed term of the arguments (named: it is used 3 times). -/
def res_main_v154 (V0 : Valuation τ sig (Elt F)) : (Proc.devRef .tc main_v154 : DevRef τ sig).ty.Contents (Elt F) :=
  Host.log (constant S_ .f32 0x3F7C0000#32)

set_option maxRecDepth 8192 in
/-- `main_v155`'s composed term of the arguments (named: it is used 3 times). -/
def res_main_v155 (V0 : Valuation τ sig (Elt F)) : (Proc.devRef .tc main_v155 : DevRef τ sig).ty.Contents (Elt F) :=
  Host.log (constant S_ .f32 0x3F7E0000#32)

set_option maxRecDepth 8192 in
/-- `main_v156`'s composed term of the arguments (named: it is used 3 times). -/
def res_main_v156 (V0 : Valuation τ sig (Elt F)) : (Proc.devRef .tc main_v156 : DevRef τ sig).ty.Contents (Elt F) :=
  Host.log (constant S_ .f32 0x3F7F0000#32)

set_option maxRecDepth 8192 in
/-- `main_call8_v0`'s composed term of the arguments (named: it is used 2 times). -/
def res_main_call8_v0 (V0 : Valuation τ sig (Elt F)) : (Proc.devRef .tc main_call8_v0 : DevRef τ sig).ty.Contents (Elt F) :=
  id (constant S_ .f32 0x00000000#32)

set_option maxRecDepth 8192 in
/-- `main_call8_v1`'s composed term of the arguments (named: it is used 3 times). -/
def res_main_call8_v1 (V0 : Valuation τ sig (Elt F)) : (Proc.devRef .tc main_call8_v1 : DevRef τ sig).ty.Contents (Elt F) :=
  id (constant S_ .f32 0x3F800000#32)

set_option maxRecDepth 8192 in
/-- `main_call8_v6`'s composed term of the arguments (named: it is used 2 times). -/
def res_main_call8_v6 (V0 : Valuation τ sig (Elt F)) : (Proc.devRef .tc main_call8_v6 : DevRef τ sig).ty.Contents (Elt F) :=
  Host.divf (sitofp .f32 (iotaInDim S63 32 0)) (broadcastInDim S63 ![] bcast_S_S63 (constant S_ .f32 0x427C0000#32))

set_option maxRecDepth 8192 in
/-- `main_v231`'s composed term of the arguments (named: it is used 2 times). -/
def res_main_v231 (V0 : Valuation τ sig (Elt F)) : (Proc.devRef .tc main_v231 : DevRef τ sig).ty.Contents (Elt F) :=
  Host.divf (broadcastInDim S64 ![] bcast_S_S64 (constant S_ .f32 0x3F800000#32)) (Host.powf (broadcastInDim S64 ![] bcast_S_S64 (constant S_ .f32 0x461C4000#32)) (concatenate S64 0 [⟨S63, (addf (mulf (broadcastInDim S63 ![0] bcast_S1_S63_0 (shapeCast _ (res_main_call8_v0 V0) shapeCasts_S_S1)) (subf (broadcastInDim S63 ![] bcast_S_S63 (constant S_ .f32 0x3F800000#32)) (res_main_call8_v6 V0))) (mulf (broadcastInDim S63 ![0] bcast_S1_S63_0 (shapeCast _ (res_main_call8_v1 V0) shapeCasts_S_S1)) (res_main_call8_v6 V0)))⟩, ⟨S1, (broadcastInDim S1 ![] bcast_S_S1 (res_main_call8_v1 V0))⟩] concatenates_S63_S1_S64_d0))

set_option maxRecDepth 8192 in
/-- `main_v237`'s composed term of the arguments (named: it is used 2 times). -/
def res_main_v237 (V0 : Valuation τ sig (Elt F)) : (Proc.devRef .tc main_v237 : DevRef τ sig).ty.Contents (Elt F) :=
  mulf (broadcastInDim S256x64 ![0, 1] bcast_S256x1_S256x64_0_1 (broadcastInDim S256x1 ![0] bcast_S256_S256x1_0 (sitofp .f32 (iotaInDim S256 32 0)))) (broadcastInDim S256x64 ![0, 1] bcast_S1x64_S256x64_0_1 (broadcastInDim S1x64 ![1] bcast_S64_S1x64_1 (res_main_v231 V0)))

set_option maxRecDepth 8192 in
/-- `main_v245`'s composed term of the arguments (named: it is used 2 times). -/
def res_main_v245 (V0 : Valuation τ sig (Elt F)) : (Proc.devRef .tc main_v245 : DevRef τ sig).ty.Contents (Elt F) :=
  mulf (broadcastInDim S32x64 ![0, 1] bcast_S32x1_S32x64_0_1 (broadcastInDim S32x1 ![0] bcast_S32_S32x1_0 (mulf (sitofp .f32 (iotaInDim S32 32 0)) (broadcastInDim S32 ![] bcast_S_S32 (constant S_ .f32 0x43800000#32))))) (broadcastInDim S32x64 ![0, 1] bcast_S1x64_S32x64_0_1 (broadcastInDim S1x64 ![1] bcast_S64_S1x64_1 (res_main_v231 V0)))

set_option maxRecDepth 8192 in
/-- `main_v246`'s composed term of the arguments (named: it is used 4 times). -/
def res_main_v246 (V0 : Valuation τ sig (Elt F)) : (Proc.devRef .tc main_v246 : DevRef τ sig).ty.Contents (Elt F) :=
  Host.cos (res_main_v237 V0)

set_option maxRecDepth 8192 in
/-- `main_v247`'s composed term of the arguments (named: it is used 4 times). -/
def res_main_v247 (V0 : Valuation τ sig (Elt F)) : (Proc.devRef .tc main_v247 : DevRef τ sig).ty.Contents (Elt F) :=
  Host.sin (res_main_v237 V0)

set_option maxRecDepth 8192 in
/-- `main_v259`'s composed term of the arguments (named: it is used 2 times). -/
def res_main_v259 (V0 : Valuation τ sig (Elt F)) : (Proc.devRef .tc main_v259 : DevRef τ sig).ty.Contents (Elt F) :=
  Host.cos (res_main_v245 V0)

set_option maxRecDepth 8192 in
/-- `main_v260`'s composed term of the arguments (named: it is used 2 times). -/
def res_main_v260 (V0 : Valuation τ sig (Elt F)) : (Proc.devRef .tc main_v260 : DevRef τ sig).ty.Contents (Elt F) :=
  Host.sin (res_main_v245 V0)

set_option maxRecDepth 8192 in
/-- `main_v263`'s composed term of the arguments (named: it is long). -/
def res_main_v263 (V0 : Valuation τ sig (Elt F)) : (Proc.devRef .tc main_v263 : DevRef τ sig).ty.Contents (Elt F) :=
  broadcastInDim S32x8x256 ![0, 1, 2] bcast_S32x1x256_S32x8x256_0_1_2 (broadcastInDim S32x1x256 ![0, 2] bcast_S32x256_S32x1x256_0_2 ((concatenate S32x256 1 [⟨S32x64, ((res_main_v259 V0) : (⟨S32x64, .f32⟩ : BufTy).Contents (Elt F))⟩, ⟨S32x64, ((res_main_v259 V0) : (⟨S32x64, .f32⟩ : BufTy).Contents (Elt F))⟩, ⟨S32x64, ((res_main_v260 V0) : (⟨S32x64, .f32⟩ : BufTy).Contents (Elt F))⟩, ⟨S32x64, ((res_main_v260 V0) : (⟨S32x64, .f32⟩ : BufTy).Contents (Elt F))⟩] concatenates_S32x64_S32x64_S32x64_S32x64_S32x256_d1 : (⟨S32x256, .f32⟩ : BufTy).Contents (Elt F))))

set_option maxRecDepth 8192 in
/-- `main_v258`'s composed term of the arguments (named: it is long). -/
def res_main_v258 (V0 : Valuation τ sig (Elt F)) : (Proc.devRef .tc main_v258 : DevRef τ sig).ty.Contents (Elt F) :=
  (concatenate S4x256x128 0 [⟨S1x256x128, ((broadcastInDim S1x256x128 ![1, 2] bcast_S256x128_S1x256x128_1_2 (concatenate S256x128 1 [⟨S256x64, (res_main_v246 V0)⟩, ⟨S256x64, (res_main_v246 V0)⟩] concatenates_S256x64_S256x64_S256x128_d1)) : (⟨S1x256x128, .f32⟩ : BufTy).Contents (Elt F))⟩, ⟨S1x256x128, ((broadcastInDim S1x256x128 ![1, 2] bcast_S256x128_S1x256x128_1_2 (concatenate S256x128 1 [⟨S256x64, (res_main_v247 V0)⟩, ⟨S256x64, (res_main_v247 V0)⟩] concatenates_S256x64_S256x64_S256x128_d1)) : (⟨S1x256x128, .f32⟩ : BufTy).Contents (Elt F))⟩, ⟨S1x256x128, ((broadcastInDim S1x256x128 ![1, 2] bcast_S256x128_S1x256x128_1_2 (concatenate S256x128 1 [⟨S256x64, (Host.negf (res_main_v246 V0))⟩, ⟨S256x64, (res_main_v246 V0)⟩] concatenates_S256x64_S256x64_S256x128_d1)) : (⟨S1x256x128, .f32⟩ : BufTy).Contents (Elt F))⟩, ⟨S1x256x128, ((broadcastInDim S1x256x128 ![1, 2] bcast_S256x128_S1x256x128_1_2 (concatenate S256x128 1 [⟨S256x64, (Host.negf (res_main_v247 V0))⟩, ⟨S256x64, (res_main_v247 V0)⟩] concatenates_S256x64_S256x64_S256x128_d1)) : (⟨S1x256x128, .f32⟩ : BufTy).Contents (Elt F))⟩] concatenates_S1x256x128_S1x256x128_S1x256x128_S1x256x128_S4x256x128_d0 : (⟨S4x256x128, .f32⟩ : BufTy).Contents (Elt F))

set_option maxRecDepth 8192 in
/-- `main_v226`'s composed term of the arguments (named: it is long). -/
def res_main_v226 (V0 : Valuation τ sig (Elt F)) : (Proc.devRef .tc main_v226 : DevRef τ sig).ty.Contents (Elt F) :=
  (concatenate S8x256x128 0 [⟨S1x256x128, ((broadcastInDim S1x256x128 ![1, 2] bcast_S256x128_S1x256x128_1_2 (Host.exp (mulf (broadcastInDim S256x128 ![] bcast_S_S256x128 (res_main_v153 V0)) (addf (res_main_v152 V0) (broadcastInDim S256x128 ![] bcast_S_S256x128 (constant S_ .f32 0x3F800000#32)))))) : (⟨S1x256x128, .f32⟩ : BufTy).Contents (Elt F))⟩, ⟨S1x256x128, ((broadcastInDim S1x256x128 ![1, 2] bcast_S256x128_S1x256x128_1_2 (Host.exp (mulf (broadcastInDim S256x128 ![] bcast_S_S256x128 (res_main_v154 V0)) (addf (res_main_v152 V0) (broadcastInDim S256x128 ![] bcast_S_S256x128 (constant S_ .f32 0x3F800000#32)))))) : (⟨S1x256x128, .f32⟩ : BufTy).Contents (Elt F))⟩, ⟨S1x256x128, ((broadcastInDim S1x256x128 ![1, 2] bcast_S256x128_S1x256x128_1_2 (Host.exp (mulf (broadcastInDim S256x128 ![] bcast_S_S256x128 (res_main_v155 V0)) (addf (res_main_v152 V0) (broadcastInDim S256x128 ![] bcast_S_S256x128 (constant S_ .f32 0x3F800000#32)))))) : (⟨S1x256x128, .f32⟩ : BufTy).Contents (Elt F))⟩, ⟨S1x256x128, ((broadcastInDim S1x256x128 ![1, 2] bcast_S256x128_S1x256x128_1_2 (Host.exp (mulf (broadcastInDim S256x128 ![] bcast_S_S256x128 (res_main_v156 V0)) (addf (res_main_v152 V0) (broadcastInDim S256x128 ![] bcast_S_S256x128 (constant S_ .f32 0x3F800000#32)))))) : (⟨S1x256x128, .f32⟩ : BufTy).Contents (Elt F))⟩, ⟨S1x256x128, ((broadcastInDim S1x256x128 ![1, 2] bcast_S256x128_S1x256x128_1_2 (Host.exp (mulf (broadcastInDim S256x128 ![] bcast_S_S256x128 (res_main_v153 V0)) (subf (broadcastInDim S256x128 ![] bcast_S_S256x128 (constant S_ .f32 0x437F0000#32)) (res_main_v152 V0))))) : (⟨S1x256x128, .f32⟩ : BufTy).Contents (Elt F))⟩, ⟨S1x256x128, ((broadcastInDim S1x256x128 ![1, 2] bcast_S256x128_S1x256x128_1_2 (Host.exp (mulf (broadcastInDim S256x128 ![] bcast_S_S256x128 (res_main_v154 V0)) (subf (broadcastInDim S256x128 ![] bcast_S_S256x128 (constant S_ .f32 0x437F0000#32)) (res_main_v152 V0))))) : (⟨S1x256x128, .f32⟩ : BufTy).Contents (Elt F))⟩, ⟨S1x256x128, ((broadcastInDim S1x256x128 ![1, 2] bcast_S256x128_S1x256x128_1_2 (Host.exp (mulf (broadcastInDim S256x128 ![] bcast_S_S256x128 (res_main_v155 V0)) (subf (broadcastInDim S256x128 ![] bcast_S_S256x128 (constant S_ .f32 0x437F0000#32)) (res_main_v152 V0))))) : (⟨S1x256x128, .f32⟩ : BufTy).Contents (Elt F))⟩, ⟨S1x256x128, ((broadcastInDim S1x256x128 ![1, 2] bcast_S256x128_S1x256x128_1_2 (Host.exp (mulf (broadcastInDim S256x128 ![] bcast_S_S256x128 (res_main_v156 V0)) (subf (broadcastInDim S256x128 ![] bcast_S_S256x128 (constant S_ .f32 0x437F0000#32)) (res_main_v152 V0))))) : (⟨S1x256x128, .f32⟩ : BufTy).Contents (Elt F))⟩] concatenates_S1x256x128_S1x256x128_S1x256x128_S1x256x128_S1x256x128_S1x256x128_S1x256x128_S1x256x128_S8x256x128_d0 : (⟨S8x256x128, .f32⟩ : BufTy).Contents (Elt F))

set_option maxRecDepth 8192 in
/-- `main_v177`'s composed term of the arguments (named: it is long). -/
def res_main_v177 (V0 : Valuation τ sig (Elt F)) : (Proc.devRef .tc main_v177 : DevRef τ sig).ty.Contents (Elt F) :=
  (concatenate S4x256x256 0 [⟨S1x256x256, ((broadcastInDim S1x256x256 ![1, 2] bcast_S256x256_S1x256x256_1_2 (select (res_main_v147 V0) (Host.exp (mulf (broadcastInDim S256x256 ![] bcast_S_S256x256 (res_main_v153 V0)) (res_main_v150 V0))) (broadcastInDim S256x256 ![] bcast_S_S256x256 (id (constant S_ .f32 0x00000000#32))))) : (⟨S1x256x256, .f32⟩ : BufTy).Contents (Elt F))⟩, ⟨S1x256x256, ((broadcastInDim S1x256x256 ![1, 2] bcast_S256x256_S1x256x256_1_2 (select (res_main_v147 V0) (Host.exp (mulf (broadcastInDim S256x256 ![] bcast_S_S256x256 (res_main_v154 V0)) (res_main_v150 V0))) (broadcastInDim S256x256 ![] bcast_S_S256x256 (id (constant S_ .f32 0x00000000#32))))) : (⟨S1x256x256, .f32⟩ : BufTy).Contents (Elt F))⟩, ⟨S1x256x256, ((broadcastInDim S1x256x256 ![1, 2] bcast_S256x256_S1x256x256_1_2 (select (res_main_v147 V0) (Host.exp (mulf (broadcastInDim S256x256 ![] bcast_S_S256x256 (res_main_v155 V0)) (res_main_v150 V0))) (broadcastInDim S256x256 ![] bcast_S_S256x256 (id (constant S_ .f32 0x00000000#32))))) : (⟨S1x256x256, .f32⟩ : BufTy).Contents (Elt F))⟩, ⟨S1x256x256, ((broadcastInDim S1x256x256 ![1, 2] bcast_S256x256_S1x256x256_1_2 (select (res_main_v147 V0) (Host.exp (mulf (broadcastInDim S256x256 ![] bcast_S_S256x256 (res_main_v156 V0)) (res_main_v150 V0))) (broadcastInDim S256x256 ![] bcast_S_S256x256 (id (constant S_ .f32 0x00000000#32))))) : (⟨S1x256x256, .f32⟩ : BufTy).Contents (Elt F))⟩] concatenates_S1x256x256_S1x256x256_S1x256x256_S1x256x256_S4x256x256_d0 : (⟨S4x256x256, .f32⟩ : BufTy).Contents (Elt F))

set_option maxRecDepth 8192 in
/-- `main_v134`'s composed term of the arguments (named: it is long). -/
def res_main_v134 (V0 : Valuation τ sig (Elt F)) : (Proc.devRef .tc main_v134 : DevRef τ sig).ty.Contents (Elt F) :=
  shapeCast _ (transpose S32x4x128x128 [2, 0, 3, 1] (Host.dotGeneral dot_S8192x4x128_S4x32x8192x128_S4x128x32x128_0_2_2_13_1_0 none (res_main_v62 V0) (mulf (broadcastInDim S4x32x8192x128 ![0, 1, 2, 3] bcast_S4x1x8192x128_S4x32x8192x128_0_1_2_3 (broadcastInDim S4x1x8192x128 ![0, 2, 3] bcast_S4x8192x128_S4x1x8192x128_0_2_3 (transpose S4x8192x128 [1, 0, 2] (res_main_v61 V0) transposes_S8192x4x128_S4x8192x128_1_0_2))) (broadcastInDim S4x32x8192x128 ![0, 1, 2, 3] bcast_S4x32x8192x1_S4x32x8192x128_0_1_2_3 (broadcastInDim S4x32x8192x1 ![0, 1, 2] bcast_S4x32x8192_S4x32x8192x1_0_1_2 (select (broadcastInDim S4x32x8192 ![0, 1, 2] bcast_S1x32x8192_S4x32x8192_0_1_2 (cmpf .oge (broadcastInDim S1x32x8192 ![1, 2] bcast_S32x8192_S1x32x8192_1_2 (res_main_v115 V0)) (broadcastInDim S1x32x8192 ![] bcast_S_S1x32x8192 (constant S_ .f32 0x00000000#32)))) (Host.exp (mulf (broadcastInDim S4x32x8192 ![0, 1, 2] bcast_S4x1x1_S4x32x8192_0_1_2 (broadcastInDim S4x1x1 ![0] bcast_S4_S4x1x1_0 (Host.log (subf (broadcastInDim S4 ![] bcast_S_S4 (constant S_ .f32 0x3F800000#32)) (Host.powf (broadcastInDim S4 ![] bcast_S_S4 (constant S_ .f32 0x40000000#32)) (subf (broadcastInDim S4 ![] bcast_S_S4 (constant S_ .f32 0xC0A00000#32)) (sitofp .f32 (iotaInDim S4 32 0)))))))) (broadcastInDim S4x32x8192 ![0, 1, 2] bcast_S1x32x8192_S4x32x8192_0_1_2 (broadcastInDim S1x32x8192 ![1, 2] bcast_S32x8192_S1x32x8192_1_2 (res_main_v115 V0))))) (broadcastInDim S4x32x8192 ![] bcast_S_S4x32x8192 (id (constant S_ .f32 0x00000000#32)))))))) transposes_S4x128x32x128_S32x4x128x128_2_0_3_1) shapeCasts_S32x4x128x128_S32x512x128

set_option maxRecDepth 8192 in
/-- `main_v140`'s composed term of the arguments (named: it is long). -/
def res_main_v140 (V0 : Valuation τ sig (Elt F)) : (Proc.devRef .tc main_v140 : DevRef τ sig).ty.Contents (Elt F) :=
  concatenate S8192x1024 1 [⟨S8192x512, (shapeCast _ (transpose S8192x4x128 [2, 0, 1] (Host.dotGeneral dot_S8192x4x128_S4x8192x8192_S4x128x8192_0_2_2_1_1_0 none (res_main_v62 V0) (mulf (Host.dotGeneral dot_S8192x4x128_S8192x4x128_S4x8192x8192_2_2_0_0_1_1 none (res_main_v33 V0) (res_main_v61 V0)) (select (broadcastInDim S4x8192x8192 ![0, 1, 2] bcast_S1x8192x8192_S4x8192x8192_0_1_2 (cmpi .sle (broadcastInDim S1x8192x8192 ![0, 1, 2] bcast_S1x1x8192_S1x8192x8192_0_1_2 (broadcastInDim S1x1x8192 ![2] bcast_S8192_S1x1x8192_2 (res_main_v75 V0))) (broadcastInDim S1x8192x8192 ![0, 1, 2] bcast_S1x8192x1_S1x8192x8192_0_1_2 (broadcastInDim S1x8192x1 ![1] bcast_S8192_S1x8192x1_1 (res_main_v75 V0))))) (Host.exp (mulf (broadcastInDim S4x8192x8192 ![0, 1, 2] bcast_S4x1x1_S4x8192x8192_0_1_2 (broadcastInDim S4x1x1 ![0] bcast_S4_S4x1x1_0 (Host.log (subf (broadcastInDim S4 ![] bcast_S_S4 (constant S_ .f32 0x3F800000#32)) (Host.powf (broadcastInDim S4 ![] bcast_S_S4 (constant S_ .f32 0x40000000#32)) (subf (broadcastInDim S4 ![] bcast_S_S4 (constant S_ .f32 0xC0A00000#32)) (sitofp .f32 (iotaInDim S4 32 0)))))))) (broadcastInDim S4x8192x8192 ![0, 1, 2] bcast_S1x8192x8192_S4x8192x8192_0_1_2 (broadcastInDim S1x8192x8192 ![1, 2] bcast_S8192x8192_S1x8192x8192_1_2 (Host.absf (subf (broadcastInDim S8192x8192 ![0, 1] bcast_S8192x1_S8192x8192_0_1 (broadcastInDim S8192x1 ![0] bcast_S8192_S8192x1_0 (res_main_v72 V0))) (broadcastInDim S8192x8192 ![0, 1] bcast_S1x8192_S8192x8192_0_1 (broadcastInDim S1x8192 ![1] bcast_S8192_S1x8192_1 (res_main_v72 V0))))))))) (broadcastInDim S4x8192x8192 ![] bcast_S_S4x8192x8192 (id (constant S_ .f32 0x00000000#32)))))) transposes_S4x128x8192_S8192x4x128_2_0_1) shapeCasts_S8192x4x128_S8192x512)⟩, ⟨S8192x512, (V0 (Proc.devRef .tc main_arg2))⟩] concatenates_S8192x512_S8192x512_S8192x1024_d1

set_option maxRecDepth 8192 in
/-- `main_v138`'s composed term of the arguments (named: it is long). -/
def res_main_v138 (V0 : Valuation τ sig (Elt F)) : (Proc.devRef .tc main_v138 : DevRef τ sig).ty.Contents (Elt F) :=
  truncf .bf16 (shapeCast _ (res_main_v61 V0) shapeCasts_S8192x4x128_S8192x512) bitsLt_bf16_f32

set_option maxRecDepth 8192 in
/-- `main_v136`'s composed term of the arguments (named: it is long). -/
def res_main_v136 (V0 : Valuation τ sig (Elt F)) : (Proc.devRef .tc main_v136 : DevRef τ sig).ty.Contents (Elt F) :=
  truncf .bf16 (shapeCast _ (res_main_v33 V0) shapeCasts_S8192x4x128_S8192x512) bitsLt_bf16_f32

end Cert.KernelIdeal.Entry

end
-- ==== Proof.Entry.lean ====
module

public import proofs.«01_k».proof.Proof.EntryOps

@[expose] public section

noncomputable section

/-! What each window of the kernel's operations leaves in the buffers that are read later. -/
namespace Cert.KernelIdeal.Entry

open Cert.KernelIdeal Cert.KernelIdeal.Gen Idealize.ShloMosaic Idealize.ShloMosaic.TcCoe Idealize.SL.Sem Idealize.ShloMosaic.StableHlo

variable {F : FTy → Type} [FloatOps F]

/-- The device's buffer contents before @main's first window. -/
def val0 (V0 : Valuation τ sig (Elt F)) : Valuation τ sig (Elt F) := V0

theorem val0_main_arg1 (V0 : Valuation τ sig (Elt F)) : val0 V0 (no_index (Proc.devRef .tc main_arg1)) = V0 (Proc.devRef .tc main_arg1) := rfl

theorem val0_main_arg2 (V0 : Valuation τ sig (Elt F)) : val0 V0 (no_index (Proc.devRef .tc main_arg2)) = V0 (Proc.devRef .tc main_arg2) := rfl

/-- The device's buffer contents after @main's first 30 operations. -/
def val0_1 (V0 : Valuation τ sig (Elt F)) : Valuation τ sig (Elt F) := after ops_part0_0 (val0 V0)

/-- The buffers that window `ops_part0_0`'s operations write. -/
abbrev ops_part0_0_W : List (Ref sig .tc) := [main_v0, main_v1, main_v2, main_v3, main_v4, main_cst, main_cst_0, main_call0_v0, main_call0_v1, main_call0_v2, main_call0_cst, main_call0_v3, main_call0_v4, main_call0_cst_0, main_call0_v5, main_call0_v6, main_call0_v7, main_call0_cst_1, main_call0_v8, main_call0_v9, main_call0_v10, main_call0_v11, main_call0_v12, main_call0_v13, main_call0_v14, main_call0_v15, main_call0_v16, main_v5, main_cst_1, main_v6]

set_option maxRecDepth 8192 in
theorem ops_part0_0_writes : (ops_part0_0 : List (HloOp τ sig (Elt F))).Forall fun op => op.writes ⊆ (ops_part0_0_W.map (Proc.devRef (τ := τ) .tc)).toFinset := by
  simp only [List.Forall]
  repeat' apply And.intro
  all_goals
    simp only [nullary_writes, unary_writes, binary_writes, ternary_writes, quaternary_writes, reshape_writes, binaryIndexed_writes, nary_writes, unaryIndexed_writes, Finset.singleton_subset_iff, List.mem_toFinset]
    exact List.mem_map_of_mem (by decide)

/-- A buffer that window `ops_part0_0` does not write keeps its contents through it. -/
theorem val0_1_keep (V0 : Valuation τ sig (Elt F)) (r : Ref sig .tc) (h : r ∉ ops_part0_0_W) :
    val0_1 V0 (Proc.devRef .tc r) = val0 V0 (Proc.devRef .tc r) :=
  after_of_writes_sub ops_part0_0 _ ops_part0_0_writes h

theorem val0_1_main_arg1 (V0 : Valuation τ sig (Elt F)) : val0_1 V0 (no_index (Proc.devRef .tc main_arg1)) = V0 (Proc.devRef .tc main_arg1) :=
  (val0_1_keep V0 main_arg1 (by decide)).trans (val0_main_arg1 V0)

theorem val0_1_main_arg2 (V0 : Valuation τ sig (Elt F)) : val0_1 V0 (no_index (Proc.devRef .tc main_arg2)) = V0 (Proc.devRef .tc main_arg2) :=
  (val0_1_keep V0 main_arg2 (by decide)).trans (val0_main_arg2 V0)

set_option maxRecDepth 8192 in
set_option maxHeartbeats 2000000 in
theorem val0_1_main_v0 (V0 : Valuation τ sig (Elt F)) : val0_1 V0 (no_index (Proc.devRef .tc main_v0)) = res_main_v0 V0 := by
  unfold val0_1
  simp only [ops_part0_0, TRef.binary, TRef.nullary, TRef.reshape, TRef.unary, TRef.toBuf, TRef.ofBuf, cast_eq]
  after_results_simp
  all_goals rfl

set_option maxRecDepth 8192 in
set_option maxHeartbeats 2000000 in
theorem val0_1_main_v2 (V0 : Valuation τ sig (Elt F)) : val0_1 V0 (no_index (Proc.devRef .tc main_v2)) = extractStridedSlice S8192x512 ![0, 512] (V0 (Proc.devRef .tc main_arg1)) slices_S8192x3712_S8192x512_0_512 := by
  unfold val0_1
  simp only [ops_part0_0, TRef.binary, TRef.nullary, TRef.reshape, TRef.unary, TRef.toBuf, TRef.ofBuf, cast_eq]
  after_results_simp
  simp only [val0_main_arg1] <;> rfl

set_option maxRecDepth 8192 in
set_option maxHeartbeats 2000000 in
theorem val0_1_main_v3 (V0 : Valuation τ sig (Elt F)) : val0_1 V0 (no_index (Proc.devRef .tc main_v3)) = extractStridedSlice S8192x512 ![0, 1024] (V0 (Proc.devRef .tc main_arg1)) slices_S8192x3712_S8192x512_0_1024 := by
  unfold val0_1
  simp only [ops_part0_0, TRef.binary, TRef.nullary, TRef.reshape, TRef.unary, TRef.toBuf, TRef.ofBuf, cast_eq]
  after_results_simp
  simp only [val0_main_arg1] <;> rfl

set_option maxRecDepth 8192 in
set_option maxHeartbeats 2000000 in
theorem val0_1_main_v4 (V0 : Valuation τ sig (Elt F)) : val0_1 V0 (no_index (Proc.devRef .tc main_v4)) = res_main_v4 V0 := by
  unfold val0_1
  simp only [ops_part0_0, TRef.binary, TRef.nullary, TRef.reshape, TRef.unary, TRef.toBuf, TRef.ofBuf, cast_eq]
  after_results_simp
  simp only [val0_main_arg1] <;> rfl

set_option maxRecDepth 8192 in
set_option maxHeartbeats 2000000 in
theorem val0_1_main_v5 (V0 : Valuation τ sig (Elt F)) : val0_1 V0 (no_index (Proc.devRef .tc main_v5)) = concatenate S64 0 [⟨S63, (addf (mulf (broadcastInDim S63 ![0] bcast_S1_S63_0 (shapeCast _ (res_main_call0_v0 V0) shapeCasts_S_S1)) (subf (broadcastInDim S63 ![] bcast_S_S63 (constant S_ .f32 0x3F800000#32)) (res_main_call0_v6 V0))) (mulf (broadcastInDim S63 ![0] bcast_S1_S63_0 (shapeCast _ (res_main_call0_v1 V0) shapeCasts_S_S1)) (res_main_call0_v6 V0)))⟩, ⟨S1, (broadcastInDim S1 ![] bcast_S_S1 (res_main_call0_v1 V0))⟩] concatenates_S63_S1_S64_d0 := by
  unfold val0_1
  simp only [ops_part0_0, TRef.binary, TRef.nullary, TRef.reshape, TRef.unary, TRef.toBuf, TRef.ofBuf, cast_eq]
  after_results_simp
  all_goals rfl

set_option maxRecDepth 8192 in
set_option maxHeartbeats 2000000 in
theorem val0_1_main_v6 (V0 : Valuation τ sig (Elt F)) : val0_1 V0 (no_index (Proc.devRef .tc main_v6)) = broadcastInDim S64 ![] bcast_S_S64 (constant S_ .f32 0x461C4000#32) := by
  unfold val0_1
  simp only [ops_part0_0, TRef.binary, TRef.nullary, TRef.reshape, TRef.unary, TRef.toBuf, TRef.ofBuf, cast_eq]
  after_results_simp
  all_goals rfl

/-- The device's buffer contents after @main's first 60 operations. -/
def val0_2 (V0 : Valuation τ sig (Elt F)) : Valuation τ sig (Elt F) := after ops_part0_1 (val0_1 V0)

/-- The buffers that window `ops_part0_1`'s operations write. -/
abbrev ops_part0_1_W : List (Ref sig .tc) := [main_v7, main_cst_2, main_v8, main_v9, main_v10, main_v11, main_v12, main_v13, main_v14, main_v15, main_v16, main_v17, main_v18, main_v19, main_v20, main_v21, main_v22, main_v23, main_v24, main_v25, main_v26, main_v27, main_v28, main_v29, main_v30, main_v31, main_cst_3, main_v32, main_v33, main_v34]

set_option maxRecDepth 8192 in
theorem ops_part0_1_writes : (ops_part0_1 : List (HloOp τ sig (Elt F))).Forall fun op => op.writes ⊆ (ops_part0_1_W.map (Proc.devRef (τ := τ) .tc)).toFinset := by
  simp only [List.Forall]
  repeat' apply And.intro
  all_goals
    simp only [nullary_writes, unary_writes, binary_writes, ternary_writes, quaternary_writes, reshape_writes, binaryIndexed_writes, nary_writes, unaryIndexed_writes, Finset.singleton_subset_iff, List.mem_toFinset]
    exact List.mem_map_of_mem (by decide)

/-- A buffer that window `ops_part0_1` does not write keeps its contents through it. -/
theorem val0_2_keep (V0 : Valuation τ sig (Elt F)) (r : Ref sig .tc) (h : r ∉ ops_part0_1_W) :
    val0_2 V0 (Proc.devRef .tc r) = val0_1 V0 (Proc.devRef .tc r) :=
  after_of_writes_sub ops_part0_1 _ ops_part0_1_writes h

theorem val0_2_main_arg1 (V0 : Valuation τ sig (Elt F)) : val0_2 V0 (no_index (Proc.devRef .tc main_arg1)) = V0 (Proc.devRef .tc main_arg1) :=
  (val0_2_keep V0 main_arg1 (by decide)).trans (val0_1_main_arg1 V0)

theorem val0_2_main_arg2 (V0 : Valuation τ sig (Elt F)) : val0_2 V0 (no_index (Proc.devRef .tc main_arg2)) = V0 (Proc.devRef .tc main_arg2) :=
  (val0_2_keep V0 main_arg2 (by decide)).trans (val0_1_main_arg2 V0)

theorem val0_2_main_v0 (V0 : Valuation τ sig (Elt F)) : val0_2 V0 (no_index (Proc.devRef .tc main_v0)) = res_main_v0 V0 :=
  (val0_2_keep V0 main_v0 (by decide)).trans (val0_1_main_v0 V0)

theorem val0_2_main_v3 (V0 : Valuation τ sig (Elt F)) : val0_2 V0 (no_index (Proc.devRef .tc main_v3)) = extractStridedSlice S8192x512 ![0, 1024] (V0 (Proc.devRef .tc main_arg1)) slices_S8192x3712_S8192x512_0_1024 :=
  (val0_2_keep V0 main_v3 (by decide)).trans (val0_1_main_v3 V0)

set_option maxRecDepth 8192 in
set_option maxHeartbeats 2000000 in
theorem val0_2_main_v33 (V0 : Valuation τ sig (Elt F)) : val0_2 V0 (no_index (Proc.devRef .tc main_v33)) = res_main_v33 V0 := by
  unfold val0_2
  simp only [ops_part0_1]
  after_results_simp
  simp only [val0_1_main_v5, val0_1_main_v6, val0_1_main_v0, val0_1_main_v4] <;> rfl

set_option maxRecDepth 8192 in
set_option maxHeartbeats 2000000 in
theorem val0_2_main_v34 (V0 : Valuation τ sig (Elt F)) : val0_2 V0 (no_index (Proc.devRef .tc main_v34)) = res_main_v34 V0 := by
  unfold val0_2
  simp only [ops_part0_1]
  after_results_simp
  simp only [val0_1_main_v2] <;> rfl

/-- The device's buffer contents after @main's first 90 operations. -/
def val0_3 (V0 : Valuation τ sig (Elt F)) : Valuation τ sig (Elt F) := after ops_part0_2 (val0_2 V0)

/-- The buffers that window `ops_part0_2`'s operations write. -/
abbrev ops_part0_2_W : List (Ref sig .tc) := [main_cst_4, main_cst_5, main_call1_v0, main_call1_v1, main_call1_v2, main_call1_cst, main_call1_v3, main_call1_v4, main_call1_cst_0, main_call1_v5, main_call1_v6, main_call1_v7, main_call1_cst_1, main_call1_v8, main_call1_v9, main_call1_v10, main_call1_v11, main_call1_v12, main_call1_v13, main_call1_v14, main_call1_v15, main_call1_v16, main_v35, main_cst_6, main_v36, main_v37, main_cst_7, main_v38, main_v39, main_v40]

set_option maxRecDepth 8192 in
theorem ops_part0_2_writes : (ops_part0_2 : List (HloOp τ sig (Elt F))).Forall fun op => op.writes ⊆ (ops_part0_2_W.map (Proc.devRef (τ := τ) .tc)).toFinset := by
  simp only [List.Forall]
  repeat' apply And.intro
  all_goals
    simp only [nullary_writes, unary_writes, binary_writes, ternary_writes, quaternary_writes, reshape_writes, binaryIndexed_writes, nary_writes, unaryIndexed_writes, Finset.singleton_subset_iff, List.mem_toFinset]
    exact List.mem_map_of_mem (by decide)

/-- A buffer that window `ops_part0_2` does not write keeps its contents through it. -/
theorem val0_3_keep (V0 : Valuation τ sig (Elt F)) (r : Ref sig .tc) (h : r ∉ ops_part0_2_W) :
    val0_3 V0 (Proc.devRef .tc r) = val0_2 V0 (Proc.devRef .tc r) :=
  after_of_writes_sub ops_part0_2 _ ops_part0_2_writes h

theorem val0_3_main_arg1 (V0 : Valuation τ sig (Elt F)) : val0_3 V0 (no_index (Proc.devRef .tc main_arg1)) = V0 (Proc.devRef .tc main_arg1) :=
  (val0_3_keep V0 main_arg1 (by decide)).trans (val0_2_main_arg1 V0)

theorem val0_3_main_arg2 (V0 : Valuation τ sig (Elt F)) : val0_3 V0 (no_index (Proc.devRef .tc main_arg2)) = V0 (Proc.devRef .tc main_arg2) :=
  (val0_3_keep V0 main_arg2 (by decide)).trans (val0_2_main_arg2 V0)

theorem val0_3_main_v3 (V0 : Valuation τ sig (Elt F)) : val0_3 V0 (no_index (Proc.devRef .tc main_v3)) = extractStridedSlice S8192x512 ![0, 1024] (V0 (Proc.devRef .tc main_arg1)) slices_S8192x3712_S8192x512_0_1024 :=
  (val0_3_keep V0 main_v3 (by decide)).trans (val0_2_main_v3 V0)

theorem val0_3_main_v33 (V0 : Valuation τ sig (Elt F)) : val0_3 V0 (no_index (Proc.devRef .tc main_v33)) = res_main_v33 V0 :=
  (val0_3_keep V0 main_v33 (by decide)).trans (val0_2_main_v33 V0)

theorem val0_3_main_v34 (V0 : Valuation τ sig (Elt F)) : val0_3 V0 (no_index (Proc.devRef .tc main_v34)) = res_main_v34 V0 :=
  (val0_3_keep V0 main_v34 (by decide)).trans (val0_2_main_v34 V0)

set_option maxRecDepth 8192 in
set_option maxHeartbeats 2000000 in
theorem val0_3_main_v39 (V0 : Valuation τ sig (Elt F)) : val0_3 V0 (no_index (Proc.devRef .tc main_v39)) = Host.divf (broadcastInDim S64 ![] bcast_S_S64 (constant S_ .f32 0x3F800000#32)) (Host.powf (broadcastInDim S64 ![] bcast_S_S64 (constant S_ .f32 0x461C4000#32)) (concatenate S64 0 [⟨S63, (addf (mulf (broadcastInDim S63 ![0] bcast_S1_S63_0 (shapeCast _ (res_main_call1_v0 V0) shapeCasts_S_S1)) (subf (broadcastInDim S63 ![] bcast_S_S63 (constant S_ .f32 0x3F800000#32)) (res_main_call1_v6 V0))) (mulf (broadcastInDim S63 ![0] bcast_S1_S63_0 (shapeCast _ (res_main_call1_v1 V0) shapeCasts_S_S1)) (res_main_call1_v6 V0)))⟩, ⟨S1, (broadcastInDim S1 ![] bcast_S_S1 (res_main_call1_v1 V0))⟩] concatenates_S63_S1_S64_d0)) := by
  unfold val0_3
  simp only [ops_part0_2, TRef.binary, TRef.nullary, TRef.reshape, TRef.unary, TRef.toBuf, TRef.ofBuf, cast_eq]
  after_results_simp
  all_goals rfl

set_option maxRecDepth 8192 in
set_option maxHeartbeats 2000000 in
theorem val0_3_main_v40 (V0 : Valuation τ sig (Elt F)) : val0_3 V0 (no_index (Proc.devRef .tc main_v40)) = broadcastInDim S8192x1 ![0] bcast_S8192_S8192x1_0 (res_main_v0 V0) := by
  unfold val0_3
  simp only [ops_part0_2, TRef.binary, TRef.nullary, TRef.reshape, TRef.unary, TRef.toBuf, TRef.ofBuf, cast_eq]
  after_results_simp
  simp only [val0_2_main_v0] <;> rfl

/-- The device's buffer contents after @main's first 1 window. -/
def val1 (V0 : Valuation τ sig (Elt F)) : Valuation τ sig (Elt F) := after ops_part0_3 (val0_3 V0)

/-- The buffers that window `ops_part0_3`'s operations write. -/
abbrev ops_part0_3_W : List (Ref sig .tc) := [main_v41, main_v42, main_v43, main_v44, main_v45, main_v46, main_v47, main_v48, main_v49, main_v50]

set_option maxRecDepth 8192 in
theorem ops_part0_3_writes : (ops_part0_3 : List (HloOp τ sig (Elt F))).Forall fun op => op.writes ⊆ (ops_part0_3_W.map (Proc.devRef (τ := τ) .tc)).toFinset := by
  simp only [List.Forall]
  repeat' apply And.intro
  all_goals
    simp only [nullary_writes, unary_writes, binary_writes, ternary_writes, quaternary_writes, reshape_writes, binaryIndexed_writes, nary_writes, unaryIndexed_writes, Finset.singleton_subset_iff, List.mem_toFinset]
    exact List.mem_map_of_mem (by decide)

/-- A buffer that window `ops_part0_3` does not write keeps its contents through it. -/
theorem val1_keep (V0 : Valuation τ sig (Elt F)) (r : Ref sig .tc) (h : r ∉ ops_part0_3_W) :
    val1 V0 (Proc.devRef .tc r) = val0_3 V0 (Proc.devRef .tc r) :=
  after_of_writes_sub ops_part0_3 _ ops_part0_3_writes h

theorem val1_main_arg1 (V0 : Valuation τ sig (Elt F)) : val1 V0 (no_index (Proc.devRef .tc main_arg1)) = V0 (Proc.devRef .tc main_arg1) :=
  (val1_keep V0 main_arg1 (by decide)).trans (val0_3_main_arg1 V0)

theorem val1_main_arg2 (V0 : Valuation τ sig (Elt F)) : val1 V0 (no_index (Proc.devRef .tc main_arg2)) = V0 (Proc.devRef .tc main_arg2) :=
  (val1_keep V0 main_arg2 (by decide)).trans (val0_3_main_arg2 V0)

theorem val1_main_v3 (V0 : Valuation τ sig (Elt F)) : val1 V0 (no_index (Proc.devRef .tc main_v3)) = extractStridedSlice S8192x512 ![0, 1024] (V0 (Proc.devRef .tc main_arg1)) slices_S8192x3712_S8192x512_0_1024 :=
  (val1_keep V0 main_v3 (by decide)).trans (val0_3_main_v3 V0)

theorem val1_main_v33 (V0 : Valuation τ sig (Elt F)) : val1 V0 (no_index (Proc.devRef .tc main_v33)) = res_main_v33 V0 :=
  (val1_keep V0 main_v33 (by decide)).trans (val0_3_main_v33 V0)

set_option maxRecDepth 8192 in
set_option maxHeartbeats 1000000 in
theorem val1_main_v46 (V0 : Valuation τ sig (Elt F)) : val1 V0 (no_index (Proc.devRef .tc main_v46)) = res_main_v46 V0 := by
  unfold val1
  simp only [ops_part0_3]
  after_results_simp
  simp only [val0_3_main_v39, val0_3_main_v40] <;> rfl

set_option maxRecDepth 8192 in
set_option maxHeartbeats 1000000 in
theorem val1_main_v48 (V0 : Valuation τ sig (Elt F)) : val1 V0 (no_index (Proc.devRef .tc main_v48)) = res_main_v48 V0 := by
  unfold val1
  simp only [ops_part0_3]
  after_results_simp
  simp only [val0_3_main_v39, val0_3_main_v40] <;> rfl

set_option maxRecDepth 8192 in
set_option maxHeartbeats 1000000 in
theorem val1_main_v49 (V0 : Valuation τ sig (Elt F)) : val1 V0 (no_index (Proc.devRef .tc main_v49)) = res_main_v49 V0 := by
  unfold val1
  simp only [ops_part0_3]
  after_results_simp
  simp only [val0_3_main_v34] <;> rfl

set_option maxRecDepth 8192 in
set_option maxHeartbeats 1000000 in
theorem val1_main_v50 (V0 : Valuation τ sig (Elt F)) : val1 V0 (no_index (Proc.devRef .tc main_v50)) = res_main_v50 V0 := by
  unfold val1
  simp only [ops_part0_3]
  after_results_simp
  simp only [val0_3_main_v34] <;> rfl

/-- The device's buffer contents after @main's first 130 operations. -/
def val1_1 (V0 : Valuation τ sig (Elt F)) : Valuation τ sig (Elt F) := after ops_part1_0 (val1 V0)

/-- The buffers that window `ops_part1_0`'s operations write. -/
abbrev ops_part1_0_W : List (Ref sig .tc) := [main_v51, main_v52, main_v53, main_v54, main_v55, main_v56, main_v57, main_v58, main_v59, main_v60, main_v61, main_v62, main_v63, main_v64, main_cst_8, main_v65, main_v66, main_cst_9, main_v67, main_v68, main_cst_10, main_v69, main_v70, main_v71, main_v72, main_v73, main_c, main_v74, main_v75, main_v76]

set_option maxRecDepth 8192 in
theorem ops_part1_0_writes : (ops_part1_0 : List (HloOp τ sig (Elt F))).Forall fun op => op.writes ⊆ (ops_part1_0_W.map (Proc.devRef (τ := τ) .tc)).toFinset := by
  simp only [List.Forall]
  repeat' apply And.intro
  all_goals
    simp only [nullary_writes, unary_writes, binary_writes, ternary_writes, quaternary_writes, reshape_writes, binaryIndexed_writes, nary_writes, unaryIndexed_writes, Finset.singleton_subset_iff, List.mem_toFinset]
    exact List.mem_map_of_mem (by decide)

/-- A buffer that window `ops_part1_0` does not write keeps its contents through it. -/
theorem val1_1_keep (V0 : Valuation τ sig (Elt F)) (r : Ref sig .tc) (h : r ∉ ops_part1_0_W) :
    val1_1 V0 (Proc.devRef .tc r) = val1 V0 (Proc.devRef .tc r) :=
  after_of_writes_sub ops_part1_0 _ ops_part1_0_writes h

theorem val1_1_main_arg1 (V0 : Valuation τ sig (Elt F)) : val1_1 V0 (no_index (Proc.devRef .tc main_arg1)) = V0 (Proc.devRef .tc main_arg1) :=
  (val1_1_keep V0 main_arg1 (by decide)).trans (val1_main_arg1 V0)

theorem val1_1_main_arg2 (V0 : Valuation τ sig (Elt F)) : val1_1 V0 (no_index (Proc.devRef .tc main_arg2)) = V0 (Proc.devRef .tc main_arg2) :=
  (val1_1_keep V0 main_arg2 (by decide)).trans (val1_main_arg2 V0)

theorem val1_1_main_v33 (V0 : Valuation τ sig (Elt F)) : val1_1 V0 (no_index (Proc.devRef .tc main_v33)) = res_main_v33 V0 :=
  (val1_1_keep V0 main_v33 (by decide)).trans (val1_main_v33 V0)

set_option maxRecDepth 8192 in
set_option maxHeartbeats 2000000 in
theorem val1_1_main_v61 (V0 : Valuation τ sig (Elt F)) : val1_1 V0 (no_index (Proc.devRef .tc main_v61)) = res_main_v61 V0 := by
  unfold val1_1
  simp only [ops_part1_0]
  after_results_simp
  simp only [val1_main_v48, val1_main_v49, val1_main_v46, val1_main_v50] <;> rfl

set_option maxRecDepth 8192 in
set_option maxHeartbeats 2000000 in
theorem val1_1_main_v62 (V0 : Valuation τ sig (Elt F)) : val1_1 V0 (no_index (Proc.devRef .tc main_v62)) = res_main_v62 V0 := by
  unfold val1_1
  simp only [ops_part1_0]
  after_results_simp
  simp only [val1_main_v3] <;> rfl

set_option maxRecDepth 8192 in
set_option maxHeartbeats 2000000 in
theorem val1_1_main_v63 (V0 : Valuation τ sig (Elt F)) : val1_1 V0 (no_index (Proc.devRef .tc main_v63)) = Host.dotGeneral dot_S8192x4x128_S8192x4x128_S4x8192x8192_2_2_0_0_1_1 none (res_main_v33 V0) (res_main_v61 V0) := by
  unfold val1_1
  simp only [ops_part1_0]
  after_results_simp
  simp only [val1_main_v48, val1_main_v49, val1_main_v46, val1_main_v50, val1_main_v33] <;> rfl

set_option maxRecDepth 8192 in
set_option maxHeartbeats 2000000 in
theorem val1_1_main_v71 (V0 : Valuation τ sig (Elt F)) : val1_1 V0 (no_index (Proc.devRef .tc main_v71)) = Host.log (subf (broadcastInDim S4 ![] bcast_S_S4 (constant S_ .f32 0x3F800000#32)) (Host.powf (broadcastInDim S4 ![] bcast_S_S4 (constant S_ .f32 0x40000000#32)) (subf (broadcastInDim S4 ![] bcast_S_S4 (constant S_ .f32 0xC0A00000#32)) (sitofp .f32 (iotaInDim S4 32 0))))) := by
  unfold val1_1
  simp only [ops_part1_0]
  after_results_simp
  all_goals rfl

set_option maxRecDepth 8192 in
set_option maxHeartbeats 2000000 in
theorem val1_1_main_v72 (V0 : Valuation τ sig (Elt F)) : val1_1 V0 (no_index (Proc.devRef .tc main_v72)) = res_main_v72 V0 := by
  unfold val1_1
  simp only [ops_part1_0]
  after_results_simp
  all_goals rfl

set_option maxRecDepth 8192 in
set_option maxHeartbeats 2000000 in
theorem val1_1_main_v75 (V0 : Valuation τ sig (Elt F)) : val1_1 V0 (no_index (Proc.devRef .tc main_v75)) = res_main_v75 V0 := by
  unfold val1_1
  simp only [ops_part1_0]
  after_results_simp
  all_goals rfl

set_option maxRecDepth 8192 in
set_option maxHeartbeats 2000000 in
theorem val1_1_main_v76 (V0 : Valuation τ sig (Elt F)) : val1_1 V0 (no_index (Proc.devRef .tc main_v76)) = broadcastInDim S8192x1 ![0] bcast_S8192_S8192x1_0 (res_main_v72 V0) := by
  unfold val1_1
  simp only [ops_part1_0]
  after_results_simp
  all_goals rfl

/-- The device's buffer contents after @main's first 160 operations. -/
def val1_2 (V0 : Valuation τ sig (Elt F)) : Valuation τ sig (Elt F) := after ops_part1_1 (val1_1 V0)

/-- The buffers that window `ops_part1_1`'s operations write. -/
abbrev ops_part1_1_W : List (Ref sig .tc) := [main_v77, main_v78, main_v79, main_v80, main_v81, main_v82, main_v83, main_v84, main_v85, main_v86, main_v87, main_v88, main_v89, main_v90, main_v91, main_v92, main_cst_11, main_call2_v0, main_call2_v1, main_call2_v2, main_v93, main_v94, main_v95, main_v96, main_v97, main_cst_12, main_v98, main_v99, main_cst_13, main_v100]

set_option maxRecDepth 8192 in
theorem ops_part1_1_writes : (ops_part1_1 : List (HloOp τ sig (Elt F))).Forall fun op => op.writes ⊆ (ops_part1_1_W.map (Proc.devRef (τ := τ) .tc)).toFinset := by
  simp only [List.Forall]
  repeat' apply And.intro
  all_goals
    simp only [nullary_writes, unary_writes, binary_writes, ternary_writes, quaternary_writes, reshape_writes, binaryIndexed_writes, nary_writes, unaryIndexed_writes, Finset.singleton_subset_iff, List.mem_toFinset]
    exact List.mem_map_of_mem (by decide)

/-- A buffer that window `ops_part1_1` does not write keeps its contents through it. -/
theorem val1_2_keep (V0 : Valuation τ sig (Elt F)) (r : Ref sig .tc) (h : r ∉ ops_part1_1_W) :
    val1_2 V0 (Proc.devRef .tc r) = val1_1 V0 (Proc.devRef .tc r) :=
  after_of_writes_sub ops_part1_1 _ ops_part1_1_writes h

theorem val1_2_main_arg1 (V0 : Valuation τ sig (Elt F)) : val1_2 V0 (no_index (Proc.devRef .tc main_arg1)) = V0 (Proc.devRef .tc main_arg1) :=
  (val1_2_keep V0 main_arg1 (by decide)).trans (val1_1_main_arg1 V0)

theorem val1_2_main_arg2 (V0 : Valuation τ sig (Elt F)) : val1_2 V0 (no_index (Proc.devRef .tc main_arg2)) = V0 (Proc.devRef .tc main_arg2) :=
  (val1_2_keep V0 main_arg2 (by decide)).trans (val1_1_main_arg2 V0)

theorem val1_2_main_v33 (V0 : Valuation τ sig (Elt F)) : val1_2 V0 (no_index (Proc.devRef .tc main_v33)) = res_main_v33 V0 :=
  (val1_2_keep V0 main_v33 (by decide)).trans (val1_1_main_v33 V0)

theorem val1_2_main_v61 (V0 : Valuation τ sig (Elt F)) : val1_2 V0 (no_index (Proc.devRef .tc main_v61)) = res_main_v61 V0 :=
  (val1_2_keep V0 main_v61 (by decide)).trans (val1_1_main_v61 V0)

theorem val1_2_main_v62 (V0 : Valuation τ sig (Elt F)) : val1_2 V0 (no_index (Proc.devRef .tc main_v62)) = res_main_v62 V0 :=
  (val1_2_keep V0 main_v62 (by decide)).trans (val1_1_main_v62 V0)

set_option maxRecDepth 8192 in
set_option maxHeartbeats 2000000 in
theorem val1_2_main_v96 (V0 : Valuation τ sig (Elt F)) : val1_2 V0 (no_index (Proc.devRef .tc main_v96)) = transpose S8192x4x128 [2, 0, 1] (Host.dotGeneral dot_S8192x4x128_S4x8192x8192_S4x128x8192_0_2_2_1_1_0 none (res_main_v62 V0) (mulf (Host.dotGeneral dot_S8192x4x128_S8192x4x128_S4x8192x8192_2_2_0_0_1_1 none (res_main_v33 V0) (res_main_v61 V0)) (select (broadcastInDim S4x8192x8192 ![0, 1, 2] bcast_S1x8192x8192_S4x8192x8192_0_1_2 (cmpi .sle (broadcastInDim S1x8192x8192 ![0, 1, 2] bcast_S1x1x8192_S1x8192x8192_0_1_2 (broadcastInDim S1x1x8192 ![2] bcast_S8192_S1x1x8192_2 (res_main_v75 V0))) (broadcastInDim S1x8192x8192 ![0, 1, 2] bcast_S1x8192x1_S1x8192x8192_0_1_2 (broadcastInDim S1x8192x1 ![1] bcast_S8192_S1x8192x1_1 (res_main_v75 V0))))) (Host.exp (mulf (broadcastInDim S4x8192x8192 ![0, 1, 2] bcast_S4x1x1_S4x8192x8192_0_1_2 (broadcastInDim S4x1x1 ![0] bcast_S4_S4x1x1_0 (Host.log (subf (broadcastInDim S4 ![] bcast_S_S4 (constant S_ .f32 0x3F800000#32)) (Host.powf (broadcastInDim S4 ![] bcast_S_S4 (constant S_ .f32 0x40000000#32)) (subf (broadcastInDim S4 ![] bcast_S_S4 (constant S_ .f32 0xC0A00000#32)) (sitofp .f32 (iotaInDim S4 32 0)))))))) (broadcastInDim S4x8192x8192 ![0, 1, 2] bcast_S1x8192x8192_S4x8192x8192_0_1_2 (broadcastInDim S1x8192x8192 ![1, 2] bcast_S8192x8192_S1x8192x8192_1_2 (Host.absf (subf (broadcastInDim S8192x8192 ![0, 1] bcast_S8192x1_S8192x8192_0_1 (broadcastInDim S8192x1 ![0] bcast_S8192_S8192x1_0 (res_main_v72 V0))) (broadcastInDim S8192x8192 ![0, 1] bcast_S1x8192_S8192x8192_0_1 (broadcastInDim S1x8192 ![1] bcast_S8192_S1x8192_1 (res_main_v72 V0))))))))) (broadcastInDim S4x8192x8192 ![] bcast_S_S4x8192x8192 (id (constant S_ .f32 0x00000000#32)))))) transposes_S4x128x8192_S8192x4x128_2_0_1 := by
  unfold val1_2
  simp only [ops_part1_1, TRef.ternary, TRef.unary, TRef.toBuf, TRef.ofBuf, cast_eq]
  after_results_simp
  simp only [val1_1_main_v72, val1_1_main_v76, val1_1_main_v71, val1_1_main_v75, val1_1_main_v63, val1_1_main_v62] <;> rfl

set_option maxRecDepth 8192 in
set_option maxHeartbeats 2000000 in
theorem val1_2_main_v99 (V0 : Valuation τ sig (Elt F)) : val1_2 V0 (no_index (Proc.devRef .tc main_v99)) = subf (broadcastInDim S4 ![] bcast_S_S4 (constant S_ .f32 0xC0A00000#32)) (sitofp .f32 (iotaInDim S4 32 0)) := by
  unfold val1_2
  simp only [ops_part1_1, TRef.ternary, TRef.unary, TRef.toBuf, TRef.ofBuf, cast_eq]
  after_results_simp
  all_goals rfl

set_option maxRecDepth 8192 in
set_option maxHeartbeats 2000000 in
theorem val1_2_main_v100 (V0 : Valuation τ sig (Elt F)) : val1_2 V0 (no_index (Proc.devRef .tc main_v100)) = broadcastInDim S4 ![] bcast_S_S4 (constant S_ .f32 0x40000000#32) := by
  unfold val1_2
  simp only [ops_part1_1, TRef.ternary, TRef.unary, TRef.toBuf, TRef.ofBuf, cast_eq]
  after_results_simp
  all_goals rfl

/-- The device's buffer contents after @main's first 2 windows. -/
def val2 (V0 : Valuation τ sig (Elt F)) : Valuation τ sig (Elt F) := after ops_part1_2 (val1_2 V0)

/-- The buffers that window `ops_part1_2`'s operations write. -/
abbrev ops_part1_2_W : List (Ref sig .tc) := [main_v101, main_cst_14, main_v102]

set_option maxRecDepth 8192 in
theorem ops_part1_2_writes : (ops_part1_2 : List (HloOp τ sig (Elt F))).Forall fun op => op.writes ⊆ (ops_part1_2_W.map (Proc.devRef (τ := τ) .tc)).toFinset := by
  simp only [List.Forall]
  repeat' apply And.intro
  all_goals
    simp only [nullary_writes, unary_writes, binary_writes, ternary_writes, quaternary_writes, reshape_writes, binaryIndexed_writes, nary_writes, unaryIndexed_writes, Finset.singleton_subset_iff, List.mem_toFinset]
    exact List.mem_map_of_mem (by decide)

/-- A buffer that window `ops_part1_2` does not write keeps its contents through it. -/
theorem val2_keep (V0 : Valuation τ sig (Elt F)) (r : Ref sig .tc) (h : r ∉ ops_part1_2_W) :
    val2 V0 (Proc.devRef .tc r) = val1_2 V0 (Proc.devRef .tc r) :=
  after_of_writes_sub ops_part1_2 _ ops_part1_2_writes h

theorem val2_main_arg1 (V0 : Valuation τ sig (Elt F)) : val2 V0 (no_index (Proc.devRef .tc main_arg1)) = V0 (Proc.devRef .tc main_arg1) :=
  (val2_keep V0 main_arg1 (by decide)).trans (val1_2_main_arg1 V0)

theorem val2_main_arg2 (V0 : Valuation τ sig (Elt F)) : val2 V0 (no_index (Proc.devRef .tc main_arg2)) = V0 (Proc.devRef .tc main_arg2) :=
  (val2_keep V0 main_arg2 (by decide)).trans (val1_2_main_arg2 V0)

theorem val2_main_v33 (V0 : Valuation τ sig (Elt F)) : val2 V0 (no_index (Proc.devRef .tc main_v33)) = res_main_v33 V0 :=
  (val2_keep V0 main_v33 (by decide)).trans (val1_2_main_v33 V0)

theorem val2_main_v61 (V0 : Valuation τ sig (Elt F)) : val2 V0 (no_index (Proc.devRef .tc main_v61)) = res_main_v61 V0 :=
  (val2_keep V0 main_v61 (by decide)).trans (val1_2_main_v61 V0)

theorem val2_main_v62 (V0 : Valuation τ sig (Elt F)) : val2 V0 (no_index (Proc.devRef .tc main_v62)) = res_main_v62 V0 :=
  (val2_keep V0 main_v62 (by decide)).trans (val1_2_main_v62 V0)

theorem val2_main_v96 (V0 : Valuation τ sig (Elt F)) : val2 V0 (no_index (Proc.devRef .tc main_v96)) = transpose S8192x4x128 [2, 0, 1] (Host.dotGeneral dot_S8192x4x128_S4x8192x8192_S4x128x8192_0_2_2_1_1_0 none (res_main_v62 V0) (mulf (Host.dotGeneral dot_S8192x4x128_S8192x4x128_S4x8192x8192_2_2_0_0_1_1 none (res_main_v33 V0) (res_main_v61 V0)) (select (broadcastInDim S4x8192x8192 ![0, 1, 2] bcast_S1x8192x8192_S4x8192x8192_0_1_2 (cmpi .sle (broadcastInDim S1x8192x8192 ![0, 1, 2] bcast_S1x1x8192_S1x8192x8192_0_1_2 (broadcastInDim S1x1x8192 ![2] bcast_S8192_S1x1x8192_2 (res_main_v75 V0))) (broadcastInDim S1x8192x8192 ![0, 1, 2] bcast_S1x8192x1_S1x8192x8192_0_1_2 (broadcastInDim S1x8192x1 ![1] bcast_S8192_S1x8192x1_1 (res_main_v75 V0))))) (Host.exp (mulf (broadcastInDim S4x8192x8192 ![0, 1, 2] bcast_S4x1x1_S4x8192x8192_0_1_2 (broadcastInDim S4x1x1 ![0] bcast_S4_S4x1x1_0 (Host.log (subf (broadcastInDim S4 ![] bcast_S_S4 (constant S_ .f32 0x3F800000#32)) (Host.powf (broadcastInDim S4 ![] bcast_S_S4 (constant S_ .f32 0x40000000#32)) (subf (broadcastInDim S4 ![] bcast_S_S4 (constant S_ .f32 0xC0A00000#32)) (sitofp .f32 (iotaInDim S4 32 0)))))))) (broadcastInDim S4x8192x8192 ![0, 1, 2] bcast_S1x8192x8192_S4x8192x8192_0_1_2 (broadcastInDim S1x8192x8192 ![1, 2] bcast_S8192x8192_S1x8192x8192_1_2 (Host.absf (subf (broadcastInDim S8192x8192 ![0, 1] bcast_S8192x1_S8192x8192_0_1 (broadcastInDim S8192x1 ![0] bcast_S8192_S8192x1_0 (res_main_v72 V0))) (broadcastInDim S8192x8192 ![0, 1] bcast_S1x8192_S8192x8192_0_1 (broadcastInDim S1x8192 ![1] bcast_S8192_S1x8192_1 (res_main_v72 V0))))))))) (broadcastInDim S4x8192x8192 ![] bcast_S_S4x8192x8192 (id (constant S_ .f32 0x00000000#32)))))) transposes_S4x128x8192_S8192x4x128_2_0_1 :=
  (val2_keep V0 main_v96 (by decide)).trans (val1_2_main_v96 V0)

set_option maxRecDepth 8192 in
theorem val2_main_v101 (V0 : Valuation τ sig (Elt F)) : val2 V0 (no_index (Proc.devRef .tc main_v101)) = Host.powf (broadcastInDim S4 ![] bcast_S_S4 (constant S_ .f32 0x40000000#32)) (subf (broadcastInDim S4 ![] bcast_S_S4 (constant S_ .f32 0xC0A00000#32)) (sitofp .f32 (iotaInDim S4 32 0))) := by
  unfold val2
  simp only [ops_part1_2]
  after_results_simp
  simp only [val1_2_main_v99, val1_2_main_v100] <;> rfl

set_option maxRecDepth 8192 in
theorem val2_main_v102 (V0 : Valuation τ sig (Elt F)) : val2 V0 (no_index (Proc.devRef .tc main_v102)) = broadcastInDim S4 ![] bcast_S_S4 (constant S_ .f32 0x3F800000#32) := by
  unfold val2
  simp only [ops_part1_2]
  after_results_simp
  all_goals rfl

/-- The device's buffer contents after @main's first 193 operations. -/
def val2_1 (V0 : Valuation τ sig (Elt F)) : Valuation τ sig (Elt F) := after ops_part2_0 (val2 V0)

/-- The buffers that window `ops_part2_0`'s operations write. -/
abbrev ops_part2_0_W : List (Ref sig .tc) := [main_v103, main_v104, main_v105, main_cst_15, main_v106, main_v107, main_v108, main_cst_16, main_v109, main_v110, main_v111, main_v112, main_v113, main_v114, main_v115, main_v116, main_cst_17, main_v117, main_v118, main_v119, main_v120, main_v121, main_v122, main_v123, main_v124, main_cst_18, main_call3_v0, main_call3_v1, main_call3_v2, main_v125]

set_option maxRecDepth 8192 in
theorem ops_part2_0_writes : (ops_part2_0 : List (HloOp τ sig (Elt F))).Forall fun op => op.writes ⊆ (ops_part2_0_W.map (Proc.devRef (τ := τ) .tc)).toFinset := by
  simp only [List.Forall]
  repeat' apply And.intro
  all_goals
    simp only [nullary_writes, unary_writes, binary_writes, ternary_writes, quaternary_writes, reshape_writes, binaryIndexed_writes, nary_writes, unaryIndexed_writes, Finset.singleton_subset_iff, List.mem_toFinset]
    exact List.mem_map_of_mem (by decide)

/-- A buffer that window `ops_part2_0` does not write keeps its contents through it. -/
theorem val2_1_keep (V0 : Valuation τ sig (Elt F)) (r : Ref sig .tc) (h : r ∉ ops_part2_0_W) :
    val2_1 V0 (Proc.devRef .tc r) = val2 V0 (Proc.devRef .tc r) :=
  after_of_writes_sub ops_part2_0 _ ops_part2_0_writes h

theorem val2_1_main_arg1 (V0 : Valuation τ sig (Elt F)) : val2_1 V0 (no_index (Proc.devRef .tc main_arg1)) = V0 (Proc.devRef .tc main_arg1) :=
  (val2_1_keep V0 main_arg1 (by decide)).trans (val2_main_arg1 V0)

theorem val2_1_main_arg2 (V0 : Valuation τ sig (Elt F)) : val2_1 V0 (no_index (Proc.devRef .tc main_arg2)) = V0 (Proc.devRef .tc main_arg2) :=
  (val2_1_keep V0 main_arg2 (by decide)).trans (val2_main_arg2 V0)

theorem val2_1_main_v33 (V0 : Valuation τ sig (Elt F)) : val2_1 V0 (no_index (Proc.devRef .tc main_v33)) = res_main_v33 V0 :=
  (val2_1_keep V0 main_v33 (by decide)).trans (val2_main_v33 V0)

theorem val2_1_main_v61 (V0 : Valuation τ sig (Elt F)) : val2_1 V0 (no_index (Proc.devRef .tc main_v61)) = res_main_v61 V0 :=
  (val2_1_keep V0 main_v61 (by decide)).trans (val2_main_v61 V0)

theorem val2_1_main_v62 (V0 : Valuation τ sig (Elt F)) : val2_1 V0 (no_index (Proc.devRef .tc main_v62)) = res_main_v62 V0 :=
  (val2_1_keep V0 main_v62 (by decide)).trans (val2_main_v62 V0)

theorem val2_1_main_v96 (V0 : Valuation τ sig (Elt F)) : val2_1 V0 (no_index (Proc.devRef .tc main_v96)) = transpose S8192x4x128 [2, 0, 1] (Host.dotGeneral dot_S8192x4x128_S4x8192x8192_S4x128x8192_0_2_2_1_1_0 none (res_main_v62 V0) (mulf (Host.dotGeneral dot_S8192x4x128_S8192x4x128_S4x8192x8192_2_2_0_0_1_1 none (res_main_v33 V0) (res_main_v61 V0)) (select (broadcastInDim S4x8192x8192 ![0, 1, 2] bcast_S1x8192x8192_S4x8192x8192_0_1_2 (cmpi .sle (broadcastInDim S1x8192x8192 ![0, 1, 2] bcast_S1x1x8192_S1x8192x8192_0_1_2 (broadcastInDim S1x1x8192 ![2] bcast_S8192_S1x1x8192_2 (res_main_v75 V0))) (broadcastInDim S1x8192x8192 ![0, 1, 2] bcast_S1x8192x1_S1x8192x8192_0_1_2 (broadcastInDim S1x8192x1 ![1] bcast_S8192_S1x8192x1_1 (res_main_v75 V0))))) (Host.exp (mulf (broadcastInDim S4x8192x8192 ![0, 1, 2] bcast_S4x1x1_S4x8192x8192_0_1_2 (broadcastInDim S4x1x1 ![0] bcast_S4_S4x1x1_0 (Host.log (subf (broadcastInDim S4 ![] bcast_S_S4 (constant S_ .f32 0x3F800000#32)) (Host.powf (broadcastInDim S4 ![] bcast_S_S4 (constant S_ .f32 0x40000000#32)) (subf (broadcastInDim S4 ![] bcast_S_S4 (constant S_ .f32 0xC0A00000#32)) (sitofp .f32 (iotaInDim S4 32 0)))))))) (broadcastInDim S4x8192x8192 ![0, 1, 2] bcast_S1x8192x8192_S4x8192x8192_0_1_2 (broadcastInDim S1x8192x8192 ![1, 2] bcast_S8192x8192_S1x8192x8192_1_2 (Host.absf (subf (broadcastInDim S8192x8192 ![0, 1] bcast_S8192x1_S8192x8192_0_1 (broadcastInDim S8192x1 ![0] bcast_S8192_S8192x1_0 (res_main_v72 V0))) (broadcastInDim S8192x8192 ![0, 1] bcast_S1x8192_S8192x8192_0_1 (broadcastInDim S1x8192 ![1] bcast_S8192_S1x8192_1 (res_main_v72 V0))))))))) (broadcastInDim S4x8192x8192 ![] bcast_S_S4x8192x8192 (id (constant S_ .f32 0x00000000#32)))))) transposes_S4x128x8192_S8192x4x128_2_0_1 :=
  (val2_1_keep V0 main_v96 (by decide)).trans (val2_main_v96 V0)

set_option maxRecDepth 8192 in
set_option maxHeartbeats 2000000 in
theorem val2_1_main_v125 (V0 : Valuation τ sig (Elt F)) : val2_1 V0 (no_index (Proc.devRef .tc main_v125)) = select (broadcastInDim S4x32x8192 ![0, 1, 2] bcast_S1x32x8192_S4x32x8192_0_1_2 (cmpf .oge (broadcastInDim S1x32x8192 ![1, 2] bcast_S32x8192_S1x32x8192_1_2 (res_main_v115 V0)) (broadcastInDim S1x32x8192 ![] bcast_S_S1x32x8192 (constant S_ .f32 0x00000000#32)))) (Host.exp (mulf (broadcastInDim S4x32x8192 ![0, 1, 2] bcast_S4x1x1_S4x32x8192_0_1_2 (broadcastInDim S4x1x1 ![0] bcast_S4_S4x1x1_0 (Host.log (subf (broadcastInDim S4 ![] bcast_S_S4 (constant S_ .f32 0x3F800000#32)) (Host.powf (broadcastInDim S4 ![] bcast_S_S4 (constant S_ .f32 0x40000000#32)) (subf (broadcastInDim S4 ![] bcast_S_S4 (constant S_ .f32 0xC0A00000#32)) (sitofp .f32 (iotaInDim S4 32 0)))))))) (broadcastInDim S4x32x8192 ![0, 1, 2] bcast_S1x32x8192_S4x32x8192_0_1_2 (broadcastInDim S1x32x8192 ![1, 2] bcast_S32x8192_S1x32x8192_1_2 (res_main_v115 V0))))) (broadcastInDim S4x32x8192 ![] bcast_S_S4x32x8192 (id (constant S_ .f32 0x00000000#32))) := by
  unfold val2_1
  simp only [ops_part2_0, TRef.ternary, TRef.unary, TRef.toBuf, TRef.ofBuf, cast_eq]
  after_results_simp
  simp only [val2_main_v101, val2_main_v102] <;> rfl

/-- The device's buffer contents after @main's first 223 operations. -/
def val2_2 (V0 : Valuation τ sig (Elt F)) : Valuation τ sig (Elt F) := after ops_part2_1 (val2_1 V0)

/-- The buffers that window `ops_part2_1`'s operations write. -/
abbrev ops_part2_1_W : List (Ref sig .tc) := [main_v126, main_v127, main_v128, main_v129, main_v130, main_v131, main_v132, main_v133, main_v134, main_v135, main_v136, main_v137, main_v138, main_v139, main_v140, main_v141, main_v142, main_c_19, main_v143, main_v144, main_c_20, main_v145, main_v146, main_v147, main_v148, main_v149, main_v150, main_v151, main_v152, main_cst_21]

set_option maxRecDepth 8192 in
theorem ops_part2_1_writes : (ops_part2_1 : List (HloOp τ sig (Elt F))).Forall fun op => op.writes ⊆ (ops_part2_1_W.map (Proc.devRef (τ := τ) .tc)).toFinset := by
  simp only [List.Forall]
  repeat' apply And.intro
  all_goals
    simp only [nullary_writes, unary_writes, binary_writes, ternary_writes, quaternary_writes, reshape_writes, binaryIndexed_writes, nary_writes, unaryIndexed_writes, Finset.singleton_subset_iff, List.mem_toFinset]
    exact List.mem_map_of_mem (by decide)

/-- A buffer that window `ops_part2_1` does not write keeps its contents through it. -/
theorem val2_2_keep (V0 : Valuation τ sig (Elt F)) (r : Ref sig .tc) (h : r ∉ ops_part2_1_W) :
    val2_2 V0 (Proc.devRef .tc r) = val2_1 V0 (Proc.devRef .tc r) :=
  after_of_writes_sub ops_part2_1 _ ops_part2_1_writes h

theorem val2_2_main_arg1 (V0 : Valuation τ sig (Elt F)) : val2_2 V0 (no_index (Proc.devRef .tc main_arg1)) = V0 (Proc.devRef .tc main_arg1) :=
  (val2_2_keep V0 main_arg1 (by decide)).trans (val2_1_main_arg1 V0)

theorem val2_2_main_arg2 (V0 : Valuation τ sig (Elt F)) : val2_2 V0 (no_index (Proc.devRef .tc main_arg2)) = V0 (Proc.devRef .tc main_arg2) :=
  (val2_2_keep V0 main_arg2 (by decide)).trans (val2_1_main_arg2 V0)

set_option maxRecDepth 8192 in
set_option maxHeartbeats 2000000 in
theorem val2_2_main_v134 (V0 : Valuation τ sig (Elt F)) : val2_2 V0 (no_index (Proc.devRef .tc main_v134)) = res_main_v134 V0 := by
  unfold val2_2
  simp only [ops_part2_1]
  after_results_simp
  simp only [val2_1_main_v125, val2_1_main_v61, val2_1_main_v62] <;> rfl

set_option maxRecDepth 8192 in
set_option maxHeartbeats 2000000 in
theorem val2_2_main_v136 (V0 : Valuation τ sig (Elt F)) : val2_2 V0 (no_index (Proc.devRef .tc main_v136)) = res_main_v136 V0 := by
  unfold val2_2
  simp only [ops_part2_1]
  after_results_simp
  simp only [val2_1_main_v33] <;> rfl

set_option maxRecDepth 8192 in
set_option maxHeartbeats 2000000 in
theorem val2_2_main_v138 (V0 : Valuation τ sig (Elt F)) : val2_2 V0 (no_index (Proc.devRef .tc main_v138)) = res_main_v138 V0 := by
  unfold val2_2
  simp only [ops_part2_1]
  after_results_simp
  simp only [val2_1_main_v61] <;> rfl

set_option maxRecDepth 8192 in
set_option maxHeartbeats 2000000 in
theorem val2_2_main_v140 (V0 : Valuation τ sig (Elt F)) : val2_2 V0 (no_index (Proc.devRef .tc main_v140)) = res_main_v140 V0 := by
  unfold val2_2
  simp only [ops_part2_1]
  after_results_simp
  simp only [val2_1_main_arg2, val2_1_main_v96] <;> rfl

set_option maxRecDepth 8192 in
set_option maxHeartbeats 2000000 in
theorem val2_2_main_v147 (V0 : Valuation τ sig (Elt F)) : val2_2 V0 (no_index (Proc.devRef .tc main_v147)) = res_main_v147 V0 := by
  unfold val2_2
  simp only [ops_part2_1]
  after_results_simp
  all_goals rfl

set_option maxRecDepth 8192 in
set_option maxHeartbeats 2000000 in
theorem val2_2_main_v150 (V0 : Valuation τ sig (Elt F)) : val2_2 V0 (no_index (Proc.devRef .tc main_v150)) = res_main_v150 V0 := by
  unfold val2_2
  simp only [ops_part2_1]
  after_results_simp
  all_goals rfl

set_option maxRecDepth 8192 in
set_option maxHeartbeats 2000000 in
theorem val2_2_main_v152 (V0 : Valuation τ sig (Elt F)) : val2_2 V0 (no_index (Proc.devRef .tc main_v152)) = res_main_v152 V0 := by
  unfold val2_2
  simp only [ops_part2_1]
  after_results_simp
  all_goals rfl

set_option maxRecDepth 8192 in
set_option maxHeartbeats 2000000 in
theorem val2_2_main_cst_21 (V0 : Valuation τ sig (Elt F)) : val2_2 V0 (no_index (Proc.devRef .tc main_cst_21)) = constant S_ .f32 0x3F780000#32 := by
  unfold val2_2
  simp only [ops_part2_1]
  after_results_simp
  all_goals rfl

/-- The device's buffer contents after @main's first 3 windows. -/
def val3 (V0 : Valuation τ sig (Elt F)) : Valuation τ sig (Elt F) := after ops_part2_2 (val2_2 V0)

/-- The buffers that window `ops_part2_2`'s operations write. -/
abbrev ops_part2_2_W : List (Ref sig .tc) := [main_v153, main_cst_22, main_v154]

set_option maxRecDepth 8192 in
theorem ops_part2_2_writes : (ops_part2_2 : List (HloOp τ sig (Elt F))).Forall fun op => op.writes ⊆ (ops_part2_2_W.map (Proc.devRef (τ := τ) .tc)).toFinset := by
  simp only [List.Forall]
  repeat' apply And.intro
  all_goals
    simp only [nullary_writes, unary_writes, binary_writes, ternary_writes, quaternary_writes, reshape_writes, binaryIndexed_writes, nary_writes, unaryIndexed_writes, Finset.singleton_subset_iff, List.mem_toFinset]
    exact List.mem_map_of_mem (by decide)

/-- A buffer that window `ops_part2_2` does not write keeps its contents through it. -/
theorem val3_keep (V0 : Valuation τ sig (Elt F)) (r : Ref sig .tc) (h : r ∉ ops_part2_2_W) :
    val3 V0 (Proc.devRef .tc r) = val2_2 V0 (Proc.devRef .tc r) :=
  after_of_writes_sub ops_part2_2 _ ops_part2_2_writes h

theorem val3_main_arg1 (V0 : Valuation τ sig (Elt F)) : val3 V0 (no_index (Proc.devRef .tc main_arg1)) = V0 (Proc.devRef .tc main_arg1) :=
  (val3_keep V0 main_arg1 (by decide)).trans (val2_2_main_arg1 V0)

theorem val3_main_arg2 (V0 : Valuation τ sig (Elt F)) : val3 V0 (no_index (Proc.devRef .tc main_arg2)) = V0 (Proc.devRef .tc main_arg2) :=
  (val3_keep V0 main_arg2 (by decide)).trans (val2_2_main_arg2 V0)

theorem val3_main_v134 (V0 : Valuation τ sig (Elt F)) : val3 V0 (no_index (Proc.devRef .tc main_v134)) = res_main_v134 V0 :=
  (val3_keep V0 main_v134 (by decide)).trans (val2_2_main_v134 V0)

theorem val3_main_v136 (V0 : Valuation τ sig (Elt F)) : val3 V0 (no_index (Proc.devRef .tc main_v136)) = res_main_v136 V0 :=
  (val3_keep V0 main_v136 (by decide)).trans (val2_2_main_v136 V0)

theorem val3_main_v138 (V0 : Valuation τ sig (Elt F)) : val3 V0 (no_index (Proc.devRef .tc main_v138)) = res_main_v138 V0 :=
  (val3_keep V0 main_v138 (by decide)).trans (val2_2_main_v138 V0)

theorem val3_main_v140 (V0 : Valuation τ sig (Elt F)) : val3 V0 (no_index (Proc.devRef .tc main_v140)) = res_main_v140 V0 :=
  (val3_keep V0 main_v140 (by decide)).trans (val2_2_main_v140 V0)

theorem val3_main_v147 (V0 : Valuation τ sig (Elt F)) : val3 V0 (no_index (Proc.devRef .tc main_v147)) = res_main_v147 V0 :=
  (val3_keep V0 main_v147 (by decide)).trans (val2_2_main_v147 V0)

theorem val3_main_v150 (V0 : Valuation τ sig (Elt F)) : val3 V0 (no_index (Proc.devRef .tc main_v150)) = res_main_v150 V0 :=
  (val3_keep V0 main_v150 (by decide)).trans (val2_2_main_v150 V0)

theorem val3_main_v152 (V0 : Valuation τ sig (Elt F)) : val3 V0 (no_index (Proc.devRef .tc main_v152)) = res_main_v152 V0 :=
  (val3_keep V0 main_v152 (by decide)).trans (val2_2_main_v152 V0)

set_option maxRecDepth 8192 in
theorem val3_main_v153 (V0 : Valuation τ sig (Elt F)) : val3 V0 (no_index (Proc.devRef .tc main_v153)) = res_main_v153 V0 := by
  unfold val3
  simp only [ops_part2_2]
  after_results_simp
  simp only [val2_2_main_cst_21] <;> rfl

set_option maxRecDepth 8192 in
theorem val3_main_v154 (V0 : Valuation τ sig (Elt F)) : val3 V0 (no_index (Proc.devRef .tc main_v154)) = res_main_v154 V0 := by
  unfold val3
  simp only [ops_part2_2]
  after_results_simp
  all_goals rfl

/-- The device's buffer contents after @main's first 256 operations. -/
def val3_1 (V0 : Valuation τ sig (Elt F)) : Valuation τ sig (Elt F) := after ops_part3_0 (val3 V0)

/-- The buffers that window `ops_part3_0`'s operations write. -/
abbrev ops_part3_0_W : List (Ref sig .tc) := [main_cst_23, main_v155, main_cst_24, main_v156, main_v157, main_v158, main_v159, main_cst_25, main_call4_v0, main_call4_v1, main_v160, main_v161, main_v162, main_v163, main_cst_26, main_call5_v0, main_call5_v1, main_v164, main_v165, main_v166, main_v167, main_cst_27, main_call6_v0, main_call6_v1, main_v168, main_v169, main_v170, main_v171, main_cst_28, main_call7_v0]

set_option maxRecDepth 8192 in
theorem ops_part3_0_writes : (ops_part3_0 : List (HloOp τ sig (Elt F))).Forall fun op => op.writes ⊆ (ops_part3_0_W.map (Proc.devRef (τ := τ) .tc)).toFinset := by
  simp only [List.Forall]
  repeat' apply And.intro
  all_goals
    simp only [nullary_writes, unary_writes, binary_writes, ternary_writes, quaternary_writes, reshape_writes, binaryIndexed_writes, nary_writes, unaryIndexed_writes, Finset.singleton_subset_iff, List.mem_toFinset]
    exact List.mem_map_of_mem (by decide)

/-- A buffer that window `ops_part3_0` does not write keeps its contents through it. -/
theorem val3_1_keep (V0 : Valuation τ sig (Elt F)) (r : Ref sig .tc) (h : r ∉ ops_part3_0_W) :
    val3_1 V0 (Proc.devRef .tc r) = val3 V0 (Proc.devRef .tc r) :=
  after_of_writes_sub ops_part3_0 _ ops_part3_0_writes h

theorem val3_1_main_arg1 (V0 : Valuation τ sig (Elt F)) : val3_1 V0 (no_index (Proc.devRef .tc main_arg1)) = V0 (Proc.devRef .tc main_arg1) :=
  (val3_1_keep V0 main_arg1 (by decide)).trans (val3_main_arg1 V0)

theorem val3_1_main_arg2 (V0 : Valuation τ sig (Elt F)) : val3_1 V0 (no_index (Proc.devRef .tc main_arg2)) = V0 (Proc.devRef .tc main_arg2) :=
  (val3_1_keep V0 main_arg2 (by decide)).trans (val3_main_arg2 V0)

theorem val3_1_main_v134 (V0 : Valuation τ sig (Elt F)) : val3_1 V0 (no_index (Proc.devRef .tc main_v134)) = res_main_v134 V0 :=
  (val3_1_keep V0 main_v134 (by decide)).trans (val3_main_v134 V0)

theorem val3_1_main_v136 (V0 : Valuation τ sig (Elt F)) : val3_1 V0 (no_index (Proc.devRef .tc main_v136)) = res_main_v136 V0 :=
  (val3_1_keep V0 main_v136 (by decide)).trans (val3_main_v136 V0)

theorem val3_1_main_v138 (V0 : Valuation τ sig (Elt F)) : val3_1 V0 (no_index (Proc.devRef .tc main_v138)) = res_main_v138 V0 :=
  (val3_1_keep V0 main_v138 (by decide)).trans (val3_main_v138 V0)

theorem val3_1_main_v140 (V0 : Valuation τ sig (Elt F)) : val3_1 V0 (no_index (Proc.devRef .tc main_v140)) = res_main_v140 V0 :=
  (val3_1_keep V0 main_v140 (by decide)).trans (val3_main_v140 V0)

theorem val3_1_main_v147 (V0 : Valuation τ sig (Elt F)) : val3_1 V0 (no_index (Proc.devRef .tc main_v147)) = res_main_v147 V0 :=
  (val3_1_keep V0 main_v147 (by decide)).trans (val3_main_v147 V0)

theorem val3_1_main_v152 (V0 : Valuation τ sig (Elt F)) : val3_1 V0 (no_index (Proc.devRef .tc main_v152)) = res_main_v152 V0 :=
  (val3_1_keep V0 main_v152 (by decide)).trans (val3_main_v152 V0)

theorem val3_1_main_v153 (V0 : Valuation τ sig (Elt F)) : val3_1 V0 (no_index (Proc.devRef .tc main_v153)) = res_main_v153 V0 :=
  (val3_1_keep V0 main_v153 (by decide)).trans (val3_main_v153 V0)

theorem val3_1_main_v154 (V0 : Valuation τ sig (Elt F)) : val3_1 V0 (no_index (Proc.devRef .tc main_v154)) = res_main_v154 V0 :=
  (val3_1_keep V0 main_v154 (by decide)).trans (val3_main_v154 V0)

set_option maxRecDepth 8192 in
set_option maxHeartbeats 2000000 in
theorem val3_1_main_v155 (V0 : Valuation τ sig (Elt F)) : val3_1 V0 (no_index (Proc.devRef .tc main_v155)) = res_main_v155 V0 := by
  unfold val3_1
  simp only [ops_part3_0, TRef.ternary, TRef.unary, TRef.toBuf, TRef.ofBuf, cast_eq]
  after_results_simp
  all_goals rfl

set_option maxRecDepth 8192 in
set_option maxHeartbeats 2000000 in
theorem val3_1_main_v156 (V0 : Valuation τ sig (Elt F)) : val3_1 V0 (no_index (Proc.devRef .tc main_v156)) = res_main_v156 V0 := by
  unfold val3_1
  simp only [ops_part3_0, TRef.ternary, TRef.unary, TRef.toBuf, TRef.ofBuf, cast_eq]
  after_results_simp
  all_goals rfl

set_option maxRecDepth 8192 in
set_option maxHeartbeats 2000000 in
theorem val3_1_main_v160 (V0 : Valuation τ sig (Elt F)) : val3_1 V0 (no_index (Proc.devRef .tc main_v160)) = select (res_main_v147 V0) (Host.exp (mulf (broadcastInDim S256x256 ![] bcast_S_S256x256 (res_main_v153 V0)) (res_main_v150 V0))) (broadcastInDim S256x256 ![] bcast_S_S256x256 (id (constant S_ .f32 0x00000000#32))) := by
  unfold val3_1
  simp only [ops_part3_0, TRef.ternary, TRef.unary, TRef.toBuf, TRef.ofBuf, cast_eq]
  after_results_simp
  simp only [val3_main_v150, val3_main_v153, val3_main_v147] <;> rfl

set_option maxRecDepth 8192 in
set_option maxHeartbeats 2000000 in
theorem val3_1_main_v164 (V0 : Valuation τ sig (Elt F)) : val3_1 V0 (no_index (Proc.devRef .tc main_v164)) = select (res_main_v147 V0) (Host.exp (mulf (broadcastInDim S256x256 ![] bcast_S_S256x256 (res_main_v154 V0)) (res_main_v150 V0))) (broadcastInDim S256x256 ![] bcast_S_S256x256 (id (constant S_ .f32 0x00000000#32))) := by
  unfold val3_1
  simp only [ops_part3_0, TRef.ternary, TRef.unary, TRef.toBuf, TRef.ofBuf, cast_eq]
  after_results_simp
  simp only [val3_main_v150, val3_main_v154, val3_main_v147] <;> rfl

set_option maxRecDepth 8192 in
set_option maxHeartbeats 2000000 in
theorem val3_1_main_v168 (V0 : Valuation τ sig (Elt F)) : val3_1 V0 (no_index (Proc.devRef .tc main_v168)) = select (res_main_v147 V0) (Host.exp (mulf (broadcastInDim S256x256 ![] bcast_S_S256x256 (res_main_v155 V0)) (res_main_v150 V0))) (broadcastInDim S256x256 ![] bcast_S_S256x256 (id (constant S_ .f32 0x00000000#32))) := by
  unfold val3_1
  simp only [ops_part3_0, TRef.ternary, TRef.unary, TRef.toBuf, TRef.ofBuf, cast_eq]
  after_results_simp
  simp only [val3_main_v150, val3_main_v147] <;> rfl

set_option maxRecDepth 8192 in
set_option maxHeartbeats 2000000 in
theorem val3_1_main_v171 (V0 : Valuation τ sig (Elt F)) : val3_1 V0 (no_index (Proc.devRef .tc main_v171)) = Host.exp (mulf (broadcastInDim S256x256 ![] bcast_S_S256x256 (res_main_v156 V0)) (res_main_v150 V0)) := by
  unfold val3_1
  simp only [ops_part3_0, TRef.ternary, TRef.unary, TRef.toBuf, TRef.ofBuf, cast_eq]
  after_results_simp
  simp only [val3_main_v150] <;> rfl

set_option maxRecDepth 8192 in
set_option maxHeartbeats 2000000 in
theorem val3_1_main_call7_v0 (V0 : Valuation τ sig (Elt F)) : val3_1 V0 (no_index (Proc.devRef .tc main_call7_v0)) = id (constant S_ .f32 0x00000000#32) := by
  unfold val3_1
  simp only [ops_part3_0, TRef.ternary, TRef.unary, TRef.toBuf, TRef.ofBuf, cast_eq]
  after_results_simp
  all_goals rfl

/-- The device's buffer contents after @main's first 286 operations. -/
def val3_2 (V0 : Valuation τ sig (Elt F)) : Valuation τ sig (Elt F) := after ops_part3_1 (val3_1 V0)

/-- The buffers that window `ops_part3_1`'s operations write. -/
abbrev ops_part3_1_W : List (Ref sig .tc) := [main_call7_v1, main_v172, main_v173, main_v174, main_v175, main_v176, main_v177, main_cst_29, main_v178, main_v179, main_v180, main_v181, main_v182, main_cst_30, main_v183, main_v184, main_v185, main_v186, main_v187, main_cst_31, main_v188, main_v189, main_v190, main_v191, main_v192, main_cst_32, main_v193, main_v194, main_v195, main_v196]

set_option maxRecDepth 8192 in
theorem ops_part3_1_writes : (ops_part3_1 : List (HloOp τ sig (Elt F))).Forall fun op => op.writes ⊆ (ops_part3_1_W.map (Proc.devRef (τ := τ) .tc)).toFinset := by
  simp only [List.Forall]
  repeat' apply And.intro
  all_goals
    simp only [nullary_writes, unary_writes, binary_writes, ternary_writes, quaternary_writes, reshape_writes, binaryIndexed_writes, nary_writes, unaryIndexed_writes, Finset.singleton_subset_iff, List.mem_toFinset]
    exact List.mem_map_of_mem (by decide)

/-- A buffer that window `ops_part3_1` does not write keeps its contents through it. -/
theorem val3_2_keep (V0 : Valuation τ sig (Elt F)) (r : Ref sig .tc) (h : r ∉ ops_part3_1_W) :
    val3_2 V0 (Proc.devRef .tc r) = val3_1 V0 (Proc.devRef .tc r) :=
  after_of_writes_sub ops_part3_1 _ ops_part3_1_writes h

theorem val3_2_main_arg1 (V0 : Valuation τ sig (Elt F)) : val3_2 V0 (no_index (Proc.devRef .tc main_arg1)) = V0 (Proc.devRef .tc main_arg1) :=
  (val3_2_keep V0 main_arg1 (by decide)).trans (val3_1_main_arg1 V0)

theorem val3_2_main_arg2 (V0 : Valuation τ sig (Elt F)) : val3_2 V0 (no_index (Proc.devRef .tc main_arg2)) = V0 (Proc.devRef .tc main_arg2) :=
  (val3_2_keep V0 main_arg2 (by decide)).trans (val3_1_main_arg2 V0)

theorem val3_2_main_v134 (V0 : Valuation τ sig (Elt F)) : val3_2 V0 (no_index (Proc.devRef .tc main_v134)) = res_main_v134 V0 :=
  (val3_2_keep V0 main_v134 (by decide)).trans (val3_1_main_v134 V0)

theorem val3_2_main_v136 (V0 : Valuation τ sig (Elt F)) : val3_2 V0 (no_index (Proc.devRef .tc main_v136)) = res_main_v136 V0 :=
  (val3_2_keep V0 main_v136 (by decide)).trans (val3_1_main_v136 V0)

theorem val3_2_main_v138 (V0 : Valuation τ sig (Elt F)) : val3_2 V0 (no_index (Proc.devRef .tc main_v138)) = res_main_v138 V0 :=
  (val3_2_keep V0 main_v138 (by decide)).trans (val3_1_main_v138 V0)

theorem val3_2_main_v140 (V0 : Valuation τ sig (Elt F)) : val3_2 V0 (no_index (Proc.devRef .tc main_v140)) = res_main_v140 V0 :=
  (val3_2_keep V0 main_v140 (by decide)).trans (val3_1_main_v140 V0)

theorem val3_2_main_v152 (V0 : Valuation τ sig (Elt F)) : val3_2 V0 (no_index (Proc.devRef .tc main_v152)) = res_main_v152 V0 :=
  (val3_2_keep V0 main_v152 (by decide)).trans (val3_1_main_v152 V0)

theorem val3_2_main_v153 (V0 : Valuation τ sig (Elt F)) : val3_2 V0 (no_index (Proc.devRef .tc main_v153)) = res_main_v153 V0 :=
  (val3_2_keep V0 main_v153 (by decide)).trans (val3_1_main_v153 V0)

theorem val3_2_main_v154 (V0 : Valuation τ sig (Elt F)) : val3_2 V0 (no_index (Proc.devRef .tc main_v154)) = res_main_v154 V0 :=
  (val3_2_keep V0 main_v154 (by decide)).trans (val3_1_main_v154 V0)

theorem val3_2_main_v155 (V0 : Valuation τ sig (Elt F)) : val3_2 V0 (no_index (Proc.devRef .tc main_v155)) = res_main_v155 V0 :=
  (val3_2_keep V0 main_v155 (by decide)).trans (val3_1_main_v155 V0)

theorem val3_2_main_v156 (V0 : Valuation τ sig (Elt F)) : val3_2 V0 (no_index (Proc.devRef .tc main_v156)) = res_main_v156 V0 :=
  (val3_2_keep V0 main_v156 (by decide)).trans (val3_1_main_v156 V0)

set_option maxRecDepth 8192 in
set_option maxHeartbeats 2000000 in
theorem val3_2_main_v177 (V0 : Valuation τ sig (Elt F)) : val3_2 V0 (no_index (Proc.devRef .tc main_v177)) = res_main_v177 V0 := by
  unfold val3_2
  simp only [ops_part3_1, TRef.ternary, TRef.unary, TRef.toBuf, TRef.ofBuf, cast_eq]
  after_results_simp
  try dsimp only [Matrix.cons_val]
  try after_results_simp
  simp only [val3_1_main_call7_v0, val3_1_main_v171, val3_1_main_v147, val3_1_main_v168, val3_1_main_v164, val3_1_main_v160] <;> rfl

set_option maxRecDepth 8192 in
set_option maxHeartbeats 2000000 in
theorem val3_2_main_v182 (V0 : Valuation τ sig (Elt F)) : val3_2 V0 (no_index (Proc.devRef .tc main_v182)) = Host.exp (mulf (broadcastInDim S256x128 ![] bcast_S_S256x128 (res_main_v153 V0)) (addf (res_main_v152 V0) (broadcastInDim S256x128 ![] bcast_S_S256x128 (constant S_ .f32 0x3F800000#32)))) := by
  unfold val3_2
  simp only [ops_part3_1, TRef.ternary, TRef.unary, TRef.toBuf, TRef.ofBuf, cast_eq]
  after_results_simp
  try dsimp only [Matrix.cons_val]
  try after_results_simp
  simp only [val3_1_main_v152, val3_1_main_v153] <;> rfl

set_option maxRecDepth 8192 in
set_option maxHeartbeats 2000000 in
theorem val3_2_main_v187 (V0 : Valuation τ sig (Elt F)) : val3_2 V0 (no_index (Proc.devRef .tc main_v187)) = Host.exp (mulf (broadcastInDim S256x128 ![] bcast_S_S256x128 (res_main_v154 V0)) (addf (res_main_v152 V0) (broadcastInDim S256x128 ![] bcast_S_S256x128 (constant S_ .f32 0x3F800000#32)))) := by
  unfold val3_2
  simp only [ops_part3_1, TRef.ternary, TRef.unary, TRef.toBuf, TRef.ofBuf, cast_eq]
  after_results_simp
  try dsimp only [Matrix.cons_val]
  try after_results_simp
  simp only [val3_1_main_v152, val3_1_main_v154] <;> rfl

set_option maxRecDepth 8192 in
set_option maxHeartbeats 2000000 in
theorem val3_2_main_v192 (V0 : Valuation τ sig (Elt F)) : val3_2 V0 (no_index (Proc.devRef .tc main_v192)) = Host.exp (mulf (broadcastInDim S256x128 ![] bcast_S_S256x128 (res_main_v155 V0)) (addf (res_main_v152 V0) (broadcastInDim S256x128 ![] bcast_S_S256x128 (constant S_ .f32 0x3F800000#32)))) := by
  unfold val3_2
  simp only [ops_part3_1, TRef.ternary, TRef.unary, TRef.toBuf, TRef.ofBuf, cast_eq]
  after_results_simp
  try dsimp only [Matrix.cons_val]
  try after_results_simp
  simp only [val3_1_main_v152, val3_1_main_v155] <;> rfl

set_option maxRecDepth 8192 in
set_option maxHeartbeats 2000000 in
theorem val3_2_main_v196 (V0 : Valuation τ sig (Elt F)) : val3_2 V0 (no_index (Proc.devRef .tc main_v196)) = mulf (broadcastInDim S256x128 ![] bcast_S_S256x128 (res_main_v156 V0)) (addf (res_main_v152 V0) (broadcastInDim S256x128 ![] bcast_S_S256x128 (constant S_ .f32 0x3F800000#32))) := by
  unfold val3_2
  simp only [ops_part3_1, TRef.ternary, TRef.unary, TRef.toBuf, TRef.ofBuf, cast_eq]
  after_results_simp
  try dsimp only [Matrix.cons_val]
  try after_results_simp
  simp only [val3_1_main_v152, val3_1_main_v156] <;> rfl

/-- The device's buffer contents after @main's first 4 windows. -/
def val4 (V0 : Valuation τ sig (Elt F)) : Valuation τ sig (Elt F) := after ops_part3_2 (val3_2 V0)

/-- The buffers that window `ops_part3_2`'s operations write. -/
abbrev ops_part3_2_W : List (Ref sig .tc) := [main_v197, main_cst_33, main_v198, main_v199, main_v200, main_v201, main_v202, main_cst_34]

set_option maxRecDepth 8192 in
theorem ops_part3_2_writes : (ops_part3_2 : List (HloOp τ sig (Elt F))).Forall fun op => op.writes ⊆ (ops_part3_2_W.map (Proc.devRef (τ := τ) .tc)).toFinset := by
  simp only [List.Forall]
  repeat' apply And.intro
  all_goals
    simp only [nullary_writes, unary_writes, binary_writes, ternary_writes, quaternary_writes, reshape_writes, binaryIndexed_writes, nary_writes, unaryIndexed_writes, Finset.singleton_subset_iff, List.mem_toFinset]
    exact List.mem_map_of_mem (by decide)

/-- A buffer that window `ops_part3_2` does not write keeps its contents through it. -/
theorem val4_keep (V0 : Valuation τ sig (Elt F)) (r : Ref sig .tc) (h : r ∉ ops_part3_2_W) :
    val4 V0 (Proc.devRef .tc r) = val3_2 V0 (Proc.devRef .tc r) :=
  after_of_writes_sub ops_part3_2 _ ops_part3_2_writes h

theorem val4_main_arg1 (V0 : Valuation τ sig (Elt F)) : val4 V0 (no_index (Proc.devRef .tc main_arg1)) = V0 (Proc.devRef .tc main_arg1) :=
  (val4_keep V0 main_arg1 (by decide)).trans (val3_2_main_arg1 V0)

theorem val4_main_arg2 (V0 : Valuation τ sig (Elt F)) : val4 V0 (no_index (Proc.devRef .tc main_arg2)) = V0 (Proc.devRef .tc main_arg2) :=
  (val4_keep V0 main_arg2 (by decide)).trans (val3_2_main_arg2 V0)

theorem val4_main_v134 (V0 : Valuation τ sig (Elt F)) : val4 V0 (no_index (Proc.devRef .tc main_v134)) = res_main_v134 V0 :=
  (val4_keep V0 main_v134 (by decide)).trans (val3_2_main_v134 V0)

theorem val4_main_v136 (V0 : Valuation τ sig (Elt F)) : val4 V0 (no_index (Proc.devRef .tc main_v136)) = res_main_v136 V0 :=
  (val4_keep V0 main_v136 (by decide)).trans (val3_2_main_v136 V0)

theorem val4_main_v138 (V0 : Valuation τ sig (Elt F)) : val4 V0 (no_index (Proc.devRef .tc main_v138)) = res_main_v138 V0 :=
  (val4_keep V0 main_v138 (by decide)).trans (val3_2_main_v138 V0)

theorem val4_main_v140 (V0 : Valuation τ sig (Elt F)) : val4 V0 (no_index (Proc.devRef .tc main_v140)) = res_main_v140 V0 :=
  (val4_keep V0 main_v140 (by decide)).trans (val3_2_main_v140 V0)

theorem val4_main_v152 (V0 : Valuation τ sig (Elt F)) : val4 V0 (no_index (Proc.devRef .tc main_v152)) = res_main_v152 V0 :=
  (val4_keep V0 main_v152 (by decide)).trans (val3_2_main_v152 V0)

theorem val4_main_v154 (V0 : Valuation τ sig (Elt F)) : val4 V0 (no_index (Proc.devRef .tc main_v154)) = res_main_v154 V0 :=
  (val4_keep V0 main_v154 (by decide)).trans (val3_2_main_v154 V0)

theorem val4_main_v155 (V0 : Valuation τ sig (Elt F)) : val4 V0 (no_index (Proc.devRef .tc main_v155)) = res_main_v155 V0 :=
  (val4_keep V0 main_v155 (by decide)).trans (val3_2_main_v155 V0)

theorem val4_main_v156 (V0 : Valuation τ sig (Elt F)) : val4 V0 (no_index (Proc.devRef .tc main_v156)) = res_main_v156 V0 :=
  (val4_keep V0 main_v156 (by decide)).trans (val3_2_main_v156 V0)

theorem val4_main_v177 (V0 : Valuation τ sig (Elt F)) : val4 V0 (no_index (Proc.devRef .tc main_v177)) = res_main_v177 V0 :=
  (val4_keep V0 main_v177 (by decide)).trans (val3_2_main_v177 V0)

theorem val4_main_v182 (V0 : Valuation τ sig (Elt F)) : val4 V0 (no_index (Proc.devRef .tc main_v182)) = Host.exp (mulf (broadcastInDim S256x128 ![] bcast_S_S256x128 (res_main_v153 V0)) (addf (res_main_v152 V0) (broadcastInDim S256x128 ![] bcast_S_S256x128 (constant S_ .f32 0x3F800000#32)))) :=
  (val4_keep V0 main_v182 (by decide)).trans (val3_2_main_v182 V0)

theorem val4_main_v187 (V0 : Valuation τ sig (Elt F)) : val4 V0 (no_index (Proc.devRef .tc main_v187)) = Host.exp (mulf (broadcastInDim S256x128 ![] bcast_S_S256x128 (res_main_v154 V0)) (addf (res_main_v152 V0) (broadcastInDim S256x128 ![] bcast_S_S256x128 (constant S_ .f32 0x3F800000#32)))) :=
  (val4_keep V0 main_v187 (by decide)).trans (val3_2_main_v187 V0)

theorem val4_main_v192 (V0 : Valuation τ sig (Elt F)) : val4 V0 (no_index (Proc.devRef .tc main_v192)) = Host.exp (mulf (broadcastInDim S256x128 ![] bcast_S_S256x128 (res_main_v155 V0)) (addf (res_main_v152 V0) (broadcastInDim S256x128 ![] bcast_S_S256x128 (constant S_ .f32 0x3F800000#32)))) :=
  (val4_keep V0 main_v192 (by decide)).trans (val3_2_main_v192 V0)

set_option maxRecDepth 8192 in
theorem val4_main_v197 (V0 : Valuation τ sig (Elt F)) : val4 V0 (no_index (Proc.devRef .tc main_v197)) = Host.exp (mulf (broadcastInDim S256x128 ![] bcast_S_S256x128 (res_main_v156 V0)) (addf (res_main_v152 V0) (broadcastInDim S256x128 ![] bcast_S_S256x128 (constant S_ .f32 0x3F800000#32)))) := by
  unfold val4
  simp only [ops_part3_2]
  after_results_simp
  simp only [val3_2_main_v196] <;> rfl

set_option maxRecDepth 8192 in
theorem val4_main_v202 (V0 : Valuation τ sig (Elt F)) : val4 V0 (no_index (Proc.devRef .tc main_v202)) = Host.exp (mulf (broadcastInDim S256x128 ![] bcast_S_S256x128 (res_main_v153 V0)) (subf (broadcastInDim S256x128 ![] bcast_S_S256x128 (constant S_ .f32 0x437F0000#32)) (res_main_v152 V0))) := by
  unfold val4
  simp only [ops_part3_2]
  after_results_simp
  simp only [val3_2_main_v152, val3_2_main_v153] <;> rfl

set_option maxRecDepth 8192 in
theorem val4_main_cst_34 (V0 : Valuation τ sig (Elt F)) : val4 V0 (no_index (Proc.devRef .tc main_cst_34)) = constant S_ .f32 0x437F0000#32 := by
  unfold val4
  simp only [ops_part3_2]
  after_results_simp
  all_goals rfl

/-- The device's buffer contents after @main's first 324 operations. -/
def val4_1 (V0 : Valuation τ sig (Elt F)) : Valuation τ sig (Elt F) := after ops_part4_0 (val4 V0)

/-- The buffers that window `ops_part4_0`'s operations write. -/
abbrev ops_part4_0_W : List (Ref sig .tc) := [main_v203, main_v204, main_v205, main_v206, main_v207, main_cst_35, main_v208, main_v209, main_v210, main_v211, main_v212, main_cst_36, main_v213, main_v214, main_v215, main_v216, main_v217, main_v218, main_v219, main_v220, main_v221, main_v222, main_v223, main_v224, main_v225, main_v226, main_cst_37, main_cst_38, main_call8_v0, main_call8_v1]

set_option maxRecDepth 8192 in
theorem ops_part4_0_writes : (ops_part4_0 : List (HloOp τ sig (Elt F))).Forall fun op => op.writes ⊆ (ops_part4_0_W.map (Proc.devRef (τ := τ) .tc)).toFinset := by
  simp only [List.Forall]
  repeat' apply And.intro
  all_goals
    simp only [nullary_writes, unary_writes, binary_writes, ternary_writes, quaternary_writes, reshape_writes, binaryIndexed_writes, nary_writes, unaryIndexed_writes, Finset.singleton_subset_iff, List.mem_toFinset]
    exact List.mem_map_of_mem (by decide)

/-- A buffer that window `ops_part4_0` does not write keeps its contents through it. -/
theorem val4_1_keep (V0 : Valuation τ sig (Elt F)) (r : Ref sig .tc) (h : r ∉ ops_part4_0_W) :
    val4_1 V0 (Proc.devRef .tc r) = val4 V0 (Proc.devRef .tc r) :=
  after_of_writes_sub ops_part4_0 _ ops_part4_0_writes h

theorem val4_1_main_arg1 (V0 : Valuation τ sig (Elt F)) : val4_1 V0 (no_index (Proc.devRef .tc main_arg1)) = V0 (Proc.devRef .tc main_arg1) :=
  (val4_1_keep V0 main_arg1 (by decide)).trans (val4_main_arg1 V0)

theorem val4_1_main_arg2 (V0 : Valuation τ sig (Elt F)) : val4_1 V0 (no_index (Proc.devRef .tc main_arg2)) = V0 (Proc.devRef .tc main_arg2) :=
  (val4_1_keep V0 main_arg2 (by decide)).trans (val4_main_arg2 V0)

theorem val4_1_main_v134 (V0 : Valuation τ sig (Elt F)) : val4_1 V0 (no_index (Proc.devRef .tc main_v134)) = res_main_v134 V0 :=
  (val4_1_keep V0 main_v134 (by decide)).trans (val4_main_v134 V0)

theorem val4_1_main_v136 (V0 : Valuation τ sig (Elt F)) : val4_1 V0 (no_index (Proc.devRef .tc main_v136)) = res_main_v136 V0 :=
  (val4_1_keep V0 main_v136 (by decide)).trans (val4_main_v136 V0)

theorem val4_1_main_v138 (V0 : Valuation τ sig (Elt F)) : val4_1 V0 (no_index (Proc.devRef .tc main_v138)) = res_main_v138 V0 :=
  (val4_1_keep V0 main_v138 (by decide)).trans (val4_main_v138 V0)

theorem val4_1_main_v140 (V0 : Valuation τ sig (Elt F)) : val4_1 V0 (no_index (Proc.devRef .tc main_v140)) = res_main_v140 V0 :=
  (val4_1_keep V0 main_v140 (by decide)).trans (val4_main_v140 V0)

theorem val4_1_main_v177 (V0 : Valuation τ sig (Elt F)) : val4_1 V0 (no_index (Proc.devRef .tc main_v177)) = res_main_v177 V0 :=
  (val4_1_keep V0 main_v177 (by decide)).trans (val4_main_v177 V0)

set_option maxRecDepth 8192 in
set_option maxHeartbeats 2000000 in
theorem val4_1_main_v226 (V0 : Valuation τ sig (Elt F)) : val4_1 V0 (no_index (Proc.devRef .tc main_v226)) = res_main_v226 V0 := by
  unfold val4_1
  simp only [ops_part4_0, TRef.unary, TRef.toBuf, TRef.ofBuf, cast_eq]
  after_results_simp
  try dsimp only [Matrix.cons_val]
  try after_results_simp
  simp only [val4_main_v152, val4_main_v156, val4_main_v155, val4_main_cst_34, val4_main_v154, val4_main_v202, val4_main_v197, val4_main_v192, val4_main_v187, val4_main_v182] <;> rfl

set_option maxRecDepth 8192 in
set_option maxHeartbeats 2000000 in
theorem val4_1_main_call8_v0 (V0 : Valuation τ sig (Elt F)) : val4_1 V0 (no_index (Proc.devRef .tc main_call8_v0)) = res_main_call8_v0 V0 := by
  unfold val4_1
  simp only [ops_part4_0, TRef.unary, TRef.toBuf, TRef.ofBuf, cast_eq]
  after_results_simp
  try dsimp only [Matrix.cons_val]
  try after_results_simp
  all_goals rfl

set_option maxRecDepth 8192 in
set_option maxHeartbeats 2000000 in
theorem val4_1_main_call8_v1 (V0 : Valuation τ sig (Elt F)) : val4_1 V0 (no_index (Proc.devRef .tc main_call8_v1)) = res_main_call8_v1 V0 := by
  unfold val4_1
  simp only [ops_part4_0, TRef.unary, TRef.toBuf, TRef.ofBuf, cast_eq]
  after_results_simp
  try dsimp only [Matrix.cons_val]
  try after_results_simp
  all_goals rfl

/-- The device's buffer contents after @main's first 354 operations. -/
def val4_2 (V0 : Valuation τ sig (Elt F)) : Valuation τ sig (Elt F) := after ops_part4_1 (val4_1 V0)

/-- The buffers that window `ops_part4_1`'s operations write. -/
abbrev ops_part4_1_W : List (Ref sig .tc) := [main_call8_v2, main_call8_cst, main_call8_v3, main_call8_v4, main_call8_cst_0, main_call8_v5, main_call8_v6, main_call8_v7, main_call8_cst_1, main_call8_v8, main_call8_v9, main_call8_v10, main_call8_v11, main_call8_v12, main_call8_v13, main_call8_v14, main_call8_v15, main_call8_v16, main_v227, main_cst_39, main_v228, main_v229, main_cst_40, main_v230, main_v231, main_v232, main_v233, main_v234, main_v235, main_v236]

set_option maxRecDepth 8192 in
theorem ops_part4_1_writes : (ops_part4_1 : List (HloOp τ sig (Elt F))).Forall fun op => op.writes ⊆ (ops_part4_1_W.map (Proc.devRef (τ := τ) .tc)).toFinset := by
  simp only [List.Forall]
  repeat' apply And.intro
  all_goals
    simp only [nullary_writes, unary_writes, binary_writes, ternary_writes, quaternary_writes, reshape_writes, binaryIndexed_writes, nary_writes, unaryIndexed_writes, Finset.singleton_subset_iff, List.mem_toFinset]
    exact List.mem_map_of_mem (by decide)

/-- A buffer that window `ops_part4_1` does not write keeps its contents through it. -/
theorem val4_2_keep (V0 : Valuation τ sig (Elt F)) (r : Ref sig .tc) (h : r ∉ ops_part4_1_W) :
    val4_2 V0 (Proc.devRef .tc r) = val4_1 V0 (Proc.devRef .tc r) :=
  after_of_writes_sub ops_part4_1 _ ops_part4_1_writes h

theorem val4_2_main_arg1 (V0 : Valuation τ sig (Elt F)) : val4_2 V0 (no_index (Proc.devRef .tc main_arg1)) = V0 (Proc.devRef .tc main_arg1) :=
  (val4_2_keep V0 main_arg1 (by decide)).trans (val4_1_main_arg1 V0)

theorem val4_2_main_arg2 (V0 : Valuation τ sig (Elt F)) : val4_2 V0 (no_index (Proc.devRef .tc main_arg2)) = V0 (Proc.devRef .tc main_arg2) :=
  (val4_2_keep V0 main_arg2 (by decide)).trans (val4_1_main_arg2 V0)

theorem val4_2_main_v134 (V0 : Valuation τ sig (Elt F)) : val4_2 V0 (no_index (Proc.devRef .tc main_v134)) = res_main_v134 V0 :=
  (val4_2_keep V0 main_v134 (by decide)).trans (val4_1_main_v134 V0)

theorem val4_2_main_v136 (V0 : Valuation τ sig (Elt F)) : val4_2 V0 (no_index (Proc.devRef .tc main_v136)) = res_main_v136 V0 :=
  (val4_2_keep V0 main_v136 (by decide)).trans (val4_1_main_v136 V0)

theorem val4_2_main_v138 (V0 : Valuation τ sig (Elt F)) : val4_2 V0 (no_index (Proc.devRef .tc main_v138)) = res_main_v138 V0 :=
  (val4_2_keep V0 main_v138 (by decide)).trans (val4_1_main_v138 V0)

theorem val4_2_main_v140 (V0 : Valuation τ sig (Elt F)) : val4_2 V0 (no_index (Proc.devRef .tc main_v140)) = res_main_v140 V0 :=
  (val4_2_keep V0 main_v140 (by decide)).trans (val4_1_main_v140 V0)

theorem val4_2_main_v177 (V0 : Valuation τ sig (Elt F)) : val4_2 V0 (no_index (Proc.devRef .tc main_v177)) = res_main_v177 V0 :=
  (val4_2_keep V0 main_v177 (by decide)).trans (val4_1_main_v177 V0)

theorem val4_2_main_v226 (V0 : Valuation τ sig (Elt F)) : val4_2 V0 (no_index (Proc.devRef .tc main_v226)) = res_main_v226 V0 :=
  (val4_2_keep V0 main_v226 (by decide)).trans (val4_1_main_v226 V0)

set_option maxRecDepth 8192 in
set_option maxHeartbeats 2000000 in
theorem val4_2_main_v231 (V0 : Valuation τ sig (Elt F)) : val4_2 V0 (no_index (Proc.devRef .tc main_v231)) = res_main_v231 V0 := by
  unfold val4_2
  simp only [ops_part4_1, TRef.binary, TRef.nullary, TRef.reshape, TRef.unary, TRef.toBuf, TRef.ofBuf, cast_eq]
  after_results_simp
  simp only [val4_1_main_call8_v1, val4_1_main_call8_v0] <;> rfl

set_option maxRecDepth 8192 in
set_option maxHeartbeats 2000000 in
theorem val4_2_main_v235 (V0 : Valuation τ sig (Elt F)) : val4_2 V0 (no_index (Proc.devRef .tc main_v235)) = broadcastInDim S256x64 ![0, 1] bcast_S256x1_S256x64_0_1 (broadcastInDim S256x1 ![0] bcast_S256_S256x1_0 (sitofp .f32 (iotaInDim S256 32 0))) := by
  unfold val4_2
  simp only [ops_part4_1, TRef.binary, TRef.nullary, TRef.reshape, TRef.unary, TRef.toBuf, TRef.ofBuf, cast_eq]
  after_results_simp
  all_goals rfl

set_option maxRecDepth 8192 in
set_option maxHeartbeats 2000000 in
theorem val4_2_main_v236 (V0 : Valuation τ sig (Elt F)) : val4_2 V0 (no_index (Proc.devRef .tc main_v236)) = broadcastInDim S256x64 ![0, 1] bcast_S1x64_S256x64_0_1 (broadcastInDim S1x64 ![1] bcast_S64_S1x64_1 (res_main_v231 V0)) := by
  unfold val4_2
  simp only [ops_part4_1, TRef.binary, TRef.nullary, TRef.reshape, TRef.unary, TRef.toBuf, TRef.ofBuf, cast_eq]
  after_results_simp
  simp only [val4_1_main_call8_v1, val4_1_main_call8_v0] <;> rfl

/-- The device's buffer contents after @main's first 5 windows. -/
def val5 (V0 : Valuation τ sig (Elt F)) : Valuation τ sig (Elt F) := after ops_part4_2 (val4_2 V0)

/-- The buffers that window `ops_part4_2`'s operations write. -/
abbrev ops_part4_2_W : List (Ref sig .tc) := [main_v237, main_v238, main_cst_41, main_v239, main_v240, main_v241, main_v242, main_v243, main_v244, main_v245, main_v246, main_v247, main_v248, main_v249, main_v250, main_v251, main_v252, main_v253, main_v254, main_v255]

set_option maxRecDepth 8192 in
theorem ops_part4_2_writes : (ops_part4_2 : List (HloOp τ sig (Elt F))).Forall fun op => op.writes ⊆ (ops_part4_2_W.map (Proc.devRef (τ := τ) .tc)).toFinset := by
  simp only [List.Forall]
  repeat' apply And.intro
  all_goals
    simp only [nullary_writes, unary_writes, binary_writes, ternary_writes, quaternary_writes, reshape_writes, binaryIndexed_writes, nary_writes, unaryIndexed_writes, Finset.singleton_subset_iff, List.mem_toFinset]
    exact List.mem_map_of_mem (by decide)

/-- A buffer that window `ops_part4_2` does not write keeps its contents through it. -/
theorem val5_keep (V0 : Valuation τ sig (Elt F)) (r : Ref sig .tc) (h : r ∉ ops_part4_2_W) :
    val5 V0 (Proc.devRef .tc r) = val4_2 V0 (Proc.devRef .tc r) :=
  after_of_writes_sub ops_part4_2 _ ops_part4_2_writes h

theorem val5_main_arg1 (V0 : Valuation τ sig (Elt F)) : val5 V0 (no_index (Proc.devRef .tc main_arg1)) = V0 (Proc.devRef .tc main_arg1) :=
  (val5_keep V0 main_arg1 (by decide)).trans (val4_2_main_arg1 V0)

theorem val5_main_arg2 (V0 : Valuation τ sig (Elt F)) : val5 V0 (no_index (Proc.devRef .tc main_arg2)) = V0 (Proc.devRef .tc main_arg2) :=
  (val5_keep V0 main_arg2 (by decide)).trans (val4_2_main_arg2 V0)

theorem val5_main_v134 (V0 : Valuation τ sig (Elt F)) : val5 V0 (no_index (Proc.devRef .tc main_v134)) = res_main_v134 V0 :=
  (val5_keep V0 main_v134 (by decide)).trans (val4_2_main_v134 V0)

theorem val5_main_v136 (V0 : Valuation τ sig (Elt F)) : val5 V0 (no_index (Proc.devRef .tc main_v136)) = res_main_v136 V0 :=
  (val5_keep V0 main_v136 (by decide)).trans (val4_2_main_v136 V0)

theorem val5_main_v138 (V0 : Valuation τ sig (Elt F)) : val5 V0 (no_index (Proc.devRef .tc main_v138)) = res_main_v138 V0 :=
  (val5_keep V0 main_v138 (by decide)).trans (val4_2_main_v138 V0)

theorem val5_main_v140 (V0 : Valuation τ sig (Elt F)) : val5 V0 (no_index (Proc.devRef .tc main_v140)) = res_main_v140 V0 :=
  (val5_keep V0 main_v140 (by decide)).trans (val4_2_main_v140 V0)

theorem val5_main_v177 (V0 : Valuation τ sig (Elt F)) : val5 V0 (no_index (Proc.devRef .tc main_v177)) = res_main_v177 V0 :=
  (val5_keep V0 main_v177 (by decide)).trans (val4_2_main_v177 V0)

theorem val5_main_v226 (V0 : Valuation τ sig (Elt F)) : val5 V0 (no_index (Proc.devRef .tc main_v226)) = res_main_v226 V0 :=
  (val5_keep V0 main_v226 (by decide)).trans (val4_2_main_v226 V0)

set_option maxRecDepth 8192 in
set_option maxHeartbeats 2000000 in
theorem val5_main_v245 (V0 : Valuation τ sig (Elt F)) : val5 V0 (no_index (Proc.devRef .tc main_v245)) = res_main_v245 V0 := by
  unfold val5
  simp only [ops_part4_2]
  after_results_simp
  simp only [val4_2_main_v231] <;> rfl

set_option maxRecDepth 8192 in
set_option maxHeartbeats 2000000 in
theorem val5_main_v251 (V0 : Valuation τ sig (Elt F)) : val5 V0 (no_index (Proc.devRef .tc main_v251)) = concatenate S256x128 1 [⟨S256x64, (Host.negf (res_main_v246 V0))⟩, ⟨S256x64, (res_main_v246 V0)⟩] concatenates_S256x64_S256x64_S256x128_d1 := by
  unfold val5
  simp only [ops_part4_2]
  after_results_simp
  simp only [val4_2_main_v236, val4_2_main_v235] <;> rfl

set_option maxRecDepth 8192 in
set_option maxHeartbeats 2000000 in
theorem val5_main_v253 (V0 : Valuation τ sig (Elt F)) : val5 V0 (no_index (Proc.devRef .tc main_v253)) = concatenate S256x128 1 [⟨S256x64, (Host.negf (res_main_v247 V0))⟩, ⟨S256x64, (res_main_v247 V0)⟩] concatenates_S256x64_S256x64_S256x128_d1 := by
  unfold val5
  simp only [ops_part4_2]
  after_results_simp
  simp only [val4_2_main_v236, val4_2_main_v235] <;> rfl

set_option maxRecDepth 8192 in
set_option maxHeartbeats 2000000 in
theorem val5_main_v254 (V0 : Valuation τ sig (Elt F)) : val5 V0 (no_index (Proc.devRef .tc main_v254)) = broadcastInDim S1x256x128 ![1, 2] bcast_S256x128_S1x256x128_1_2 (concatenate S256x128 1 [⟨S256x64, (res_main_v246 V0)⟩, ⟨S256x64, (res_main_v246 V0)⟩] concatenates_S256x64_S256x64_S256x128_d1) := by
  unfold val5
  simp only [ops_part4_2]
  after_results_simp
  simp only [val4_2_main_v236, val4_2_main_v235] <;> rfl

set_option maxRecDepth 8192 in
set_option maxHeartbeats 2000000 in
theorem val5_main_v255 (V0 : Valuation τ sig (Elt F)) : val5 V0 (no_index (Proc.devRef .tc main_v255)) = broadcastInDim S1x256x128 ![1, 2] bcast_S256x128_S1x256x128_1_2 (concatenate S256x128 1 [⟨S256x64, (res_main_v247 V0)⟩, ⟨S256x64, (res_main_v247 V0)⟩] concatenates_S256x64_S256x64_S256x128_d1) := by
  unfold val5
  simp only [ops_part4_2]
  after_results_simp
  simp only [val4_2_main_v236, val4_2_main_v235] <;> rfl

/-- The device's buffer contents after @main's first 6 windows. -/
def val6 (V0 : Valuation τ sig (Elt F)) : Valuation τ sig (Elt F) := after ops_part5 (val5 V0)

/-- The buffers that window `main_part5`'s operations write. -/
abbrev ops_part5_W : List (Ref sig .tc) := [main_v256, main_v257, main_v258, main_v259, main_v260, main_v261, main_v262, main_v263, main_cst_42, main_v264]

set_option maxRecDepth 8192 in
theorem ops_part5_writes : (ops_part5 : List (HloOp τ sig (Elt F))).Forall fun op => op.writes ⊆ (ops_part5_W.map (Proc.devRef (τ := τ) .tc)).toFinset := by
  simp only [List.Forall]
  repeat' apply And.intro
  all_goals
    simp only [nullary_writes, unary_writes, binary_writes, ternary_writes, quaternary_writes, reshape_writes, binaryIndexed_writes, nary_writes, unaryIndexed_writes, Finset.singleton_subset_iff, List.mem_toFinset]
    exact List.mem_map_of_mem (by decide)

/-- A buffer that window `main_part5` does not write keeps its contents through it. -/
theorem val6_keep (V0 : Valuation τ sig (Elt F)) (r : Ref sig .tc) (h : r ∉ ops_part5_W) :
    val6 V0 (Proc.devRef .tc r) = val5 V0 (Proc.devRef .tc r) :=
  after_of_writes_sub ops_part5 _ ops_part5_writes h

theorem val6_main_arg1 (V0 : Valuation τ sig (Elt F)) : val6 V0 (no_index (Proc.devRef .tc main_arg1)) = V0 (Proc.devRef .tc main_arg1) :=
  (val6_keep V0 main_arg1 (by decide)).trans (val5_main_arg1 V0)

theorem val6_main_arg2 (V0 : Valuation τ sig (Elt F)) : val6 V0 (no_index (Proc.devRef .tc main_arg2)) = V0 (Proc.devRef .tc main_arg2) :=
  (val6_keep V0 main_arg2 (by decide)).trans (val5_main_arg2 V0)

theorem val6_main_v134 (V0 : Valuation τ sig (Elt F)) : val6 V0 (no_index (Proc.devRef .tc main_v134)) = res_main_v134 V0 :=
  (val6_keep V0 main_v134 (by decide)).trans (val5_main_v134 V0)

theorem val6_main_v136 (V0 : Valuation τ sig (Elt F)) : val6 V0 (no_index (Proc.devRef .tc main_v136)) = res_main_v136 V0 :=
  (val6_keep V0 main_v136 (by decide)).trans (val5_main_v136 V0)

theorem val6_main_v138 (V0 : Valuation τ sig (Elt F)) : val6 V0 (no_index (Proc.devRef .tc main_v138)) = res_main_v138 V0 :=
  (val6_keep V0 main_v138 (by decide)).trans (val5_main_v138 V0)

theorem val6_main_v140 (V0 : Valuation τ sig (Elt F)) : val6 V0 (no_index (Proc.devRef .tc main_v140)) = res_main_v140 V0 :=
  (val6_keep V0 main_v140 (by decide)).trans (val5_main_v140 V0)

theorem val6_main_v177 (V0 : Valuation τ sig (Elt F)) : val6 V0 (no_index (Proc.devRef .tc main_v177)) = res_main_v177 V0 :=
  (val6_keep V0 main_v177 (by decide)).trans (val5_main_v177 V0)

theorem val6_main_v226 (V0 : Valuation τ sig (Elt F)) : val6 V0 (no_index (Proc.devRef .tc main_v226)) = res_main_v226 V0 :=
  (val6_keep V0 main_v226 (by decide)).trans (val5_main_v226 V0)

set_option maxRecDepth 8192 in
set_option maxHeartbeats 1000000 in
theorem val6_main_v258 (V0 : Valuation τ sig (Elt F)) : val6 V0 (no_index (Proc.devRef .tc main_v258)) = res_main_v258 V0 := by
  unfold val6
  simp only [ops_part5]
  after_results_simp
  try dsimp only [Matrix.cons_val]
  try after_results_simp
  simp only [val5_main_v253, val5_main_v251, val5_main_v255, val5_main_v254] <;> rfl

set_option maxRecDepth 8192 in
set_option maxHeartbeats 1000000 in
theorem val6_main_v263 (V0 : Valuation τ sig (Elt F)) : val6 V0 (no_index (Proc.devRef .tc main_v263)) = res_main_v263 V0 := by
  unfold val6
  simp only [ops_part5]
  after_results_simp
  try dsimp only [Matrix.cons_val]
  try after_results_simp
  simp only [val5_main_v245] <;> rfl

theorem after_ops (V0 : Valuation τ sig (Elt F)) : after ops V0 = val6 V0 := by
  simp only [ops, ops_part0, ops_part1, ops_part2, ops_part3, ops_part4, after_append]
  rfl

/-- What the region finds in the buffers it reads, after the operations before it. -/
theorem entry_eq (m : (ℓ : Loc nD τ sig) → Buf (Elt F) ℓ) (c : Dev nD) (b : Ref sig .tc) :
    V m c b = val6 (fun b => m (c, b)) (Proc.devRef .tc b) := by
  rw [← after_ops]; rfl

end Cert.KernelIdeal.Entry

end
-- ==== Proof.Ref.lean ====
module

public import proofs.«01_k».proof.Proof.Gen.ReferenceIdeal.Run
public import proofs.«01_k».proof.Proof.Args
public import Idealize.ShloMosaic.Lib.Routing.Words
public import Idealize.ShloMosaic.Lib.WordCmp

/-! The reference's arrays at an index, as the reals of the layer's gradient. -/

@[expose] public section

set_option maxRecDepth 16384

noncomputable section

namespace Cert.ReferenceIdeal.Hand

open Cert.ReferenceIdeal Cert.ReferenceIdeal.Gen Cert.ReferenceIdeal.Value Idealize.ShloMosaic Idealize.ShloMosaic.TcCoe Idealize.SL.Sem Idealize.ShloMosaic.StableHlo
open Cert.Retention

variable (V0 : Valuation τ sig (Elt Ideal))

/-- The layer's arguments, read off the argument arrays. -/
abbrev arg : Arg := argOf (V0 (Proc.devRef .tc main_arg0)) (V0 (Proc.devRef .tc main_arg1)) (V0 (Proc.devRef .tc main_arg6))

/-- They are finite where the layer reads them. -/
abbrev Real0 : Prop := IsReal (V0 (Proc.devRef .tc main_arg0)) (V0 (Proc.devRef .tc main_arg1)) (V0 (Proc.devRef .tc main_arg6))

/-- The angle per position of channel `i`, computed as a power. -/
theorem inv_at (i : Fin 64) :
    Ideal.div 1 (Ideal.pow (Ideal.ofBits .f32 0x461C4000#32) ((((i : ℕ) : ℝ) / 63 : ℝ) : EReal)) = (((arg V0).inv i : ℝ) : EReal) := by
  rw [word_10000, Ideal.pow_coe_coe, ← EReal.coe_one]
  exact div_real _ _ (Real.rpow_pos_of_pos (by norm_num) _).ne'

/-- A sum over two axes of one element each is the element. -/
theorem sum_ones (hr : S1x8192x4x1.ReducesTo [0, 3] S8192x4) (x : S1x8192x4x1.Idx → EReal) (s : Fin 8192) (h : Fin 4) :
    Ideal.hostReduceAdd hr x 0 (ix2 s h) = x (ix4 0 s h 0) := by
  unfold Ideal.hostReduceAdd
  rw [zero_add, show Finset.univ.filter (fun i => hr.drop i = ix2 s h) = {ix4 0 s h 0} from ?_, Finset.sum_singleton]
  ext i
  simp only [Finset.mem_filter, Finset.mem_univ, true_and, Finset.mem_singleton]
  have h1 := hr.drop_apply_val_of_eq i 0 1
  have h2 := hr.drop_apply_val_of_eq i 1 2
  constructor
  · intro e
    rw [e] at h1 h2
    funext b
    fin_cases b
    · exact Subsingleton.elim (α := Fin 1) _ _
    · exact Fin.ext h1.symm
    · exact Fin.ext h2.symm
    · exact Subsingleton.elim (α := Fin 1) _ _
  · intro e
    rw [e] at h1 h2 ⊢
    funext b
    fin_cases b
    · exact Fin.ext h1
    · exact Fin.ext h2

theorem const_zero : id (constant S_ .f32 0#32 : FVec Ideal S_ .f32) ix0 = ((0 : ℝ) : EReal) := by
  simp [constant, Ideal.ofBits, Ideal.ieee]

theorem const_one : id (constant S_ .f32 1065353216#32 : FVec Ideal S_ .f32) ix0 = ((1 : ℝ) : EReal) := by
  exact Ideal.ofBits_one_f32.trans EReal.coe_one.symm

theorem v14_at (s : Fin 8192) (i : Fin 64) :
    @Eq EReal (res_main_v14 V0 (ix2 s i)) ((((s : ℕ) : ℝ) * (arg V0).inv i : ℝ) : EReal) := by
  pointwise [res_main_v14, res_main_v0, res_main_call0_v0, res_main_call0_v1, res_main_call0_v6]
  rw [word_real _ (by omega), EReal.coe_mul, ← inv_at]
  congr 3
  rw [word_real _ (by omega), word_63, div_real _ _ (by norm_num)]
  rw [const_zero, const_one]
  split_ifs with h
  · norm_cast; congr 1; ring
  · norm_cast; rw [show (i : ℕ) = 63 by omega]; norm_num

theorem v44_at (s : Fin 8192) (i : Fin 64) :
    @Eq EReal (res_main_v44 V0 (ix2 s i)) ((((s : ℕ) : ℝ) * (arg V0).inv i : ℝ) : EReal) := v14_at V0 s i

section

variable (H : Real0 V0)
include H

theorem v4_at (s : Fin 8192) (h : Fin 4) (d : Fin 128) : @Eq EReal (res_main_v4 V0 (ix3 s h d)) (((arg V0).xq s h d : ℝ) : EReal) := by
  pointwise [res_main_v4]
  exact xq_at H s h d _ rfl

theorem v34_at (s : Fin 8192) (h : Fin 4) (d : Fin 128) : @Eq EReal (res_main_v34 V0 (ix3 s h d)) (((arg V0).xk s h d : ℝ) : EReal) := by
  pointwise [res_main_v34]
  exact xk_at H s h d _ rfl

theorem v62_at (s : Fin 8192) (h : Fin 4) (d : Fin 128) : @Eq EReal (res_main_v62 V0 (ix3 s h d)) (((arg V0).v s h d : ℝ) : EReal) := by
  pointwise [res_main_v62]
  exact v_at H s h d _ rfl

theorem v33_at (s : Fin 8192) (h : Fin 4) (d : Fin 128) : @Eq EReal (res_main_v33 V0 (ix3 s h d)) ((q (arg V0) s h d : ℝ) : EReal) := by
  pointwise [res_main_v33, res_main_v19, res_main_v20, res_main_v16, res_main_v18]
  unfold q rot
  rw [word_c0, EReal.coe_mul]
  refine congrArg (· * _) ?_
  by_cases hd : (d : ℕ) < 64
  · rw [dif_pos hd, dif_pos hd]
    rw [v4_at V0 H, v4_at V0 H, v14_at, Ideal.cos_coe, Ideal.sin_coe]
    norm_cast
    simp only [add_comm]
  · rw [dif_neg hd, dif_neg hd]
    rw [v4_at V0 H, v4_at V0 H, v14_at, Ideal.cos_coe, Ideal.sin_coe]
    norm_cast
    rw [show (⟨64 + ((d : ℕ) - 64), by omega⟩ : Fin 128) = d from Fin.ext (by simp only; omega)]

theorem v61_at (s : Fin 8192) (h : Fin 4) (d : Fin 128) : @Eq EReal (res_main_v61 V0 (ix3 s h d)) ((k (arg V0) s h d : ℝ) : EReal) := by
  pointwise [res_main_v61, res_main_v49, res_main_v50, res_main_v46, res_main_v48]
  unfold k rot
  by_cases hd : (d : ℕ) < 64
  · rw [dif_pos hd, dif_pos hd]
    rw [v34_at V0 H, v34_at V0 H, v44_at, Ideal.cos_coe, Ideal.sin_coe]
    norm_cast
    simp only [add_comm]
  · rw [dif_neg hd, dif_neg hd]
    rw [v34_at V0 H, v34_at V0 H, v44_at, Ideal.cos_coe, Ideal.sin_coe]
    norm_cast
    rw [show (⟨64 + ((d : ℕ) - 64), by omega⟩ : Fin 128) = d from Fin.ext (by simp only; omega)]

omit H in
/-- The logarithm of a head's decay, taken from the head's number. -/
theorem log_gam (h : Fin 4) :
    Ideal.log (1 - Ideal.pow ((2 : ℝ) : EReal) (((-5 : ℝ) : EReal) - ((((h : ℕ) : ℝ)) : EReal))) = ((Real.log (gam h) : ℝ) : EReal) := by
  rw [← EReal.coe_sub, Ideal.pow_coe_coe, ← EReal.coe_one, ← EReal.coe_sub]
  rw [show (1 : ℝ) - Real.rpow 2 (-5 - ((h : ℕ) : ℝ)) = gam h from ?_, log_real _ (gam_pos h)]
  unfold gam
  rw [show ((-5 : ℝ) - ((h : ℕ) : ℝ)) = -(((5 + (h : ℕ) : ℕ)) : ℝ) by push_cast; ring]
  rw [show Real.rpow 2 (-(((5 + (h : ℕ) : ℕ)) : ℝ)) = (2 : ℝ) ^ (-(((5 + (h : ℕ) : ℕ)) : ℝ)) from rfl, Real.rpow_neg (by norm_num), Real.rpow_natCast, one_div]

omit H in
theorem v93_at (h : Fin 4) (t s : Fin 8192) : @Eq EReal (res_main_v93 V0 (ix3 h t s)) ((wgt (gam h) t s : ℝ) : EReal) := by
  pointwise [res_main_v93, res_main_v75, res_main_v72]
  rw [Routing.divsi_word _ (by omega) (by norm_num) (by norm_num), Routing.divsi_word _ (by omega) (by norm_num) (by norm_num),
    WordCmp.cmpi_sle_ofNat (by omega) (by omega), word_real _ (by omega), word_real _ (by omega), word_real _ (by omega), word_2, word_neg5, const_zero]
  rw [log_gam, ← EReal.coe_sub]
  rw [show FloatOps.absf (F := Ideal) (φ := .f32) ((((t : ℕ) : ℝ) - ((s : ℕ) : ℝ) : ℝ) : EReal) = (((dist t s : ℕ) : ℝ) : EReal) from (abs_real _).trans (congrArg _ (abs_dist t s))]
  rw [← EReal.coe_mul, Ideal.exp_coe, exp_log_real _ (gam_pos h)]
  unfold wgt Scalar.select
  by_cases hc : (s : ℕ) / 64 ≤ (t : ℕ) / 64
  · simp [hc]
  · simp [hc]

theorem v94_at (h : Fin 4) (t s : Fin 8192) : @Eq EReal (res_main_v94 V0 (ix3 h t s)) ((score (arg V0) h t s * wgt (gam h) t s : ℝ) : EReal) := by
  pointwise [res_main_v94]
  simp only [v33_at V0 H, v61_at V0 H, v93_at, ← EReal.coe_mul, coe_sum]
  rfl

theorem v97_at (s : Fin 8192) (h : Fin 4) (e : Fin 128) : @Eq EReal (res_main_v97 V0 (ix4 0 s h e)) ((o (arg V0) s h e : ℝ) : EReal) := by
  pointwise [res_main_v97]
  simp only [v94_at V0 H, v62_at V0 H, ← EReal.coe_mul, coe_sum]
  rfl

theorem v104_at (s : Fin 8192) (h : Fin 4) (e : Fin 128) : @Eq EReal (res_main_v104 V0 (ix4 0 s h e)) ((oc (arg V0) s h e : ℝ) : EReal) := by
  pointwise [res_main_v104]
  simp only [v97_at V0 H, coe_sum, word_128]
  rw [div_real _ _ (by norm_num)]
  rfl

theorem v113_at (s : Fin 8192) (h : Fin 4) : @Eq EReal (res_main_v113 V0 (ix4 0 s h 0)) ((va (arg V0) s h : ℝ) : EReal) := by
  pointwise [res_main_v113]
  simp only [v104_at V0 H, ← EReal.coe_mul, coe_sum, word_128, word_eps]
  rw [div_real _ _ (by norm_num)]
  rfl

theorem v114_at (s : Fin 8192) (h : Fin 4) : @Eq EReal (res_main_v114 V0 (ix4 0 s h 0)) ((rs (arg V0) s h : ℝ) : EReal) := by
  pointwise [res_main_v114]
  rw [v113_at V0 H, rsqrt_real _ (va_pos _ s h)]
  rfl

theorem v125_at (s : Fin 8192) (h : Fin 4) (e : Fin 128) (c : Fin 512) (hc : (c : ℕ) = h * 128 + e) :
    @Eq EReal (res_main_v125 V0 (ix3 0 s c)) (((arg V0).x s h e : ℝ) : EReal) := by
  pointwise [res_main_v125]
  exact x_at H s h e _ (congrArg _ hc)

theorem v130_at (s : Fin 8192) (h : Fin 4) (e : Fin 128) (c : Fin 512) (hc : (c : ℕ) = h * 128 + e) :
    @Eq EReal (res_main_v130 V0 (ix3 0 s c)) (((arg V0).dm s h e : ℝ) : EReal) := by
  pointwise [res_main_v130]
  exact dm_at H s h e _ hc

theorem v121_at (h : Fin 4) (e : Fin 128) (c : Fin 512) (hc : (c : ℕ) = h * 128 + e) :
    @Eq EReal (res_main_v121 V0 (ix3 0 0 c)) (((arg V0).w h e : ℝ) : EReal) := by
  pointwise [res_main_v121]
  exact w_at H h e _ hc

theorem v126_at (s : Fin 8192) (h : Fin 4) (e : Fin 128) (c : Fin 512) (hc : (c : ℕ) = h * 128 + e) :
    @Eq EReal (res_main_v126_2 V0 (ix3 0 s c)) ((sg ((arg V0).x s h e) : ℝ) : EReal) := by
  pointwise [res_main_v126_2]
  rw [v125_at V0 H s h e c hc]
  rw [← EReal.coe_neg, Ideal.exp_coe, ← EReal.coe_one, ← EReal.coe_add, div_real _ _ (by positivity)]
  rfl

theorem v138_at (s : Fin 8192) (h : Fin 4) (e : Fin 128) : @Eq EReal (res_main_v138 V0 (ix4 0 s h e)) ((dn (arg V0) s h e : ℝ) : EReal) := by
  pointwise [res_main_v138, res_main_v126_0]
  rw [v130_at V0 H s h e _ rfl, v125_at V0 H s h e _ rfl, v126_at V0 H s h e _ rfl, v121_at V0 H h e _ rfl]
  norm_cast

theorem v151_at (s : Fin 8192) (h : Fin 4) (e : Fin 128) : @Eq EReal (res_main_v151 V0 (ix4 0 s h e)) ((dp1 (arg V0) s h e : ℝ) : EReal) := by
  pointwise [res_main_v151]
  rw [sum_ones]
  pointwise
  simp only [v138_at V0 H, v114_at V0 H, v113_at V0 H, v104_at V0 H, ← EReal.coe_mul, coe_sum, word_128, word_2, word_neg_half]
  rw [div_real _ _ (va_pos _ s h).ne', ← EReal.coe_mul, ← EReal.coe_mul, div_real _ _ (by norm_num)]
  norm_cast

theorem v162_at (h : Fin 4) (e : Fin 128) (s : Fin 8192) : @Eq EReal (res_main_v162 V0 (ix3 h e s)) ((dO (arg V0) s h e : ℝ) : EReal) := by
  pointwise [res_main_v162]
  rw [sum_ones, Fin.sum_univ_one]
  pointwise
  simp only [v151_at V0 H, ← EReal.coe_neg, coe_sum, word_128]
  rw [div_real _ _ (by norm_num)]
  norm_cast

theorem v166_at (h : Fin 4) (t s : Fin 8192) : @Eq EReal (res_main_v166 V0 (ix3 h t s)) ((dS (arg V0) h t s : ℝ) : EReal) := by
  pointwise [res_main_v166]
  simp only [v162_at V0 H, v62_at V0 H, v93_at, ← EReal.coe_mul, coe_sum]
  rfl

theorem v168_at (s : Fin 8192) (h : Fin 4) (d : Fin 128) : @Eq EReal (res_main_v168 V0 (ix3 s h d)) ((dK (arg V0) s h d : ℝ) : EReal) := by
  pointwise [res_main_v168]
  simp only [v166_at V0 H, v33_at V0 H, ← EReal.coe_mul, coe_sum]
  rfl

theorem v190_at (s : Fin 8192) (h : Fin 4) (d : Fin 128) : @Eq EReal (res_main_v190 V0 (ix3 s h d)) ((dQ (arg V0) s h d : ℝ) : EReal) := by
  pointwise [res_main_v190]
  simp only [v166_at V0 H, v61_at V0 H, ← EReal.coe_mul, coe_sum, word_c0]
  rfl

end

theorem cos_at (s : Fin 8192) (i : Fin 64) : @Eq EReal (res_main_v16 V0 (ix3 s 0 i)) ((Real.cos ((s : ℕ) * (arg V0).inv i) : ℝ) : EReal) := by
  pointwise [res_main_v16]
  rw [v14_at, Ideal.cos_coe]

theorem sin_at (s : Fin 8192) (i : Fin 64) : @Eq EReal (res_main_v18 V0 (ix3 s 0 i)) ((Real.sin ((s : ℕ) * (arg V0).inv i) : ℝ) : EReal) := by
  pointwise [res_main_v18]
  rw [v14_at, Ideal.sin_coe]

/-- The four gradients side by side, columns past the gate's left zero. -/
def out (G V K Q : FVec Ideal S8192x512 .f32) : FVec Ideal S8192x3712 .bf16 :=
  truncf .bf16 (addf (addf (addf
    (pad S8192x3712 ![0, 1536] ![0, 1664] ![0, 0] G (constant S_ .f32 0x00000000#32) pads_S8192x512_S8192x3712_000_153616640 h_S_)
    (pad S8192x3712 ![0, 1024] ![0, 2176] ![0, 0] V (constant S_ .f32 0x00000000#32) pads_S8192x512_S8192x3712_000_102421760 h_S_))
    (pad S8192x3712 ![0, 512] ![0, 2688] ![0, 0] K (constant S_ .f32 0x00000000#32) pads_S8192x512_S8192x3712_000_51226880 h_S_))
    (pad S8192x3712 ![0, 0] ![0, 3200] ![0, 0] Q (constant S_ .f32 0x00000000#32) pads_S8192x512_S8192x3712_000_032000 h_S_)) bitsLt_bf16_f32

/-- The rotation backwards: `Y` by the cosines `C` and the sines `N`. -/
def unr (Y : FVec Ideal S8192x4x128 .f32) (C N : FVec Ideal S8192x1x64 .f32) : FVec Ideal S8192x4x128 .f32 :=
  addf (pad S8192x4x128 ![0, 0, 64] ![0, 0, 0] ![0, 0, 0]
      (addf (mulf (extractStridedSlice S8192x4x64 ![0, 0, 64] Y slices_S8192x4x128_S8192x4x64_0_0_64) (broadcastInDim S8192x4x64 ![0, 1, 2] bcast_S8192x1x64_S8192x4x64_0_1_2 C))
        (mulf (Host.negf (extractStridedSlice S8192x4x64 ![0, 0, 0] Y slices_S8192x4x128_S8192x4x64_0_0_0)) (broadcastInDim S8192x4x64 ![0, 1, 2] bcast_S8192x1x64_S8192x4x64_0_1_2 N)))
      (constant S_ .f32 0x00000000#32) pads_S8192x4x64_S8192x4x128_000_000_6400 h_S_)
    (pad S8192x4x128 ![0, 0, 0] ![0, 0, 64] ![0, 0, 0]
      (addf (mulf (extractStridedSlice S8192x4x64 ![0, 0, 64] Y slices_S8192x4x128_S8192x4x64_0_0_64) (broadcastInDim S8192x4x64 ![0, 1, 2] bcast_S8192x1x64_S8192x4x64_0_1_2 N))
        (mulf (extractStridedSlice S8192x4x64 ![0, 0, 0] Y slices_S8192x4x128_S8192x4x64_0_0_0) (broadcastInDim S8192x4x64 ![0, 1, 2] bcast_S8192x1x64_S8192x4x64_0_1_2 C)))
      (constant S_ .f32 0x00000000#32) pads_S8192x4x64_S8192x4x128_000_000_0640 h_S_)

/-- The four side by side, at a column of block `p`. -/
theorem out_at (G V K Q : FVec Ideal S8192x512 .f32) (s : Fin 8192) (p : Fin 4) (e : Fin 512) (c : Fin 3712) (hc : (c : ℕ) = 512 * p + e) :
    @Eq EReal (out G V K Q (ix2 s c)) ((match p with | 0 => Q | 1 => K | 2 => V | 3 => G) (ix2 s e)) := by
  pointwise [out]
  fin_cases p
  · rw [dif_neg (show ¬(1536 ≤ (c : ℕ) ∧ (c : ℕ) - 1536 < 512) by simp at hc; omega), dif_neg (show ¬(1024 ≤ (c : ℕ) ∧ (c : ℕ) - 1024 < 512) by simp at hc; omega),
      dif_neg (show ¬(512 ≤ (c : ℕ) ∧ (c : ℕ) - 512 < 512) by simp at hc; omega), dif_pos (show (c : ℕ) < 512 by simp at hc; omega), zero_add, zero_add, zero_add,
      show (⟨(c : ℕ), by simp at hc; omega⟩ : Fin 512) = e from Fin.ext (by simpa using hc)]
  · rw [dif_neg (show ¬(1536 ≤ (c : ℕ) ∧ (c : ℕ) - 1536 < 512) by simp at hc; omega), dif_neg (show ¬(1024 ≤ (c : ℕ) ∧ (c : ℕ) - 1024 < 512) by simp at hc; omega),
      dif_pos (show 512 ≤ (c : ℕ) ∧ (c : ℕ) - 512 < 512 by simp at hc; omega), dif_neg (show ¬(c : ℕ) < 512 by simp at hc; omega), zero_add, zero_add, add_zero,
      show (⟨(c : ℕ) - 512, by simp at hc; omega⟩ : Fin 512) = e from Fin.ext (by simp at hc; simp only; omega)]
  · rw [dif_neg (show ¬(1536 ≤ (c : ℕ) ∧ (c : ℕ) - 1536 < 512) by simp at hc; omega), dif_pos (show 1024 ≤ (c : ℕ) ∧ (c : ℕ) - 1024 < 512 by simp at hc; omega),
      dif_neg (show ¬(512 ≤ (c : ℕ) ∧ (c : ℕ) - 512 < 512) by simp at hc; omega), dif_neg (show ¬(c : ℕ) < 512 by simp at hc; omega), zero_add, add_zero, add_zero,
      show (⟨(c : ℕ) - 1024, by simp at hc; omega⟩ : Fin 512) = e from Fin.ext (by simp at hc; simp only; omega)]
  · rw [dif_pos (show 1536 ≤ (c : ℕ) ∧ (c : ℕ) - 1536 < 512 by simp at hc; omega), dif_neg (show ¬(1024 ≤ (c : ℕ) ∧ (c : ℕ) - 1024 < 512) by simp at hc; omega),
      dif_neg (show ¬(512 ≤ (c : ℕ) ∧ (c : ℕ) - 512 < 512) by simp at hc; omega), dif_neg (show ¬(c : ℕ) < 512 by simp at hc; omega), add_zero, add_zero, add_zero,
      show (⟨(c : ℕ) - 1536, by simp at hc; omega⟩ : Fin 512) = e from Fin.ext (by simp at hc; simp only; omega)]

theorem unr_at (Y : FVec Ideal S8192x4x128 .f32) (C N : FVec Ideal S8192x1x64 .f32) (y : Fin 8192 → Fin 4 → Fin 128 → ℝ)
    (hY : ∀ s h d, Y (ix3 s h d) = ((y s h d : ℝ) : EReal))
    (hC : ∀ s i, C (ix3 s 0 i) = ((Real.cos ((s : ℕ) * (arg V0).inv i) : ℝ) : EReal))
    (hN : ∀ s i, N (ix3 s 0 i) = ((Real.sin ((s : ℕ) * (arg V0).inv i) : ℝ) : EReal))
    (s : Fin 8192) (h : Fin 4) (d : Fin 128) : unr Y C N (ix3 s h d) = ((unrot (arg V0) (y s h) s d : ℝ) : EReal) := by
  pointwise [unr]
  unfold unrot
  by_cases hd : (d : ℕ) < 64
  · rw [dif_neg (show ¬(64 ≤ (d : ℕ) ∧ (d : ℕ) - 64 < 64) by omega), dif_pos hd, dif_pos hd, hY, hY, hC, hN, zero_add]
    rw [← EReal.coe_mul, ← EReal.coe_mul, ← EReal.coe_add, show (⟨64 + (d : ℕ), by omega⟩ : Fin 128) = ⟨d + 64, by omega⟩ from Fin.ext (Nat.add_comm _ _)]
  · rw [dif_pos (show 64 ≤ (d : ℕ) ∧ (d : ℕ) - 64 < 64 by omega), dif_neg hd, dif_neg hd, hY, hY, hC, hN, add_zero]
    rw [show (⟨64 + ((d : ℕ) - 64), by omega⟩ : Fin 128) = d from Fin.ext (by simp only; omega)]
    rw [← EReal.coe_neg, ← EReal.coe_mul, ← EReal.coe_mul, ← EReal.coe_add]

/-- The gate's gradient. -/
def gate : FVec Ideal S8192x512 .f32 :=
  Host.reduceAdd (addf (mulf (res_main_v131 V0) (res_main_v126_2 V0)) (mulf (mulf (res_main_v125 V0) (res_main_v131 V0)) (mulf (res_main_v126_2 V0) (subf (broadcastInDim S1x8192x512 ![] bcast_S_S1x8192x512 (constant S_ .f32 0x3F800000#32)) (res_main_v126_2 V0))))) (constant S_ .f32 0x00000000#32) reducesTo_S1x8192x512_S8192x512_d0 h_S_

/-- The values' gradient. -/
def vals : FVec Ideal S8192x512 .f32 :=
  shapeCast _ (transpose S8192x4x128 [2, 0, 1] (Host.dotGeneral (φ₁ := .f32) (φ₂ := .f32) dot_S4x128x8192_S4x8192x8192_S4x128x8192_2_1_1_2_0_0 none (res_main_v162 V0) (res_main_v94 V0)) transposes_S4x128x8192_S8192x4x128_2_0_1) shapeCasts_S8192x4x128_S8192x512

theorem val5_out : val5 V0 (Proc.devRef .tc main_v214)
    = out (gate V0) (vals V0) (shapeCast _ (unr (res_main_v168 V0) (res_main_v46 V0) (res_main_v48 V0)) shapeCasts_S8192x4x128_S8192x512)
        (shapeCast _ (unr (res_main_v190 V0) (res_main_v16 V0) (res_main_v18 V0)) shapeCasts_S8192x4x128_S8192x512) :=
  (val5_main_v214 V0).trans rfl

section

variable (H : Real0 V0)
include H

theorem gate_at (s : Fin 8192) (h : Fin 4) (d : Fin 128) (c : Fin 512) (hc : (c : ℕ) = h * 128 + d) :
    gate V0 (ix2 s c) = ((dG (arg V0) s h d : ℝ) : EReal) := by
  pointwise [gate, res_main_v131, res_main_v123]
  rw [Fin.sum_univ_one, show (⟨(c : ℕ) / 128, by omega⟩ : Fin 4) = h from Fin.ext (by simp only; omega),
    show (⟨(c : ℕ) % 128, by omega⟩ : Fin 128) = d from Fin.ext (by simp only; omega)]
  rw [v104_at V0 H, v114_at V0 H, v121_at V0 H h d c hc, v130_at V0 H s h d c hc, v126_at V0 H s h d c hc, v125_at V0 H s h d c hc]
  norm_cast

theorem vals_at (s : Fin 8192) (h : Fin 4) (d : Fin 128) (c : Fin 512) (hc : (c : ℕ) = h * 128 + d) :
    vals V0 (ix2 s c) = ((dV (arg V0) s h d : ℝ) : EReal) := by
  pointwise [vals]
  rw [show (⟨(c : ℕ) / 128, by omega⟩ : Fin 4) = h from Fin.ext (by simp only; omega),
    show (⟨(c : ℕ) % 128, by omega⟩ : Fin 128) = d from Fin.ext (by simp only; omega)]
  simp only [v162_at V0 H, v94_at V0 H, ← EReal.coe_mul, coe_sum]
  rfl

theorem keys_at (s : Fin 8192) (h : Fin 4) (d : Fin 128) (c : Fin 512) (hc : (c : ℕ) = h * 128 + d) :
    shapeCast S8192x512 (unr (res_main_v168 V0) (res_main_v46 V0) (res_main_v48 V0)) shapeCasts_S8192x4x128_S8192x512 (ix2 s c)
      = ((gk (arg V0) s h d : ℝ) : EReal) := by
  have e := unr_at V0 (res_main_v168 V0) (res_main_v46 V0) (res_main_v48 V0) (dK (arg V0)) (v168_at V0 H) (cos_at V0) (sin_at V0) s h d
  pointwise
  rw [show (⟨(c : ℕ) / 128, by omega⟩ : Fin 4) = h from Fin.ext (by simp only; omega),
    show (⟨(c : ℕ) % 128, by omega⟩ : Fin 128) = d from Fin.ext (by simp only; omega)]
  exact e

theorem queries_at (s : Fin 8192) (h : Fin 4) (d : Fin 128) (c : Fin 512) (hc : (c : ℕ) = h * 128 + d) :
    shapeCast S8192x512 (unr (res_main_v190 V0) (res_main_v16 V0) (res_main_v18 V0)) shapeCasts_S8192x4x128_S8192x512 (ix2 s c)
      = ((gq (arg V0) s h d : ℝ) : EReal) := by
  have e := unr_at V0 (res_main_v190 V0) (res_main_v16 V0) (res_main_v18 V0) (dQ (arg V0)) (v190_at V0 H) (cos_at V0) (sin_at V0) s h d
  pointwise
  rw [show (⟨(c : ℕ) / 128, by omega⟩ : Fin 4) = h from Fin.ext (by simp only; omega),
    show (⟨(c : ℕ) % 128, by omega⟩ : Fin 128) = d from Fin.ext (by simp only; omega)]
  exact e

/-- The reference's result in the columns of the values' part of the projection: which of the four gradients. -/
theorem result_at (s : Fin 8192) (h : Fin 4) (d : Fin 128) (p : Fin 4) (c : Fin 3712) (hc : (c : ℕ) = 512 * p + (h * 128 + d)) :
    @Eq EReal (val5 V0 (Proc.devRef .tc main_v214) (ix2 s c)) ((grad (arg V0) p s h d : ℝ) : EReal) := by
  rw [val5_out, out_at _ _ _ _ s p ⟨(h : ℕ) * 128 + d, by omega⟩ c hc]
  fin_cases p
  · exact queries_at V0 H s h d _ rfl
  · exact keys_at V0 H s h d _ rfl
  · exact vals_at V0 H s h d _ rfl
  · exact gate_at V0 H s h d _ rfl

end

end Cert.ReferenceIdeal.Hand
-- ==== Proof.Arrays.lean ====
/- What the region reads of the arrays that the kernel prepares before it: the layer's reals. -/
module

public import proofs.«01_k».proof.Proof.EntryOps
public import proofs.«01_k».proof.Proof.Ref
public import proofs.«01_k».proof.Proof.Blocks

@[expose] public section

set_option maxRecDepth 16384

noncomputable section

open Idealize.ShloMosaic Idealize.ShloMosaic.TcCoe Idealize.SL.Sem Finset

namespace Cert.KernelIdeal.Hand

open Cert.KernelIdeal Cert.KernelIdeal.Gen Cert.KernelIdeal.Entry Cert.Retention Cert.ReferenceIdeal.Hand

variable (V0 : Valuation τ sig (Elt Ideal))
  (V1 : Valuation Cert.ReferenceIdeal.τ Cert.ReferenceIdeal.sig (Elt Ideal))

/-- The reference's arguments are the kernel's. -/
structure Same : Prop where
  e0 : (V1 (Proc.devRef .tc Cert.ReferenceIdeal.main_arg0) : ArrD) = V0 (Proc.devRef .tc main_arg0)
  e1 : (V1 (Proc.devRef .tc Cert.ReferenceIdeal.main_arg1) : ArrP) = V0 (Proc.devRef .tc main_arg1)
  e6 : (V1 (Proc.devRef .tc Cert.ReferenceIdeal.main_arg6) : ArrW) = V0 (Proc.devRef .tc main_arg6)

variable {V0 V1} (E : Same V0 V1)
include E

theorem q_same : (res_main_v33 V0 : FVec Ideal S8192x4x128 .f32) = Cert.ReferenceIdeal.Value.res_main_v33 V1 := by
  unfold res_main_v33 res_main_v19 res_main_v20 res_main_v4
  rw [← E.e1]
  rfl

theorem k_same : (res_main_v61 V0 : FVec Ideal S8192x4x128 .f32) = Cert.ReferenceIdeal.Value.res_main_v61 V1 := by
  unfold res_main_v61 res_main_v49 res_main_v50 res_main_v34
  rw [← E.e1]
  rfl

theorem v_same : (res_main_v62 V0 : FVec Ideal S8192x4x128 .f32) = Cert.ReferenceIdeal.Value.res_main_v62 V1 := by
  unfold res_main_v62
  rw [← E.e1]
  rfl

theorem v140_same : @Eq (FVec Ideal S8192x1024 .f32) (res_main_v140 V0)
    (concatenate S8192x1024 1 [⟨S8192x512, (shapeCast S8192x512 (transpose S8192x4x128 [2, 0, 1] (Host.dotGeneral (F := Ideal) (φ₁ := .f32) (φ₂ := .f32) dot_S8192x4x128_S4x8192x8192_S4x128x8192_0_2_2_1_1_0 none (Cert.ReferenceIdeal.Value.res_main_v62 V1 : FVec Ideal S8192x4x128 .f32) (Cert.ReferenceIdeal.Value.res_main_v94 V1 : FVec Ideal S4x8192x8192 .f32)) transposes_S4x128x8192_S8192x4x128_2_0_1) shapeCasts_S8192x4x128_S8192x512 : FVec Ideal S8192x512 .f32)⟩, ⟨S8192x512, (V0 (Proc.devRef .tc main_arg2) : FVec Ideal S8192x512 .f32)⟩] concatenates_S8192x512_S8192x512_S8192x1024_d1) := by
  unfold res_main_v140
  rw [q_same E, k_same E, v_same E]
  rfl

variable (H : Cert.ReferenceIdeal.Hand.Real0 V1)
include H

omit H E in
theorem div_H (h : Fin 4) (e : Fin 128) : (colH h e : ℕ) / 128 = h := by
  show (128 * (h : ℕ) + e) / 128 = h; omega
omit H E in
theorem mod_H (h : Fin 4) (e : Fin 128) : (colH h e : ℕ) % 128 = e := by
  show (128 * (h : ℕ) + e) % 128 = e; omega

theorem v136_at (s : Fin 8192) (h : Fin 4) (e : Fin 128) :
    @Eq EReal (res_main_v136 V0 (ix2 s (colH h e))) ((q (arg V1) s h e : ℝ) : EReal) := by
  unfold res_main_v136
  rw [q_same E]
  pointwise
  refine Eq.trans ?_ (v33_at V1 H s h e)
  congr 2
  · exact Fin.ext (div_H h e)
  · exact Fin.ext (mod_H h e)

theorem v138_at (s : Fin 8192) (h : Fin 4) (e : Fin 128) :
    @Eq EReal (res_main_v138 V0 (ix2 s (colH h e))) ((k (arg V1) s h e : ℝ) : EReal) := by
  unfold res_main_v138
  rw [k_same E]
  pointwise
  refine Eq.trans ?_ (v61_at V1 H s h e)
  congr 2
  · exact Fin.ext (div_H h e)
  · exact Fin.ext (mod_H h e)

theorem v140_at (s : Fin 8192) (h : Fin 4) (e : Fin 128) :
    @Eq EReal (res_main_v140 V0 (ix2 s (colM h e))) ((o (arg V1) s h e : ℝ) : EReal) := by
  rw [v140_same E]
  pointwise [colM]
  rw [dif_pos (show (col 1024 colM._proof_1 h e : ℕ) < 512 by show 128 * (h : ℕ) + e < 512; omega)]
  simp only [show ∀ p, (⟨(col 1024 colM._proof_1 h e : ℕ) / 128, p⟩ : Fin 4) = h from fun _ => Fin.ext (div_H h e),
    show ∀ p, (⟨(col 1024 colM._proof_1 h e : ℕ) % 128, p⟩ : Fin 128) = e from fun _ => Fin.ext (mod_H h e)]
  simp only [v94_at V1 H, v62_at V1 H, ← EReal.coe_mul, coe_sum]
  rfl

omit H E in
theorem ix3_congr {n0 n1 n2 : ℕ} (a : Fin n0) {b b' : Fin n1} {d d' : Fin n2} (hb : b = b') (hd : d = d') : ix3 a b d = ix3 a b' d' := by
  rw [hb, hd]

omit H E in
/-- A key's decay up to the row before tile `j`, on words. -/
theorem border_word (h : Fin 4) (j : Fin 32) (x : Fin 8192) (n : ℕ) (hn : n = h) (p : Prop) [Decidable p]
    (hp : p ↔ (0 : EReal) ≤ (FloatOps.sitofp .f32 (BitVec.ofNat 32 j) : Ideal .f32) * Ideal.ofBits .f32 1132462080#32 - 1
          - (FloatOps.sitofp .f32 (BitVec.ofNat 32 x) : Ideal .f32)) :
    (if p then
        Ideal.exp (Ideal.log (1 - Ideal.pow (Ideal.ofBits .f32 1073741824#32)
            (Ideal.ofBits .f32 3231711232#32 - (FloatOps.sitofp .f32 (BitVec.ofNat 32 n) : Ideal .f32)))
          * ((FloatOps.sitofp .f32 (BitVec.ofNat 32 j) : Ideal .f32) * Ideal.ofBits .f32 1132462080#32 - 1
            - (FloatOps.sitofp .f32 (BitVec.ofNat 32 x) : Ideal .f32)))
      else id (constant S_ .f32 0#32 : FVec Ideal S_ .f32) ix0)
      = (((if (x : ℕ) < 256 * j then gam h ^ (256 * (j : ℕ) - 1 - x) else 0 : ℝ)) : EReal) := by
  subst hn
  rw [word_real _ (by omega), word_real _ (by omega), word_256, ← EReal.coe_one, ← EReal.coe_mul, ← EReal.coe_sub, ← EReal.coe_sub, EReal.coe_nonneg] at hp
  rw [word_real _ (by omega), word_real _ (by omega), word_real _ (by omega), word_256, word_2, word_neg5, log_gam,
    show id (constant S_ .f32 0#32 : FVec Ideal S_ .f32) ix0 = ((0 : ℝ) : EReal) from const_zero]
  rw [← EReal.coe_one, ← EReal.coe_mul, ← EReal.coe_sub, ← EReal.coe_sub]
  by_cases hx : (x : ℕ) < 256 * j
  · have hc : (((j : ℕ) : ℝ) * 256 - 1 - ((x : ℕ) : ℝ)) = ((256 * (j : ℕ) - 1 - x : ℕ) : ℝ) := by
      rw [Nat.cast_sub (by omega), Nat.cast_sub (by omega)]
      push_cast
      ring
    rw [if_pos (hp.2 (hc ▸ Nat.cast_nonneg _)), if_pos hx, hc, ← EReal.coe_mul, Ideal.exp_coe, exp_log_real _ (gam_pos h)]
  · have hc : ¬ (0 : ℝ) ≤ (((j : ℕ) : ℝ) * 256 - 1 - ((x : ℕ) : ℝ)) := by
      have : (((256 * (j : ℕ) : ℕ)) : ℝ) ≤ ((x : ℕ) : ℝ) := Nat.cast_le.2 (not_lt.1 hx)
      push_cast at this
      linarith
    rw [if_neg (fun q => hc (hp.1 q)), if_neg hx]

theorem v134_at (j : Fin 32) (h : Fin 4) (d e : Fin 128) :
    @Eq EReal (res_main_v134 V0 (ix3 j (colH h d) e)) ((st (arg V1) j h d e : ℝ) : EReal) := by
  unfold res_main_v134
  rw [k_same E, v_same E]
  pointwise [res_main_v115]
  refine (sum_congr rfl fun x _ => congrArg₂ _ ((congrArg _ (ix3_congr x (Fin.ext (div_H h d)) rfl)).trans (v62_at V1 H x h e))
    (congrArg₂ _ ((congrArg _ (ix3_congr x (Fin.ext (div_H h d)) (Fin.ext (mod_H h d)))).trans (v61_at V1 H x h d))
      (border_word h j x _ (div_H h d) _ Iff.rfl))).trans ?_
  simp only [← EReal.coe_mul, coe_sum]
  unfold st before
  refine congrArg _ (sum_congr rfl fun s _ => ?_)
  split_ifs
  · ring
  · ring

end Cert.KernelIdeal.Hand
end
-- ==== Proof.Tables.lean ====
/- The tables of decays and of angles that the kernel prepares before the region. -/
module

public import proofs.«01_k».proof.Proof.EntryOps
public import proofs.«01_k».proof.Proof.Ref
public import proofs.«01_k».proof.Proof.Blocks

@[expose] public section

set_option maxRecDepth 16384

noncomputable section

open Idealize.ShloMosaic Idealize.ShloMosaic.TcCoe Idealize.SL.Sem Finset

namespace Cert.KernelIdeal.Hand

open Cert.KernelIdeal Cert.KernelIdeal.Gen Cert.KernelIdeal.Entry Cert.Retention Cert.ReferenceIdeal.Hand

theorem word_255 : Ideal.ofBits .f32 0x437F0000#32 = ((255 : ℝ) : EReal) := by
  simp [Ideal.ofBits, Ideal.ieee, -EReal.coe_mul]; norm_num
theorem word_gam0 : Ideal.ofBits .f32 0x3F780000#32 = ((gam 0 : ℝ) : EReal) := by
  rw [show gam 0 = 31 / 32 by norm_num [gam]]
  simp [Ideal.ofBits, Ideal.ieee, -EReal.coe_mul]; norm_num
theorem word_gam1 : Ideal.ofBits .f32 0x3F7C0000#32 = ((gam 1 : ℝ) : EReal) := by
  rw [show gam 1 = 63 / 64 by norm_num [gam]]
  simp [Ideal.ofBits, Ideal.ieee, -EReal.coe_mul]; norm_num
theorem word_gam2 : Ideal.ofBits .f32 0x3F7E0000#32 = ((gam 2 : ℝ) : EReal) := by
  rw [show gam 2 = 127 / 128 by norm_num [gam]]
  simp [Ideal.ofBits, Ideal.ieee, -EReal.coe_mul]; norm_num
theorem word_gam3 : Ideal.ofBits .f32 0x3F7F0000#32 = ((gam 3 : ℝ) : EReal) := by
  rw [show gam 3 = 255 / 256 by norm_num [gam]]
  simp [Ideal.ofBits, Ideal.ieee, -EReal.coe_mul]; norm_num

/-- The chunk of a row, as the kernel takes it by a shift. -/
theorem chunk_word (n : Fin 256) : IntOp.shrsi .host (BitVec.ofNat 32 n) 6#32 = BitVec.ofNat 32 ((n : ℕ) / 64) := by
  revert n; decide +kernel
/-- The distance of two rows, as the kernel takes it on words. -/
theorem dist_word (r s : Fin 256) : IntOp.absi (IntOp.subi (BitVec.ofNat 32 r) (BitVec.ofNat 32 s)) = BitVec.ofNat 32 (dist r s) := by
  revert r s; decide +kernel

/-- The weight of a key of the query's own tile, on words. -/
theorem wgt_word (h : Fin 4) (r s : Fin 256) (w : EReal) (hw : w = ((gam h : ℝ) : EReal)) :
    Scalar.select (IntOp.cmpi .sle (IntOp.shrsi .host (BitVec.ofNat 32 s) 6#32) (IntOp.shrsi .host (BitVec.ofNat 32 r) 6#32))
      (Ideal.exp (Ideal.log w * (FloatOps.sitofp .f32 (IntOp.absi (IntOp.subi (BitVec.ofNat 32 r) (BitVec.ofNat 32 s))) : Ideal .f32)))
      (id (constant S_ .f32 0#32 : FVec Ideal S_ .f32) ix0) = ((wgt (gam h) r s : ℝ) : EReal) := by
  rw [chunk_word, chunk_word, WordCmp.cmpi_sle_ofNat (by omega) (by omega), dist_word,
    word_real _ (by unfold Cert.Retention.dist; omega), hw, log_real _ (gam_pos h), ← EReal.coe_mul, Ideal.exp_coe, exp_log_real _ (gam_pos h)]
  rw [show id (constant S_ .f32 0#32 : FVec Ideal S_ .f32) ix0 = ((0 : ℝ) : EReal) from const_zero]
  unfold wgt Scalar.select
  by_cases hc : (s : ℕ) / 64 ≤ (r : ℕ) / 64
  · simp [hc]
  · simp [hc]

/-- A query's decay from the border of its tile, on words. -/
theorem query_word (h : Fin 4) (r : Fin 256) (w : EReal) (hw : w = ((gam h : ℝ) : EReal)) :
    Ideal.exp (Ideal.log w * ((FloatOps.sitofp .f32 (BitVec.ofNat 32 r) : Ideal .f32) + 1)) = ((gam h ^ ((r : ℕ) + 1) : ℝ) : EReal) := by
  rw [word_real _ (by omega), hw, log_real _ (gam_pos h), ← EReal.coe_one, ← EReal.coe_add, ← EReal.coe_mul, Ideal.exp_coe, ← exp_log_real _ (gam_pos h)]
  push_cast
  rfl

/-- A key's decay to the last row of its tile, on words. -/
theorem key_word (h : Fin 4) (r : Fin 256) (w : EReal) (hw : w = ((gam h : ℝ) : EReal)) :
    Ideal.exp (Ideal.log w * (Ideal.ofBits .f32 0x437F0000#32 - (FloatOps.sitofp .f32 (BitVec.ofNat 32 r) : Ideal .f32)))
      = ((gam h ^ (255 - (r : ℕ)) : ℝ) : EReal) := by
  rw [word_real _ (by omega), hw, log_real _ (gam_pos h), word_255, ← EReal.coe_sub, ← EReal.coe_mul, Ideal.exp_coe, ← exp_log_real _ (gam_pos h)]
  rw [Nat.cast_sub (by omega)]
  push_cast
  rfl

variable (V0 : Valuation τ sig (Elt Ideal))

theorem v177_at (h : Fin 4) (r s : Fin 256) :
    @Eq EReal (res_main_v177 V0 (ix3 h r s)) ((wgt (gam h) r s : ℝ) : EReal) := by
  fin_cases h
  · pointwise [res_main_v177, res_main_v147, res_main_v150, res_main_v153, res_main_v141, res_main_v142]
    exact wgt_word 0 r s _ word_gam0
  · pointwise [res_main_v177, res_main_v147, res_main_v150, res_main_v154, res_main_v141, res_main_v142]
    exact wgt_word 1 r s _ word_gam1
  · pointwise [res_main_v177, res_main_v147, res_main_v150, res_main_v155, res_main_v141, res_main_v142]
    exact wgt_word 2 r s _ word_gam2
  · pointwise [res_main_v177, res_main_v147, res_main_v150, res_main_v156, res_main_v141, res_main_v142]
    exact wgt_word 3 r s _ word_gam3

theorem v226_query (h : Fin 4) (r : Fin 256) (e : Fin 128) (g : Fin 8) (hg : (g : ℕ) = h) :
    @Eq EReal (res_main_v226 V0 (ix3 g r e)) ((gam h ^ ((r : ℕ) + 1) : ℝ) : EReal) := by
  fin_cases h
  · obtain rfl : g = 0 := Fin.ext hg
    pointwise [res_main_v226, res_main_v152, res_main_v153]
    exact query_word 0 r _ word_gam0
  · obtain rfl : g = 1 := Fin.ext hg
    pointwise [res_main_v226, res_main_v152, res_main_v154]
    exact query_word 1 r _ word_gam1
  · obtain rfl : g = 2 := Fin.ext hg
    pointwise [res_main_v226, res_main_v152, res_main_v155]
    exact query_word 2 r _ word_gam2
  · obtain rfl : g = 3 := Fin.ext hg
    pointwise [res_main_v226, res_main_v152, res_main_v156]
    exact query_word 3 r _ word_gam3

theorem v226_key (h : Fin 4) (r : Fin 256) (e : Fin 128) (g : Fin 8) (hg : (g : ℕ) = 4 + h) :
    @Eq EReal (res_main_v226 V0 (ix3 g r e)) ((gam h ^ (255 - (r : ℕ)) : ℝ) : EReal) := by
  fin_cases h
  · obtain rfl : g = 4 := Fin.ext hg
    pointwise [res_main_v226, res_main_v152, res_main_v153]
    exact key_word 0 r _ word_gam0
  · obtain rfl : g = 5 := Fin.ext hg
    pointwise [res_main_v226, res_main_v152, res_main_v154]
    exact key_word 1 r _ word_gam1
  · obtain rfl : g = 6 := Fin.ext hg
    pointwise [res_main_v226, res_main_v152, res_main_v155]
    exact key_word 2 r _ word_gam2
  · obtain rfl : g = 7 := Fin.ext hg
    pointwise [res_main_v226, res_main_v152, res_main_v156]
    exact key_word 3 r _ word_gam3

variable (V1 : Valuation Cert.ReferenceIdeal.τ Cert.ReferenceIdeal.sig (Elt Ideal))

theorem v231_at (i : Fin 64) : @Eq EReal (res_main_v231 V0 (ix1 i)) (((arg V1).inv i : ℝ) : EReal) := by
  pointwise [res_main_v231, res_main_call8_v0, res_main_call8_v1, res_main_call8_v6]
  rw [← inv_at V1]
  congr 2
  rw [word_real _ (by omega), word_63, div_real _ _ (by norm_num)]
  rw [show id (constant S_ .f32 0#32 : FVec Ideal S_ .f32) ix0 = ((0 : ℝ) : EReal) from const_zero,
    show id (constant S_ .f32 1065353216#32 : FVec Ideal S_ .f32) ix0 = ((1 : ℝ) : EReal) from const_one]
  split_ifs with h
  · norm_cast; congr 1; ring
  · norm_cast; rw [show (i : ℕ) = 63 by omega]; norm_num

theorem v237_at (r : Fin 256) (i : Fin 64) : @Eq EReal (res_main_v237 V0 (ix2 r i)) ((((r : ℕ) : ℝ) * (arg V1).inv i : ℝ) : EReal) := by
  pointwise [res_main_v237]
  rw [word_real _ (by omega), v231_at V0 V1, ← EReal.coe_mul]

theorem v245_at (j : Fin 32) (i : Fin 64) :
    @Eq EReal (res_main_v245 V0 (ix2 j i)) ((((256 * (j : ℕ) : ℕ) : ℝ) * (arg V1).inv i : ℝ) : EReal) := by
  pointwise [res_main_v245]
  rw [word_real _ (by omega), v231_at V0 V1, word_256, ← EReal.coe_mul, ← EReal.coe_mul]
  congr 2
  push_cast
  ring

theorem ang_lo (A : Arg) (s : ℕ) (e : Fin 128) (i : Fin 64) (he : (e : ℕ) = i) : ang A s e = s * A.inv i := by
  unfold ang
  rw [show (⟨(e : ℕ) % 64, Nat.mod_lt _ (by norm_num)⟩ : Fin 64) = i from Fin.ext (by simp only; omega)]

theorem ang_hi (A : Arg) (s : ℕ) (e : Fin 128) (i : Fin 64) (he : (e : ℕ) = 64 + i) : ang A s e = s * A.inv i := by
  unfold ang
  rw [show (⟨(e : ℕ) % 64, Nat.mod_lt _ (by norm_num)⟩ : Fin 64) = i from Fin.ext (by simp only; omega)]

theorem v258_at0 (r : Fin 256) (e : Fin 128) : @Eq EReal (res_main_v258 V0 (ix3 0 r e)) ((Real.cos (ang (arg V1) r e) : ℝ) : EReal) := by
  pointwise [res_main_v258, res_main_v246]
  by_cases he : (e : ℕ) < 64
  · rw [dif_pos he]
    rw [v237_at V0 V1, Ideal.cos_coe, ang_lo _ _ e ⟨e, he⟩ rfl]
  · rw [dif_neg he]
    rw [v237_at V0 V1, Ideal.cos_coe, ang_hi _ _ e ⟨(e : ℕ) - 64, by omega⟩ (by simp only; omega)]

theorem v258_at1 (r : Fin 256) (e : Fin 128) : @Eq EReal (res_main_v258 V0 (ix3 1 r e)) ((Real.sin (ang (arg V1) r e) : ℝ) : EReal) := by
  pointwise [res_main_v258, res_main_v247]
  by_cases he : (e : ℕ) < 64
  · rw [dif_pos he]
    rw [v237_at V0 V1, Ideal.sin_coe, ang_lo _ _ e ⟨e, he⟩ rfl]
  · rw [dif_neg he]
    rw [v237_at V0 V1, Ideal.sin_coe, ang_hi _ _ e ⟨(e : ℕ) - 64, by omega⟩ (by simp only; omega)]

theorem v258_at2 (r : Fin 256) (e : Fin 128) : @Eq EReal (res_main_v258 V0 (ix3 2 r e)) (((if (e : ℕ) < 64 then -1 else 1) * Real.cos (ang (arg V1) r e) : ℝ) : EReal) := by
  pointwise [res_main_v258, res_main_v246]
  by_cases he : (e : ℕ) < 64
  · rw [dif_pos he, if_pos he]
    rw [v237_at V0 V1, Ideal.cos_coe, ang_lo _ _ e ⟨e, he⟩ rfl, ← EReal.coe_neg, neg_one_mul]
  · rw [dif_neg he, if_neg he]
    rw [v237_at V0 V1, Ideal.cos_coe, ang_hi _ _ e ⟨(e : ℕ) - 64, by omega⟩ (by simp only; omega), one_mul]

theorem v258_at3 (r : Fin 256) (e : Fin 128) : @Eq EReal (res_main_v258 V0 (ix3 3 r e)) (((if (e : ℕ) < 64 then -1 else 1) * Real.sin (ang (arg V1) r e) : ℝ) : EReal) := by
  pointwise [res_main_v258, res_main_v247]
  by_cases he : (e : ℕ) < 64
  · rw [dif_pos he, if_pos he]
    rw [v237_at V0 V1, Ideal.sin_coe, ang_lo _ _ e ⟨e, he⟩ rfl, ← EReal.coe_neg, neg_one_mul]
  · rw [dif_neg he, if_neg he]
    rw [v237_at V0 V1, Ideal.sin_coe, ang_hi _ _ e ⟨(e : ℕ) - 64, by omega⟩ (by simp only; omega), one_mul]

theorem v263_cos (j : Fin 32) (e : Fin 128) (x : Fin 256) (hx : (x : ℕ) = e) :
    @Eq EReal (res_main_v263 V0 (ix3 j 0 x)) ((Real.cos (ang (arg V1) (256 * (j : ℕ)) e) : ℝ) : EReal) := by
  pointwise [res_main_v263, res_main_v259]
  by_cases h1 : (x : ℕ) < 64
  · rw [dif_pos h1, v245_at V0 V1, Ideal.cos_coe, ang_lo _ _ e ⟨x, h1⟩ hx.symm]
  · have h2 : (x : ℕ) - 64 < 64 := by omega
    rw [dif_neg h1, dif_pos h2, v245_at V0 V1, Ideal.cos_coe, ang_hi _ _ e ⟨(x : ℕ) - 64, h2⟩ (by simp only; omega)]

theorem v263_sin (j : Fin 32) (e : Fin 128) (x : Fin 256) (hx : (x : ℕ) = 128 + e) :
    @Eq EReal (res_main_v263 V0 (ix3 j 0 x)) ((Real.sin (ang (arg V1) (256 * (j : ℕ)) e) : ℝ) : EReal) := by
  pointwise [res_main_v263, res_main_v260]
  rw [dif_neg (show ¬ (x : ℕ) < 64 by omega), dif_neg (show ¬ (x : ℕ) - 64 < 64 by omega)]
  by_cases h3 : (x : ℕ) - 64 - 64 < 64
  · rw [dif_pos h3, v245_at V0 V1, Ideal.sin_coe, ang_lo _ _ e ⟨(x : ℕ) - 64 - 64, h3⟩ (by simp only; omega)]
  · rw [dif_neg h3, v245_at V0 V1, Ideal.sin_coe, ang_hi _ _ e ⟨(x : ℕ) - 64 - 64 - 64, by omega⟩ (by simp only; omega)]

end Cert.KernelIdeal.Hand
end
-- ==== Proof.Host.lean ====
/- What the region's blocks hold at a point, from the arrays at the region's entry. -/
module

public import proofs.«01_k».proof.Proof.Windows
public import proofs.«01_k».proof.Proof.Entry
public import proofs.«01_k».proof.Proof.Arrays
public import proofs.«01_k».proof.Proof.Tables

@[expose] public section

set_option maxRecDepth 16384

noncomputable section

open Idealize.ShloMosaic Idealize.ShloMosaic.TcCoe Idealize.SL.Sem Finset

namespace Cert.KernelIdeal.Hand

open Cert.KernelIdeal Cert.KernelIdeal.Gen Cert.KernelIdeal.Entry Cert.Retention Cert.ReferenceIdeal.Hand

variable {m : (ℓ : Loc nD τ sig) → Buf (Elt Ideal) ℓ} {c : Dev nD}
  {V1 : Valuation Cert.ReferenceIdeal.τ Cert.ReferenceIdeal.sig (Elt Ideal)}
  (E : Same (fun b => m (c, b)) V1) (H : Real0 V1)
include E H

/-- At every point the blocks hold the layer's reals at the point's rows. -/
theorem blk_of (t : Fin cfg0.N) : Blk m (arg V1) (bk t) c t where
  d r h e := by
    rw [block_0, V_main_arg0]
    exact (congrFun E.e0.symm _).trans (dm_at H _ h e _ (by show 128 * (h : ℕ) + e = _; omega))
  q r h e := by
    rw [block_1, entry_eq, val6_main_v136]
    exact v136_at E H _ h e
  k r h e := by
    rw [block_2, entry_eq, val6_main_v138]
    exact v138_at E H _ h e
  v r h e := by
    rw [block_3 m c t r (colH h e) ⟨1024 + (h * 128 + e), by omega⟩ (by show 1024 + ((h : ℕ) * 128 + e) = 1024 + (128 * (h : ℕ) + e); omega), V_main_arg1]
    exact (congrFun E.e1.symm _).trans (v_at H _ h e _ rfl)
  x r h e := by
    rw [block_4 m c t r (colH h e) ⟨1536 + (h * 128 + e), by omega⟩ (by show 1536 + ((h : ℕ) * 128 + e) = 1536 + (128 * (h : ℕ) + e); omega), V_main_arg1]
    exact (congrFun E.e1.symm _).trans (x_at H _ h e _ rfl)
  o r h e := by
    rw [block_10, entry_eq, val6_main_v140]
    exact v140_at E H _ h e
  w h e := by
    rw [block_19, V_main_arg6]
    exact (congrFun E.e6.symm _).trans (w_at H h e _ (by show 128 * (h : ℕ) + e = _; omega))
  wt h r s := by
    rw [block_11, entry_eq, val6_main_v177]
    exact v177_at _ h r s
  qd h r e := by
    rw [block_12, entry_eq, val6_main_v226]
    exact v226_query _ h r e _ rfl
  kd h r e := by
    rw [block_12, entry_eq, val6_main_v226]
    exact v226_key _ h r e _ rfl
  r0 r e := by
    rw [block_13, entry_eq, val6_main_v258]
    exact v258_at0 _ V1 r e
  r1 r e := by
    rw [block_13, entry_eq, val6_main_v258]
    exact v258_at1 _ V1 r e
  r2 r e := by
    rw [block_13, entry_eq, val6_main_v258]
    exact v258_at2 _ V1 r e
  r3 r e := by
    rw [block_13, entry_eq, val6_main_v258]
    exact v258_at3 _ V1 r e
  tc jj e := by
    rw [block_14, entry_eq, val6_main_v263]
    exact v263_cos _ V1 _ e _ rfl
  ts jj e := by
    rw [block_14, entry_eq, val6_main_v263]
    exact v263_sin _ V1 _ e _ rfl
  st jj h d e := by
    rw [block_15, entry_eq, val6_main_v134]
    exact v134_at E H _ h d e
  eps := rfl
  c0 := rfl

end Cert.KernelIdeal.Hand
end
-- ==== Proof.Masks.lean ====
/- The precondition and the claimed columns, read at an index. -/
module

public import proofs.«01_k».proof.Pre_finite
public import proofs.«01_k».proof.On_retention_columns
public import proofs.«01_k».proof.Proof.Args
public import Idealize.ShloMosaic.Lib.ReduceAll
public import Idealize.ShloMosaic.Lib.KernelVsHost

@[expose] public section

set_option maxRecDepth 16384

noncomputable section

open Idealize.ShloMosaic Idealize.ShloMosaic.TcCoe

namespace Cert.Pre_finite.Gen

/-- The predicate's side conditions. -/
instance facts : Cert.Pre_finite.Facts where
  slices_S8192x1024_S8192x512_0_0 := by decide
  bcast_S_S8192x512 := by decide
  reducesTo_S8192x512_S_d0_1 := by decide
  h_S_ := by decide
  slices_S8192x3712_S8192x2048_0_0 := by decide
  bcast_S_S8192x2048 := by decide
  reducesTo_S8192x2048_S_d0_1 := by decide
  bcast_S_S1x512 := by decide
  reducesTo_S1x512_S_d0_1 := by decide

end Cert.Pre_finite.Gen

namespace Cert.On_retention_columns.Gen

/-- The mask's side conditions. -/
instance facts : Cert.On_retention_columns.Facts where
  bcast_S_S8192x3712 := by decide

end Cert.On_retention_columns.Gen

namespace Cert.Retention

/-- A claimed index lies in the first 2048 columns. -/
theorem column_lt {A0 A1 A2 A3 A4 A5 A6 A7} (i : (⟨2, ![8192, 3712]⟩ : Shape).Idx)
    (h : Cert.On_retention_columns.fn (F := Ideal) A0 A1 A2 A3 A4 A5 A6 A7 i = 1#1) : (i 1 : ℕ) < 2048 := by
  have key : ∀ r : Fin 3712, IntOp.cmpi .slt (BitVec.ofNat 32 r) 2048#32 = 1#1 → (r : ℕ) < 2048 := by decide +kernel
  exact key (i 1) h

/-- A float whose absolute value is below the infinity is neither infinity. -/
theorem real_of_abs (x : Ideal .f32)
    (h : FloatOps.cmpf .olt (FloatOps.hostAbsf x) (FloatOps.ofBits (F := Ideal) .f32 0x7F800000#32) = 1#1) :
    (x : EReal) ≠ ⊤ ∧ (x : EReal) ≠ ⊥ := by
  have htop : Ideal.ofBits .f32 0x7F800000#32 = ⊤ := by simp [Ideal.ofBits, Ideal.ieee]
  have e : Ideal.cmp .olt (max (x : EReal) (-(x : EReal))) (Ideal.ofBits .f32 0x7F800000#32) = 1#1 := h
  rw [htop] at e
  unfold Ideal.cmp at e
  constructor
  · rintro rfl
    simp at e
  · rintro rfl
    simp at e

open Cert.Pre_finite in
/-- Under the precondition what the layer reads is real. -/
theorem real_of_finite {A0 A1 A2 A3 A4 A5 A6 A7}
    (h : Cert.Pre_finite.fn (F := Ideal) A0 A1 A2 A3 A4 A5 A6 A7 = fun _ => 1#1) : IsReal A0 A1 A6 := by
  have e := congrFun h ix0
  obtain ⟨e2, e3⟩ := IntOp.andi_eq_one.1 e
  obtain ⟨e1, e2⟩ := IntOp.andi_eq_one.1 e2
  haveI : Subsingleton S_.Idx := ⟨fun _ _ => funext fun a => a.elim0⟩
  refine ⟨fun s c hc => ?_, fun s c hc => ?_, fun c => ?_⟩
  · have g := Host.reduce_andi_all _ _ _ _ _ e1 (ix2 s ⟨c, hc⟩)
    refine real_of_abs _ (Eq.trans ?_ g)
    pointwise
  · have g := Host.reduce_andi_all _ _ _ _ _ e2 (ix2 s ⟨c, hc⟩)
    refine real_of_abs _ (Eq.trans ?_ g)
    pointwise
  · have g := Host.reduce_andi_all _ _ _ _ _ e3 (ix2 0 c)
    exact real_of_abs _ g

end Cert.Retention
end
-- ==== Proof.Algebraic.lean ====
/- The mixer's backward call: in the columns of the retention its result is the reference's gradient. -/
module

public import proofs.«01_k».proof.Defs
public import proofs.«01_k».proof.Proof.Host
public import proofs.«01_k».proof.Proof.Masks
public import Idealize.ShloMosaic.Lib.Pipeline.Cells

@[expose] public section

set_option maxRecDepth 16384

noncomputable section

open Idealize.ShloMosaic Idealize.ShloMosaic.TcCoe Idealize.SL.Sem Finset

namespace Cert.KernelIdeal.Hand

open Cert.KernelIdeal Cert.KernelIdeal.Gen Cert.Retention

variable (m : (ℓ : Loc nD τ sig) → Buf (Elt Ideal) ℓ) (ρ : Dev nD → PrngReg)

/-- What point `t` writes back. -/
def written (c : Dev nD) (t : Fin cfg0.N) : FVec Ideal S512x3712 .bf16 := (outsAt0 m c t.val t.isLt).1

/-- The point whose block holds row `s`. -/
def pointOf (s : Fin 8192) : Fin cfg0.N := ⟨15 - (s : ℕ) / 512, by show _ < 16; omega⟩

/-- A row within its block. -/
def within (s : Fin 8192) : Fin 512 := ⟨(s : ℕ) % 512, Nat.mod_lt _ (by norm_num)⟩

/-- The written blocks side by side. -/
def result (c : Dev nD) : FVec Ideal S8192x3712 .bf16 := fun i => written m c (pointOf (i 0)) (ix2 (within (i 0)) (i 1))

theorem index_21 : ∀ t : Fin cfg0.N, win0_21.index t 0 = 15 - (t : ℕ) ∧ win0_21.index t 1 = 0 := by decide +kernel

theorem written_eq (c : Dev nD) (t : Fin cfg0.N) (y : S512x3712.Idx) (i : S8192x3712.Idx)
    (h0 : (i 0 : ℕ) = 512 * (15 - (t : ℕ)) + (y 0 : ℕ)) (h1 : (i 1 : ℕ) = y 1) : written m c t y = result m c i := by
  have ht := point_lt t
  have hy : (y 0 : ℕ) < 512 := (y 0).isLt
  unfold result
  rw [show pointOf (i 0) = t from Fin.ext (by show 15 - (i 0 : ℕ) / 512 = t; omega),
    show within (i 0) = y 0 from Fin.ext (by show (i 0 : ℕ) % 512 = y 0; omega), show i 1 = y 1 from Fin.ext h1]
  exact congrArg _ (eq_ix2 y)

/-- The result's array after the run. -/
theorem final (c : Dev nD) : (dats m 0 c).arrAt 21 (cfgs 0).N = result m c := by
  refine (dats m 0 c).arrAt_eq_of_covers 21 _ (by decide +kernel) fun t hf y => ?_
  blk_simp
  rw [after0_21]
  refine written_eq m c t y _ ?_ ?_
  · blk_simp
    rw [(index_21 t).1]; omega
  · blk_simp
    rw [(index_21 t).2]; omega

/-- The result's array is the exact launch's. -/
theorem toForget (c : Dev nD) {F} : ((dats m 0 c).toRForget forgets0).ArrAt 21 (cfgs 0).N F ↔ F = (dats m 0 c).arrAt 21 (cfgs 0).N :=
  (dats m 0 c).toRForget_arrAt_iff (by decide) _ F

variable {m} {c : Dev nD} {V1 : Valuation Cert.ReferenceIdeal.τ Cert.ReferenceIdeal.sig (Elt Ideal)}

/-- In the columns of the retention the result is the reference's. -/
theorem result_eq (E : Same (fun b => m (c, b)) V1) (H : Cert.ReferenceIdeal.Hand.Real0 V1) (i : S8192x3712.Idx) (hi : (i 1 : ℕ) < 2048) :
    @Eq EReal (result m c i) (Cert.ReferenceIdeal.Value.val5 V1 (Proc.devRef .tc Cert.ReferenceIdeal.main_v214) i) := by
  have hs : (i 0 : ℕ) < 8192 := (i 0).isLt
  have hP : (i 1 : ℕ) / 512 < 4 := by omega
  have hh : (i 1 : ℕ) % 512 / 128 < 4 := by omega
  have hd : (i 1 : ℕ) % 128 < 128 := Nat.mod_lt _ (by norm_num)
  have e := block_at (blk_of E H) (pointOf (i 0)) (within (i 0)) ⟨_, hP⟩ ⟨_, hh⟩ ⟨_, hd⟩ (i 1) (by simp only; omega)
  have f := Cert.ReferenceIdeal.Hand.result_at V1 H (i 0) ⟨_, hh⟩ ⟨_, hd⟩ ⟨_, hP⟩ (i 1) (by simp only; omega)
  rw [show rowb (bk (pointOf (i 0))) (within (i 0)) = i 0 from
    Fin.ext (by show 512 * (15 - (15 - (i 0 : ℕ) / 512)) + (i 0 : ℕ) % 512 = i 0; omega)] at e
  exact e.trans (f.symm.trans (congrArg _ (eq_ix2 i).symm))

end Cert.KernelIdeal.Hand

namespace Cert.Algebraic

open Cert.KernelIdeal.Hand Cert.Retention

/-- The kernel's arguments on device `c` are the reference's. -/
theorem same {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ} (c : Dev Cert.KernelIdeal.nD)
    (h0 : m' (c, Proc.devRef .tc Cert.ReferenceIdeal.main_arg0) = m (c, Proc.devRef .tc Cert.KernelIdeal.main_arg0))
    (h1 : m' (c, Proc.devRef .tc Cert.ReferenceIdeal.main_arg1) = m (c, Proc.devRef .tc Cert.KernelIdeal.main_arg1))
    (h6 : m' (c, Proc.devRef .tc Cert.ReferenceIdeal.main_arg6) = m (c, Proc.devRef .tc Cert.KernelIdeal.main_arg6)) :
    Same (fun b => m (c, b)) (StableHlo.launchContents m' c) := ⟨h0, h1, h6⟩

/-- The value claim of the mixer's backward call. -/
theorem retention : Cert.algebraic_KernelIdeal_ReferenceIdeal_on_retention_columns_pre_finite := by
  intro m g m' g' hpre hag
  have S : ∀ c, Same (fun b => m (c, b)) (StableHlo.launchContents m' c) := fun c => same c (hag c).1 (hag c).2.1 (hag c).2.2.2.2.2.2.1
  have R : ∀ c, Cert.ReferenceIdeal.Hand.Real0 (StableHlo.launchContents m' c) := fun c => by
    unfold Cert.ReferenceIdeal.Hand.Real0
    rw [(S c).e0, (S c).e1, (S c).e6]
    exact real_of_finite (hpre c)
  refine ⟨fun c => Cert.ReferenceIdeal.Value.val5 (StableHlo.launchContents m' c) (Proc.devRef .tc Cert.ReferenceIdeal.main_v214), ?_, ?_⟩
  · exact (θ_run Cert.KernelIdeal.defs _ _).mono (fun _ h c => ⟨fun i hi =>
      (congrFun (((toForget m c).mp ((h.2 c).1 21)).trans (final m c)) i).trans (result_eq (S c) (R c) i (column_lt i hi)),
      h.1 c⟩) (θ_run_and (unchanged m g) (run_main m g))
  · exact (θ_run Cert.ReferenceIdeal.defs _ _).mono
      (fun _ h c => ⟨fun i _ => congrFun ((h c).1.trans (Cert.ReferenceIdeal.Value.val5_main_v214 _).symm) i, (h c).2⟩)
      (Cert.ReferenceIdeal.Value.run (F := Ideal) m' g')

end Cert.Algebraic
end
-- ==== Proof.Norm.lean ====
/- The layer normalisation of a row, over the extended reals. -/
module

public import Idealize.ShloMosaic.Lib.Pipeline.ValueKit
public import Idealize.ShloMosaic.Lib.Pipeline.ReadBack

@[expose] public section

noncomputable section

open Idealize.ShloMosaic

namespace Cert.Norm

/-- The mean of a row. -/
def mean (x : Fin 1024 → EReal) : EReal := Ideal.div (∑ j, x j) (Ideal.ofBits .f32 1149239296#32)

/-- The variance of a row. -/
def var (x : Fin 1024 → EReal) : EReal := Ideal.div (∑ j, (x j - mean x) * (x j - mean x)) (Ideal.ofBits .f32 1149239296#32)

/-- The reciprocal of the standard deviation. -/
def rstd (x : Fin 1024 → EReal) : EReal := Ideal.rsqrt (var x + Ideal.ofBits .f32 925353388#32)

/-- The normed row. -/
def normed (x : Fin 1024 → EReal) (j : Fin 1024) : EReal := (x j - mean x) * rstd x

/-- The normed row, scaled and shifted. -/
def modulated (x sc sh : Fin 1024 → EReal) (j : Fin 1024) : EReal := normed x j * sc j + sh j

section Writes

variable {Val : EltTy → Type} [∀ e, Nonempty (Val e)] {e : EltTy}

/-- What several writes leave, where the last one wrote. -/
theorem canon_cons_unit_apply {S : Shape} {off size : Fin S.rank → ℕ}
    (inb : ∀ a, off a + size a ≤ S.size a) (w : (Rect.unit off size inb).shape.Idx → Val e) (L : List (View.Piece Val S e))
    (i : S.Idx) (x : (Rect.unit off size inb).shape.Idx) (h : ∀ a, (i a).val = off a + (x a).val) :
    View.canon (⟨Rect.unit off size inb, w⟩ :: L) i = w x := by
  rw [show i = (Rect.unit off size inb).emb x from funext fun a => Fin.ext ((h a).trans (ValueKit.rect_emb_unit_val off size inb x a).symm)]
  exact View.canon_cons_emb _ w L x

/-- The same for whole rows of a matrix. -/
theorem canon_cons_rows {R C o r : ℕ} (inb : ∀ a, (![o, 0] : Fin 2 → ℕ) a + (![r, C] : Fin 2 → ℕ) a ≤ (⟨2, ![R, C]⟩ : Shape).size a)
    (w : (⟨2, ![r, C]⟩ : Shape).Idx → Val e) (L : List (View.Piece Val ⟨2, ![R, C]⟩ e)) (i : (⟨2, ![R, C]⟩ : Shape).Idx)
    (x : Fin r) (h : (i 0).val = o + x.val) :
    View.canon (⟨Rect.unit (s := ⟨2, ![R, C]⟩) ![o, 0] ![r, C] inb, w⟩ :: L) i = w (ix2 x (i 1)) :=
  canon_cons_unit_apply (S := ⟨2, ![R, C]⟩) (off := ![o, 0]) (size := ![r, C]) inb w L i (ix2 x (i 1)) fun a => by
    match a with
    | 0 => exact h
    | 1 => exact (Nat.zero_add _).symm

/-- Rows the last write did not reach. -/
theorem canon_cons_rows_of_not {R C o r : ℕ} (inb : ∀ a, (![o, 0] : Fin 2 → ℕ) a + (![r, C] : Fin 2 → ℕ) a ≤ (⟨2, ![R, C]⟩ : Shape).size a)
    (w : (⟨2, ![r, C]⟩ : Shape).Idx → Val e) (L : List (View.Piece Val ⟨2, ![R, C]⟩ e)) (i : (⟨2, ![R, C]⟩ : Shape).Idx)
    (h : ¬(o ≤ (i 0).val ∧ (i 0).val < o + r)) :
    View.canon (⟨Rect.unit (s := ⟨2, ![R, C]⟩) ![o, 0] ![r, C] inb, w⟩ :: L) i = View.canon L i := by
  refine View.canon_cons_of_not_mem _ _ fun hm => h ?_
  have h' := (Rect.mem_set_unit (s := ⟨2, ![R, C]⟩) (off := ![o, 0]) (size := ![r, C]) (inb := inb) (i := i)).mp hm
  exact h' 0

/-- A load of whole rows of what several writes left. -/
theorem readCov_rows {sig : RefSig} {κ : Kind} {sp : Space} {R C o r : ℕ} (v : View sig κ sp ⟨2, ![R, C]⟩ e) (L : List (View.Piece Val ⟨2, ![R, C]⟩ e))
    (inb : ∀ a, (![o, 0] : Fin 2 → ℕ) a + (![r, C] : Fin 2 → ℕ) a ≤ (⟨2, ![R, C]⟩ : Shape).size a) (i : (⟨2, ![r, C]⟩ : Shape).Idx) (x : Fin R)
    (h : x.val = o + (i 0).val) :
    v.readCov L (Rect.unit (s := ⟨2, ![R, C]⟩) ![o, 0] ![r, C] inb).toLoadRect i = View.canon L (ix2 x (i 1)) := by
  rw [View.readCov_eq_canon']
  refine congrArg (View.canon L) (funext fun a => Fin.ext ?_)
  refine (ValueKit.rect_emb_unit_val (s := ⟨2, ![R, C]⟩) ![o, 0] ![r, C] inb i a).trans ?_
  match a with
  | 0 => exact h.symm
  | 1 => exact Nat.zero_add _

/-- A store over the whole array leaves its payload. -/
theorem canon_whole {S : Shape} (w : S.Idx → Val e) : View.canon [(⟨Rect.whole S, w⟩ : View.Piece Val S e)] = w := by
  funext y
  have h := View.canon_cons_emb (Val := Val) (Rect.whole S) w [] y
  rw [Rect.emb_whole_apply] at h
  exact h

/-- A load after a store over the whole array reads its payload. -/
theorem readCov_whole {sig : RefSig} {κ : Kind} {sp : Space} {S : Shape} (v : View sig κ sp S e) (w : S.Idx → Val e) (r : Rect S) :
    v.readCov [(⟨Rect.whole S, w⟩ : View.Piece Val S e)] r.toLoadRect = View.ld w r := by
  rw [View.readCov_eq_canon', canon_whole]

/-- Writes that agree with one function leave it wherever they reach. -/
theorem canon_agree {S : Shape} (L : List (View.Piece Val S e)) (f : S.Idx → Val e) (h : ∀ p ∈ L, ∀ x, p.2 x = f (p.1.emb x))
    (y : S.Idx) (hy : ∃ p ∈ L, y ∈ p.1.set) : View.canon L y = f y := by
  induction L with
  | nil => obtain ⟨p, hp, _⟩ := hy; exact absurd hp (List.not_mem_nil)
  | cons p L ih =>
    by_cases hm : y ∈ p.1.set
    · obtain ⟨x, rfl⟩ : ∃ x, p.1.emb x = y := by
        rw [← Rect.map_emb_univ, Finset.mem_map] at hm
        obtain ⟨x, _, hx⟩ := hm
        exact ⟨x, hx⟩
      exact (View.canon_cons_emb p.1 p.2 L x).trans (h p (List.mem_cons_self ..) x)
    · rw [View.canon_cons_of_not_mem p L hm]
      refine ih (fun q hq => h q (List.mem_cons_of_mem _ hq)) ?_
      obtain ⟨q, hq, hyq⟩ := hy
      rcases List.mem_cons.mp hq with rfl | hq
      · exact absurd hyq hm
      · exact ⟨q, hq, hyq⟩

/-- A load of whole rows of an array. -/
theorem ld_rows {R C o r : ℕ} (X : (⟨2, ![R, C]⟩ : Shape).Idx → Val e)
    (inb : ∀ a, (![o, 0] : Fin 2 → ℕ) a + (![r, C] : Fin 2 → ℕ) a ≤ (⟨2, ![R, C]⟩ : Shape).size a) (i : (⟨2, ![r, C]⟩ : Shape).Idx) (x : Fin R)
    (h : x.val = o + (i 0).val) :
    View.ld X (Rect.unit (s := ⟨2, ![R, C]⟩) ![o, 0] ![r, C] inb) i = X (ix2 x (i 1)) := by
  refine congrArg X (funext fun a => Fin.ext ?_)
  refine (ValueKit.rect_emb_unit_val (s := ⟨2, ![R, C]⟩) ![o, 0] ![r, C] inb i a).trans ?_
  match a with
  | 0 => exact h.symm
  | 1 => exact Nat.zero_add _

/-- Where a block of whole columns lies. -/
theorem emb_cols {R C o c : ℕ} (inb : ∀ a, (![0, o] : Fin 2 → ℕ) a + (![R, c] : Fin 2 → ℕ) a ≤ (⟨2, ![R, C]⟩ : Shape).size a)
    (i : (⟨2, ![R, c]⟩ : Shape).Idx) (q : Fin C) (h : q.val = o + (i 1).val) :
    (Rect.unit (s := ⟨2, ![R, C]⟩) ![0, o] ![R, c] inb).emb i = ix2 (i 0) q := by
  refine funext fun a => Fin.ext ?_
  refine (ValueKit.rect_emb_unit_val (s := ⟨2, ![R, C]⟩) ![0, o] ![R, c] inb i a).trans ?_
  match a with
  | 0 => exact Nat.zero_add _
  | 1 => exact h.symm

/-- The places of a block of whole columns. -/
theorem mem_cols {R C o c : ℕ} (inb : ∀ a, (![0, o] : Fin 2 → ℕ) a + (![R, c] : Fin 2 → ℕ) a ≤ (⟨2, ![R, C]⟩ : Shape).size a)
    (y : (⟨2, ![R, C]⟩ : Shape).Idx) :
    y ∈ (Rect.unit (s := ⟨2, ![R, C]⟩) ![0, o] ![R, c] inb).set ↔ o ≤ (y 1).val ∧ (y 1).val < o + c := by
  rw [Rect.mem_set_unit]
  refine ⟨fun h => h 1, fun h a => ?_⟩
  match a with
  | 0 => exact ⟨Nat.zero_le _, (y 0).isLt.trans_le (Nat.zero_add R).ge⟩
  | 1 => exact h

/-- What writes over an array leave, where the last one wrote whole rows. -/
theorem read_writes_rows {sig : RefSig} {κ : Kind} {sp : Space} {R C o r : ℕ} (v : View sig κ sp ⟨2, ![R, C]⟩ e) (f : v.ty.Contents Val)
    (inb : ∀ a, (![o, 0] : Fin 2 → ℕ) a + (![r, C] : Fin 2 → ℕ) a ≤ (⟨2, ![R, C]⟩ : Shape).size a)
    (w : (⟨2, ![r, C]⟩ : Shape).Idx → Val e) (L : List (View.Piece Val ⟨2, ![R, C]⟩ e)) (i : (⟨2, ![R, C]⟩ : Shape).Idx)
    (x : Fin r) (h : (i 0).val = o + x.val) :
    v.read Val (v.writes Val f (⟨Rect.unit (s := ⟨2, ![R, C]⟩) ![o, 0] ![r, C] inb, w⟩ :: L)) i = w (ix2 x (i 1)) := by
  refine (View.read_writes_apply_eq_canon v f i _ ⟨_, List.mem_cons_self, ?_⟩).trans (canon_cons_rows inb w L i x h)
  refine (Rect.mem_set_unit (s := ⟨2, ![R, C]⟩) (off := ![o, 0]) (size := ![r, C]) (inb := inb) (i := i)).mpr fun a => ?_
  match a with
  | 0 => exact ⟨by show o ≤ (i 0).val; omega, by show (i 0).val < o + r; omega⟩
  | 1 => exact ⟨Nat.zero_le _, lt_of_lt_of_eq (i 1).isLt (Nat.zero_add _).symm⟩

/-- What writes over an array leave where the last one did not write. -/
theorem read_writes_rows_of_not {sig : RefSig} {κ : Kind} {sp : Space} {R C o r : ℕ} (v : View sig κ sp ⟨2, ![R, C]⟩ e) (f : v.ty.Contents Val)
    (inb : ∀ a, (![o, 0] : Fin 2 → ℕ) a + (![r, C] : Fin 2 → ℕ) a ≤ (⟨2, ![R, C]⟩ : Shape).size a)
    (w : (⟨2, ![r, C]⟩ : Shape).Idx → Val e) (L : List (View.Piece Val ⟨2, ![R, C]⟩ e)) (i : (⟨2, ![R, C]⟩ : Shape).Idx)
    (h : ¬(o ≤ (i 0).val ∧ (i 0).val < o + r)) :
    v.read Val (v.writes Val f (⟨Rect.unit (s := ⟨2, ![R, C]⟩) ![o, 0] ![r, C] inb, w⟩ :: L)) i = v.read Val (v.writes Val f L) i := by
  have hn : i ∉ (Rect.unit (s := ⟨2, ![R, C]⟩) ![o, 0] ![r, C] inb).set := fun hm =>
    h ((Rect.mem_set_unit (s := ⟨2, ![R, C]⟩) (off := ![o, 0]) (size := ![r, C]) (inb := inb) (i := i)).mp hm 0)
  rw [View.writes_cons]
  exact View.read_slice_write_of_not_mem _ _ _ _ (by rwa [Rect.map_emb_univ])

end Writes

/-- The input projection's weights over the rows of zeros that pad them. -/
def padded (w : (⟨2, ![3600, 1024]⟩ : Shape).Idx → EReal) : (⟨2, ![3712, 1024]⟩ : Shape).Idx → EReal := fun i =>
  if h : (i 0).val < 3600 then w (ix2 (⟨(i 0).val, h⟩ : Fin 3600) (i 1)) else 0

theorem padded_in (w) (i : (⟨2, ![3712, 1024]⟩ : Shape).Idx) (h : (i 0).val < 3600) : padded w i = w (ix2 (⟨(i 0).val, h⟩ : Fin 3600) (i 1)) := by
  unfold padded; exact dif_pos h

theorem padded_out (w) (i : (⟨2, ![3712, 1024]⟩ : Shape).Idx) (h : ¬(i 0).val < 3600) : padded w i = 0 := by
  unfold padded; exact dif_neg h

/-- The weights written over zeros. -/
theorem canon_padded (w : (⟨2, ![3600, 1024]⟩ : Shape).Idx → Elt Ideal .bf16) (z : (⟨2, ![112, 1024]⟩ : Shape).Idx → Elt Ideal .bf16) (hz : ∀ i, z i = (0 : EReal)) (inb inb') :
    View.canon (Val := Elt Ideal) [⟨Rect.unit (s := ⟨2, ![3712, 1024]⟩) ![0, 0] ![3600, 1024] inb, w⟩,
        ⟨Rect.unit (s := ⟨2, ![3712, 1024]⟩) ![3600, 0] ![112, 1024] inb', z⟩] = padded w := by
  funext i
  by_cases h : (i 0).val < 3600
  · exact (canon_cons_rows _ w _ i (⟨(i 0).val, h⟩ : Fin 3600) (Nat.zero_add _).symm).trans (padded_in w i h).symm
  · have h0 : (i 0).val < 3712 := (i 0).isLt
    exact (canon_cons_rows_of_not _ w _ i (by omega)).trans ((canon_cons_rows _ _ _ i (⟨(i 0).val - 3600, by omega⟩ : Fin 112)
      (Nat.add_sub_of_le (not_lt.mp h)).symm).trans ((padded_out w i h).trans (hz _).symm).symm)

/-- A load of the whole of the two writes reads the padded weights. -/
theorem readCov_padded {sig : RefSig} {κ : Kind} {sp : Space} (v : View sig κ sp ⟨2, ![3712, 1024]⟩ .bf16) (w : (⟨2, ![3600, 1024]⟩ : Shape).Idx → Elt Ideal .bf16)
    (z : (⟨2, ![112, 1024]⟩ : Shape).Idx → Elt Ideal .bf16) (hz : ∀ i, z i = (0 : EReal)) (inb inb' inb'') :
    v.readCov (Val := Elt Ideal) [⟨Rect.unit (s := ⟨2, ![3712, 1024]⟩) ![0, 0] ![3600, 1024] inb, w⟩,
        ⟨Rect.unit (s := ⟨2, ![3712, 1024]⟩) ![3600, 0] ![112, 1024] inb', z⟩] (Rect.unit (s := ⟨2, ![3712, 1024]⟩) ![0, 0] ![3712, 1024] inb'').toLoadRect = padded w := by
  funext i
  refine (readCov_rows v _ _ i (i 0) (Nat.zero_add _).symm).trans ?_
  rw [canon_padded w z hz, ← eq_ix2]

/-- A sum against the padded weights ends with the last row of weights. -/
theorem sum_padded (f : Fin 3712 → EReal) (w) (j : Fin 1024) :
    ∑ k : Fin 3712, f k * padded w (ix2 k j) = ∑ k : Fin 3600, f (Fin.castAdd 112 k) * w (ix2 k j) := by
  rw [Fin.sum_univ_add (a := 3600) (b := 112) (fun k => f k * padded w (ix2 k j))]
  rw [Finset.sum_eq_zero (s := Finset.univ) (f := fun k : Fin 112 => f (Fin.natAdd 3600 k) * padded w (ix2 (Fin.natAdd 3600 k) j)) fun k _ => ?_, add_zero]
  · refine Finset.sum_congr rfl fun k _ => ?_
    rw [padded_in w (ix2 (Fin.castAdd 112 k) j) k.isLt]
    rfl
  · rw [padded_out w (ix2 (Fin.natAdd 3600 k) j) (not_lt.mpr (Nat.le_add_right 3600 k.val)), mul_zero]

end Cert.Norm

end
-- ==== Proof.InFwd.lean ====
/- The input projection: the normed rows and their product. -/
module

public import proofs.«01_k».proof.Proof.Gen.Kernel8Ideal.Value
public import proofs.«01_k».proof.Proof.Gen.Reference8Ideal.Run
public import proofs.«01_k».proof.Proof.Norm
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel8Ideal.Hand

open Cert.Kernel8Ideal Cert.Kernel8Ideal.Gen

variable (m : (ℓ : Loc nD τ sig) → Buf (Elt Ideal) ℓ)

section Reference

open Cert.Reference8Ideal Cert.Reference8Ideal.Gen

/-- The reference's rows about their means. -/
abbrev REFC (X : FVec Ideal S8192x1024 .f32) : FVec Ideal S8192x1024 .f32 :=
  subf X (broadcastInDim S8192x1024 ![0, 1] bcast_S8192x1_S8192x1024_0_1 (Host.divf (broadcastInDim S8192x1 ![0] bcast_S8192_S8192x1_0 (Host.reduceAdd X (constant S_ .f32 0x00000000#32) reducesTo_S8192x1024_S8192_d1 h_S_)) (broadcastInDim S8192x1 ![] bcast_S_S8192x1 (constant S_ .f32 0x44800000#32))))

/-- The reference's normed rows. -/
abbrev REFL (X : FVec Ideal S8192x1024 .f32) : FVec Ideal S8192x1024 .f32 :=
  mulf (REFC X) (broadcastInDim S8192x1024 ![0, 1] bcast_S8192x1_S8192x1024_0_1 (Host.rsqrt (addf (Host.divf (broadcastInDim S8192x1 ![0] bcast_S8192_S8192x1_0 (Host.reduceAdd (mulf (REFC X) (REFC X)) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x3727C5AC#32)))))

/-- The reference's modulated rows. -/
abbrev REFN (X : FVec Ideal S8192x1024 .f32) (SC SH : FVec Ideal S1x1024 .f32) : FVec Ideal S8192x1024 .f32 :=
  addf (mulf (REFL X) (broadcastInDim S8192x1024 ![0, 1] bcast_S1x1024_S8192x1024_0_1 SC)) (broadcastInDim S8192x1024 ![0, 1] bcast_S1x1024_S8192x1024_0_1 SH)

/-- The reference's product. -/
abbrev REFD (X : FVec Ideal S8192x1024 .f32) (SC SH : FVec Ideal S1x1024 .f32) (W : FVec Ideal S3600x1024 .bf16) : FVec Ideal S8192x3600 .f32 :=
  Host.dotGeneral (φ₁ := .f32) (φ₂ := .f32) dot_S8192x1024_S1024x3600_S8192x3600_1_0_0_1_n_n none (REFN X SC SH) (transpose S1024x3600 [1, 0] (extf .f32 W Cert.Reference8Ideal.Gen.bitsLt_bf16_f32) transposes_S3600x1024_S1024x3600_1_0)

/-- The reference's padded product. -/
abbrev REFP (X : FVec Ideal S8192x1024 .f32) (SC SH : FVec Ideal S1x1024 .f32) (W : FVec Ideal S3600x1024 .bf16) : FVec Ideal S8192x3712 .f32 :=
  pad S8192x3712 ![0, 0] ![0, 112] ![0, 0] (REFD X SC SH W) (sitofp .f32 (constantI S_ 32 0#32)) pads_S8192x3600_S8192x3712_000_01120 h_S_

/-- The reference's rows. -/
abbrev REFU (X : FVec Ideal S8192x1024 .f32) (SC SH : FVec Ideal S1x1024 .f32) : FVec Ideal S8192x1024 .bf16 :=
  truncf .bf16 (REFN X SC SH) Cert.Reference8Ideal.Gen.bitsLt_bf16_f32

end Reference

/-- Every window's block index at every point. -/
theorem idx : ∀ t : Fin cfg0.N, win0_0.index t = ![t.val, 0] ∧ win0_1.index t = ![0, 0] ∧ win0_2.index t = ![0, 0] ∧ win0_3.index t = ![t.val, 0] ∧ win0_4.index t = ![t.val, 0] :=
  (by decide +kernel : ∀ t : Fin grid0.N, _)

/-- The kernel's rows. -/
theorem rows_at (x : Vec Ideal S512x1024 .f32) (sc sh : Vec Ideal S1x1024 .f32) (i) :
    k0_pay2 (F := Ideal) x sc sh i = Norm.modulated (fun j => x (ix2 (i 0) j)) (fun j => sc (ix2 0 j)) (fun j => sh (ix2 0 j)) (i 1) := by
  pointwise [k0_pay2]
  simp only [Norm.modulated, Norm.normed, Norm.rstd, Norm.var, Norm.mean, ← eq_ix2]

/-- The kernel's product. -/
theorem product_at (x : Vec Ideal S512x1024 .f32) (sc sh : Vec Ideal S1x1024 .f32) (w i) :
    k0_pay3 (F := Ideal) x sc sh w i = ∑ k : Fin 1024, k0_pay2 (F := Ideal) x sc sh (ix2 (i 0) k) * w (ix2 (i 1) k) := by
  unfold k0_pay3
  pointwise []

/-- The reference's rows. -/
theorem refn_at (X SC SH i) : REFN X SC SH i = Norm.modulated (fun j => X (ix2 (i 0) j)) (fun j => SC (ix2 0 j)) (fun j => SH (ix2 0 j)) (i 1) := by
  pointwise [REFN]
  simp only [Norm.modulated, Norm.normed, Norm.rstd, Norm.var, Norm.mean, ← eq_ix2]

/-- The reference's product. -/
theorem refp_at (X SC SH W i) : REFP X SC SH W i = ∑ k : Fin 1024, REFN X SC SH (ix2 (i 0) k) * Norm.padded W (ix2 (i 1) k) := by
  by_cases h : (i 1).val < 3600
  · pointwise [REFP]
    simp [Norm.padded, h]
  · pointwise [REFP]
    simp [Norm.padded, h, FloatOps.sitofp]

/-- What the first point leaves in the scratch. -/
theorem pieces_at (w : Vec Ideal S3600x1024 .bf16) :
    (View.canon (Val := Elt Ideal) [⟨Rect.unit ![0, 0] ![3600, 1024] inb_S3712x1024_S3600x1024_0_0, w⟩,
        ⟨Rect.unit ![3600, 0] ![112, 1024] inb_S3712x1024_S112x1024_3600_0, k0_pay1 (F := Ideal)⟩] : Vec Ideal S3712x1024 .bf16) = Norm.padded w :=
  Norm.canon_padded w _ (fun i => by pointwise [k0_pay1]) _ _

/-- Every point holds the weights in the scratch. -/
theorem held (c : Dev nD) : ∀ t (h : t < cfg0.N), (outsAt0 m c t h).2.2 = Norm.padded (V m c main_arg3) := by
  intro t
  induction t with
  | zero =>
    intro h
    rw [outsAt0_A m c ⟨0, h⟩ (by simp) (by simp)]
    frame_out
    exact pieces_at _
  | succ t ih =>
    intro h
    have h16 : ¬(t + 1) % 16 = 0 := by have : t + 1 < 16 := h; omega
    rw [outsAt0_B m c ⟨t + 1, h⟩ h16 h16]
    frame_out
    exact ih _

/-- Every point's two blocks. -/
theorem out (c : Dev nD) (t : Fin cfg0.N) : (outsAt0 m c t.val t.isLt).1 = k0_pay3 (F := Ideal) (iblk m c 0 t) (iblk m c 1 t) (iblk m c 2 t) (Norm.padded (V m c main_arg3)) ∧
    (outsAt0 m c t.val t.isLt).2.1 = k0_pay2 (F := Ideal) (iblk m c 0 t) (iblk m c 1 t) (iblk m c 2 t) := by
  by_cases h : t.val % 16 = 0
  · rw [outsAt0_A m c t h h]
    frame_out
    refine ⟨congrArg _ ?_, trivial⟩
    exact Norm.readCov_padded _ _ _ (fun i => by pointwise [k0_pay1]) _ _ _
  · rw [outsAt0_B m c t h h]
    frame_out
    rw [read_unread_whole, held]
    exact ⟨rfl, trivial⟩

/-- The rows the call writes are the reference's. -/
theorem final_rows (c : Dev nD) : (dats m 0 c).arrAt 4 (cfgs 0).N = REFU (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4, (out m c t).2, rows_at]
  refine Eq.trans ?_ (refn_at _ _ _ _).symm
  blk_point [iblk, V, idx t]

/-- The product the call writes is the reference's. -/
theorem final_product (c : Dev nD) : (dats m 0 c).arrAt 3 (cfgs 0).N = REFP (m ((c : Thread nD τ).loc main_arg0)) (m ((c : Thread nD τ).loc main_arg1)) (m ((c : Thread nD τ).loc main_arg2)) (m ((c : Thread nD τ).loc main_arg3)) := by
  refine (dats m 0 c).arrAt_eq_of_covers 3 _ (by decide +kernel) fun t hf y => ?_
  blk_simp
  rw [after0_3, (out m c t).1, product_at, refp_at]
  refine Finset.sum_congr (M := EReal) rfl fun k _ => ?_
  refine congrArg₂ (fun a b : EReal => a * b) ?_ ?_
  · rw [rows_at, refn_at]
    blk_point [iblk, V, idx t]
    rfl
  · refine congrArg (Norm.padded (m ((c : Thread nD τ).loc main_arg3))) (congrArg (fun a : Fin 3712 => ix2 a k) (Fin.ext ?_))
    blk_simp
    rw [(idx t).2.2.2.1]
    simp

end Cert.Kernel8Ideal.Hand
end
-- ==== Proof.InBwd.lean ====
/- The backward call of the input projection: the gradients of its scale and its shift. -/
module

public import proofs.«01_k».proof.Proof.Gen.Kernel7Ideal.Value
public import proofs.«01_k».proof.Proof.Gen.Reference7Ideal.Run
public import proofs.«01_k».proof.Proof.Norm
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel7Ideal.Hand

open Cert.Kernel7Ideal Cert.Kernel7Ideal.Gen

variable (m : (ℓ : Loc nD τ sig) → Buf (Elt Ideal) ℓ)

section Reference

open Cert.Reference7Ideal Cert.Reference7Ideal.Gen

/-- The reference's rows about their means. -/
abbrev REFC (X : FVec Ideal S8192x1024 .f32) : FVec Ideal S8192x1024 .f32 :=
  subf X (broadcastInDim S8192x1024 ![0, 1] bcast_S8192x1_S8192x1024_0_1 (Host.divf (broadcastInDim S8192x1 ![0] bcast_S8192_S8192x1_0 (Host.reduceAdd X (constant S_ .f32 0x00000000#32) reducesTo_S8192x1024_S8192_d1 h_S_)) (broadcastInDim S8192x1 ![] bcast_S_S8192x1 (constant S_ .f32 0x44800000#32))))

/-- The reference's normed rows. -/
abbrev REFL (X : FVec Ideal S8192x1024 .f32) : FVec Ideal S8192x1024 .f32 :=
  mulf (REFC X) (broadcastInDim S8192x1024 ![0, 1] bcast_S8192x1_S8192x1024_0_1 (Host.rsqrt (addf (Host.divf (broadcastInDim S8192x1 ![0] bcast_S8192_S8192x1_0 (Host.reduceAdd (mulf (REFC X) (REFC X)) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x3727C5AC#32)))))

/-- The reference's gradient of the modulated rows. -/
abbrev REFG (D : FVec Ideal S8192x3712 .bf16) (W : FVec Ideal S3600x1024 .bf16) : FVec Ideal S8192x1024 .f32 :=
  Host.dotGeneral (φ₁ := .f32) (φ₂ := .f32) dot_S8192x3600_S1024x3600_S8192x1024_1_1_0_0_n_n none (extf .f32 (extractStridedSlice S8192x3600 ![0, 0] D slices_S8192x3712_S8192x3600_0_0) Cert.Reference7Ideal.Gen.bitsLt_bf16_f32) (transpose S1024x3600 [1, 0] (extf .f32 W Cert.Reference7Ideal.Gen.bitsLt_bf16_f32) transposes_S3600x1024_S1024x3600_1_0)

/-- The reference's gradients of the scale and the shift over rows of zeros. -/
abbrev REF (D : FVec Ideal S8192x3712 .bf16) (X : FVec Ideal S8192x1024 .f32) (W : FVec Ideal S3600x1024 .bf16) : FVec Ideal S8x1024 .f32 :=
  concatenate S8x1024 0 [⟨S1x1024, shapeCast _ (Host.reduceAdd (mulf (REFL X) (REFG D W)) (constant S_ .f32 0x00000000#32) reducesTo_S8192x1024_S1024_d0 h_S_) Cert.Reference7Ideal.Gen.shapeCasts_S1024_S1x1024⟩, ⟨S1x1024, shapeCast _ (Host.reduceAdd (REFG D W) (constant S_ .f32 0x00000000#32) reducesTo_S8192x1024_S1024_d0 h_S_) Cert.Reference7Ideal.Gen.shapeCasts_S1024_S1x1024⟩, ⟨S6x1024, broadcastInDim S6x1024 ![] bcast_S_S6x1024 (constant S_ .f32 0x00000000#32)⟩] concatenates_S1x1024_S1x1024_S6x1024_S8x1024_d0

end Reference

/-- Every window's block index at every point. -/
theorem idx : ∀ t : Fin cfg0.N, win0_0.index t = ![t.val, 0] ∧ win0_1.index t = ![t.val, 0] ∧ win0_5.index t = ![0, 0] :=
  (by decide +kernel : ∀ t : Fin grid0.N, _)

/-- A point's gradients of its modulated rows. -/
theorem grad_at (d w i) : k0_pay6 (F := Ideal) d w i = ∑ k : Fin 3712, d (ix2 (i 0) k) * w (ix2 k (i 1)) := by
  pointwise [k0_pay6]

/-- A point's normed rows. -/
theorem normed_at (x : Vec Ideal S1024x1024 .f32) (i) : k0_pay9 (F := Ideal) x i = Norm.normed (fun j => x (ix2 (i 0) j)) (i 1) := by
  pointwise [k0_pay9, k0_pay8, k0_pay7]
  simp only [Norm.normed, Norm.rstd, Norm.var, Norm.mean, ← eq_ix2]

/-- A point adds its rows to the gradient of the scale. -/
theorem scale_at (d n : Vec Ideal S1024x1024 .f32) (a : Vec Ideal S1x1024 .f32) (i) :
    k0_pay2 (F := Ideal) d n a i = a i + ∑ x : Fin 1024, d (ix2 x (i 1)) * n (ix2 x (i 1)) := by
  pointwise [k0_pay2]

/-- A point adds its rows to the gradient of the shift. -/
theorem shift_at (d : Vec Ideal S1024x1024 .f32) (a : Vec Ideal S1x1024 .f32) (i) :
    k0_pay3 (F := Ideal) d a i = a i + ∑ x : Fin 1024, d (ix2 x (i 1)) := by
  pointwise [k0_pay3]

/-- The accumulator starts at zero. -/
theorem zero_at (i) : k0_pay5 (F := Ideal) i = (0 : EReal) := by pointwise [k0_pay5]

/-- The reference's normed rows. -/
theorem refl_at (X i) : REFL X i = Norm.normed (fun j => X (ix2 (i 0) j)) (i 1) := by
  pointwise [REFL]
  simp only [Norm.normed, Norm.rstd, Norm.var, Norm.mean, ← eq_ix2]

/-- The reference's gradient of the modulated rows. -/
theorem refg_at (D W i) : REFG D W i = ∑ k : Fin 3712, D (ix2 (i 0) k) * Norm.padded W (ix2 k (i 1)) := by
  refine Eq.trans ?_ (Norm.sum_padded (fun k => D (ix2 (i 0) k)) W (i 1)).symm
  pointwise [REFG]
  rfl

/-- The reference's gradient of the scale. -/
theorem ref_scale (D X W) (j : Fin 1024) : REF D X W (ix2 0 j) = ∑ l : Fin 8192, REFG D W (ix2 l j) * REFL X (ix2 l j) := by
  pointwise [REF]
  exact Finset.sum_congr (M := EReal) rfl fun k _ => mul_comm (G := EReal) _ _

/-- The reference's gradient of the shift. -/
theorem ref_shift (D X W) (j : Fin 1024) : REF D X W (ix2 1 j) = ∑ l : Fin 8192, REFG D W (ix2 l j) := by
  pointwise [REF]

/-- What the first point leaves in the scratch. -/
theorem pieces_at (w : Vec Ideal S3600x1024 .bf16) :
    (View.canon (Val := Elt Ideal) [⟨Rect.unit ![0, 0] ![3600, 1024] inb_S3712x1024_S3600x1024_0_0, w⟩,
        ⟨Rect.unit ![3600, 0] ![112, 1024] inb_S3712x1024_S112x1024_3600_0, k0_pay4 (F := Ideal)⟩] : Vec Ideal S3712x1024 .bf16) = Norm.padded w :=
  Norm.canon_padded w _ (fun i => by pointwise [k0_pay4]) _ _

/-- What the first point loads of the scratch. -/
theorem first_at (w : Vec Ideal S3600x1024 .bf16) :
    (View.whole cc0_scratch0).readCov (Val := Elt Ideal) [⟨Rect.unit ![0, 0] ![3600, 1024] inb_S3712x1024_S3600x1024_0_0, w⟩,
        ⟨Rect.unit ![3600, 0] ![112, 1024] inb_S3712x1024_S112x1024_3600_0, k0_pay4 (F := Ideal)⟩] (Rect.unit ![0, 0] ![3712, 1024] inb_S3712x1024_S3712x1024_0_0).toLoadRect = Norm.padded w :=
  Norm.readCov_padded _ _ _ (fun i => by pointwise [k0_pay4]) _ _ _

/-- Every point holds the weights in the scratch. -/
theorem held (c : Dev nD) : ∀ t (h : t < cfg0.N), (outsAt0 m c t h).2.2 = Norm.padded (V m c main_arg4) := by
  intro t
  induction t with
  | zero =>
    intro h
    rw [outsAt0_A m c ⟨0, h⟩ (by simp) (by simp) (by simp)]
    frame_out
    exact pieces_at _
  | succ t ih =>
    intro h
    have h8 : ¬(t + 1) % 8 = 0 := by have : t + 1 < 8 := h; omega
    rw [outsAt0_B m c ⟨t + 1, h⟩ h8 h8 h8]
    frame_out
    exact ih _

/-- A point's gradients. -/
abbrev grads (c : Dev nD) (t : Fin cfg0.N) : Vec Ideal S1024x1024 .f32 := k0_pay6 (F := Ideal) (iblk m c 0 t) (Norm.padded (V m c main_arg4))

/-- What a point leaves of the scale's gradient. -/
theorem scale_step (c : Dev nD) (t : Fin cfg0.N) (j : Fin 1024) :
    (outsAt0 m c t.val t.isLt).2.1 (ix2 0 j) = (if t.val % 8 = 0 then (0 : EReal) else (outsAt0 m c (t.val - 1) (Nat.lt_of_le_of_lt (Nat.sub_le _ _) t.isLt)).2.1 (ix2 0 j))
      + ∑ x : Fin 1024, grads m c t (ix2 x j) * k0_pay9 (F := Ideal) (iblk m c 1 t) (ix2 x j) := by
  by_cases h : t.val % 8 = 0
  · rw [if_pos h, outsAt0_A m c t h h h]
    frame_out
    rw [first_at]
    refine (Norm.canon_cons_rows_of_not _ _ _ _ (by simp)).trans ((Norm.canon_cons_rows _ _ _ _ (0 : Fin 1) (by simp)).trans ((scale_at _ _ _ _).trans ?_))
    rw [Norm.readCov_rows _ _ _ _ (0 : Fin 8) (by simp)]
    refine congrArg₂ (fun a b : EReal => a + b) ?_ rfl
    exact (Norm.canon_cons_rows _ _ _ _ (0 : Fin 8) (by simp)).trans (zero_at _)
  · rw [if_neg h, outsAt0_B m c t h h h]
    frame_out
    rw [read_unread_whole, held]
    refine (Norm.read_writes_rows_of_not _ _ _ _ _ _ (by simp)).trans ((Norm.read_writes_rows _ _ _ _ _ _ (0 : Fin 1) (by simp)).trans ((scale_at _ _ _ _).trans ?_))
    rw [Norm.ld_rows _ _ _ (0 : Fin 8) (by simp)]
    rfl

/-- What a point leaves of the shift's gradient. -/
theorem shift_step (c : Dev nD) (t : Fin cfg0.N) (j : Fin 1024) :
    (outsAt0 m c t.val t.isLt).2.1 (ix2 1 j) = (if t.val % 8 = 0 then (0 : EReal) else (outsAt0 m c (t.val - 1) (Nat.lt_of_le_of_lt (Nat.sub_le _ _) t.isLt)).2.1 (ix2 1 j))
      + ∑ x : Fin 1024, grads m c t (ix2 x j) := by
  by_cases h : t.val % 8 = 0
  · rw [if_pos h, outsAt0_A m c t h h h]
    frame_out
    rw [first_at]
    refine (Norm.canon_cons_rows _ _ _ _ (0 : Fin 1) (by simp)).trans ((shift_at _ _ _).trans ?_)
    rw [Norm.readCov_rows _ _ _ _ (1 : Fin 8) (by simp)]
    refine congrArg₂ (fun a b : EReal => a + b) ?_ rfl
    exact (Norm.canon_cons_rows_of_not _ _ _ _ (by simp)).trans ((Norm.canon_cons_rows _ _ _ _ (1 : Fin 8) (by simp)).trans (zero_at _))
  · rw [if_neg h, outsAt0_B m c t h h h]
    frame_out
    rw [read_unread_whole, held]
    refine (Norm.read_writes_rows _ _ _ _ _ _ (0 : Fin 1) (by simp)).trans ((shift_at _ _ _).trans ?_)
    rw [Norm.ld_rows _ _ _ (1 : Fin 8) (by simp)]
    rfl

/-- A point's gradients are the reference's of its rows. -/
theorem grads_at (c : Dev nD) (t : Fin cfg0.N) (x j : Fin 1024) (l : Fin 8192) (hl : l.val = 1024 * t.val + x.val) :
    grads m c t (ix2 x j) = REFG (m ((c : Thread nD τ).loc main_arg0)) (m ((c : Thread nD τ).loc main_arg4)) (ix2 l j) := by
  refine (grad_at _ _ _).trans (Eq.trans ?_ (refg_at _ _ _).symm)
  refine Finset.sum_congr (M := EReal) rfl fun k _ => congrArg₂ (fun a b : EReal => a * b) ?_ rfl
  blk_point [iblk, V, idx t]

/-- A point's normed rows are the reference's. -/
theorem rows_at (c : Dev nD) (t : Fin cfg0.N) (x j : Fin 1024) (l : Fin 8192) (hl : l.val = 1024 * t.val + x.val) :
    k0_pay9 (F := Ideal) (iblk m c 1 t) (ix2 x j) = REFL (m ((c : Thread nD τ).loc main_arg1)) (ix2 l j) := by
  rw [normed_at, refl_at]
  refine congrArg (fun f => Norm.normed f j) (funext fun k => ?_)
  blk_point [iblk, V, idx t]

/-- The last point leaves the scale's gradient. -/
theorem scale_last (c : Dev nD) (t : Fin cfg0.N) (h : t.val % 8 = 7) (j : Fin 1024) : (outsAt0 m c t.val t.isLt).2.1 (ix2 0 j)
    = REF (m ((c : Thread nD τ).loc main_arg0)) (m ((c : Thread nD τ).loc main_arg1)) (m ((c : Thread nD τ).loc main_arg4)) (ix2 0 j) := by
  refine (Pipeline.eq_sum_fin_of_reset_step_apply_of_flush (M := EReal) (fun n h (j : Fin 1024) => (outsAt0 m c n h).2.1 (ix2 0 j)) 8 (fun _ => 0)
    (fun t j => ∑ x : Fin 1024, grads m c t (ix2 x j) * k0_pay9 (F := Ideal) (iblk m c 1 t) (ix2 x j))
    (fun t h j => (scale_step m c t j).trans (by rw [if_pos h])) (fun t h j => (scale_step m c t j).trans (by rw [if_neg h])) t h j).trans ?_
  rw [zero_add, ref_scale]
  refine Fin.sum_mul_add_congr fun s k hl => ?_
  have hn : s.val * 1024 + k.val = 1024 * (8 * (t.val / 8) + s.val) + k.val := by have : t.val < 8 := t.isLt; omega
  exact congrArg₂ (fun a b : EReal => a * b) (grads_at m c _ _ _ _ hn) (rows_at m c _ _ _ _ hn)

/-- The last point leaves the shift's gradient. -/
theorem shift_last (c : Dev nD) (t : Fin cfg0.N) (h : t.val % 8 = 7) (j : Fin 1024) : (outsAt0 m c t.val t.isLt).2.1 (ix2 1 j)
    = REF (m ((c : Thread nD τ).loc main_arg0)) (m ((c : Thread nD τ).loc main_arg1)) (m ((c : Thread nD τ).loc main_arg4)) (ix2 1 j) := by
  refine (Pipeline.eq_sum_fin_of_reset_step_apply_of_flush (M := EReal) (fun n h (j : Fin 1024) => (outsAt0 m c n h).2.1 (ix2 1 j)) 8 (fun _ => 0)
    (fun t j => ∑ x : Fin 1024, grads m c t (ix2 x j))
    (fun t h j => (shift_step m c t j).trans (by rw [if_pos h])) (fun t h j => (shift_step m c t j).trans (by rw [if_neg h])) t h j).trans ?_
  rw [zero_add, ref_shift]
  refine Fin.sum_mul_add_congr fun s k hl => ?_
  have hn : s.val * 1024 + k.val = 1024 * (8 * (t.val / 8) + s.val) + k.val := by have : t.val < 8 := t.isLt; omega
  exact grads_at m c _ _ _ _ hn

/-- The first two rows of the accumulator are the reference's. -/
theorem final (c : Dev nD) (i : S8x1024.Idx) (hi : (i 0).val < 2) : (dats m 0 c).arrAt 5 (cfgs 0).N i
    = REF (m ((c : Thread nD τ).loc main_arg0)) (m ((c : Thread nD τ).loc main_arg1)) (m ((c : Thread nD τ).loc main_arg4)) i := by
  have h : (dats m 0 c).arrAt 5 (cfgs 0).N = (outsAt0 m c 7 (by decide)).2.1 := by
    refine (dats m 0 c).arrAt_eq_of_covers 5 _ (by decide +kernel) fun t hf y => ?_
    have h7 : t.val % 8 = 7 := (flush0_5 t).mp hf
    blk_simp
    rw [after0_5]
    have ht : t = ⟨7, by decide⟩ := Fin.ext (by have : t.val < 8 := t.isLt; change t.val = 7; omega)
    refine Eq.trans (b := (outsAt0 m c t.val t.isLt).2.1 ((win0_5.blk t).view.emb y)) (congrArg _ (funext fun a => Fin.ext ?_)) (by subst ht; rfl)
    blk_simp
    rw [(idx t).2.2]
    match a with
    | 0 => simp
    | 1 => simp
  rw [h, eq_ix2 i]
  obtain h0 | h0 : i 0 = (0 : Fin 8) ∨ i 0 = (1 : Fin 8) := by
    rcases (by omega : (i 0).val = 0 ∨ (i 0).val = 1) with h | h
    · exact .inl (Fin.ext h)
    · exact .inr (Fin.ext h)
  · rw [h0]
    exact scale_last m c ⟨7, by decide⟩ rfl (i 1)
  · rw [h0]
    exact shift_last m c ⟨7, by decide⟩ rfl (i 1)

end Cert.Kernel7Ideal.Hand
end
-- ==== Proof.NormBwd.lean ====
/- The backward pass of a row's norm: as the kernel computes it and as the derivative's program does. -/
module

public import proofs.«01_k».proof.Proof.Norm
public import proofs.«01_k».proof.Proof.Args

@[expose] public section

noncomputable section

namespace Cert.Norm

open Idealize.ShloMosaic Finset Cert.Retention

/-- The kernel's gradient of a row from the gradient of its norm. -/
def back (g x : Fin 1024 → EReal) (j : Fin 1024) : EReal :=
  rstd x * (g j - Ideal.div (∑ k, g k) (Ideal.ofBits .f32 1149239296#32)
    - normed x j * Ideal.div (∑ k, g k * normed x k) (Ideal.ofBits .f32 1149239296#32))

/-- The derivative's part through the variance. -/
def bend (g x : Fin 1024 → EReal) (j : Fin 1024) : EReal :=
  Ideal.div ((∑ k, (x k - mean x) * g k) * (Ideal.ofBits .f32 0xBF000000#32 * Ideal.div (rstd x) (var x + Ideal.ofBits .f32 925353388#32))) (Ideal.ofBits .f32 1149239296#32)
    * (Ideal.ofBits .f32 0x40000000#32 * (x j - mean x))

/-- The derivative's gradient of a row. -/
def slope (g x : Fin 1024 → EReal) (j : Fin 1024) : EReal :=
  g j * rstd x + bend g x j + Ideal.div ((∑ k, -(g k * rstd x)) + ∑ k, -bend g x k) (Ideal.ofBits .f32 1149239296#32)

/-- A row's length. -/
theorem length_word : Ideal.ofBits .f32 1149239296#32 = ((1024 : ℝ) : EReal) := by
  simp [Ideal.ofBits, Ideal.ieee, -EReal.coe_mul]; norm_num

/-- The number under the root. -/
theorem eps_word : Ideal.ofBits .f32 925353388#32 = ((10995116 / 2 ^ 40 : ℝ) : EReal) := word_eps

/-- The identity between the two over the reals. -/
theorem real_back (g c : Fin 1024 → ℝ) (r v : ℝ) (h : r * r = v⁻¹) (hc : ∑ k, c k = 0) (j : Fin 1024) :
    g j * r + (∑ k, c k * g k) * (-(1 / 2) * (r / v)) / 1024 * (2 * c j)
      + ((∑ k, -(g k * r)) + ∑ k, -((∑ k, c k * g k) * (-(1 / 2) * (r / v)) / 1024 * (2 * c k))) / 1024
    = r * (g j - (∑ k, g k) / 1024 - c j * r * ((∑ k, g k * (c k * r)) / 1024)) := by
  have h1 : ∑ k, g k * (c k * r) = (∑ k, c k * g k) * r := by
    rw [sum_mul]; exact sum_congr rfl fun k _ => by ring
  have h2 : ∑ k, -((∑ k, c k * g k) * (-(1 / 2) * (r / v)) / 1024 * (2 * c k)) = 0 := by
    rw [sum_neg_distrib, ← mul_sum, ← mul_sum, hc]; simp
  have h3 : ∑ k, -(g k * r) = -((∑ k, g k) * r) := by rw [sum_neg_distrib, sum_mul]
  rw [h1, h2, h3, div_eq_mul_inv r, ← h]
  ring

/-- On finite rows the two agree. -/
theorem slope_eq (g x : Fin 1024 → EReal) (hg : ∀ k, ∃ a : ℝ, g k = (a : EReal)) (hx : ∀ k, ∃ a : ℝ, x k = (a : EReal)) (j : Fin 1024) :
    slope g x j = back g x j := by
  choose g' hg using hg
  choose x' hx using hx
  obtain rfl : g = fun k => (g' k : EReal) := funext hg
  obtain rfl : x = fun k => (x' k : EReal) := funext hx
  set a : ℝ := (∑ k, x' k) / 1024 with ha
  have hm : mean (fun k => (x' k : EReal)) = (a : EReal) := by
    unfold mean
    rw [coe_sum, length_word, div_real _ _ (by norm_num)]
  set v : ℝ := (∑ k, (x' k - a) * (x' k - a)) / 1024 + 10995116 / 2 ^ 40 with hv
  have hv0 : 0 < v := add_pos_of_nonneg_of_pos (div_nonneg (sum_nonneg fun _ _ => mul_self_nonneg _) (by norm_num)) (by norm_num)
  have he : var (fun k => (x' k : EReal)) + Ideal.ofBits .f32 925353388#32 = (v : EReal) := by
    unfold var
    simp only [hm, ← EReal.coe_sub, ← EReal.coe_mul]
    rw [coe_sum, length_word, div_real _ _ (by norm_num), eps_word, ← EReal.coe_add]
  have hr : rstd (fun k => (x' k : EReal)) = ((Real.sqrt v)⁻¹ : ℝ) := by
    unfold rstd
    rw [he, rsqrt_real _ hv0]
  have hh : (Real.sqrt v)⁻¹ * (Real.sqrt v)⁻¹ = v⁻¹ := by rw [← mul_inv, Real.mul_self_sqrt hv0.le]
  have hc : ∑ k, (x' k - a) = 0 := by
    rw [sum_sub_distrib, sum_const, ha]
    simp
    ring
  unfold slope bend back normed
  simp only [hm, he, hr, length_word, word_2, word_neg_half, ← EReal.coe_sub, ← EReal.coe_mul, ← EReal.coe_neg, coe_sum, div_real _ _ hv0.ne',
    div_real _ (1024 : ℝ) (by norm_num), ← EReal.coe_add]
  exact congrArg _ (real_back g' (fun k => x' k - a) _ v hh hc j)

end Cert.Norm
end
-- ==== Proof.InRows.lean ====
/- The backward call of the input projection: the gradient of its rows. -/
module

public import proofs.«01_k».proof.Pre_finite7
public import proofs.«01_k».proof.Proof.InBwd
public import proofs.«01_k».proof.Proof.NormBwd
public import proofs.«01_k».proof.Proof.Masks

@[expose] public section

set_option maxRecDepth 16384

noncomputable section

open Idealize.ShloMosaic Idealize.ShloMosaic.TcCoe Idealize.SL.Sem
open Idealize.ShloMosaic.Pipeline (Dat)

namespace Cert.Pre_finite7.Gen

/-- The predicate's side conditions. -/
instance facts : Cert.Pre_finite7.Facts where
  slices_S8192x3712_S8192x3600_0_0 := by decide
  bitsLt_bf16_f32 := by decide
  bcast_S_S8192x3600 := by decide
  reducesTo_S8192x3600_S_d0_1 := by decide
  h_S_ := by decide
  bcast_S_S8192x1024 := by decide
  reducesTo_S8192x1024_S_d0_1 := by decide
  bcast_S_S1x1024 := by decide
  reducesTo_S1x1024_S_d0_1 := by decide
  bcast_S_S3600x1024 := by decide
  reducesTo_S3600x1024_S_d0_1 := by decide

end Cert.Pre_finite7.Gen

namespace Cert.Kernel7Ideal.Hand

open Cert.Kernel7Ideal Cert.Kernel7Ideal.Gen

variable (m : (ℓ : Loc nD τ sig) → Buf (Elt Ideal) ℓ)

section Reference

open Cert.Reference7Ideal Cert.Reference7Ideal.Gen

/-- The numbers under the roots of the reference's rows. -/
abbrev REFV (X : FVec Ideal S8192x1024 .f32) : FVec Ideal S8192x1 .f32 :=
  addf (Host.divf (broadcastInDim S8192x1 ![0] bcast_S8192_S8192x1_0 (Host.reduceAdd (mulf (REFC X) (REFC X)) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x3727C5AC#32))

/-- The reference's gradient of the rows, from the gradient of the modulated rows. -/
abbrev REFX (G X A : FVec Ideal S8192x1024 .f32) (SC : FVec Ideal S1x1024 .f32) : FVec Ideal S8192x1024 .f32 :=
  addf A (addf (addf (mulf (mulf G (broadcastInDim S8192x1024 ![0, 1] bcast_S1x1024_S8192x1024_0_1 SC)) (broadcastInDim S8192x1024 ![0, 1] bcast_S8192x1_S8192x1024_0_1 (Host.rsqrt (REFV X)))) (mulf (broadcastInDim S8192x1024 ![0] bcast_S8192_S8192x1024_0 (Host.reduceAdd (Host.divf (mulf (shapeCast _ (Host.reduceAdd (mulf (REFC X) (mulf G (broadcastInDim S8192x1024 ![0, 1] bcast_S1x1024_S8192x1024_0_1 SC))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (REFV X)) (REFV X)))) (broadcastInDim S8192x1 ![] bcast_S_S8192x1 (constant S_ .f32 0x44800000#32))) (constant S_ .f32 0x00000000#32) reducesTo_S8192x1_S8192_d1 h_S_)) (mulf (broadcastInDim S8192x1024 ![] bcast_S_S8192x1024 (constant S_ .f32 0x40000000#32)) (REFC X)))) (broadcastInDim S8192x1024 ![0] bcast_S8192_S8192x1024_0 (Host.reduceAdd (Host.divf (addf (shapeCast _ (Host.reduceAdd (Host.negf (mulf (mulf G (broadcastInDim S8192x1024 ![0, 1] bcast_S1x1024_S8192x1024_0_1 SC)) (broadcastInDim S8192x1024 ![0, 1] bcast_S8192x1_S8192x1024_0_1 (Host.rsqrt (REFV X))))) (constant S_ .f32 0x00000000#32) reducesTo_S8192x1024_S8192_d1 h_S_) shapeCasts_S8192_S8192x1) (shapeCast _ (Host.reduceAdd (Host.negf (mulf (broadcastInDim S8192x1024 ![0] bcast_S8192_S8192x1024_0 (Host.reduceAdd (Host.divf (mulf (shapeCast _ (Host.reduceAdd (mulf (REFC X) (mulf G (broadcastInDim S8192x1024 ![0, 1] bcast_S1x1024_S8192x1024_0_1 SC))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (REFV X)) (REFV X)))) (broadcastInDim S8192x1 ![] bcast_S_S8192x1 (constant S_ .f32 0x44800000#32))) (constant S_ .f32 0x00000000#32) reducesTo_S8192x1_S8192_d1 h_S_)) (mulf (broadcastInDim S8192x1024 ![] bcast_S_S8192x1024 (constant S_ .f32 0x40000000#32)) (REFC X)))) (constant S_ .f32 0x00000000#32) reducesTo_S8192x1024_S8192_d1 h_S_) shapeCasts_S8192_S8192x1)) (broadcastInDim S8192x1 ![] bcast_S_S8192x1 (constant S_ .f32 0x44800000#32))) (constant S_ .f32 0x00000000#32) reducesTo_S8192x1_S8192_d1 h_S_)))

end Reference

/-- The reference's gradient of the rows, row by row. -/
theorem refx_at (G X A : FVec Ideal S8192x1024 .f32) (SC : FVec Ideal S1x1024 .f32) (i) :
    REFX G X A SC i = A i + Norm.slope (fun k => G (ix2 (i 0) k) * SC (ix2 0 k)) (fun k => X (ix2 (i 0) k)) (i 1) := by
  pointwise [REFX]
  simp only [Fin.sum_univ_one]
  pointwise
  simp only [Norm.slope, Norm.bend, Norm.rstd, Norm.var, Norm.mean, ← eq_ix2]

/-- A point's gradient of its rows. -/
theorem back_at (d : Vec Ideal S1024x3712 .bf16) (w : Vec Ideal S3712x1024 .bf16) (x a : Vec Ideal S1024x1024 .f32) (s : Vec Ideal S1x1024 .f32) (i) :
    k0_pay1 (F := Ideal) (k0_pay8 x) (k0_pay9 x) a (k0_pay10 d w s) (k0_pay11 d w s) k0_pay12 i
      = a i + Norm.back (fun k => k0_pay6 (F := Ideal) d w (ix2 (i 0) k) * s (ix2 0 k)) (fun k => x (ix2 (i 0) k)) (i 1) := by
  pointwise [k0_pay1, k0_pay7, k0_pay8, k0_pay9, k0_pay10, k0_pay11, k0_pay12]
  simp only [Norm.back, Norm.normed, Norm.rstd, Norm.var, Norm.mean, ← eq_ix2]

/-- Every other window's block index at every point. -/
theorem idx_rows : ∀ t : Fin cfg0.N, win0_2.index t = ![t.val, 0] ∧ win0_3.index t = ![0, 0] ∧ win0_4.index t = ![t.val, 0] :=
  (by decide +kernel : ∀ t : Fin grid0.N, _)

/-- What a point leaves of the rows' gradient. -/
theorem out_rows (c : Dev nD) (t : Fin cfg0.N) :
    (outsAt0 m c t.val t.isLt).1 = k0_pay1 (F := Ideal) (k0_pay8 (iblk m c 1 t)) (k0_pay9 (iblk m c 1 t)) (iblk m c 2 t)
      (k0_pay10 (iblk m c 0 t) (Norm.padded (V m c main_arg4)) (iblk m c 3 t)) (k0_pay11 (iblk m c 0 t) (Norm.padded (V m c main_arg4)) (iblk m c 3 t)) k0_pay12 := by
  by_cases h : t.val % 8 = 0
  · rw [outsAt0_A m c t h h h]
    frame_out
    rw [first_at]
    rfl
  · rw [outsAt0_B m c t h h h]
    frame_out
    rw [read_unread_whole, held]

/-- What the claim takes as finite. -/
structure Finite (D : FVec Ideal S8192x3712 .bf16) (X : FVec Ideal S8192x1024 .f32) (SC : FVec Ideal S1x1024 .f32) (W : FVec Ideal S3600x1024 .bf16) : Prop where
  d : ∀ (l : Fin 8192) (k : Fin 3600), ∃ a : ℝ, @Eq EReal (D (ix2 l (Fin.castAdd 112 k))) a
  x : ∀ (l : Fin 8192) (k : Fin 1024), ∃ a : ℝ, @Eq EReal (X (ix2 l k)) a
  s : ∀ k : Fin 1024, ∃ a : ℝ, @Eq EReal (SC (ix2 0 k)) a
  w : ∀ (k : Fin 3600) (j : Fin 1024), ∃ a : ℝ, @Eq EReal (W (ix2 k j)) a

section Finite

variable {D : FVec Ideal S8192x3712 .bf16} {X A : FVec Ideal S8192x1024 .f32} {SC : FVec Ideal S1x1024 .f32} {W : FVec Ideal S3600x1024 .bf16} (H : Finite D X SC W)
include H

/-- The gradient of the modulated rows is finite. -/
theorem grad_real (l : Fin 8192) (j : Fin 1024) : ∃ a : ℝ, @Eq EReal (REFG D W (ix2 l j)) a := by
  choose d hd using H.d
  choose w hw using H.w
  refine ⟨∑ k, d l k * w k j, (refg_at _ _ _).trans ((Norm.sum_padded (fun k => D (ix2 l k)) W j).trans ?_)⟩
  simp only [hd, hw, ← EReal.coe_mul, Retention.coe_sum]

/-- On finite arguments the reference's gradient of the rows is the kernel's formula. -/
theorem refx_back (l : Fin 8192) (j : Fin 1024) : REFX (REFG D W) X A SC (ix2 l j)
    = A (ix2 l j) + Norm.back (fun k => REFG D W (ix2 l k) * SC (ix2 0 k)) (fun k => X (ix2 l k)) j := by
  refine (refx_at _ _ _ _ _).trans (congrArg (fun e : EReal => A (ix2 l j) + e) (Norm.slope_eq _ _ (fun k => ?_) (fun k => H.x l k) j))
  obtain ⟨a, ha⟩ := grad_real H l k
  obtain ⟨b, hb⟩ := H.s k
  exact ⟨a * b, by rw [EReal.coe_mul, ← ha, ← hb]; rfl⟩

end Finite

/-- The reference's gradient of the rows, of the kernel's arguments. -/
abbrev GX (c : Dev nD) : FVec Ideal S8192x1024 .f32 :=
  REFX (REFG (m ((c : Thread nD τ).loc main_arg0)) (m ((c : Thread nD τ).loc main_arg4))) (m ((c : Thread nD τ).loc main_arg1)) (m ((c : Thread nD τ).loc main_arg2)) (m ((c : Thread nD τ).loc main_arg3))

/-- A point's gradient of its rows is the reference's. -/
theorem gx_at (c : Dev nD) (H : Finite (m ((c : Thread nD τ).loc main_arg0)) (m ((c : Thread nD τ).loc main_arg1)) (m ((c : Thread nD τ).loc main_arg3)) (m ((c : Thread nD τ).loc main_arg4)))
    (t : Fin cfg0.N) (x j : Fin 1024) (l : Fin 8192) (hl : l.val = 1024 * t.val + x.val) :
    (outsAt0 m c t.val t.isLt).1 (ix2 x j) = GX m c (ix2 l j) := by
  rw [out_rows]
  refine (back_at _ _ _ _ _ _).trans (Eq.trans ?_ (refx_back H l j).symm)
  refine congrArg₂ (fun a b : EReal => a + b) ?_ (congrArg₂ (fun f g => Norm.back f g j) (funext fun k => congrArg₂ (fun a b : EReal => a * b) (grads_at m c t x k l hl) ?_) (funext fun k => ?_))
  · blk_point [iblk, V, idx_rows t]
  · blk_point [iblk, V, idx_rows t]
  · blk_point [iblk, V, idx t]

/-- The gradient of the rows is the reference's. -/
theorem final_rows (c : Dev nD) (H : Finite (m ((c : Thread nD τ).loc main_arg0)) (m ((c : Thread nD τ).loc main_arg1)) (m ((c : Thread nD τ).loc main_arg3)) (m ((c : Thread nD τ).loc main_arg4))) :
    (dats m 0 c).arrAt 4 (cfgs 0).N = GX m c := by
  refine (dats m 0 c).arrAt_eq_of_covers 4 _ (by decide +kernel) fun t hf y => ?_
  blk_simp
  rw [after0_4, eq_ix2 y]
  have hy : (y 0).val < 1024 := (y 0).isLt
  have hl : 1024 * t.val + (y 0).val < 8192 := by have : t.val < 8 := t.isLt; omega
  refine (gx_at m c H t (y 0) (y 1) ⟨1024 * t.val + (y 0).val, hl⟩ rfl).trans ?_
  refine congrArg (GX m c) (funext fun a => Fin.ext ?_)
  blk_simp
  rw [(idx_rows t).2.2]
  match a with
  | 0 => show 1024 * t.val + (y 0).val = t.val * 1024 + (y 0).val; omega
  | 1 => exact (Nat.zero_add _).symm

/-- What the precondition says. -/
theorem finite_of {A0 A1 A2 A3 A4 A5} (h : Cert.Pre_finite7.fn (F := Ideal) A0 A1 A2 A3 A4 A5 = fun _ => 1#1) : Finite A0 A1 A3 A4 := by
  have e := congrFun h ix0
  obtain ⟨e3, e4⟩ := IntOp.andi_eq_one.1 e
  obtain ⟨e2, e3⟩ := IntOp.andi_eq_one.1 e3
  obtain ⟨e1, e2⟩ := IntOp.andi_eq_one.1 e2
  haveI : Subsingleton Cert.Pre_finite7.S_.Idx := ⟨fun _ _ => funext fun a => a.elim0⟩
  have real {z : EReal} (hz : z ≠ ⊤ ∧ z ≠ ⊥) : ∃ a : ℝ, z = a := ⟨z.toReal, (EReal.coe_toReal hz.1 hz.2).symm⟩
  refine ⟨fun l k => real ?_, fun l k => real ?_, fun k => real ?_, fun k j => real ?_⟩
  · have g := Host.reduce_andi_all _ _ _ _ _ e1 (ix2 l k)
    refine Retention.real_of_abs _ (Eq.trans ?_ g)
    pointwise
    rfl
  · exact Retention.real_of_abs _ (Host.reduce_andi_all _ _ _ _ _ e2 (ix2 l k))
  · exact Retention.real_of_abs _ (Host.reduce_andi_all _ _ _ _ _ e3 (ix2 0 k))
  · exact Retention.real_of_abs _ (Host.reduce_andi_all _ _ _ _ _ e4 (ix2 k j))

end Cert.Kernel7Ideal.Hand
end
-- ==== Proof.FfnBwd.lean ====
/- The backward feed-forward block. -/
module

public import proofs.«01_k».proof.Proof.Gen.Kernel6Ideal.Value
public import proofs.«01_k».proof.Proof.Gen.Reference6Ideal.Run
public import proofs.«01_k».proof.Proof.Norm
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel6Ideal.Hand

open Cert.Kernel6Ideal Cert.Kernel6Ideal.Gen

variable (m : (ℓ : Loc nD τ sig) → Buf (Elt Ideal) ℓ)

section Reference

open Cert.Reference6Ideal Cert.Reference6Ideal.Gen

/-- The rows before the second norm. -/
abbrev REFX (X : FVec Ideal S8192x1024 .f32) (U : FVec Ideal S8x1024 .f32) : FVec Ideal S8192x1024 .f32 :=
  addf (mulf X (broadcastInDim S8192x1024 ![0, 1] bcast_S1x1024_S8192x1024_0_1 (extractStridedSlice S1x1024 ![2, 0] U slices_S8x1024_S1x1024_2_0))) (broadcastInDim S8192x1024 ![0, 1] bcast_S1x1024_S8192x1024_0_1 (extractStridedSlice S1x1024 ![3, 0] U slices_S8x1024_S1x1024_3_0))

/-- The reference's rows about their means. -/
abbrev REFC (X : FVec Ideal S8192x1024 .f32) : FVec Ideal S8192x1024 .f32 :=
  subf X (broadcastInDim S8192x1024 ![0, 1] bcast_S8192x1_S8192x1024_0_1 (Host.divf (broadcastInDim S8192x1 ![0] bcast_S8192_S8192x1_0 (Host.reduceAdd X (constant S_ .f32 0x00000000#32) reducesTo_S8192x1024_S8192_d1 h_S_)) (broadcastInDim S8192x1 ![] bcast_S_S8192x1 (constant S_ .f32 0x44800000#32))))

/-- The reference's normed rows. -/
abbrev REFL (X : FVec Ideal S8192x1024 .f32) : FVec Ideal S8192x1024 .f32 :=
  mulf (REFC X) (broadcastInDim S8192x1024 ![0, 1] bcast_S8192x1_S8192x1024_0_1 (Host.rsqrt (addf (Host.divf (broadcastInDim S8192x1 ![0] bcast_S8192_S8192x1_0 (Host.reduceAdd (mulf (REFC X) (REFC X)) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x3727C5AC#32)))))

/-- The reference's gradient before the squared relu. -/
abbrev REFD (DF : FVec Ideal S8192x1024 .bf16) (A : FVec Ideal S8192x4096 .bf16) (W : FVec Ideal S4096x1024 .bf16) : FVec Ideal S8192x4096 .f32 :=
  select (cmpf .ogt (extf .f32 A Cert.Reference6Ideal.Gen.bitsLt_bf16_f32) (broadcastInDim S8192x4096 ![] bcast_S_S8192x4096 (constant S_ .f32 0x00000000#32))) (mulf (Host.dotGeneral (φ₁ := .f32) (φ₂ := .f32) dot_S8192x1024_S4096x1024_S8192x4096_1_1_0_0_n_n none (extf .f32 DF Cert.Reference6Ideal.Gen.bitsLt_bf16_f32) (extf .f32 W Cert.Reference6Ideal.Gen.bitsLt_bf16_f32)) (mulf (broadcastInDim S8192x4096 ![] bcast_S_S8192x4096 (constant S_ .f32 0x40000000#32)) (maximumf (extf .f32 A Cert.Reference6Ideal.Gen.bitsLt_bf16_f32) (broadcastInDim S8192x4096 ![] bcast_S_S8192x4096 (constant S_ .f32 0x00000000#32))))) (broadcastInDim S8192x4096 ![] bcast_S_S8192x4096 (constant S_ .f32 0x00000000#32))

/-- The same, rounded. -/
abbrev REFA (DF : FVec Ideal S8192x1024 .bf16) (A : FVec Ideal S8192x4096 .bf16) (W : FVec Ideal S4096x1024 .bf16) : FVec Ideal S8192x4096 .bf16 :=
  truncf .bf16 (REFD DF A W) Cert.Reference6Ideal.Gen.bitsLt_bf16_f32

/-- The reference's gradient of the modulated rows. -/
abbrev REFG (D : FVec Ideal S8192x4096 .f32) (W : FVec Ideal S8x1024x512 .bf16) : FVec Ideal S8192x1024 .f32 :=
  Host.dotGeneral (φ₁ := .f32) (φ₂ := .f32) dot_S8192x4096_S1024x4096_S8192x1024_1_1_0_0_n_n none D (shapeCast _ (transpose S1024x8x512 [1, 0, 2] (extf .f32 W Cert.Reference6Ideal.Gen.bitsLt_bf16_f32) transposes_S8x1024x512_S1024x8x512_1_0_2) shapeCasts_S1024x8x512_S1024x4096)

/-- The reference's gradients of the scale and the shift over rows of zeros. -/
abbrev REF (L G : FVec Ideal S8192x1024 .f32) : FVec Ideal S8x1024 .f32 :=
  concatenate S8x1024 0 [⟨S1x1024, shapeCast _ (Host.reduceAdd (mulf L G) (constant S_ .f32 0x00000000#32) reducesTo_S8192x1024_S1024_d0 h_S_) Cert.Reference6Ideal.Gen.shapeCasts_S1024_S1x1024⟩, ⟨S1x1024, shapeCast _ (Host.reduceAdd G (constant S_ .f32 0x00000000#32) reducesTo_S8192x1024_S1024_d0 h_S_) Cert.Reference6Ideal.Gen.shapeCasts_S1024_S1x1024⟩, ⟨S6x1024, broadcastInDim S6x1024 ![] bcast_S_S6x1024 (constant S_ .f32 0x00000000#32)⟩] concatenates_S1x1024_S1x1024_S6x1024_S8x1024_d0

end Reference

/-- Every window's block index at every point. -/
theorem idx : ∀ t : Fin cfg0.N, win0_0.index t = ![t.val, 0] ∧ win0_1.index t = ![t.val, 0] ∧ win0_3.index t = ![t.val, 0] ∧ win0_6.index t = ![0, 0] ∧ win0_7.index t = ![t.val, 0] ∧ win0_11.index t = ![0, 0] :=
  (by decide +kernel : ∀ t : Fin grid0.N, _)

/-- The gradient of a row before the squared relu, at a column. -/
def slope (d : Fin 1024 → EReal) (w : (⟨2, ![4096, 1024]⟩ : Shape).Idx → EReal) (a : Fin 4096 → EReal) (q : Fin 4096) : EReal :=
  (∑ k : Fin 1024, d k * w (ix2 q k)) * (Ideal.ofBits .f32 0x40000000#32 * max (a q) 0)

/-- The gradient of a row of modulated values. -/
def pull (d : Fin 4096 → EReal) (w : (⟨3, ![8, 1024, 512]⟩ : Shape).Idx → EReal) (j : Fin 1024) : EReal :=
  ∑ s : Fin 8, ∑ x : Fin 512, d ⟨s.val * 512 + x.val, by omega⟩ * w (ix3 s j x)

/-- A slab of the gradient. -/
theorem slab_at (d w : Vec Ideal S512x1024 .bf16) (a : Vec Ideal S512x512 .bf16) (i) :
    k0_pay3 (F := Ideal) d w a i = (∑ k : Fin 1024, d (ix2 (i 0) k) * w (ix2 (i 1) k)) * (Ideal.ofBits .f32 0x40000000#32 * max (a i) 0) := by
  pointwise [k0_pay3]

/-- A slab's product by its weights. -/
def slabProd (d w : Vec Ideal S512x1024 .bf16) (a : Vec Ideal S512x512 .bf16) (v : Vec Ideal S1x1024x512 .bf16) (i : S512x1024.Idx) : EReal :=
  ∑ x : Fin 512, (k0_pay3 (F := Ideal) d w a (ix2 (i 0) x) : EReal) * v (ix3 0 (i 1) x)

/-- The sum after the first slab. -/
theorem sum1 (d w a v i) : k0_pay4 (F := Ideal) d w a v i = slabProd d w a v i := by
  pointwise [k0_pay4, slabProd]

/-- The sum after the third slab. -/
theorem sum3 (d u w a v w' a' v' i) : k0_pay7 (F := Ideal) d u w a v w' a' v' i = u i + slabProd d w a v i + slabProd d w' a' v' i := by
  pointwise [k0_pay7, slabProd]
  rfl

/-- The sum after the fifth slab. -/
theorem sum5 (d u w a v w' a' v' i) : k0_pay11 (F := Ideal) d u (k0_pay8 d w) a v w' a' v' i = u i + slabProd d w a v i + slabProd d w' a' v' i := by
  pointwise [k0_pay11, slabProd]
  rfl

/-- The sum after the seventh slab. -/
theorem sum7 (d u w a v w' a' v' i) : k0_pay15 (F := Ideal) d u (k0_pay12 d w) a v w' a' v' i = u i + slabProd d w a v i + slabProd d w' a' v' i := by
  pointwise [k0_pay15, slabProd]
  rfl

/-- The sum after the last slab. -/
theorem sum8 (d u w a v i) : k0_pay19 (F := Ideal) u (k0_pay16 d w) (k0_pay17 a) v i = u i + slabProd d w a v i := by
  pointwise [k0_pay19, slabProd]
  rfl

/-- A block of the gradient before the squared relu. -/
abbrev slopes (d : Vec Ideal S512x1024 .bf16) (W : Vec Ideal S4096x1024 .bf16) (A : Vec Ideal S512x4096 .bf16) : Vec Ideal S512x4096 .bf16 :=
  fun i => slope (fun k => d (ix2 (i 0) k)) W (fun q => A (ix2 (i 0) q)) (i 1)

/-- A slab is a part of the block. -/
theorem slab_slopes (d : Vec Ideal S512x1024 .bf16) (W : Vec Ideal S4096x1024 .bf16) (A : Vec Ideal S512x4096 .bf16) {o : ℕ} (inb inb')
    (x : S512x512.Idx) (q : Fin 4096) (hq : q.val = o + (x 1).val) :
    k0_pay3 (F := Ideal) d (View.ld W (Rect.unit ![o, 0] ![512, 1024] inb)) (View.ld A (Rect.unit ![0, o] ![512, 512] inb')) x = slopes d W A (ix2 (x 0) q) := by
  rw [slab_at]
  refine congrArg₂ (fun a b : EReal => a * b) (Finset.sum_congr (M := EReal) rfl fun k _ => ?_) ?_
  · exact congrArg (fun b : EReal => d (ix2 (x 0) k) * b) (Norm.ld_rows W inb (ix2 (x 1) k) q hq)
  · exact congrArg (fun j => Ideal.ofBits .f32 0x40000000#32 * max (A j) 0) (Norm.emb_cols inb' x q hq)

/-- A slab's product is a part of the sum. -/
theorem prod_slopes (d : Vec Ideal S512x1024 .bf16) (W : Vec Ideal S4096x1024 .bf16) (A : Vec Ideal S512x4096 .bf16) (W1 : Vec Ideal S8x1024x512 .bf16)
    {o s : ℕ} (inb inb' inb'') (r : Fin 8) (hr : r.val = s) (ho : o = s * 512) (i : S512x1024.Idx) :
    slabProd d (View.ld W (Rect.unit ![o, 0] ![512, 1024] inb)) (View.ld A (Rect.unit ![0, o] ![512, 512] inb')) (View.ld W1 (Rect.unit ![s, 0, 0] ![1, 1024, 512] inb'')) i
      = ∑ x : Fin 512, slopes d W A (ix2 (i 0) ⟨r.val * 512 + x.val, by omega⟩) * W1 (ix3 r (i 1) x) := by
  refine Finset.sum_congr (M := EReal) rfl fun x _ => ?_
  refine congrArg₂ (fun a b : EReal => a * b) (slab_slopes d W A inb inb' (ix2 (i 0) x) ⟨r.val * 512 + x.val, by omega⟩ (by subst ho hr; rfl)) (congrArg W1 (funext fun a => Fin.ext ?_))
  refine (ValueKit.rect_emb_unit_val (s := S8x1024x512) ![s, 0, 0] ![1, 1024, 512] inb'' (ix3 0 (i 1) x) a).trans ?_
  match a with
  | 0 => exact hr.symm
  | 1 => exact Nat.zero_add _
  | 2 => exact Nat.zero_add _

/-- A block of the gradient of the modulated rows. -/
abbrev pulls (d : Vec Ideal S512x1024 .bf16) (W : Vec Ideal S4096x1024 .bf16) (A : Vec Ideal S512x4096 .bf16) (W1 : Vec Ideal S8x1024x512 .bf16) : Vec Ideal S512x1024 .f32 :=
  fun i => pull (fun q => slopes d W A (ix2 (i 0) q)) W1 (i 1)

/-- The sum over the slabs. -/
theorem sums (d : Vec Ideal S512x1024 .bf16) (W : Vec Ideal S4096x1024 .bf16) (A : Vec Ideal S512x4096 .bf16) (W1 : Vec Ideal S8x1024x512 .bf16) :
    k0_pay19 (F := Ideal) (k0_pay15 d (k0_pay11 d (k0_pay7 d (k0_pay4 d
        (View.ld W (Rect.unit ![0, 0] ![512, 1024] inb_S4096x1024_S512x1024_0_0)) (View.ld A (Rect.unit ![0, 0] ![512, 512] inb_S512x4096_S512x512_0_0)) (View.ld W1 (Rect.unit ![0, 0, 0] ![1, 1024, 512] inb_S8x1024x512_S1x1024x512_0_0_0)))
        (View.ld W (Rect.unit ![512, 0] ![512, 1024] inb_S4096x1024_S512x1024_512_0)) (View.ld A (Rect.unit ![0, 512] ![512, 512] inb_S512x4096_S512x512_0_512)) (View.ld W1 (Rect.unit ![1, 0, 0] ![1, 1024, 512] inb_S8x1024x512_S1x1024x512_1_0_0))
        (View.ld W (Rect.unit ![1024, 0] ![512, 1024] inb_S4096x1024_S512x1024_1024_0)) (View.ld A (Rect.unit ![0, 1024] ![512, 512] inb_S512x4096_S512x512_0_1024)) (View.ld W1 (Rect.unit ![2, 0, 0] ![1, 1024, 512] inb_S8x1024x512_S1x1024x512_2_0_0)))
        (k0_pay8 d (View.ld W (Rect.unit ![1536, 0] ![512, 1024] inb_S4096x1024_S512x1024_1536_0))) (View.ld A (Rect.unit ![0, 1536] ![512, 512] inb_S512x4096_S512x512_0_1536)) (View.ld W1 (Rect.unit ![3, 0, 0] ![1, 1024, 512] inb_S8x1024x512_S1x1024x512_3_0_0))
        (View.ld W (Rect.unit ![2048, 0] ![512, 1024] inb_S4096x1024_S512x1024_2048_0)) (View.ld A (Rect.unit ![0, 2048] ![512, 512] inb_S512x4096_S512x512_0_2048)) (View.ld W1 (Rect.unit ![4, 0, 0] ![1, 1024, 512] inb_S8x1024x512_S1x1024x512_4_0_0)))
        (k0_pay12 d (View.ld W (Rect.unit ![2560, 0] ![512, 1024] inb_S4096x1024_S512x1024_2560_0))) (View.ld A (Rect.unit ![0, 2560] ![512, 512] inb_S512x4096_S512x512_0_2560)) (View.ld W1 (Rect.unit ![5, 0, 0] ![1, 1024, 512] inb_S8x1024x512_S1x1024x512_5_0_0))
        (View.ld W (Rect.unit ![3072, 0] ![512, 1024] inb_S4096x1024_S512x1024_3072_0)) (View.ld A (Rect.unit ![0, 3072] ![512, 512] inb_S512x4096_S512x512_0_3072)) (View.ld W1 (Rect.unit ![6, 0, 0] ![1, 1024, 512] inb_S8x1024x512_S1x1024x512_6_0_0)))
        (k0_pay16 d (View.ld W (Rect.unit ![3584, 0] ![512, 1024] inb_S4096x1024_S512x1024_3584_0))) (k0_pay17 (View.ld A (Rect.unit ![0, 3584] ![512, 512] inb_S512x4096_S512x512_0_3584))) (View.ld W1 (Rect.unit ![7, 0, 0] ![1, 1024, 512] inb_S8x1024x512_S1x1024x512_7_0_0))
      = pulls d W A W1 := by
  funext i
  refine ((sum8 _ _ _ _ _ _).trans (congrArg (fun b : EReal => b + _) ((sum7 _ _ _ _ _ _ _ _ _).trans (congrArg (fun b : EReal => b + _ + _) ((sum5 _ _ _ _ _ _ _ _ _).trans
    (congrArg (fun b : EReal => b + _ + _) ((sum3 _ _ _ _ _ _ _ _ _).trans (congrArg (fun b : EReal => b + _ + _) (sum1 _ _ _ _ _))))))))).trans ?_
  refine Eq.trans ?_ (Fin.sum_univ_eight (M := EReal) fun r : Fin 8 => ∑ x : Fin 512, slopes d W A (ix2 (i 0) ⟨r.val * 512 + x.val, by omega⟩) * W1 (ix3 r (i 1) x)).symm
  exact congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (prod_slopes d W A W1 (o := 0) (s := 0) _ _ _ 0 rfl rfl i)
    (prod_slopes d W A W1 (o := 512) (s := 1) _ _ _ 1 rfl rfl i))
    (prod_slopes d W A W1 (o := 1024) (s := 2) _ _ _ 2 rfl rfl i))
    (prod_slopes d W A W1 (o := 1536) (s := 3) _ _ _ 3 rfl rfl i))
    (prod_slopes d W A W1 (o := 2048) (s := 4) _ _ _ 4 rfl rfl i))
    (prod_slopes d W A W1 (o := 2560) (s := 5) _ _ _ 5 rfl rfl i))
    (prod_slopes d W A W1 (o := 3072) (s := 6) _ _ _ 6 rfl rfl i))
    (prod_slopes d W A W1 (o := 3584) (s := 7) _ _ _ 7 rfl rfl i)

/-- The reference's gradient before the squared relu. -/
theorem refd_at (DF A W i) : REFD DF A W i = slope (fun k => DF (ix2 (i 0) k)) W (fun q => A (ix2 (i 0) q)) (i 1) := by
  pointwise [REFD, slope]
  split
  · rfl
  · rename_i h
    rw [max_eq_right (not_lt.mp h), mul_zero, mul_zero]

/-- The reference's gradient of the modulated rows. -/
theorem refg_at (D W i) : REFG D W i = pull (fun q => D (ix2 (i 0) q)) W (i 1) := by
  pointwise [REFG, pull]
  symm
  refine Fin.sum_mul_add_congr fun s k hl => ?_
  refine congrArg (fun b : EReal => D (ix2 (i 0) ⟨s.val * 512 + k.val, hl⟩) * b) (congrArg W (funext fun a => Fin.ext ?_))
  match a with
  | 0 => show s.val = (s.val * 512 + k.val) / 512; omega
  | 1 => rfl
  | 2 => show k.val = (s.val * 512 + k.val) % 512; omega

/-- The rows before the second norm. -/
theorem refx_at (X U i) : REFX X U i = X i * U (ix2 2 (i 1)) + U (ix2 3 (i 1)) := by
  pointwise [REFX]

/-- The reference's gradient of the scale. -/
theorem ref_scale (L G) (j : Fin 1024) : REF L G (ix2 0 j) = ∑ l : Fin 8192, G (ix2 l j) * L (ix2 l j) := by
  pointwise [REF]
  exact Finset.sum_congr (M := EReal) rfl fun k _ => mul_comm (G := EReal) _ _

/-- The reference's gradient of the shift. -/
theorem ref_shift (L G) (j : Fin 1024) : REF L G (ix2 1 j) = ∑ l : Fin 8192, G (ix2 l j) := by
  pointwise [REF]

/-- The reference's normed rows. -/
theorem refl_at (X i) : REFL X i = Norm.normed (fun j => X (ix2 (i 0) j)) (i 1) := by
  pointwise [REFL]
  simp only [Norm.normed, Norm.rstd, Norm.var, Norm.mean, ← eq_ix2]

/-- A point's normed rows. -/
theorem normed_at (l1w l1b : Vec Ideal S1x1024 .f32) (x : Vec Ideal S512x1024 .f32) (i) :
    k0_pay22 (F := Ideal) l1w l1b x i = Norm.normed (fun j => x (ix2 (i 0) j) * l1w (ix2 0 j) + l1b (ix2 0 j)) (i 1) := by
  pointwise [k0_pay22, k0_pay21, k0_pay20]
  simp only [Norm.normed, Norm.rstd, Norm.var, Norm.mean, ← eq_ix2]

/-- A point adds its rows to the gradient of the scale. -/
theorem scale_at (d n : Vec Ideal S512x1024 .f32) (a : Vec Ideal S1x1024 .f32) (i) :
    k0_pay31 (F := Ideal) d n a i = a i + ∑ x : Fin 512, d (ix2 x (i 1)) * n (ix2 x (i 1)) := by
  pointwise [k0_pay31]

/-- A point adds its rows to the gradient of the shift. -/
theorem shift_at (d : Vec Ideal S512x1024 .f32) (a : Vec Ideal S1x1024 .f32) (i) :
    k0_pay32 (F := Ideal) d a i = a i + ∑ x : Fin 512, d (ix2 x (i 1)) := by
  pointwise [k0_pay32]

/-- The accumulator starts at zero. -/
theorem zero_at (i) : k0_pay2 (F := Ideal) i = (0 : EReal) := by pointwise [k0_pay2]

/-- Every point holds the weights in the scratch. -/
theorem held (c : Dev nD) : ∀ t (h : t < cfg0.N), (outsAt0 m c t h).2.2.2.2.2 = (V m c main_arg7, V m c main_arg8, V m c main_arg9) := by
  intro t
  induction t with
  | zero =>
    intro h
    rw [outsAt0_A m c ⟨0, h⟩ (by simp) (by simp)]
    frame_out
    rw [Norm.canon_whole, Norm.canon_whole, Norm.canon_whole]
    rfl
  | succ t ih =>
    intro h
    have h16 : ¬(t + 1) % 16 = 0 := by have : t + 1 < 16 := h; omega
    rw [outsAt0_B m c ⟨t + 1, h⟩ h16 h16]
    frame_out
    exact ih _

/-- The second feed-forward weight that every point holds. -/
theorem held_w2 (c : Dev nD) (t) (h : t < cfg0.N) : (outsAt0 m c t h).2.2.2.2.2.2.2 = V m c main_arg9 := by rw [held]

/-- The first feed-forward weight that every point holds. -/
theorem held_w1 (c : Dev nD) (t) (h : t < cfg0.N) : (outsAt0 m c t h).2.2.2.2.2.2.1 = V m c main_arg8 := by rw [held]

/-- The slabs fill the block. -/
theorem slabs (d : Vec Ideal S512x1024 .bf16) (W : Vec Ideal S4096x1024 .bf16) (A : Vec Ideal S512x4096 .bf16) (y : S512x4096.Idx) :
    (View.canon (Val := Elt Ideal) [⟨Rect.unit ![0, 3584] ![512, 512] inb_S512x4096_S512x512_0_3584, k0_pay18 (k0_pay16 d (View.ld W (Rect.unit ![3584, 0] ![512, 1024] inb_S4096x1024_S512x1024_3584_0))) (k0_pay17 (View.ld A (Rect.unit ![0, 3584] ![512, 512] inb_S512x4096_S512x512_0_3584)))⟩,
      ⟨Rect.unit ![0, 3072] ![512, 512] inb_S512x4096_S512x512_0_3072, k0_pay14 d (View.ld W (Rect.unit ![3072, 0] ![512, 1024] inb_S4096x1024_S512x1024_3072_0)) (View.ld A (Rect.unit ![0, 3072] ![512, 512] inb_S512x4096_S512x512_0_3072))⟩,
      ⟨Rect.unit ![0, 2560] ![512, 512] inb_S512x4096_S512x512_0_2560, k0_pay13 (k0_pay12 d (View.ld W (Rect.unit ![2560, 0] ![512, 1024] inb_S4096x1024_S512x1024_2560_0))) (View.ld A (Rect.unit ![0, 2560] ![512, 512] inb_S512x4096_S512x512_0_2560))⟩,
      ⟨Rect.unit ![0, 2048] ![512, 512] inb_S512x4096_S512x512_0_2048, k0_pay10 d (View.ld W (Rect.unit ![2048, 0] ![512, 1024] inb_S4096x1024_S512x1024_2048_0)) (View.ld A (Rect.unit ![0, 2048] ![512, 512] inb_S512x4096_S512x512_0_2048))⟩,
      ⟨Rect.unit ![0, 1536] ![512, 512] inb_S512x4096_S512x512_0_1536, k0_pay9 (k0_pay8 d (View.ld W (Rect.unit ![1536, 0] ![512, 1024] inb_S4096x1024_S512x1024_1536_0))) (View.ld A (Rect.unit ![0, 1536] ![512, 512] inb_S512x4096_S512x512_0_1536))⟩,
      ⟨Rect.unit ![0, 1024] ![512, 512] inb_S512x4096_S512x512_0_1024, k0_pay6 d (View.ld W (Rect.unit ![1024, 0] ![512, 1024] inb_S4096x1024_S512x1024_1024_0)) (View.ld A (Rect.unit ![0, 1024] ![512, 512] inb_S512x4096_S512x512_0_1024))⟩,
      ⟨Rect.unit ![0, 512] ![512, 512] inb_S512x4096_S512x512_0_512, k0_pay5 d (View.ld W (Rect.unit ![512, 0] ![512, 1024] inb_S4096x1024_S512x1024_512_0)) (View.ld A (Rect.unit ![0, 512] ![512, 512] inb_S512x4096_S512x512_0_512))⟩,
      ⟨Rect.unit ![0, 0] ![512, 512] inb_S512x4096_S512x512_0_0, k0_pay3 d (View.ld W (Rect.unit ![0, 0] ![512, 1024] inb_S4096x1024_S512x1024_0_0)) (View.ld A (Rect.unit ![0, 0] ![512, 512] inb_S512x4096_S512x512_0_0))⟩] : Vec Ideal S512x4096 .bf16) y = slopes d W A y := by
  refine Norm.canon_agree _ (slopes d W A) ?_ y ?_
  · have h : ∀ (o : ℕ) (ho : o + 512 ≤ 4096) inb inb' x, k0_pay3 (F := Ideal) d (View.ld W (Rect.unit ![o, 0] ![512, 1024] inb)) (View.ld A (Rect.unit ![0, o] ![512, 512] inb')) x
        = slopes d W A ((Rect.unit (s := S512x4096) ![0, o] ![512, 512] inb').emb x) := fun o ho inb inb' x => by
      have hx : (x 1).val < 512 := (x 1).isLt
      rw [Norm.emb_cols inb' x ⟨o + (x 1).val, by omega⟩ rfl]
      exact slab_slopes d W A inb inb' x _ rfl
    simp only [List.forall_mem_cons]
    exact ⟨h 3584 (by decide) _ _, h 3072 (by decide) _ _, h 2560 (by decide) _ _, h 2048 (by decide) _ _, h 1536 (by decide) _ _, h 1024 (by decide) _ _, h 512 (by decide) _ _, h 0 (by decide) _ _, fun _ h => absurd h List.not_mem_nil⟩
  · have hy : (y 1).val < 4096 := (y 1).isLt
    simp only [List.mem_cons, exists_eq_or_imp, exists_eq_left, Norm.mem_cols, List.not_mem_nil, false_and, exists_const, or_false]
    omega

/-- Every point's block of the gradient before the squared relu. -/
theorem out (c : Dev nD) (t : Fin cfg0.N) (y) : (outsAt0 m c t.val t.isLt).1 y = slopes (iblk m c 0 t) (V m c main_arg9) (iblk m c 1 t) y := by
  by_cases h : t.val % 16 = 0
  · rw [outsAt0_A m c t h h]
    frame_out
    simp only [Norm.readCov_whole]
    exact slabs _ _ _ y
  · rw [outsAt0_B m c t h h]
    frame_out
    simp only [read_unread_whole, held_w2]
    exact slabs _ _ _ y

/-- A point's gradients. -/
abbrev grads (c : Dev nD) (t : Fin cfg0.N) : Vec Ideal S512x1024 .f32 := pulls (iblk m c 0 t) (V m c main_arg9) (iblk m c 1 t) (V m c main_arg8)

/-- A point's normed rows. -/
abbrev rows (c : Dev nD) (t : Fin cfg0.N) : Vec Ideal S512x1024 .f32 :=
  k0_pay22 (F := Ideal) (View.ld (iblk m c 6 t) (Rect.unit ![2, 0] ![1, 1024] inb_S8x1024_S1x1024_2_0)) (View.ld (iblk m c 6 t) (Rect.unit ![3, 0] ![1, 1024] inb_S8x1024_S1x1024_3_0)) (iblk m c 3 t)

/-- What a point leaves of the scale's gradient. -/
theorem scale_step (c : Dev nD) (t : Fin cfg0.N) (j : Fin 1024) :
    (outsAt0 m c t.val t.isLt).2.2.2.2.1 (ix2 0 j) = (if t.val % 16 = 0 then (0 : EReal) else (outsAt0 m c (t.val - 1) (Nat.lt_of_le_of_lt (Nat.sub_le _ _) t.isLt)).2.2.2.2.1 (ix2 0 j))
      + ∑ x : Fin 512, grads m c t (ix2 x j) * rows m c t (ix2 x j) := by
  by_cases h : t.val % 16 = 0
  · rw [if_pos h, outsAt0_A m c t h h]
    frame_out
    simp only [Norm.readCov_whole]
    refine (Norm.canon_cons_rows_of_not _ _ _ _ (by simp)).trans ((Norm.canon_cons_rows_of_not _ _ _ _ (by simp)).trans ((Norm.canon_cons_rows_of_not _ _ _ _ (by simp)).trans
      ((Norm.canon_cons_rows_of_not _ _ _ _ (by simp)).trans ((Norm.canon_cons_rows _ _ _ _ (0 : Fin 1) (by simp)).trans ((scale_at _ _ _ _).trans ?_)))))
    rw [Norm.readCov_rows _ _ _ _ (0 : Fin 8) (by simp), sums (iblk m c 0 t) _ (iblk m c 1 t)]
    refine congrArg₂ (fun a b : EReal => a + b) ?_ rfl
    exact (Norm.canon_cons_rows _ _ _ _ (0 : Fin 8) (by simp)).trans (zero_at _)
  · rw [if_neg h, outsAt0_B m c t h h]
    frame_out
    simp only [read_unread_whole, held_w2, held_w1]
    refine (Norm.read_writes_rows_of_not _ _ _ _ _ _ (by simp)).trans ((Norm.read_writes_rows_of_not _ _ _ _ _ _ (by simp)).trans ((Norm.read_writes_rows_of_not _ _ _ _ _ _ (by simp)).trans
      ((Norm.read_writes_rows_of_not _ _ _ _ _ _ (by simp)).trans ((Norm.read_writes_rows _ _ _ _ _ _ (0 : Fin 1) (by simp)).trans ((scale_at _ _ _ _).trans ?_)))))
    rw [Norm.ld_rows _ _ _ (0 : Fin 8) (by simp), sums (iblk m c 0 t) _ (iblk m c 1 t)]
    rfl

/-- What a point leaves of the shift's gradient. -/
theorem shift_step (c : Dev nD) (t : Fin cfg0.N) (j : Fin 1024) :
    (outsAt0 m c t.val t.isLt).2.2.2.2.1 (ix2 1 j) = (if t.val % 16 = 0 then (0 : EReal) else (outsAt0 m c (t.val - 1) (Nat.lt_of_le_of_lt (Nat.sub_le _ _) t.isLt)).2.2.2.2.1 (ix2 1 j))
      + ∑ x : Fin 512, grads m c t (ix2 x j) := by
  by_cases h : t.val % 16 = 0
  · rw [if_pos h, outsAt0_A m c t h h]
    frame_out
    simp only [Norm.readCov_whole]
    refine (Norm.canon_cons_rows_of_not _ _ _ _ (by simp)).trans ((Norm.canon_cons_rows_of_not _ _ _ _ (by simp)).trans ((Norm.canon_cons_rows_of_not _ _ _ _ (by simp)).trans
      ((Norm.canon_cons_rows _ _ _ _ (0 : Fin 1) (by simp)).trans ((shift_at _ _ _).trans ?_))))
    rw [Norm.readCov_rows _ _ _ _ (1 : Fin 8) (by simp), sums (iblk m c 0 t) _ (iblk m c 1 t)]
    refine congrArg₂ (fun a b : EReal => a + b) ?_ rfl
    exact (Norm.canon_cons_rows_of_not _ _ _ _ (by simp)).trans ((Norm.canon_cons_rows _ _ _ _ (1 : Fin 8) (by simp)).trans (zero_at _))
  · rw [if_neg h, outsAt0_B m c t h h]
    frame_out
    simp only [read_unread_whole, held_w2, held_w1]
    refine (Norm.read_writes_rows_of_not _ _ _ _ _ _ (by simp)).trans ((Norm.read_writes_rows_of_not _ _ _ _ _ _ (by simp)).trans ((Norm.read_writes_rows_of_not _ _ _ _ _ _ (by simp)).trans
      ((Norm.read_writes_rows _ _ _ _ _ _ (0 : Fin 1) (by simp)).trans ((shift_at _ _ _).trans ?_))))
    rw [Norm.ld_rows _ _ _ (1 : Fin 8) (by simp), sums (iblk m c 0 t) _ (iblk m c 1 t)]
    rfl

/-- A point's gradients before the squared relu are the reference's. -/
theorem slopes_at (c : Dev nD) (t : Fin cfg0.N) (x : Fin 512) (q : Fin 4096) (l : Fin 8192) (hl : l.val = 512 * t.val + x.val) :
    slopes (iblk m c 0 t) (V m c main_arg9) (iblk m c 1 t) (ix2 x q)
      = REFD (m ((c : Thread nD τ).loc main_arg0)) (m ((c : Thread nD τ).loc main_arg1)) (m ((c : Thread nD τ).loc main_arg9)) (ix2 l q) := by
  refine Eq.trans ?_ (refd_at _ _ _ _).symm
  refine congrArg₂ (fun a b : EReal => a * b) (Finset.sum_congr (M := EReal) rfl fun k _ => congrArg₂ (fun a b : EReal => a * b) ?_ rfl) (congrArg (fun b : EReal => Ideal.ofBits .f32 0x40000000#32 * max b 0) ?_)
  · blk_point [iblk, V, idx t]
  · blk_point [iblk, V, idx t]

/-- A point's gradients are the reference's. -/
theorem grads_at (c : Dev nD) (t : Fin cfg0.N) (x : Fin 512) (j : Fin 1024) (l : Fin 8192) (hl : l.val = 512 * t.val + x.val) :
    grads m c t (ix2 x j) = REFG (REFD (m ((c : Thread nD τ).loc main_arg0)) (m ((c : Thread nD τ).loc main_arg1)) (m ((c : Thread nD τ).loc main_arg9))) (m ((c : Thread nD τ).loc main_arg8)) (ix2 l j) := by
  refine Eq.trans ?_ (refg_at _ _ _).symm
  exact Finset.sum_congr (M := EReal) rfl fun s _ => Finset.sum_congr (M := EReal) rfl fun k _ => congrArg₂ (fun a b : EReal => a * b) (slopes_at m c t x _ l hl) rfl

/-- A point's normed rows are the reference's. -/
theorem rows_at (c : Dev nD) (t : Fin cfg0.N) (x : Fin 512) (j : Fin 1024) (l : Fin 8192) (hl : l.val = 512 * t.val + x.val) :
    rows m c t (ix2 x j) = REFL (REFX (m ((c : Thread nD τ).loc main_arg3)) (m ((c : Thread nD τ).loc main_arg6))) (ix2 l j) := by
  refine (normed_at _ _ _ _).trans (Eq.trans ?_ (refl_at _ _).symm)
  refine congrArg (fun f => Norm.normed f j) (funext fun k => Eq.trans ?_ (refx_at _ _ _).symm)
  refine congrArg₂ (fun a b : EReal => a + b) (congrArg₂ (fun a b : EReal => a * b) ?_ ?_) ?_
  · blk_point [iblk, V, idx t]
  · refine (Norm.ld_rows _ _ _ (2 : Fin 8) (by simp)).trans ?_
    blk_point [iblk, V, idx t]
  · refine (Norm.ld_rows _ _ _ (3 : Fin 8) (by simp)).trans ?_
    blk_point [iblk, V, idx t]

/-- The reference's gradients of the scale and the shift, of the arguments. -/
abbrev MODS (c : Dev nD) : FVec Ideal S8x1024 .f32 :=
  REF (REFL (REFX (m ((c : Thread nD τ).loc main_arg3)) (m ((c : Thread nD τ).loc main_arg6))))
    (REFG (REFD (m ((c : Thread nD τ).loc main_arg0)) (m ((c : Thread nD τ).loc main_arg1)) (m ((c : Thread nD τ).loc main_arg9))) (m ((c : Thread nD τ).loc main_arg8)))

/-- The last point leaves the scale's gradient. -/
theorem scale_last (c : Dev nD) (t : Fin cfg0.N) (h : t.val % 16 = 15) (j : Fin 1024) : (outsAt0 m c t.val t.isLt).2.2.2.2.1 (ix2 0 j) = MODS m c (ix2 0 j) := by
  refine (Pipeline.eq_sum_fin_of_reset_step_apply_of_flush (M := EReal) (fun n h (j : Fin 1024) => (outsAt0 m c n h).2.2.2.2.1 (ix2 0 j)) 16 (fun _ => 0)
    (fun t j => ∑ x : Fin 512, grads m c t (ix2 x j) * rows m c t (ix2 x j))
    (fun t h j => (scale_step m c t j).trans (by rw [if_pos h])) (fun t h j => (scale_step m c t j).trans (by rw [if_neg h])) t h j).trans ?_
  rw [zero_add]
  refine Eq.trans ?_ (ref_scale _ _ j).symm
  refine Fin.sum_mul_add_congr fun s k hl => ?_
  have hn : s.val * 512 + k.val = 512 * (16 * (t.val / 16) + s.val) + k.val := by have : t.val < 16 := t.isLt; omega
  exact congrArg₂ (fun a b : EReal => a * b) (grads_at m c _ _ _ _ hn) (rows_at m c _ _ _ _ hn)

/-- The last point leaves the shift's gradient. -/
theorem shift_last (c : Dev nD) (t : Fin cfg0.N) (h : t.val % 16 = 15) (j : Fin 1024) : (outsAt0 m c t.val t.isLt).2.2.2.2.1 (ix2 1 j) = MODS m c (ix2 1 j) := by
  refine (Pipeline.eq_sum_fin_of_reset_step_apply_of_flush (M := EReal) (fun n h (j : Fin 1024) => (outsAt0 m c n h).2.2.2.2.1 (ix2 1 j)) 16 (fun _ => 0)
    (fun t j => ∑ x : Fin 512, grads m c t (ix2 x j))
    (fun t h j => (shift_step m c t j).trans (by rw [if_pos h])) (fun t h j => (shift_step m c t j).trans (by rw [if_neg h])) t h j).trans ?_
  rw [zero_add]
  refine Eq.trans ?_ (ref_shift _ _ j).symm
  refine Fin.sum_mul_add_congr fun s k hl => ?_
  have hn : s.val * 512 + k.val = 512 * (16 * (t.val / 16) + s.val) + k.val := by have : t.val < 16 := t.isLt; omega
  exact grads_at m c _ _ _ _ hn

/-- The first two rows of the accumulator are the reference's. -/
theorem final_mods (c : Dev nD) (i : S8x1024.Idx) (hi : (i 0).val < 2) : (dats m 0 c).arrAt 11 (cfgs 0).N i = MODS m c i := by
  have h : (dats m 0 c).arrAt 11 (cfgs 0).N = (outsAt0 m c 15 (by decide)).2.2.2.2.1 := by
    refine (dats m 0 c).arrAt_eq_of_covers 11 _ (by decide +kernel) fun t hf y => ?_
    have h15 : t.val % 16 = 15 := (flush0_11 t).mp hf
    blk_simp
    rw [after0_11]
    have ht : t = ⟨15, by decide⟩ := Fin.ext (by have : t.val < 16 := t.isLt; change t.val = 15; omega)
    refine Eq.trans (b := (outsAt0 m c t.val t.isLt).2.2.2.2.1 ((win0_11.blk t).view.emb y)) (congrArg _ (funext fun a => Fin.ext ?_)) (by subst ht; rfl)
    blk_simp
    rw [(idx t).2.2.2.2.2]
    match a with
    | 0 => simp
    | 1 => simp
  rw [h, eq_ix2 i]
  obtain h0 | h0 : i 0 = (0 : Fin 8) ∨ i 0 = (1 : Fin 8) := by
    rcases (by omega : (i 0).val = 0 ∨ (i 0).val = 1) with h | h
    · exact .inl (Fin.ext h)
    · exact .inr (Fin.ext h)
  · rw [h0]
    exact scale_last m c ⟨15, by decide⟩ rfl (i 1)
  · rw [h0]
    exact shift_last m c ⟨15, by decide⟩ rfl (i 1)

/-- The gradient before the squared relu is the reference's. -/
theorem final_slopes (c : Dev nD) : (dats m 0 c).arrAt 7 (cfgs 0).N = REFA (m ((c : Thread nD τ).loc main_arg0)) (m ((c : Thread nD τ).loc main_arg1)) (m ((c : Thread nD τ).loc main_arg9)) := by
  refine (dats m 0 c).arrAt_eq_of_covers 7 _ (by decide +kernel) fun t hf y => ?_
  blk_simp
  rw [after0_7, out m c t, eq_ix2 y]
  have hy : (y 0).val < 512 := (y 0).isLt
  have hl : 512 * t.val + (y 0).val < 8192 := by have : t.val < 16 := t.isLt; omega
  refine (slopes_at m c t (y 0) (y 1) ⟨512 * t.val + (y 0).val, hl⟩ rfl).trans ?_
  refine congrArg (REFD _ _ _) (funext fun a => Fin.ext ?_)
  blk_simp
  rw [(idx t).2.2.2.2.1]
  match a with
  | 0 => show 512 * t.val + (y 0).val = t.val * 512 + (y 0).val; omega
  | 1 => exact (Nat.zero_add _).symm

end Cert.Kernel6Ideal.Hand
end
-- ==== Proof.MidRef.lean ====
/- The forward pass after the mixer: the reference's arrays, row by row. -/
module

public import proofs.«01_k».proof.Proof.Gen.Reference9Ideal.Run
public import proofs.«01_k».proof.Proof.Norm
public import proofs.«01_k».proof.Proof.Consts
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.ShloMosaic.StableHlo Idealize.SL.Sem

namespace Cert.Mid

/-- The mixer's rows by the output projection. -/
def proj (mix : Fin 1024 → EReal) (w : (⟨2, ![1024, 1024]⟩ : Shape).Idx → EReal) (j : Fin 1024) : EReal := ∑ k : Fin 1024, mix k * w (ix2 k j)

/-- A row plus its gated branch. -/
def joined (x g b : Fin 1024 → EReal) (j : Fin 1024) : EReal := Ideal.ofBits .f32 0x3F9837F0#32 * x j + g j * b j

/-- A modulated row by the first feed-forward weight. -/
def wide (u : Fin 1024 → EReal) (w : (⟨3, ![8, 1024, 512]⟩ : Shape).Idx → EReal) (s : Fin 8) (x : Fin 512) : EReal := ∑ k : Fin 1024, u k * w (ix3 s k x)

/-- The squared relu of a wide row by the second feed-forward weight. -/
def narrow (a : Fin 8 → Fin 512 → EReal) (w : (⟨2, ![4096, 1024]⟩ : Shape).Idx → EReal) (j : Fin 1024) : EReal :=
  ∑ s : Fin 8, ∑ x : Fin 512, max (a s x) 0 * max (a s x) 0 * w (ix2 ⟨s.val * 512 + x.val, by omega⟩ j)

section Row

variable (mix x : Fin 1024 → EReal) (v : Fin 8 → Fin 1024 → EReal) (wo : (⟨2, ![1024, 1024]⟩ : Shape).Idx → EReal)
  (w1 : (⟨3, ![8, 1024, 512]⟩ : Shape).Idx → EReal) (w2 : (⟨2, ![4096, 1024]⟩ : Shape).Idx → EReal)

/-- The row before the first norm. -/
def pre : Fin 1024 → EReal := joined x (v 0) (proj mix wo)

/-- The row after it. -/
def post : Fin 1024 → EReal := Norm.modulated (pre mix x v wo) (v 4) (v 5)

/-- The modulated row. -/
def mod : Fin 1024 → EReal := Norm.modulated (post mix x v wo) (v 1) (v 2)

/-- The row before the last norm. -/
def last : Fin 1024 → EReal := joined (post mix x v wo) (v 3) (narrow (wide (mod mix x v wo) w1) w2)

/-- The output's difference from the target. -/
def diff (tgt : Fin 1024 → EReal) (j : Fin 1024) : EReal := Norm.modulated (last mix x v wo w1 w2) (v 6) (v 7) j - tgt j

end Row

section Reference

open Cert.Reference9Ideal Cert.Reference9Ideal.Gen Cert.Reference9Ideal.Value

variable (V0 : Valuation τ sig (Elt Ideal))

/-- The arguments. -/
abbrev A0 : FVec Ideal S8192x1024 .bf16 := V0 (Proc.devRef .tc main_arg0)
abbrev A1 : FVec Ideal S8192x1024 .f32 := V0 (Proc.devRef .tc main_arg1)
abbrev A2 : FVec Ideal S8192x1024 .f32 := V0 (Proc.devRef .tc main_arg2)
abbrev A3 : FVec Ideal S8x1024 .f32 := V0 (Proc.devRef .tc main_arg3)
abbrev A4 : FVec Ideal S1024x1024 .bf16 := V0 (Proc.devRef .tc main_arg4)
abbrev A5 : FVec Ideal S8x1024x512 .bf16 := V0 (Proc.devRef .tc main_arg5)
abbrev A6 : FVec Ideal S4096x1024 .bf16 := V0 (Proc.devRef .tc main_arg6)

/-- The reference's normed rows. -/
abbrev REFN : FVec Ideal S8192x1024 .f32 := mulf (subf (res_main_v15 (V0)) (broadcastInDim S8192x1024 ![0, 1] bcast_S8192x1_S8192x1024_0_1 (res_main_v19 (V0)))) (broadcastInDim S8192x1024 ![0, 1] bcast_S8192x1_S8192x1024_0_1 (Host.rsqrt (addf (Host.divf (broadcastInDim S8192x1 ![0] bcast_S8192_S8192x1_0 (Host.reduceAdd (mulf (res_main_v21 (V0)) (res_main_v21 (V0))) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x3727C5AC#32)))))

/-- The reference's reciprocal deviations. -/
abbrev REFS : FVec Ideal S8192x1 .f32 := Host.rsqrt (addf (Host.divf (broadcastInDim S8192x1 ![0] bcast_S8192_S8192x1_0 (Host.reduceAdd (mulf (res_main_v39 (V0)) (res_main_v39 (V0))) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x3727C5AC#32)))

/-- The reference's sums over the rows. -/
abbrev REFA : FVec Ideal S8x1024 .f32 :=
  concatenate S8x1024 0 [⟨S1x1024, shapeCast _ (Host.reduceAdd (mulf (res_main_v104 V0 : FVec Ideal S8192x1024 .f32) (res_main_v123 V0)) (constant S_ .f32 0x00000000#32) reducesTo_S8192x1024_S1024_d0 h_S_) Cert.Reference9Ideal.Gen.shapeCasts_S1024_S1x1024⟩, ⟨S1x1024, shapeCast _ (Host.reduceAdd (res_main_v123 V0 : FVec Ideal S8192x1024 .f32) (constant S_ .f32 0x00000000#32) reducesTo_S8192x1024_S1024_d0 h_S_) Cert.Reference9Ideal.Gen.shapeCasts_S1024_S1x1024⟩, ⟨S6x1024, broadcastInDim S6x1024 ![] bcast_S_S6x1024 (constant S_ .f32 0x00000000#32)⟩] concatenates_S1x1024_S1x1024_S6x1024_S8x1024_d0

/-- The reference's modulated rows. -/
abbrev R73 : FVec Ideal S8192x1024 .f32 := res_main_v73 V0

/-- The reference's last normed rows. -/
abbrev R104 : FVec Ideal S8192x1024 .f32 := res_main_v104 V0

/-- The reference's gradients of the output. -/
abbrev R123 : FVec Ideal S8192x1024 .f32 := res_main_v123 V0

/-- The reference's rows of the projection. -/
theorem ref_proj (i : S8192x1024.Idx) : (res_main_v10 V0 : FVec Ideal S8192x1024 .f32) i = proj (fun k => A0 V0 (ix2 (i 0) k)) (A4 V0) (i 1) := by
  pointwise [res_main_v10, proj]

/-- The reference's rows before the first norm. -/
theorem ref_pre (i : S8192x1024.Idx) : (res_main_v15 V0 : FVec Ideal S8192x1024 .f32) i = pre (fun k => A0 V0 (ix2 (i 0) k)) (fun k => A1 V0 (ix2 (i 0) k)) (fun r k => A3 V0 (ix2 r k)) (A4 V0) (i 1) := by
  pointwise [res_main_v15, pre, joined]
  exact congrArg (fun b : EReal => Ideal.ofBits .f32 0x3F9837F0#32 * A1 V0 i + A3 V0 (ix2 0 (i 1)) * b) (ref_proj V0 i)

/-- Such a row, whole. -/
theorem pre_row (l : Fin 8192) : (fun j : Fin 1024 => (res_main_v15 V0 : FVec Ideal S8192x1024 .f32) (ix2 l j)) = pre (fun k => A0 V0 (ix2 l k)) (fun k => A1 V0 (ix2 l k)) (fun r k => A3 V0 (ix2 r k)) (A4 V0) :=
  funext fun j => ref_pre V0 (ix2 l j)

/-- The reference's normed rows are the rows' norms. -/
theorem ref_normed (i : S8192x1024.Idx) : REFN V0 i = Norm.normed (pre (fun k => A0 V0 (ix2 (i 0) k)) (fun k => A1 V0 (ix2 (i 0) k)) (fun r k => A3 V0 (ix2 r k)) (A4 V0)) (i 1) := by
  refine Eq.trans ?_ (congrArg (fun f => Norm.normed f (i 1)) (pre_row V0 (i 0)))
  pointwise [REFN, res_main_v19, res_main_v21]
  simp only [Norm.normed, Norm.rstd, Norm.var, Norm.mean, ← eq_ix2]

/-- The reference's reciprocal deviations are the rows'. -/
theorem ref_rstd (i : S8192x1.Idx) : REFS V0 i = Norm.rstd (pre (fun k => A0 V0 (ix2 (i 0) k)) (fun k => A1 V0 (ix2 (i 0) k)) (fun r k => A3 V0 (ix2 r k)) (A4 V0)) := by
  refine Eq.trans ?_ (congrArg (fun f => Norm.rstd f) (pre_row V0 (i 0)))
  pointwise [REFS, res_main_v39]
  simp only [Norm.rstd, Norm.var, Norm.mean, ← eq_ix2]

/-- The reference's rows after the first norm. -/
theorem ref_post (i : S8192x1024.Idx) : (res_main_v51 V0 : FVec Ideal S8192x1024 .f32) i = post (fun k => A0 V0 (ix2 (i 0) k)) (fun k => A1 V0 (ix2 (i 0) k)) (fun r k => A3 V0 (ix2 r k)) (A4 V0) (i 1) := by
  refine Eq.trans ?_ (congrArg (fun f => Norm.modulated f (fun k => A3 V0 (ix2 4 k)) (fun k => A3 V0 (ix2 5 k)) (i 1)) (pre_row V0 (i 0)))
  pointwise [res_main_v51, res_main_v19, res_main_v21]
  simp only [Norm.modulated, Norm.normed, Norm.rstd, Norm.var, Norm.mean, ← eq_ix2]

/-- Such a row, whole. -/
theorem post_row (l : Fin 8192) : (fun j : Fin 1024 => (res_main_v51 V0 : FVec Ideal S8192x1024 .f32) (ix2 l j)) = post (fun k => A0 V0 (ix2 l k)) (fun k => A1 V0 (ix2 l k)) (fun r k => A3 V0 (ix2 r k)) (A4 V0) :=
  funext fun j => ref_post V0 (ix2 l j)

/-- The reference's modulated rows. -/
theorem ref_mod (i : S8192x1024.Idx) : (res_main_v73 V0 : FVec Ideal S8192x1024 .f32) i = mod (fun k => A0 V0 (ix2 (i 0) k)) (fun k => A1 V0 (ix2 (i 0) k)) (fun r k => A3 V0 (ix2 r k)) (A4 V0) (i 1) := by
  refine Eq.trans ?_ (congrArg (fun f => Norm.modulated f (fun k => A3 V0 (ix2 1 k)) (fun k => A3 V0 (ix2 2 k)) (i 1)) (post_row V0 (i 0)))
  pointwise [res_main_v73, res_main_v55, res_main_v57]
  simp only [Norm.modulated, Norm.normed, Norm.rstd, Norm.var, Norm.mean, ← eq_ix2]

/-- The reference's wide rows. -/
theorem ref_wide (l : Fin 8192) (q : Fin 4096) (s : Fin 8) (x : Fin 512) (h : q.val = s.val * 512 + x.val) :
    (res_main_v77 V0 : FVec Ideal S8192x4096 .f32) (ix2 l q) = wide (mod (fun k => A0 V0 (ix2 l k)) (fun k => A1 V0 (ix2 l k)) (fun r k => A3 V0 (ix2 r k)) (A4 V0)) (A5 V0) s x := by
  refine Eq.trans ?_ (congrArg (fun f => wide f (A5 V0) s x) (funext fun j => ref_mod V0 (ix2 l j)))
  pointwise [res_main_v77, wide]
  refine Finset.sum_congr (M := EReal) rfl fun k _ => ?_
  refine congrArg (fun b : EReal => R73 V0 (ix2 l k) * b) (congrArg (A5 V0) (funext fun a => Fin.ext ?_))
  match a with
  | 0 => show q.val / 512 = s.val; omega
  | 1 => rfl
  | 2 => show q.val % 512 = x.val; omega

/-- The reference's rows before the last norm. -/
theorem ref_last (i : S8192x1024.Idx) : (res_main_v86 V0 : FVec Ideal S8192x1024 .f32) i = last (fun k => A0 V0 (ix2 (i 0) k)) (fun k => A1 V0 (ix2 (i 0) k)) (fun r k => A3 V0 (ix2 r k)) (A4 V0) (A5 V0) (A6 V0) (i 1) := by
  pointwise [res_main_v86, res_main_v78, last, joined, narrow]
  refine congrArg₂ (fun a b : EReal => Ideal.ofBits .f32 0x3F9837F0#32 * a + A3 V0 (ix2 3 (i 1)) * b) (ref_post V0 i) ?_
  symm
  refine Fin.sum_mul_add_congr fun s x hl => ?_
  exact congrArg (fun b : EReal => max b 0 * max b 0 * A6 V0 (ix2 ⟨s.val * 512 + x.val, hl⟩ (i 1))) (ref_wide V0 (i 0) ⟨s.val * 512 + x.val, hl⟩ s x rfl).symm

/-- Such a row, whole. -/
theorem last_row (l : Fin 8192) : (fun j : Fin 1024 => (res_main_v86 V0 : FVec Ideal S8192x1024 .f32) (ix2 l j)) = last (fun k => A0 V0 (ix2 l k)) (fun k => A1 V0 (ix2 l k)) (fun r k => A3 V0 (ix2 r k)) (A4 V0) (A5 V0) (A6 V0) :=
  funext fun j => ref_last V0 (ix2 l j)

/-- The reference's last norm. -/
theorem ref_out (i : S8192x1024.Idx) : (res_main_v104 V0 : FVec Ideal S8192x1024 .f32) i = Norm.normed (last (fun k => A0 V0 (ix2 (i 0) k)) (fun k => A1 V0 (ix2 (i 0) k)) (fun r k => A3 V0 (ix2 r k)) (A4 V0) (A5 V0) (A6 V0)) (i 1) := by
  refine Eq.trans ?_ (congrArg (fun f => Norm.normed f (i 1)) (last_row V0 (i 0)))
  pointwise [res_main_v104, res_main_v90, res_main_v92]
  simp only [Norm.normed, Norm.rstd, Norm.var, Norm.mean, ← eq_ix2]

/-- The reference's differences from the target. -/
theorem ref_diff (i : S8192x1024.Idx) : (res_main_v109 V0 : FVec Ideal S8192x1024 .f32) i
    = diff (fun k => A0 V0 (ix2 (i 0) k)) (fun k => A1 V0 (ix2 (i 0) k)) (fun r k => A3 V0 (ix2 r k)) (A4 V0) (A5 V0) (A6 V0) (fun k => A2 V0 (ix2 (i 0) k)) (i 1) := by
  pointwise [res_main_v109, diff, Norm.modulated]
  exact congrArg (fun b : EReal => b * A3 V0 (ix2 6 (i 1)) + A3 V0 (ix2 7 (i 1)) - A2 V0 i) (ref_out V0 i)

/-- A thousand and twenty-four. -/
theorem word_1024 : Ideal.ofBits .f32 0x44800000#32 = ((1024 : ℝ) : EReal) := by
  simp [Ideal.ofBits, Ideal.ieee, -EReal.coe_mul]; norm_num

/-- One half. -/
theorem word_half : Ideal.ofBits .f32 0x3F000000#32 = ((1 / 2 : ℝ) : EReal) := by
  simp [Ideal.ofBits, Ideal.ieee, -EReal.coe_mul]; norm_num

/-- The thousand and twenty-fourth part. -/
theorem word_part : Ideal.ofBits .f32 0x3A800000#32 = ((1 / 1024 : ℝ) : EReal) := by
  simp [Ideal.ofBits, Ideal.ieee, -EReal.coe_mul]; norm_num

/-- The factors of the loss. -/
theorem factor (e : EReal) : Ideal.div (Ideal.ofBits .f32 0x3F000000#32) (Ideal.ofBits .f32 0x44800000#32) * (Ideal.ofBits .f32 0x40000000#32 * e)
    = e * Ideal.ofBits .f32 0x3A800000#32 := by
  rw [word_1024, word_half, word_part, Retention.word_2]
  rw [Ideal.div_coe (by norm_num), ← EReal.coe_mul, ← mul_assoc, ← EReal.coe_mul, mul_comm (G := EReal)]
  norm_num

/-- The reference's gradient of the output. -/
theorem ref_grad (i : S8192x1024.Idx) : (res_main_v123 V0 : FVec Ideal S8192x1024 .f32) i
    = diff (fun k => A0 V0 (ix2 (i 0) k)) (fun k => A1 V0 (ix2 (i 0) k)) (fun r k => A3 V0 (ix2 r k)) (A4 V0) (A5 V0) (A6 V0) (fun k => A2 V0 (ix2 (i 0) k)) (i 1) * Ideal.ofBits .f32 0x3A800000#32 := by
  refine Eq.trans ?_ (congrArg (fun b : EReal => b * Ideal.ofBits .f32 0x3A800000#32) (ref_diff V0 i))
  pointwise [res_main_v123]
  exact factor _

/-- The reference's gradient of the last norm's weight. -/
theorem ref_weight (j : Fin 1024) : REFA V0 (ix2 0 j) = ∑ l : Fin 8192, (diff (fun k => A0 V0 (ix2 l k)) (fun k => A1 V0 (ix2 l k)) (fun r k => A3 V0 (ix2 r k)) (A4 V0) (A5 V0) (A6 V0) (fun k => A2 V0 (ix2 l k)) j * Ideal.ofBits .f32 0x3A800000#32)
    * Norm.normed (last (fun k => A0 V0 (ix2 l k)) (fun k => A1 V0 (ix2 l k)) (fun r k => A3 V0 (ix2 r k)) (A4 V0) (A5 V0) (A6 V0)) j := by
  refine Eq.trans (b := ∑ l : Fin 8192, (R104 V0 (ix2 l j) * R123 V0 (ix2 l j) : EReal)) ?_ ?_
  · pointwise [REFA]
  · exact Finset.sum_congr (M := EReal) rfl fun l _ => (congrArg₂ (fun a b : EReal => a * b) (ref_out V0 (ix2 l j)) (ref_grad V0 (ix2 l j))).trans (mul_comm (G := EReal) _ _)

/-- The reference's gradient of the last norm's bias. -/
theorem ref_bias (j : Fin 1024) : REFA V0 (ix2 1 j) = ∑ l : Fin 8192, diff (fun k => A0 V0 (ix2 l k)) (fun k => A1 V0 (ix2 l k)) (fun r k => A3 V0 (ix2 r k)) (A4 V0) (A5 V0) (A6 V0) (fun k => A2 V0 (ix2 l k)) j * Ideal.ofBits .f32 0x3A800000#32 := by
  refine Eq.trans (b := ∑ l : Fin 8192, (R123 V0 (ix2 l j) : EReal)) ?_ ?_
  · pointwise [REFA]
  · exact Finset.sum_congr (M := EReal) rfl fun l _ => ref_grad V0 (ix2 l j)

end Reference

end Cert.Mid
end
-- ==== Proof.MidFwd.lean ====
/- The forward pass after the mixer: the kernel's arrays. -/
module

public import proofs.«01_k».proof.Proof.Gen.Kernel9Ideal.Value
public import proofs.«01_k».proof.Proof.MidRef
public import proofs.«01_k».proof.Proof.Norm
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel9Ideal.Hand

open Cert.Kernel9Ideal Cert.Kernel9Ideal.Gen

variable (m : (ℓ : Loc nD τ sig) → Buf (Elt Ideal) ℓ)

/-- Every point holds the weights in the scratch. -/
theorem held (c : Dev nD) : ∀ t (h : t < cfg0.N), (outsAt0 m c t h).2.2.2.2.2.2.2.2 = (V m c main_arg4, V m c main_arg5, V m c main_arg6) := by
  intro t
  induction t with
  | zero =>
    intro h
    rw [outsAt0_A m c ⟨0, h⟩ (by simp) (by simp)]
    frame_out
    rw [Norm.canon_whole, Norm.canon_whole, Norm.canon_whole]
    rfl
  | succ t ih =>
    intro h
    have h16 : ¬(t + 1) % 16 = 0 := by have : t + 1 < 16 := h; omega
    rw [outsAt0_B m c ⟨t + 1, h⟩ h16 h16]
    frame_out
    exact ih _

/-- The output projection that every point holds. -/
theorem held_wo (c : Dev nD) (t) (h : t < cfg0.N) : (outsAt0 m c t h).2.2.2.2.2.2.2.2.1 = V m c main_arg4 := by rw [held]

/-- The first feed-forward weight that every point holds. -/
theorem held_w1 (c : Dev nD) (t) (h : t < cfg0.N) : (outsAt0 m c t h).2.2.2.2.2.2.2.2.2.1 = V m c main_arg5 := by rw [held]

/-- The second feed-forward weight that every point holds. -/
theorem held_w2 (c : Dev nD) (t) (h : t < cfg0.N) : (outsAt0 m c t h).2.2.2.2.2.2.2.2.2.2 = V m c main_arg6 := by rw [held]

/-- A block's rows by the output projection. -/
theorem proj_at (P : Vec Ideal S512x1024 .bf16) (WO : Vec Ideal S1024x1024 .bf16) (i) :
    k0_pay4 (F := Ideal) P WO i = Mid.proj (fun k => P (ix2 (i 0) k)) WO (i 1) := by
  pointwise [k0_pay4, k0_pay3, Mid.proj]

/-- A row of the vectors. -/
theorem vec_at (U : Vec Ideal S8x1024 .f32) {o : ℕ} (inb) (r : Fin 8) (h : r.val = o) (j : Fin 1024) :
    View.ld U (Rect.unit ![o, 0] ![1, 1024] inb) (ix2 0 j) = U (ix2 r j) :=
  Norm.ld_rows U inb (ix2 0 j) r h

/-- A block before the first norm. -/
abbrev PREB (P : Vec Ideal S512x1024 .bf16) (X : Vec Ideal S512x1024 .f32) (U : Vec Ideal S8x1024 .f32) (WO : Vec Ideal S1024x1024 .bf16) : Vec Ideal S512x1024 .f32 := k0_pay5 (F := Ideal) (View.ld U (Rect.unit ![0, 0] ![1, 1024] inb_S8x1024_S1x1024_0_0)) P WO X

/-- The sums of its rows. -/
abbrev SUMB (P : Vec Ideal S512x1024 .bf16) (X : Vec Ideal S512x1024 .f32) (U : Vec Ideal S8x1024 .f32) (WO : Vec Ideal S1024x1024 .bf16) : Vec Ideal S512x1 .f32 := k0_pay6 (F := Ideal) (View.ld U (Rect.unit ![0, 0] ![1, 1024] inb_S8x1024_S1x1024_0_0)) P WO X

/-- The block after the norm. -/
abbrev POSTB (P : Vec Ideal S512x1024 .bf16) (X : Vec Ideal S512x1024 .f32) (U : Vec Ideal S8x1024 .f32) (WO : Vec Ideal S1024x1024 .bf16) : Vec Ideal S512x1024 .f32 := k0_pay10 (F := Ideal) (View.ld U (Rect.unit ![4, 0] ![1, 1024] inb_S8x1024_S1x1024_4_0)) (View.ld U (Rect.unit ![5, 0] ![1, 1024] inb_S8x1024_S1x1024_5_0)) (PREB P X U WO) (SUMB P X U WO)

/-- The modulated block. -/
abbrev MODB (P : Vec Ideal S512x1024 .bf16) (X : Vec Ideal S512x1024 .f32) (U : Vec Ideal S8x1024 .f32) (WO : Vec Ideal S1024x1024 .bf16) : Vec Ideal S512x1024 .bf16 :=
  k0_pay11 (F := Ideal) (View.ld U (Rect.unit ![1, 0] ![1, 1024] inb_S8x1024_S1x1024_1_0)) (View.ld U (Rect.unit ![2, 0] ![1, 1024] inb_S8x1024_S1x1024_2_0)) (View.ld U (Rect.unit ![4, 0] ![1, 1024] inb_S8x1024_S1x1024_4_0)) (View.ld U (Rect.unit ![5, 0] ![1, 1024] inb_S8x1024_S1x1024_5_0)) (PREB P X U WO) (SUMB P X U WO)

/-- The feed-forward block but for its last slab. -/
abbrev FFB (u : Vec Ideal S512x1024 .bf16) (W1 : Vec Ideal S8x1024x512 .bf16) (W2 : Vec Ideal S4096x1024 .bf16) : Vec Ideal S512x1024 .f32 :=
  (k0_pay28 (F := Ideal) u (k0_pay23 u (k0_pay16 u (View.ld W1 (Rect.unit ![0, 0, 0] ![1, 1024, 512] inb_S8x1024x512_S1x1024x512_0_0_0)) (View.ld W2 (Rect.unit ![0, 0] ![512, 1024] inb_S4096x1024_S512x1024_0_0)) (View.ld W1 (Rect.unit ![1, 0, 0] ![1, 1024, 512] inb_S8x1024x512_S1x1024x512_1_0_0)) (View.ld W2 (Rect.unit ![512, 0] ![512, 1024] inb_S4096x1024_S512x1024_512_0)))
    (k0_pay17 u (View.ld W1 (Rect.unit ![2, 0, 0] ![1, 1024, 512] inb_S8x1024x512_S1x1024x512_2_0_0))) (View.ld W2 (Rect.unit ![1024, 0] ![512, 1024] inb_S4096x1024_S512x1024_1024_0)) (View.ld W1 (Rect.unit ![3, 0, 0] ![1, 1024, 512] inb_S8x1024x512_S1x1024x512_3_0_0)) (View.ld W2 (Rect.unit ![1536, 0] ![512, 1024] inb_S4096x1024_S512x1024_1536_0)) (View.ld W1 (Rect.unit ![4, 0, 0] ![1, 1024, 512] inb_S8x1024x512_S1x1024x512_4_0_0)) (View.ld W2 (Rect.unit ![2048, 0] ![512, 1024] inb_S4096x1024_S512x1024_2048_0)))
    (View.ld W1 (Rect.unit ![5, 0, 0] ![1, 1024, 512] inb_S8x1024x512_S1x1024x512_5_0_0)) (View.ld W2 (Rect.unit ![2560, 0] ![512, 1024] inb_S4096x1024_S512x1024_2560_0)) (View.ld W1 (Rect.unit ![6, 0, 0] ![1, 1024, 512] inb_S8x1024x512_S1x1024x512_6_0_0)) (View.ld W2 (Rect.unit ![3072, 0] ![512, 1024] inb_S4096x1024_S512x1024_3072_0)))

/-- The last norm of a block. -/
abbrev NORMB (P : Vec Ideal S512x1024 .bf16) (X : Vec Ideal S512x1024 .f32) (U : Vec Ideal S8x1024 .f32) (WO : Vec Ideal S1024x1024 .bf16) (W1 : Vec Ideal S8x1024x512 .bf16) (W2 : Vec Ideal S4096x1024 .bf16) : Vec Ideal S512x1024 .f32 :=
  k0_pay35 (F := Ideal) (View.ld U (Rect.unit ![3, 0] ![1, 1024] inb_S8x1024_S1x1024_3_0)) (POSTB P X U WO) (FFB (MODB P X U WO) W1 W2) (k0_pay31 (MODB P X U WO) (View.ld W1 (Rect.unit ![7, 0, 0] ![1, 1024, 512] inb_S8x1024x512_S1x1024x512_7_0_0))) (View.ld W2 (Rect.unit ![3584, 0] ![512, 1024] inb_S4096x1024_S512x1024_3584_0))

/-- The gradient of a block's output. -/
abbrev GRADB (P : Vec Ideal S512x1024 .bf16) (X : Vec Ideal S512x1024 .f32) (U : Vec Ideal S8x1024 .f32) (WO : Vec Ideal S1024x1024 .bf16) (W1 : Vec Ideal S8x1024x512 .bf16) (W2 : Vec Ideal S4096x1024 .bf16) (T : Vec Ideal S512x1024 .f32) : Vec Ideal S512x1024 .f32 :=
  k0_pay37 (F := Ideal) (View.ld U (Rect.unit ![3, 0] ![1, 1024] inb_S8x1024_S1x1024_3_0)) (View.ld U (Rect.unit ![6, 0] ![1, 1024] inb_S8x1024_S1x1024_6_0)) (View.ld U (Rect.unit ![7, 0] ![1, 1024] inb_S8x1024_S1x1024_7_0)) (POSTB P X U WO) (FFB (MODB P X U WO) W1 W2) (k0_pay31 (MODB P X U WO) (View.ld W1 (Rect.unit ![7, 0, 0] ![1, 1024, 512] inb_S8x1024x512_S1x1024x512_7_0_0))) (View.ld W2 (Rect.unit ![3584, 0] ![512, 1024] inb_S4096x1024_S512x1024_3584_0)) T

/-- A row before the first norm. -/
theorem pre_at (P X U WO i) : PREB P X U WO i = Mid.pre (fun k => P (ix2 (i 0) k)) (fun k => X (ix2 (i 0) k)) (fun r k => U (ix2 r k)) WO (i 1) := by
  refine Eq.trans (b := Ideal.ofBits .f32 0x3F9837F0#32 * X i + (View.ld U (Rect.unit ![0, 0] ![1, 1024] inb_S8x1024_S1x1024_0_0)) (ix2 0 (i 1)) * Mid.proj (fun k => P (ix2 (i 0) k)) WO (i 1)) ?_ ?_
  · pointwise [k0_pay5, k0_pay3, Mid.proj]
  · exact congrArg₂ (fun a b : EReal => Ideal.ofBits .f32 0x3F9837F0#32 * a + b * Mid.proj (fun k => P (ix2 (i 0) k)) WO (i 1)) (congrArg X (eq_ix2 i)) (vec_at U _ 0 rfl (i 1))

/-- Such a row, whole. -/
theorem pre_row (P X U WO) (a : Fin 512) : (fun j : Fin 1024 => PREB P X U WO (ix2 a j)) = Mid.pre (fun k => P (ix2 a k)) (fun k => X (ix2 a k)) (fun r k => U (ix2 r k)) WO :=
  funext fun j => pre_at P X U WO (ix2 a j)

/-- The sums are the rows'. -/
theorem sum_at (P X U WO i) : SUMB P X U WO i = ∑ j : Fin 1024, (PREB P X U WO (ix2 (i 0) j) : EReal) := by
  pointwise [k0_pay6]

/-- The reciprocal deviations of rows, by their sums. -/
theorem rstd_of (Y : Vec Ideal S512x1024 .f32) (S : Vec Ideal S512x1 .f32) (h : ∀ i, S i = ∑ j : Fin 1024, (Y (ix2 (i 0) j) : EReal)) (i) :
    k0_pay8 (F := Ideal) Y S i = Norm.rstd (fun j => Y (ix2 (i 0) j)) := by
  pointwise [k0_pay8, k0_pay7]
  simp only [h, Norm.rstd, Norm.var, Norm.mean, ← eq_ix2]
  rfl

/-- The norm of rows, by their sums. -/
theorem normed_of (Y : Vec Ideal S512x1024 .f32) (S : Vec Ideal S512x1 .f32) (h : ∀ i, S i = ∑ j : Fin 1024, (Y (ix2 (i 0) j) : EReal)) (i) :
    k0_pay9 (F := Ideal) Y S i = Norm.normed (fun j => Y (ix2 (i 0) j)) (i 1) := by
  pointwise [k0_pay9, k0_pay8, k0_pay7]
  simp only [h, Norm.normed, Norm.rstd, Norm.var, Norm.mean, ← eq_ix2]
  rfl

/-- The scaled and shifted norm of rows, by their sums. -/
theorem post_of (a b : Vec Ideal S1x1024 .f32) (Y : Vec Ideal S512x1024 .f32) (S : Vec Ideal S512x1 .f32) (h : ∀ i, S i = ∑ j : Fin 1024, (Y (ix2 (i 0) j) : EReal)) (i) :
    k0_pay10 (F := Ideal) a b Y S i = Norm.modulated (fun j => Y (ix2 (i 0) j)) (fun j => a (ix2 0 j)) (fun j => b (ix2 0 j)) (i 1) := by
  refine Eq.trans ?_ (congrArg (fun n : EReal => n * a (ix2 0 (i 1)) + b (ix2 0 (i 1))) (normed_of Y S h i))
  pointwise [k0_pay10]

/-- The modulated rows, by their norms. -/
theorem mod_of (p q a b : Vec Ideal S1x1024 .f32) (Y : Vec Ideal S512x1024 .f32) (S : Vec Ideal S512x1 .f32) (i) :
    k0_pay11 (F := Ideal) p q a b Y S i = Norm.modulated (fun j => k0_pay10 (F := Ideal) a b Y S (ix2 (i 0) j)) (fun j => p (ix2 0 j)) (fun j => q (ix2 0 j)) (i 1) := by
  pointwise [k0_pay11]
  simp only [Norm.modulated, Norm.normed, Norm.rstd, Norm.var, Norm.mean, ← eq_ix2]

/-- The rows' reciprocal deviations. -/
theorem rstd_at (P X U WO i) : k0_pay8 (F := Ideal) (PREB P X U WO) (SUMB P X U WO) i = Norm.rstd (Mid.pre (fun k => P (ix2 (i 0) k)) (fun k => X (ix2 (i 0) k)) (fun r k => U (ix2 r k)) WO) :=
  (rstd_of _ _ (sum_at P X U WO) i).trans (congrArg Norm.rstd (pre_row P X U WO (i 0)))

/-- The rows' norms. -/
theorem normed_at (P X U WO i) : k0_pay9 (F := Ideal) (PREB P X U WO) (SUMB P X U WO) i = Norm.normed (Mid.pre (fun k => P (ix2 (i 0) k)) (fun k => X (ix2 (i 0) k)) (fun r k => U (ix2 r k)) WO) (i 1) :=
  (normed_of _ _ (sum_at P X U WO) i).trans (congrArg (fun f => Norm.normed f (i 1)) (pre_row P X U WO (i 0)))

/-- The rows after the first norm. -/
theorem post_at (P X U WO i) : POSTB P X U WO i = Mid.post (fun k => P (ix2 (i 0) k)) (fun k => X (ix2 (i 0) k)) (fun r k => U (ix2 r k)) WO (i 1) := by
  refine (post_of _ _ _ _ (sum_at P X U WO) i).trans ?_
  rw [pre_row P X U WO (i 0)]
  exact congrArg₂ (fun a b : EReal => Norm.normed (Mid.pre (fun k => P (ix2 (i 0) k)) (fun k => X (ix2 (i 0) k)) (fun r k => U (ix2 r k)) WO) (i 1) * a + b) (vec_at U _ 4 rfl (i 1)) (vec_at U _ 5 rfl (i 1))

/-- Such a row, whole. -/
theorem post_row (P X U WO) (a : Fin 512) : (fun j : Fin 1024 => POSTB P X U WO (ix2 a j)) = Mid.post (fun k => P (ix2 a k)) (fun k => X (ix2 a k)) (fun r k => U (ix2 r k)) WO :=
  funext fun j => post_at P X U WO (ix2 a j)

/-- The modulated rows. -/
theorem mod_at (P X U WO i) : MODB P X U WO i = Mid.mod (fun k => P (ix2 (i 0) k)) (fun k => X (ix2 (i 0) k)) (fun r k => U (ix2 r k)) WO (i 1) := by
  refine (mod_of _ _ _ _ _ _ i).trans ?_
  rw [post_row P X U WO (i 0)]
  exact congrArg₂ (fun a b : EReal => Norm.normed (Mid.post (fun k => P (ix2 (i 0) k)) (fun k => X (ix2 (i 0) k)) (fun r k => U (ix2 r k)) WO) (i 1) * a + b) (vec_at U _ 1 rfl (i 1)) (vec_at U _ 2 rfl (i 1))

/-- Such a row, whole. -/
theorem mod_row (P X U WO) (a : Fin 512) : (fun j : Fin 1024 => (MODB P X U WO (ix2 a j) : EReal)) = Mid.mod (fun k => P (ix2 a k)) (fun k => X (ix2 a k)) (fun r k => U (ix2 r k)) WO :=
  funext fun j => mod_at P X U WO (ix2 a j)

/-- A slab of the wide rows. -/
theorem wide_at (u : Vec Ideal S512x1024 .bf16) (W1 : Vec Ideal S8x1024x512 .bf16) {s : ℕ} (inb) (r : Fin 8) (hr : r.val = s) (i) :
    k0_pay12 (F := Ideal) u (View.ld W1 (Rect.unit ![s, 0, 0] ![1, 1024, 512] inb)) i = Mid.wide (fun k => u (ix2 (i 0) k)) W1 r (i 1) := by
  refine Eq.trans (b := ∑ k : Fin 1024, (u (ix2 (i 0) k) * View.ld W1 (Rect.unit ![s, 0, 0] ![1, 1024, 512] inb) (ix3 0 k (i 1)) : EReal)) ?_ ?_
  · pointwise [k0_pay12]
  · refine Finset.sum_congr (M := EReal) rfl fun k _ => congrArg (fun b : EReal => u (ix2 (i 0) k) * b) (congrArg W1 (funext fun a => Fin.ext ?_))
    refine (ValueKit.rect_emb_unit_val (s := S8x1024x512) ![s, 0, 0] ![1, 1024, 512] inb (ix3 0 k (i 1)) a).trans ?_
    match a with
    | 0 => exact hr.symm
    | 1 => exact Nat.zero_add _
    | 2 => exact Nat.zero_add _

/-- A slab's product by its weights. -/
def slabProd (u : Vec Ideal S512x1024 .bf16) (w : Vec Ideal S1x1024x512 .bf16) (v : Vec Ideal S512x1024 .bf16) (i : S512x1024.Idx) : EReal :=
  ∑ x : Fin 512, max (k0_pay12 (F := Ideal) u w (ix2 (i 0) x) : EReal) 0 * max (k0_pay12 (F := Ideal) u w (ix2 (i 0) x) : EReal) 0 * v (ix2 x (i 1))

/-- The sum after the second slab. -/
theorem sum2 (u w v w' v' i) : k0_pay16 (F := Ideal) u w v w' v' i = slabProd u w v i + slabProd u w' v' i := by
  pointwise [k0_pay16, slabProd]
  rfl

/-- The sum after the fifth slab. -/
theorem sum5 (u f w v w' v' w'' v'' i) : k0_pay23 (F := Ideal) u f (k0_pay17 u w) v w' v' w'' v'' i = f i + slabProd u w v i + slabProd u w' v' i + slabProd u w'' v'' i := by
  pointwise [k0_pay23, slabProd]
  rfl

/-- The sum after the seventh slab. -/
theorem sum7 (u f w v w' v' i) : k0_pay28 (F := Ideal) u f w v w' v' i = f i + slabProd u w v i + slabProd u w' v' i := by
  pointwise [k0_pay28, slabProd]
  rfl

/-- The sum after the last slab. -/
theorem sum8 (f u w v i) : k0_pay32 (F := Ideal) f (k0_pay31 u w) v i = f i + slabProd u w v i := by
  pointwise [k0_pay32, k0_pay31, slabProd]
  rfl

/-- A slab's product is a part of the sum. -/
theorem prod_at (u : Vec Ideal S512x1024 .bf16) (W1 : Vec Ideal S8x1024x512 .bf16) (W2 : Vec Ideal S4096x1024 .bf16) {o s : ℕ} (inb inb') (r : Fin 8) (hr : r.val = s) (ho : o = s * 512) (i : S512x1024.Idx) :
    slabProd u (View.ld W1 (Rect.unit ![s, 0, 0] ![1, 1024, 512] inb)) (View.ld W2 (Rect.unit ![o, 0] ![512, 1024] inb')) i
      = ∑ x : Fin 512, max (Mid.wide (fun k => u (ix2 (i 0) k)) W1 r x) 0 * max (Mid.wide (fun k => u (ix2 (i 0) k)) W1 r x) 0 * W2 (ix2 ⟨r.val * 512 + x.val, by omega⟩ (i 1)) := by
  refine Finset.sum_congr (M := EReal) rfl fun x _ => ?_
  refine congrArg₂ (fun a b : EReal => max a 0 * max a 0 * b) (wide_at u W1 inb r hr (ix2 (i 0) x)) ?_
  exact Norm.ld_rows W2 inb' (ix2 x (i 1)) ⟨r.val * 512 + x.val, by omega⟩ (by subst ho hr; rfl)

/-- The sum over the slabs. -/
theorem sums (u : Vec Ideal S512x1024 .bf16) (W1 : Vec Ideal S8x1024x512 .bf16) (W2 : Vec Ideal S4096x1024 .bf16) (i) :
    k0_pay32 (F := Ideal) (FFB u W1 W2) (k0_pay31 u (View.ld W1 (Rect.unit ![7, 0, 0] ![1, 1024, 512] inb_S8x1024x512_S1x1024x512_7_0_0))) (View.ld W2 (Rect.unit ![3584, 0] ![512, 1024] inb_S4096x1024_S512x1024_3584_0)) i = Mid.narrow (Mid.wide (fun k => u (ix2 (i 0) k)) W1) W2 (i 1) := by
  refine ((sum8 _ _ _ _ _).trans (congrArg (fun b : EReal => b + _) ((sum7 _ _ _ _ _ _ _).trans (congrArg (fun b : EReal => b + _ + _) ((sum5 _ _ _ _ _ _ _ _ _).trans
    (congrArg (fun b : EReal => b + _ + _ + _) (sum2 _ _ _ _ _ _))))))).trans ?_
  refine Eq.trans ?_ (Fin.sum_univ_eight (M := EReal) fun r : Fin 8 => ∑ x : Fin 512, max (Mid.wide (fun k => u (ix2 (i 0) k)) W1 r x) 0 * max (Mid.wide (fun k => u (ix2 (i 0) k)) W1 r x) 0 * W2 (ix2 ⟨r.val * 512 + x.val, by omega⟩ (i 1))).symm
  exact (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (prod_at u W1 W2 (o := 0) (s := 0) _ _ 0 rfl rfl i)
    (prod_at u W1 W2 (o := 512) (s := 1) _ _ 1 rfl rfl i))
    (prod_at u W1 W2 (o := 1024) (s := 2) _ _ 2 rfl rfl i))
    (prod_at u W1 W2 (o := 1536) (s := 3) _ _ 3 rfl rfl i))
    (prod_at u W1 W2 (o := 2048) (s := 4) _ _ 4 rfl rfl i))
    (prod_at u W1 W2 (o := 2560) (s := 5) _ _ 5 rfl rfl i))
    (prod_at u W1 W2 (o := 3072) (s := 6) _ _ 6 rfl rfl i))
    (prod_at u W1 W2 (o := 3584) (s := 7) _ _ 7 rfl rfl i))

/-- The last norm of rows. -/
theorem last_of (g : Vec Ideal S1x1024 .f32) (x f : Vec Ideal S512x1024 .f32) (a v i) :
    k0_pay35 (F := Ideal) g x f a v i = Norm.normed (Mid.joined (fun j => x (ix2 (i 0) j)) (fun j => g (ix2 0 j)) (fun j => k0_pay32 (F := Ideal) f a v (ix2 (i 0) j))) (i 1) := by
  pointwise [k0_pay35, k0_pay34, k0_pay33]
  simp only [Mid.joined, Norm.normed, Norm.rstd, Norm.var, Norm.mean, ← eq_ix2]

/-- The rows before the last norm. -/
theorem last_row (P X U WO) (W1 : Vec Ideal S8x1024x512 .bf16) (W2 : Vec Ideal S4096x1024 .bf16) (a : Fin 512) :
    Mid.joined (fun j => POSTB P X U WO (ix2 a j)) (fun j => (View.ld U (Rect.unit ![3, 0] ![1, 1024] inb_S8x1024_S1x1024_3_0)) (ix2 0 j)) (fun j => k0_pay32 (F := Ideal) (FFB (MODB P X U WO) W1 W2) (k0_pay31 (MODB P X U WO) (View.ld W1 (Rect.unit ![7, 0, 0] ![1, 1024, 512] inb_S8x1024x512_S1x1024x512_7_0_0))) (View.ld W2 (Rect.unit ![3584, 0] ![512, 1024] inb_S4096x1024_S512x1024_3584_0)) (ix2 a j))
      = Mid.last (fun k => P (ix2 a k)) (fun k => X (ix2 a k)) (fun r k => U (ix2 r k)) WO W1 W2 := by
  rw [post_row P X U WO a]
  refine congrArg₂ (Mid.joined (Mid.post (fun k => P (ix2 a k)) (fun k => X (ix2 a k)) (fun r k => U (ix2 r k)) WO)) (funext fun j => vec_at U _ 3 rfl j) (funext fun j => ?_)
  exact (sums _ W1 W2 (ix2 a j)).trans (congrArg (fun f => Mid.narrow (Mid.wide f W1) W2 j) (mod_row P X U WO a))

/-- The last norm of a block is the rows'. -/
theorem last_at (P X U WO W1 W2 i) : NORMB P X U WO W1 W2 i = Norm.normed (Mid.last (fun k => P (ix2 (i 0) k)) (fun k => X (ix2 (i 0) k)) (fun r k => U (ix2 r k)) WO W1 W2) (i 1) :=
  (last_of _ _ _ _ _ i).trans (congrArg (fun f => Norm.normed f (i 1)) (last_row P X U WO W1 W2 (i 0)))

/-- The gradient of a block's output, by its norm. -/
theorem grad_of (g a b : Vec Ideal S1x1024 .f32) (x f : Vec Ideal S512x1024 .f32) (p v T i) :
    k0_pay37 (F := Ideal) g a b x f p v T i = (k0_pay35 (F := Ideal) g x f p v i * a (ix2 0 (i 1)) + b (ix2 0 (i 1)) - T i) * Ideal.ofBits .f32 0x3A800000#32 := by
  pointwise [k0_pay37, k0_pay36]

/-- The gradient of a block's output is the rows'. -/
theorem grad_at (P X U WO W1 W2 T i) : GRADB P X U WO W1 W2 T i = Mid.diff (fun k => P (ix2 (i 0) k)) (fun k => X (ix2 (i 0) k)) (fun r k => U (ix2 r k)) WO W1 W2 (fun k => T (ix2 (i 0) k)) (i 1) * Ideal.ofBits .f32 0x3A800000#32 := by
  refine (grad_of _ _ _ _ _ _ _ _ i).trans (congrArg (fun b : EReal => b * Ideal.ofBits .f32 0x3A800000#32) ?_)
  refine congrArg₂ (fun a b : EReal => a - b) (congrArg₂ (fun a b : EReal => a + b) (congrArg₂ (fun a b : EReal => a * b) (last_at P X U WO W1 W2 i) (vec_at U _ 6 rfl (i 1))) (vec_at U _ 7 rfl (i 1))) ?_
  exact congrArg T (eq_ix2 i)

/-- A point adds its rows to the gradient of the weight. -/
theorem weight_at (n d : Vec Ideal S512x1024 .f32) (a : Vec Ideal S1x1024 .f32) (i) :
    k0_pay44 (F := Ideal) n d a i = a i + ∑ x : Fin 512, d (ix2 x (i 1)) * n (ix2 x (i 1)) := by
  pointwise [k0_pay44]

/-- A point adds its rows to the gradient of the bias. -/
theorem bias_at (d : Vec Ideal S512x1024 .f32) (a : Vec Ideal S1x1024 .f32) (i) :
    k0_pay45 (F := Ideal) d a i = a i + ∑ x : Fin 512, d (ix2 x (i 1)) := by
  pointwise [k0_pay45]

/-- The accumulator starts at zero. -/
theorem zero_at (i) : k0_pay2 (F := Ideal) i = (0 : EReal) := by pointwise [k0_pay2]

/-- A block of wide rows. -/
abbrev WIDEB (u : Vec Ideal S512x1024 .bf16) (W1 : Vec Ideal S8x1024x512 .bf16) : Vec Ideal S512x4096 .bf16 := fun y =>
  Mid.wide (fun k => u (ix2 (y 0) k)) W1 ⟨(y 1).val / 512, by have : (y 1).val < 4096 := (y 1).isLt; omega⟩ ⟨(y 1).val % 512, by omega⟩

/-- The slabs fill the block. -/
theorem slabs (u : Vec Ideal S512x1024 .bf16) (W1 : Vec Ideal S8x1024x512 .bf16) (y : S512x4096.Idx) :
    (View.canon (Val := Elt Ideal) [⟨Rect.unit ![0, 3584] ![512, 512] inb_S512x4096_S512x512_0_3584, k0_pay30 u (View.ld W1 (Rect.unit ![7, 0, 0] ![1, 1024, 512] inb_S8x1024x512_S1x1024x512_7_0_0))⟩,
      ⟨Rect.unit ![0, 3072] ![512, 512] inb_S512x4096_S512x512_0_3072, k0_pay27 u (View.ld W1 (Rect.unit ![6, 0, 0] ![1, 1024, 512] inb_S8x1024x512_S1x1024x512_6_0_0))⟩,
      ⟨Rect.unit ![0, 2560] ![512, 512] inb_S512x4096_S512x512_0_2560, k0_pay25 u (View.ld W1 (Rect.unit ![5, 0, 0] ![1, 1024, 512] inb_S8x1024x512_S1x1024x512_5_0_0))⟩,
      ⟨Rect.unit ![0, 2048] ![512, 512] inb_S512x4096_S512x512_0_2048, k0_pay22 u (View.ld W1 (Rect.unit ![4, 0, 0] ![1, 1024, 512] inb_S8x1024x512_S1x1024x512_4_0_0))⟩,
      ⟨Rect.unit ![0, 1536] ![512, 512] inb_S512x4096_S512x512_0_1536, k0_pay20 u (View.ld W1 (Rect.unit ![3, 0, 0] ![1, 1024, 512] inb_S8x1024x512_S1x1024x512_3_0_0))⟩,
      ⟨Rect.unit ![0, 1024] ![512, 512] inb_S512x4096_S512x512_0_1024, k0_pay18 u (View.ld W1 (Rect.unit ![2, 0, 0] ![1, 1024, 512] inb_S8x1024x512_S1x1024x512_2_0_0))⟩,
      ⟨Rect.unit ![0, 512] ![512, 512] inb_S512x4096_S512x512_0_512, k0_pay15 u (View.ld W1 (Rect.unit ![1, 0, 0] ![1, 1024, 512] inb_S8x1024x512_S1x1024x512_1_0_0))⟩,
      ⟨Rect.unit ![0, 0] ![512, 512] inb_S512x4096_S512x512_0_0, k0_pay13 u (View.ld W1 (Rect.unit ![0, 0, 0] ![1, 1024, 512] inb_S8x1024x512_S1x1024x512_0_0_0))⟩] : Vec Ideal S512x4096 .bf16) y = WIDEB u W1 y := by
  refine Norm.canon_agree _ (WIDEB u W1) ?_ y ?_
  · have h : ∀ (r : Fin 8) (s o : ℕ) (hr : r.val = s) (ho : o = s * 512) inb inb' x, k0_pay12 (F := Ideal) u (View.ld W1 (Rect.unit ![s, 0, 0] ![1, 1024, 512] inb)) x
        = WIDEB u W1 ((Rect.unit (s := S512x4096) ![0, o] ![512, 512] inb').emb x) := fun r s o hr ho inb inb' x => by
      have hx : (x 1).val < 512 := (x 1).isLt
      rw [Norm.emb_cols inb' x ⟨o + (x 1).val, by omega⟩ rfl]
      refine (wide_at u W1 inb r hr x).trans ?_
      refine congrArg₂ (Mid.wide (fun k => u (ix2 (x 0) k)) W1) (Fin.ext ?_) (Fin.ext ?_)
      · show r.val = (o + (x 1).val) / 512; omega
      · show (x 1).val = (o + (x 1).val) % 512; omega
    simp only [List.forall_mem_cons]
    exact ⟨h 7 7 3584 rfl rfl _ _, h 6 6 3072 rfl rfl _ _, h 5 5 2560 rfl rfl _ _, h 4 4 2048 rfl rfl _ _, h 3 3 1536 rfl rfl _ _, h 2 2 1024 rfl rfl _ _, h 1 1 512 rfl rfl _ _, h 0 0 0 rfl rfl _ _, fun _ h => absurd h List.not_mem_nil⟩
  · have hy : (y 1).val < 4096 := (y 1).isLt
    simp only [List.mem_cons, exists_eq_or_imp, exists_eq_left, Norm.mem_cols, List.not_mem_nil, false_and, exists_const, or_false]
    omega

/-- A load of the whole of an array. -/
theorem ld_all {R C : ℕ} {e : EltTy} (W : (⟨2, ![R, C]⟩ : Shape).Idx → Elt Ideal e) (inb : ∀ a, (![0, 0] : Fin 2 → ℕ) a + (![R, C] : Fin 2 → ℕ) a ≤ (⟨2, ![R, C]⟩ : Shape).size a) :
    View.ld W (Rect.unit (s := ⟨2, ![R, C]⟩) ![0, 0] ![R, C] inb) = W :=
  funext fun i => (Norm.ld_rows W inb i (i 0) (Nat.zero_add _).symm).trans (congrArg W (eq_ix2 i).symm)

/-- Every point's block of the projection. -/
theorem out_proj (c : Dev nD) (t : Fin cfg0.N) : (outsAt0 m c t.val t.isLt).1 = k0_pay4 (F := Ideal) (iblk m c 0 t) (V m c main_arg4) := by
  by_cases h : t.val % 16 = 0
  · rw [outsAt0_A m c t h h]
    frame_out
    simp only [Norm.readCov_whole, ReadAs.apply, View.read_whole, ld_all]

  · rw [outsAt0_B m c t h h]
    frame_out
    simp only [read_unread_whole, held_wo, held_w1, held_w2]

/-- Every point's block of the norms. -/
theorem out_normed (c : Dev nD) (t : Fin cfg0.N) : (outsAt0 m c t.val t.isLt).2.1 = k0_pay9 (F := Ideal) (PREB (iblk m c 0 t) (iblk m c 1 t) (iblk m c 3 t) (V m c main_arg4)) (SUMB (iblk m c 0 t) (iblk m c 1 t) (iblk m c 3 t) (V m c main_arg4)) := by
  by_cases h : t.val % 16 = 0
  · rw [outsAt0_A m c t h h]
    frame_out
    simp only [Norm.readCov_whole, ReadAs.apply, View.read_whole, ld_all]

  · rw [outsAt0_B m c t h h]
    frame_out
    simp only [read_unread_whole, held_wo, held_w1, held_w2]

/-- Every point's block of the reciprocal deviations. -/
theorem out_rstd (c : Dev nD) (t : Fin cfg0.N) : (outsAt0 m c t.val t.isLt).2.2.1 = k0_pay8 (F := Ideal) (PREB (iblk m c 0 t) (iblk m c 1 t) (iblk m c 3 t) (V m c main_arg4)) (SUMB (iblk m c 0 t) (iblk m c 1 t) (iblk m c 3 t) (V m c main_arg4)) := by
  by_cases h : t.val % 16 = 0
  · rw [outsAt0_A m c t h h]
    frame_out
    simp only [Norm.readCov_whole, ReadAs.apply, View.read_whole, ld_all]

  · rw [outsAt0_B m c t h h]
    frame_out
    simp only [read_unread_whole, held_wo, held_w1, held_w2]

/-- Every point's modulated block. -/
theorem out_mod (c : Dev nD) (t : Fin cfg0.N) : (outsAt0 m c t.val t.isLt).2.2.2.1 = MODB (iblk m c 0 t) (iblk m c 1 t) (iblk m c 3 t) (V m c main_arg4) := by
  by_cases h : t.val % 16 = 0
  · rw [outsAt0_A m c t h h]
    frame_out
    simp only [Norm.readCov_whole, ReadAs.apply, View.read_whole, ld_all]

  · rw [outsAt0_B m c t h h]
    frame_out
    simp only [read_unread_whole, held_wo, held_w1, held_w2]

/-- Every point's block of wide rows. -/
theorem out_wide (c : Dev nD) (t : Fin cfg0.N) : (outsAt0 m c t.val t.isLt).2.2.2.2.1 = WIDEB (MODB (iblk m c 0 t) (iblk m c 1 t) (iblk m c 3 t) (V m c main_arg4)) (V m c main_arg5) := by
  by_cases h : t.val % 16 = 0
  · rw [outsAt0_A m c t h h]
    frame_out
    simp only [Norm.readCov_whole, ReadAs.apply, View.read_whole, ld_all]
    exact funext fun y => slabs _ _ y
  · rw [outsAt0_B m c t h h]
    frame_out
    simp only [read_unread_whole, held_wo, held_w1, held_w2]
    exact funext fun y => slabs _ _ y

/-- Every window's block index at every point. -/
theorem idx : ∀ t : Fin cfg0.N, win0_0.index t = ![t.val, 0] ∧ win0_1.index t = ![t.val, 0] ∧ win0_2.index t = ![t.val, 0] ∧ win0_3.index t = ![0, 0] ∧ win0_4.index t = ![t.val, 0]
    ∧ win0_5.index t = ![t.val, 0] ∧ win0_6.index t = ![t.val, 0] ∧ win0_7.index t = ![t.val, 0] ∧ win0_8.index t = ![t.val, 0] ∧ win0_11.index t = ![0, 0] :=
  (by decide +kernel : ∀ t : Fin grid0.N, _)

/-- The projection of the arguments. -/
abbrev PROJ (P : FVec Ideal S8192x1024 .bf16) (WO : FVec Ideal S1024x1024 .bf16) : FVec Ideal S8192x1024 .bf16 := fun i => Mid.proj (fun k => P (ix2 (i 0) k)) WO (i 1)

/-- The first norms of the arguments. -/
abbrev NORMED (P : FVec Ideal S8192x1024 .bf16) (X : FVec Ideal S8192x1024 .f32) (U : FVec Ideal S8x1024 .f32) (WO : FVec Ideal S1024x1024 .bf16) : FVec Ideal S8192x1024 .f32 := fun i => Norm.normed (Mid.pre (fun k => P (ix2 (i 0) k)) (fun k => X (ix2 (i 0) k)) (fun r k => U (ix2 r k)) WO) (i 1)

/-- Their reciprocal deviations. -/
abbrev RSTD (P : FVec Ideal S8192x1024 .bf16) (X : FVec Ideal S8192x1024 .f32) (U : FVec Ideal S8x1024 .f32) (WO : FVec Ideal S1024x1024 .bf16) : FVec Ideal S8192x1 .f32 := fun i => Norm.rstd (Mid.pre (fun k => P (ix2 (i 0) k)) (fun k => X (ix2 (i 0) k)) (fun r k => U (ix2 r k)) WO)

/-- The modulated rows of the arguments. -/
abbrev MODROWS (P : FVec Ideal S8192x1024 .bf16) (X : FVec Ideal S8192x1024 .f32) (U : FVec Ideal S8x1024 .f32) (WO : FVec Ideal S1024x1024 .bf16) : FVec Ideal S8192x1024 .bf16 := fun i => Mid.mod (fun k => P (ix2 (i 0) k)) (fun k => X (ix2 (i 0) k)) (fun r k => U (ix2 r k)) WO (i 1)

/-- The wide rows of the arguments. -/
abbrev WIDE (P : FVec Ideal S8192x1024 .bf16) (X : FVec Ideal S8192x1024 .f32) (U : FVec Ideal S8x1024 .f32) (WO : FVec Ideal S1024x1024 .bf16) (W1 : FVec Ideal S8x1024x512 .bf16) : FVec Ideal S8192x4096 .bf16 := fun i =>
  Mid.wide (Mid.mod (fun k => P (ix2 (i 0) k)) (fun k => X (ix2 (i 0) k)) (fun r k => U (ix2 r k)) WO) W1 ⟨(i 1).val / 512, by have : (i 1).val < 4096 := (i 1).isLt; omega⟩ ⟨(i 1).val % 512, by omega⟩

/-- The gradients of the last norm's weight and bias of the arguments. -/
abbrev SUMS (P : FVec Ideal S8192x1024 .bf16) (X : FVec Ideal S8192x1024 .f32) (U : FVec Ideal S8x1024 .f32) (WO : FVec Ideal S1024x1024 .bf16) (W1 : FVec Ideal S8x1024x512 .bf16) (W2 : FVec Ideal S4096x1024 .bf16) (T : FVec Ideal S8192x1024 .f32) : FVec Ideal S8x1024 .f32 := fun i =>
  if (i 0).val = 0 then ∑ l : Fin 8192, (Mid.diff (fun k => P (ix2 l k)) (fun k => X (ix2 l k)) (fun r k => U (ix2 r k)) WO W1 W2 (fun k => T (ix2 l k)) (i 1) * Ideal.ofBits .f32 0x3A800000#32) * Norm.normed (Mid.last (fun k => P (ix2 l k)) (fun k => X (ix2 l k)) (fun r k => U (ix2 r k)) WO W1 W2) (i 1)
  else ∑ l : Fin 8192, Mid.diff (fun k => P (ix2 l k)) (fun k => X (ix2 l k)) (fun r k => U (ix2 r k)) WO W1 W2 (fun k => T (ix2 l k)) (i 1) * Ideal.ofBits .f32 0x3A800000#32

/-- A point's rows are the arguments'. -/
theorem rows_eq {α : Type} (c : Dev nD) (t : Fin cfg0.N) (x : Fin 512) (l : Fin 8192) (hl : l.val = 512 * t.val + x.val)
    (f : (Fin 1024 → EReal) → (Fin 1024 → EReal) → (Fin 1024 → EReal) → (Fin 8 → Fin 1024 → EReal) → α) :
    f (fun k => (iblk m c 0 t : Vec Ideal S512x1024 .bf16) (ix2 x k)) (fun k => (iblk m c 1 t : Vec Ideal S512x1024 .f32) (ix2 x k)) (fun k => (iblk m c 2 t : Vec Ideal S512x1024 .f32) (ix2 x k)) (fun r k => (iblk m c 3 t : Vec Ideal S8x1024 .f32) (ix2 r k))
      = f (fun k => (m ((c : Thread nD τ).loc main_arg0)) (ix2 l k)) (fun k => (m ((c : Thread nD τ).loc main_arg1)) (ix2 l k)) (fun k => (m ((c : Thread nD τ).loc main_arg2)) (ix2 l k)) (fun r k => (m ((c : Thread nD τ).loc main_arg3)) (ix2 r k)) := by
  refine congr (congr (congrArg₂ f (funext fun k => ?_) (funext fun k => ?_)) (funext fun k => ?_)) (funext fun r => funext fun k => ?_)
  · blk_point [iblk, V, idx t]
  · blk_point [iblk, V, idx t]
  · blk_point [iblk, V, idx t]
  · blk_point [iblk, V, idx t]

/-- The kernel's projection is the arguments'. -/
theorem final_proj (c : Dev nD) : (dats m 0 c).arrAt 4 (cfgs 0).N = PROJ (m ((c : Thread nD τ).loc main_arg0)) (m ((c : Thread nD τ).loc main_arg4)) := by
  refine (dats m 0 c).arrAt_eq_of_covers 4 _ (by decide +kernel) fun t hf y => ?_
  blk_simp
  rw [after0_4, out_proj m c t]
  have hy : (y 0).val < 512 := (y 0).isLt
  have hl : 512 * t.val + (y 0).val < 8192 := by have : t.val < 16 := t.isLt; omega
  refine Eq.trans (b := (PROJ (m ((c : Thread nD τ).loc main_arg0)) (m ((c : Thread nD τ).loc main_arg4))) (ix2 ⟨512 * t.val + (y 0).val, hl⟩ (y 1))) ?_ (congrArg (PROJ (m ((c : Thread nD τ).loc main_arg0)) (m ((c : Thread nD τ).loc main_arg4))) (funext fun a => Fin.ext ?_))
  · exact (proj_at _ _ y).trans (rows_eq m c t (y 0) ⟨512 * t.val + (y 0).val, hl⟩ rfl fun p x _ v => Mid.proj p (m ((c : Thread nD τ).loc main_arg4)) (y 1))
  · blk_simp
    rw [(idx t).2.2.2.2.1]
    match a with
    | 0 => show 512 * t.val + (y 0).val = t.val * 512 + (y 0).val; omega
    | 1 => exact (Nat.zero_add _).symm

/-- The kernel's first norms are the arguments'. -/
theorem final_normed (c : Dev nD) : (dats m 0 c).arrAt 5 (cfgs 0).N = NORMED (m ((c : Thread nD τ).loc main_arg0)) (m ((c : Thread nD τ).loc main_arg1)) (m ((c : Thread nD τ).loc main_arg3)) (m ((c : Thread nD τ).loc main_arg4)) := by
  refine (dats m 0 c).arrAt_eq_of_covers 5 _ (by decide +kernel) fun t hf y => ?_
  blk_simp
  rw [after0_5, out_normed m c t]
  have hy : (y 0).val < 512 := (y 0).isLt
  have hl : 512 * t.val + (y 0).val < 8192 := by have : t.val < 16 := t.isLt; omega
  refine Eq.trans (b := (NORMED (m ((c : Thread nD τ).loc main_arg0)) (m ((c : Thread nD τ).loc main_arg1)) (m ((c : Thread nD τ).loc main_arg3)) (m ((c : Thread nD τ).loc main_arg4))) (ix2 ⟨512 * t.val + (y 0).val, hl⟩ (y 1))) ?_ (congrArg (NORMED (m ((c : Thread nD τ).loc main_arg0)) (m ((c : Thread nD τ).loc main_arg1)) (m ((c : Thread nD τ).loc main_arg3)) (m ((c : Thread nD τ).loc main_arg4))) (funext fun a => Fin.ext ?_))
  · exact (normed_at _ _ _ _ y).trans (rows_eq m c t (y 0) ⟨512 * t.val + (y 0).val, hl⟩ rfl fun p x _ v => Norm.normed (Mid.pre p x v (m ((c : Thread nD τ).loc main_arg4))) (y 1))
  · blk_simp
    rw [(idx t).2.2.2.2.2.1]
    match a with
    | 0 => show 512 * t.val + (y 0).val = t.val * 512 + (y 0).val; omega
    | 1 => exact (Nat.zero_add _).symm

/-- The kernel's reciprocal deviations are the arguments'. -/
theorem final_rstd (c : Dev nD) : (dats m 0 c).arrAt 6 (cfgs 0).N = RSTD (m ((c : Thread nD τ).loc main_arg0)) (m ((c : Thread nD τ).loc main_arg1)) (m ((c : Thread nD τ).loc main_arg3)) (m ((c : Thread nD τ).loc main_arg4)) := by
  refine (dats m 0 c).arrAt_eq_of_covers 6 _ (by decide +kernel) fun t hf y => ?_
  blk_simp
  rw [after0_6, out_rstd m c t]
  have hy : (y 0).val < 512 := (y 0).isLt
  have hl : 512 * t.val + (y 0).val < 8192 := by have : t.val < 16 := t.isLt; omega
  refine Eq.trans (b := (RSTD (m ((c : Thread nD τ).loc main_arg0)) (m ((c : Thread nD τ).loc main_arg1)) (m ((c : Thread nD τ).loc main_arg3)) (m ((c : Thread nD τ).loc main_arg4))) (ix2 ⟨512 * t.val + (y 0).val, hl⟩ (y 1))) ?_ (congrArg (RSTD (m ((c : Thread nD τ).loc main_arg0)) (m ((c : Thread nD τ).loc main_arg1)) (m ((c : Thread nD τ).loc main_arg3)) (m ((c : Thread nD τ).loc main_arg4))) (funext fun a => Fin.ext ?_))
  · exact (rstd_at _ _ _ _ y).trans (rows_eq m c t (y 0) ⟨512 * t.val + (y 0).val, hl⟩ rfl fun p x _ v => Norm.rstd (Mid.pre p x v (m ((c : Thread nD τ).loc main_arg4))))
  · blk_simp
    rw [(idx t).2.2.2.2.2.2.1]
    match a with
    | 0 => show 512 * t.val + (y 0).val = t.val * 512 + (y 0).val; omega
    | 1 => exact (Nat.zero_add _).symm

/-- The kernel's modulated rows are the arguments'. -/
theorem final_mod (c : Dev nD) : (dats m 0 c).arrAt 7 (cfgs 0).N = MODROWS (m ((c : Thread nD τ).loc main_arg0)) (m ((c : Thread nD τ).loc main_arg1)) (m ((c : Thread nD τ).loc main_arg3)) (m ((c : Thread nD τ).loc main_arg4)) := by
  refine (dats m 0 c).arrAt_eq_of_covers 7 _ (by decide +kernel) fun t hf y => ?_
  blk_simp
  rw [after0_7, out_mod m c t]
  have hy : (y 0).val < 512 := (y 0).isLt
  have hl : 512 * t.val + (y 0).val < 8192 := by have : t.val < 16 := t.isLt; omega
  refine Eq.trans (b := (MODROWS (m ((c : Thread nD τ).loc main_arg0)) (m ((c : Thread nD τ).loc main_arg1)) (m ((c : Thread nD τ).loc main_arg3)) (m ((c : Thread nD τ).loc main_arg4))) (ix2 ⟨512 * t.val + (y 0).val, hl⟩ (y 1))) ?_ (congrArg (MODROWS (m ((c : Thread nD τ).loc main_arg0)) (m ((c : Thread nD τ).loc main_arg1)) (m ((c : Thread nD τ).loc main_arg3)) (m ((c : Thread nD τ).loc main_arg4))) (funext fun a => Fin.ext ?_))
  · exact (mod_at _ _ _ _ y).trans (rows_eq m c t (y 0) ⟨512 * t.val + (y 0).val, hl⟩ rfl fun p x _ v => Mid.mod p x v (m ((c : Thread nD τ).loc main_arg4)) (y 1))
  · blk_simp
    rw [(idx t).2.2.2.2.2.2.2.1]
    match a with
    | 0 => show 512 * t.val + (y 0).val = t.val * 512 + (y 0).val; omega
    | 1 => exact (Nat.zero_add _).symm

/-- The kernel's wide rows are the arguments'. -/
theorem final_wide (c : Dev nD) : (dats m 0 c).arrAt 8 (cfgs 0).N = WIDE (m ((c : Thread nD τ).loc main_arg0)) (m ((c : Thread nD τ).loc main_arg1)) (m ((c : Thread nD τ).loc main_arg3)) (m ((c : Thread nD τ).loc main_arg4)) (m ((c : Thread nD τ).loc main_arg5)) := by
  refine (dats m 0 c).arrAt_eq_of_covers 8 _ (by decide +kernel) fun t hf y => ?_
  blk_simp
  rw [after0_8, out_wide m c t]
  have hy : (y 0).val < 512 := (y 0).isLt
  have hl : 512 * t.val + (y 0).val < 8192 := by have : t.val < 16 := t.isLt; omega
  refine Eq.trans (b := (WIDE (m ((c : Thread nD τ).loc main_arg0)) (m ((c : Thread nD τ).loc main_arg1)) (m ((c : Thread nD τ).loc main_arg3)) (m ((c : Thread nD τ).loc main_arg4)) (m ((c : Thread nD τ).loc main_arg5))) (ix2 ⟨512 * t.val + (y 0).val, hl⟩ (y 1))) ?_ (congrArg (WIDE (m ((c : Thread nD τ).loc main_arg0)) (m ((c : Thread nD τ).loc main_arg1)) (m ((c : Thread nD τ).loc main_arg3)) (m ((c : Thread nD τ).loc main_arg4)) (m ((c : Thread nD τ).loc main_arg5))) (funext fun a => Fin.ext ?_))
  · exact (congrArg (fun f => Mid.wide f (m ((c : Thread nD τ).loc main_arg5)) ⟨(y 1).val / 512, by have : (y 1).val < 4096 := (y 1).isLt; omega⟩ ⟨(y 1).val % 512, by omega⟩) (mod_row _ _ _ _ (y 0))).trans
      (rows_eq m c t (y 0) ⟨512 * t.val + (y 0).val, hl⟩ rfl fun p x _ v => Mid.wide (Mid.mod p x v (m ((c : Thread nD τ).loc main_arg4))) (m ((c : Thread nD τ).loc main_arg5)) _ _)
  · blk_simp
    rw [(idx t).2.2.2.2.2.2.2.2.1]
    match a with
    | 0 => show 512 * t.val + (y 0).val = t.val * 512 + (y 0).val; omega
    | 1 => exact (Nat.zero_add _).symm

/-- A point's last norms. -/
abbrev norms (c : Dev nD) (t : Fin cfg0.N) : Vec Ideal S512x1024 .f32 := NORMB (iblk m c 0 t) (iblk m c 1 t) (iblk m c 3 t) (V m c main_arg4) (V m c main_arg5) (V m c main_arg6)

/-- A point's gradients of the output. -/
abbrev grads (c : Dev nD) (t : Fin cfg0.N) : Vec Ideal S512x1024 .f32 := GRADB (iblk m c 0 t) (iblk m c 1 t) (iblk m c 3 t) (V m c main_arg4) (V m c main_arg5) (V m c main_arg6) (iblk m c 2 t)

/-- What a point leaves of the weight's gradient. -/
theorem weight_step (c : Dev nD) (t : Fin cfg0.N) (j : Fin 1024) :
    (outsAt0 m c t.val t.isLt).2.2.2.2.2.2.2.1 (ix2 0 j) = (if t.val % 16 = 0 then (0 : EReal) else (outsAt0 m c (t.val - 1) (Nat.lt_of_le_of_lt (Nat.sub_le _ _) t.isLt)).2.2.2.2.2.2.2.1 (ix2 0 j))
      + ∑ x : Fin 512, grads m c t (ix2 x j) * norms m c t (ix2 x j) := by
  by_cases h : t.val % 16 = 0
  · rw [if_pos h, outsAt0_A m c t h h]
    frame_out
    simp only [Norm.readCov_whole, ReadAs.apply, View.read_whole, ld_all]
    refine (Norm.canon_cons_rows_of_not _ _ _ _ (by simp)).trans ((Norm.canon_cons_rows_of_not _ _ _ _ (by simp)).trans ((Norm.canon_cons_rows_of_not _ _ _ _ (by simp)).trans ((Norm.canon_cons_rows _ _ _ _ (0 : Fin 1) (by simp)).trans ((weight_at _ _ _ _).trans ?_))))
    rw [Norm.readCov_rows _ _ _ _ (0 : Fin 8) (by simp)]
    refine congrArg₂ (fun a b : EReal => a + b) ?_ rfl
    exact (Norm.canon_cons_rows _ _ _ _ (0 : Fin 8) (by simp)).trans (zero_at _)
  · rw [if_neg h, outsAt0_B m c t h h]
    frame_out
    simp only [read_unread_whole, held_wo, held_w1, held_w2]
    refine (Norm.read_writes_rows_of_not _ _ _ _ _ _ (by simp)).trans ((Norm.read_writes_rows_of_not _ _ _ _ _ _ (by simp)).trans ((Norm.read_writes_rows_of_not _ _ _ _ _ _ (by simp)).trans ((Norm.read_writes_rows _ _ _ _ _ _ (0 : Fin 1) (by simp)).trans ((weight_at _ _ _ _).trans ?_))))
    rw [Norm.ld_rows _ _ _ (0 : Fin 8) (by simp)]
    rfl

/-- What a point leaves of the bias's gradient. -/
theorem bias_step (c : Dev nD) (t : Fin cfg0.N) (j : Fin 1024) :
    (outsAt0 m c t.val t.isLt).2.2.2.2.2.2.2.1 (ix2 1 j) = (if t.val % 16 = 0 then (0 : EReal) else (outsAt0 m c (t.val - 1) (Nat.lt_of_le_of_lt (Nat.sub_le _ _) t.isLt)).2.2.2.2.2.2.2.1 (ix2 1 j))
      + ∑ x : Fin 512, grads m c t (ix2 x j) := by
  by_cases h : t.val % 16 = 0
  · rw [if_pos h, outsAt0_A m c t h h]
    frame_out
    simp only [Norm.readCov_whole, ReadAs.apply, View.read_whole, ld_all]
    refine (Norm.canon_cons_rows_of_not _ _ _ _ (by simp)).trans ((Norm.canon_cons_rows_of_not _ _ _ _ (by simp)).trans ((Norm.canon_cons_rows _ _ _ _ (0 : Fin 1) (by simp)).trans ((bias_at _ _ _).trans ?_)))
    rw [Norm.readCov_rows _ _ _ _ (1 : Fin 8) (by simp)]
    refine congrArg₂ (fun a b : EReal => a + b) ?_ rfl
    exact (Norm.canon_cons_rows_of_not _ _ _ _ (by simp)).trans ((Norm.canon_cons_rows _ _ _ _ (1 : Fin 8) (by simp)).trans (zero_at _))
  · rw [if_neg h, outsAt0_B m c t h h]
    frame_out
    simp only [read_unread_whole, held_wo, held_w1, held_w2]
    refine (Norm.read_writes_rows_of_not _ _ _ _ _ _ (by simp)).trans ((Norm.read_writes_rows_of_not _ _ _ _ _ _ (by simp)).trans ((Norm.read_writes_rows _ _ _ _ _ _ (0 : Fin 1) (by simp)).trans ((bias_at _ _ _).trans ?_)))
    rw [Norm.ld_rows _ _ _ (1 : Fin 8) (by simp)]
    rfl

/-- A point's gradients are the arguments'. -/
theorem grads_at (c : Dev nD) (t : Fin cfg0.N) (x : Fin 512) (j : Fin 1024) (l : Fin 8192) (hl : l.val = 512 * t.val + x.val) :
    grads m c t (ix2 x j) = Mid.diff (fun k => (m ((c : Thread nD τ).loc main_arg0)) (ix2 l k)) (fun k => (m ((c : Thread nD τ).loc main_arg1)) (ix2 l k)) (fun r k => (m ((c : Thread nD τ).loc main_arg3)) (ix2 r k)) (m ((c : Thread nD τ).loc main_arg4)) (m ((c : Thread nD τ).loc main_arg5)) (m ((c : Thread nD τ).loc main_arg6)) (fun k => (m ((c : Thread nD τ).loc main_arg2)) (ix2 l k)) j * Ideal.ofBits .f32 0x3A800000#32 :=
  (grad_at _ _ _ _ _ _ _ (ix2 x j)).trans (rows_eq m c t x l hl fun p x T v => Mid.diff p x v (m ((c : Thread nD τ).loc main_arg4)) (m ((c : Thread nD τ).loc main_arg5)) (m ((c : Thread nD τ).loc main_arg6)) T j * Ideal.ofBits .f32 0x3A800000#32)

/-- A point's last norms are the arguments'. -/
theorem norms_at (c : Dev nD) (t : Fin cfg0.N) (x : Fin 512) (j : Fin 1024) (l : Fin 8192) (hl : l.val = 512 * t.val + x.val) :
    norms m c t (ix2 x j) = Norm.normed (Mid.last (fun k => (m ((c : Thread nD τ).loc main_arg0)) (ix2 l k)) (fun k => (m ((c : Thread nD τ).loc main_arg1)) (ix2 l k)) (fun r k => (m ((c : Thread nD τ).loc main_arg3)) (ix2 r k)) (m ((c : Thread nD τ).loc main_arg4)) (m ((c : Thread nD τ).loc main_arg5)) (m ((c : Thread nD τ).loc main_arg6))) j :=
  (last_at _ _ _ _ _ _ (ix2 x j)).trans (rows_eq m c t x l hl fun p x _ v => Norm.normed (Mid.last p x v (m ((c : Thread nD τ).loc main_arg4)) (m ((c : Thread nD τ).loc main_arg5)) (m ((c : Thread nD τ).loc main_arg6))) j)

/-- The last point leaves the weight's gradient. -/
theorem weight_last (c : Dev nD) (t : Fin cfg0.N) (h : t.val % 16 = 15) (j : Fin 1024) : (outsAt0 m c t.val t.isLt).2.2.2.2.2.2.2.1 (ix2 0 j) = SUMS (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg2)) (ix2 0 j) := by
  refine (Pipeline.eq_sum_fin_of_reset_step_apply_of_flush (M := EReal) (fun n h (j : Fin 1024) => (outsAt0 m c n h).2.2.2.2.2.2.2.1 (ix2 0 j)) 16 (fun _ => 0)
    (fun t j => ∑ x : Fin 512, grads m c t (ix2 x j) * norms m c t (ix2 x j))
    (fun t h j => (weight_step m c t j).trans (by rw [if_pos h])) (fun t h j => (weight_step m c t j).trans (by rw [if_neg h])) t h j).trans ?_
  rw [zero_add]
  refine Eq.trans ?_ (if_pos rfl).symm
  refine Fin.sum_mul_add_congr fun s k hl => ?_
  have hn : s.val * 512 + k.val = 512 * (16 * (t.val / 16) + s.val) + k.val := by have : t.val < 16 := t.isLt; omega
  exact congrArg₂ (fun a b : EReal => a * b) (grads_at m c _ _ _ _ hn) (norms_at m c _ _ _ _ hn)

/-- The last point leaves the bias's gradient. -/
theorem bias_last (c : Dev nD) (t : Fin cfg0.N) (h : t.val % 16 = 15) (j : Fin 1024) : (outsAt0 m c t.val t.isLt).2.2.2.2.2.2.2.1 (ix2 1 j) = SUMS (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg2)) (ix2 1 j) := by
  refine (Pipeline.eq_sum_fin_of_reset_step_apply_of_flush (M := EReal) (fun n h (j : Fin 1024) => (outsAt0 m c n h).2.2.2.2.2.2.2.1 (ix2 1 j)) 16 (fun _ => 0)
    (fun t j => ∑ x : Fin 512, grads m c t (ix2 x j))
    (fun t h j => (bias_step m c t j).trans (by rw [if_pos h])) (fun t h j => (bias_step m c t j).trans (by rw [if_neg h])) t h j).trans ?_
  rw [zero_add]
  refine Eq.trans ?_ (if_neg Nat.one_ne_zero).symm
  refine Fin.sum_mul_add_congr fun s k hl => ?_
  have hn : s.val * 512 + k.val = 512 * (16 * (t.val / 16) + s.val) + k.val := by have : t.val < 16 := t.isLt; omega
  exact grads_at m c _ _ _ _ hn

/-- The first two rows of the accumulator are the arguments' gradients. -/
theorem final_sums (c : Dev nD) (i : S8x1024.Idx) (hi : (i 0).val < 2) : (dats m 0 c).arrAt 11 (cfgs 0).N i = SUMS (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg2)) i := by
  have h : (dats m 0 c).arrAt 11 (cfgs 0).N = (outsAt0 m c 15 (by decide)).2.2.2.2.2.2.2.1 := by
    refine (dats m 0 c).arrAt_eq_of_covers 11 _ (by decide +kernel) fun t hf y => ?_
    have h15 : t.val % 16 = 15 := (flush0_11 t).mp hf
    blk_simp
    rw [after0_11]
    have ht : t = ⟨15, by decide⟩ := Fin.ext (by have : t.val < 16 := t.isLt; change t.val = 15; omega)
    refine Eq.trans (b := (outsAt0 m c t.val t.isLt).2.2.2.2.2.2.2.1 ((win0_11.blk t).view.emb y)) (congrArg _ (funext fun a => Fin.ext ?_)) (by subst ht; rfl)
    blk_simp
    rw [(idx t).2.2.2.2.2.2.2.2.2]
    match a with
    | 0 => simp
    | 1 => simp
  rw [h, eq_ix2 i]
  obtain h0 | h0 : i 0 = (0 : Fin 8) ∨ i 0 = (1 : Fin 8) := by
    rcases (by omega : (i 0).val = 0 ∨ (i 0).val = 1) with h | h
    · exact .inl (Fin.ext h)
    · exact .inr (Fin.ext h)
  · rw [h0]
    exact weight_last m c ⟨15, by decide⟩ rfl (i 1)
  · rw [h0]
    exact bias_last m c ⟨15, by decide⟩ rfl (i 1)

end Cert.Kernel9Ideal.Hand
end
-- ==== Proof.Layers.lean ====
/- The claims of the layer's other calls. -/
module

public import proofs.«01_k».proof.Defs
public import proofs.«01_k».proof.Proof.InFwd
public import proofs.«01_k».proof.Proof.InRows
public import proofs.«01_k».proof.Proof.FfnBwd
public import proofs.«01_k».proof.Proof.MidRef
public import proofs.«01_k».proof.Proof.MidFwd
public import Idealize.ShloMosaic.Adequacy
public import Idealize.ShloMosaic.Init

@[expose] public section

set_option maxRecDepth 16384

noncomputable section

namespace Cert.On_modulation7.Gen

/-- The mask's side conditions. -/
instance facts : Cert.On_modulation7.Facts where
  bcast_S_S8192x1024 := by decide
  bcast_S_S8x1024 := by decide

end Cert.On_modulation7.Gen

namespace Cert.On_rows7.Gen

/-- The mask's side conditions. -/
instance facts : Cert.On_rows7.Facts where
  bcast_S_S8192x1024 := by decide
  bcast_S_S8x1024 := by decide

end Cert.On_rows7.Gen

namespace Cert.On_modulation6.Gen

/-- The mask's side conditions. -/
instance facts : Cert.On_modulation6.Facts where
  bcast_S_S8192x4096 := by decide
  bcast_S_S8x1024 := by decide

end Cert.On_modulation6.Gen

namespace Cert.On_forward9.Gen

/-- The mask's side conditions. -/
instance facts : Cert.On_forward9.Facts where
  bcast_S_S8192x1024 := by decide
  bcast_S_S8192x1 := by decide
  bcast_S_S8192x4096 := by decide
  bcast_S_S8x1024 := by decide

end Cert.On_forward9.Gen

namespace Cert.Layers

open Idealize.ShloMosaic Idealize.SL.Sem

/-- The input projection: the kernel and the reference end with the same two arrays. -/
theorem inFwd : Cert.algebraic_Kernel8Ideal_Reference8Ideal := by
  pair_intro
  · run_from Cert.Kernel8Ideal.Value.run_blocks m g
  · run_from Cert.Reference8Ideal.Value.run m' g'
    · exact (Cert.Kernel8Ideal.Hand.final_product m c).symm
    · exact (Cert.Kernel8Ideal.Hand.final_rows m c).symm

/-- The reference of the input projection runs, leaves its arguments and ends with every counter at zero. -/
theorem ref8 : Cert.quiescent_Reference8Ideal := fun m g _ =>
  (θ_run Cert.Reference8Ideal.defs _ _).mono (fun r h => ⟨fun c => (h c).2.2, sem_eq_zero_of_no_sems (by decide) r.2⟩)
    (Cert.Reference8Ideal.Value.run m g)

/-- A row of index below two. -/
theorem row_lt (r : Fin 8) : IntOp.cmpi .slt (BitVec.ofNat 32 r) 2#32 = 1#1 → (r : ℕ) < 2 := by
  revert r
  decide +kernel

/-- The backward input projection: the kernel and the reference end with the same gradients of the scale and the shift. -/
theorem inBwd : Cert.algebraic_Kernel7Ideal_Reference7Ideal_on_modulation7 := by
  intro m g m' g' hpre hag
  refine ⟨fun c => Cert.Kernel7Ideal.Hand.GX m c,
    fun c => Cert.Kernel7Ideal.Hand.REF (m (c.tc.loc Cert.Kernel7Ideal.main_arg0)) (m (c.tc.loc Cert.Kernel7Ideal.main_arg1)) (m (c.tc.loc Cert.Kernel7Ideal.main_arg4)), ?_, ?_⟩
  · exact (θ_run Cert.Kernel7Ideal.defs _ _).mono (fun _ h c => ⟨fun i hi => absurd (show (0#1 : BitVec 1) = 1#1 from hi) (by decide), fun i hi =>
      (congrFun (h c).2.1 i).trans (Cert.Kernel7Ideal.Hand.final m c i (row_lt (i 0) hi)), (h c).2.2⟩) (Cert.Kernel7Ideal.Value.run_blocks m g)
  · refine (θ_run Cert.Reference7Ideal.defs _ _).mono (fun _ h c => ⟨fun i hi => absurd (show (0#1 : BitVec 1) = 1#1 from hi) (by decide),
      fun i _ => congrFun ((h c).2.1.trans ?_) i, (h c).2.2⟩) (Cert.Reference7Ideal.Value.run m' g')
    beta_reduce
    rw [← (hag c).1, ← (hag c).2.1, ← (hag c).2.2.2.2.1]

/-- The backward input projection on finite arguments: the kernel and the reference end with the same gradient of the rows. -/
theorem inBwdRows : Cert.algebraic_Kernel7Ideal_Reference7Ideal_on_rows7_pre_finite7 := by
  intro m g m' g' hpre hag
  refine ⟨fun c => Cert.Kernel7Ideal.Hand.GX m c,
    fun c => Cert.Kernel7Ideal.Hand.REF (m (c.tc.loc Cert.Kernel7Ideal.main_arg0)) (m (c.tc.loc Cert.Kernel7Ideal.main_arg1)) (m (c.tc.loc Cert.Kernel7Ideal.main_arg4)), ?_, ?_⟩
  · exact (θ_run Cert.Kernel7Ideal.defs _ _).mono (fun _ h c => ⟨fun i _ =>
      congrFun ((h c).1.trans (Cert.Kernel7Ideal.Hand.final_rows m c (Cert.Kernel7Ideal.Hand.finite_of (hpre c)))) i,
      fun i hi => absurd (show (0#1 : BitVec 1) = 1#1 from hi) (by decide), (h c).2.2⟩) (Cert.Kernel7Ideal.Value.run_blocks m g)
  · refine (θ_run Cert.Reference7Ideal.defs _ _).mono (fun _ h c => ⟨fun i _ => congrFun ((h c).1.trans ?_) i,
      fun i hi => absurd (show (0#1 : BitVec 1) = 1#1 from hi) (by decide), (h c).2.2⟩) (Cert.Reference7Ideal.Value.run m' g')
    beta_reduce
    unfold Cert.Reference7Ideal.Value.res_main_v65
    simp only [Cert.Kernel7Ideal.Hand.GX]
    rw [← (hag c).1, ← (hag c).2.1, ← (hag c).2.2.1, ← (hag c).2.2.2.1, ← (hag c).2.2.2.2.1]

/-- The reference of the backward input projection runs, leaves its arguments and ends with every counter at zero. -/
theorem ref7 : Cert.quiescent_Reference7Ideal := fun m g _ =>
  (θ_run Cert.Reference7Ideal.defs _ _).mono (fun r h => ⟨fun c => (h c).2.2, sem_eq_zero_of_no_sems (by decide) r.2⟩)
    (Cert.Reference7Ideal.Value.run m g)

/-- The backward feed-forward block: the kernel and the reference end with the same gradient before the squared relu and the same gradients of the scale
    and the shift. -/
theorem ffnBwd : Cert.algebraic_Kernel6Ideal_Reference6Ideal_on_modulation6 := by
  intro m g m' g' hpre hag
  refine ⟨fun c => Cert.Kernel6Ideal.Hand.REFA (m (c.tc.loc Cert.Kernel6Ideal.main_arg0)) (m (c.tc.loc Cert.Kernel6Ideal.main_arg1)) (m (c.tc.loc Cert.Kernel6Ideal.main_arg9)),
    fun c => Cert.Kernel6Ideal.Hand.MODS m c, ?_, ?_⟩
  · exact (θ_run Cert.Kernel6Ideal.defs _ _).mono (fun _ h c => ⟨fun i _ => congrFun ((h c).1.trans (Cert.Kernel6Ideal.Hand.final_slopes m c)) i,
      fun i hi => (congrFun (h c).2.2.2.2.1 i).trans (Cert.Kernel6Ideal.Hand.final_mods m c i (row_lt (i 0) hi)), (h c).2.2.2.2.2⟩) (Cert.Kernel6Ideal.Value.run_blocks m g)
  · refine (θ_run Cert.Reference6Ideal.defs _ _).mono (fun _ h c => ⟨fun i _ => congrFun ((h c).1.trans ?_) i, fun i _ => congrFun ((h c).2.1.trans ?_) i, (h c).2.2⟩)
      (Cert.Reference6Ideal.Value.run m' g')
    · rw [(hag c).1, (hag c).2.1, (hag c).2.2.2.2.2.2.2.2.2]
    · unfold Cert.Reference6Ideal.Value.res_main_v57
      simp only [Cert.Kernel6Ideal.Hand.MODS]
      rw [(hag c).1, (hag c).2.1, (hag c).2.2.2.1, (hag c).2.2.2.2.2.2.1, (hag c).2.2.2.2.2.2.2.2.1, (hag c).2.2.2.2.2.2.2.2.2]

/-- The reference of the backward feed-forward block runs, leaves its arguments and ends with every counter at zero. -/
theorem ref6 : Cert.quiescent_Reference6Ideal := fun m g _ =>
  (θ_run Cert.Reference6Ideal.defs _ _).mono (fun r h => ⟨fun c => (h c).2.2, sem_eq_zero_of_no_sems (by decide) r.2⟩)
    (Cert.Reference6Ideal.Value.run m g)

/-- The forward pass of the layer's middle: the kernel and the reference end with the same projection, normed rows, reciprocal deviations, scaled rows, wide
    rows, and gradients of the last norm's weight and bias. -/
theorem midFwd : Cert.algebraic_Kernel9Ideal_Reference9Ideal_on_forward9 := by
  intro m g m' g' hpre hag
  refine ⟨fun c => Cert.Kernel9Ideal.Hand.PROJ (m (c.tc.loc Cert.Kernel9Ideal.main_arg0)) (m (c.tc.loc Cert.Kernel9Ideal.main_arg4)),
    fun c => Cert.Kernel9Ideal.Hand.NORMED (m (c.tc.loc Cert.Kernel9Ideal.main_arg0)) (m (c.tc.loc Cert.Kernel9Ideal.main_arg1)) (m (c.tc.loc Cert.Kernel9Ideal.main_arg3)) (m (c.tc.loc Cert.Kernel9Ideal.main_arg4)),
    fun c => Cert.Kernel9Ideal.Hand.RSTD (m (c.tc.loc Cert.Kernel9Ideal.main_arg0)) (m (c.tc.loc Cert.Kernel9Ideal.main_arg1)) (m (c.tc.loc Cert.Kernel9Ideal.main_arg3)) (m (c.tc.loc Cert.Kernel9Ideal.main_arg4)),
    fun c => Cert.Kernel9Ideal.Hand.MODROWS (m (c.tc.loc Cert.Kernel9Ideal.main_arg0)) (m (c.tc.loc Cert.Kernel9Ideal.main_arg1)) (m (c.tc.loc Cert.Kernel9Ideal.main_arg3)) (m (c.tc.loc Cert.Kernel9Ideal.main_arg4)),
    fun c => Cert.Kernel9Ideal.Hand.WIDE (m (c.tc.loc Cert.Kernel9Ideal.main_arg0)) (m (c.tc.loc Cert.Kernel9Ideal.main_arg1)) (m (c.tc.loc Cert.Kernel9Ideal.main_arg3)) (m (c.tc.loc Cert.Kernel9Ideal.main_arg4)) (m (c.tc.loc Cert.Kernel9Ideal.main_arg5)),
    fun c => Cert.Kernel9Ideal.Hand.SUMS (m (c.tc.loc Cert.Kernel9Ideal.main_arg0)) (m (c.tc.loc Cert.Kernel9Ideal.main_arg1)) (m (c.tc.loc Cert.Kernel9Ideal.main_arg3)) (m (c.tc.loc Cert.Kernel9Ideal.main_arg4)) (m (c.tc.loc Cert.Kernel9Ideal.main_arg5)) (m (c.tc.loc Cert.Kernel9Ideal.main_arg6)) (m (c.tc.loc Cert.Kernel9Ideal.main_arg2)), ?_, ?_⟩
  · exact (θ_run Cert.Kernel9Ideal.defs _ _).mono (fun _ h c => ⟨fun i _ => congrFun ((h c).1.trans (Cert.Kernel9Ideal.Hand.final_proj m c)) i,
      fun i _ => congrFun ((h c).2.1.trans (Cert.Kernel9Ideal.Hand.final_normed m c)) i,
      fun i _ => congrFun ((h c).2.2.1.trans (Cert.Kernel9Ideal.Hand.final_rstd m c)) i,
      fun i _ => congrFun ((h c).2.2.2.1.trans (Cert.Kernel9Ideal.Hand.final_mod m c)) i,
      fun i _ => congrFun ((h c).2.2.2.2.1.trans (Cert.Kernel9Ideal.Hand.final_wide m c)) i,
      fun i hi => (congrFun (h c).2.2.2.2.2.2.2.1 i).trans (Cert.Kernel9Ideal.Hand.final_sums m c i (row_lt (i 0) hi)), (h c).2.2.2.2.2.2.2.2⟩) (Cert.Kernel9Ideal.Value.run_blocks m g)
  · refine (θ_run Cert.Reference9Ideal.defs _ _).mono (fun _ h c => ⟨fun i _ => (congrFun (h c).1 i).trans ?_, fun i _ => (congrFun (h c).2.1 i).trans ?_,
      fun i _ => (congrFun (h c).2.2.1 i).trans ?_, fun i _ => (congrFun (h c).2.2.2.1 i).trans ?_, fun i _ => (congrFun (h c).2.2.2.2.1 i).trans ?_,
      fun i hi => (congrFun (h c).2.2.2.2.2.1 i).trans ?_, (h c).2.2.2.2.2.2⟩) (Cert.Reference9Ideal.Value.run m' g')
    · beta_reduce
      rw [← (hag c).1, ← (hag c).2.2.2.2.1]
      exact Cert.Mid.ref_proj (StableHlo.launchContents m' c) i
    · beta_reduce
      rw [← (hag c).1, ← (hag c).2.1, ← (hag c).2.2.2.1, ← (hag c).2.2.2.2.1]
      exact Cert.Mid.ref_normed (StableHlo.launchContents m' c) i
    · beta_reduce
      rw [← (hag c).1, ← (hag c).2.1, ← (hag c).2.2.2.1, ← (hag c).2.2.2.2.1]
      exact Cert.Mid.ref_rstd (StableHlo.launchContents m' c) i
    · beta_reduce
      rw [← (hag c).1, ← (hag c).2.1, ← (hag c).2.2.2.1, ← (hag c).2.2.2.2.1]
      exact Cert.Mid.ref_mod (StableHlo.launchContents m' c) i
    · beta_reduce
      rw [← (hag c).1, ← (hag c).2.1, ← (hag c).2.2.2.1, ← (hag c).2.2.2.2.1, ← (hag c).2.2.2.2.2.1]
      have h : (i 1).val < 4096 := (i 1).isLt
      exact (congrArg (Cert.Reference9Ideal.Value.res_main_v77 (StableHlo.launchContents m' c)) (eq_ix2 i)).trans
        (Cert.Mid.ref_wide (StableHlo.launchContents m' c) (i 0) (i 1) ⟨(i 1).val / 512, by omega⟩ ⟨(i 1).val % 512, by omega⟩ (by show (i 1).val = (i 1).val / 512 * 512 + (i 1).val % 512; omega))
    · beta_reduce
      rw [← (hag c).1, ← (hag c).2.1, ← (hag c).2.2.2.1, ← (hag c).2.2.2.2.1, ← (hag c).2.2.2.2.2.1, ← (hag c).2.2.2.2.2.2, ← (hag c).2.2.1]
      have h : (i 0).val < 2 := row_lt (i 0) hi
      by_cases h0 : (i 0).val = 0
      · have hr : i = ix2 0 (i 1) := (eq_ix2 i).trans (congrArg (fun r => ix2 r (i 1)) (Fin.ext h0))
        exact (congrArg (Cert.Mid.REFA (StableHlo.launchContents m' c)) hr).trans ((Cert.Mid.ref_weight (StableHlo.launchContents m' c) (i 1)).trans (if_pos h0).symm)
      · have hr : i = ix2 1 (i 1) := (eq_ix2 i).trans (congrArg (fun r => ix2 r (i 1)) (Fin.ext (show (i 0).val = 1 by omega)))
        exact (congrArg (Cert.Mid.REFA (StableHlo.launchContents m' c)) hr).trans ((Cert.Mid.ref_bias (StableHlo.launchContents m' c) (i 1)).trans (if_neg h0).symm)

/-- The reference of the layer's middle runs, leaves its arguments and ends with every counter at zero. -/
theorem ref9 : Cert.quiescent_Reference9Ideal := fun m g _ =>
  (θ_run Cert.Reference9Ideal.defs _ _).mono (fun r h => ⟨fun c => (h c).2.2.2.2.2.2, sem_eq_zero_of_no_sems (by decide) r.2⟩)
    (Cert.Reference9Ideal.Value.run m g)

end Cert.Layers

end
-- ==== Proof.lean ====
/- The certificate: the claims of the calls, put together. -/
module

public import proofs.«01_k».proof.Defs
public import proofs.«01_k».proof.Proof.Mixer
public import proofs.«01_k».proof.Proof.Products
public import proofs.«01_k».proof.Proof.Algebraic
public import proofs.«01_k».proof.Proof.Masks
public import proofs.«01_k».proof.Proof.Layers
public import proofs.«01_k».proof.Proof.Gen.Kernel
public import proofs.«01_k».proof.Proof.Gen.KernelIdeal
public import proofs.«01_k».proof.Proof.Gen.ReferenceIdeal.Run
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Value
public import proofs.«01_k».proof.Proof.Gen.Reference9Ideal.Run
public import Idealize.ShloMosaic.Adequacy
public import Idealize.ShloMosaic.Init

@[expose] public section

set_option maxRecDepth 16384

noncomputable section

namespace Cert.Proof

open Idealize.ShloMosaic Idealize.SL.Sem

/-- All the claims, behind the facts the programs state. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Pre_finite.Gen.facts, Cert.Pre_finite7.Gen.facts, Cert.On_retention_columns.Gen.facts, Cert.On_modulation6.Gen.facts, Cert.On_modulation7.Gen.facts, Cert.On_rows7.Gen.facts, Cert.On_forward9.Gen.facts,
    Mixer.kernel,
    Mixer.kernelIdeal,
    fun m g _ => Mixer.kernelIdeal m g trivial,
    Mixer.reference,
    fun m g _ => Mixer.reference m g trivial,
    fun m g _ => Cert.Kernel2.Gen.frame m g,
    fun m g _ => Cert.Kernel2Ideal.Gen.frame m g,
    Products.ref2,
    fun m g _ => Cert.Kernel3.Gen.frame m g,
    fun m g _ => Cert.Kernel3Ideal.Gen.frame m g,
    Products.ref3,
    fun m g _ => Cert.Kernel4.Gen.frame m g,
    fun m g _ => Cert.Kernel4Ideal.Gen.frame m g,
    Products.ref4,
    fun m g _ => Cert.Kernel5.Gen.frame m g,
    fun m g _ => Cert.Kernel5Ideal.Gen.frame m g,
    Products.ref5,
    fun m g _ => Cert.Kernel6.Gen.frame m g,
    fun m g _ => Cert.Kernel6Ideal.Gen.frame m g,
    Layers.ref6,
    fun m g _ => Cert.Kernel7.Gen.frame m g,
    fun m g _ => Cert.Kernel7Ideal.Gen.frame m g,
    fun m g _ => Cert.Kernel7Ideal.Gen.frame m g,
    Layers.ref7,
    fun m g _ => Layers.ref7 m g trivial,
    fun m g _ => Cert.Kernel8.Gen.frame m g,
    fun m g _ => Cert.Kernel8Ideal.Gen.frame m g,
    Layers.ref8,
    fun m g _ => Cert.Kernel9.Gen.frame m g,
    fun m g _ => Cert.Kernel9Ideal.Gen.frame m g,
    Layers.ref9,
    Mixer.preserves,
    Algebraic.retention,
    trivial,
    Products.ff2,
    trivial,
    Products.ff1,
    trivial,
    Products.out,
    trivial,
    Products.inp,
    trivial,
    Layers.ffnBwd,
    trivial,
    Layers.inBwd,
    Layers.inBwdRows,
    trivial,
    Layers.inFwd,
    trivial,
    Layers.midFwd⟩

end Cert.Proof

end
